-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_KernelFf2X (m : (ℓ : Loc Cert.KernelFf2X.nD Cert.KernelFf2X.τ Cert.KernelFf2X.sig) → Buf (Elt Bits) ℓ) : Prop :=
  True

def Pre_KernelFf2XIdeal (m : (ℓ : Loc Cert.KernelFf2XIdeal.nD Cert.KernelFf2XIdeal.τ Cert.KernelFf2XIdeal.sig) → Buf (Elt Ideal) ℓ) : Prop :=
  True

def Pre_ReferenceFf2XIdeal (m : (ℓ : Loc Cert.ReferenceFf2XIdeal.nD Cert.ReferenceFf2XIdeal.τ Cert.ReferenceFf2XIdeal.sig) → Buf (Elt Ideal) ℓ) : Prop :=
  True

def Pre_KernelFf2W (m : (ℓ : Loc Cert.KernelFf2W.nD Cert.KernelFf2W.τ Cert.KernelFf2W.sig) → Buf (Elt Bits) ℓ) : Prop :=
  True

def Pre_KernelFf2WIdeal (m : (ℓ : Loc Cert.KernelFf2WIdeal.nD Cert.KernelFf2WIdeal.τ Cert.KernelFf2WIdeal.sig) → Buf (Elt Ideal) ℓ) : Prop :=
  True

def Pre_ReferenceFf2WIdeal (m : (ℓ : Loc Cert.ReferenceFf2WIdeal.nD Cert.ReferenceFf2WIdeal.τ Cert.ReferenceFf2WIdeal.sig) → Buf (Elt Ideal) ℓ) : Prop :=
  True

def Pre_KernelFf1X (m : (ℓ : Loc Cert.KernelFf1X.nD Cert.KernelFf1X.τ Cert.KernelFf1X.sig) → Buf (Elt Bits) ℓ) : Prop :=
  True

def Pre_KernelFf1XIdeal (m : (ℓ : Loc Cert.KernelFf1XIdeal.nD Cert.KernelFf1XIdeal.τ Cert.KernelFf1XIdeal.sig) → Buf (Elt Ideal) ℓ) : Prop :=
  True

def Pre_ReferenceFf1XIdeal (m : (ℓ : Loc Cert.ReferenceFf1XIdeal.nD Cert.ReferenceFf1XIdeal.τ Cert.ReferenceFf1XIdeal.sig) → Buf (Elt Ideal) ℓ) : Prop :=
  True

def Pre_KernelFf1W (m : (ℓ : Loc Cert.KernelFf1W.nD Cert.KernelFf1W.τ Cert.KernelFf1W.sig) → Buf (Elt Bits) ℓ) : Prop :=
  True

def Pre_KernelFf1WIdeal (m : (ℓ : Loc Cert.KernelFf1WIdeal.nD Cert.KernelFf1WIdeal.τ Cert.KernelFf1WIdeal.sig) → Buf (Elt Ideal) ℓ) : Prop :=
  True

def Pre_ReferenceFf1WIdeal (m : (ℓ : Loc Cert.ReferenceFf1WIdeal.nD Cert.ReferenceFf1WIdeal.τ Cert.ReferenceFf1WIdeal.sig) → Buf (Elt Ideal) ℓ) : Prop :=
  True

def Pre_KernelInW (m : (ℓ : Loc Cert.KernelInW.nD Cert.KernelInW.τ Cert.KernelInW.sig) → Buf (Elt Bits) ℓ) : Prop :=
  True

def Pre_KernelInWIdeal (m : (ℓ : Loc Cert.KernelInWIdeal.nD Cert.KernelInWIdeal.τ Cert.KernelInWIdeal.sig) → Buf (Elt Ideal) ℓ) : Prop :=
  True

def Pre_ReferenceInWIdeal (m : (ℓ : Loc Cert.ReferenceInWIdeal.nD Cert.ReferenceInWIdeal.τ Cert.ReferenceInWIdeal.sig) → Buf (Elt Ideal) ℓ) : Prop :=
  True

def Pre_KernelInX (m : (ℓ : Loc Cert.KernelInX.nD Cert.KernelInX.τ Cert.KernelInX.sig) → Buf (Elt Bits) ℓ) : Prop :=
  True

def Pre_KernelInXIdeal (m : (ℓ : Loc Cert.KernelInXIdeal.nD Cert.KernelInXIdeal.τ Cert.KernelInXIdeal.sig) → Buf (Elt Ideal) ℓ) : Prop :=
  True

def Pre_ReferenceInXIdeal (m : (ℓ : Loc Cert.ReferenceInXIdeal.nD Cert.ReferenceInXIdeal.τ Cert.ReferenceInXIdeal.sig) → Buf (Elt Ideal) ℓ) : Prop :=
  True

def Pre_KernelGateX (m : (ℓ : Loc Cert.KernelGateX.nD Cert.KernelGateX.τ Cert.KernelGateX.sig) → Buf (Elt Bits) ℓ) : Prop :=
  True

def Pre_KernelGateXIdeal (m : (ℓ : Loc Cert.KernelGateXIdeal.nD Cert.KernelGateXIdeal.τ Cert.KernelGateXIdeal.sig) → Buf (Elt Ideal) ℓ) : Prop :=
  True

def Pre_ReferenceGateXIdeal (m : (ℓ : Loc Cert.ReferenceGateXIdeal.nD Cert.ReferenceGateXIdeal.τ Cert.ReferenceGateXIdeal.sig) → Buf (Elt Ideal) ℓ) : Prop :=
  True

def Pre_KernelGateW (m : (ℓ : Loc Cert.KernelGateW.nD Cert.KernelGateW.τ Cert.KernelGateW.sig) → Buf (Elt Bits) ℓ) : Prop :=
  True

def Pre_KernelGateWIdeal (m : (ℓ : Loc Cert.KernelGateWIdeal.nD Cert.KernelGateWIdeal.τ Cert.KernelGateWIdeal.sig) → Buf (Elt Ideal) ℓ) : Prop :=
  True

def Pre_ReferenceGateWIdeal (m : (ℓ : Loc Cert.ReferenceGateWIdeal.nD Cert.ReferenceGateWIdeal.τ Cert.ReferenceGateWIdeal.sig) → Buf (Elt Ideal) ℓ) : Prop :=
  True

def Pre_KernelSsdX (m : (ℓ : Loc Cert.KernelSsdX.nD Cert.KernelSsdX.τ Cert.KernelSsdX.sig) → Buf (Elt Bits) ℓ) : Prop :=
  True

def Pre_KernelSsdXIdeal (m : (ℓ : Loc Cert.KernelSsdXIdeal.nD Cert.KernelSsdXIdeal.τ Cert.KernelSsdXIdeal.sig) → Buf (Elt Ideal) ℓ) : Prop :=
  True

def Pre_ReferenceSsdXIdeal (m : (ℓ : Loc Cert.ReferenceSsdXIdeal.nD Cert.ReferenceSsdXIdeal.τ Cert.ReferenceSsdXIdeal.sig) → Buf (Elt Ideal) ℓ) : Prop :=
  True

def Pre_KernelSsdW (m : (ℓ : Loc Cert.KernelSsdW.nD Cert.KernelSsdW.τ Cert.KernelSsdW.sig) → Buf (Elt Bits) ℓ) : Prop :=
  True

def Pre_KernelSsdWIdeal (m : (ℓ : Loc Cert.KernelSsdWIdeal.nD Cert.KernelSsdWIdeal.τ Cert.KernelSsdWIdeal.sig) → Buf (Elt Ideal) ℓ) : Prop :=
  True

def Pre_ReferenceSsdWIdeal (m : (ℓ : Loc Cert.ReferenceSsdWIdeal.nD Cert.ReferenceSsdWIdeal.τ Cert.ReferenceSsdWIdeal.sig) → Buf (Elt Ideal) ℓ) : Prop :=
  True

def Pre_KernelOutX (m : (ℓ : Loc Cert.KernelOutX.nD Cert.KernelOutX.τ Cert.KernelOutX.sig) → Buf (Elt Bits) ℓ) : Prop :=
  True

def Pre_KernelOutXIdeal (m : (ℓ : Loc Cert.KernelOutXIdeal.nD Cert.KernelOutXIdeal.τ Cert.KernelOutXIdeal.sig) → Buf (Elt Ideal) ℓ) : Prop :=
  True

def Pre_ReferenceOutXIdeal (m : (ℓ : Loc Cert.ReferenceOutXIdeal.nD Cert.ReferenceOutXIdeal.τ Cert.ReferenceOutXIdeal.sig) → Buf (Elt Ideal) ℓ) : Prop :=
  True

def Pre_KernelOutW (m : (ℓ : Loc Cert.KernelOutW.nD Cert.KernelOutW.τ Cert.KernelOutW.sig) → Buf (Elt Bits) ℓ) : Prop :=
  True

def Pre_KernelOutWIdeal (m : (ℓ : Loc Cert.KernelOutWIdeal.nD Cert.KernelOutWIdeal.τ Cert.KernelOutWIdeal.sig) → Buf (Elt Ideal) ℓ) : Prop :=
  True

def Pre_ReferenceOutWIdeal (m : (ℓ : Loc Cert.ReferenceOutWIdeal.nD Cert.ReferenceOutWIdeal.τ Cert.ReferenceOutWIdeal.sig) → Buf (Elt Ideal) ℓ) : Prop :=
  True

def Pre_KernelPleGateX (m : (ℓ : Loc Cert.KernelPleGateX.nD Cert.KernelPleGateX.τ Cert.KernelPleGateX.sig) → Buf (Elt Bits) ℓ) : Prop :=
  True

def Pre_KernelPleGateXIdeal (m : (ℓ : Loc Cert.KernelPleGateXIdeal.nD Cert.KernelPleGateXIdeal.τ Cert.KernelPleGateXIdeal.sig) → Buf (Elt Ideal) ℓ) : Prop :=
  True

def Pre_ReferencePleGateXIdeal (m : (ℓ : Loc Cert.ReferencePleGateXIdeal.nD Cert.ReferencePleGateXIdeal.τ Cert.ReferencePleGateXIdeal.sig) → Buf (Elt Ideal) ℓ) : Prop :=
  True

def Pre_KernelPleW (m : (ℓ : Loc Cert.KernelPleW.nD Cert.KernelPleW.τ Cert.KernelPleW.sig) → Buf (Elt Bits) ℓ) : Prop :=
  True

def Pre_KernelPleWIdeal (m : (ℓ : Loc Cert.KernelPleWIdeal.nD Cert.KernelPleWIdeal.τ Cert.KernelPleWIdeal.sig) → Buf (Elt Ideal) ℓ) : Prop :=
  True

def Pre_ReferencePleWIdeal (m : (ℓ : Loc Cert.ReferencePleWIdeal.nD Cert.ReferencePleWIdeal.τ Cert.ReferencePleWIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelFf1 (m : (ℓ : Loc Cert.KernelFf1.nD Cert.KernelFf1.τ Cert.KernelFf1.sig) → Buf (Elt Bits) ℓ) : Prop :=
  True

def Pre_KernelFf1Ideal (m : (ℓ : Loc Cert.KernelFf1Ideal.nD Cert.KernelFf1Ideal.τ Cert.KernelFf1Ideal.sig) → Buf (Elt Ideal) ℓ) : Prop :=
  True

def Pre_ReferenceFf1Ideal (m : (ℓ : Loc Cert.ReferenceFf1Ideal.nD Cert.ReferenceFf1Ideal.τ Cert.ReferenceFf1Ideal.sig) → Buf (Elt Ideal) ℓ) : Prop :=
  True

def Pre_KernelFf2 (m : (ℓ : Loc Cert.KernelFf2.nD Cert.KernelFf2.τ Cert.KernelFf2.sig) → Buf (Elt Bits) ℓ) : Prop :=
  True

def Pre_KernelFf2Ideal (m : (ℓ : Loc Cert.KernelFf2Ideal.nD Cert.KernelFf2Ideal.τ Cert.KernelFf2Ideal.sig) → Buf (Elt Ideal) ℓ) : Prop :=
  True

def Pre_ReferenceFf2Ideal (m : (ℓ : Loc Cert.ReferenceFf2Ideal.nD Cert.ReferenceFf2Ideal.τ Cert.ReferenceFf2Ideal.sig) → Buf (Elt Ideal) ℓ) : Prop :=
  True

def Pre_KernelSsd (m : (ℓ : Loc Cert.KernelSsd.nD Cert.KernelSsd.τ Cert.KernelSsd.sig) → Buf (Elt Bits) ℓ) : Prop :=
  True

def Pre_KernelSsdIdeal (m : (ℓ : Loc Cert.KernelSsdIdeal.nD Cert.KernelSsdIdeal.τ Cert.KernelSsdIdeal.sig) → Buf (Elt Ideal) ℓ) : Prop :=
  True

def Pre_ReferenceSsdIdeal (m : (ℓ : Loc Cert.ReferenceSsdIdeal.nD Cert.ReferenceSsdIdeal.τ Cert.ReferenceSsdIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelPle (m : (ℓ : Loc Cert.KernelPle.nD Cert.KernelPle.τ Cert.KernelPle.sig) → Buf (Elt Bits) ℓ) : Prop :=
  True

def Pre_KernelPleIdeal (m : (ℓ : Loc Cert.KernelPleIdeal.nD Cert.KernelPleIdeal.τ Cert.KernelPleIdeal.sig) → Buf (Elt Ideal) ℓ) : Prop :=
  True

def Pre_ReferencePleIdeal (m : (ℓ : Loc Cert.ReferencePleIdeal.nD Cert.ReferencePleIdeal.τ Cert.ReferencePleIdeal.sig) → Buf (Elt Ideal) ℓ) : Prop :=
  True

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_ReferenceGatesIdeal (m : (ℓ : Loc Cert.ReferenceGatesIdeal.nD Cert.ReferenceGatesIdeal.τ Cert.ReferenceGatesIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelMidGrad (m : (ℓ : Loc Cert.KernelMidGrad.nD Cert.KernelMidGrad.τ Cert.KernelMidGrad.sig) → Buf (Elt Bits) ℓ) : Prop :=
  True

def Pre_KernelMidGradIdeal (m : (ℓ : Loc Cert.KernelMidGradIdeal.nD Cert.KernelMidGradIdeal.τ Cert.KernelMidGradIdeal.sig) → Buf (Elt Ideal) ℓ) : Prop :=
  True

def Pre_ReferenceMidGradIdeal (m : (ℓ : Loc Cert.ReferenceMidGradIdeal.nD Cert.ReferenceMidGradIdeal.τ Cert.ReferenceMidGradIdeal.sig) → Buf (Elt Ideal) ℓ) : Prop :=
  True

def Pre_KernelFfnGrad (m : (ℓ : Loc Cert.KernelFfnGrad.nD Cert.KernelFfnGrad.τ Cert.KernelFfnGrad.sig) → Buf (Elt Bits) ℓ) : Prop :=
  True

def Pre_KernelFfnGradIdeal (m : (ℓ : Loc Cert.KernelFfnGradIdeal.nD Cert.KernelFfnGradIdeal.τ Cert.KernelFfnGradIdeal.sig) → Buf (Elt Ideal) ℓ) : Prop :=
  True

def Pre_ReferenceFfnGradIdeal (m : (ℓ : Loc Cert.ReferenceFfnGradIdeal.nD Cert.ReferenceFfnGradIdeal.τ Cert.ReferenceFfnGradIdeal.sig) → Buf (Elt Ideal) ℓ) : Prop :=
  True

def Pre_KernelPre (m : (ℓ : Loc Cert.KernelPre.nD Cert.KernelPre.τ Cert.KernelPre.sig) → Buf (Elt Bits) ℓ) : Prop :=
  True

def Pre_KernelPreIdeal (m : (ℓ : Loc Cert.KernelPreIdeal.nD Cert.KernelPreIdeal.τ Cert.KernelPreIdeal.sig) → Buf (Elt Ideal) ℓ) : Prop :=
  True

def Pre_ReferencePreIdeal (m : (ℓ : Loc Cert.ReferencePreIdeal.nD Cert.ReferencePreIdeal.τ Cert.ReferencePreIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelMid (m : (ℓ : Loc Cert.KernelMid.nD Cert.KernelMid.τ Cert.KernelMid.sig) → Buf (Elt Bits) ℓ) : Prop :=
  True

def Pre_KernelMidIdeal (m : (ℓ : Loc Cert.KernelMidIdeal.nD Cert.KernelMidIdeal.τ Cert.KernelMidIdeal.sig) → Buf (Elt Ideal) ℓ) : Prop :=
  True

def Pre_ReferenceMidIdeal (m : (ℓ : Loc Cert.ReferenceMidIdeal.nD Cert.ReferenceMidIdeal.τ Cert.ReferenceMidIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelScanNorm (m : (ℓ : Loc Cert.KernelScanNorm.nD Cert.KernelScanNorm.τ Cert.KernelScanNorm.sig) → Buf (Elt Bits) ℓ) : Prop :=
  True

def Pre_KernelScanNormIdeal (m : (ℓ : Loc Cert.KernelScanNormIdeal.nD Cert.KernelScanNormIdeal.τ Cert.KernelScanNormIdeal.sig) → Buf (Elt Ideal) ℓ) : Prop :=
  True

def Pre_ReferenceScanNormIdeal (m : (ℓ : Loc Cert.ReferenceScanNormIdeal.nD Cert.ReferenceScanNormIdeal.τ Cert.ReferenceScanNormIdeal.sig) → Buf (Elt Ideal) ℓ) : Prop :=
  True

def Pre_KernelConvFwd (m : (ℓ : Loc Cert.KernelConvFwd.nD Cert.KernelConvFwd.τ Cert.KernelConvFwd.sig) → Buf (Elt Bits) ℓ) : Prop :=
  True

def Pre_KernelConvFwdIdeal (m : (ℓ : Loc Cert.KernelConvFwdIdeal.nD Cert.KernelConvFwdIdeal.τ Cert.KernelConvFwdIdeal.sig) → Buf (Elt Ideal) ℓ) : Prop :=
  True

def Pre_ReferenceConvFwdIdeal (m : (ℓ : Loc Cert.ReferenceConvFwdIdeal.nD Cert.ReferenceConvFwdIdeal.τ Cert.ReferenceConvFwdIdeal.sig) → Buf (Elt Ideal) ℓ) : Prop :=
  True

def Pre_KernelAdam (m : (ℓ : Loc Cert.KernelAdam.nD Cert.KernelAdam.τ Cert.KernelAdam.sig) → Buf (Elt Bits) ℓ) : Prop :=
  True

def Pre_KernelAdamIdeal (m : (ℓ : Loc Cert.KernelAdamIdeal.nD Cert.KernelAdamIdeal.τ Cert.KernelAdamIdeal.sig) → Buf (Elt Ideal) ℓ) : Prop :=
  True

def Pre_ReferenceAdamIdeal (m : (ℓ : Loc Cert.ReferenceAdamIdeal.nD Cert.ReferenceAdamIdeal.τ Cert.ReferenceAdamIdeal.sig) → Buf (Elt Ideal) ℓ) : Prop :=
  True

def Pre_KernelAdamSquare (m : (ℓ : Loc Cert.KernelAdamSquare.nD Cert.KernelAdamSquare.τ Cert.KernelAdamSquare.sig) → Buf (Elt Bits) ℓ) : Prop :=
  True

def Pre_KernelAdamSquareIdeal (m : (ℓ : Loc Cert.KernelAdamSquareIdeal.nD Cert.KernelAdamSquareIdeal.τ Cert.KernelAdamSquareIdeal.sig) → Buf (Elt Ideal) ℓ) : Prop :=
  True

def Pre_ReferenceAdamSquareIdeal (m : (ℓ : Loc Cert.ReferenceAdamSquareIdeal.nD Cert.ReferenceAdamSquareIdeal.τ Cert.ReferenceAdamSquareIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamConv (m : (ℓ : Loc Cert.KernelAdamConv.nD Cert.KernelAdamConv.τ Cert.KernelAdamConv.sig) → Buf (Elt Bits) ℓ) : Prop :=
  True

def Pre_KernelAdamConvIdeal (m : (ℓ : Loc Cert.KernelAdamConvIdeal.nD Cert.KernelAdamConvIdeal.τ Cert.KernelAdamConvIdeal.sig) → Buf (Elt Ideal) ℓ) : Prop :=
  True

def Pre_ReferenceAdamConvIdeal (m : (ℓ : Loc Cert.ReferenceAdamConvIdeal.nD Cert.ReferenceAdamConvIdeal.τ Cert.ReferenceAdamConvIdeal.sig) → Buf (Elt Ideal) ℓ) : Prop :=
  True

def Pre_KernelAdamSsd (m : (ℓ : Loc Cert.KernelAdamSsd.nD Cert.KernelAdamSsd.τ Cert.KernelAdamSsd.sig) → Buf (Elt Bits) ℓ) : Prop :=
  True

def Pre_KernelAdamSsdIdeal (m : (ℓ : Loc Cert.KernelAdamSsdIdeal.nD Cert.KernelAdamSsdIdeal.τ Cert.KernelAdamSsdIdeal.sig) → Buf (Elt Ideal) ℓ) : Prop :=
  True

def Pre_ReferenceAdamSsdIdeal (m : (ℓ : Loc Cert.ReferenceAdamSsdIdeal.nD Cert.ReferenceAdamSsdIdeal.τ Cert.ReferenceAdamSsdIdeal.sig) → Buf (Elt Ideal) ℓ) : Prop :=
  True

def Pre_KernelAdamGate (m : (ℓ : Loc Cert.KernelAdamGate.nD Cert.KernelAdamGate.τ Cert.KernelAdamGate.sig) → Buf (Elt Bits) ℓ) : Prop :=
  True

def Pre_KernelAdamGateIdeal (m : (ℓ : Loc Cert.KernelAdamGateIdeal.nD Cert.KernelAdamGateIdeal.τ Cert.KernelAdamGateIdeal.sig) → Buf (Elt Ideal) ℓ) : Prop :=
  True

def Pre_ReferenceAdamGateIdeal (m : (ℓ : Loc Cert.ReferenceAdamGateIdeal.nD Cert.ReferenceAdamGateIdeal.τ Cert.ReferenceAdamGateIdeal.sig) → Buf (Elt Ideal) ℓ) : Prop :=
  True

def Pre_KernelAdamFf2 (m : (ℓ : Loc Cert.KernelAdamFf2.nD Cert.KernelAdamFf2.τ Cert.KernelAdamFf2.sig) → Buf (Elt Bits) ℓ) : Prop :=
  True

def Pre_KernelAdamFf2Ideal (m : (ℓ : Loc Cert.KernelAdamFf2Ideal.nD Cert.KernelAdamFf2Ideal.τ Cert.KernelAdamFf2Ideal.sig) → Buf (Elt Ideal) ℓ) : Prop :=
  True

def Pre_ReferenceAdamFf2Ideal (m : (ℓ : Loc Cert.ReferenceAdamFf2Ideal.nD Cert.ReferenceAdamFf2Ideal.τ Cert.ReferenceAdamFf2Ideal.sig) → Buf (Elt Ideal) ℓ) : Prop :=
  True

def Pre_KernelAdamPle (m : (ℓ : Loc Cert.KernelAdamPle.nD Cert.KernelAdamPle.τ Cert.KernelAdamPle.sig) → Buf (Elt Bits) ℓ) : Prop :=
  True

def Pre_KernelAdamPleIdeal (m : (ℓ : Loc Cert.KernelAdamPleIdeal.nD Cert.KernelAdamPleIdeal.τ Cert.KernelAdamPleIdeal.sig) → Buf (Elt Ideal) ℓ) : Prop :=
  True

def Pre_ReferenceAdamPleIdeal (m : (ℓ : Loc Cert.ReferenceAdamPleIdeal.nD Cert.ReferenceAdamPleIdeal.τ Cert.ReferenceAdamPleIdeal.sig) → Buf (Elt Ideal) ℓ) : Prop :=
  True

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelFf2X [hKernelFf2X : Cert.KernelFf2X.Facts] : Prop :=
  ∀ (m : (ℓ : Loc Cert.KernelFf2X.nD Cert.KernelFf2X.τ Cert.KernelFf2X.sig) → Buf (Elt Bits) ℓ) (g : Dev Cert.KernelFf2X.nD → PrngReg), Pre_KernelFf2X m →
    θ_run (Cert.KernelFf2X.defs (F := Bits)) (onTc (τ := Cert.KernelFf2X.τ) (Cert.KernelFf2X.main (F := Bits))) ⟨m, fun _ => 0, g⟩ (fun r => (∀ c : Dev Cert.KernelFf2X.nD,
      r.2.mem ((c.tc : Thread Cert.KernelFf2X.nD Cert.KernelFf2X.τ).loc Cert.KernelFf2X.main_arg0) = m ((c.tc : Thread Cert.KernelFf2X.nD Cert.KernelFf2X.τ).loc Cert.KernelFf2X.main_arg0)
      ∧ r.2.mem ((c.tc : Thread Cert.KernelFf2X.nD Cert.KernelFf2X.τ).loc Cert.KernelFf2X.main_arg1) = m ((c.tc : Thread Cert.KernelFf2X.nD Cert.KernelFf2X.τ).loc Cert.KernelFf2X.main_arg1)
      ∧ r.2.mem ((c.tc : Thread Cert.KernelFf2X.nD Cert.KernelFf2X.τ).loc Cert.KernelFf2X.main_arg2) = m ((c.tc : Thread Cert.KernelFf2X.nD Cert.KernelFf2X.τ).loc Cert.KernelFf2X.main_arg2))
      ∧ r.2.sem = fun _ => 0)

def quiescent_KernelFf2XIdeal [hKernelFf2XIdeal : Cert.KernelFf2XIdeal.Facts] : Prop :=
  ∀ (m : (ℓ : Loc Cert.KernelFf2XIdeal.nD Cert.KernelFf2XIdeal.τ Cert.KernelFf2XIdeal.sig) → Buf (Elt Ideal) ℓ) (g : Dev Cert.KernelFf2XIdeal.nD → PrngReg), Pre_KernelFf2XIdeal m →
    θ_run (Cert.KernelFf2XIdeal.defs (F := Ideal)) (onTc (τ := Cert.KernelFf2XIdeal.τ) (Cert.KernelFf2XIdeal.main (F := Ideal))) ⟨m, fun _ => 0, g⟩ (fun r => (∀ c : Dev Cert.KernelFf2XIdeal.nD,
      r.2.mem ((c.tc : Thread Cert.KernelFf2XIdeal.nD Cert.KernelFf2XIdeal.τ).loc Cert.KernelFf2XIdeal.main_arg0) = m ((c.tc : Thread Cert.KernelFf2XIdeal.nD Cert.KernelFf2XIdeal.τ).loc Cert.KernelFf2XIdeal.main_arg0)
      ∧ r.2.mem ((c.tc : Thread Cert.KernelFf2XIdeal.nD Cert.KernelFf2XIdeal.τ).loc Cert.KernelFf2XIdeal.main_arg1) = m ((c.tc : Thread Cert.KernelFf2XIdeal.nD Cert.KernelFf2XIdeal.τ).loc Cert.KernelFf2XIdeal.main_arg1)
      ∧ r.2.mem ((c.tc : Thread Cert.KernelFf2XIdeal.nD Cert.KernelFf2XIdeal.τ).loc Cert.KernelFf2XIdeal.main_arg2) = m ((c.tc : Thread Cert.KernelFf2XIdeal.nD Cert.KernelFf2XIdeal.τ).loc Cert.KernelFf2XIdeal.main_arg2))
      ∧ r.2.sem = fun _ => 0)

def quiescent_ReferenceFf2XIdeal [hReferenceFf2XIdeal : Cert.ReferenceFf2XIdeal.Facts] : Prop :=
  ∀ (m : (ℓ : Loc Cert.ReferenceFf2XIdeal.nD Cert.ReferenceFf2XIdeal.τ Cert.ReferenceFf2XIdeal.sig) → Buf (Elt Ideal) ℓ) (g : Dev Cert.ReferenceFf2XIdeal.nD → PrngReg), Pre_ReferenceFf2XIdeal m →
    θ_run (Cert.ReferenceFf2XIdeal.defs (F := Ideal)) (onTc (τ := Cert.ReferenceFf2XIdeal.τ) (Cert.ReferenceFf2XIdeal.main (F := Ideal))) ⟨m, fun _ => 0, g⟩ (fun r => (∀ c : Dev Cert.ReferenceFf2XIdeal.nD,
      r.2.mem ((c.tc : Thread Cert.ReferenceFf2XIdeal.nD Cert.ReferenceFf2XIdeal.τ).loc Cert.ReferenceFf2XIdeal.main_arg0) = m ((c.tc : Thread Cert.ReferenceFf2XIdeal.nD Cert.ReferenceFf2XIdeal.τ).loc Cert.ReferenceFf2XIdeal.main_arg0)
      ∧ r.2.mem ((c.tc : Thread Cert.ReferenceFf2XIdeal.nD Cert.ReferenceFf2XIdeal.τ).loc Cert.ReferenceFf2XIdeal.main_arg1) = m ((c.tc : Thread Cert.ReferenceFf2XIdeal.nD Cert.ReferenceFf2XIdeal.τ).loc Cert.ReferenceFf2XIdeal.main_arg1)
      ∧ r.2.mem ((c.tc : Thread Cert.ReferenceFf2XIdeal.nD Cert.ReferenceFf2XIdeal.τ).loc Cert.ReferenceFf2XIdeal.main_arg2) = m ((c.tc : Thread Cert.ReferenceFf2XIdeal.nD Cert.ReferenceFf2XIdeal.τ).loc Cert.ReferenceFf2XIdeal.main_arg2))
      ∧ r.2.sem = fun _ => 0)

def quiescent_KernelFf2W [hKernelFf2W : Cert.KernelFf2W.Facts] : Prop :=
  ∀ (m : (ℓ : Loc Cert.KernelFf2W.nD Cert.KernelFf2W.τ Cert.KernelFf2W.sig) → Buf (Elt Bits) ℓ) (g : Dev Cert.KernelFf2W.nD → PrngReg), Pre_KernelFf2W m →
    θ_run (Cert.KernelFf2W.defs (F := Bits)) (onTc (τ := Cert.KernelFf2W.τ) (Cert.KernelFf2W.main (F := Bits))) ⟨m, fun _ => 0, g⟩ (fun r => (∀ c : Dev Cert.KernelFf2W.nD,
      r.2.mem ((c.tc : Thread Cert.KernelFf2W.nD Cert.KernelFf2W.τ).loc Cert.KernelFf2W.main_arg0) = m ((c.tc : Thread Cert.KernelFf2W.nD Cert.KernelFf2W.τ).loc Cert.KernelFf2W.main_arg0)
      ∧ r.2.mem ((c.tc : Thread Cert.KernelFf2W.nD Cert.KernelFf2W.τ).loc Cert.KernelFf2W.main_arg1) = m ((c.tc : Thread Cert.KernelFf2W.nD Cert.KernelFf2W.τ).loc Cert.KernelFf2W.main_arg1)
      ∧ r.2.mem ((c.tc : Thread Cert.KernelFf2W.nD Cert.KernelFf2W.τ).loc Cert.KernelFf2W.main_arg2) = m ((c.tc : Thread Cert.KernelFf2W.nD Cert.KernelFf2W.τ).loc Cert.KernelFf2W.main_arg2))
      ∧ r.2.sem = fun _ => 0)

def quiescent_KernelFf2WIdeal [hKernelFf2WIdeal : Cert.KernelFf2WIdeal.Facts] : Prop :=
  ∀ (m : (ℓ : Loc Cert.KernelFf2WIdeal.nD Cert.KernelFf2WIdeal.τ Cert.KernelFf2WIdeal.sig) → Buf (Elt Ideal) ℓ) (g : Dev Cert.KernelFf2WIdeal.nD → PrngReg), Pre_KernelFf2WIdeal m →
    θ_run (Cert.KernelFf2WIdeal.defs (F := Ideal)) (onTc (τ := Cert.KernelFf2WIdeal.τ) (Cert.KernelFf2WIdeal.main (F := Ideal))) ⟨m, fun _ => 0, g⟩ (fun r => (∀ c : Dev Cert.KernelFf2WIdeal.nD,
      r.2.mem ((c.tc : Thread Cert.KernelFf2WIdeal.nD Cert.KernelFf2WIdeal.τ).loc Cert.KernelFf2WIdeal.main_arg0) = m ((c.tc : Thread Cert.KernelFf2WIdeal.nD Cert.KernelFf2WIdeal.τ).loc Cert.KernelFf2WIdeal.main_arg0)
      ∧ r.2.mem ((c.tc : Thread Cert.KernelFf2WIdeal.nD Cert.KernelFf2WIdeal.τ).loc Cert.KernelFf2WIdeal.main_arg1) = m ((c.tc : Thread Cert.KernelFf2WIdeal.nD Cert.KernelFf2WIdeal.τ).loc Cert.KernelFf2WIdeal.main_arg1)
      ∧ r.2.mem ((c.tc : Thread Cert.KernelFf2WIdeal.nD Cert.KernelFf2WIdeal.τ).loc Cert.KernelFf2WIdeal.main_arg2) = m ((c.tc : Thread Cert.KernelFf2WIdeal.nD Cert.KernelFf2WIdeal.τ).loc Cert.KernelFf2WIdeal.main_arg2))
      ∧ r.2.sem = fun _ => 0)

def quiescent_ReferenceFf2WIdeal [hReferenceFf2WIdeal : Cert.ReferenceFf2WIdeal.Facts] : Prop :=
  ∀ (m : (ℓ : Loc Cert.ReferenceFf2WIdeal.nD Cert.ReferenceFf2WIdeal.τ Cert.ReferenceFf2WIdeal.sig) → Buf (Elt Ideal) ℓ) (g : Dev Cert.ReferenceFf2WIdeal.nD → PrngReg), Pre_ReferenceFf2WIdeal m →
    θ_run (Cert.ReferenceFf2WIdeal.defs (F := Ideal)) (onTc (τ := Cert.ReferenceFf2WIdeal.τ) (Cert.ReferenceFf2WIdeal.main (F := Ideal))) ⟨m, fun _ => 0, g⟩ (fun r => (∀ c : Dev Cert.ReferenceFf2WIdeal.nD,
      r.2.mem ((c.tc : Thread Cert.ReferenceFf2WIdeal.nD Cert.ReferenceFf2WIdeal.τ).loc Cert.ReferenceFf2WIdeal.main_arg0) = m ((c.tc : Thread Cert.ReferenceFf2WIdeal.nD Cert.ReferenceFf2WIdeal.τ).loc Cert.ReferenceFf2WIdeal.main_arg0)
      ∧ r.2.mem ((c.tc : Thread Cert.ReferenceFf2WIdeal.nD Cert.ReferenceFf2WIdeal.τ).loc Cert.ReferenceFf2WIdeal.main_arg1) = m ((c.tc : Thread Cert.ReferenceFf2WIdeal.nD Cert.ReferenceFf2WIdeal.τ).loc Cert.ReferenceFf2WIdeal.main_arg1)
      ∧ r.2.mem ((c.tc : Thread Cert.ReferenceFf2WIdeal.nD Cert.ReferenceFf2WIdeal.τ).loc Cert.ReferenceFf2WIdeal.main_arg2) = m ((c.tc : Thread Cert.ReferenceFf2WIdeal.nD Cert.ReferenceFf2WIdeal.τ).loc Cert.ReferenceFf2WIdeal.main_arg2))
      ∧ r.2.sem = fun _ => 0)

def quiescent_KernelFf1X [hKernelFf1X : Cert.KernelFf1X.Facts] : Prop :=
  ∀ (m : (ℓ : Loc Cert.KernelFf1X.nD Cert.KernelFf1X.τ Cert.KernelFf1X.sig) → Buf (Elt Bits) ℓ) (g : Dev Cert.KernelFf1X.nD → PrngReg), Pre_KernelFf1X m →
    θ_run (Cert.KernelFf1X.defs (F := Bits)) (onTc (τ := Cert.KernelFf1X.τ) (Cert.KernelFf1X.main (F := Bits))) ⟨m, fun _ => 0, g⟩ (fun r => (∀ c : Dev Cert.KernelFf1X.nD,
      r.2.mem ((c.tc : Thread Cert.KernelFf1X.nD Cert.KernelFf1X.τ).loc Cert.KernelFf1X.main_arg0) = m ((c.tc : Thread Cert.KernelFf1X.nD Cert.KernelFf1X.τ).loc Cert.KernelFf1X.main_arg0)
      ∧ r.2.mem ((c.tc : Thread Cert.KernelFf1X.nD Cert.KernelFf1X.τ).loc Cert.KernelFf1X.main_arg1) = m ((c.tc : Thread Cert.KernelFf1X.nD Cert.KernelFf1X.τ).loc Cert.KernelFf1X.main_arg1)
      ∧ r.2.mem ((c.tc : Thread Cert.KernelFf1X.nD Cert.KernelFf1X.τ).loc Cert.KernelFf1X.main_arg2) = m ((c.tc : Thread Cert.KernelFf1X.nD Cert.KernelFf1X.τ).loc Cert.KernelFf1X.main_arg2))
      ∧ r.2.sem = fun _ => 0)

def quiescent_KernelFf1XIdeal [hKernelFf1XIdeal : Cert.KernelFf1XIdeal.Facts] : Prop :=
  ∀ (m : (ℓ : Loc Cert.KernelFf1XIdeal.nD Cert.KernelFf1XIdeal.τ Cert.KernelFf1XIdeal.sig) → Buf (Elt Ideal) ℓ) (g : Dev Cert.KernelFf1XIdeal.nD → PrngReg), Pre_KernelFf1XIdeal m →
    θ_run (Cert.KernelFf1XIdeal.defs (F := Ideal)) (onTc (τ := Cert.KernelFf1XIdeal.τ) (Cert.KernelFf1XIdeal.main (F := Ideal))) ⟨m, fun _ => 0, g⟩ (fun r => (∀ c : Dev Cert.KernelFf1XIdeal.nD,
      r.2.mem ((c.tc : Thread Cert.KernelFf1XIdeal.nD Cert.KernelFf1XIdeal.τ).loc Cert.KernelFf1XIdeal.main_arg0) = m ((c.tc : Thread Cert.KernelFf1XIdeal.nD Cert.KernelFf1XIdeal.τ).loc Cert.KernelFf1XIdeal.main_arg0)
      ∧ r.2.mem ((c.tc : Thread Cert.KernelFf1XIdeal.nD Cert.KernelFf1XIdeal.τ).loc Cert.KernelFf1XIdeal.main_arg1) = m ((c.tc : Thread Cert.KernelFf1XIdeal.nD Cert.KernelFf1XIdeal.τ).loc Cert.KernelFf1XIdeal.main_arg1)
      ∧ r.2.mem ((c.tc : Thread Cert.KernelFf1XIdeal.nD Cert.KernelFf1XIdeal.τ).loc Cert.KernelFf1XIdeal.main_arg2) = m ((c.tc : Thread Cert.KernelFf1XIdeal.nD Cert.KernelFf1XIdeal.τ).loc Cert.KernelFf1XIdeal.main_arg2))
      ∧ r.2.sem = fun _ => 0)

def quiescent_ReferenceFf1XIdeal [hReferenceFf1XIdeal : Cert.ReferenceFf1XIdeal.Facts] : Prop :=
  ∀ (m : (ℓ : Loc Cert.ReferenceFf1XIdeal.nD Cert.ReferenceFf1XIdeal.τ Cert.ReferenceFf1XIdeal.sig) → Buf (Elt Ideal) ℓ) (g : Dev Cert.ReferenceFf1XIdeal.nD → PrngReg), Pre_ReferenceFf1XIdeal m →
    θ_run (Cert.ReferenceFf1XIdeal.defs (F := Ideal)) (onTc (τ := Cert.ReferenceFf1XIdeal.τ) (Cert.ReferenceFf1XIdeal.main (F := Ideal))) ⟨m, fun _ => 0, g⟩ (fun r => (∀ c : Dev Cert.ReferenceFf1XIdeal.nD,
      r.2.mem ((c.tc : Thread Cert.ReferenceFf1XIdeal.nD Cert.ReferenceFf1XIdeal.τ).loc Cert.ReferenceFf1XIdeal.main_arg0) = m ((c.tc : Thread Cert.ReferenceFf1XIdeal.nD Cert.ReferenceFf1XIdeal.τ).loc Cert.ReferenceFf1XIdeal.main_arg0)
      ∧ r.2.mem ((c.tc : Thread Cert.ReferenceFf1XIdeal.nD Cert.ReferenceFf1XIdeal.τ).loc Cert.ReferenceFf1XIdeal.main_arg1) = m ((c.tc : Thread Cert.ReferenceFf1XIdeal.nD Cert.ReferenceFf1XIdeal.τ).loc Cert.ReferenceFf1XIdeal.main_arg1)
      ∧ r.2.mem ((c.tc : Thread Cert.ReferenceFf1XIdeal.nD Cert.ReferenceFf1XIdeal.τ).loc Cert.ReferenceFf1XIdeal.main_arg2) = m ((c.tc : Thread Cert.ReferenceFf1XIdeal.nD Cert.ReferenceFf1XIdeal.τ).loc Cert.ReferenceFf1XIdeal.main_arg2))
      ∧ r.2.sem = fun _ => 0)

def quiescent_KernelFf1W [hKernelFf1W : Cert.KernelFf1W.Facts] : Prop :=
  ∀ (m : (ℓ : Loc Cert.KernelFf1W.nD Cert.KernelFf1W.τ Cert.KernelFf1W.sig) → Buf (Elt Bits) ℓ) (g : Dev Cert.KernelFf1W.nD → PrngReg), Pre_KernelFf1W m →
    θ_run (Cert.KernelFf1W.defs (F := Bits)) (onTc (τ := Cert.KernelFf1W.τ) (Cert.KernelFf1W.main (F := Bits))) ⟨m, fun _ => 0, g⟩ (fun r => (∀ c : Dev Cert.KernelFf1W.nD,
      r.2.mem ((c.tc : Thread Cert.KernelFf1W.nD Cert.KernelFf1W.τ).loc Cert.KernelFf1W.main_arg0) = m ((c.tc : Thread Cert.KernelFf1W.nD Cert.KernelFf1W.τ).loc Cert.KernelFf1W.main_arg0)
      ∧ r.2.mem ((c.tc : Thread Cert.KernelFf1W.nD Cert.KernelFf1W.τ).loc Cert.KernelFf1W.main_arg1) = m ((c.tc : Thread Cert.KernelFf1W.nD Cert.KernelFf1W.τ).loc Cert.KernelFf1W.main_arg1)
      ∧ r.2.mem ((c.tc : Thread Cert.KernelFf1W.nD Cert.KernelFf1W.τ).loc Cert.KernelFf1W.main_arg2) = m ((c.tc : Thread Cert.KernelFf1W.nD Cert.KernelFf1W.τ).loc Cert.KernelFf1W.main_arg2))
      ∧ r.2.sem = fun _ => 0)

def quiescent_KernelFf1WIdeal [hKernelFf1WIdeal : Cert.KernelFf1WIdeal.Facts] : Prop :=
  ∀ (m : (ℓ : Loc Cert.KernelFf1WIdeal.nD Cert.KernelFf1WIdeal.τ Cert.KernelFf1WIdeal.sig) → Buf (Elt Ideal) ℓ) (g : Dev Cert.KernelFf1WIdeal.nD → PrngReg), Pre_KernelFf1WIdeal m →
    θ_run (Cert.KernelFf1WIdeal.defs (F := Ideal)) (onTc (τ := Cert.KernelFf1WIdeal.τ) (Cert.KernelFf1WIdeal.main (F := Ideal))) ⟨m, fun _ => 0, g⟩ (fun r => (∀ c : Dev Cert.KernelFf1WIdeal.nD,
      r.2.mem ((c.tc : Thread Cert.KernelFf1WIdeal.nD Cert.KernelFf1WIdeal.τ).loc Cert.KernelFf1WIdeal.main_arg0) = m ((c.tc : Thread Cert.KernelFf1WIdeal.nD Cert.KernelFf1WIdeal.τ).loc Cert.KernelFf1WIdeal.main_arg0)
      ∧ r.2.mem ((c.tc : Thread Cert.KernelFf1WIdeal.nD Cert.KernelFf1WIdeal.τ).loc Cert.KernelFf1WIdeal.main_arg1) = m ((c.tc : Thread Cert.KernelFf1WIdeal.nD Cert.KernelFf1WIdeal.τ).loc Cert.KernelFf1WIdeal.main_arg1)
      ∧ r.2.mem ((c.tc : Thread Cert.KernelFf1WIdeal.nD Cert.KernelFf1WIdeal.τ).loc Cert.KernelFf1WIdeal.main_arg2) = m ((c.tc : Thread Cert.KernelFf1WIdeal.nD Cert.KernelFf1WIdeal.τ).loc Cert.KernelFf1WIdeal.main_arg2))
      ∧ r.2.sem = fun _ => 0)

def quiescent_ReferenceFf1WIdeal [hReferenceFf1WIdeal : Cert.ReferenceFf1WIdeal.Facts] : Prop :=
  ∀ (m : (ℓ : Loc Cert.ReferenceFf1WIdeal.nD Cert.ReferenceFf1WIdeal.τ Cert.ReferenceFf1WIdeal.sig) → Buf (Elt Ideal) ℓ) (g : Dev Cert.ReferenceFf1WIdeal.nD → PrngReg), Pre_ReferenceFf1WIdeal m →
    θ_run (Cert.ReferenceFf1WIdeal.defs (F := Ideal)) (onTc (τ := Cert.ReferenceFf1WIdeal.τ) (Cert.ReferenceFf1WIdeal.main (F := Ideal))) ⟨m, fun _ => 0, g⟩ (fun r => (∀ c : Dev Cert.ReferenceFf1WIdeal.nD,
      r.2.mem ((c.tc : Thread Cert.ReferenceFf1WIdeal.nD Cert.ReferenceFf1WIdeal.τ).loc Cert.ReferenceFf1WIdeal.main_arg0) = m ((c.tc : Thread Cert.ReferenceFf1WIdeal.nD Cert.ReferenceFf1WIdeal.τ).loc Cert.ReferenceFf1WIdeal.main_arg0)
      ∧ r.2.mem ((c.tc : Thread Cert.ReferenceFf1WIdeal.nD Cert.ReferenceFf1WIdeal.τ).loc Cert.ReferenceFf1WIdeal.main_arg1) = m ((c.tc : Thread Cert.ReferenceFf1WIdeal.nD Cert.ReferenceFf1WIdeal.τ).loc Cert.ReferenceFf1WIdeal.main_arg1)
      ∧ r.2.mem ((c.tc : Thread Cert.ReferenceFf1WIdeal.nD Cert.ReferenceFf1WIdeal.τ).loc Cert.ReferenceFf1WIdeal.main_arg2) = m ((c.tc : Thread Cert.ReferenceFf1WIdeal.nD Cert.ReferenceFf1WIdeal.τ).loc Cert.ReferenceFf1WIdeal.main_arg2))
      ∧ r.2.sem = fun _ => 0)

def quiescent_KernelInW [hKernelInW : Cert.KernelInW.Facts] : Prop :=
  ∀ (m : (ℓ : Loc Cert.KernelInW.nD Cert.KernelInW.τ Cert.KernelInW.sig) → Buf (Elt Bits) ℓ) (g : Dev Cert.KernelInW.nD → PrngReg), Pre_KernelInW m →
    θ_run (Cert.KernelInW.defs (F := Bits)) (onTc (τ := Cert.KernelInW.τ) (Cert.KernelInW.main (F := Bits))) ⟨m, fun _ => 0, g⟩ (fun r => (∀ c : Dev Cert.KernelInW.nD,
      r.2.mem ((c.tc : Thread Cert.KernelInW.nD Cert.KernelInW.τ).loc Cert.KernelInW.main_arg0) = m ((c.tc : Thread Cert.KernelInW.nD Cert.KernelInW.τ).loc Cert.KernelInW.main_arg0)
      ∧ r.2.mem ((c.tc : Thread Cert.KernelInW.nD Cert.KernelInW.τ).loc Cert.KernelInW.main_arg1) = m ((c.tc : Thread Cert.KernelInW.nD Cert.KernelInW.τ).loc Cert.KernelInW.main_arg1)
      ∧ r.2.mem ((c.tc : Thread Cert.KernelInW.nD Cert.KernelInW.τ).loc Cert.KernelInW.main_arg2) = m ((c.tc : Thread Cert.KernelInW.nD Cert.KernelInW.τ).loc Cert.KernelInW.main_arg2))
      ∧ r.2.sem = fun _ => 0)

def quiescent_KernelInWIdeal [hKernelInWIdeal : Cert.KernelInWIdeal.Facts] : Prop :=
  ∀ (m : (ℓ : Loc Cert.KernelInWIdeal.nD Cert.KernelInWIdeal.τ Cert.KernelInWIdeal.sig) → Buf (Elt Ideal) ℓ) (g : Dev Cert.KernelInWIdeal.nD → PrngReg), Pre_KernelInWIdeal m →
    θ_run (Cert.KernelInWIdeal.defs (F := Ideal)) (onTc (τ := Cert.KernelInWIdeal.τ) (Cert.KernelInWIdeal.main (F := Ideal))) ⟨m, fun _ => 0, g⟩ (fun r => (∀ c : Dev Cert.KernelInWIdeal.nD,
      r.2.mem ((c.tc : Thread Cert.KernelInWIdeal.nD Cert.KernelInWIdeal.τ).loc Cert.KernelInWIdeal.main_arg0) = m ((c.tc : Thread Cert.KernelInWIdeal.nD Cert.KernelInWIdeal.τ).loc Cert.KernelInWIdeal.main_arg0)
      ∧ r.2.mem ((c.tc : Thread Cert.KernelInWIdeal.nD Cert.KernelInWIdeal.τ).loc Cert.KernelInWIdeal.main_arg1) = m ((c.tc : Thread Cert.KernelInWIdeal.nD Cert.KernelInWIdeal.τ).loc Cert.KernelInWIdeal.main_arg1)
      ∧ r.2.mem ((c.tc : Thread Cert.KernelInWIdeal.nD Cert.KernelInWIdeal.τ).loc Cert.KernelInWIdeal.main_arg2) = m ((c.tc : Thread Cert.KernelInWIdeal.nD Cert.KernelInWIdeal.τ).loc Cert.KernelInWIdeal.main_arg2))
      ∧ r.2.sem = fun _ => 0)

def quiescent_ReferenceInWIdeal [hReferenceInWIdeal : Cert.ReferenceInWIdeal.Facts] : Prop :=
  ∀ (m : (ℓ : Loc Cert.ReferenceInWIdeal.nD Cert.ReferenceInWIdeal.τ Cert.ReferenceInWIdeal.sig) → Buf (Elt Ideal) ℓ) (g : Dev Cert.ReferenceInWIdeal.nD → PrngReg), Pre_ReferenceInWIdeal m →
    θ_run (Cert.ReferenceInWIdeal.defs (F := Ideal)) (onTc (τ := Cert.ReferenceInWIdeal.τ) (Cert.ReferenceInWIdeal.main (F := Ideal))) ⟨m, fun _ => 0, g⟩ (fun r => (∀ c : Dev Cert.ReferenceInWIdeal.nD,
      r.2.mem ((c.tc : Thread Cert.ReferenceInWIdeal.nD Cert.ReferenceInWIdeal.τ).loc Cert.ReferenceInWIdeal.main_arg0) = m ((c.tc : Thread Cert.ReferenceInWIdeal.nD Cert.ReferenceInWIdeal.τ).loc Cert.ReferenceInWIdeal.main_arg0)
      ∧ r.2.mem ((c.tc : Thread Cert.ReferenceInWIdeal.nD Cert.ReferenceInWIdeal.τ).loc Cert.ReferenceInWIdeal.main_arg1) = m ((c.tc : Thread Cert.ReferenceInWIdeal.nD Cert.ReferenceInWIdeal.τ).loc Cert.ReferenceInWIdeal.main_arg1)
      ∧ r.2.mem ((c.tc : Thread Cert.ReferenceInWIdeal.nD Cert.ReferenceInWIdeal.τ).loc Cert.ReferenceInWIdeal.main_arg2) = m ((c.tc : Thread Cert.ReferenceInWIdeal.nD Cert.ReferenceInWIdeal.τ).loc Cert.ReferenceInWIdeal.main_arg2))
      ∧ r.2.sem = fun _ => 0)

def quiescent_KernelInX [hKernelInX : Cert.KernelInX.Facts] : Prop :=
  ∀ (m : (ℓ : Loc Cert.KernelInX.nD Cert.KernelInX.τ Cert.KernelInX.sig) → Buf (Elt Bits) ℓ) (g : Dev Cert.KernelInX.nD → PrngReg), Pre_KernelInX m →
    θ_run (Cert.KernelInX.defs (F := Bits)) (onTc (τ := Cert.KernelInX.τ) (Cert.KernelInX.main (F := Bits))) ⟨m, fun _ => 0, g⟩ (fun r => (∀ c : Dev Cert.KernelInX.nD,
      r.2.mem ((c.tc : Thread Cert.KernelInX.nD Cert.KernelInX.τ).loc Cert.KernelInX.main_arg0) = m ((c.tc : Thread Cert.KernelInX.nD Cert.KernelInX.τ).loc Cert.KernelInX.main_arg0)
      ∧ r.2.mem ((c.tc : Thread Cert.KernelInX.nD Cert.KernelInX.τ).loc Cert.KernelInX.main_arg1) = m ((c.tc : Thread Cert.KernelInX.nD Cert.KernelInX.τ).loc Cert.KernelInX.main_arg1)
      ∧ r.2.mem ((c.tc : Thread Cert.KernelInX.nD Cert.KernelInX.τ).loc Cert.KernelInX.main_arg2) = m ((c.tc : Thread Cert.KernelInX.nD Cert.KernelInX.τ).loc Cert.KernelInX.main_arg2)
      ∧ r.2.mem ((c.tc : Thread Cert.KernelInX.nD Cert.KernelInX.τ).loc Cert.KernelInX.main_arg3) = m ((c.tc : Thread Cert.KernelInX.nD Cert.KernelInX.τ).loc Cert.KernelInX.main_arg3))
      ∧ r.2.sem = fun _ => 0)

def quiescent_KernelInXIdeal [hKernelInXIdeal : Cert.KernelInXIdeal.Facts] : Prop :=
  ∀ (m : (ℓ : Loc Cert.KernelInXIdeal.nD Cert.KernelInXIdeal.τ Cert.KernelInXIdeal.sig) → Buf (Elt Ideal) ℓ) (g : Dev Cert.KernelInXIdeal.nD → PrngReg), Pre_KernelInXIdeal m →
    θ_run (Cert.KernelInXIdeal.defs (F := Ideal)) (onTc (τ := Cert.KernelInXIdeal.τ) (Cert.KernelInXIdeal.main (F := Ideal))) ⟨m, fun _ => 0, g⟩ (fun r => (∀ c : Dev Cert.KernelInXIdeal.nD,
      r.2.mem ((c.tc : Thread Cert.KernelInXIdeal.nD Cert.KernelInXIdeal.τ).loc Cert.KernelInXIdeal.main_arg0) = m ((c.tc : Thread Cert.KernelInXIdeal.nD Cert.KernelInXIdeal.τ).loc Cert.KernelInXIdeal.main_arg0)
      ∧ r.2.mem ((c.tc : Thread Cert.KernelInXIdeal.nD Cert.KernelInXIdeal.τ).loc Cert.KernelInXIdeal.main_arg1) = m ((c.tc : Thread Cert.KernelInXIdeal.nD Cert.KernelInXIdeal.τ).loc Cert.KernelInXIdeal.main_arg1)
      ∧ r.2.mem ((c.tc : Thread Cert.KernelInXIdeal.nD Cert.KernelInXIdeal.τ).loc Cert.KernelInXIdeal.main_arg2) = m ((c.tc : Thread Cert.KernelInXIdeal.nD Cert.KernelInXIdeal.τ).loc Cert.KernelInXIdeal.main_arg2)
      ∧ r.2.mem ((c.tc : Thread Cert.KernelInXIdeal.nD Cert.KernelInXIdeal.τ).loc Cert.KernelInXIdeal.main_arg3) = m ((c.tc : Thread Cert.KernelInXIdeal.nD Cert.KernelInXIdeal.τ).loc Cert.KernelInXIdeal.main_arg3))
      ∧ r.2.sem = fun _ => 0)

def quiescent_ReferenceInXIdeal [hReferenceInXIdeal : Cert.ReferenceInXIdeal.Facts] : Prop :=
  ∀ (m : (ℓ : Loc Cert.ReferenceInXIdeal.nD Cert.ReferenceInXIdeal.τ Cert.ReferenceInXIdeal.sig) → Buf (Elt Ideal) ℓ) (g : Dev Cert.ReferenceInXIdeal.nD → PrngReg), Pre_ReferenceInXIdeal m →
    θ_run (Cert.ReferenceInXIdeal.defs (F := Ideal)) (onTc (τ := Cert.ReferenceInXIdeal.τ) (Cert.ReferenceInXIdeal.main (F := Ideal))) ⟨m, fun _ => 0, g⟩ (fun r => (∀ c : Dev Cert.ReferenceInXIdeal.nD,
      r.2.mem ((c.tc : Thread Cert.ReferenceInXIdeal.nD Cert.ReferenceInXIdeal.τ).loc Cert.ReferenceInXIdeal.main_arg0) = m ((c.tc : Thread Cert.ReferenceInXIdeal.nD Cert.ReferenceInXIdeal.τ).loc Cert.ReferenceInXIdeal.main_arg0)
      ∧ r.2.mem ((c.tc : Thread Cert.ReferenceInXIdeal.nD Cert.ReferenceInXIdeal.τ).loc Cert.ReferenceInXIdeal.main_arg1) = m ((c.tc : Thread Cert.ReferenceInXIdeal.nD Cert.ReferenceInXIdeal.τ).loc Cert.ReferenceInXIdeal.main_arg1)
      ∧ r.2.mem ((c.tc : Thread Cert.ReferenceInXIdeal.nD Cert.ReferenceInXIdeal.τ).loc Cert.ReferenceInXIdeal.main_arg2) = m ((c.tc : Thread Cert.ReferenceInXIdeal.nD Cert.ReferenceInXIdeal.τ).loc Cert.ReferenceInXIdeal.main_arg2)
      ∧ r.2.mem ((c.tc : Thread Cert.ReferenceInXIdeal.nD Cert.ReferenceInXIdeal.τ).loc Cert.ReferenceInXIdeal.main_arg3) = m ((c.tc : Thread Cert.ReferenceInXIdeal.nD Cert.ReferenceInXIdeal.τ).loc Cert.ReferenceInXIdeal.main_arg3))
      ∧ r.2.sem = fun _ => 0)

def quiescent_KernelGateX [hKernelGateX : Cert.KernelGateX.Facts] : Prop :=
  ∀ (m : (ℓ : Loc Cert.KernelGateX.nD Cert.KernelGateX.τ Cert.KernelGateX.sig) → Buf (Elt Bits) ℓ) (g : Dev Cert.KernelGateX.nD → PrngReg), Pre_KernelGateX m →
    θ_run (Cert.KernelGateX.defs (F := Bits)) (onTc (τ := Cert.KernelGateX.τ) (Cert.KernelGateX.main (F := Bits))) ⟨m, fun _ => 0, g⟩ (fun r => (∀ c : Dev Cert.KernelGateX.nD,
      r.2.mem ((c.tc : Thread Cert.KernelGateX.nD Cert.KernelGateX.τ).loc Cert.KernelGateX.main_arg0) = m ((c.tc : Thread Cert.KernelGateX.nD Cert.KernelGateX.τ).loc Cert.KernelGateX.main_arg0)
      ∧ r.2.mem ((c.tc : Thread Cert.KernelGateX.nD Cert.KernelGateX.τ).loc Cert.KernelGateX.main_arg1) = m ((c.tc : Thread Cert.KernelGateX.nD Cert.KernelGateX.τ).loc Cert.KernelGateX.main_arg1)
      ∧ r.2.mem ((c.tc : Thread Cert.KernelGateX.nD Cert.KernelGateX.τ).loc Cert.KernelGateX.main_arg2) = m ((c.tc : Thread Cert.KernelGateX.nD Cert.KernelGateX.τ).loc Cert.KernelGateX.main_arg2)
      ∧ r.2.mem ((c.tc : Thread Cert.KernelGateX.nD Cert.KernelGateX.τ).loc Cert.KernelGateX.main_arg3) = m ((c.tc : Thread Cert.KernelGateX.nD Cert.KernelGateX.τ).loc Cert.KernelGateX.main_arg3))
      ∧ r.2.sem = fun _ => 0)

def quiescent_KernelGateXIdeal [hKernelGateXIdeal : Cert.KernelGateXIdeal.Facts] : Prop :=
  ∀ (m : (ℓ : Loc Cert.KernelGateXIdeal.nD Cert.KernelGateXIdeal.τ Cert.KernelGateXIdeal.sig) → Buf (Elt Ideal) ℓ) (g : Dev Cert.KernelGateXIdeal.nD → PrngReg), Pre_KernelGateXIdeal m →
    θ_run (Cert.KernelGateXIdeal.defs (F := Ideal)) (onTc (τ := Cert.KernelGateXIdeal.τ) (Cert.KernelGateXIdeal.main (F := Ideal))) ⟨m, fun _ => 0, g⟩ (fun r => (∀ c : Dev Cert.KernelGateXIdeal.nD,
      r.2.mem ((c.tc : Thread Cert.KernelGateXIdeal.nD Cert.KernelGateXIdeal.τ).loc Cert.KernelGateXIdeal.main_arg0) = m ((c.tc : Thread Cert.KernelGateXIdeal.nD Cert.KernelGateXIdeal.τ).loc Cert.KernelGateXIdeal.main_arg0)
      ∧ r.2.mem ((c.tc : Thread Cert.KernelGateXIdeal.nD Cert.KernelGateXIdeal.τ).loc Cert.KernelGateXIdeal.main_arg1) = m ((c.tc : Thread Cert.KernelGateXIdeal.nD Cert.KernelGateXIdeal.τ).loc Cert.KernelGateXIdeal.main_arg1)
      ∧ r.2.mem ((c.tc : Thread Cert.KernelGateXIdeal.nD Cert.KernelGateXIdeal.τ).loc Cert.KernelGateXIdeal.main_arg2) = m ((c.tc : Thread Cert.KernelGateXIdeal.nD Cert.KernelGateXIdeal.τ).loc Cert.KernelGateXIdeal.main_arg2)
      ∧ r.2.mem ((c.tc : Thread Cert.KernelGateXIdeal.nD Cert.KernelGateXIdeal.τ).loc Cert.KernelGateXIdeal.main_arg3) = m ((c.tc : Thread Cert.KernelGateXIdeal.nD Cert.KernelGateXIdeal.τ).loc Cert.KernelGateXIdeal.main_arg3))
      ∧ r.2.sem = fun _ => 0)

def quiescent_ReferenceGateXIdeal [hReferenceGateXIdeal : Cert.ReferenceGateXIdeal.Facts] : Prop :=
  ∀ (m : (ℓ : Loc Cert.ReferenceGateXIdeal.nD Cert.ReferenceGateXIdeal.τ Cert.ReferenceGateXIdeal.sig) → Buf (Elt Ideal) ℓ) (g : Dev Cert.ReferenceGateXIdeal.nD → PrngReg), Pre_ReferenceGateXIdeal m →
    θ_run (Cert.ReferenceGateXIdeal.defs (F := Ideal)) (onTc (τ := Cert.ReferenceGateXIdeal.τ) (Cert.ReferenceGateXIdeal.main (F := Ideal))) ⟨m, fun _ => 0, g⟩ (fun r => (∀ c : Dev Cert.ReferenceGateXIdeal.nD,
      r.2.mem ((c.tc : Thread Cert.ReferenceGateXIdeal.nD Cert.ReferenceGateXIdeal.τ).loc Cert.ReferenceGateXIdeal.main_arg0) = m ((c.tc : Thread Cert.ReferenceGateXIdeal.nD Cert.ReferenceGateXIdeal.τ).loc Cert.ReferenceGateXIdeal.main_arg0)
      ∧ r.2.mem ((c.tc : Thread Cert.ReferenceGateXIdeal.nD Cert.ReferenceGateXIdeal.τ).loc Cert.ReferenceGateXIdeal.main_arg1) = m ((c.tc : Thread Cert.ReferenceGateXIdeal.nD Cert.ReferenceGateXIdeal.τ).loc Cert.ReferenceGateXIdeal.main_arg1)
      ∧ r.2.mem ((c.tc : Thread Cert.ReferenceGateXIdeal.nD Cert.ReferenceGateXIdeal.τ).loc Cert.ReferenceGateXIdeal.main_arg2) = m ((c.tc : Thread Cert.ReferenceGateXIdeal.nD Cert.ReferenceGateXIdeal.τ).loc Cert.ReferenceGateXIdeal.main_arg2)
      ∧ r.2.mem ((c.tc : Thread Cert.ReferenceGateXIdeal.nD Cert.ReferenceGateXIdeal.τ).loc Cert.ReferenceGateXIdeal.main_arg3) = m ((c.tc : Thread Cert.ReferenceGateXIdeal.nD Cert.ReferenceGateXIdeal.τ).loc Cert.ReferenceGateXIdeal.main_arg3))
      ∧ r.2.sem = fun _ => 0)

def quiescent_KernelGateW [hKernelGateW : Cert.KernelGateW.Facts] : Prop :=
  ∀ (m : (ℓ : Loc Cert.KernelGateW.nD Cert.KernelGateW.τ Cert.KernelGateW.sig) → Buf (Elt Bits) ℓ) (g : Dev Cert.KernelGateW.nD → PrngReg), Pre_KernelGateW m →
    θ_run (Cert.KernelGateW.defs (F := Bits)) (onTc (τ := Cert.KernelGateW.τ) (Cert.KernelGateW.main (F := Bits))) ⟨m, fun _ => 0, g⟩ (fun r => (∀ c : Dev Cert.KernelGateW.nD,
      r.2.mem ((c.tc : Thread Cert.KernelGateW.nD Cert.KernelGateW.τ).loc Cert.KernelGateW.main_arg0) = m ((c.tc : Thread Cert.KernelGateW.nD Cert.KernelGateW.τ).loc Cert.KernelGateW.main_arg0)
      ∧ r.2.mem ((c.tc : Thread Cert.KernelGateW.nD Cert.KernelGateW.τ).loc Cert.KernelGateW.main_arg1) = m ((c.tc : Thread Cert.KernelGateW.nD Cert.KernelGateW.τ).loc Cert.KernelGateW.main_arg1)
      ∧ r.2.mem ((c.tc : Thread Cert.KernelGateW.nD Cert.KernelGateW.τ).loc Cert.KernelGateW.main_arg2) = m ((c.tc : Thread Cert.KernelGateW.nD Cert.KernelGateW.τ).loc Cert.KernelGateW.main_arg2))
      ∧ r.2.sem = fun _ => 0)

def quiescent_KernelGateWIdeal [hKernelGateWIdeal : Cert.KernelGateWIdeal.Facts] : Prop :=
  ∀ (m : (ℓ : Loc Cert.KernelGateWIdeal.nD Cert.KernelGateWIdeal.τ Cert.KernelGateWIdeal.sig) → Buf (Elt Ideal) ℓ) (g : Dev Cert.KernelGateWIdeal.nD → PrngReg), Pre_KernelGateWIdeal m →
    θ_run (Cert.KernelGateWIdeal.defs (F := Ideal)) (onTc (τ := Cert.KernelGateWIdeal.τ) (Cert.KernelGateWIdeal.main (F := Ideal))) ⟨m, fun _ => 0, g⟩ (fun r => (∀ c : Dev Cert.KernelGateWIdeal.nD,
      r.2.mem ((c.tc : Thread Cert.KernelGateWIdeal.nD Cert.KernelGateWIdeal.τ).loc Cert.KernelGateWIdeal.main_arg0) = m ((c.tc : Thread Cert.KernelGateWIdeal.nD Cert.KernelGateWIdeal.τ).loc Cert.KernelGateWIdeal.main_arg0)
      ∧ r.2.mem ((c.tc : Thread Cert.KernelGateWIdeal.nD Cert.KernelGateWIdeal.τ).loc Cert.KernelGateWIdeal.main_arg1) = m ((c.tc : Thread Cert.KernelGateWIdeal.nD Cert.KernelGateWIdeal.τ).loc Cert.KernelGateWIdeal.main_arg1)
      ∧ r.2.mem ((c.tc : Thread Cert.KernelGateWIdeal.nD Cert.KernelGateWIdeal.τ).loc Cert.KernelGateWIdeal.main_arg2) = m ((c.tc : Thread Cert.KernelGateWIdeal.nD Cert.KernelGateWIdeal.τ).loc Cert.KernelGateWIdeal.main_arg2))
      ∧ r.2.sem = fun _ => 0)

def quiescent_ReferenceGateWIdeal [hReferenceGateWIdeal : Cert.ReferenceGateWIdeal.Facts] : Prop :=
  ∀ (m : (ℓ : Loc Cert.ReferenceGateWIdeal.nD Cert.ReferenceGateWIdeal.τ Cert.ReferenceGateWIdeal.sig) → Buf (Elt Ideal) ℓ) (g : Dev Cert.ReferenceGateWIdeal.nD → PrngReg), Pre_ReferenceGateWIdeal m →
    θ_run (Cert.ReferenceGateWIdeal.defs (F := Ideal)) (onTc (τ := Cert.ReferenceGateWIdeal.τ) (Cert.ReferenceGateWIdeal.main (F := Ideal))) ⟨m, fun _ => 0, g⟩ (fun r => (∀ c : Dev Cert.ReferenceGateWIdeal.nD,
      r.2.mem ((c.tc : Thread Cert.ReferenceGateWIdeal.nD Cert.ReferenceGateWIdeal.τ).loc Cert.ReferenceGateWIdeal.main_arg0) = m ((c.tc : Thread Cert.ReferenceGateWIdeal.nD Cert.ReferenceGateWIdeal.τ).loc Cert.ReferenceGateWIdeal.main_arg0)
      ∧ r.2.mem ((c.tc : Thread Cert.ReferenceGateWIdeal.nD Cert.ReferenceGateWIdeal.τ).loc Cert.ReferenceGateWIdeal.main_arg1) = m ((c.tc : Thread Cert.ReferenceGateWIdeal.nD Cert.ReferenceGateWIdeal.τ).loc Cert.ReferenceGateWIdeal.main_arg1)
      ∧ r.2.mem ((c.tc : Thread Cert.ReferenceGateWIdeal.nD Cert.ReferenceGateWIdeal.τ).loc Cert.ReferenceGateWIdeal.main_arg2) = m ((c.tc : Thread Cert.ReferenceGateWIdeal.nD Cert.ReferenceGateWIdeal.τ).loc Cert.ReferenceGateWIdeal.main_arg2))
      ∧ r.2.sem = fun _ => 0)

def quiescent_KernelSsdX [hKernelSsdX : Cert.KernelSsdX.Facts] : Prop :=
  ∀ (m : (ℓ : Loc Cert.KernelSsdX.nD Cert.KernelSsdX.τ Cert.KernelSsdX.sig) → Buf (Elt Bits) ℓ) (g : Dev Cert.KernelSsdX.nD → PrngReg), Pre_KernelSsdX m →
    θ_run (Cert.KernelSsdX.defs (F := Bits)) (onTc (τ := Cert.KernelSsdX.τ) (Cert.KernelSsdX.main (F := Bits))) ⟨m, fun _ => 0, g⟩ (fun r => (∀ c : Dev Cert.KernelSsdX.nD,
      r.2.mem ((c.tc : Thread Cert.KernelSsdX.nD Cert.KernelSsdX.τ).loc Cert.KernelSsdX.main_arg0) = m ((c.tc : Thread Cert.KernelSsdX.nD Cert.KernelSsdX.τ).loc Cert.KernelSsdX.main_arg0)
      ∧ r.2.mem ((c.tc : Thread Cert.KernelSsdX.nD Cert.KernelSsdX.τ).loc Cert.KernelSsdX.main_arg1) = m ((c.tc : Thread Cert.KernelSsdX.nD Cert.KernelSsdX.τ).loc Cert.KernelSsdX.main_arg1)
      ∧ r.2.mem ((c.tc : Thread Cert.KernelSsdX.nD Cert.KernelSsdX.τ).loc Cert.KernelSsdX.main_arg2) = m ((c.tc : Thread Cert.KernelSsdX.nD Cert.KernelSsdX.τ).loc Cert.KernelSsdX.main_arg2))
      ∧ r.2.sem = fun _ => 0)

def quiescent_KernelSsdXIdeal [hKernelSsdXIdeal : Cert.KernelSsdXIdeal.Facts] : Prop :=
  ∀ (m : (ℓ : Loc Cert.KernelSsdXIdeal.nD Cert.KernelSsdXIdeal.τ Cert.KernelSsdXIdeal.sig) → Buf (Elt Ideal) ℓ) (g : Dev Cert.KernelSsdXIdeal.nD → PrngReg), Pre_KernelSsdXIdeal m →
    θ_run (Cert.KernelSsdXIdeal.defs (F := Ideal)) (onTc (τ := Cert.KernelSsdXIdeal.τ) (Cert.KernelSsdXIdeal.main (F := Ideal))) ⟨m, fun _ => 0, g⟩ (fun r => (∀ c : Dev Cert.KernelSsdXIdeal.nD,
      r.2.mem ((c.tc : Thread Cert.KernelSsdXIdeal.nD Cert.KernelSsdXIdeal.τ).loc Cert.KernelSsdXIdeal.main_arg0) = m ((c.tc : Thread Cert.KernelSsdXIdeal.nD Cert.KernelSsdXIdeal.τ).loc Cert.KernelSsdXIdeal.main_arg0)
      ∧ r.2.mem ((c.tc : Thread Cert.KernelSsdXIdeal.nD Cert.KernelSsdXIdeal.τ).loc Cert.KernelSsdXIdeal.main_arg1) = m ((c.tc : Thread Cert.KernelSsdXIdeal.nD Cert.KernelSsdXIdeal.τ).loc Cert.KernelSsdXIdeal.main_arg1)
      ∧ r.2.mem ((c.tc : Thread Cert.KernelSsdXIdeal.nD Cert.KernelSsdXIdeal.τ).loc Cert.KernelSsdXIdeal.main_arg2) = m ((c.tc : Thread Cert.KernelSsdXIdeal.nD Cert.KernelSsdXIdeal.τ).loc Cert.KernelSsdXIdeal.main_arg2))
      ∧ r.2.sem = fun _ => 0)

def quiescent_ReferenceSsdXIdeal [hReferenceSsdXIdeal : Cert.ReferenceSsdXIdeal.Facts] : Prop :=
  ∀ (m : (ℓ : Loc Cert.ReferenceSsdXIdeal.nD Cert.ReferenceSsdXIdeal.τ Cert.ReferenceSsdXIdeal.sig) → Buf (Elt Ideal) ℓ) (g : Dev Cert.ReferenceSsdXIdeal.nD → PrngReg), Pre_ReferenceSsdXIdeal m →
    θ_run (Cert.ReferenceSsdXIdeal.defs (F := Ideal)) (onTc (τ := Cert.ReferenceSsdXIdeal.τ) (Cert.ReferenceSsdXIdeal.main (F := Ideal))) ⟨m, fun _ => 0, g⟩ (fun r => (∀ c : Dev Cert.ReferenceSsdXIdeal.nD,
      r.2.mem ((c.tc : Thread Cert.ReferenceSsdXIdeal.nD Cert.ReferenceSsdXIdeal.τ).loc Cert.ReferenceSsdXIdeal.main_arg0) = m ((c.tc : Thread Cert.ReferenceSsdXIdeal.nD Cert.ReferenceSsdXIdeal.τ).loc Cert.ReferenceSsdXIdeal.main_arg0)
      ∧ r.2.mem ((c.tc : Thread Cert.ReferenceSsdXIdeal.nD Cert.ReferenceSsdXIdeal.τ).loc Cert.ReferenceSsdXIdeal.main_arg1) = m ((c.tc : Thread Cert.ReferenceSsdXIdeal.nD Cert.ReferenceSsdXIdeal.τ).loc Cert.ReferenceSsdXIdeal.main_arg1)
      ∧ r.2.mem ((c.tc : Thread Cert.ReferenceSsdXIdeal.nD Cert.ReferenceSsdXIdeal.τ).loc Cert.ReferenceSsdXIdeal.main_arg2) = m ((c.tc : Thread Cert.ReferenceSsdXIdeal.nD Cert.ReferenceSsdXIdeal.τ).loc Cert.ReferenceSsdXIdeal.main_arg2))
      ∧ r.2.sem = fun _ => 0)

def quiescent_KernelSsdW [hKernelSsdW : Cert.KernelSsdW.Facts] : Prop :=
  ∀ (m : (ℓ : Loc Cert.KernelSsdW.nD Cert.KernelSsdW.τ Cert.KernelSsdW.sig) → Buf (Elt Bits) ℓ) (g : Dev Cert.KernelSsdW.nD → PrngReg), Pre_KernelSsdW m →
    θ_run (Cert.KernelSsdW.defs (F := Bits)) (onTc (τ := Cert.KernelSsdW.τ) (Cert.KernelSsdW.main (F := Bits))) ⟨m, fun _ => 0, g⟩ (fun r => (∀ c : Dev Cert.KernelSsdW.nD,
      r.2.mem ((c.tc : Thread Cert.KernelSsdW.nD Cert.KernelSsdW.τ).loc Cert.KernelSsdW.main_arg0) = m ((c.tc : Thread Cert.KernelSsdW.nD Cert.KernelSsdW.τ).loc Cert.KernelSsdW.main_arg0)
      ∧ r.2.mem ((c.tc : Thread Cert.KernelSsdW.nD Cert.KernelSsdW.τ).loc Cert.KernelSsdW.main_arg1) = m ((c.tc : Thread Cert.KernelSsdW.nD Cert.KernelSsdW.τ).loc Cert.KernelSsdW.main_arg1)
      ∧ r.2.mem ((c.tc : Thread Cert.KernelSsdW.nD Cert.KernelSsdW.τ).loc Cert.KernelSsdW.main_arg2) = m ((c.tc : Thread Cert.KernelSsdW.nD Cert.KernelSsdW.τ).loc Cert.KernelSsdW.main_arg2))
      ∧ r.2.sem = fun _ => 0)

def quiescent_KernelSsdWIdeal [hKernelSsdWIdeal : Cert.KernelSsdWIdeal.Facts] : Prop :=
  ∀ (m : (ℓ : Loc Cert.KernelSsdWIdeal.nD Cert.KernelSsdWIdeal.τ Cert.KernelSsdWIdeal.sig) → Buf (Elt Ideal) ℓ) (g : Dev Cert.KernelSsdWIdeal.nD → PrngReg), Pre_KernelSsdWIdeal m →
    θ_run (Cert.KernelSsdWIdeal.defs (F := Ideal)) (onTc (τ := Cert.KernelSsdWIdeal.τ) (Cert.KernelSsdWIdeal.main (F := Ideal))) ⟨m, fun _ => 0, g⟩ (fun r => (∀ c : Dev Cert.KernelSsdWIdeal.nD,
      r.2.mem ((c.tc : Thread Cert.KernelSsdWIdeal.nD Cert.KernelSsdWIdeal.τ).loc Cert.KernelSsdWIdeal.main_arg0) = m ((c.tc : Thread Cert.KernelSsdWIdeal.nD Cert.KernelSsdWIdeal.τ).loc Cert.KernelSsdWIdeal.main_arg0)
      ∧ r.2.mem ((c.tc : Thread Cert.KernelSsdWIdeal.nD Cert.KernelSsdWIdeal.τ).loc Cert.KernelSsdWIdeal.main_arg1) = m ((c.tc : Thread Cert.KernelSsdWIdeal.nD Cert.KernelSsdWIdeal.τ).loc Cert.KernelSsdWIdeal.main_arg1)
      ∧ r.2.mem ((c.tc : Thread Cert.KernelSsdWIdeal.nD Cert.KernelSsdWIdeal.τ).loc Cert.KernelSsdWIdeal.main_arg2) = m ((c.tc : Thread Cert.KernelSsdWIdeal.nD Cert.KernelSsdWIdeal.τ).loc Cert.KernelSsdWIdeal.main_arg2))
      ∧ r.2.sem = fun _ => 0)

def quiescent_ReferenceSsdWIdeal [hReferenceSsdWIdeal : Cert.ReferenceSsdWIdeal.Facts] : Prop :=
  ∀ (m : (ℓ : Loc Cert.ReferenceSsdWIdeal.nD Cert.ReferenceSsdWIdeal.τ Cert.ReferenceSsdWIdeal.sig) → Buf (Elt Ideal) ℓ) (g : Dev Cert.ReferenceSsdWIdeal.nD → PrngReg), Pre_ReferenceSsdWIdeal m →
    θ_run (Cert.ReferenceSsdWIdeal.defs (F := Ideal)) (onTc (τ := Cert.ReferenceSsdWIdeal.τ) (Cert.ReferenceSsdWIdeal.main (F := Ideal))) ⟨m, fun _ => 0, g⟩ (fun r => (∀ c : Dev Cert.ReferenceSsdWIdeal.nD,
      r.2.mem ((c.tc : Thread Cert.ReferenceSsdWIdeal.nD Cert.ReferenceSsdWIdeal.τ).loc Cert.ReferenceSsdWIdeal.main_arg0) = m ((c.tc : Thread Cert.ReferenceSsdWIdeal.nD Cert.ReferenceSsdWIdeal.τ).loc Cert.ReferenceSsdWIdeal.main_arg0)
      ∧ r.2.mem ((c.tc : Thread Cert.ReferenceSsdWIdeal.nD Cert.ReferenceSsdWIdeal.τ).loc Cert.ReferenceSsdWIdeal.main_arg1) = m ((c.tc : Thread Cert.ReferenceSsdWIdeal.nD Cert.ReferenceSsdWIdeal.τ).loc Cert.ReferenceSsdWIdeal.main_arg1)
      ∧ r.2.mem ((c.tc : Thread Cert.ReferenceSsdWIdeal.nD Cert.ReferenceSsdWIdeal.τ).loc Cert.ReferenceSsdWIdeal.main_arg2) = m ((c.tc : Thread Cert.ReferenceSsdWIdeal.nD Cert.ReferenceSsdWIdeal.τ).loc Cert.ReferenceSsdWIdeal.main_arg2))
      ∧ r.2.sem = fun _ => 0)

def quiescent_KernelOutX [hKernelOutX : Cert.KernelOutX.Facts] : Prop :=
  ∀ (m : (ℓ : Loc Cert.KernelOutX.nD Cert.KernelOutX.τ Cert.KernelOutX.sig) → Buf (Elt Bits) ℓ) (g : Dev Cert.KernelOutX.nD → PrngReg), Pre_KernelOutX m →
    θ_run (Cert.KernelOutX.defs (F := Bits)) (onTc (τ := Cert.KernelOutX.τ) (Cert.KernelOutX.main (F := Bits))) ⟨m, fun _ => 0, g⟩ (fun r => (∀ c : Dev Cert.KernelOutX.nD,
      r.2.mem ((c.tc : Thread Cert.KernelOutX.nD Cert.KernelOutX.τ).loc Cert.KernelOutX.main_arg0) = m ((c.tc : Thread Cert.KernelOutX.nD Cert.KernelOutX.τ).loc Cert.KernelOutX.main_arg0)
      ∧ r.2.mem ((c.tc : Thread Cert.KernelOutX.nD Cert.KernelOutX.τ).loc Cert.KernelOutX.main_arg1) = m ((c.tc : Thread Cert.KernelOutX.nD Cert.KernelOutX.τ).loc Cert.KernelOutX.main_arg1)
      ∧ r.2.mem ((c.tc : Thread Cert.KernelOutX.nD Cert.KernelOutX.τ).loc Cert.KernelOutX.main_arg2) = m ((c.tc : Thread Cert.KernelOutX.nD Cert.KernelOutX.τ).loc Cert.KernelOutX.main_arg2))
      ∧ r.2.sem = fun _ => 0)

def quiescent_KernelOutXIdeal [hKernelOutXIdeal : Cert.KernelOutXIdeal.Facts] : Prop :=
  ∀ (m : (ℓ : Loc Cert.KernelOutXIdeal.nD Cert.KernelOutXIdeal.τ Cert.KernelOutXIdeal.sig) → Buf (Elt Ideal) ℓ) (g : Dev Cert.KernelOutXIdeal.nD → PrngReg), Pre_KernelOutXIdeal m →
    θ_run (Cert.KernelOutXIdeal.defs (F := Ideal)) (onTc (τ := Cert.KernelOutXIdeal.τ) (Cert.KernelOutXIdeal.main (F := Ideal))) ⟨m, fun _ => 0, g⟩ (fun r => (∀ c : Dev Cert.KernelOutXIdeal.nD,
      r.2.mem ((c.tc : Thread Cert.KernelOutXIdeal.nD Cert.KernelOutXIdeal.τ).loc Cert.KernelOutXIdeal.main_arg0) = m ((c.tc : Thread Cert.KernelOutXIdeal.nD Cert.KernelOutXIdeal.τ).loc Cert.KernelOutXIdeal.main_arg0)
      ∧ r.2.mem ((c.tc : Thread Cert.KernelOutXIdeal.nD Cert.KernelOutXIdeal.τ).loc Cert.KernelOutXIdeal.main_arg1) = m ((c.tc : Thread Cert.KernelOutXIdeal.nD Cert.KernelOutXIdeal.τ).loc Cert.KernelOutXIdeal.main_arg1)
      ∧ r.2.mem ((c.tc : Thread Cert.KernelOutXIdeal.nD Cert.KernelOutXIdeal.τ).loc Cert.KernelOutXIdeal.main_arg2) = m ((c.tc : Thread Cert.KernelOutXIdeal.nD Cert.KernelOutXIdeal.τ).loc Cert.KernelOutXIdeal.main_arg2))
      ∧ r.2.sem = fun _ => 0)

def quiescent_ReferenceOutXIdeal [hReferenceOutXIdeal : Cert.ReferenceOutXIdeal.Facts] : Prop :=
  ∀ (m : (ℓ : Loc Cert.ReferenceOutXIdeal.nD Cert.ReferenceOutXIdeal.τ Cert.ReferenceOutXIdeal.sig) → Buf (Elt Ideal) ℓ) (g : Dev Cert.ReferenceOutXIdeal.nD → PrngReg), Pre_ReferenceOutXIdeal m →
    θ_run (Cert.ReferenceOutXIdeal.defs (F := Ideal)) (onTc (τ := Cert.ReferenceOutXIdeal.τ) (Cert.ReferenceOutXIdeal.main (F := Ideal))) ⟨m, fun _ => 0, g⟩ (fun r => (∀ c : Dev Cert.ReferenceOutXIdeal.nD,
      r.2.mem ((c.tc : Thread Cert.ReferenceOutXIdeal.nD Cert.ReferenceOutXIdeal.τ).loc Cert.ReferenceOutXIdeal.main_arg0) = m ((c.tc : Thread Cert.ReferenceOutXIdeal.nD Cert.ReferenceOutXIdeal.τ).loc Cert.ReferenceOutXIdeal.main_arg0)
      ∧ r.2.mem ((c.tc : Thread Cert.ReferenceOutXIdeal.nD Cert.ReferenceOutXIdeal.τ).loc Cert.ReferenceOutXIdeal.main_arg1) = m ((c.tc : Thread Cert.ReferenceOutXIdeal.nD Cert.ReferenceOutXIdeal.τ).loc Cert.ReferenceOutXIdeal.main_arg1)
      ∧ r.2.mem ((c.tc : Thread Cert.ReferenceOutXIdeal.nD Cert.ReferenceOutXIdeal.τ).loc Cert.ReferenceOutXIdeal.main_arg2) = m ((c.tc : Thread Cert.ReferenceOutXIdeal.nD Cert.ReferenceOutXIdeal.τ).loc Cert.ReferenceOutXIdeal.main_arg2))
      ∧ r.2.sem = fun _ => 0)

def quiescent_KernelOutW [hKernelOutW : Cert.KernelOutW.Facts] : Prop :=
  ∀ (m : (ℓ : Loc Cert.KernelOutW.nD Cert.KernelOutW.τ Cert.KernelOutW.sig) → Buf (Elt Bits) ℓ) (g : Dev Cert.KernelOutW.nD → PrngReg), Pre_KernelOutW m →
    θ_run (Cert.KernelOutW.defs (F := Bits)) (onTc (τ := Cert.KernelOutW.τ) (Cert.KernelOutW.main (F := Bits))) ⟨m, fun _ => 0, g⟩ (fun r => (∀ c : Dev Cert.KernelOutW.nD,
      r.2.mem ((c.tc : Thread Cert.KernelOutW.nD Cert.KernelOutW.τ).loc Cert.KernelOutW.main_arg0) = m ((c.tc : Thread Cert.KernelOutW.nD Cert.KernelOutW.τ).loc Cert.KernelOutW.main_arg0)
      ∧ r.2.mem ((c.tc : Thread Cert.KernelOutW.nD Cert.KernelOutW.τ).loc Cert.KernelOutW.main_arg1) = m ((c.tc : Thread Cert.KernelOutW.nD Cert.KernelOutW.τ).loc Cert.KernelOutW.main_arg1)
      ∧ r.2.mem ((c.tc : Thread Cert.KernelOutW.nD Cert.KernelOutW.τ).loc Cert.KernelOutW.main_arg2) = m ((c.tc : Thread Cert.KernelOutW.nD Cert.KernelOutW.τ).loc Cert.KernelOutW.main_arg2))
      ∧ r.2.sem = fun _ => 0)

def quiescent_KernelOutWIdeal [hKernelOutWIdeal : Cert.KernelOutWIdeal.Facts] : Prop :=
  ∀ (m : (ℓ : Loc Cert.KernelOutWIdeal.nD Cert.KernelOutWIdeal.τ Cert.KernelOutWIdeal.sig) → Buf (Elt Ideal) ℓ) (g : Dev Cert.KernelOutWIdeal.nD → PrngReg), Pre_KernelOutWIdeal m →
    θ_run (Cert.KernelOutWIdeal.defs (F := Ideal)) (onTc (τ := Cert.KernelOutWIdeal.τ) (Cert.KernelOutWIdeal.main (F := Ideal))) ⟨m, fun _ => 0, g⟩ (fun r => (∀ c : Dev Cert.KernelOutWIdeal.nD,
      r.2.mem ((c.tc : Thread Cert.KernelOutWIdeal.nD Cert.KernelOutWIdeal.τ).loc Cert.KernelOutWIdeal.main_arg0) = m ((c.tc : Thread Cert.KernelOutWIdeal.nD Cert.KernelOutWIdeal.τ).loc Cert.KernelOutWIdeal.main_arg0)
      ∧ r.2.mem ((c.tc : Thread Cert.KernelOutWIdeal.nD Cert.KernelOutWIdeal.τ).loc Cert.KernelOutWIdeal.main_arg1) = m ((c.tc : Thread Cert.KernelOutWIdeal.nD Cert.KernelOutWIdeal.τ).loc Cert.KernelOutWIdeal.main_arg1)
      ∧ r.2.mem ((c.tc : Thread Cert.KernelOutWIdeal.nD Cert.KernelOutWIdeal.τ).loc Cert.KernelOutWIdeal.main_arg2) = m ((c.tc : Thread Cert.KernelOutWIdeal.nD Cert.KernelOutWIdeal.τ).loc Cert.KernelOutWIdeal.main_arg2))
      ∧ r.2.sem = fun _ => 0)

def quiescent_ReferenceOutWIdeal [hReferenceOutWIdeal : Cert.ReferenceOutWIdeal.Facts] : Prop :=
  ∀ (m : (ℓ : Loc Cert.ReferenceOutWIdeal.nD Cert.ReferenceOutWIdeal.τ Cert.ReferenceOutWIdeal.sig) → Buf (Elt Ideal) ℓ) (g : Dev Cert.ReferenceOutWIdeal.nD → PrngReg), Pre_ReferenceOutWIdeal m →
    θ_run (Cert.ReferenceOutWIdeal.defs (F := Ideal)) (onTc (τ := Cert.ReferenceOutWIdeal.τ) (Cert.ReferenceOutWIdeal.main (F := Ideal))) ⟨m, fun _ => 0, g⟩ (fun r => (∀ c : Dev Cert.ReferenceOutWIdeal.nD,
      r.2.mem ((c.tc : Thread Cert.ReferenceOutWIdeal.nD Cert.ReferenceOutWIdeal.τ).loc Cert.ReferenceOutWIdeal.main_arg0) = m ((c.tc : Thread Cert.ReferenceOutWIdeal.nD Cert.ReferenceOutWIdeal.τ).loc Cert.ReferenceOutWIdeal.main_arg0)
      ∧ r.2.mem ((c.tc : Thread Cert.ReferenceOutWIdeal.nD Cert.ReferenceOutWIdeal.τ).loc Cert.ReferenceOutWIdeal.main_arg1) = m ((c.tc : Thread Cert.ReferenceOutWIdeal.nD Cert.ReferenceOutWIdeal.τ).loc Cert.ReferenceOutWIdeal.main_arg1)
      ∧ r.2.mem ((c.tc : Thread Cert.ReferenceOutWIdeal.nD Cert.ReferenceOutWIdeal.τ).loc Cert.ReferenceOutWIdeal.main_arg2) = m ((c.tc : Thread Cert.ReferenceOutWIdeal.nD Cert.ReferenceOutWIdeal.τ).loc Cert.ReferenceOutWIdeal.main_arg2))
      ∧ r.2.sem = fun _ => 0)

def quiescent_KernelPleGateX [hKernelPleGateX : Cert.KernelPleGateX.Facts] : Prop :=
  ∀ (m : (ℓ : Loc Cert.KernelPleGateX.nD Cert.KernelPleGateX.τ Cert.KernelPleGateX.sig) → Buf (Elt Bits) ℓ) (g : Dev Cert.KernelPleGateX.nD → PrngReg), Pre_KernelPleGateX m →
    θ_run (Cert.KernelPleGateX.defs (F := Bits)) (onTc (τ := Cert.KernelPleGateX.τ) (Cert.KernelPleGateX.main (F := Bits))) ⟨m, fun _ => 0, g⟩ (fun r => (∀ c : Dev Cert.KernelPleGateX.nD,
      r.2.mem ((c.tc : Thread Cert.KernelPleGateX.nD Cert.KernelPleGateX.τ).loc Cert.KernelPleGateX.main_arg0) = m ((c.tc : Thread Cert.KernelPleGateX.nD Cert.KernelPleGateX.τ).loc Cert.KernelPleGateX.main_arg0)
      ∧ r.2.mem ((c.tc : Thread Cert.KernelPleGateX.nD Cert.KernelPleGateX.τ).loc Cert.KernelPleGateX.main_arg1) = m ((c.tc : Thread Cert.KernelPleGateX.nD Cert.KernelPleGateX.τ).loc Cert.KernelPleGateX.main_arg1)
      ∧ r.2.mem ((c.tc : Thread Cert.KernelPleGateX.nD Cert.KernelPleGateX.τ).loc Cert.KernelPleGateX.main_arg2) = m ((c.tc : Thread Cert.KernelPleGateX.nD Cert.KernelPleGateX.τ).loc Cert.KernelPleGateX.main_arg2)
      ∧ r.2.mem ((c.tc : Thread Cert.KernelPleGateX.nD Cert.KernelPleGateX.τ).loc Cert.KernelPleGateX.main_arg3) = m ((c.tc : Thread Cert.KernelPleGateX.nD Cert.KernelPleGateX.τ).loc Cert.KernelPleGateX.main_arg3))
      ∧ r.2.sem = fun _ => 0)

def quiescent_KernelPleGateXIdeal [hKernelPleGateXIdeal : Cert.KernelPleGateXIdeal.Facts] : Prop :=
  ∀ (m : (ℓ : Loc Cert.KernelPleGateXIdeal.nD Cert.KernelPleGateXIdeal.τ Cert.KernelPleGateXIdeal.sig) → Buf (Elt Ideal) ℓ) (g : Dev Cert.KernelPleGateXIdeal.nD → PrngReg), Pre_KernelPleGateXIdeal m →
    θ_run (Cert.KernelPleGateXIdeal.defs (F := Ideal)) (onTc (τ := Cert.KernelPleGateXIdeal.τ) (Cert.KernelPleGateXIdeal.main (F := Ideal))) ⟨m, fun _ => 0, g⟩ (fun r => (∀ c : Dev Cert.KernelPleGateXIdeal.nD,
      r.2.mem ((c.tc : Thread Cert.KernelPleGateXIdeal.nD Cert.KernelPleGateXIdeal.τ).loc Cert.KernelPleGateXIdeal.main_arg0) = m ((c.tc : Thread Cert.KernelPleGateXIdeal.nD Cert.KernelPleGateXIdeal.τ).loc Cert.KernelPleGateXIdeal.main_arg0)
      ∧ r.2.mem ((c.tc : Thread Cert.KernelPleGateXIdeal.nD Cert.KernelPleGateXIdeal.τ).loc Cert.KernelPleGateXIdeal.main_arg1) = m ((c.tc : Thread Cert.KernelPleGateXIdeal.nD Cert.KernelPleGateXIdeal.τ).loc Cert.KernelPleGateXIdeal.main_arg1)
      ∧ r.2.mem ((c.tc : Thread Cert.KernelPleGateXIdeal.nD Cert.KernelPleGateXIdeal.τ).loc Cert.KernelPleGateXIdeal.main_arg2) = m ((c.tc : Thread Cert.KernelPleGateXIdeal.nD Cert.KernelPleGateXIdeal.τ).loc Cert.KernelPleGateXIdeal.main_arg2)
      ∧ r.2.mem ((c.tc : Thread Cert.KernelPleGateXIdeal.nD Cert.KernelPleGateXIdeal.τ).loc Cert.KernelPleGateXIdeal.main_arg3) = m ((c.tc : Thread Cert.KernelPleGateXIdeal.nD Cert.KernelPleGateXIdeal.τ).loc Cert.KernelPleGateXIdeal.main_arg3))
      ∧ r.2.sem = fun _ => 0)

def quiescent_ReferencePleGateXIdeal [hReferencePleGateXIdeal : Cert.ReferencePleGateXIdeal.Facts] : Prop :=
  ∀ (m : (ℓ : Loc Cert.ReferencePleGateXIdeal.nD Cert.ReferencePleGateXIdeal.τ Cert.ReferencePleGateXIdeal.sig) → Buf (Elt Ideal) ℓ) (g : Dev Cert.ReferencePleGateXIdeal.nD → PrngReg), Pre_ReferencePleGateXIdeal m →
    θ_run (Cert.ReferencePleGateXIdeal.defs (F := Ideal)) (onTc (τ := Cert.ReferencePleGateXIdeal.τ) (Cert.ReferencePleGateXIdeal.main (F := Ideal))) ⟨m, fun _ => 0, g⟩ (fun r => (∀ c : Dev Cert.ReferencePleGateXIdeal.nD,
      r.2.mem ((c.tc : Thread Cert.ReferencePleGateXIdeal.nD Cert.ReferencePleGateXIdeal.τ).loc Cert.ReferencePleGateXIdeal.main_arg0) = m ((c.tc : Thread Cert.ReferencePleGateXIdeal.nD Cert.ReferencePleGateXIdeal.τ).loc Cert.ReferencePleGateXIdeal.main_arg0)
      ∧ r.2.mem ((c.tc : Thread Cert.ReferencePleGateXIdeal.nD Cert.ReferencePleGateXIdeal.τ).loc Cert.ReferencePleGateXIdeal.main_arg1) = m ((c.tc : Thread Cert.ReferencePleGateXIdeal.nD Cert.ReferencePleGateXIdeal.τ).loc Cert.ReferencePleGateXIdeal.main_arg1)
      ∧ r.2.mem ((c.tc : Thread Cert.ReferencePleGateXIdeal.nD Cert.ReferencePleGateXIdeal.τ).loc Cert.ReferencePleGateXIdeal.main_arg2) = m ((c.tc : Thread Cert.ReferencePleGateXIdeal.nD Cert.ReferencePleGateXIdeal.τ).loc Cert.ReferencePleGateXIdeal.main_arg2)
      ∧ r.2.mem ((c.tc : Thread Cert.ReferencePleGateXIdeal.nD Cert.ReferencePleGateXIdeal.τ).loc Cert.ReferencePleGateXIdeal.main_arg3) = m ((c.tc : Thread Cert.ReferencePleGateXIdeal.nD Cert.ReferencePleGateXIdeal.τ).loc Cert.ReferencePleGateXIdeal.main_arg3))
      ∧ r.2.sem = fun _ => 0)

def quiescent_KernelPleW [hKernelPleW : Cert.KernelPleW.Facts] : Prop :=
  ∀ (m : (ℓ : Loc Cert.KernelPleW.nD Cert.KernelPleW.τ Cert.KernelPleW.sig) → Buf (Elt Bits) ℓ) (g : Dev Cert.KernelPleW.nD → PrngReg), Pre_KernelPleW m →
    θ_run (Cert.KernelPleW.defs (F := Bits)) (onTc (τ := Cert.KernelPleW.τ) (Cert.KernelPleW.main (F := Bits))) ⟨m, fun _ => 0, g⟩ (fun r => (∀ c : Dev Cert.KernelPleW.nD,
      r.2.mem ((c.tc : Thread Cert.KernelPleW.nD Cert.KernelPleW.τ).loc Cert.KernelPleW.main_arg0) = m ((c.tc : Thread Cert.KernelPleW.nD Cert.KernelPleW.τ).loc Cert.KernelPleW.main_arg0)
      ∧ r.2.mem ((c.tc : Thread Cert.KernelPleW.nD Cert.KernelPleW.τ).loc Cert.KernelPleW.main_arg1) = m ((c.tc : Thread Cert.KernelPleW.nD Cert.KernelPleW.τ).loc Cert.KernelPleW.main_arg1)
      ∧ r.2.mem ((c.tc : Thread Cert.KernelPleW.nD Cert.KernelPleW.τ).loc Cert.KernelPleW.main_arg2) = m ((c.tc : Thread Cert.KernelPleW.nD Cert.KernelPleW.τ).loc Cert.KernelPleW.main_arg2))
      ∧ r.2.sem = fun _ => 0)

def quiescent_KernelPleWIdeal [hKernelPleWIdeal : Cert.KernelPleWIdeal.Facts] : Prop :=
  ∀ (m : (ℓ : Loc Cert.KernelPleWIdeal.nD Cert.KernelPleWIdeal.τ Cert.KernelPleWIdeal.sig) → Buf (Elt Ideal) ℓ) (g : Dev Cert.KernelPleWIdeal.nD → PrngReg), Pre_KernelPleWIdeal m →
    θ_run (Cert.KernelPleWIdeal.defs (F := Ideal)) (onTc (τ := Cert.KernelPleWIdeal.τ) (Cert.KernelPleWIdeal.main (F := Ideal))) ⟨m, fun _ => 0, g⟩ (fun r => (∀ c : Dev Cert.KernelPleWIdeal.nD,
      r.2.mem ((c.tc : Thread Cert.KernelPleWIdeal.nD Cert.KernelPleWIdeal.τ).loc Cert.KernelPleWIdeal.main_arg0) = m ((c.tc : Thread Cert.KernelPleWIdeal.nD Cert.KernelPleWIdeal.τ).loc Cert.KernelPleWIdeal.main_arg0)
      ∧ r.2.mem ((c.tc : Thread Cert.KernelPleWIdeal.nD Cert.KernelPleWIdeal.τ).loc Cert.KernelPleWIdeal.main_arg1) = m ((c.tc : Thread Cert.KernelPleWIdeal.nD Cert.KernelPleWIdeal.τ).loc Cert.KernelPleWIdeal.main_arg1)
      ∧ r.2.mem ((c.tc : Thread Cert.KernelPleWIdeal.nD Cert.KernelPleWIdeal.τ).loc Cert.KernelPleWIdeal.main_arg2) = m ((c.tc : Thread Cert.KernelPleWIdeal.nD Cert.KernelPleWIdeal.τ).loc Cert.KernelPleWIdeal.main_arg2))
      ∧ r.2.sem = fun _ => 0)

def quiescent_ReferencePleWIdeal [hReferencePleWIdeal : Cert.ReferencePleWIdeal.Facts] : Prop :=
  ∀ (m : (ℓ : Loc Cert.ReferencePleWIdeal.nD Cert.ReferencePleWIdeal.τ Cert.ReferencePleWIdeal.sig) → Buf (Elt Ideal) ℓ) (g : Dev Cert.ReferencePleWIdeal.nD → PrngReg), Pre_ReferencePleWIdeal m →
    θ_run (Cert.ReferencePleWIdeal.defs (F := Ideal)) (onTc (τ := Cert.ReferencePleWIdeal.τ) (Cert.ReferencePleWIdeal.main (F := Ideal))) ⟨m, fun _ => 0, g⟩ (fun r => (∀ c : Dev Cert.ReferencePleWIdeal.nD,
      r.2.mem ((c.tc : Thread Cert.ReferencePleWIdeal.nD Cert.ReferencePleWIdeal.τ).loc Cert.ReferencePleWIdeal.main_arg0) = m ((c.tc : Thread Cert.ReferencePleWIdeal.nD Cert.ReferencePleWIdeal.τ).loc Cert.ReferencePleWIdeal.main_arg0)
      ∧ r.2.mem ((c.tc : Thread Cert.ReferencePleWIdeal.nD Cert.ReferencePleWIdeal.τ).loc Cert.ReferencePleWIdeal.main_arg1) = m ((c.tc : Thread Cert.ReferencePleWIdeal.nD Cert.ReferencePleWIdeal.τ).loc Cert.ReferencePleWIdeal.main_arg1)
      ∧ r.2.mem ((c.tc : Thread Cert.ReferencePleWIdeal.nD Cert.ReferencePleWIdeal.τ).loc Cert.ReferencePleWIdeal.main_arg2) = m ((c.tc : Thread Cert.ReferencePleWIdeal.nD Cert.ReferencePleWIdeal.τ).loc Cert.ReferencePleWIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1))
      ∧ r.2.sem = fun _ => 0)

def quiescent_KernelFf1 [hKernelFf1 : Cert.KernelFf1.Facts] : Prop :=
  ∀ (m : (ℓ : Loc Cert.KernelFf1.nD Cert.KernelFf1.τ Cert.KernelFf1.sig) → Buf (Elt Bits) ℓ) (g : Dev Cert.KernelFf1.nD → PrngReg), Pre_KernelFf1 m →
    θ_run (Cert.KernelFf1.defs (F := Bits)) (onTc (τ := Cert.KernelFf1.τ) (Cert.KernelFf1.main (F := Bits))) ⟨m, fun _ => 0, g⟩ (fun r => (∀ c : Dev Cert.KernelFf1.nD,
      r.2.mem ((c.tc : Thread Cert.KernelFf1.nD Cert.KernelFf1.τ).loc Cert.KernelFf1.main_arg0) = m ((c.tc : Thread Cert.KernelFf1.nD Cert.KernelFf1.τ).loc Cert.KernelFf1.main_arg0)
      ∧ r.2.mem ((c.tc : Thread Cert.KernelFf1.nD Cert.KernelFf1.τ).loc Cert.KernelFf1.main_arg1) = m ((c.tc : Thread Cert.KernelFf1.nD Cert.KernelFf1.τ).loc Cert.KernelFf1.main_arg1))
      ∧ r.2.sem = fun _ => 0)

def quiescent_KernelFf1Ideal [hKernelFf1Ideal : Cert.KernelFf1Ideal.Facts] : Prop :=
  ∀ (m : (ℓ : Loc Cert.KernelFf1Ideal.nD Cert.KernelFf1Ideal.τ Cert.KernelFf1Ideal.sig) → Buf (Elt Ideal) ℓ) (g : Dev Cert.KernelFf1Ideal.nD → PrngReg), Pre_KernelFf1Ideal m →
    θ_run (Cert.KernelFf1Ideal.defs (F := Ideal)) (onTc (τ := Cert.KernelFf1Ideal.τ) (Cert.KernelFf1Ideal.main (F := Ideal))) ⟨m, fun _ => 0, g⟩ (fun r => (∀ c : Dev Cert.KernelFf1Ideal.nD,
      r.2.mem ((c.tc : Thread Cert.KernelFf1Ideal.nD Cert.KernelFf1Ideal.τ).loc Cert.KernelFf1Ideal.main_arg0) = m ((c.tc : Thread Cert.KernelFf1Ideal.nD Cert.KernelFf1Ideal.τ).loc Cert.KernelFf1Ideal.main_arg0)
      ∧ r.2.mem ((c.tc : Thread Cert.KernelFf1Ideal.nD Cert.KernelFf1Ideal.τ).loc Cert.KernelFf1Ideal.main_arg1) = m ((c.tc : Thread Cert.KernelFf1Ideal.nD Cert.KernelFf1Ideal.τ).loc Cert.KernelFf1Ideal.main_arg1))
      ∧ r.2.sem = fun _ => 0)

def quiescent_ReferenceFf1Ideal [hReferenceFf1Ideal : Cert.ReferenceFf1Ideal.Facts] : Prop :=
  ∀ (m : (ℓ : Loc Cert.ReferenceFf1Ideal.nD Cert.ReferenceFf1Ideal.τ Cert.ReferenceFf1Ideal.sig) → Buf (Elt Ideal) ℓ) (g : Dev Cert.ReferenceFf1Ideal.nD → PrngReg), Pre_ReferenceFf1Ideal m →
    θ_run (Cert.ReferenceFf1Ideal.defs (F := Ideal)) (onTc (τ := Cert.ReferenceFf1Ideal.τ) (Cert.ReferenceFf1Ideal.main (F := Ideal))) ⟨m, fun _ => 0, g⟩ (fun r => (∀ c : Dev Cert.ReferenceFf1Ideal.nD,
      r.2.mem ((c.tc : Thread Cert.ReferenceFf1Ideal.nD Cert.ReferenceFf1Ideal.τ).loc Cert.ReferenceFf1Ideal.main_arg0) = m ((c.tc : Thread Cert.ReferenceFf1Ideal.nD Cert.ReferenceFf1Ideal.τ).loc Cert.ReferenceFf1Ideal.main_arg0)
      ∧ r.2.mem ((c.tc : Thread Cert.ReferenceFf1Ideal.nD Cert.ReferenceFf1Ideal.τ).loc Cert.ReferenceFf1Ideal.main_arg1) = m ((c.tc : Thread Cert.ReferenceFf1Ideal.nD Cert.ReferenceFf1Ideal.τ).loc Cert.ReferenceFf1Ideal.main_arg1))
      ∧ r.2.sem = fun _ => 0)

def quiescent_KernelFf2 [hKernelFf2 : Cert.KernelFf2.Facts] : Prop :=
  ∀ (m : (ℓ : Loc Cert.KernelFf2.nD Cert.KernelFf2.τ Cert.KernelFf2.sig) → Buf (Elt Bits) ℓ) (g : Dev Cert.KernelFf2.nD → PrngReg), Pre_KernelFf2 m →
    θ_run (Cert.KernelFf2.defs (F := Bits)) (onTc (τ := Cert.KernelFf2.τ) (Cert.KernelFf2.main (F := Bits))) ⟨m, fun _ => 0, g⟩ (fun r => (∀ c : Dev Cert.KernelFf2.nD,
      r.2.mem ((c.tc : Thread Cert.KernelFf2.nD Cert.KernelFf2.τ).loc Cert.KernelFf2.main_arg0) = m ((c.tc : Thread Cert.KernelFf2.nD Cert.KernelFf2.τ).loc Cert.KernelFf2.main_arg0)
      ∧ r.2.mem ((c.tc : Thread Cert.KernelFf2.nD Cert.KernelFf2.τ).loc Cert.KernelFf2.main_arg1) = m ((c.tc : Thread Cert.KernelFf2.nD Cert.KernelFf2.τ).loc Cert.KernelFf2.main_arg1))
      ∧ r.2.sem = fun _ => 0)

def quiescent_KernelFf2Ideal [hKernelFf2Ideal : Cert.KernelFf2Ideal.Facts] : Prop :=
  ∀ (m : (ℓ : Loc Cert.KernelFf2Ideal.nD Cert.KernelFf2Ideal.τ Cert.KernelFf2Ideal.sig) → Buf (Elt Ideal) ℓ) (g : Dev Cert.KernelFf2Ideal.nD → PrngReg), Pre_KernelFf2Ideal m →
    θ_run (Cert.KernelFf2Ideal.defs (F := Ideal)) (onTc (τ := Cert.KernelFf2Ideal.τ) (Cert.KernelFf2Ideal.main (F := Ideal))) ⟨m, fun _ => 0, g⟩ (fun r => (∀ c : Dev Cert.KernelFf2Ideal.nD,
      r.2.mem ((c.tc : Thread Cert.KernelFf2Ideal.nD Cert.KernelFf2Ideal.τ).loc Cert.KernelFf2Ideal.main_arg0) = m ((c.tc : Thread Cert.KernelFf2Ideal.nD Cert.KernelFf2Ideal.τ).loc Cert.KernelFf2Ideal.main_arg0)
      ∧ r.2.mem ((c.tc : Thread Cert.KernelFf2Ideal.nD Cert.KernelFf2Ideal.τ).loc Cert.KernelFf2Ideal.main_arg1) = m ((c.tc : Thread Cert.KernelFf2Ideal.nD Cert.KernelFf2Ideal.τ).loc Cert.KernelFf2Ideal.main_arg1))
      ∧ r.2.sem = fun _ => 0)

def quiescent_ReferenceFf2Ideal [hReferenceFf2Ideal : Cert.ReferenceFf2Ideal.Facts] : Prop :=
  ∀ (m : (ℓ : Loc Cert.ReferenceFf2Ideal.nD Cert.ReferenceFf2Ideal.τ Cert.ReferenceFf2Ideal.sig) → Buf (Elt Ideal) ℓ) (g : Dev Cert.ReferenceFf2Ideal.nD → PrngReg), Pre_ReferenceFf2Ideal m →
    θ_run (Cert.ReferenceFf2Ideal.defs (F := Ideal)) (onTc (τ := Cert.ReferenceFf2Ideal.τ) (Cert.ReferenceFf2Ideal.main (F := Ideal))) ⟨m, fun _ => 0, g⟩ (fun r => (∀ c : Dev Cert.ReferenceFf2Ideal.nD,
      r.2.mem ((c.tc : Thread Cert.ReferenceFf2Ideal.nD Cert.ReferenceFf2Ideal.τ).loc Cert.ReferenceFf2Ideal.main_arg0) = m ((c.tc : Thread Cert.ReferenceFf2Ideal.nD Cert.ReferenceFf2Ideal.τ).loc Cert.ReferenceFf2Ideal.main_arg0)
      ∧ r.2.mem ((c.tc : Thread Cert.ReferenceFf2Ideal.nD Cert.ReferenceFf2Ideal.τ).loc Cert.ReferenceFf2Ideal.main_arg1) = m ((c.tc : Thread Cert.ReferenceFf2Ideal.nD Cert.ReferenceFf2Ideal.τ).loc Cert.ReferenceFf2Ideal.main_arg1))
      ∧ r.2.sem = fun _ => 0)

def quiescent_KernelSsd [hKernelSsd : Cert.KernelSsd.Facts] : Prop :=
  ∀ (m : (ℓ : Loc Cert.KernelSsd.nD Cert.KernelSsd.τ Cert.KernelSsd.sig) → Buf (Elt Bits) ℓ) (g : Dev Cert.KernelSsd.nD → PrngReg), Pre_KernelSsd m →
    θ_run (Cert.KernelSsd.defs (F := Bits)) (onTc (τ := Cert.KernelSsd.τ) (Cert.KernelSsd.main (F := Bits))) ⟨m, fun _ => 0, g⟩ (fun r => (∀ c : Dev Cert.KernelSsd.nD,
      r.2.mem ((c.tc : Thread Cert.KernelSsd.nD Cert.KernelSsd.τ).loc Cert.KernelSsd.main_arg0) = m ((c.tc : Thread Cert.KernelSsd.nD Cert.KernelSsd.τ).loc Cert.KernelSsd.main_arg0)
      ∧ r.2.mem ((c.tc : Thread Cert.KernelSsd.nD Cert.KernelSsd.τ).loc Cert.KernelSsd.main_arg1) = m ((c.tc : Thread Cert.KernelSsd.nD Cert.KernelSsd.τ).loc Cert.KernelSsd.main_arg1))
      ∧ r.2.sem = fun _ => 0)

def quiescent_KernelSsdIdeal [hKernelSsdIdeal : Cert.KernelSsdIdeal.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg), Pre_KernelSsdIdeal m →
    θ_run (Cert.KernelSsdIdeal.defs (F := Ideal)) (onTc (τ := Cert.KernelSsdIdeal.τ) (Cert.KernelSsdIdeal.main (F := Ideal))) ⟨m, fun _ => 0, g⟩ (fun r => (∀ c : Dev Cert.KernelSsdIdeal.nD,
      r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
      ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1))
      ∧ r.2.sem = fun _ => 0)

def quiescent_ReferenceSsdIdeal [hReferenceSsdIdeal : Cert.ReferenceSsdIdeal.Facts] : Prop :=
  ∀ (m : (ℓ : Loc Cert.ReferenceSsdIdeal.nD Cert.ReferenceSsdIdeal.τ Cert.ReferenceSsdIdeal.sig) → Buf (Elt Ideal) ℓ) (g : Dev Cert.ReferenceSsdIdeal.nD → PrngReg), Pre_ReferenceSsdIdeal m →
    θ_run (Cert.ReferenceSsdIdeal.defs (F := Ideal)) (onTc (τ := Cert.ReferenceSsdIdeal.τ) (Cert.ReferenceSsdIdeal.main (F := Ideal))) ⟨m, fun _ => 0, g⟩ (fun r => (∀ c : Dev Cert.ReferenceSsdIdeal.nD,
      r.2.mem ((c.tc : Thread Cert.ReferenceSsdIdeal.nD Cert.ReferenceSsdIdeal.τ).loc Cert.ReferenceSsdIdeal.main_arg0) = m ((c.tc : Thread Cert.ReferenceSsdIdeal.nD Cert.ReferenceSsdIdeal.τ).loc Cert.ReferenceSsdIdeal.main_arg0)
      ∧ r.2.mem ((c.tc : Thread Cert.ReferenceSsdIdeal.nD Cert.ReferenceSsdIdeal.τ).loc Cert.ReferenceSsdIdeal.main_arg1) = m ((c.tc : Thread Cert.ReferenceSsdIdeal.nD Cert.ReferenceSsdIdeal.τ).loc Cert.ReferenceSsdIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelPle [hKernelPle : Cert.KernelPle.Facts] : Prop :=
  ∀ (m : (ℓ : Loc Cert.KernelPle.nD Cert.KernelPle.τ Cert.KernelPle.sig) → Buf (Elt Bits) ℓ) (g : Dev Cert.KernelPle.nD → PrngReg), Pre_KernelPle m →
    θ_run (Cert.KernelPle.defs (F := Bits)) (onTc (τ := Cert.KernelPle.τ) (Cert.KernelPle.main (F := Bits))) ⟨m, fun _ => 0, g⟩ (fun r => (∀ c : Dev Cert.KernelPle.nD,
      r.2.mem ((c.tc : Thread Cert.KernelPle.nD Cert.KernelPle.τ).loc Cert.KernelPle.main_arg0) = m ((c.tc : Thread Cert.KernelPle.nD Cert.KernelPle.τ).loc Cert.KernelPle.main_arg0)
      ∧ r.2.mem ((c.tc : Thread Cert.KernelPle.nD Cert.KernelPle.τ).loc Cert.KernelPle.main_arg1) = m ((c.tc : Thread Cert.KernelPle.nD Cert.KernelPle.τ).loc Cert.KernelPle.main_arg1))
      ∧ r.2.sem = fun _ => 0)

def quiescent_KernelPleIdeal [hKernelPleIdeal : Cert.KernelPleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg), Pre_KernelPleIdeal m →
    θ_run (Cert.KernelPleIdeal.defs (F := Ideal)) (onTc (τ := Cert.KernelPleIdeal.τ) (Cert.KernelPleIdeal.main (F := Ideal))) ⟨m, fun _ => 0, g⟩ (fun r => (∀ c : Dev Cert.KernelPleIdeal.nD,
      r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
      ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1))
      ∧ r.2.sem = fun _ => 0)

def quiescent_ReferencePleIdeal [hReferencePleIdeal : Cert.ReferencePleIdeal.Facts] : Prop :=
  ∀ (m : (ℓ : Loc Cert.ReferencePleIdeal.nD Cert.ReferencePleIdeal.τ Cert.ReferencePleIdeal.sig) → Buf (Elt Ideal) ℓ) (g : Dev Cert.ReferencePleIdeal.nD → PrngReg), Pre_ReferencePleIdeal m →
    θ_run (Cert.ReferencePleIdeal.defs (F := Ideal)) (onTc (τ := Cert.ReferencePleIdeal.τ) (Cert.ReferencePleIdeal.main (F := Ideal))) ⟨m, fun _ => 0, g⟩ (fun r => (∀ c : Dev Cert.ReferencePleIdeal.nD,
      r.2.mem ((c.tc : Thread Cert.ReferencePleIdeal.nD Cert.ReferencePleIdeal.τ).loc Cert.ReferencePleIdeal.main_arg0) = m ((c.tc : Thread Cert.ReferencePleIdeal.nD Cert.ReferencePleIdeal.τ).loc Cert.ReferencePleIdeal.main_arg0)
      ∧ r.2.mem ((c.tc : Thread Cert.ReferencePleIdeal.nD Cert.ReferencePleIdeal.τ).loc Cert.ReferencePleIdeal.main_arg1) = m ((c.tc : Thread Cert.ReferencePleIdeal.nD Cert.ReferencePleIdeal.τ).loc Cert.ReferencePleIdeal.main_arg1))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1)
      ∧ r.2.mem ((c.tc : Thread Cert.KernelGates.nD Cert.KernelGates.τ).loc Cert.KernelGates.main_arg2) = m ((c.tc : Thread Cert.KernelGates.nD Cert.KernelGates.τ).loc Cert.KernelGates.main_arg2)
      ∧ r.2.mem ((c.tc : Thread Cert.KernelGates.nD Cert.KernelGates.τ).loc Cert.KernelGates.main_arg3) = m ((c.tc : Thread Cert.KernelGates.nD Cert.KernelGates.τ).loc Cert.KernelGates.main_arg3)
      ∧ r.2.mem ((c.tc : Thread Cert.KernelGates.nD Cert.KernelGates.τ).loc Cert.KernelGates.main_arg4) = m ((c.tc : Thread Cert.KernelGates.nD Cert.KernelGates.τ).loc Cert.KernelGates.main_arg4))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
      ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2)
      ∧ r.2.mem ((c.tc : Thread Cert.KernelGatesIdeal.nD Cert.KernelGatesIdeal.τ).loc Cert.KernelGatesIdeal.main_arg3) = m ((c.tc : Thread Cert.KernelGatesIdeal.nD Cert.KernelGatesIdeal.τ).loc Cert.KernelGatesIdeal.main_arg3)
      ∧ r.2.mem ((c.tc : Thread Cert.KernelGatesIdeal.nD Cert.KernelGatesIdeal.τ).loc Cert.KernelGatesIdeal.main_arg4) = m ((c.tc : Thread Cert.KernelGatesIdeal.nD Cert.KernelGatesIdeal.τ).loc Cert.KernelGatesIdeal.main_arg4))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1)
      ∧ r.2.mem ((c.tc : Thread Cert.ReferenceGatesIdeal.nD Cert.ReferenceGatesIdeal.τ).loc Cert.ReferenceGatesIdeal.main_arg2) = m ((c.tc : Thread Cert.ReferenceGatesIdeal.nD Cert.ReferenceGatesIdeal.τ).loc Cert.ReferenceGatesIdeal.main_arg2)
      ∧ r.2.mem ((c.tc : Thread Cert.ReferenceGatesIdeal.nD Cert.ReferenceGatesIdeal.τ).loc Cert.ReferenceGatesIdeal.main_arg3) = m ((c.tc : Thread Cert.ReferenceGatesIdeal.nD Cert.ReferenceGatesIdeal.τ).loc Cert.ReferenceGatesIdeal.main_arg3)
      ∧ r.2.mem ((c.tc : Thread Cert.ReferenceGatesIdeal.nD Cert.ReferenceGatesIdeal.τ).loc Cert.ReferenceGatesIdeal.main_arg4) = m ((c.tc : Thread Cert.ReferenceGatesIdeal.nD Cert.ReferenceGatesIdeal.τ).loc Cert.ReferenceGatesIdeal.main_arg4))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def quiescent_KernelMidGrad [hKernelMidGrad : Cert.KernelMidGrad.Facts] : Prop :=
  ∀ (m : (ℓ : Loc Cert.KernelMidGrad.nD Cert.KernelMidGrad.τ Cert.KernelMidGrad.sig) → Buf (Elt Bits) ℓ) (g : Dev Cert.KernelMidGrad.nD → PrngReg), Pre_KernelMidGrad m →
    θ_run (Cert.KernelMidGrad.defs (F := Bits)) (onTc (τ := Cert.KernelMidGrad.τ) (Cert.KernelMidGrad.main (F := Bits))) ⟨m, fun _ => 0, g⟩ (fun r => (∀ c : Dev Cert.KernelMidGrad.nD,
      r.2.mem ((c.tc : Thread Cert.KernelMidGrad.nD Cert.KernelMidGrad.τ).loc Cert.KernelMidGrad.main_arg0) = m ((c.tc : Thread Cert.KernelMidGrad.nD Cert.KernelMidGrad.τ).loc Cert.KernelMidGrad.main_arg0)
      ∧ r.2.mem ((c.tc : Thread Cert.KernelMidGrad.nD Cert.KernelMidGrad.τ).loc Cert.KernelMidGrad.main_arg1) = m ((c.tc : Thread Cert.KernelMidGrad.nD Cert.KernelMidGrad.τ).loc Cert.KernelMidGrad.main_arg1)
      ∧ r.2.mem ((c.tc : Thread Cert.KernelMidGrad.nD Cert.KernelMidGrad.τ).loc Cert.KernelMidGrad.main_arg2) = m ((c.tc : Thread Cert.KernelMidGrad.nD Cert.KernelMidGrad.τ).loc Cert.KernelMidGrad.main_arg2)
      ∧ r.2.mem ((c.tc : Thread Cert.KernelMidGrad.nD Cert.KernelMidGrad.τ).loc Cert.KernelMidGrad.main_arg3) = m ((c.tc : Thread Cert.KernelMidGrad.nD Cert.KernelMidGrad.τ).loc Cert.KernelMidGrad.main_arg3)
      ∧ r.2.mem ((c.tc : Thread Cert.KernelMidGrad.nD Cert.KernelMidGrad.τ).loc Cert.KernelMidGrad.main_arg4) = m ((c.tc : Thread Cert.KernelMidGrad.nD Cert.KernelMidGrad.τ).loc Cert.KernelMidGrad.main_arg4)
      ∧ r.2.mem ((c.tc : Thread Cert.KernelMidGrad.nD Cert.KernelMidGrad.τ).loc Cert.KernelMidGrad.main_arg5) = m ((c.tc : Thread Cert.KernelMidGrad.nD Cert.KernelMidGrad.τ).loc Cert.KernelMidGrad.main_arg5))
      ∧ r.2.sem = fun _ => 0)

def quiescent_KernelMidGradIdeal [hKernelMidGradIdeal : Cert.KernelMidGradIdeal.Facts] : Prop :=
  ∀ (m : (ℓ : Loc Cert.KernelMidGradIdeal.nD Cert.KernelMidGradIdeal.τ Cert.KernelMidGradIdeal.sig) → Buf (Elt Ideal) ℓ) (g : Dev Cert.KernelMidGradIdeal.nD → PrngReg), Pre_KernelMidGradIdeal m →
    θ_run (Cert.KernelMidGradIdeal.defs (F := Ideal)) (onTc (τ := Cert.KernelMidGradIdeal.τ) (Cert.KernelMidGradIdeal.main (F := Ideal))) ⟨m, fun _ => 0, g⟩ (fun r => (∀ c : Dev Cert.KernelMidGradIdeal.nD,
      r.2.mem ((c.tc : Thread Cert.KernelMidGradIdeal.nD Cert.KernelMidGradIdeal.τ).loc Cert.KernelMidGradIdeal.main_arg0) = m ((c.tc : Thread Cert.KernelMidGradIdeal.nD Cert.KernelMidGradIdeal.τ).loc Cert.KernelMidGradIdeal.main_arg0)
      ∧ r.2.mem ((c.tc : Thread Cert.KernelMidGradIdeal.nD Cert.KernelMidGradIdeal.τ).loc Cert.KernelMidGradIdeal.main_arg1) = m ((c.tc : Thread Cert.KernelMidGradIdeal.nD Cert.KernelMidGradIdeal.τ).loc Cert.KernelMidGradIdeal.main_arg1)
      ∧ r.2.mem ((c.tc : Thread Cert.KernelMidGradIdeal.nD Cert.KernelMidGradIdeal.τ).loc Cert.KernelMidGradIdeal.main_arg2) = m ((c.tc : Thread Cert.KernelMidGradIdeal.nD Cert.KernelMidGradIdeal.τ).loc Cert.KernelMidGradIdeal.main_arg2)
      ∧ r.2.mem ((c.tc : Thread Cert.KernelMidGradIdeal.nD Cert.KernelMidGradIdeal.τ).loc Cert.KernelMidGradIdeal.main_arg3) = m ((c.tc : Thread Cert.KernelMidGradIdeal.nD Cert.KernelMidGradIdeal.τ).loc Cert.KernelMidGradIdeal.main_arg3)
      ∧ r.2.mem ((c.tc : Thread Cert.KernelMidGradIdeal.nD Cert.KernelMidGradIdeal.τ).loc Cert.KernelMidGradIdeal.main_arg4) = m ((c.tc : Thread Cert.KernelMidGradIdeal.nD Cert.KernelMidGradIdeal.τ).loc Cert.KernelMidGradIdeal.main_arg4)
      ∧ r.2.mem ((c.tc : Thread Cert.KernelMidGradIdeal.nD Cert.KernelMidGradIdeal.τ).loc Cert.KernelMidGradIdeal.main_arg5) = m ((c.tc : Thread Cert.KernelMidGradIdeal.nD Cert.KernelMidGradIdeal.τ).loc Cert.KernelMidGradIdeal.main_arg5))
      ∧ r.2.sem = fun _ => 0)

def quiescent_ReferenceMidGradIdeal [hReferenceMidGradIdeal : Cert.ReferenceMidGradIdeal.Facts] : Prop :=
  ∀ (m : (ℓ : Loc Cert.ReferenceMidGradIdeal.nD Cert.ReferenceMidGradIdeal.τ Cert.ReferenceMidGradIdeal.sig) → Buf (Elt Ideal) ℓ) (g : Dev Cert.ReferenceMidGradIdeal.nD → PrngReg), Pre_ReferenceMidGradIdeal m →
    θ_run (Cert.ReferenceMidGradIdeal.defs (F := Ideal)) (onTc (τ := Cert.ReferenceMidGradIdeal.τ) (Cert.ReferenceMidGradIdeal.main (F := Ideal))) ⟨m, fun _ => 0, g⟩ (fun r => (∀ c : Dev Cert.ReferenceMidGradIdeal.nD,
      r.2.mem ((c.tc : Thread Cert.ReferenceMidGradIdeal.nD Cert.ReferenceMidGradIdeal.τ).loc Cert.ReferenceMidGradIdeal.main_arg0) = m ((c.tc : Thread Cert.ReferenceMidGradIdeal.nD Cert.ReferenceMidGradIdeal.τ).loc Cert.ReferenceMidGradIdeal.main_arg0)
      ∧ r.2.mem ((c.tc : Thread Cert.ReferenceMidGradIdeal.nD Cert.ReferenceMidGradIdeal.τ).loc Cert.ReferenceMidGradIdeal.main_arg1) = m ((c.tc : Thread Cert.ReferenceMidGradIdeal.nD Cert.ReferenceMidGradIdeal.τ).loc Cert.ReferenceMidGradIdeal.main_arg1)
      ∧ r.2.mem ((c.tc : Thread Cert.ReferenceMidGradIdeal.nD Cert.ReferenceMidGradIdeal.τ).loc Cert.ReferenceMidGradIdeal.main_arg2) = m ((c.tc : Thread Cert.ReferenceMidGradIdeal.nD Cert.ReferenceMidGradIdeal.τ).loc Cert.ReferenceMidGradIdeal.main_arg2)
      ∧ r.2.mem ((c.tc : Thread Cert.ReferenceMidGradIdeal.nD Cert.ReferenceMidGradIdeal.τ).loc Cert.ReferenceMidGradIdeal.main_arg3) = m ((c.tc : Thread Cert.ReferenceMidGradIdeal.nD Cert.ReferenceMidGradIdeal.τ).loc Cert.ReferenceMidGradIdeal.main_arg3)
      ∧ r.2.mem ((c.tc : Thread Cert.ReferenceMidGradIdeal.nD Cert.ReferenceMidGradIdeal.τ).loc Cert.ReferenceMidGradIdeal.main_arg4) = m ((c.tc : Thread Cert.ReferenceMidGradIdeal.nD Cert.ReferenceMidGradIdeal.τ).loc Cert.ReferenceMidGradIdeal.main_arg4)
      ∧ r.2.mem ((c.tc : Thread Cert.ReferenceMidGradIdeal.nD Cert.ReferenceMidGradIdeal.τ).loc Cert.ReferenceMidGradIdeal.main_arg5) = m ((c.tc : Thread Cert.ReferenceMidGradIdeal.nD Cert.ReferenceMidGradIdeal.τ).loc Cert.ReferenceMidGradIdeal.main_arg5))
      ∧ r.2.sem = fun _ => 0)

def quiescent_KernelFfnGrad [hKernelFfnGrad : Cert.KernelFfnGrad.Facts] : Prop :=
  ∀ (m : (ℓ : Loc Cert.KernelFfnGrad.nD Cert.KernelFfnGrad.τ Cert.KernelFfnGrad.sig) → Buf (Elt Bits) ℓ) (g : Dev Cert.KernelFfnGrad.nD → PrngReg), Pre_KernelFfnGrad m →
    θ_run (Cert.KernelFfnGrad.defs (F := Bits)) (onTc (τ := Cert.KernelFfnGrad.τ) (Cert.KernelFfnGrad.main (F := Bits))) ⟨m, fun _ => 0, g⟩ (fun r => (∀ c : Dev Cert.KernelFfnGrad.nD,
      r.2.mem ((c.tc : Thread Cert.KernelFfnGrad.nD Cert.KernelFfnGrad.τ).loc Cert.KernelFfnGrad.main_arg0) = m ((c.tc : Thread Cert.KernelFfnGrad.nD Cert.KernelFfnGrad.τ).loc Cert.KernelFfnGrad.main_arg0)
      ∧ r.2.mem ((c.tc : Thread Cert.KernelFfnGrad.nD Cert.KernelFfnGrad.τ).loc Cert.KernelFfnGrad.main_arg1) = m ((c.tc : Thread Cert.KernelFfnGrad.nD Cert.KernelFfnGrad.τ).loc Cert.KernelFfnGrad.main_arg1)
      ∧ r.2.mem ((c.tc : Thread Cert.KernelFfnGrad.nD Cert.KernelFfnGrad.τ).loc Cert.KernelFfnGrad.main_arg2) = m ((c.tc : Thread Cert.KernelFfnGrad.nD Cert.KernelFfnGrad.τ).loc Cert.KernelFfnGrad.main_arg2))
      ∧ r.2.sem = fun _ => 0)

def quiescent_KernelFfnGradIdeal [hKernelFfnGradIdeal : Cert.KernelFfnGradIdeal.Facts] : Prop :=
  ∀ (m : (ℓ : Loc Cert.KernelFfnGradIdeal.nD Cert.KernelFfnGradIdeal.τ Cert.KernelFfnGradIdeal.sig) → Buf (Elt Ideal) ℓ) (g : Dev Cert.KernelFfnGradIdeal.nD → PrngReg), Pre_KernelFfnGradIdeal m →
    θ_run (Cert.KernelFfnGradIdeal.defs (F := Ideal)) (onTc (τ := Cert.KernelFfnGradIdeal.τ) (Cert.KernelFfnGradIdeal.main (F := Ideal))) ⟨m, fun _ => 0, g⟩ (fun r => (∀ c : Dev Cert.KernelFfnGradIdeal.nD,
      r.2.mem ((c.tc : Thread Cert.KernelFfnGradIdeal.nD Cert.KernelFfnGradIdeal.τ).loc Cert.KernelFfnGradIdeal.main_arg0) = m ((c.tc : Thread Cert.KernelFfnGradIdeal.nD Cert.KernelFfnGradIdeal.τ).loc Cert.KernelFfnGradIdeal.main_arg0)
      ∧ r.2.mem ((c.tc : Thread Cert.KernelFfnGradIdeal.nD Cert.KernelFfnGradIdeal.τ).loc Cert.KernelFfnGradIdeal.main_arg1) = m ((c.tc : Thread Cert.KernelFfnGradIdeal.nD Cert.KernelFfnGradIdeal.τ).loc Cert.KernelFfnGradIdeal.main_arg1)
      ∧ r.2.mem ((c.tc : Thread Cert.KernelFfnGradIdeal.nD Cert.KernelFfnGradIdeal.τ).loc Cert.KernelFfnGradIdeal.main_arg2) = m ((c.tc : Thread Cert.KernelFfnGradIdeal.nD Cert.KernelFfnGradIdeal.τ).loc Cert.KernelFfnGradIdeal.main_arg2))
      ∧ r.2.sem = fun _ => 0)

def quiescent_ReferenceFfnGradIdeal [hReferenceFfnGradIdeal : Cert.ReferenceFfnGradIdeal.Facts] : Prop :=
  ∀ (m : (ℓ : Loc Cert.ReferenceFfnGradIdeal.nD Cert.ReferenceFfnGradIdeal.τ Cert.ReferenceFfnGradIdeal.sig) → Buf (Elt Ideal) ℓ) (g : Dev Cert.ReferenceFfnGradIdeal.nD → PrngReg), Pre_ReferenceFfnGradIdeal m →
    θ_run (Cert.ReferenceFfnGradIdeal.defs (F := Ideal)) (onTc (τ := Cert.ReferenceFfnGradIdeal.τ) (Cert.ReferenceFfnGradIdeal.main (F := Ideal))) ⟨m, fun _ => 0, g⟩ (fun r => (∀ c : Dev Cert.ReferenceFfnGradIdeal.nD,
      r.2.mem ((c.tc : Thread Cert.ReferenceFfnGradIdeal.nD Cert.ReferenceFfnGradIdeal.τ).loc Cert.ReferenceFfnGradIdeal.main_arg0) = m ((c.tc : Thread Cert.ReferenceFfnGradIdeal.nD Cert.ReferenceFfnGradIdeal.τ).loc Cert.ReferenceFfnGradIdeal.main_arg0)
      ∧ r.2.mem ((c.tc : Thread Cert.ReferenceFfnGradIdeal.nD Cert.ReferenceFfnGradIdeal.τ).loc Cert.ReferenceFfnGradIdeal.main_arg1) = m ((c.tc : Thread Cert.ReferenceFfnGradIdeal.nD Cert.ReferenceFfnGradIdeal.τ).loc Cert.ReferenceFfnGradIdeal.main_arg1)
      ∧ r.2.mem ((c.tc : Thread Cert.ReferenceFfnGradIdeal.nD Cert.ReferenceFfnGradIdeal.τ).loc Cert.ReferenceFfnGradIdeal.main_arg2) = m ((c.tc : Thread Cert.ReferenceFfnGradIdeal.nD Cert.ReferenceFfnGradIdeal.τ).loc Cert.ReferenceFfnGradIdeal.main_arg2))
      ∧ r.2.sem = fun _ => 0)

def quiescent_KernelPre [hKernelPre : Cert.KernelPre.Facts] : Prop :=
  ∀ (m : (ℓ : Loc Cert.KernelPre.nD Cert.KernelPre.τ Cert.KernelPre.sig) → Buf (Elt Bits) ℓ) (g : Dev Cert.KernelPre.nD → PrngReg), Pre_KernelPre m →
    θ_run (Cert.KernelPre.defs (F := Bits)) (onTc (τ := Cert.KernelPre.τ) (Cert.KernelPre.main (F := Bits))) ⟨m, fun _ => 0, g⟩ (fun r => (∀ c : Dev Cert.KernelPre.nD,
      r.2.mem ((c.tc : Thread Cert.KernelPre.nD Cert.KernelPre.τ).loc Cert.KernelPre.main_arg0) = m ((c.tc : Thread Cert.KernelPre.nD Cert.KernelPre.τ).loc Cert.KernelPre.main_arg0)
      ∧ r.2.mem ((c.tc : Thread Cert.KernelPre.nD Cert.KernelPre.τ).loc Cert.KernelPre.main_arg1) = m ((c.tc : Thread Cert.KernelPre.nD Cert.KernelPre.τ).loc Cert.KernelPre.main_arg1))
      ∧ r.2.sem = fun _ => 0)

def quiescent_KernelPreIdeal [hKernelPreIdeal : Cert.KernelPreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg), Pre_KernelPreIdeal m →
    θ_run (Cert.KernelPreIdeal.defs (F := Ideal)) (onTc (τ := Cert.KernelPreIdeal.τ) (Cert.KernelPreIdeal.main (F := Ideal))) ⟨m, fun _ => 0, g⟩ (fun r => (∀ c : Dev Cert.KernelPreIdeal.nD,
      r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
      ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1))
      ∧ r.2.sem = fun _ => 0)

def quiescent_ReferencePreIdeal [hReferencePreIdeal : Cert.ReferencePreIdeal.Facts] : Prop :=
  ∀ (m : (ℓ : Loc Cert.ReferencePreIdeal.nD Cert.ReferencePreIdeal.τ Cert.ReferencePreIdeal.sig) → Buf (Elt Ideal) ℓ) (g : Dev Cert.ReferencePreIdeal.nD → PrngReg), Pre_ReferencePreIdeal m →
    θ_run (Cert.ReferencePreIdeal.defs (F := Ideal)) (onTc (τ := Cert.ReferencePreIdeal.τ) (Cert.ReferencePreIdeal.main (F := Ideal))) ⟨m, fun _ => 0, g⟩ (fun r => (∀ c : Dev Cert.ReferencePreIdeal.nD,
      r.2.mem ((c.tc : Thread Cert.ReferencePreIdeal.nD Cert.ReferencePreIdeal.τ).loc Cert.ReferencePreIdeal.main_arg0) = m ((c.tc : Thread Cert.ReferencePreIdeal.nD Cert.ReferencePreIdeal.τ).loc Cert.ReferencePreIdeal.main_arg0)
      ∧ r.2.mem ((c.tc : Thread Cert.ReferencePreIdeal.nD Cert.ReferencePreIdeal.τ).loc Cert.ReferencePreIdeal.main_arg1) = m ((c.tc : Thread Cert.ReferencePreIdeal.nD Cert.ReferencePreIdeal.τ).loc Cert.ReferencePreIdeal.main_arg1))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2))
      ∧ r.2.sem = fun _ => 0)

def quiescent_KernelMid [hKernelMid : Cert.KernelMid.Facts] : Prop :=
  ∀ (m : (ℓ : Loc Cert.KernelMid.nD Cert.KernelMid.τ Cert.KernelMid.sig) → Buf (Elt Bits) ℓ) (g : Dev Cert.KernelMid.nD → PrngReg), Pre_KernelMid m →
    θ_run (Cert.KernelMid.defs (F := Bits)) (onTc (τ := Cert.KernelMid.τ) (Cert.KernelMid.main (F := Bits))) ⟨m, fun _ => 0, g⟩ (fun r => (∀ c : Dev Cert.KernelMid.nD,
      r.2.mem ((c.tc : Thread Cert.KernelMid.nD Cert.KernelMid.τ).loc Cert.KernelMid.main_arg0) = m ((c.tc : Thread Cert.KernelMid.nD Cert.KernelMid.τ).loc Cert.KernelMid.main_arg0)
      ∧ r.2.mem ((c.tc : Thread Cert.KernelMid.nD Cert.KernelMid.τ).loc Cert.KernelMid.main_arg1) = m ((c.tc : Thread Cert.KernelMid.nD Cert.KernelMid.τ).loc Cert.KernelMid.main_arg1)
      ∧ r.2.mem ((c.tc : Thread Cert.KernelMid.nD Cert.KernelMid.τ).loc Cert.KernelMid.main_arg2) = m ((c.tc : Thread Cert.KernelMid.nD Cert.KernelMid.τ).loc Cert.KernelMid.main_arg2)
      ∧ r.2.mem ((c.tc : Thread Cert.KernelMid.nD Cert.KernelMid.τ).loc Cert.KernelMid.main_arg3) = m ((c.tc : Thread Cert.KernelMid.nD Cert.KernelMid.τ).loc Cert.KernelMid.main_arg3))
      ∧ r.2.sem = fun _ => 0)

def quiescent_KernelMidIdeal [hKernelMidIdeal : Cert.KernelMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
      ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3))
      ∧ r.2.sem = fun _ => 0)

def quiescent_ReferenceMidIdeal [hReferenceMidIdeal : Cert.ReferenceMidIdeal.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2)
      ∧ r.2.mem ((c.tc : Thread Cert.ReferenceMidIdeal.nD Cert.ReferenceMidIdeal.τ).loc Cert.ReferenceMidIdeal.main_arg3) = m ((c.tc : Thread Cert.ReferenceMidIdeal.nD Cert.ReferenceMidIdeal.τ).loc Cert.ReferenceMidIdeal.main_arg3))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3)
      ∧ r.2.mem ((c.tc : Thread Cert.KernelLoss.nD Cert.KernelLoss.τ).loc Cert.KernelLoss.main_arg4) = m ((c.tc : Thread Cert.KernelLoss.nD Cert.KernelLoss.τ).loc Cert.KernelLoss.main_arg4))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4))
      ∧ r.2.sem = fun _ => 0)

def quiescent_KernelScanNorm [hKernelScanNorm : Cert.KernelScanNorm.Facts] : Prop :=
  ∀ (m : (ℓ : Loc Cert.KernelScanNorm.nD Cert.KernelScanNorm.τ Cert.KernelScanNorm.sig) → Buf (Elt Bits) ℓ) (g : Dev Cert.KernelScanNorm.nD → PrngReg), Pre_KernelScanNorm m →
    θ_run (Cert.KernelScanNorm.defs (F := Bits)) (onTc (τ := Cert.KernelScanNorm.τ) (Cert.KernelScanNorm.main (F := Bits))) ⟨m, fun _ => 0, g⟩ (fun r => (∀ c : Dev Cert.KernelScanNorm.nD,
      r.2.mem ((c.tc : Thread Cert.KernelScanNorm.nD Cert.KernelScanNorm.τ).loc Cert.KernelScanNorm.main_arg0) = m ((c.tc : Thread Cert.KernelScanNorm.nD Cert.KernelScanNorm.τ).loc Cert.KernelScanNorm.main_arg0)
      ∧ r.2.mem ((c.tc : Thread Cert.KernelScanNorm.nD Cert.KernelScanNorm.τ).loc Cert.KernelScanNorm.main_arg1) = m ((c.tc : Thread Cert.KernelScanNorm.nD Cert.KernelScanNorm.τ).loc Cert.KernelScanNorm.main_arg1)
      ∧ r.2.mem ((c.tc : Thread Cert.KernelScanNorm.nD Cert.KernelScanNorm.τ).loc Cert.KernelScanNorm.main_arg2) = m ((c.tc : Thread Cert.KernelScanNorm.nD Cert.KernelScanNorm.τ).loc Cert.KernelScanNorm.main_arg2)
      ∧ r.2.mem ((c.tc : Thread Cert.KernelScanNorm.nD Cert.KernelScanNorm.τ).loc Cert.KernelScanNorm.main_arg3) = m ((c.tc : Thread Cert.KernelScanNorm.nD Cert.KernelScanNorm.τ).loc Cert.KernelScanNorm.main_arg3)
      ∧ r.2.mem ((c.tc : Thread Cert.KernelScanNorm.nD Cert.KernelScanNorm.τ).loc Cert.KernelScanNorm.main_arg4) = m ((c.tc : Thread Cert.KernelScanNorm.nD Cert.KernelScanNorm.τ).loc Cert.KernelScanNorm.main_arg4))
      ∧ r.2.sem = fun _ => 0)

def quiescent_KernelScanNormIdeal [hKernelScanNormIdeal : Cert.KernelScanNormIdeal.Facts] : Prop :=
  ∀ (m : (ℓ : Loc Cert.KernelScanNormIdeal.nD Cert.KernelScanNormIdeal.τ Cert.KernelScanNormIdeal.sig) → Buf (Elt Ideal) ℓ) (g : Dev Cert.KernelScanNormIdeal.nD → PrngReg), Pre_KernelScanNormIdeal m →
    θ_run (Cert.KernelScanNormIdeal.defs (F := Ideal)) (onTc (τ := Cert.KernelScanNormIdeal.τ) (Cert.KernelScanNormIdeal.main (F := Ideal))) ⟨m, fun _ => 0, g⟩ (fun r => (∀ c : Dev Cert.KernelScanNormIdeal.nD,
      r.2.mem ((c.tc : Thread Cert.KernelScanNormIdeal.nD Cert.KernelScanNormIdeal.τ).loc Cert.KernelScanNormIdeal.main_arg0) = m ((c.tc : Thread Cert.KernelScanNormIdeal.nD Cert.KernelScanNormIdeal.τ).loc Cert.KernelScanNormIdeal.main_arg0)
      ∧ r.2.mem ((c.tc : Thread Cert.KernelScanNormIdeal.nD Cert.KernelScanNormIdeal.τ).loc Cert.KernelScanNormIdeal.main_arg1) = m ((c.tc : Thread Cert.KernelScanNormIdeal.nD Cert.KernelScanNormIdeal.τ).loc Cert.KernelScanNormIdeal.main_arg1)
      ∧ r.2.mem ((c.tc : Thread Cert.KernelScanNormIdeal.nD Cert.KernelScanNormIdeal.τ).loc Cert.KernelScanNormIdeal.main_arg2) = m ((c.tc : Thread Cert.KernelScanNormIdeal.nD Cert.KernelScanNormIdeal.τ).loc Cert.KernelScanNormIdeal.main_arg2)
      ∧ r.2.mem ((c.tc : Thread Cert.KernelScanNormIdeal.nD Cert.KernelScanNormIdeal.τ).loc Cert.KernelScanNormIdeal.main_arg3) = m ((c.tc : Thread Cert.KernelScanNormIdeal.nD Cert.KernelScanNormIdeal.τ).loc Cert.KernelScanNormIdeal.main_arg3)
      ∧ r.2.mem ((c.tc : Thread Cert.KernelScanNormIdeal.nD Cert.KernelScanNormIdeal.τ).loc Cert.KernelScanNormIdeal.main_arg4) = m ((c.tc : Thread Cert.KernelScanNormIdeal.nD Cert.KernelScanNormIdeal.τ).loc Cert.KernelScanNormIdeal.main_arg4))
      ∧ r.2.sem = fun _ => 0)

def quiescent_ReferenceScanNormIdeal [hReferenceScanNormIdeal : Cert.ReferenceScanNormIdeal.Facts] : Prop :=
  ∀ (m : (ℓ : Loc Cert.ReferenceScanNormIdeal.nD Cert.ReferenceScanNormIdeal.τ Cert.ReferenceScanNormIdeal.sig) → Buf (Elt Ideal) ℓ) (g : Dev Cert.ReferenceScanNormIdeal.nD → PrngReg), Pre_ReferenceScanNormIdeal m →
    θ_run (Cert.ReferenceScanNormIdeal.defs (F := Ideal)) (onTc (τ := Cert.ReferenceScanNormIdeal.τ) (Cert.ReferenceScanNormIdeal.main (F := Ideal))) ⟨m, fun _ => 0, g⟩ (fun r => (∀ c : Dev Cert.ReferenceScanNormIdeal.nD,
      r.2.mem ((c.tc : Thread Cert.ReferenceScanNormIdeal.nD Cert.ReferenceScanNormIdeal.τ).loc Cert.ReferenceScanNormIdeal.main_arg0) = m ((c.tc : Thread Cert.ReferenceScanNormIdeal.nD Cert.ReferenceScanNormIdeal.τ).loc Cert.ReferenceScanNormIdeal.main_arg0)
      ∧ r.2.mem ((c.tc : Thread Cert.ReferenceScanNormIdeal.nD Cert.ReferenceScanNormIdeal.τ).loc Cert.ReferenceScanNormIdeal.main_arg1) = m ((c.tc : Thread Cert.ReferenceScanNormIdeal.nD Cert.ReferenceScanNormIdeal.τ).loc Cert.ReferenceScanNormIdeal.main_arg1)
      ∧ r.2.mem ((c.tc : Thread Cert.ReferenceScanNormIdeal.nD Cert.ReferenceScanNormIdeal.τ).loc Cert.ReferenceScanNormIdeal.main_arg2) = m ((c.tc : Thread Cert.ReferenceScanNormIdeal.nD Cert.ReferenceScanNormIdeal.τ).loc Cert.ReferenceScanNormIdeal.main_arg2)
      ∧ r.2.mem ((c.tc : Thread Cert.ReferenceScanNormIdeal.nD Cert.ReferenceScanNormIdeal.τ).loc Cert.ReferenceScanNormIdeal.main_arg3) = m ((c.tc : Thread Cert.ReferenceScanNormIdeal.nD Cert.ReferenceScanNormIdeal.τ).loc Cert.ReferenceScanNormIdeal.main_arg3)
      ∧ r.2.mem ((c.tc : Thread Cert.ReferenceScanNormIdeal.nD Cert.ReferenceScanNormIdeal.τ).loc Cert.ReferenceScanNormIdeal.main_arg4) = m ((c.tc : Thread Cert.ReferenceScanNormIdeal.nD Cert.ReferenceScanNormIdeal.τ).loc Cert.ReferenceScanNormIdeal.main_arg4))
      ∧ r.2.sem = fun _ => 0)

def quiescent_KernelConvFwd [hKernelConvFwd : Cert.KernelConvFwd.Facts] : Prop :=
  ∀ (m : (ℓ : Loc Cert.KernelConvFwd.nD Cert.KernelConvFwd.τ Cert.KernelConvFwd.sig) → Buf (Elt Bits) ℓ) (g : Dev Cert.KernelConvFwd.nD → PrngReg), Pre_KernelConvFwd m →
    θ_run (Cert.KernelConvFwd.defs (F := Bits)) (onTc (τ := Cert.KernelConvFwd.τ) (Cert.KernelConvFwd.main (F := Bits))) ⟨m, fun _ => 0, g⟩ (fun r => (∀ c : Dev Cert.KernelConvFwd.nD,
      r.2.mem ((c.tc : Thread Cert.KernelConvFwd.nD Cert.KernelConvFwd.τ).loc Cert.KernelConvFwd.main_arg0) = m ((c.tc : Thread Cert.KernelConvFwd.nD Cert.KernelConvFwd.τ).loc Cert.KernelConvFwd.main_arg0)
      ∧ r.2.mem ((c.tc : Thread Cert.KernelConvFwd.nD Cert.KernelConvFwd.τ).loc Cert.KernelConvFwd.main_arg1) = m ((c.tc : Thread Cert.KernelConvFwd.nD Cert.KernelConvFwd.τ).loc Cert.KernelConvFwd.main_arg1)
      ∧ r.2.mem ((c.tc : Thread Cert.KernelConvFwd.nD Cert.KernelConvFwd.τ).loc Cert.KernelConvFwd.main_arg2) = m ((c.tc : Thread Cert.KernelConvFwd.nD Cert.KernelConvFwd.τ).loc Cert.KernelConvFwd.main_arg2))
      ∧ r.2.sem = fun _ => 0)

def quiescent_KernelConvFwdIdeal [hKernelConvFwdIdeal : Cert.KernelConvFwdIdeal.Facts] : Prop :=
  ∀ (m : (ℓ : Loc Cert.KernelConvFwdIdeal.nD Cert.KernelConvFwdIdeal.τ Cert.KernelConvFwdIdeal.sig) → Buf (Elt Ideal) ℓ) (g : Dev Cert.KernelConvFwdIdeal.nD → PrngReg), Pre_KernelConvFwdIdeal m →
    θ_run (Cert.KernelConvFwdIdeal.defs (F := Ideal)) (onTc (τ := Cert.KernelConvFwdIdeal.τ) (Cert.KernelConvFwdIdeal.main (F := Ideal))) ⟨m, fun _ => 0, g⟩ (fun r => (∀ c : Dev Cert.KernelConvFwdIdeal.nD,
      r.2.mem ((c.tc : Thread Cert.KernelConvFwdIdeal.nD Cert.KernelConvFwdIdeal.τ).loc Cert.KernelConvFwdIdeal.main_arg0) = m ((c.tc : Thread Cert.KernelConvFwdIdeal.nD Cert.KernelConvFwdIdeal.τ).loc Cert.KernelConvFwdIdeal.main_arg0)
      ∧ r.2.mem ((c.tc : Thread Cert.KernelConvFwdIdeal.nD Cert.KernelConvFwdIdeal.τ).loc Cert.KernelConvFwdIdeal.main_arg1) = m ((c.tc : Thread Cert.KernelConvFwdIdeal.nD Cert.KernelConvFwdIdeal.τ).loc Cert.KernelConvFwdIdeal.main_arg1)
      ∧ r.2.mem ((c.tc : Thread Cert.KernelConvFwdIdeal.nD Cert.KernelConvFwdIdeal.τ).loc Cert.KernelConvFwdIdeal.main_arg2) = m ((c.tc : Thread Cert.KernelConvFwdIdeal.nD Cert.KernelConvFwdIdeal.τ).loc Cert.KernelConvFwdIdeal.main_arg2))
      ∧ r.2.sem = fun _ => 0)

def quiescent_ReferenceConvFwdIdeal [hReferenceConvFwdIdeal : Cert.ReferenceConvFwdIdeal.Facts] : Prop :=
  ∀ (m : (ℓ : Loc Cert.ReferenceConvFwdIdeal.nD Cert.ReferenceConvFwdIdeal.τ Cert.ReferenceConvFwdIdeal.sig) → Buf (Elt Ideal) ℓ) (g : Dev Cert.ReferenceConvFwdIdeal.nD → PrngReg), Pre_ReferenceConvFwdIdeal m →
    θ_run (Cert.ReferenceConvFwdIdeal.defs (F := Ideal)) (onTc (τ := Cert.ReferenceConvFwdIdeal.τ) (Cert.ReferenceConvFwdIdeal.main (F := Ideal))) ⟨m, fun _ => 0, g⟩ (fun r => (∀ c : Dev Cert.ReferenceConvFwdIdeal.nD,
      r.2.mem ((c.tc : Thread Cert.ReferenceConvFwdIdeal.nD Cert.ReferenceConvFwdIdeal.τ).loc Cert.ReferenceConvFwdIdeal.main_arg0) = m ((c.tc : Thread Cert.ReferenceConvFwdIdeal.nD Cert.ReferenceConvFwdIdeal.τ).loc Cert.ReferenceConvFwdIdeal.main_arg0)
      ∧ r.2.mem ((c.tc : Thread Cert.ReferenceConvFwdIdeal.nD Cert.ReferenceConvFwdIdeal.τ).loc Cert.ReferenceConvFwdIdeal.main_arg1) = m ((c.tc : Thread Cert.ReferenceConvFwdIdeal.nD Cert.ReferenceConvFwdIdeal.τ).loc Cert.ReferenceConvFwdIdeal.main_arg1)
      ∧ r.2.mem ((c.tc : Thread Cert.ReferenceConvFwdIdeal.nD Cert.ReferenceConvFwdIdeal.τ).loc Cert.ReferenceConvFwdIdeal.main_arg2) = m ((c.tc : Thread Cert.ReferenceConvFwdIdeal.nD Cert.ReferenceConvFwdIdeal.τ).loc Cert.ReferenceConvFwdIdeal.main_arg2))
      ∧ r.2.sem = fun _ => 0)

def quiescent_KernelAdam [hKernelAdam : Cert.KernelAdam.Facts] : Prop :=
  ∀ (m : (ℓ : Loc Cert.KernelAdam.nD Cert.KernelAdam.τ Cert.KernelAdam.sig) → Buf (Elt Bits) ℓ) (g : Dev Cert.KernelAdam.nD → PrngReg), Pre_KernelAdam m →
    θ_run (Cert.KernelAdam.defs (F := Bits)) (onTc (τ := Cert.KernelAdam.τ) (Cert.KernelAdam.main (F := Bits))) ⟨m, fun _ => 0, g⟩ (fun r => (∀ c : Dev Cert.KernelAdam.nD,
      r.2.mem ((c.tc : Thread Cert.KernelAdam.nD Cert.KernelAdam.τ).loc Cert.KernelAdam.main_arg0) = m ((c.tc : Thread Cert.KernelAdam.nD Cert.KernelAdam.τ).loc Cert.KernelAdam.main_arg0)
      ∧ r.2.mem ((c.tc : Thread Cert.KernelAdam.nD Cert.KernelAdam.τ).loc Cert.KernelAdam.main_arg1) = m ((c.tc : Thread Cert.KernelAdam.nD Cert.KernelAdam.τ).loc Cert.KernelAdam.main_arg1)
      ∧ r.2.mem ((c.tc : Thread Cert.KernelAdam.nD Cert.KernelAdam.τ).loc Cert.KernelAdam.main_arg2) = m ((c.tc : Thread Cert.KernelAdam.nD Cert.KernelAdam.τ).loc Cert.KernelAdam.main_arg2)
      ∧ r.2.mem ((c.tc : Thread Cert.KernelAdam.nD Cert.KernelAdam.τ).loc Cert.KernelAdam.main_arg3) = m ((c.tc : Thread Cert.KernelAdam.nD Cert.KernelAdam.τ).loc Cert.KernelAdam.main_arg3))
      ∧ r.2.sem = fun _ => 0)

def quiescent_KernelAdamIdeal [hKernelAdamIdeal : Cert.KernelAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg), Pre_KernelAdamIdeal m →
    θ_run (Cert.KernelAdamIdeal.defs (F := Ideal)) (onTc (τ := Cert.KernelAdamIdeal.τ) (Cert.KernelAdamIdeal.main (F := Ideal))) ⟨m, fun _ => 0, g⟩ (fun r => (∀ c : Dev Cert.KernelAdamIdeal.nD,
      r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
      ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
      ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
      ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ r.2.sem = fun _ => 0)

def quiescent_ReferenceAdamIdeal [hReferenceAdamIdeal : Cert.ReferenceAdamIdeal.Facts] : Prop :=
  ∀ (m : (ℓ : Loc Cert.ReferenceAdamIdeal.nD Cert.ReferenceAdamIdeal.τ Cert.ReferenceAdamIdeal.sig) → Buf (Elt Ideal) ℓ) (g : Dev Cert.ReferenceAdamIdeal.nD → PrngReg), Pre_ReferenceAdamIdeal m →
    θ_run (Cert.ReferenceAdamIdeal.defs (F := Ideal)) (onTc (τ := Cert.ReferenceAdamIdeal.τ) (Cert.ReferenceAdamIdeal.main (F := Ideal))) ⟨m, fun _ => 0, g⟩ (fun r => (∀ c : Dev Cert.ReferenceAdamIdeal.nD,
      r.2.mem ((c.tc : Thread Cert.ReferenceAdamIdeal.nD Cert.ReferenceAdamIdeal.τ).loc Cert.ReferenceAdamIdeal.main_arg0) = m ((c.tc : Thread Cert.ReferenceAdamIdeal.nD Cert.ReferenceAdamIdeal.τ).loc Cert.ReferenceAdamIdeal.main_arg0)
      ∧ r.2.mem ((c.tc : Thread Cert.ReferenceAdamIdeal.nD Cert.ReferenceAdamIdeal.τ).loc Cert.ReferenceAdamIdeal.main_arg1) = m ((c.tc : Thread Cert.ReferenceAdamIdeal.nD Cert.ReferenceAdamIdeal.τ).loc Cert.ReferenceAdamIdeal.main_arg1)
      ∧ r.2.mem ((c.tc : Thread Cert.ReferenceAdamIdeal.nD Cert.ReferenceAdamIdeal.τ).loc Cert.ReferenceAdamIdeal.main_arg2) = m ((c.tc : Thread Cert.ReferenceAdamIdeal.nD Cert.ReferenceAdamIdeal.τ).loc Cert.ReferenceAdamIdeal.main_arg2)
      ∧ r.2.mem ((c.tc : Thread Cert.ReferenceAdamIdeal.nD Cert.ReferenceAdamIdeal.τ).loc Cert.ReferenceAdamIdeal.main_arg3) = m ((c.tc : Thread Cert.ReferenceAdamIdeal.nD Cert.ReferenceAdamIdeal.τ).loc Cert.ReferenceAdamIdeal.main_arg3))
      ∧ r.2.sem = fun _ => 0)

def quiescent_KernelAdamSquare [hKernelAdamSquare : Cert.KernelAdamSquare.Facts] : Prop :=
  ∀ (m : (ℓ : Loc Cert.KernelAdamSquare.nD Cert.KernelAdamSquare.τ Cert.KernelAdamSquare.sig) → Buf (Elt Bits) ℓ) (g : Dev Cert.KernelAdamSquare.nD → PrngReg), Pre_KernelAdamSquare m →
    θ_run (Cert.KernelAdamSquare.defs (F := Bits)) (onTc (τ := Cert.KernelAdamSquare.τ) (Cert.KernelAdamSquare.main (F := Bits))) ⟨m, fun _ => 0, g⟩ (fun r => (∀ c : Dev Cert.KernelAdamSquare.nD,
      r.2.mem ((c.tc : Thread Cert.KernelAdamSquare.nD Cert.KernelAdamSquare.τ).loc Cert.KernelAdamSquare.main_arg0) = m ((c.tc : Thread Cert.KernelAdamSquare.nD Cert.KernelAdamSquare.τ).loc Cert.KernelAdamSquare.main_arg0)
      ∧ r.2.mem ((c.tc : Thread Cert.KernelAdamSquare.nD Cert.KernelAdamSquare.τ).loc Cert.KernelAdamSquare.main_arg1) = m ((c.tc : Thread Cert.KernelAdamSquare.nD Cert.KernelAdamSquare.τ).loc Cert.KernelAdamSquare.main_arg1)
      ∧ r.2.mem ((c.tc : Thread Cert.KernelAdamSquare.nD Cert.KernelAdamSquare.τ).loc Cert.KernelAdamSquare.main_arg2) = m ((c.tc : Thread Cert.KernelAdamSquare.nD Cert.KernelAdamSquare.τ).loc Cert.KernelAdamSquare.main_arg2)
      ∧ r.2.mem ((c.tc : Thread Cert.KernelAdamSquare.nD Cert.KernelAdamSquare.τ).loc Cert.KernelAdamSquare.main_arg3) = m ((c.tc : Thread Cert.KernelAdamSquare.nD Cert.KernelAdamSquare.τ).loc Cert.KernelAdamSquare.main_arg3))
      ∧ r.2.sem = fun _ => 0)

def quiescent_KernelAdamSquareIdeal [hKernelAdamSquareIdeal : Cert.KernelAdamSquareIdeal.Facts] : Prop :=
  ∀ (m : (ℓ : Loc Cert.KernelAdamSquareIdeal.nD Cert.KernelAdamSquareIdeal.τ Cert.KernelAdamSquareIdeal.sig) → Buf (Elt Ideal) ℓ) (g : Dev Cert.KernelAdamSquareIdeal.nD → PrngReg), Pre_KernelAdamSquareIdeal m →
    θ_run (Cert.KernelAdamSquareIdeal.defs (F := Ideal)) (onTc (τ := Cert.KernelAdamSquareIdeal.τ) (Cert.KernelAdamSquareIdeal.main (F := Ideal))) ⟨m, fun _ => 0, g⟩ (fun r => (∀ c : Dev Cert.KernelAdamSquareIdeal.nD,
      r.2.mem ((c.tc : Thread Cert.KernelAdamSquareIdeal.nD Cert.KernelAdamSquareIdeal.τ).loc Cert.KernelAdamSquareIdeal.main_arg0) = m ((c.tc : Thread Cert.KernelAdamSquareIdeal.nD Cert.KernelAdamSquareIdeal.τ).loc Cert.KernelAdamSquareIdeal.main_arg0)
      ∧ r.2.mem ((c.tc : Thread Cert.KernelAdamSquareIdeal.nD Cert.KernelAdamSquareIdeal.τ).loc Cert.KernelAdamSquareIdeal.main_arg1) = m ((c.tc : Thread Cert.KernelAdamSquareIdeal.nD Cert.KernelAdamSquareIdeal.τ).loc Cert.KernelAdamSquareIdeal.main_arg1)
      ∧ r.2.mem ((c.tc : Thread Cert.KernelAdamSquareIdeal.nD Cert.KernelAdamSquareIdeal.τ).loc Cert.KernelAdamSquareIdeal.main_arg2) = m ((c.tc : Thread Cert.KernelAdamSquareIdeal.nD Cert.KernelAdamSquareIdeal.τ).loc Cert.KernelAdamSquareIdeal.main_arg2)
      ∧ r.2.mem ((c.tc : Thread Cert.KernelAdamSquareIdeal.nD Cert.KernelAdamSquareIdeal.τ).loc Cert.KernelAdamSquareIdeal.main_arg3) = m ((c.tc : Thread Cert.KernelAdamSquareIdeal.nD Cert.KernelAdamSquareIdeal.τ).loc Cert.KernelAdamSquareIdeal.main_arg3))
      ∧ r.2.sem = fun _ => 0)

def quiescent_ReferenceAdamSquareIdeal [hReferenceAdamSquareIdeal : Cert.ReferenceAdamSquareIdeal.Facts] : Prop :=
  ∀ (m : (ℓ : Loc Cert.ReferenceAdamSquareIdeal.nD Cert.ReferenceAdamSquareIdeal.τ Cert.ReferenceAdamSquareIdeal.sig) → Buf (Elt Ideal) ℓ) (g : Dev Cert.ReferenceAdamSquareIdeal.nD → PrngReg), Pre_ReferenceAdamSquareIdeal m →
    θ_run (Cert.ReferenceAdamSquareIdeal.defs (F := Ideal)) (onTc (τ := Cert.ReferenceAdamSquareIdeal.τ) (Cert.ReferenceAdamSquareIdeal.main (F := Ideal))) ⟨m, fun _ => 0, g⟩ (fun r => (∀ c : Dev Cert.ReferenceAdamSquareIdeal.nD,
      r.2.mem ((c.tc : Thread Cert.ReferenceAdamSquareIdeal.nD Cert.ReferenceAdamSquareIdeal.τ).loc Cert.ReferenceAdamSquareIdeal.main_arg0) = m ((c.tc : Thread Cert.ReferenceAdamSquareIdeal.nD Cert.ReferenceAdamSquareIdeal.τ).loc Cert.ReferenceAdamSquareIdeal.main_arg0)
      ∧ r.2.mem ((c.tc : Thread Cert.ReferenceAdamSquareIdeal.nD Cert.ReferenceAdamSquareIdeal.τ).loc Cert.ReferenceAdamSquareIdeal.main_arg1) = m ((c.tc : Thread Cert.ReferenceAdamSquareIdeal.nD Cert.ReferenceAdamSquareIdeal.τ).loc Cert.ReferenceAdamSquareIdeal.main_arg1)
      ∧ r.2.mem ((c.tc : Thread Cert.ReferenceAdamSquareIdeal.nD Cert.ReferenceAdamSquareIdeal.τ).loc Cert.ReferenceAdamSquareIdeal.main_arg2) = m ((c.tc : Thread Cert.ReferenceAdamSquareIdeal.nD Cert.ReferenceAdamSquareIdeal.τ).loc Cert.ReferenceAdamSquareIdeal.main_arg2)
      ∧ r.2.mem ((c.tc : Thread Cert.ReferenceAdamSquareIdeal.nD Cert.ReferenceAdamSquareIdeal.τ).loc Cert.ReferenceAdamSquareIdeal.main_arg3) = m ((c.tc : Thread Cert.ReferenceAdamSquareIdeal.nD Cert.ReferenceAdamSquareIdeal.τ).loc Cert.ReferenceAdamSquareIdeal.main_arg3))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3))
      ∧ r.2.sem = fun _ => 0)

def quiescent_KernelAdamConv [hKernelAdamConv : Cert.KernelAdamConv.Facts] : Prop :=
  ∀ (m : (ℓ : Loc Cert.KernelAdamConv.nD Cert.KernelAdamConv.τ Cert.KernelAdamConv.sig) → Buf (Elt Bits) ℓ) (g : Dev Cert.KernelAdamConv.nD → PrngReg), Pre_KernelAdamConv m →
    θ_run (Cert.KernelAdamConv.defs (F := Bits)) (onTc (τ := Cert.KernelAdamConv.τ) (Cert.KernelAdamConv.main (F := Bits))) ⟨m, fun _ => 0, g⟩ (fun r => (∀ c : Dev Cert.KernelAdamConv.nD,
      r.2.mem ((c.tc : Thread Cert.KernelAdamConv.nD Cert.KernelAdamConv.τ).loc Cert.KernelAdamConv.main_arg0) = m ((c.tc : Thread Cert.KernelAdamConv.nD Cert.KernelAdamConv.τ).loc Cert.KernelAdamConv.main_arg0)
      ∧ r.2.mem ((c.tc : Thread Cert.KernelAdamConv.nD Cert.KernelAdamConv.τ).loc Cert.KernelAdamConv.main_arg1) = m ((c.tc : Thread Cert.KernelAdamConv.nD Cert.KernelAdamConv.τ).loc Cert.KernelAdamConv.main_arg1)
      ∧ r.2.mem ((c.tc : Thread Cert.KernelAdamConv.nD Cert.KernelAdamConv.τ).loc Cert.KernelAdamConv.main_arg2) = m ((c.tc : Thread Cert.KernelAdamConv.nD Cert.KernelAdamConv.τ).loc Cert.KernelAdamConv.main_arg2)
      ∧ r.2.mem ((c.tc : Thread Cert.KernelAdamConv.nD Cert.KernelAdamConv.τ).loc Cert.KernelAdamConv.main_arg3) = m ((c.tc : Thread Cert.KernelAdamConv.nD Cert.KernelAdamConv.τ).loc Cert.KernelAdamConv.main_arg3))
      ∧ r.2.sem = fun _ => 0)

def quiescent_KernelAdamConvIdeal [hKernelAdamConvIdeal : Cert.KernelAdamConvIdeal.Facts] : Prop :=
  ∀ (m : (ℓ : Loc Cert.KernelAdamConvIdeal.nD Cert.KernelAdamConvIdeal.τ Cert.KernelAdamConvIdeal.sig) → Buf (Elt Ideal) ℓ) (g : Dev Cert.KernelAdamConvIdeal.nD → PrngReg), Pre_KernelAdamConvIdeal m →
    θ_run (Cert.KernelAdamConvIdeal.defs (F := Ideal)) (onTc (τ := Cert.KernelAdamConvIdeal.τ) (Cert.KernelAdamConvIdeal.main (F := Ideal))) ⟨m, fun _ => 0, g⟩ (fun r => (∀ c : Dev Cert.KernelAdamConvIdeal.nD,
      r.2.mem ((c.tc : Thread Cert.KernelAdamConvIdeal.nD Cert.KernelAdamConvIdeal.τ).loc Cert.KernelAdamConvIdeal.main_arg0) = m ((c.tc : Thread Cert.KernelAdamConvIdeal.nD Cert.KernelAdamConvIdeal.τ).loc Cert.KernelAdamConvIdeal.main_arg0)
      ∧ r.2.mem ((c.tc : Thread Cert.KernelAdamConvIdeal.nD Cert.KernelAdamConvIdeal.τ).loc Cert.KernelAdamConvIdeal.main_arg1) = m ((c.tc : Thread Cert.KernelAdamConvIdeal.nD Cert.KernelAdamConvIdeal.τ).loc Cert.KernelAdamConvIdeal.main_arg1)
      ∧ r.2.mem ((c.tc : Thread Cert.KernelAdamConvIdeal.nD Cert.KernelAdamConvIdeal.τ).loc Cert.KernelAdamConvIdeal.main_arg2) = m ((c.tc : Thread Cert.KernelAdamConvIdeal.nD Cert.KernelAdamConvIdeal.τ).loc Cert.KernelAdamConvIdeal.main_arg2)
      ∧ r.2.mem ((c.tc : Thread Cert.KernelAdamConvIdeal.nD Cert.KernelAdamConvIdeal.τ).loc Cert.KernelAdamConvIdeal.main_arg3) = m ((c.tc : Thread Cert.KernelAdamConvIdeal.nD Cert.KernelAdamConvIdeal.τ).loc Cert.KernelAdamConvIdeal.main_arg3))
      ∧ r.2.sem = fun _ => 0)

def quiescent_ReferenceAdamConvIdeal [hReferenceAdamConvIdeal : Cert.ReferenceAdamConvIdeal.Facts] : Prop :=
  ∀ (m : (ℓ : Loc Cert.ReferenceAdamConvIdeal.nD Cert.ReferenceAdamConvIdeal.τ Cert.ReferenceAdamConvIdeal.sig) → Buf (Elt Ideal) ℓ) (g : Dev Cert.ReferenceAdamConvIdeal.nD → PrngReg), Pre_ReferenceAdamConvIdeal m →
    θ_run (Cert.ReferenceAdamConvIdeal.defs (F := Ideal)) (onTc (τ := Cert.ReferenceAdamConvIdeal.τ) (Cert.ReferenceAdamConvIdeal.main (F := Ideal))) ⟨m, fun _ => 0, g⟩ (fun r => (∀ c : Dev Cert.ReferenceAdamConvIdeal.nD,
      r.2.mem ((c.tc : Thread Cert.ReferenceAdamConvIdeal.nD Cert.ReferenceAdamConvIdeal.τ).loc Cert.ReferenceAdamConvIdeal.main_arg0) = m ((c.tc : Thread Cert.ReferenceAdamConvIdeal.nD Cert.ReferenceAdamConvIdeal.τ).loc Cert.ReferenceAdamConvIdeal.main_arg0)
      ∧ r.2.mem ((c.tc : Thread Cert.ReferenceAdamConvIdeal.nD Cert.ReferenceAdamConvIdeal.τ).loc Cert.ReferenceAdamConvIdeal.main_arg1) = m ((c.tc : Thread Cert.ReferenceAdamConvIdeal.nD Cert.ReferenceAdamConvIdeal.τ).loc Cert.ReferenceAdamConvIdeal.main_arg1)
      ∧ r.2.mem ((c.tc : Thread Cert.ReferenceAdamConvIdeal.nD Cert.ReferenceAdamConvIdeal.τ).loc Cert.ReferenceAdamConvIdeal.main_arg2) = m ((c.tc : Thread Cert.ReferenceAdamConvIdeal.nD Cert.ReferenceAdamConvIdeal.τ).loc Cert.ReferenceAdamConvIdeal.main_arg2)
      ∧ r.2.mem ((c.tc : Thread Cert.ReferenceAdamConvIdeal.nD Cert.ReferenceAdamConvIdeal.τ).loc Cert.ReferenceAdamConvIdeal.main_arg3) = m ((c.tc : Thread Cert.ReferenceAdamConvIdeal.nD Cert.ReferenceAdamConvIdeal.τ).loc Cert.ReferenceAdamConvIdeal.main_arg3))
      ∧ r.2.sem = fun _ => 0)

def quiescent_KernelAdamSsd [hKernelAdamSsd : Cert.KernelAdamSsd.Facts] : Prop :=
  ∀ (m : (ℓ : Loc Cert.KernelAdamSsd.nD Cert.KernelAdamSsd.τ Cert.KernelAdamSsd.sig) → Buf (Elt Bits) ℓ) (g : Dev Cert.KernelAdamSsd.nD → PrngReg), Pre_KernelAdamSsd m →
    θ_run (Cert.KernelAdamSsd.defs (F := Bits)) (onTc (τ := Cert.KernelAdamSsd.τ) (Cert.KernelAdamSsd.main (F := Bits))) ⟨m, fun _ => 0, g⟩ (fun r => (∀ c : Dev Cert.KernelAdamSsd.nD,
      r.2.mem ((c.tc : Thread Cert.KernelAdamSsd.nD Cert.KernelAdamSsd.τ).loc Cert.KernelAdamSsd.main_arg0) = m ((c.tc : Thread Cert.KernelAdamSsd.nD Cert.KernelAdamSsd.τ).loc Cert.KernelAdamSsd.main_arg0)
      ∧ r.2.mem ((c.tc : Thread Cert.KernelAdamSsd.nD Cert.KernelAdamSsd.τ).loc Cert.KernelAdamSsd.main_arg1) = m ((c.tc : Thread Cert.KernelAdamSsd.nD Cert.KernelAdamSsd.τ).loc Cert.KernelAdamSsd.main_arg1)
      ∧ r.2.mem ((c.tc : Thread Cert.KernelAdamSsd.nD Cert.KernelAdamSsd.τ).loc Cert.KernelAdamSsd.main_arg2) = m ((c.tc : Thread Cert.KernelAdamSsd.nD Cert.KernelAdamSsd.τ).loc Cert.KernelAdamSsd.main_arg2)
      ∧ r.2.mem ((c.tc : Thread Cert.KernelAdamSsd.nD Cert.KernelAdamSsd.τ).loc Cert.KernelAdamSsd.main_arg3) = m ((c.tc : Thread Cert.KernelAdamSsd.nD Cert.KernelAdamSsd.τ).loc Cert.KernelAdamSsd.main_arg3))
      ∧ r.2.sem = fun _ => 0)

def quiescent_KernelAdamSsdIdeal [hKernelAdamSsdIdeal : Cert.KernelAdamSsdIdeal.Facts] : Prop :=
  ∀ (m : (ℓ : Loc Cert.KernelAdamSsdIdeal.nD Cert.KernelAdamSsdIdeal.τ Cert.KernelAdamSsdIdeal.sig) → Buf (Elt Ideal) ℓ) (g : Dev Cert.KernelAdamSsdIdeal.nD → PrngReg), Pre_KernelAdamSsdIdeal m →
    θ_run (Cert.KernelAdamSsdIdeal.defs (F := Ideal)) (onTc (τ := Cert.KernelAdamSsdIdeal.τ) (Cert.KernelAdamSsdIdeal.main (F := Ideal))) ⟨m, fun _ => 0, g⟩ (fun r => (∀ c : Dev Cert.KernelAdamSsdIdeal.nD,
      r.2.mem ((c.tc : Thread Cert.KernelAdamSsdIdeal.nD Cert.KernelAdamSsdIdeal.τ).loc Cert.KernelAdamSsdIdeal.main_arg0) = m ((c.tc : Thread Cert.KernelAdamSsdIdeal.nD Cert.KernelAdamSsdIdeal.τ).loc Cert.KernelAdamSsdIdeal.main_arg0)
      ∧ r.2.mem ((c.tc : Thread Cert.KernelAdamSsdIdeal.nD Cert.KernelAdamSsdIdeal.τ).loc Cert.KernelAdamSsdIdeal.main_arg1) = m ((c.tc : Thread Cert.KernelAdamSsdIdeal.nD Cert.KernelAdamSsdIdeal.τ).loc Cert.KernelAdamSsdIdeal.main_arg1)
      ∧ r.2.mem ((c.tc : Thread Cert.KernelAdamSsdIdeal.nD Cert.KernelAdamSsdIdeal.τ).loc Cert.KernelAdamSsdIdeal.main_arg2) = m ((c.tc : Thread Cert.KernelAdamSsdIdeal.nD Cert.KernelAdamSsdIdeal.τ).loc Cert.KernelAdamSsdIdeal.main_arg2)
      ∧ r.2.mem ((c.tc : Thread Cert.KernelAdamSsdIdeal.nD Cert.KernelAdamSsdIdeal.τ).loc Cert.KernelAdamSsdIdeal.main_arg3) = m ((c.tc : Thread Cert.KernelAdamSsdIdeal.nD Cert.KernelAdamSsdIdeal.τ).loc Cert.KernelAdamSsdIdeal.main_arg3))
      ∧ r.2.sem = fun _ => 0)

def quiescent_ReferenceAdamSsdIdeal [hReferenceAdamSsdIdeal : Cert.ReferenceAdamSsdIdeal.Facts] : Prop :=
  ∀ (m : (ℓ : Loc Cert.ReferenceAdamSsdIdeal.nD Cert.ReferenceAdamSsdIdeal.τ Cert.ReferenceAdamSsdIdeal.sig) → Buf (Elt Ideal) ℓ) (g : Dev Cert.ReferenceAdamSsdIdeal.nD → PrngReg), Pre_ReferenceAdamSsdIdeal m →
    θ_run (Cert.ReferenceAdamSsdIdeal.defs (F := Ideal)) (onTc (τ := Cert.ReferenceAdamSsdIdeal.τ) (Cert.ReferenceAdamSsdIdeal.main (F := Ideal))) ⟨m, fun _ => 0, g⟩ (fun r => (∀ c : Dev Cert.ReferenceAdamSsdIdeal.nD,
      r.2.mem ((c.tc : Thread Cert.ReferenceAdamSsdIdeal.nD Cert.ReferenceAdamSsdIdeal.τ).loc Cert.ReferenceAdamSsdIdeal.main_arg0) = m ((c.tc : Thread Cert.ReferenceAdamSsdIdeal.nD Cert.ReferenceAdamSsdIdeal.τ).loc Cert.ReferenceAdamSsdIdeal.main_arg0)
      ∧ r.2.mem ((c.tc : Thread Cert.ReferenceAdamSsdIdeal.nD Cert.ReferenceAdamSsdIdeal.τ).loc Cert.ReferenceAdamSsdIdeal.main_arg1) = m ((c.tc : Thread Cert.ReferenceAdamSsdIdeal.nD Cert.ReferenceAdamSsdIdeal.τ).loc Cert.ReferenceAdamSsdIdeal.main_arg1)
      ∧ r.2.mem ((c.tc : Thread Cert.ReferenceAdamSsdIdeal.nD Cert.ReferenceAdamSsdIdeal.τ).loc Cert.ReferenceAdamSsdIdeal.main_arg2) = m ((c.tc : Thread Cert.ReferenceAdamSsdIdeal.nD Cert.ReferenceAdamSsdIdeal.τ).loc Cert.ReferenceAdamSsdIdeal.main_arg2)
      ∧ r.2.mem ((c.tc : Thread Cert.ReferenceAdamSsdIdeal.nD Cert.ReferenceAdamSsdIdeal.τ).loc Cert.ReferenceAdamSsdIdeal.main_arg3) = m ((c.tc : Thread Cert.ReferenceAdamSsdIdeal.nD Cert.ReferenceAdamSsdIdeal.τ).loc Cert.ReferenceAdamSsdIdeal.main_arg3))
      ∧ r.2.sem = fun _ => 0)

def quiescent_KernelAdamGate [hKernelAdamGate : Cert.KernelAdamGate.Facts] : Prop :=
  ∀ (m : (ℓ : Loc Cert.KernelAdamGate.nD Cert.KernelAdamGate.τ Cert.KernelAdamGate.sig) → Buf (Elt Bits) ℓ) (g : Dev Cert.KernelAdamGate.nD → PrngReg), Pre_KernelAdamGate m →
    θ_run (Cert.KernelAdamGate.defs (F := Bits)) (onTc (τ := Cert.KernelAdamGate.τ) (Cert.KernelAdamGate.main (F := Bits))) ⟨m, fun _ => 0, g⟩ (fun r => (∀ c : Dev Cert.KernelAdamGate.nD,
      r.2.mem ((c.tc : Thread Cert.KernelAdamGate.nD Cert.KernelAdamGate.τ).loc Cert.KernelAdamGate.main_arg0) = m ((c.tc : Thread Cert.KernelAdamGate.nD Cert.KernelAdamGate.τ).loc Cert.KernelAdamGate.main_arg0)
      ∧ r.2.mem ((c.tc : Thread Cert.KernelAdamGate.nD Cert.KernelAdamGate.τ).loc Cert.KernelAdamGate.main_arg1) = m ((c.tc : Thread Cert.KernelAdamGate.nD Cert.KernelAdamGate.τ).loc Cert.KernelAdamGate.main_arg1)
      ∧ r.2.mem ((c.tc : Thread Cert.KernelAdamGate.nD Cert.KernelAdamGate.τ).loc Cert.KernelAdamGate.main_arg2) = m ((c.tc : Thread Cert.KernelAdamGate.nD Cert.KernelAdamGate.τ).loc Cert.KernelAdamGate.main_arg2)
      ∧ r.2.mem ((c.tc : Thread Cert.KernelAdamGate.nD Cert.KernelAdamGate.τ).loc Cert.KernelAdamGate.main_arg3) = m ((c.tc : Thread Cert.KernelAdamGate.nD Cert.KernelAdamGate.τ).loc Cert.KernelAdamGate.main_arg3))
      ∧ r.2.sem = fun _ => 0)

def quiescent_KernelAdamGateIdeal [hKernelAdamGateIdeal : Cert.KernelAdamGateIdeal.Facts] : Prop :=
  ∀ (m : (ℓ : Loc Cert.KernelAdamGateIdeal.nD Cert.KernelAdamGateIdeal.τ Cert.KernelAdamGateIdeal.sig) → Buf (Elt Ideal) ℓ) (g : Dev Cert.KernelAdamGateIdeal.nD → PrngReg), Pre_KernelAdamGateIdeal m →
    θ_run (Cert.KernelAdamGateIdeal.defs (F := Ideal)) (onTc (τ := Cert.KernelAdamGateIdeal.τ) (Cert.KernelAdamGateIdeal.main (F := Ideal))) ⟨m, fun _ => 0, g⟩ (fun r => (∀ c : Dev Cert.KernelAdamGateIdeal.nD,
      r.2.mem ((c.tc : Thread Cert.KernelAdamGateIdeal.nD Cert.KernelAdamGateIdeal.τ).loc Cert.KernelAdamGateIdeal.main_arg0) = m ((c.tc : Thread Cert.KernelAdamGateIdeal.nD Cert.KernelAdamGateIdeal.τ).loc Cert.KernelAdamGateIdeal.main_arg0)
      ∧ r.2.mem ((c.tc : Thread Cert.KernelAdamGateIdeal.nD Cert.KernelAdamGateIdeal.τ).loc Cert.KernelAdamGateIdeal.main_arg1) = m ((c.tc : Thread Cert.KernelAdamGateIdeal.nD Cert.KernelAdamGateIdeal.τ).loc Cert.KernelAdamGateIdeal.main_arg1)
      ∧ r.2.mem ((c.tc : Thread Cert.KernelAdamGateIdeal.nD Cert.KernelAdamGateIdeal.τ).loc Cert.KernelAdamGateIdeal.main_arg2) = m ((c.tc : Thread Cert.KernelAdamGateIdeal.nD Cert.KernelAdamGateIdeal.τ).loc Cert.KernelAdamGateIdeal.main_arg2)
      ∧ r.2.mem ((c.tc : Thread Cert.KernelAdamGateIdeal.nD Cert.KernelAdamGateIdeal.τ).loc Cert.KernelAdamGateIdeal.main_arg3) = m ((c.tc : Thread Cert.KernelAdamGateIdeal.nD Cert.KernelAdamGateIdeal.τ).loc Cert.KernelAdamGateIdeal.main_arg3))
      ∧ r.2.sem = fun _ => 0)

def quiescent_ReferenceAdamGateIdeal [hReferenceAdamGateIdeal : Cert.ReferenceAdamGateIdeal.Facts] : Prop :=
  ∀ (m : (ℓ : Loc Cert.ReferenceAdamGateIdeal.nD Cert.ReferenceAdamGateIdeal.τ Cert.ReferenceAdamGateIdeal.sig) → Buf (Elt Ideal) ℓ) (g : Dev Cert.ReferenceAdamGateIdeal.nD → PrngReg), Pre_ReferenceAdamGateIdeal m →
    θ_run (Cert.ReferenceAdamGateIdeal.defs (F := Ideal)) (onTc (τ := Cert.ReferenceAdamGateIdeal.τ) (Cert.ReferenceAdamGateIdeal.main (F := Ideal))) ⟨m, fun _ => 0, g⟩ (fun r => (∀ c : Dev Cert.ReferenceAdamGateIdeal.nD,
      r.2.mem ((c.tc : Thread Cert.ReferenceAdamGateIdeal.nD Cert.ReferenceAdamGateIdeal.τ).loc Cert.ReferenceAdamGateIdeal.main_arg0) = m ((c.tc : Thread Cert.ReferenceAdamGateIdeal.nD Cert.ReferenceAdamGateIdeal.τ).loc Cert.ReferenceAdamGateIdeal.main_arg0)
      ∧ r.2.mem ((c.tc : Thread Cert.ReferenceAdamGateIdeal.nD Cert.ReferenceAdamGateIdeal.τ).loc Cert.ReferenceAdamGateIdeal.main_arg1) = m ((c.tc : Thread Cert.ReferenceAdamGateIdeal.nD Cert.ReferenceAdamGateIdeal.τ).loc Cert.ReferenceAdamGateIdeal.main_arg1)
      ∧ r.2.mem ((c.tc : Thread Cert.ReferenceAdamGateIdeal.nD Cert.ReferenceAdamGateIdeal.τ).loc Cert.ReferenceAdamGateIdeal.main_arg2) = m ((c.tc : Thread Cert.ReferenceAdamGateIdeal.nD Cert.ReferenceAdamGateIdeal.τ).loc Cert.ReferenceAdamGateIdeal.main_arg2)
      ∧ r.2.mem ((c.tc : Thread Cert.ReferenceAdamGateIdeal.nD Cert.ReferenceAdamGateIdeal.τ).loc Cert.ReferenceAdamGateIdeal.main_arg3) = m ((c.tc : Thread Cert.ReferenceAdamGateIdeal.nD Cert.ReferenceAdamGateIdeal.τ).loc Cert.ReferenceAdamGateIdeal.main_arg3))
      ∧ r.2.sem = fun _ => 0)

def quiescent_KernelAdamFf2 [hKernelAdamFf2 : Cert.KernelAdamFf2.Facts] : Prop :=
  ∀ (m : (ℓ : Loc Cert.KernelAdamFf2.nD Cert.KernelAdamFf2.τ Cert.KernelAdamFf2.sig) → Buf (Elt Bits) ℓ) (g : Dev Cert.KernelAdamFf2.nD → PrngReg), Pre_KernelAdamFf2 m →
    θ_run (Cert.KernelAdamFf2.defs (F := Bits)) (onTc (τ := Cert.KernelAdamFf2.τ) (Cert.KernelAdamFf2.main (F := Bits))) ⟨m, fun _ => 0, g⟩ (fun r => (∀ c : Dev Cert.KernelAdamFf2.nD,
      r.2.mem ((c.tc : Thread Cert.KernelAdamFf2.nD Cert.KernelAdamFf2.τ).loc Cert.KernelAdamFf2.main_arg0) = m ((c.tc : Thread Cert.KernelAdamFf2.nD Cert.KernelAdamFf2.τ).loc Cert.KernelAdamFf2.main_arg0)
      ∧ r.2.mem ((c.tc : Thread Cert.KernelAdamFf2.nD Cert.KernelAdamFf2.τ).loc Cert.KernelAdamFf2.main_arg1) = m ((c.tc : Thread Cert.KernelAdamFf2.nD Cert.KernelAdamFf2.τ).loc Cert.KernelAdamFf2.main_arg1)
      ∧ r.2.mem ((c.tc : Thread Cert.KernelAdamFf2.nD Cert.KernelAdamFf2.τ).loc Cert.KernelAdamFf2.main_arg2) = m ((c.tc : Thread Cert.KernelAdamFf2.nD Cert.KernelAdamFf2.τ).loc Cert.KernelAdamFf2.main_arg2)
      ∧ r.2.mem ((c.tc : Thread Cert.KernelAdamFf2.nD Cert.KernelAdamFf2.τ).loc Cert.KernelAdamFf2.main_arg3) = m ((c.tc : Thread Cert.KernelAdamFf2.nD Cert.KernelAdamFf2.τ).loc Cert.KernelAdamFf2.main_arg3))
      ∧ r.2.sem = fun _ => 0)

def quiescent_KernelAdamFf2Ideal [hKernelAdamFf2Ideal : Cert.KernelAdamFf2Ideal.Facts] : Prop :=
  ∀ (m : (ℓ : Loc Cert.KernelAdamFf2Ideal.nD Cert.KernelAdamFf2Ideal.τ Cert.KernelAdamFf2Ideal.sig) → Buf (Elt Ideal) ℓ) (g : Dev Cert.KernelAdamFf2Ideal.nD → PrngReg), Pre_KernelAdamFf2Ideal m →
    θ_run (Cert.KernelAdamFf2Ideal.defs (F := Ideal)) (onTc (τ := Cert.KernelAdamFf2Ideal.τ) (Cert.KernelAdamFf2Ideal.main (F := Ideal))) ⟨m, fun _ => 0, g⟩ (fun r => (∀ c : Dev Cert.KernelAdamFf2Ideal.nD,
      r.2.mem ((c.tc : Thread Cert.KernelAdamFf2Ideal.nD Cert.KernelAdamFf2Ideal.τ).loc Cert.KernelAdamFf2Ideal.main_arg0) = m ((c.tc : Thread Cert.KernelAdamFf2Ideal.nD Cert.KernelAdamFf2Ideal.τ).loc Cert.KernelAdamFf2Ideal.main_arg0)
      ∧ r.2.mem ((c.tc : Thread Cert.KernelAdamFf2Ideal.nD Cert.KernelAdamFf2Ideal.τ).loc Cert.KernelAdamFf2Ideal.main_arg1) = m ((c.tc : Thread Cert.KernelAdamFf2Ideal.nD Cert.KernelAdamFf2Ideal.τ).loc Cert.KernelAdamFf2Ideal.main_arg1)
      ∧ r.2.mem ((c.tc : Thread Cert.KernelAdamFf2Ideal.nD Cert.KernelAdamFf2Ideal.τ).loc Cert.KernelAdamFf2Ideal.main_arg2) = m ((c.tc : Thread Cert.KernelAdamFf2Ideal.nD Cert.KernelAdamFf2Ideal.τ).loc Cert.KernelAdamFf2Ideal.main_arg2)
      ∧ r.2.mem ((c.tc : Thread Cert.KernelAdamFf2Ideal.nD Cert.KernelAdamFf2Ideal.τ).loc Cert.KernelAdamFf2Ideal.main_arg3) = m ((c.tc : Thread Cert.KernelAdamFf2Ideal.nD Cert.KernelAdamFf2Ideal.τ).loc Cert.KernelAdamFf2Ideal.main_arg3))
      ∧ r.2.sem = fun _ => 0)

def quiescent_ReferenceAdamFf2Ideal [hReferenceAdamFf2Ideal : Cert.ReferenceAdamFf2Ideal.Facts] : Prop :=
  ∀ (m : (ℓ : Loc Cert.ReferenceAdamFf2Ideal.nD Cert.ReferenceAdamFf2Ideal.τ Cert.ReferenceAdamFf2Ideal.sig) → Buf (Elt Ideal) ℓ) (g : Dev Cert.ReferenceAdamFf2Ideal.nD → PrngReg), Pre_ReferenceAdamFf2Ideal m →
    θ_run (Cert.ReferenceAdamFf2Ideal.defs (F := Ideal)) (onTc (τ := Cert.ReferenceAdamFf2Ideal.τ) (Cert.ReferenceAdamFf2Ideal.main (F := Ideal))) ⟨m, fun _ => 0, g⟩ (fun r => (∀ c : Dev Cert.ReferenceAdamFf2Ideal.nD,
      r.2.mem ((c.tc : Thread Cert.ReferenceAdamFf2Ideal.nD Cert.ReferenceAdamFf2Ideal.τ).loc Cert.ReferenceAdamFf2Ideal.main_arg0) = m ((c.tc : Thread Cert.ReferenceAdamFf2Ideal.nD Cert.ReferenceAdamFf2Ideal.τ).loc Cert.ReferenceAdamFf2Ideal.main_arg0)
      ∧ r.2.mem ((c.tc : Thread Cert.ReferenceAdamFf2Ideal.nD Cert.ReferenceAdamFf2Ideal.τ).loc Cert.ReferenceAdamFf2Ideal.main_arg1) = m ((c.tc : Thread Cert.ReferenceAdamFf2Ideal.nD Cert.ReferenceAdamFf2Ideal.τ).loc Cert.ReferenceAdamFf2Ideal.main_arg1)
      ∧ r.2.mem ((c.tc : Thread Cert.ReferenceAdamFf2Ideal.nD Cert.ReferenceAdamFf2Ideal.τ).loc Cert.ReferenceAdamFf2Ideal.main_arg2) = m ((c.tc : Thread Cert.ReferenceAdamFf2Ideal.nD Cert.ReferenceAdamFf2Ideal.τ).loc Cert.ReferenceAdamFf2Ideal.main_arg2)
      ∧ r.2.mem ((c.tc : Thread Cert.ReferenceAdamFf2Ideal.nD Cert.ReferenceAdamFf2Ideal.τ).loc Cert.ReferenceAdamFf2Ideal.main_arg3) = m ((c.tc : Thread Cert.ReferenceAdamFf2Ideal.nD Cert.ReferenceAdamFf2Ideal.τ).loc Cert.ReferenceAdamFf2Ideal.main_arg3))
      ∧ r.2.sem = fun _ => 0)

def quiescent_KernelAdamPle [hKernelAdamPle : Cert.KernelAdamPle.Facts] : Prop :=
  ∀ (m : (ℓ : Loc Cert.KernelAdamPle.nD Cert.KernelAdamPle.τ Cert.KernelAdamPle.sig) → Buf (Elt Bits) ℓ) (g : Dev Cert.KernelAdamPle.nD → PrngReg), Pre_KernelAdamPle m →
    θ_run (Cert.KernelAdamPle.defs (F := Bits)) (onTc (τ := Cert.KernelAdamPle.τ) (Cert.KernelAdamPle.main (F := Bits))) ⟨m, fun _ => 0, g⟩ (fun r => (∀ c : Dev Cert.KernelAdamPle.nD,
      r.2.mem ((c.tc : Thread Cert.KernelAdamPle.nD Cert.KernelAdamPle.τ).loc Cert.KernelAdamPle.main_arg0) = m ((c.tc : Thread Cert.KernelAdamPle.nD Cert.KernelAdamPle.τ).loc Cert.KernelAdamPle.main_arg0)
      ∧ r.2.mem ((c.tc : Thread Cert.KernelAdamPle.nD Cert.KernelAdamPle.τ).loc Cert.KernelAdamPle.main_arg1) = m ((c.tc : Thread Cert.KernelAdamPle.nD Cert.KernelAdamPle.τ).loc Cert.KernelAdamPle.main_arg1)
      ∧ r.2.mem ((c.tc : Thread Cert.KernelAdamPle.nD Cert.KernelAdamPle.τ).loc Cert.KernelAdamPle.main_arg2) = m ((c.tc : Thread Cert.KernelAdamPle.nD Cert.KernelAdamPle.τ).loc Cert.KernelAdamPle.main_arg2)
      ∧ r.2.mem ((c.tc : Thread Cert.KernelAdamPle.nD Cert.KernelAdamPle.τ).loc Cert.KernelAdamPle.main_arg3) = m ((c.tc : Thread Cert.KernelAdamPle.nD Cert.KernelAdamPle.τ).loc Cert.KernelAdamPle.main_arg3))
      ∧ r.2.sem = fun _ => 0)

def quiescent_KernelAdamPleIdeal [hKernelAdamPleIdeal : Cert.KernelAdamPleIdeal.Facts] : Prop :=
  ∀ (m : (ℓ : Loc Cert.KernelAdamPleIdeal.nD Cert.KernelAdamPleIdeal.τ Cert.KernelAdamPleIdeal.sig) → Buf (Elt Ideal) ℓ) (g : Dev Cert.KernelAdamPleIdeal.nD → PrngReg), Pre_KernelAdamPleIdeal m →
    θ_run (Cert.KernelAdamPleIdeal.defs (F := Ideal)) (onTc (τ := Cert.KernelAdamPleIdeal.τ) (Cert.KernelAdamPleIdeal.main (F := Ideal))) ⟨m, fun _ => 0, g⟩ (fun r => (∀ c : Dev Cert.KernelAdamPleIdeal.nD,
      r.2.mem ((c.tc : Thread Cert.KernelAdamPleIdeal.nD Cert.KernelAdamPleIdeal.τ).loc Cert.KernelAdamPleIdeal.main_arg0) = m ((c.tc : Thread Cert.KernelAdamPleIdeal.nD Cert.KernelAdamPleIdeal.τ).loc Cert.KernelAdamPleIdeal.main_arg0)
      ∧ r.2.mem ((c.tc : Thread Cert.KernelAdamPleIdeal.nD Cert.KernelAdamPleIdeal.τ).loc Cert.KernelAdamPleIdeal.main_arg1) = m ((c.tc : Thread Cert.KernelAdamPleIdeal.nD Cert.KernelAdamPleIdeal.τ).loc Cert.KernelAdamPleIdeal.main_arg1)
      ∧ r.2.mem ((c.tc : Thread Cert.KernelAdamPleIdeal.nD Cert.KernelAdamPleIdeal.τ).loc Cert.KernelAdamPleIdeal.main_arg2) = m ((c.tc : Thread Cert.KernelAdamPleIdeal.nD Cert.KernelAdamPleIdeal.τ).loc Cert.KernelAdamPleIdeal.main_arg2)
      ∧ r.2.mem ((c.tc : Thread Cert.KernelAdamPleIdeal.nD Cert.KernelAdamPleIdeal.τ).loc Cert.KernelAdamPleIdeal.main_arg3) = m ((c.tc : Thread Cert.KernelAdamPleIdeal.nD Cert.KernelAdamPleIdeal.τ).loc Cert.KernelAdamPleIdeal.main_arg3))
      ∧ r.2.sem = fun _ => 0)

def quiescent_ReferenceAdamPleIdeal [hReferenceAdamPleIdeal : Cert.ReferenceAdamPleIdeal.Facts] : Prop :=
  ∀ (m : (ℓ : Loc Cert.ReferenceAdamPleIdeal.nD Cert.ReferenceAdamPleIdeal.τ Cert.ReferenceAdamPleIdeal.sig) → Buf (Elt Ideal) ℓ) (g : Dev Cert.ReferenceAdamPleIdeal.nD → PrngReg), Pre_ReferenceAdamPleIdeal m →
    θ_run (Cert.ReferenceAdamPleIdeal.defs (F := Ideal)) (onTc (τ := Cert.ReferenceAdamPleIdeal.τ) (Cert.ReferenceAdamPleIdeal.main (F := Ideal))) ⟨m, fun _ => 0, g⟩ (fun r => (∀ c : Dev Cert.ReferenceAdamPleIdeal.nD,
      r.2.mem ((c.tc : Thread Cert.ReferenceAdamPleIdeal.nD Cert.ReferenceAdamPleIdeal.τ).loc Cert.ReferenceAdamPleIdeal.main_arg0) = m ((c.tc : Thread Cert.ReferenceAdamPleIdeal.nD Cert.ReferenceAdamPleIdeal.τ).loc Cert.ReferenceAdamPleIdeal.main_arg0)
      ∧ r.2.mem ((c.tc : Thread Cert.ReferenceAdamPleIdeal.nD Cert.ReferenceAdamPleIdeal.τ).loc Cert.ReferenceAdamPleIdeal.main_arg1) = m ((c.tc : Thread Cert.ReferenceAdamPleIdeal.nD Cert.ReferenceAdamPleIdeal.τ).loc Cert.ReferenceAdamPleIdeal.main_arg1)
      ∧ r.2.mem ((c.tc : Thread Cert.ReferenceAdamPleIdeal.nD Cert.ReferenceAdamPleIdeal.τ).loc Cert.ReferenceAdamPleIdeal.main_arg2) = m ((c.tc : Thread Cert.ReferenceAdamPleIdeal.nD Cert.ReferenceAdamPleIdeal.τ).loc Cert.ReferenceAdamPleIdeal.main_arg2)
      ∧ r.2.mem ((c.tc : Thread Cert.ReferenceAdamPleIdeal.nD Cert.ReferenceAdamPleIdeal.τ).loc Cert.ReferenceAdamPleIdeal.main_arg3) = m ((c.tc : Thread Cert.ReferenceAdamPleIdeal.nD Cert.ReferenceAdamPleIdeal.τ).loc Cert.ReferenceAdamPleIdeal.main_arg3))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelFf2X_KernelFf2XIdeal : Prop :=
  True

def algebraic_KernelFf2XIdeal_ReferenceFf2XIdeal [hKernelFf2XIdeal : Cert.KernelFf2XIdeal.Facts] [hReferenceFf2XIdeal : Cert.ReferenceFf2XIdeal.Facts] : Prop :=
  ∀ (m : (ℓ : Loc Cert.KernelFf2XIdeal.nD Cert.KernelFf2XIdeal.τ Cert.KernelFf2XIdeal.sig) → Buf (Elt Ideal) ℓ) (g : Dev Cert.KernelFf2XIdeal.nD → PrngReg)
    (m' : (ℓ : Loc Cert.ReferenceFf2XIdeal.nD Cert.ReferenceFf2XIdeal.τ Cert.ReferenceFf2XIdeal.sig) → Buf (Elt Ideal) ℓ) (g' : Dev Cert.ReferenceFf2XIdeal.nD → PrngReg), Pre_KernelFf2XIdeal m →
    (∀ c : Dev Cert.KernelFf2XIdeal.nD,
      m' ((c.tc : Thread Cert.ReferenceFf2XIdeal.nD Cert.ReferenceFf2XIdeal.τ).loc Cert.ReferenceFf2XIdeal.main_arg0) = m ((c.tc : Thread Cert.KernelFf2XIdeal.nD Cert.KernelFf2XIdeal.τ).loc Cert.KernelFf2XIdeal.main_arg0)
      ∧ m' ((c.tc : Thread Cert.ReferenceFf2XIdeal.nD Cert.ReferenceFf2XIdeal.τ).loc Cert.ReferenceFf2XIdeal.main_arg1) = m ((c.tc : Thread Cert.KernelFf2XIdeal.nD Cert.KernelFf2XIdeal.τ).loc Cert.KernelFf2XIdeal.main_arg1)
      ∧ m' ((c.tc : Thread Cert.ReferenceFf2XIdeal.nD Cert.ReferenceFf2XIdeal.τ).loc Cert.ReferenceFf2XIdeal.main_arg2) = m ((c.tc : Thread Cert.KernelFf2XIdeal.nD Cert.KernelFf2XIdeal.τ).loc Cert.KernelFf2XIdeal.main_arg2)) →
    ∃ (v0 : (c : Dev Cert.KernelFf2XIdeal.nD) → Buf (Elt Ideal) ((c.tc : Thread Cert.KernelFf2XIdeal.nD Cert.KernelFf2XIdeal.τ).loc Cert.KernelFf2XIdeal.main_v0)),
      θ_run (Cert.KernelFf2XIdeal.defs (F := Ideal)) (onTc (τ := Cert.KernelFf2XIdeal.τ) (Cert.KernelFf2XIdeal.main (F := Ideal))) ⟨m, fun _ => 0, g⟩ (fun r => ∀ c : Dev Cert.KernelFf2XIdeal.nD,
          r.2.mem ((c.tc : Thread Cert.KernelFf2XIdeal.nD Cert.KernelFf2XIdeal.τ).loc Cert.KernelFf2XIdeal.main_v0) = v0 c
          ∧ r.2.mem ((c.tc : Thread Cert.KernelFf2XIdeal.nD Cert.KernelFf2XIdeal.τ).loc Cert.KernelFf2XIdeal.main_arg0) = m ((c.tc : Thread Cert.KernelFf2XIdeal.nD Cert.KernelFf2XIdeal.τ).loc Cert.KernelFf2XIdeal.main_arg0)
          ∧ r.2.mem ((c.tc : Thread Cert.KernelFf2XIdeal.nD Cert.KernelFf2XIdeal.τ).loc Cert.KernelFf2XIdeal.main_arg1) = m ((c.tc : Thread Cert.KernelFf2XIdeal.nD Cert.KernelFf2XIdeal.τ).loc Cert.KernelFf2XIdeal.main_arg1)
          ∧ r.2.mem ((c.tc : Thread Cert.KernelFf2XIdeal.nD Cert.KernelFf2XIdeal.τ).loc Cert.KernelFf2XIdeal.main_arg2) = m ((c.tc : Thread Cert.KernelFf2XIdeal.nD Cert.KernelFf2XIdeal.τ).loc Cert.KernelFf2XIdeal.main_arg2))
      ∧ θ_run (Cert.ReferenceFf2XIdeal.defs (F := Ideal)) (onTc (τ := Cert.ReferenceFf2XIdeal.τ) (Cert.ReferenceFf2XIdeal.main (F := Ideal))) ⟨m', fun _ => 0, g'⟩ (fun r => ∀ c : Dev Cert.ReferenceFf2XIdeal.nD,
          r.2.mem ((c.tc : Thread Cert.ReferenceFf2XIdeal.nD Cert.ReferenceFf2XIdeal.τ).loc Cert.ReferenceFf2XIdeal.main_v14) = v0 c
          ∧ r.2.mem ((c.tc : Thread Cert.ReferenceFf2XIdeal.nD Cert.ReferenceFf2XIdeal.τ).loc Cert.ReferenceFf2XIdeal.main_arg0) = m' ((c.tc : Thread Cert.ReferenceFf2XIdeal.nD Cert.ReferenceFf2XIdeal.τ).loc Cert.ReferenceFf2XIdeal.main_arg0)
          ∧ r.2.mem ((c.tc : Thread Cert.ReferenceFf2XIdeal.nD Cert.ReferenceFf2XIdeal.τ).loc Cert.ReferenceFf2XIdeal.main_arg1) = m' ((c.tc : Thread Cert.ReferenceFf2XIdeal.nD Cert.ReferenceFf2XIdeal.τ).loc Cert.ReferenceFf2XIdeal.main_arg1)
          ∧ r.2.mem ((c.tc : Thread Cert.ReferenceFf2XIdeal.nD Cert.ReferenceFf2XIdeal.τ).loc Cert.ReferenceFf2XIdeal.main_arg2) = m' ((c.tc : Thread Cert.ReferenceFf2XIdeal.nD Cert.ReferenceFf2XIdeal.τ).loc Cert.ReferenceFf2XIdeal.main_arg2))

def preserves_KernelFf2W_KernelFf2WIdeal : Prop :=
  True

def algebraic_KernelFf2WIdeal_ReferenceFf2WIdeal [hKernelFf2WIdeal : Cert.KernelFf2WIdeal.Facts] [hReferenceFf2WIdeal : Cert.ReferenceFf2WIdeal.Facts] : Prop :=
  ∀ (m : (ℓ : Loc Cert.KernelFf2WIdeal.nD Cert.KernelFf2WIdeal.τ Cert.KernelFf2WIdeal.sig) → Buf (Elt Ideal) ℓ) (g : Dev Cert.KernelFf2WIdeal.nD → PrngReg)
    (m' : (ℓ : Loc Cert.ReferenceFf2WIdeal.nD Cert.ReferenceFf2WIdeal.τ Cert.ReferenceFf2WIdeal.sig) → Buf (Elt Ideal) ℓ) (g' : Dev Cert.ReferenceFf2WIdeal.nD → PrngReg), Pre_KernelFf2WIdeal m →
    (∀ c : Dev Cert.KernelFf2WIdeal.nD,
      m' ((c.tc : Thread Cert.ReferenceFf2WIdeal.nD Cert.ReferenceFf2WIdeal.τ).loc Cert.ReferenceFf2WIdeal.main_arg0) = m ((c.tc : Thread Cert.KernelFf2WIdeal.nD Cert.KernelFf2WIdeal.τ).loc Cert.KernelFf2WIdeal.main_arg0)
      ∧ m' ((c.tc : Thread Cert.ReferenceFf2WIdeal.nD Cert.ReferenceFf2WIdeal.τ).loc Cert.ReferenceFf2WIdeal.main_arg1) = m ((c.tc : Thread Cert.KernelFf2WIdeal.nD Cert.KernelFf2WIdeal.τ).loc Cert.KernelFf2WIdeal.main_arg1)
      ∧ m' ((c.tc : Thread Cert.ReferenceFf2WIdeal.nD Cert.ReferenceFf2WIdeal.τ).loc Cert.ReferenceFf2WIdeal.main_arg2) = m ((c.tc : Thread Cert.KernelFf2WIdeal.nD Cert.KernelFf2WIdeal.τ).loc Cert.KernelFf2WIdeal.main_arg2)) →
    ∃ (v0 : (c : Dev Cert.KernelFf2WIdeal.nD) → Buf (Elt Ideal) ((c.tc : Thread Cert.KernelFf2WIdeal.nD Cert.KernelFf2WIdeal.τ).loc Cert.KernelFf2WIdeal.main_v0)),
      θ_run (Cert.KernelFf2WIdeal.defs (F := Ideal)) (onTc (τ := Cert.KernelFf2WIdeal.τ) (Cert.KernelFf2WIdeal.main (F := Ideal))) ⟨m, fun _ => 0, g⟩ (fun r => ∀ c : Dev Cert.KernelFf2WIdeal.nD,
          r.2.mem ((c.tc : Thread Cert.KernelFf2WIdeal.nD Cert.KernelFf2WIdeal.τ).loc Cert.KernelFf2WIdeal.main_v0) = v0 c
          ∧ r.2.mem ((c.tc : Thread Cert.KernelFf2WIdeal.nD Cert.KernelFf2WIdeal.τ).loc Cert.KernelFf2WIdeal.main_arg0) = m ((c.tc : Thread Cert.KernelFf2WIdeal.nD Cert.KernelFf2WIdeal.τ).loc Cert.KernelFf2WIdeal.main_arg0)
          ∧ r.2.mem ((c.tc : Thread Cert.KernelFf2WIdeal.nD Cert.KernelFf2WIdeal.τ).loc Cert.KernelFf2WIdeal.main_arg1) = m ((c.tc : Thread Cert.KernelFf2WIdeal.nD Cert.KernelFf2WIdeal.τ).loc Cert.KernelFf2WIdeal.main_arg1)
          ∧ r.2.mem ((c.tc : Thread Cert.KernelFf2WIdeal.nD Cert.KernelFf2WIdeal.τ).loc Cert.KernelFf2WIdeal.main_arg2) = m ((c.tc : Thread Cert.KernelFf2WIdeal.nD Cert.KernelFf2WIdeal.τ).loc Cert.KernelFf2WIdeal.main_arg2))
      ∧ θ_run (Cert.ReferenceFf2WIdeal.defs (F := Ideal)) (onTc (τ := Cert.ReferenceFf2WIdeal.τ) (Cert.ReferenceFf2WIdeal.main (F := Ideal))) ⟨m', fun _ => 0, g'⟩ (fun r => ∀ c : Dev Cert.ReferenceFf2WIdeal.nD,
          r.2.mem ((c.tc : Thread Cert.ReferenceFf2WIdeal.nD Cert.ReferenceFf2WIdeal.τ).loc Cert.ReferenceFf2WIdeal.main_v5) = v0 c
          ∧ r.2.mem ((c.tc : Thread Cert.ReferenceFf2WIdeal.nD Cert.ReferenceFf2WIdeal.τ).loc Cert.ReferenceFf2WIdeal.main_arg0) = m' ((c.tc : Thread Cert.ReferenceFf2WIdeal.nD Cert.ReferenceFf2WIdeal.τ).loc Cert.ReferenceFf2WIdeal.main_arg0)
          ∧ r.2.mem ((c.tc : Thread Cert.ReferenceFf2WIdeal.nD Cert.ReferenceFf2WIdeal.τ).loc Cert.ReferenceFf2WIdeal.main_arg1) = m' ((c.tc : Thread Cert.ReferenceFf2WIdeal.nD Cert.ReferenceFf2WIdeal.τ).loc Cert.ReferenceFf2WIdeal.main_arg1)
          ∧ r.2.mem ((c.tc : Thread Cert.ReferenceFf2WIdeal.nD Cert.ReferenceFf2WIdeal.τ).loc Cert.ReferenceFf2WIdeal.main_arg2) = m' ((c.tc : Thread Cert.ReferenceFf2WIdeal.nD Cert.ReferenceFf2WIdeal.τ).loc Cert.ReferenceFf2WIdeal.main_arg2))

def preserves_KernelFf1X_KernelFf1XIdeal : Prop :=
  True

def algebraic_KernelFf1XIdeal_ReferenceFf1XIdeal [hKernelFf1XIdeal : Cert.KernelFf1XIdeal.Facts] [hReferenceFf1XIdeal : Cert.ReferenceFf1XIdeal.Facts] : Prop :=
  ∀ (m : (ℓ : Loc Cert.KernelFf1XIdeal.nD Cert.KernelFf1XIdeal.τ Cert.KernelFf1XIdeal.sig) → Buf (Elt Ideal) ℓ) (g : Dev Cert.KernelFf1XIdeal.nD → PrngReg)
    (m' : (ℓ : Loc Cert.ReferenceFf1XIdeal.nD Cert.ReferenceFf1XIdeal.τ Cert.ReferenceFf1XIdeal.sig) → Buf (Elt Ideal) ℓ) (g' : Dev Cert.ReferenceFf1XIdeal.nD → PrngReg), Pre_KernelFf1XIdeal m →
    (∀ c : Dev Cert.KernelFf1XIdeal.nD,
      m' ((c.tc : Thread Cert.ReferenceFf1XIdeal.nD Cert.ReferenceFf1XIdeal.τ).loc Cert.ReferenceFf1XIdeal.main_arg0) = m ((c.tc : Thread Cert.KernelFf1XIdeal.nD Cert.KernelFf1XIdeal.τ).loc Cert.KernelFf1XIdeal.main_arg0)
      ∧ m' ((c.tc : Thread Cert.ReferenceFf1XIdeal.nD Cert.ReferenceFf1XIdeal.τ).loc Cert.ReferenceFf1XIdeal.main_arg1) = m ((c.tc : Thread Cert.KernelFf1XIdeal.nD Cert.KernelFf1XIdeal.τ).loc Cert.KernelFf1XIdeal.main_arg1)
      ∧ m' ((c.tc : Thread Cert.ReferenceFf1XIdeal.nD Cert.ReferenceFf1XIdeal.τ).loc Cert.ReferenceFf1XIdeal.main_arg2) = m ((c.tc : Thread Cert.KernelFf1XIdeal.nD Cert.KernelFf1XIdeal.τ).loc Cert.KernelFf1XIdeal.main_arg2)) →
    ∃ (v0 : (c : Dev Cert.KernelFf1XIdeal.nD) → Buf (Elt Ideal) ((c.tc : Thread Cert.KernelFf1XIdeal.nD Cert.KernelFf1XIdeal.τ).loc Cert.KernelFf1XIdeal.main_v2)),
      θ_run (Cert.KernelFf1XIdeal.defs (F := Ideal)) (onTc (τ := Cert.KernelFf1XIdeal.τ) (Cert.KernelFf1XIdeal.main (F := Ideal))) ⟨m, fun _ => 0, g⟩ (fun r => ∀ c : Dev Cert.KernelFf1XIdeal.nD,
          r.2.mem ((c.tc : Thread Cert.KernelFf1XIdeal.nD Cert.KernelFf1XIdeal.τ).loc Cert.KernelFf1XIdeal.main_v2) = v0 c
          ∧ r.2.mem ((c.tc : Thread Cert.KernelFf1XIdeal.nD Cert.KernelFf1XIdeal.τ).loc Cert.KernelFf1XIdeal.main_arg0) = m ((c.tc : Thread Cert.KernelFf1XIdeal.nD Cert.KernelFf1XIdeal.τ).loc Cert.KernelFf1XIdeal.main_arg0)
          ∧ r.2.mem ((c.tc : Thread Cert.KernelFf1XIdeal.nD Cert.KernelFf1XIdeal.τ).loc Cert.KernelFf1XIdeal.main_arg1) = m ((c.tc : Thread Cert.KernelFf1XIdeal.nD Cert.KernelFf1XIdeal.τ).loc Cert.KernelFf1XIdeal.main_arg1)
          ∧ r.2.mem ((c.tc : Thread Cert.KernelFf1XIdeal.nD Cert.KernelFf1XIdeal.τ).loc Cert.KernelFf1XIdeal.main_arg2) = m ((c.tc : Thread Cert.KernelFf1XIdeal.nD Cert.KernelFf1XIdeal.τ).loc Cert.KernelFf1XIdeal.main_arg2))
      ∧ θ_run (Cert.ReferenceFf1XIdeal.defs (F := Ideal)) (onTc (τ := Cert.ReferenceFf1XIdeal.τ) (Cert.ReferenceFf1XIdeal.main (F := Ideal))) ⟨m', fun _ => 0, g'⟩ (fun r => ∀ c : Dev Cert.ReferenceFf1XIdeal.nD,
          r.2.mem ((c.tc : Thread Cert.ReferenceFf1XIdeal.nD Cert.ReferenceFf1XIdeal.τ).loc Cert.ReferenceFf1XIdeal.main_v4) = v0 c
          ∧ r.2.mem ((c.tc : Thread Cert.ReferenceFf1XIdeal.nD Cert.ReferenceFf1XIdeal.τ).loc Cert.ReferenceFf1XIdeal.main_arg0) = m' ((c.tc : Thread Cert.ReferenceFf1XIdeal.nD Cert.ReferenceFf1XIdeal.τ).loc Cert.ReferenceFf1XIdeal.main_arg0)
          ∧ r.2.mem ((c.tc : Thread Cert.ReferenceFf1XIdeal.nD Cert.ReferenceFf1XIdeal.τ).loc Cert.ReferenceFf1XIdeal.main_arg1) = m' ((c.tc : Thread Cert.ReferenceFf1XIdeal.nD Cert.ReferenceFf1XIdeal.τ).loc Cert.ReferenceFf1XIdeal.main_arg1)
          ∧ r.2.mem ((c.tc : Thread Cert.ReferenceFf1XIdeal.nD Cert.ReferenceFf1XIdeal.τ).loc Cert.ReferenceFf1XIdeal.main_arg2) = m' ((c.tc : Thread Cert.ReferenceFf1XIdeal.nD Cert.ReferenceFf1XIdeal.τ).loc Cert.ReferenceFf1XIdeal.main_arg2))

def preserves_KernelFf1W_KernelFf1WIdeal : Prop :=
  True

def algebraic_KernelFf1WIdeal_ReferenceFf1WIdeal [hKernelFf1WIdeal : Cert.KernelFf1WIdeal.Facts] [hReferenceFf1WIdeal : Cert.ReferenceFf1WIdeal.Facts] : Prop :=
  ∀ (m : (ℓ : Loc Cert.KernelFf1WIdeal.nD Cert.KernelFf1WIdeal.τ Cert.KernelFf1WIdeal.sig) → Buf (Elt Ideal) ℓ) (g : Dev Cert.KernelFf1WIdeal.nD → PrngReg)
    (m' : (ℓ : Loc Cert.ReferenceFf1WIdeal.nD Cert.ReferenceFf1WIdeal.τ Cert.ReferenceFf1WIdeal.sig) → Buf (Elt Ideal) ℓ) (g' : Dev Cert.ReferenceFf1WIdeal.nD → PrngReg), Pre_KernelFf1WIdeal m →
    (∀ c : Dev Cert.KernelFf1WIdeal.nD,
      m' ((c.tc : Thread Cert.ReferenceFf1WIdeal.nD Cert.ReferenceFf1WIdeal.τ).loc Cert.ReferenceFf1WIdeal.main_arg0) = m ((c.tc : Thread Cert.KernelFf1WIdeal.nD Cert.KernelFf1WIdeal.τ).loc Cert.KernelFf1WIdeal.main_arg0)
      ∧ m' ((c.tc : Thread Cert.ReferenceFf1WIdeal.nD Cert.ReferenceFf1WIdeal.τ).loc Cert.ReferenceFf1WIdeal.main_arg1) = m ((c.tc : Thread Cert.KernelFf1WIdeal.nD Cert.KernelFf1WIdeal.τ).loc Cert.KernelFf1WIdeal.main_arg1)
      ∧ m' ((c.tc : Thread Cert.ReferenceFf1WIdeal.nD Cert.ReferenceFf1WIdeal.τ).loc Cert.ReferenceFf1WIdeal.main_arg2) = m ((c.tc : Thread Cert.KernelFf1WIdeal.nD Cert.KernelFf1WIdeal.τ).loc Cert.KernelFf1WIdeal.main_arg2)) →
    ∃ (v0 : (c : Dev Cert.KernelFf1WIdeal.nD) → Buf (Elt Ideal) ((c.tc : Thread Cert.KernelFf1WIdeal.nD Cert.KernelFf1WIdeal.τ).loc Cert.KernelFf1WIdeal.main_v0)),
      θ_run (Cert.KernelFf1WIdeal.defs (F := Ideal)) (onTc (τ := Cert.KernelFf1WIdeal.τ) (Cert.KernelFf1WIdeal.main (F := Ideal))) ⟨m, fun _ => 0, g⟩ (fun r => ∀ c : Dev Cert.KernelFf1WIdeal.nD,
          r.2.mem ((c.tc : Thread Cert.KernelFf1WIdeal.nD Cert.KernelFf1WIdeal.τ).loc Cert.KernelFf1WIdeal.main_v0) = v0 c
          ∧ r.2.mem ((c.tc : Thread Cert.KernelFf1WIdeal.nD Cert.KernelFf1WIdeal.τ).loc Cert.KernelFf1WIdeal.main_arg0) = m ((c.tc : Thread Cert.KernelFf1WIdeal.nD Cert.KernelFf1WIdeal.τ).loc Cert.KernelFf1WIdeal.main_arg0)
          ∧ r.2.mem ((c.tc : Thread Cert.KernelFf1WIdeal.nD Cert.KernelFf1WIdeal.τ).loc Cert.KernelFf1WIdeal.main_arg1) = m ((c.tc : Thread Cert.KernelFf1WIdeal.nD Cert.KernelFf1WIdeal.τ).loc Cert.KernelFf1WIdeal.main_arg1)
          ∧ r.2.mem ((c.tc : Thread Cert.KernelFf1WIdeal.nD Cert.KernelFf1WIdeal.τ).loc Cert.KernelFf1WIdeal.main_arg2) = m ((c.tc : Thread Cert.KernelFf1WIdeal.nD Cert.KernelFf1WIdeal.τ).loc Cert.KernelFf1WIdeal.main_arg2))
      ∧ θ_run (Cert.ReferenceFf1WIdeal.defs (F := Ideal)) (onTc (τ := Cert.ReferenceFf1WIdeal.τ) (Cert.ReferenceFf1WIdeal.main (F := Ideal))) ⟨m', fun _ => 0, g'⟩ (fun r => ∀ c : Dev Cert.ReferenceFf1WIdeal.nD,
          r.2.mem ((c.tc : Thread Cert.ReferenceFf1WIdeal.nD Cert.ReferenceFf1WIdeal.τ).loc Cert.ReferenceFf1WIdeal.main_v22) = v0 c
          ∧ r.2.mem ((c.tc : Thread Cert.ReferenceFf1WIdeal.nD Cert.ReferenceFf1WIdeal.τ).loc Cert.ReferenceFf1WIdeal.main_arg0) = m' ((c.tc : Thread Cert.ReferenceFf1WIdeal.nD Cert.ReferenceFf1WIdeal.τ).loc Cert.ReferenceFf1WIdeal.main_arg0)
          ∧ r.2.mem ((c.tc : Thread Cert.ReferenceFf1WIdeal.nD Cert.ReferenceFf1WIdeal.τ).loc Cert.ReferenceFf1WIdeal.main_arg1) = m' ((c.tc : Thread Cert.ReferenceFf1WIdeal.nD Cert.ReferenceFf1WIdeal.τ).loc Cert.ReferenceFf1WIdeal.main_arg1)
          ∧ r.2.mem ((c.tc : Thread Cert.ReferenceFf1WIdeal.nD Cert.ReferenceFf1WIdeal.τ).loc Cert.ReferenceFf1WIdeal.main_arg2) = m' ((c.tc : Thread Cert.ReferenceFf1WIdeal.nD Cert.ReferenceFf1WIdeal.τ).loc Cert.ReferenceFf1WIdeal.main_arg2))

def preserves_KernelInW_KernelInWIdeal : Prop :=
  True

def algebraic_KernelInWIdeal_ReferenceInWIdeal [hKernelInWIdeal : Cert.KernelInWIdeal.Facts] [hReferenceInWIdeal : Cert.ReferenceInWIdeal.Facts] : Prop :=
  ∀ (m : (ℓ : Loc Cert.KernelInWIdeal.nD Cert.KernelInWIdeal.τ Cert.KernelInWIdeal.sig) → Buf (Elt Ideal) ℓ) (g : Dev Cert.KernelInWIdeal.nD → PrngReg)
    (m' : (ℓ : Loc Cert.ReferenceInWIdeal.nD Cert.ReferenceInWIdeal.τ Cert.ReferenceInWIdeal.sig) → Buf (Elt Ideal) ℓ) (g' : Dev Cert.ReferenceInWIdeal.nD → PrngReg), Pre_KernelInWIdeal m →
    (∀ c : Dev Cert.KernelInWIdeal.nD,
      m' ((c.tc : Thread Cert.ReferenceInWIdeal.nD Cert.ReferenceInWIdeal.τ).loc Cert.ReferenceInWIdeal.main_arg0) = m ((c.tc : Thread Cert.KernelInWIdeal.nD Cert.KernelInWIdeal.τ).loc Cert.KernelInWIdeal.main_arg0)
      ∧ m' ((c.tc : Thread Cert.ReferenceInWIdeal.nD Cert.ReferenceInWIdeal.τ).loc Cert.ReferenceInWIdeal.main_arg1) = m ((c.tc : Thread Cert.KernelInWIdeal.nD Cert.KernelInWIdeal.τ).loc Cert.KernelInWIdeal.main_arg1)
      ∧ m' ((c.tc : Thread Cert.ReferenceInWIdeal.nD Cert.ReferenceInWIdeal.τ).loc Cert.ReferenceInWIdeal.main_arg2) = m ((c.tc : Thread Cert.KernelInWIdeal.nD Cert.KernelInWIdeal.τ).loc Cert.KernelInWIdeal.main_arg2)) →
    ∃ (v0 : (c : Dev Cert.KernelInWIdeal.nD) → Buf (Elt Ideal) ((c.tc : Thread Cert.KernelInWIdeal.nD Cert.KernelInWIdeal.τ).loc Cert.KernelInWIdeal.main_v0)),
      θ_run (Cert.KernelInWIdeal.defs (F := Ideal)) (onTc (τ := Cert.KernelInWIdeal.τ) (Cert.KernelInWIdeal.main (F := Ideal))) ⟨m, fun _ => 0, g⟩ (fun r => ∀ c : Dev Cert.KernelInWIdeal.nD,
          r.2.mem ((c.tc : Thread Cert.KernelInWIdeal.nD Cert.KernelInWIdeal.τ).loc Cert.KernelInWIdeal.main_v0) = v0 c
          ∧ r.2.mem ((c.tc : Thread Cert.KernelInWIdeal.nD Cert.KernelInWIdeal.τ).loc Cert.KernelInWIdeal.main_arg0) = m ((c.tc : Thread Cert.KernelInWIdeal.nD Cert.KernelInWIdeal.τ).loc Cert.KernelInWIdeal.main_arg0)
          ∧ r.2.mem ((c.tc : Thread Cert.KernelInWIdeal.nD Cert.KernelInWIdeal.τ).loc Cert.KernelInWIdeal.main_arg1) = m ((c.tc : Thread Cert.KernelInWIdeal.nD Cert.KernelInWIdeal.τ).loc Cert.KernelInWIdeal.main_arg1)
          ∧ r.2.mem ((c.tc : Thread Cert.KernelInWIdeal.nD Cert.KernelInWIdeal.τ).loc Cert.KernelInWIdeal.main_arg2) = m ((c.tc : Thread Cert.KernelInWIdeal.nD Cert.KernelInWIdeal.τ).loc Cert.KernelInWIdeal.main_arg2))
      ∧ θ_run (Cert.ReferenceInWIdeal.defs (F := Ideal)) (onTc (τ := Cert.ReferenceInWIdeal.τ) (Cert.ReferenceInWIdeal.main (F := Ideal))) ⟨m', fun _ => 0, g'⟩ (fun r => ∀ c : Dev Cert.ReferenceInWIdeal.nD,
          r.2.mem ((c.tc : Thread Cert.ReferenceInWIdeal.nD Cert.ReferenceInWIdeal.τ).loc Cert.ReferenceInWIdeal.main_v5) = v0 c
          ∧ r.2.mem ((c.tc : Thread Cert.ReferenceInWIdeal.nD Cert.ReferenceInWIdeal.τ).loc Cert.ReferenceInWIdeal.main_arg0) = m' ((c.tc : Thread Cert.ReferenceInWIdeal.nD Cert.ReferenceInWIdeal.τ).loc Cert.ReferenceInWIdeal.main_arg0)
          ∧ r.2.mem ((c.tc : Thread Cert.ReferenceInWIdeal.nD Cert.ReferenceInWIdeal.τ).loc Cert.ReferenceInWIdeal.main_arg1) = m' ((c.tc : Thread Cert.ReferenceInWIdeal.nD Cert.ReferenceInWIdeal.τ).loc Cert.ReferenceInWIdeal.main_arg1)
          ∧ r.2.mem ((c.tc : Thread Cert.ReferenceInWIdeal.nD Cert.ReferenceInWIdeal.τ).loc Cert.ReferenceInWIdeal.main_arg2) = m' ((c.tc : Thread Cert.ReferenceInWIdeal.nD Cert.ReferenceInWIdeal.τ).loc Cert.ReferenceInWIdeal.main_arg2))

def preserves_KernelInX_KernelInXIdeal : Prop :=
  True

def algebraic_KernelInXIdeal_ReferenceInXIdeal [hKernelInXIdeal : Cert.KernelInXIdeal.Facts] [hReferenceInXIdeal : Cert.ReferenceInXIdeal.Facts] : Prop :=
  ∀ (m : (ℓ : Loc Cert.KernelInXIdeal.nD Cert.KernelInXIdeal.τ Cert.KernelInXIdeal.sig) → Buf (Elt Ideal) ℓ) (g : Dev Cert.KernelInXIdeal.nD → PrngReg)
    (m' : (ℓ : Loc Cert.ReferenceInXIdeal.nD Cert.ReferenceInXIdeal.τ Cert.ReferenceInXIdeal.sig) → Buf (Elt Ideal) ℓ) (g' : Dev Cert.ReferenceInXIdeal.nD → PrngReg), Pre_KernelInXIdeal m →
    (∀ c : Dev Cert.KernelInXIdeal.nD,
      m' ((c.tc : Thread Cert.ReferenceInXIdeal.nD Cert.ReferenceInXIdeal.τ).loc Cert.ReferenceInXIdeal.main_arg0) = m ((c.tc : Thread Cert.KernelInXIdeal.nD Cert.KernelInXIdeal.τ).loc Cert.KernelInXIdeal.main_arg0)
      ∧ m' ((c.tc : Thread Cert.ReferenceInXIdeal.nD Cert.ReferenceInXIdeal.τ).loc Cert.ReferenceInXIdeal.main_arg1) = m ((c.tc : Thread Cert.KernelInXIdeal.nD Cert.KernelInXIdeal.τ).loc Cert.KernelInXIdeal.main_arg1)
      ∧ m' ((c.tc : Thread Cert.ReferenceInXIdeal.nD Cert.ReferenceInXIdeal.τ).loc Cert.ReferenceInXIdeal.main_arg2) = m ((c.tc : Thread Cert.KernelInXIdeal.nD Cert.KernelInXIdeal.τ).loc Cert.KernelInXIdeal.main_arg2)
      ∧ m' ((c.tc : Thread Cert.ReferenceInXIdeal.nD Cert.ReferenceInXIdeal.τ).loc Cert.ReferenceInXIdeal.main_arg3) = m ((c.tc : Thread Cert.KernelInXIdeal.nD Cert.KernelInXIdeal.τ).loc Cert.KernelInXIdeal.main_arg3)) →
    ∃ (v0 : (c : Dev Cert.KernelInXIdeal.nD) → Buf (Elt Ideal) ((c.tc : Thread Cert.KernelInXIdeal.nD Cert.KernelInXIdeal.τ).loc Cert.KernelInXIdeal.main_v0)),
      θ_run (Cert.KernelInXIdeal.defs (F := Ideal)) (onTc (τ := Cert.KernelInXIdeal.τ) (Cert.KernelInXIdeal.main (F := Ideal))) ⟨m, fun _ => 0, g⟩ (fun r => ∀ c : Dev Cert.KernelInXIdeal.nD,
          r.2.mem ((c.tc : Thread Cert.KernelInXIdeal.nD Cert.KernelInXIdeal.τ).loc Cert.KernelInXIdeal.main_v0) = v0 c
          ∧ r.2.mem ((c.tc : Thread Cert.KernelInXIdeal.nD Cert.KernelInXIdeal.τ).loc Cert.KernelInXIdeal.main_arg0) = m ((c.tc : Thread Cert.KernelInXIdeal.nD Cert.KernelInXIdeal.τ).loc Cert.KernelInXIdeal.main_arg0)
          ∧ r.2.mem ((c.tc : Thread Cert.KernelInXIdeal.nD Cert.KernelInXIdeal.τ).loc Cert.KernelInXIdeal.main_arg1) = m ((c.tc : Thread Cert.KernelInXIdeal.nD Cert.KernelInXIdeal.τ).loc Cert.KernelInXIdeal.main_arg1)
          ∧ r.2.mem ((c.tc : Thread Cert.KernelInXIdeal.nD Cert.KernelInXIdeal.τ).loc Cert.KernelInXIdeal.main_arg2) = m ((c.tc : Thread Cert.KernelInXIdeal.nD Cert.KernelInXIdeal.τ).loc Cert.KernelInXIdeal.main_arg2)
          ∧ r.2.mem ((c.tc : Thread Cert.KernelInXIdeal.nD Cert.KernelInXIdeal.τ).loc Cert.KernelInXIdeal.main_arg3) = m ((c.tc : Thread Cert.KernelInXIdeal.nD Cert.KernelInXIdeal.τ).loc Cert.KernelInXIdeal.main_arg3))
      ∧ θ_run (Cert.ReferenceInXIdeal.defs (F := Ideal)) (onTc (τ := Cert.ReferenceInXIdeal.τ) (Cert.ReferenceInXIdeal.main (F := Ideal))) ⟨m', fun _ => 0, g'⟩ (fun r => ∀ c : Dev Cert.ReferenceInXIdeal.nD,
          r.2.mem ((c.tc : Thread Cert.ReferenceInXIdeal.nD Cert.ReferenceInXIdeal.τ).loc Cert.ReferenceInXIdeal.main_v5) = v0 c
          ∧ r.2.mem ((c.tc : Thread Cert.ReferenceInXIdeal.nD Cert.ReferenceInXIdeal.τ).loc Cert.ReferenceInXIdeal.main_arg0) = m' ((c.tc : Thread Cert.ReferenceInXIdeal.nD Cert.ReferenceInXIdeal.τ).loc Cert.ReferenceInXIdeal.main_arg0)
          ∧ r.2.mem ((c.tc : Thread Cert.ReferenceInXIdeal.nD Cert.ReferenceInXIdeal.τ).loc Cert.ReferenceInXIdeal.main_arg1) = m' ((c.tc : Thread Cert.ReferenceInXIdeal.nD Cert.ReferenceInXIdeal.τ).loc Cert.ReferenceInXIdeal.main_arg1)
          ∧ r.2.mem ((c.tc : Thread Cert.ReferenceInXIdeal.nD Cert.ReferenceInXIdeal.τ).loc Cert.ReferenceInXIdeal.main_arg2) = m' ((c.tc : Thread Cert.ReferenceInXIdeal.nD Cert.ReferenceInXIdeal.τ).loc Cert.ReferenceInXIdeal.main_arg2)
          ∧ r.2.mem ((c.tc : Thread Cert.ReferenceInXIdeal.nD Cert.ReferenceInXIdeal.τ).loc Cert.ReferenceInXIdeal.main_arg3) = m' ((c.tc : Thread Cert.ReferenceInXIdeal.nD Cert.ReferenceInXIdeal.τ).loc Cert.ReferenceInXIdeal.main_arg3))

def preserves_KernelGateX_KernelGateXIdeal : Prop :=
  True

def algebraic_KernelGateXIdeal_ReferenceGateXIdeal [hKernelGateXIdeal : Cert.KernelGateXIdeal.Facts] [hReferenceGateXIdeal : Cert.ReferenceGateXIdeal.Facts] : Prop :=
  ∀ (m : (ℓ : Loc Cert.KernelGateXIdeal.nD Cert.KernelGateXIdeal.τ Cert.KernelGateXIdeal.sig) → Buf (Elt Ideal) ℓ) (g : Dev Cert.KernelGateXIdeal.nD → PrngReg)
    (m' : (ℓ : Loc Cert.ReferenceGateXIdeal.nD Cert.ReferenceGateXIdeal.τ Cert.ReferenceGateXIdeal.sig) → Buf (Elt Ideal) ℓ) (g' : Dev Cert.ReferenceGateXIdeal.nD → PrngReg), Pre_KernelGateXIdeal m →
    (∀ c : Dev Cert.KernelGateXIdeal.nD,
      m' ((c.tc : Thread Cert.ReferenceGateXIdeal.nD Cert.ReferenceGateXIdeal.τ).loc Cert.ReferenceGateXIdeal.main_arg0) = m ((c.tc : Thread Cert.KernelGateXIdeal.nD Cert.KernelGateXIdeal.τ).loc Cert.KernelGateXIdeal.main_arg0)
      ∧ m' ((c.tc : Thread Cert.ReferenceGateXIdeal.nD Cert.ReferenceGateXIdeal.τ).loc Cert.ReferenceGateXIdeal.main_arg1) = m ((c.tc : Thread Cert.KernelGateXIdeal.nD Cert.KernelGateXIdeal.τ).loc Cert.KernelGateXIdeal.main_arg1)
      ∧ m' ((c.tc : Thread Cert.ReferenceGateXIdeal.nD Cert.ReferenceGateXIdeal.τ).loc Cert.ReferenceGateXIdeal.main_arg2) = m ((c.tc : Thread Cert.KernelGateXIdeal.nD Cert.KernelGateXIdeal.τ).loc Cert.KernelGateXIdeal.main_arg2)
      ∧ m' ((c.tc : Thread Cert.ReferenceGateXIdeal.nD Cert.ReferenceGateXIdeal.τ).loc Cert.ReferenceGateXIdeal.main_arg3) = m ((c.tc : Thread Cert.KernelGateXIdeal.nD Cert.KernelGateXIdeal.τ).loc Cert.KernelGateXIdeal.main_arg3)) →
    ∃ (v0 : (c : Dev Cert.KernelGateXIdeal.nD) → Buf (Elt Ideal) ((c.tc : Thread Cert.KernelGateXIdeal.nD Cert.KernelGateXIdeal.τ).loc Cert.KernelGateXIdeal.main_v2)),
      θ_run (Cert.KernelGateXIdeal.defs (F := Ideal)) (onTc (τ := Cert.KernelGateXIdeal.τ) (Cert.KernelGateXIdeal.main (F := Ideal))) ⟨m, fun _ => 0, g⟩ (fun r => ∀ c : Dev Cert.KernelGateXIdeal.nD,
          r.2.mem ((c.tc : Thread Cert.KernelGateXIdeal.nD Cert.KernelGateXIdeal.τ).loc Cert.KernelGateXIdeal.main_v2) = v0 c
          ∧ r.2.mem ((c.tc : Thread Cert.KernelGateXIdeal.nD Cert.KernelGateXIdeal.τ).loc Cert.KernelGateXIdeal.main_arg0) = m ((c.tc : Thread Cert.KernelGateXIdeal.nD Cert.KernelGateXIdeal.τ).loc Cert.KernelGateXIdeal.main_arg0)
          ∧ r.2.mem ((c.tc : Thread Cert.KernelGateXIdeal.nD Cert.KernelGateXIdeal.τ).loc Cert.KernelGateXIdeal.main_arg1) = m ((c.tc : Thread Cert.KernelGateXIdeal.nD Cert.KernelGateXIdeal.τ).loc Cert.KernelGateXIdeal.main_arg1)
          ∧ r.2.mem ((c.tc : Thread Cert.KernelGateXIdeal.nD Cert.KernelGateXIdeal.τ).loc Cert.KernelGateXIdeal.main_arg2) = m ((c.tc : Thread Cert.KernelGateXIdeal.nD Cert.KernelGateXIdeal.τ).loc Cert.KernelGateXIdeal.main_arg2)
          ∧ r.2.mem ((c.tc : Thread Cert.KernelGateXIdeal.nD Cert.KernelGateXIdeal.τ).loc Cert.KernelGateXIdeal.main_arg3) = m ((c.tc : Thread Cert.KernelGateXIdeal.nD Cert.KernelGateXIdeal.τ).loc Cert.KernelGateXIdeal.main_arg3))
      ∧ θ_run (Cert.ReferenceGateXIdeal.defs (F := Ideal)) (onTc (τ := Cert.ReferenceGateXIdeal.τ) (Cert.ReferenceGateXIdeal.main (F := Ideal))) ⟨m', fun _ => 0, g'⟩ (fun r => ∀ c : Dev Cert.ReferenceGateXIdeal.nD,
          r.2.mem ((c.tc : Thread Cert.ReferenceGateXIdeal.nD Cert.ReferenceGateXIdeal.τ).loc Cert.ReferenceGateXIdeal.main_v5) = v0 c
          ∧ r.2.mem ((c.tc : Thread Cert.ReferenceGateXIdeal.nD Cert.ReferenceGateXIdeal.τ).loc Cert.ReferenceGateXIdeal.main_arg0) = m' ((c.tc : Thread Cert.ReferenceGateXIdeal.nD Cert.ReferenceGateXIdeal.τ).loc Cert.ReferenceGateXIdeal.main_arg0)
          ∧ r.2.mem ((c.tc : Thread Cert.ReferenceGateXIdeal.nD Cert.ReferenceGateXIdeal.τ).loc Cert.ReferenceGateXIdeal.main_arg1) = m' ((c.tc : Thread Cert.ReferenceGateXIdeal.nD Cert.ReferenceGateXIdeal.τ).loc Cert.ReferenceGateXIdeal.main_arg1)
          ∧ r.2.mem ((c.tc : Thread Cert.ReferenceGateXIdeal.nD Cert.ReferenceGateXIdeal.τ).loc Cert.ReferenceGateXIdeal.main_arg2) = m' ((c.tc : Thread Cert.ReferenceGateXIdeal.nD Cert.ReferenceGateXIdeal.τ).loc Cert.ReferenceGateXIdeal.main_arg2)
          ∧ r.2.mem ((c.tc : Thread Cert.ReferenceGateXIdeal.nD Cert.ReferenceGateXIdeal.τ).loc Cert.ReferenceGateXIdeal.main_arg3) = m' ((c.tc : Thread Cert.ReferenceGateXIdeal.nD Cert.ReferenceGateXIdeal.τ).loc Cert.ReferenceGateXIdeal.main_arg3))

def preserves_KernelGateW_KernelGateWIdeal : Prop :=
  True

def algebraic_KernelGateWIdeal_ReferenceGateWIdeal [hKernelGateWIdeal : Cert.KernelGateWIdeal.Facts] [hReferenceGateWIdeal : Cert.ReferenceGateWIdeal.Facts] : Prop :=
  ∀ (m : (ℓ : Loc Cert.KernelGateWIdeal.nD Cert.KernelGateWIdeal.τ Cert.KernelGateWIdeal.sig) → Buf (Elt Ideal) ℓ) (g : Dev Cert.KernelGateWIdeal.nD → PrngReg)
    (m' : (ℓ : Loc Cert.ReferenceGateWIdeal.nD Cert.ReferenceGateWIdeal.τ Cert.ReferenceGateWIdeal.sig) → Buf (Elt Ideal) ℓ) (g' : Dev Cert.ReferenceGateWIdeal.nD → PrngReg), Pre_KernelGateWIdeal m →
    (∀ c : Dev Cert.KernelGateWIdeal.nD,
      m' ((c.tc : Thread Cert.ReferenceGateWIdeal.nD Cert.ReferenceGateWIdeal.τ).loc Cert.ReferenceGateWIdeal.main_arg0) = m ((c.tc : Thread Cert.KernelGateWIdeal.nD Cert.KernelGateWIdeal.τ).loc Cert.KernelGateWIdeal.main_arg0)
      ∧ m' ((c.tc : Thread Cert.ReferenceGateWIdeal.nD Cert.ReferenceGateWIdeal.τ).loc Cert.ReferenceGateWIdeal.main_arg1) = m ((c.tc : Thread Cert.KernelGateWIdeal.nD Cert.KernelGateWIdeal.τ).loc Cert.KernelGateWIdeal.main_arg1)
      ∧ m' ((c.tc : Thread Cert.ReferenceGateWIdeal.nD Cert.ReferenceGateWIdeal.τ).loc Cert.ReferenceGateWIdeal.main_arg2) = m ((c.tc : Thread Cert.KernelGateWIdeal.nD Cert.KernelGateWIdeal.τ).loc Cert.KernelGateWIdeal.main_arg2)) →
    ∃ (v0 : (c : Dev Cert.KernelGateWIdeal.nD) → Buf (Elt Ideal) ((c.tc : Thread Cert.KernelGateWIdeal.nD Cert.KernelGateWIdeal.τ).loc Cert.KernelGateWIdeal.main_v0)),
      θ_run (Cert.KernelGateWIdeal.defs (F := Ideal)) (onTc (τ := Cert.KernelGateWIdeal.τ) (Cert.KernelGateWIdeal.main (F := Ideal))) ⟨m, fun _ => 0, g⟩ (fun r => ∀ c : Dev Cert.KernelGateWIdeal.nD,
          r.2.mem ((c.tc : Thread Cert.KernelGateWIdeal.nD Cert.KernelGateWIdeal.τ).loc Cert.KernelGateWIdeal.main_v0) = v0 c
          ∧ r.2.mem ((c.tc : Thread Cert.KernelGateWIdeal.nD Cert.KernelGateWIdeal.τ).loc Cert.KernelGateWIdeal.main_arg0) = m ((c.tc : Thread Cert.KernelGateWIdeal.nD Cert.KernelGateWIdeal.τ).loc Cert.KernelGateWIdeal.main_arg0)
          ∧ r.2.mem ((c.tc : Thread Cert.KernelGateWIdeal.nD Cert.KernelGateWIdeal.τ).loc Cert.KernelGateWIdeal.main_arg1) = m ((c.tc : Thread Cert.KernelGateWIdeal.nD Cert.KernelGateWIdeal.τ).loc Cert.KernelGateWIdeal.main_arg1)
          ∧ r.2.mem ((c.tc : Thread Cert.KernelGateWIdeal.nD Cert.KernelGateWIdeal.τ).loc Cert.KernelGateWIdeal.main_arg2) = m ((c.tc : Thread Cert.KernelGateWIdeal.nD Cert.KernelGateWIdeal.τ).loc Cert.KernelGateWIdeal.main_arg2))
      ∧ θ_run (Cert.ReferenceGateWIdeal.defs (F := Ideal)) (onTc (τ := Cert.ReferenceGateWIdeal.τ) (Cert.ReferenceGateWIdeal.main (F := Ideal))) ⟨m', fun _ => 0, g'⟩ (fun r => ∀ c : Dev Cert.ReferenceGateWIdeal.nD,
          r.2.mem ((c.tc : Thread Cert.ReferenceGateWIdeal.nD Cert.ReferenceGateWIdeal.τ).loc Cert.ReferenceGateWIdeal.main_v22) = v0 c
          ∧ r.2.mem ((c.tc : Thread Cert.ReferenceGateWIdeal.nD Cert.ReferenceGateWIdeal.τ).loc Cert.ReferenceGateWIdeal.main_arg0) = m' ((c.tc : Thread Cert.ReferenceGateWIdeal.nD Cert.ReferenceGateWIdeal.τ).loc Cert.ReferenceGateWIdeal.main_arg0)
          ∧ r.2.mem ((c.tc : Thread Cert.ReferenceGateWIdeal.nD Cert.ReferenceGateWIdeal.τ).loc Cert.ReferenceGateWIdeal.main_arg1) = m' ((c.tc : Thread Cert.ReferenceGateWIdeal.nD Cert.ReferenceGateWIdeal.τ).loc Cert.ReferenceGateWIdeal.main_arg1)
          ∧ r.2.mem ((c.tc : Thread Cert.ReferenceGateWIdeal.nD Cert.ReferenceGateWIdeal.τ).loc Cert.ReferenceGateWIdeal.main_arg2) = m' ((c.tc : Thread Cert.ReferenceGateWIdeal.nD Cert.ReferenceGateWIdeal.τ).loc Cert.ReferenceGateWIdeal.main_arg2))

def preserves_KernelSsdX_KernelSsdXIdeal : Prop :=
  True

def algebraic_KernelSsdXIdeal_ReferenceSsdXIdeal [hKernelSsdXIdeal : Cert.KernelSsdXIdeal.Facts] [hReferenceSsdXIdeal : Cert.ReferenceSsdXIdeal.Facts] : Prop :=
  ∀ (m : (ℓ : Loc Cert.KernelSsdXIdeal.nD Cert.KernelSsdXIdeal.τ Cert.KernelSsdXIdeal.sig) → Buf (Elt Ideal) ℓ) (g : Dev Cert.KernelSsdXIdeal.nD → PrngReg)
    (m' : (ℓ : Loc Cert.ReferenceSsdXIdeal.nD Cert.ReferenceSsdXIdeal.τ Cert.ReferenceSsdXIdeal.sig) → Buf (Elt Ideal) ℓ) (g' : Dev Cert.ReferenceSsdXIdeal.nD → PrngReg), Pre_KernelSsdXIdeal m →
    (∀ c : Dev Cert.KernelSsdXIdeal.nD,
      m' ((c.tc : Thread Cert.ReferenceSsdXIdeal.nD Cert.ReferenceSsdXIdeal.τ).loc Cert.ReferenceSsdXIdeal.main_arg0) = m ((c.tc : Thread Cert.KernelSsdXIdeal.nD Cert.KernelSsdXIdeal.τ).loc Cert.KernelSsdXIdeal.main_arg0)
      ∧ m' ((c.tc : Thread Cert.ReferenceSsdXIdeal.nD Cert.ReferenceSsdXIdeal.τ).loc Cert.ReferenceSsdXIdeal.main_arg1) = m ((c.tc : Thread Cert.KernelSsdXIdeal.nD Cert.KernelSsdXIdeal.τ).loc Cert.KernelSsdXIdeal.main_arg1)
      ∧ m' ((c.tc : Thread Cert.ReferenceSsdXIdeal.nD Cert.ReferenceSsdXIdeal.τ).loc Cert.ReferenceSsdXIdeal.main_arg2) = m ((c.tc : Thread Cert.KernelSsdXIdeal.nD Cert.KernelSsdXIdeal.τ).loc Cert.KernelSsdXIdeal.main_arg2)) →
    ∃ (v0 : (c : Dev Cert.KernelSsdXIdeal.nD) → Buf (Elt Ideal) ((c.tc : Thread Cert.KernelSsdXIdeal.nD Cert.KernelSsdXIdeal.τ).loc Cert.KernelSsdXIdeal.main_v0)),
      θ_run (Cert.KernelSsdXIdeal.defs (F := Ideal)) (onTc (τ := Cert.KernelSsdXIdeal.τ) (Cert.KernelSsdXIdeal.main (F := Ideal))) ⟨m, fun _ => 0, g⟩ (fun r => ∀ c : Dev Cert.KernelSsdXIdeal.nD,
          r.2.mem ((c.tc : Thread Cert.KernelSsdXIdeal.nD Cert.KernelSsdXIdeal.τ).loc Cert.KernelSsdXIdeal.main_v0) = v0 c
          ∧ r.2.mem ((c.tc : Thread Cert.KernelSsdXIdeal.nD Cert.KernelSsdXIdeal.τ).loc Cert.KernelSsdXIdeal.main_arg0) = m ((c.tc : Thread Cert.KernelSsdXIdeal.nD Cert.KernelSsdXIdeal.τ).loc Cert.KernelSsdXIdeal.main_arg0)
          ∧ r.2.mem ((c.tc : Thread Cert.KernelSsdXIdeal.nD Cert.KernelSsdXIdeal.τ).loc Cert.KernelSsdXIdeal.main_arg1) = m ((c.tc : Thread Cert.KernelSsdXIdeal.nD Cert.KernelSsdXIdeal.τ).loc Cert.KernelSsdXIdeal.main_arg1)
          ∧ r.2.mem ((c.tc : Thread Cert.KernelSsdXIdeal.nD Cert.KernelSsdXIdeal.τ).loc Cert.KernelSsdXIdeal.main_arg2) = m ((c.tc : Thread Cert.KernelSsdXIdeal.nD Cert.KernelSsdXIdeal.τ).loc Cert.KernelSsdXIdeal.main_arg2))
      ∧ θ_run (Cert.ReferenceSsdXIdeal.defs (F := Ideal)) (onTc (τ := Cert.ReferenceSsdXIdeal.τ) (Cert.ReferenceSsdXIdeal.main (F := Ideal))) ⟨m', fun _ => 0, g'⟩ (fun r => ∀ c : Dev Cert.ReferenceSsdXIdeal.nD,
          r.2.mem ((c.tc : Thread Cert.ReferenceSsdXIdeal.nD Cert.ReferenceSsdXIdeal.τ).loc Cert.ReferenceSsdXIdeal.main_v4) = v0 c
          ∧ r.2.mem ((c.tc : Thread Cert.ReferenceSsdXIdeal.nD Cert.ReferenceSsdXIdeal.τ).loc Cert.ReferenceSsdXIdeal.main_arg0) = m' ((c.tc : Thread Cert.ReferenceSsdXIdeal.nD Cert.ReferenceSsdXIdeal.τ).loc Cert.ReferenceSsdXIdeal.main_arg0)
          ∧ r.2.mem ((c.tc : Thread Cert.ReferenceSsdXIdeal.nD Cert.ReferenceSsdXIdeal.τ).loc Cert.ReferenceSsdXIdeal.main_arg1) = m' ((c.tc : Thread Cert.ReferenceSsdXIdeal.nD Cert.ReferenceSsdXIdeal.τ).loc Cert.ReferenceSsdXIdeal.main_arg1)
          ∧ r.2.mem ((c.tc : Thread Cert.ReferenceSsdXIdeal.nD Cert.ReferenceSsdXIdeal.τ).loc Cert.ReferenceSsdXIdeal.main_arg2) = m' ((c.tc : Thread Cert.ReferenceSsdXIdeal.nD Cert.ReferenceSsdXIdeal.τ).loc Cert.ReferenceSsdXIdeal.main_arg2))

def preserves_KernelSsdW_KernelSsdWIdeal : Prop :=
  True

def algebraic_KernelSsdWIdeal_ReferenceSsdWIdeal [hKernelSsdWIdeal : Cert.KernelSsdWIdeal.Facts] [hReferenceSsdWIdeal : Cert.ReferenceSsdWIdeal.Facts] : Prop :=
  ∀ (m : (ℓ : Loc Cert.KernelSsdWIdeal.nD Cert.KernelSsdWIdeal.τ Cert.KernelSsdWIdeal.sig) → Buf (Elt Ideal) ℓ) (g : Dev Cert.KernelSsdWIdeal.nD → PrngReg)
    (m' : (ℓ : Loc Cert.ReferenceSsdWIdeal.nD Cert.ReferenceSsdWIdeal.τ Cert.ReferenceSsdWIdeal.sig) → Buf (Elt Ideal) ℓ) (g' : Dev Cert.ReferenceSsdWIdeal.nD → PrngReg), Pre_KernelSsdWIdeal m →
    (∀ c : Dev Cert.KernelSsdWIdeal.nD,
      m' ((c.tc : Thread Cert.ReferenceSsdWIdeal.nD Cert.ReferenceSsdWIdeal.τ).loc Cert.ReferenceSsdWIdeal.main_arg0) = m ((c.tc : Thread Cert.KernelSsdWIdeal.nD Cert.KernelSsdWIdeal.τ).loc Cert.KernelSsdWIdeal.main_arg0)
      ∧ m' ((c.tc : Thread Cert.ReferenceSsdWIdeal.nD Cert.ReferenceSsdWIdeal.τ).loc Cert.ReferenceSsdWIdeal.main_arg1) = m ((c.tc : Thread Cert.KernelSsdWIdeal.nD Cert.KernelSsdWIdeal.τ).loc Cert.KernelSsdWIdeal.main_arg1)
      ∧ m' ((c.tc : Thread Cert.ReferenceSsdWIdeal.nD Cert.ReferenceSsdWIdeal.τ).loc Cert.ReferenceSsdWIdeal.main_arg2) = m ((c.tc : Thread Cert.KernelSsdWIdeal.nD Cert.KernelSsdWIdeal.τ).loc Cert.KernelSsdWIdeal.main_arg2)) →
    ∃ (v0 : (c : Dev Cert.KernelSsdWIdeal.nD) → Buf (Elt Ideal) ((c.tc : Thread Cert.KernelSsdWIdeal.nD Cert.KernelSsdWIdeal.τ).loc Cert.KernelSsdWIdeal.main_v0)),
      θ_run (Cert.KernelSsdWIdeal.defs (F := Ideal)) (onTc (τ := Cert.KernelSsdWIdeal.τ) (Cert.KernelSsdWIdeal.main (F := Ideal))) ⟨m, fun _ => 0, g⟩ (fun r => ∀ c : Dev Cert.KernelSsdWIdeal.nD,
          r.2.mem ((c.tc : Thread Cert.KernelSsdWIdeal.nD Cert.KernelSsdWIdeal.τ).loc Cert.KernelSsdWIdeal.main_v0) = v0 c
          ∧ r.2.mem ((c.tc : Thread Cert.KernelSsdWIdeal.nD Cert.KernelSsdWIdeal.τ).loc Cert.KernelSsdWIdeal.main_arg0) = m ((c.tc : Thread Cert.KernelSsdWIdeal.nD Cert.KernelSsdWIdeal.τ).loc Cert.KernelSsdWIdeal.main_arg0)
          ∧ r.2.mem ((c.tc : Thread Cert.KernelSsdWIdeal.nD Cert.KernelSsdWIdeal.τ).loc Cert.KernelSsdWIdeal.main_arg1) = m ((c.tc : Thread Cert.KernelSsdWIdeal.nD Cert.KernelSsdWIdeal.τ).loc Cert.KernelSsdWIdeal.main_arg1)
          ∧ r.2.mem ((c.tc : Thread Cert.KernelSsdWIdeal.nD Cert.KernelSsdWIdeal.τ).loc Cert.KernelSsdWIdeal.main_arg2) = m ((c.tc : Thread Cert.KernelSsdWIdeal.nD Cert.KernelSsdWIdeal.τ).loc Cert.KernelSsdWIdeal.main_arg2))
      ∧ θ_run (Cert.ReferenceSsdWIdeal.defs (F := Ideal)) (onTc (τ := Cert.ReferenceSsdWIdeal.τ) (Cert.ReferenceSsdWIdeal.main (F := Ideal))) ⟨m', fun _ => 0, g'⟩ (fun r => ∀ c : Dev Cert.ReferenceSsdWIdeal.nD,
          r.2.mem ((c.tc : Thread Cert.ReferenceSsdWIdeal.nD Cert.ReferenceSsdWIdeal.τ).loc Cert.ReferenceSsdWIdeal.main_v5) = v0 c
          ∧ r.2.mem ((c.tc : Thread Cert.ReferenceSsdWIdeal.nD Cert.ReferenceSsdWIdeal.τ).loc Cert.ReferenceSsdWIdeal.main_arg0) = m' ((c.tc : Thread Cert.ReferenceSsdWIdeal.nD Cert.ReferenceSsdWIdeal.τ).loc Cert.ReferenceSsdWIdeal.main_arg0)
          ∧ r.2.mem ((c.tc : Thread Cert.ReferenceSsdWIdeal.nD Cert.ReferenceSsdWIdeal.τ).loc Cert.ReferenceSsdWIdeal.main_arg1) = m' ((c.tc : Thread Cert.ReferenceSsdWIdeal.nD Cert.ReferenceSsdWIdeal.τ).loc Cert.ReferenceSsdWIdeal.main_arg1)
          ∧ r.2.mem ((c.tc : Thread Cert.ReferenceSsdWIdeal.nD Cert.ReferenceSsdWIdeal.τ).loc Cert.ReferenceSsdWIdeal.main_arg2) = m' ((c.tc : Thread Cert.ReferenceSsdWIdeal.nD Cert.ReferenceSsdWIdeal.τ).loc Cert.ReferenceSsdWIdeal.main_arg2))

def preserves_KernelOutX_KernelOutXIdeal : Prop :=
  True

def algebraic_KernelOutXIdeal_ReferenceOutXIdeal [hKernelOutXIdeal : Cert.KernelOutXIdeal.Facts] [hReferenceOutXIdeal : Cert.ReferenceOutXIdeal.Facts] : Prop :=
  ∀ (m : (ℓ : Loc Cert.KernelOutXIdeal.nD Cert.KernelOutXIdeal.τ Cert.KernelOutXIdeal.sig) → Buf (Elt Ideal) ℓ) (g : Dev Cert.KernelOutXIdeal.nD → PrngReg)
    (m' : (ℓ : Loc Cert.ReferenceOutXIdeal.nD Cert.ReferenceOutXIdeal.τ Cert.ReferenceOutXIdeal.sig) → Buf (Elt Ideal) ℓ) (g' : Dev Cert.ReferenceOutXIdeal.nD → PrngReg), Pre_KernelOutXIdeal m →
    (∀ c : Dev Cert.KernelOutXIdeal.nD,
      m' ((c.tc : Thread Cert.ReferenceOutXIdeal.nD Cert.ReferenceOutXIdeal.τ).loc Cert.ReferenceOutXIdeal.main_arg0) = m ((c.tc : Thread Cert.KernelOutXIdeal.nD Cert.KernelOutXIdeal.τ).loc Cert.KernelOutXIdeal.main_arg0)
      ∧ m' ((c.tc : Thread Cert.ReferenceOutXIdeal.nD Cert.ReferenceOutXIdeal.τ).loc Cert.ReferenceOutXIdeal.main_arg1) = m ((c.tc : Thread Cert.KernelOutXIdeal.nD Cert.KernelOutXIdeal.τ).loc Cert.KernelOutXIdeal.main_arg1)
      ∧ m' ((c.tc : Thread Cert.ReferenceOutXIdeal.nD Cert.ReferenceOutXIdeal.τ).loc Cert.ReferenceOutXIdeal.main_arg2) = m ((c.tc : Thread Cert.KernelOutXIdeal.nD Cert.KernelOutXIdeal.τ).loc Cert.KernelOutXIdeal.main_arg2)) →
    ∃ (v0 : (c : Dev Cert.KernelOutXIdeal.nD) → Buf (Elt Ideal) ((c.tc : Thread Cert.KernelOutXIdeal.nD Cert.KernelOutXIdeal.τ).loc Cert.KernelOutXIdeal.main_v0)),
      θ_run (Cert.KernelOutXIdeal.defs (F := Ideal)) (onTc (τ := Cert.KernelOutXIdeal.τ) (Cert.KernelOutXIdeal.main (F := Ideal))) ⟨m, fun _ => 0, g⟩ (fun r => ∀ c : Dev Cert.KernelOutXIdeal.nD,
          r.2.mem ((c.tc : Thread Cert.KernelOutXIdeal.nD Cert.KernelOutXIdeal.τ).loc Cert.KernelOutXIdeal.main_v0) = v0 c
          ∧ r.2.mem ((c.tc : Thread Cert.KernelOutXIdeal.nD Cert.KernelOutXIdeal.τ).loc Cert.KernelOutXIdeal.main_arg0) = m ((c.tc : Thread Cert.KernelOutXIdeal.nD Cert.KernelOutXIdeal.τ).loc Cert.KernelOutXIdeal.main_arg0)
          ∧ r.2.mem ((c.tc : Thread Cert.KernelOutXIdeal.nD Cert.KernelOutXIdeal.τ).loc Cert.KernelOutXIdeal.main_arg1) = m ((c.tc : Thread Cert.KernelOutXIdeal.nD Cert.KernelOutXIdeal.τ).loc Cert.KernelOutXIdeal.main_arg1)
          ∧ r.2.mem ((c.tc : Thread Cert.KernelOutXIdeal.nD Cert.KernelOutXIdeal.τ).loc Cert.KernelOutXIdeal.main_arg2) = m ((c.tc : Thread Cert.KernelOutXIdeal.nD Cert.KernelOutXIdeal.τ).loc Cert.KernelOutXIdeal.main_arg2))
      ∧ θ_run (Cert.ReferenceOutXIdeal.defs (F := Ideal)) (onTc (τ := Cert.ReferenceOutXIdeal.τ) (Cert.ReferenceOutXIdeal.main (F := Ideal))) ⟨m', fun _ => 0, g'⟩ (fun r => ∀ c : Dev Cert.ReferenceOutXIdeal.nD,
          r.2.mem ((c.tc : Thread Cert.ReferenceOutXIdeal.nD Cert.ReferenceOutXIdeal.τ).loc Cert.ReferenceOutXIdeal.main_v4) = v0 c
          ∧ r.2.mem ((c.tc : Thread Cert.ReferenceOutXIdeal.nD Cert.ReferenceOutXIdeal.τ).loc Cert.ReferenceOutXIdeal.main_arg0) = m' ((c.tc : Thread Cert.ReferenceOutXIdeal.nD Cert.ReferenceOutXIdeal.τ).loc Cert.ReferenceOutXIdeal.main_arg0)
          ∧ r.2.mem ((c.tc : Thread Cert.ReferenceOutXIdeal.nD Cert.ReferenceOutXIdeal.τ).loc Cert.ReferenceOutXIdeal.main_arg1) = m' ((c.tc : Thread Cert.ReferenceOutXIdeal.nD Cert.ReferenceOutXIdeal.τ).loc Cert.ReferenceOutXIdeal.main_arg1)
          ∧ r.2.mem ((c.tc : Thread Cert.ReferenceOutXIdeal.nD Cert.ReferenceOutXIdeal.τ).loc Cert.ReferenceOutXIdeal.main_arg2) = m' ((c.tc : Thread Cert.ReferenceOutXIdeal.nD Cert.ReferenceOutXIdeal.τ).loc Cert.ReferenceOutXIdeal.main_arg2))

def preserves_KernelOutW_KernelOutWIdeal : Prop :=
  True

def algebraic_KernelOutWIdeal_ReferenceOutWIdeal [hKernelOutWIdeal : Cert.KernelOutWIdeal.Facts] [hReferenceOutWIdeal : Cert.ReferenceOutWIdeal.Facts] : Prop :=
  ∀ (m : (ℓ : Loc Cert.KernelOutWIdeal.nD Cert.KernelOutWIdeal.τ Cert.KernelOutWIdeal.sig) → Buf (Elt Ideal) ℓ) (g : Dev Cert.KernelOutWIdeal.nD → PrngReg)
    (m' : (ℓ : Loc Cert.ReferenceOutWIdeal.nD Cert.ReferenceOutWIdeal.τ Cert.ReferenceOutWIdeal.sig) → Buf (Elt Ideal) ℓ) (g' : Dev Cert.ReferenceOutWIdeal.nD → PrngReg), Pre_KernelOutWIdeal m →
    (∀ c : Dev Cert.KernelOutWIdeal.nD,
      m' ((c.tc : Thread Cert.ReferenceOutWIdeal.nD Cert.ReferenceOutWIdeal.τ).loc Cert.ReferenceOutWIdeal.main_arg0) = m ((c.tc : Thread Cert.KernelOutWIdeal.nD Cert.KernelOutWIdeal.τ).loc Cert.KernelOutWIdeal.main_arg0)
      ∧ m' ((c.tc : Thread Cert.ReferenceOutWIdeal.nD Cert.ReferenceOutWIdeal.τ).loc Cert.ReferenceOutWIdeal.main_arg1) = m ((c.tc : Thread Cert.KernelOutWIdeal.nD Cert.KernelOutWIdeal.τ).loc Cert.KernelOutWIdeal.main_arg1)
      ∧ m' ((c.tc : Thread Cert.ReferenceOutWIdeal.nD Cert.ReferenceOutWIdeal.τ).loc Cert.ReferenceOutWIdeal.main_arg2) = m ((c.tc : Thread Cert.KernelOutWIdeal.nD Cert.KernelOutWIdeal.τ).loc Cert.KernelOutWIdeal.main_arg2)) →
    ∃ (v0 : (c : Dev Cert.KernelOutWIdeal.nD) → Buf (Elt Ideal) ((c.tc : Thread Cert.KernelOutWIdeal.nD Cert.KernelOutWIdeal.τ).loc Cert.KernelOutWIdeal.main_v0)),
      θ_run (Cert.KernelOutWIdeal.defs (F := Ideal)) (onTc (τ := Cert.KernelOutWIdeal.τ) (Cert.KernelOutWIdeal.main (F := Ideal))) ⟨m, fun _ => 0, g⟩ (fun r => ∀ c : Dev Cert.KernelOutWIdeal.nD,
          r.2.mem ((c.tc : Thread Cert.KernelOutWIdeal.nD Cert.KernelOutWIdeal.τ).loc Cert.KernelOutWIdeal.main_v0) = v0 c
          ∧ r.2.mem ((c.tc : Thread Cert.KernelOutWIdeal.nD Cert.KernelOutWIdeal.τ).loc Cert.KernelOutWIdeal.main_arg0) = m ((c.tc : Thread Cert.KernelOutWIdeal.nD Cert.KernelOutWIdeal.τ).loc Cert.KernelOutWIdeal.main_arg0)
          ∧ r.2.mem ((c.tc : Thread Cert.KernelOutWIdeal.nD Cert.KernelOutWIdeal.τ).loc Cert.KernelOutWIdeal.main_arg1) = m ((c.tc : Thread Cert.KernelOutWIdeal.nD Cert.KernelOutWIdeal.τ).loc Cert.KernelOutWIdeal.main_arg1)
          ∧ r.2.mem ((c.tc : Thread Cert.KernelOutWIdeal.nD Cert.KernelOutWIdeal.τ).loc Cert.KernelOutWIdeal.main_arg2) = m ((c.tc : Thread Cert.KernelOutWIdeal.nD Cert.KernelOutWIdeal.τ).loc Cert.KernelOutWIdeal.main_arg2))
      ∧ θ_run (Cert.ReferenceOutWIdeal.defs (F := Ideal)) (onTc (τ := Cert.ReferenceOutWIdeal.τ) (Cert.ReferenceOutWIdeal.main (F := Ideal))) ⟨m', fun _ => 0, g'⟩ (fun r => ∀ c : Dev Cert.ReferenceOutWIdeal.nD,
          r.2.mem ((c.tc : Thread Cert.ReferenceOutWIdeal.nD Cert.ReferenceOutWIdeal.τ).loc Cert.ReferenceOutWIdeal.main_v5) = v0 c
          ∧ r.2.mem ((c.tc : Thread Cert.ReferenceOutWIdeal.nD Cert.ReferenceOutWIdeal.τ).loc Cert.ReferenceOutWIdeal.main_arg0) = m' ((c.tc : Thread Cert.ReferenceOutWIdeal.nD Cert.ReferenceOutWIdeal.τ).loc Cert.ReferenceOutWIdeal.main_arg0)
          ∧ r.2.mem ((c.tc : Thread Cert.ReferenceOutWIdeal.nD Cert.ReferenceOutWIdeal.τ).loc Cert.ReferenceOutWIdeal.main_arg1) = m' ((c.tc : Thread Cert.ReferenceOutWIdeal.nD Cert.ReferenceOutWIdeal.τ).loc Cert.ReferenceOutWIdeal.main_arg1)
          ∧ r.2.mem ((c.tc : Thread Cert.ReferenceOutWIdeal.nD Cert.ReferenceOutWIdeal.τ).loc Cert.ReferenceOutWIdeal.main_arg2) = m' ((c.tc : Thread Cert.ReferenceOutWIdeal.nD Cert.ReferenceOutWIdeal.τ).loc Cert.ReferenceOutWIdeal.main_arg2))

def preserves_KernelPleGateX_KernelPleGateXIdeal : Prop :=
  True

def algebraic_KernelPleGateXIdeal_ReferencePleGateXIdeal [hKernelPleGateXIdeal : Cert.KernelPleGateXIdeal.Facts] [hReferencePleGateXIdeal : Cert.ReferencePleGateXIdeal.Facts] : Prop :=
  ∀ (m : (ℓ : Loc Cert.KernelPleGateXIdeal.nD Cert.KernelPleGateXIdeal.τ Cert.KernelPleGateXIdeal.sig) → Buf (Elt Ideal) ℓ) (g : Dev Cert.KernelPleGateXIdeal.nD → PrngReg)
    (m' : (ℓ : Loc Cert.ReferencePleGateXIdeal.nD Cert.ReferencePleGateXIdeal.τ Cert.ReferencePleGateXIdeal.sig) → Buf (Elt Ideal) ℓ) (g' : Dev Cert.ReferencePleGateXIdeal.nD → PrngReg), Pre_KernelPleGateXIdeal m →
    (∀ c : Dev Cert.KernelPleGateXIdeal.nD,
      m' ((c.tc : Thread Cert.ReferencePleGateXIdeal.nD Cert.ReferencePleGateXIdeal.τ).loc Cert.ReferencePleGateXIdeal.main_arg0) = m ((c.tc : Thread Cert.KernelPleGateXIdeal.nD Cert.KernelPleGateXIdeal.τ).loc Cert.KernelPleGateXIdeal.main_arg0)
      ∧ m' ((c.tc : Thread Cert.ReferencePleGateXIdeal.nD Cert.ReferencePleGateXIdeal.τ).loc Cert.ReferencePleGateXIdeal.main_arg1) = m ((c.tc : Thread Cert.KernelPleGateXIdeal.nD Cert.KernelPleGateXIdeal.τ).loc Cert.KernelPleGateXIdeal.main_arg1)
      ∧ m' ((c.tc : Thread Cert.ReferencePleGateXIdeal.nD Cert.ReferencePleGateXIdeal.τ).loc Cert.ReferencePleGateXIdeal.main_arg2) = m ((c.tc : Thread Cert.KernelPleGateXIdeal.nD Cert.KernelPleGateXIdeal.τ).loc Cert.KernelPleGateXIdeal.main_arg2)
      ∧ m' ((c.tc : Thread Cert.ReferencePleGateXIdeal.nD Cert.ReferencePleGateXIdeal.τ).loc Cert.ReferencePleGateXIdeal.main_arg3) = m ((c.tc : Thread Cert.KernelPleGateXIdeal.nD Cert.KernelPleGateXIdeal.τ).loc Cert.KernelPleGateXIdeal.main_arg3)) →
    ∃ (v0 : (c : Dev Cert.KernelPleGateXIdeal.nD) → Buf (Elt Ideal) ((c.tc : Thread Cert.KernelPleGateXIdeal.nD Cert.KernelPleGateXIdeal.τ).loc Cert.KernelPleGateXIdeal.main_v0)),
      θ_run (Cert.KernelPleGateXIdeal.defs (F := Ideal)) (onTc (τ := Cert.KernelPleGateXIdeal.τ) (Cert.KernelPleGateXIdeal.main (F := Ideal))) ⟨m, fun _ => 0, g⟩ (fun r => ∀ c : Dev Cert.KernelPleGateXIdeal.nD,
          r.2.mem ((c.tc : Thread Cert.KernelPleGateXIdeal.nD Cert.KernelPleGateXIdeal.τ).loc Cert.KernelPleGateXIdeal.main_v0) = v0 c
          ∧ r.2.mem ((c.tc : Thread Cert.KernelPleGateXIdeal.nD Cert.KernelPleGateXIdeal.τ).loc Cert.KernelPleGateXIdeal.main_arg0) = m ((c.tc : Thread Cert.KernelPleGateXIdeal.nD Cert.KernelPleGateXIdeal.τ).loc Cert.KernelPleGateXIdeal.main_arg0)
          ∧ r.2.mem ((c.tc : Thread Cert.KernelPleGateXIdeal.nD Cert.KernelPleGateXIdeal.τ).loc Cert.KernelPleGateXIdeal.main_arg1) = m ((c.tc : Thread Cert.KernelPleGateXIdeal.nD Cert.KernelPleGateXIdeal.τ).loc Cert.KernelPleGateXIdeal.main_arg1)
          ∧ r.2.mem ((c.tc : Thread Cert.KernelPleGateXIdeal.nD Cert.KernelPleGateXIdeal.τ).loc Cert.KernelPleGateXIdeal.main_arg2) = m ((c.tc : Thread Cert.KernelPleGateXIdeal.nD Cert.KernelPleGateXIdeal.τ).loc Cert.KernelPleGateXIdeal.main_arg2)
          ∧ r.2.mem ((c.tc : Thread Cert.KernelPleGateXIdeal.nD Cert.KernelPleGateXIdeal.τ).loc Cert.KernelPleGateXIdeal.main_arg3) = m ((c.tc : Thread Cert.KernelPleGateXIdeal.nD Cert.KernelPleGateXIdeal.τ).loc Cert.KernelPleGateXIdeal.main_arg3))
      ∧ θ_run (Cert.ReferencePleGateXIdeal.defs (F := Ideal)) (onTc (τ := Cert.ReferencePleGateXIdeal.τ) (Cert.ReferencePleGateXIdeal.main (F := Ideal))) ⟨m', fun _ => 0, g'⟩ (fun r => ∀ c : Dev Cert.ReferencePleGateXIdeal.nD,
          r.2.mem ((c.tc : Thread Cert.ReferencePleGateXIdeal.nD Cert.ReferencePleGateXIdeal.τ).loc Cert.ReferencePleGateXIdeal.main_v5) = v0 c
          ∧ r.2.mem ((c.tc : Thread Cert.ReferencePleGateXIdeal.nD Cert.ReferencePleGateXIdeal.τ).loc Cert.ReferencePleGateXIdeal.main_arg0) = m' ((c.tc : Thread Cert.ReferencePleGateXIdeal.nD Cert.ReferencePleGateXIdeal.τ).loc Cert.ReferencePleGateXIdeal.main_arg0)
          ∧ r.2.mem ((c.tc : Thread Cert.ReferencePleGateXIdeal.nD Cert.ReferencePleGateXIdeal.τ).loc Cert.ReferencePleGateXIdeal.main_arg1) = m' ((c.tc : Thread Cert.ReferencePleGateXIdeal.nD Cert.ReferencePleGateXIdeal.τ).loc Cert.ReferencePleGateXIdeal.main_arg1)
          ∧ r.2.mem ((c.tc : Thread Cert.ReferencePleGateXIdeal.nD Cert.ReferencePleGateXIdeal.τ).loc Cert.ReferencePleGateXIdeal.main_arg2) = m' ((c.tc : Thread Cert.ReferencePleGateXIdeal.nD Cert.ReferencePleGateXIdeal.τ).loc Cert.ReferencePleGateXIdeal.main_arg2)
          ∧ r.2.mem ((c.tc : Thread Cert.ReferencePleGateXIdeal.nD Cert.ReferencePleGateXIdeal.τ).loc Cert.ReferencePleGateXIdeal.main_arg3) = m' ((c.tc : Thread Cert.ReferencePleGateXIdeal.nD Cert.ReferencePleGateXIdeal.τ).loc Cert.ReferencePleGateXIdeal.main_arg3))

def preserves_KernelPleW_KernelPleWIdeal : Prop :=
  True

def algebraic_KernelPleWIdeal_ReferencePleWIdeal [hKernelPleWIdeal : Cert.KernelPleWIdeal.Facts] [hReferencePleWIdeal : Cert.ReferencePleWIdeal.Facts] : Prop :=
  ∀ (m : (ℓ : Loc Cert.KernelPleWIdeal.nD Cert.KernelPleWIdeal.τ Cert.KernelPleWIdeal.sig) → Buf (Elt Ideal) ℓ) (g : Dev Cert.KernelPleWIdeal.nD → PrngReg)
    (m' : (ℓ : Loc Cert.ReferencePleWIdeal.nD Cert.ReferencePleWIdeal.τ Cert.ReferencePleWIdeal.sig) → Buf (Elt Ideal) ℓ) (g' : Dev Cert.ReferencePleWIdeal.nD → PrngReg), Pre_KernelPleWIdeal m →
    (∀ c : Dev Cert.KernelPleWIdeal.nD,
      m' ((c.tc : Thread Cert.ReferencePleWIdeal.nD Cert.ReferencePleWIdeal.τ).loc Cert.ReferencePleWIdeal.main_arg0) = m ((c.tc : Thread Cert.KernelPleWIdeal.nD Cert.KernelPleWIdeal.τ).loc Cert.KernelPleWIdeal.main_arg0)
      ∧ m' ((c.tc : Thread Cert.ReferencePleWIdeal.nD Cert.ReferencePleWIdeal.τ).loc Cert.ReferencePleWIdeal.main_arg1) = m ((c.tc : Thread Cert.KernelPleWIdeal.nD Cert.KernelPleWIdeal.τ).loc Cert.KernelPleWIdeal.main_arg1)
      ∧ m' ((c.tc : Thread Cert.ReferencePleWIdeal.nD Cert.ReferencePleWIdeal.τ).loc Cert.ReferencePleWIdeal.main_arg2) = m ((c.tc : Thread Cert.KernelPleWIdeal.nD Cert.KernelPleWIdeal.τ).loc Cert.KernelPleWIdeal.main_arg2)) →
    ∃ (v0 : (c : Dev Cert.KernelPleWIdeal.nD) → Buf (Elt Ideal) ((c.tc : Thread Cert.KernelPleWIdeal.nD Cert.KernelPleWIdeal.τ).loc Cert.KernelPleWIdeal.main_v0)),
      θ_run (Cert.KernelPleWIdeal.defs (F := Ideal)) (onTc (τ := Cert.KernelPleWIdeal.τ) (Cert.KernelPleWIdeal.main (F := Ideal))) ⟨m, fun _ => 0, g⟩ (fun r => ∀ c : Dev Cert.KernelPleWIdeal.nD,
          r.2.mem ((c.tc : Thread Cert.KernelPleWIdeal.nD Cert.KernelPleWIdeal.τ).loc Cert.KernelPleWIdeal.main_v0) = v0 c
          ∧ r.2.mem ((c.tc : Thread Cert.KernelPleWIdeal.nD Cert.KernelPleWIdeal.τ).loc Cert.KernelPleWIdeal.main_arg0) = m ((c.tc : Thread Cert.KernelPleWIdeal.nD Cert.KernelPleWIdeal.τ).loc Cert.KernelPleWIdeal.main_arg0)
          ∧ r.2.mem ((c.tc : Thread Cert.KernelPleWIdeal.nD Cert.KernelPleWIdeal.τ).loc Cert.KernelPleWIdeal.main_arg1) = m ((c.tc : Thread Cert.KernelPleWIdeal.nD Cert.KernelPleWIdeal.τ).loc Cert.KernelPleWIdeal.main_arg1)
          ∧ r.2.mem ((c.tc : Thread Cert.KernelPleWIdeal.nD Cert.KernelPleWIdeal.τ).loc Cert.KernelPleWIdeal.main_arg2) = m ((c.tc : Thread Cert.KernelPleWIdeal.nD Cert.KernelPleWIdeal.τ).loc Cert.KernelPleWIdeal.main_arg2))
      ∧ θ_run (Cert.ReferencePleWIdeal.defs (F := Ideal)) (onTc (τ := Cert.ReferencePleWIdeal.τ) (Cert.ReferencePleWIdeal.main (F := Ideal))) ⟨m', fun _ => 0, g'⟩ (fun r => ∀ c : Dev Cert.ReferencePleWIdeal.nD,
          r.2.mem ((c.tc : Thread Cert.ReferencePleWIdeal.nD Cert.ReferencePleWIdeal.τ).loc Cert.ReferencePleWIdeal.main_v22) = v0 c
          ∧ r.2.mem ((c.tc : Thread Cert.ReferencePleWIdeal.nD Cert.ReferencePleWIdeal.τ).loc Cert.ReferencePleWIdeal.main_arg0) = m' ((c.tc : Thread Cert.ReferencePleWIdeal.nD Cert.ReferencePleWIdeal.τ).loc Cert.ReferencePleWIdeal.main_arg0)
          ∧ r.2.mem ((c.tc : Thread Cert.ReferencePleWIdeal.nD Cert.ReferencePleWIdeal.τ).loc Cert.ReferencePleWIdeal.main_arg1) = m' ((c.tc : Thread Cert.ReferencePleWIdeal.nD Cert.ReferencePleWIdeal.τ).loc Cert.ReferencePleWIdeal.main_arg1)
          ∧ r.2.mem ((c.tc : Thread Cert.ReferencePleWIdeal.nD Cert.ReferencePleWIdeal.τ).loc Cert.ReferencePleWIdeal.main_arg2) = m' ((c.tc : Thread Cert.ReferencePleWIdeal.nD Cert.ReferencePleWIdeal.τ).loc Cert.ReferencePleWIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v2) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)) →
    ∃ (v0 : (c : Dev Cert.KernelGateIdeal.nD) → Buf (Elt Ideal) ((c.tc : Thread Cert.KernelGateIdeal.nD Cert.KernelGateIdeal.τ).loc Cert.KernelGateIdeal.main_v2)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v2) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v2) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1))

def preserves_KernelFf1_KernelFf1Ideal : Prop :=
  True

def algebraic_KernelFf1Ideal_ReferenceFf1Ideal [hKernelFf1Ideal : Cert.KernelFf1Ideal.Facts] [hReferenceFf1Ideal : Cert.ReferenceFf1Ideal.Facts] : Prop :=
  ∀ (m : (ℓ : Loc Cert.KernelFf1Ideal.nD Cert.KernelFf1Ideal.τ Cert.KernelFf1Ideal.sig) → Buf (Elt Ideal) ℓ) (g : Dev Cert.KernelFf1Ideal.nD → PrngReg)
    (m' : (ℓ : Loc Cert.ReferenceFf1Ideal.nD Cert.ReferenceFf1Ideal.τ Cert.ReferenceFf1Ideal.sig) → Buf (Elt Ideal) ℓ) (g' : Dev Cert.ReferenceFf1Ideal.nD → PrngReg), Pre_KernelFf1Ideal m →
    (∀ c : Dev Cert.KernelFf1Ideal.nD,
      m' ((c.tc : Thread Cert.ReferenceFf1Ideal.nD Cert.ReferenceFf1Ideal.τ).loc Cert.ReferenceFf1Ideal.main_arg0) = m ((c.tc : Thread Cert.KernelFf1Ideal.nD Cert.KernelFf1Ideal.τ).loc Cert.KernelFf1Ideal.main_arg0)
      ∧ m' ((c.tc : Thread Cert.ReferenceFf1Ideal.nD Cert.ReferenceFf1Ideal.τ).loc Cert.ReferenceFf1Ideal.main_arg1) = m ((c.tc : Thread Cert.KernelFf1Ideal.nD Cert.KernelFf1Ideal.τ).loc Cert.KernelFf1Ideal.main_arg1)) →
    ∃ (v0 : (c : Dev Cert.KernelFf1Ideal.nD) → Buf (Elt Ideal) ((c.tc : Thread Cert.KernelFf1Ideal.nD Cert.KernelFf1Ideal.τ).loc Cert.KernelFf1Ideal.main_v2_0)) (v1 : (c : Dev Cert.KernelFf1Ideal.nD) → Buf (Elt Ideal) ((c.tc : Thread Cert.KernelFf1Ideal.nD Cert.KernelFf1Ideal.τ).loc Cert.KernelFf1Ideal.main_v2_1)),
      θ_run (Cert.KernelFf1Ideal.defs (F := Ideal)) (onTc (τ := Cert.KernelFf1Ideal.τ) (Cert.KernelFf1Ideal.main (F := Ideal))) ⟨m, fun _ => 0, g⟩ (fun r => ∀ c : Dev Cert.KernelFf1Ideal.nD,
          r.2.mem ((c.tc : Thread Cert.KernelFf1Ideal.nD Cert.KernelFf1Ideal.τ).loc Cert.KernelFf1Ideal.main_v2_0) = v0 c
          ∧ r.2.mem ((c.tc : Thread Cert.KernelFf1Ideal.nD Cert.KernelFf1Ideal.τ).loc Cert.KernelFf1Ideal.main_v2_1) = v1 c
          ∧ r.2.mem ((c.tc : Thread Cert.KernelFf1Ideal.nD Cert.KernelFf1Ideal.τ).loc Cert.KernelFf1Ideal.main_arg0) = m ((c.tc : Thread Cert.KernelFf1Ideal.nD Cert.KernelFf1Ideal.τ).loc Cert.KernelFf1Ideal.main_arg0)
          ∧ r.2.mem ((c.tc : Thread Cert.KernelFf1Ideal.nD Cert.KernelFf1Ideal.τ).loc Cert.KernelFf1Ideal.main_arg1) = m ((c.tc : Thread Cert.KernelFf1Ideal.nD Cert.KernelFf1Ideal.τ).loc Cert.KernelFf1Ideal.main_arg1))
      ∧ θ_run (Cert.ReferenceFf1Ideal.defs (F := Ideal)) (onTc (τ := Cert.ReferenceFf1Ideal.τ) (Cert.ReferenceFf1Ideal.main (F := Ideal))) ⟨m', fun _ => 0, g'⟩ (fun r => ∀ c : Dev Cert.ReferenceFf1Ideal.nD,
          r.2.mem ((c.tc : Thread Cert.ReferenceFf1Ideal.nD Cert.ReferenceFf1Ideal.τ).loc Cert.ReferenceFf1Ideal.main_v2) = v0 c
          ∧ r.2.mem ((c.tc : Thread Cert.ReferenceFf1Ideal.nD Cert.ReferenceFf1Ideal.τ).loc Cert.ReferenceFf1Ideal.main_v5) = v1 c
          ∧ r.2.mem ((c.tc : Thread Cert.ReferenceFf1Ideal.nD Cert.ReferenceFf1Ideal.τ).loc Cert.ReferenceFf1Ideal.main_arg0) = m' ((c.tc : Thread Cert.ReferenceFf1Ideal.nD Cert.ReferenceFf1Ideal.τ).loc Cert.ReferenceFf1Ideal.main_arg0)
          ∧ r.2.mem ((c.tc : Thread Cert.ReferenceFf1Ideal.nD Cert.ReferenceFf1Ideal.τ).loc Cert.ReferenceFf1Ideal.main_arg1) = m' ((c.tc : Thread Cert.ReferenceFf1Ideal.nD Cert.ReferenceFf1Ideal.τ).loc Cert.ReferenceFf1Ideal.main_arg1))

def preserves_KernelFf2_KernelFf2Ideal : Prop :=
  True

def algebraic_KernelFf2Ideal_ReferenceFf2Ideal [hKernelFf2Ideal : Cert.KernelFf2Ideal.Facts] [hReferenceFf2Ideal : Cert.ReferenceFf2Ideal.Facts] : Prop :=
  ∀ (m : (ℓ : Loc Cert.KernelFf2Ideal.nD Cert.KernelFf2Ideal.τ Cert.KernelFf2Ideal.sig) → Buf (Elt Ideal) ℓ) (g : Dev Cert.KernelFf2Ideal.nD → PrngReg)
    (m' : (ℓ : Loc Cert.ReferenceFf2Ideal.nD Cert.ReferenceFf2Ideal.τ Cert.ReferenceFf2Ideal.sig) → Buf (Elt Ideal) ℓ) (g' : Dev Cert.ReferenceFf2Ideal.nD → PrngReg), Pre_KernelFf2Ideal m →
    (∀ c : Dev Cert.KernelFf2Ideal.nD,
      m' ((c.tc : Thread Cert.ReferenceFf2Ideal.nD Cert.ReferenceFf2Ideal.τ).loc Cert.ReferenceFf2Ideal.main_arg0) = m ((c.tc : Thread Cert.KernelFf2Ideal.nD Cert.KernelFf2Ideal.τ).loc Cert.KernelFf2Ideal.main_arg0)
      ∧ m' ((c.tc : Thread Cert.ReferenceFf2Ideal.nD Cert.ReferenceFf2Ideal.τ).loc Cert.ReferenceFf2Ideal.main_arg1) = m ((c.tc : Thread Cert.KernelFf2Ideal.nD Cert.KernelFf2Ideal.τ).loc Cert.KernelFf2Ideal.main_arg1)) →
    ∃ (v0 : (c : Dev Cert.KernelFf2Ideal.nD) → Buf (Elt Ideal) ((c.tc : Thread Cert.KernelFf2Ideal.nD Cert.KernelFf2Ideal.τ).loc Cert.KernelFf2Ideal.main_v0)),
      θ_run (Cert.KernelFf2Ideal.defs (F := Ideal)) (onTc (τ := Cert.KernelFf2Ideal.τ) (Cert.KernelFf2Ideal.main (F := Ideal))) ⟨m, fun _ => 0, g⟩ (fun r => ∀ c : Dev Cert.KernelFf2Ideal.nD,
          r.2.mem ((c.tc : Thread Cert.KernelFf2Ideal.nD Cert.KernelFf2Ideal.τ).loc Cert.KernelFf2Ideal.main_v0) = v0 c
          ∧ r.2.mem ((c.tc : Thread Cert.KernelFf2Ideal.nD Cert.KernelFf2Ideal.τ).loc Cert.KernelFf2Ideal.main_arg0) = m ((c.tc : Thread Cert.KernelFf2Ideal.nD Cert.KernelFf2Ideal.τ).loc Cert.KernelFf2Ideal.main_arg0)
          ∧ r.2.mem ((c.tc : Thread Cert.KernelFf2Ideal.nD Cert.KernelFf2Ideal.τ).loc Cert.KernelFf2Ideal.main_arg1) = m ((c.tc : Thread Cert.KernelFf2Ideal.nD Cert.KernelFf2Ideal.τ).loc Cert.KernelFf2Ideal.main_arg1))
      ∧ θ_run (Cert.ReferenceFf2Ideal.defs (F := Ideal)) (onTc (τ := Cert.ReferenceFf2Ideal.τ) (Cert.ReferenceFf2Ideal.main (F := Ideal))) ⟨m', fun _ => 0, g'⟩ (fun r => ∀ c : Dev Cert.ReferenceFf2Ideal.nD,
          r.2.mem ((c.tc : Thread Cert.ReferenceFf2Ideal.nD Cert.ReferenceFf2Ideal.τ).loc Cert.ReferenceFf2Ideal.main_v2) = v0 c
          ∧ r.2.mem ((c.tc : Thread Cert.ReferenceFf2Ideal.nD Cert.ReferenceFf2Ideal.τ).loc Cert.ReferenceFf2Ideal.main_arg0) = m' ((c.tc : Thread Cert.ReferenceFf2Ideal.nD Cert.ReferenceFf2Ideal.τ).loc Cert.ReferenceFf2Ideal.main_arg0)
          ∧ r.2.mem ((c.tc : Thread Cert.ReferenceFf2Ideal.nD Cert.ReferenceFf2Ideal.τ).loc Cert.ReferenceFf2Ideal.main_arg1) = m' ((c.tc : Thread Cert.ReferenceFf2Ideal.nD Cert.ReferenceFf2Ideal.τ).loc Cert.ReferenceFf2Ideal.main_arg1))

def preserves_KernelSsd_KernelSsdIdeal : Prop :=
  True

def algebraic_KernelSsdIdeal_ReferenceSsdIdeal [hKernelSsdIdeal : Cert.KernelSsdIdeal.Facts] [hReferenceSsdIdeal : Cert.ReferenceSsdIdeal.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg)
    (m' : (ℓ : Loc Cert.ReferenceSsdIdeal.nD Cert.ReferenceSsdIdeal.τ Cert.ReferenceSsdIdeal.sig) → Buf (Elt Ideal) ℓ) (g' : Dev Cert.ReferenceSsdIdeal.nD → PrngReg), Pre_KernelSsdIdeal m →
    (∀ c : Dev Cert.KernelSsdIdeal.nD,
      m' ((c.tc : Thread Cert.ReferenceSsdIdeal.nD Cert.ReferenceSsdIdeal.τ).loc Cert.ReferenceSsdIdeal.main_arg0) = m ((c.tc : Thread Cert.KernelSsdIdeal.nD Cert.KernelSsdIdeal.τ).loc Cert.KernelSsdIdeal.main_arg0)
      ∧ m' ((c.tc : Thread Cert.ReferenceSsdIdeal.nD Cert.ReferenceSsdIdeal.τ).loc Cert.ReferenceSsdIdeal.main_arg1) = m ((c.tc : Thread Cert.KernelSsdIdeal.nD Cert.KernelSsdIdeal.τ).loc Cert.KernelSsdIdeal.main_arg1)) →
    ∃ (v0 : (c : Dev Cert.KernelSsdIdeal.nD) → Buf (Elt Ideal) ((c.tc : Thread Cert.KernelSsdIdeal.nD Cert.KernelSsdIdeal.τ).loc Cert.KernelSsdIdeal.main_v0)),
      θ_run (Cert.KernelSsdIdeal.defs (F := Ideal)) (onTc (τ := Cert.KernelSsdIdeal.τ) (Cert.KernelSsdIdeal.main (F := Ideal))) ⟨m, fun _ => 0, g⟩ (fun r => ∀ c : Dev Cert.KernelSsdIdeal.nD,
          r.2.mem ((c.tc : Thread Cert.KernelSsdIdeal.nD Cert.KernelSsdIdeal.τ).loc Cert.KernelSsdIdeal.main_v0) = v0 c
          ∧ r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
          ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1))
      ∧ θ_run (Cert.ReferenceSsdIdeal.defs (F := Ideal)) (onTc (τ := Cert.ReferenceSsdIdeal.τ) (Cert.ReferenceSsdIdeal.main (F := Ideal))) ⟨m', fun _ => 0, g'⟩ (fun r => ∀ c : Dev Cert.ReferenceSsdIdeal.nD,
          r.2.mem ((c.tc : Thread Cert.ReferenceSsdIdeal.nD Cert.ReferenceSsdIdeal.τ).loc Cert.ReferenceSsdIdeal.main_v2) = v0 c
          ∧ r.2.mem ((c.tc : Thread Cert.ReferenceSsdIdeal.nD Cert.ReferenceSsdIdeal.τ).loc Cert.ReferenceSsdIdeal.main_arg0) = m' ((c.tc : Thread Cert.ReferenceSsdIdeal.nD Cert.ReferenceSsdIdeal.τ).loc Cert.ReferenceSsdIdeal.main_arg0)
          ∧ r.2.mem ((c.tc : Thread Cert.ReferenceSsdIdeal.nD Cert.ReferenceSsdIdeal.τ).loc Cert.ReferenceSsdIdeal.main_arg1) = m' ((c.tc : Thread Cert.ReferenceSsdIdeal.nD Cert.ReferenceSsdIdeal.τ).loc Cert.ReferenceSsdIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v2) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelPle_KernelPleIdeal : Prop :=
  True

def algebraic_KernelPleIdeal_ReferencePleIdeal [hKernelPleIdeal : Cert.KernelPleIdeal.Facts] [hReferencePleIdeal : Cert.ReferencePleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg)
    (m' : (ℓ : Loc Cert.ReferencePleIdeal.nD Cert.ReferencePleIdeal.τ Cert.ReferencePleIdeal.sig) → Buf (Elt Ideal) ℓ) (g' : Dev Cert.ReferencePleIdeal.nD → PrngReg), Pre_KernelPleIdeal m →
    (∀ c : Dev Cert.KernelPleIdeal.nD,
      m' ((c.tc : Thread Cert.ReferencePleIdeal.nD Cert.ReferencePleIdeal.τ).loc Cert.ReferencePleIdeal.main_arg0) = m ((c.tc : Thread Cert.KernelPleIdeal.nD Cert.KernelPleIdeal.τ).loc Cert.KernelPleIdeal.main_arg0)
      ∧ m' ((c.tc : Thread Cert.ReferencePleIdeal.nD Cert.ReferencePleIdeal.τ).loc Cert.ReferencePleIdeal.main_arg1) = m ((c.tc : Thread Cert.KernelPleIdeal.nD Cert.KernelPleIdeal.τ).loc Cert.KernelPleIdeal.main_arg1)) →
    ∃ (v0 : (c : Dev Cert.KernelPleIdeal.nD) → Buf (Elt Ideal) ((c.tc : Thread Cert.KernelPleIdeal.nD Cert.KernelPleIdeal.τ).loc Cert.KernelPleIdeal.main_v2)),
      θ_run (Cert.KernelPleIdeal.defs (F := Ideal)) (onTc (τ := Cert.KernelPleIdeal.τ) (Cert.KernelPleIdeal.main (F := Ideal))) ⟨m, fun _ => 0, g⟩ (fun r => ∀ c : Dev Cert.KernelPleIdeal.nD,
          r.2.mem ((c.tc : Thread Cert.KernelPleIdeal.nD Cert.KernelPleIdeal.τ).loc Cert.KernelPleIdeal.main_v2) = v0 c
          ∧ r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
          ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1))
      ∧ θ_run (Cert.ReferencePleIdeal.defs (F := Ideal)) (onTc (τ := Cert.ReferencePleIdeal.τ) (Cert.ReferencePleIdeal.main (F := Ideal))) ⟨m', fun _ => 0, g'⟩ (fun r => ∀ c : Dev Cert.ReferencePleIdeal.nD,
          r.2.mem ((c.tc : Thread Cert.ReferencePleIdeal.nD Cert.ReferencePleIdeal.τ).loc Cert.ReferencePleIdeal.main_v2) = v0 c
          ∧ r.2.mem ((c.tc : Thread Cert.ReferencePleIdeal.nD Cert.ReferencePleIdeal.τ).loc Cert.ReferencePleIdeal.main_arg0) = m' ((c.tc : Thread Cert.ReferencePleIdeal.nD Cert.ReferencePleIdeal.τ).loc Cert.ReferencePleIdeal.main_arg0)
          ∧ r.2.mem ((c.tc : Thread Cert.ReferencePleIdeal.nD Cert.ReferencePleIdeal.τ).loc Cert.ReferencePleIdeal.main_arg1) = m' ((c.tc : Thread Cert.ReferencePleIdeal.nD Cert.ReferencePleIdeal.τ).loc Cert.ReferencePleIdeal.main_arg1))

def preserves_KernelGates_KernelGatesIdeal : Prop :=
  True

def algebraic_KernelGatesIdeal_ReferenceGatesIdeal [hKernelGatesIdeal : Cert.KernelGatesIdeal.Facts] [hReferenceGatesIdeal : Cert.ReferenceGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)
      ∧ m' ((c.tc : Thread Cert.ReferenceGatesIdeal.nD Cert.ReferenceGatesIdeal.τ).loc Cert.ReferenceGatesIdeal.main_arg2) = m ((c.tc : Thread Cert.KernelGatesIdeal.nD Cert.KernelGatesIdeal.τ).loc Cert.KernelGatesIdeal.main_arg2)
      ∧ m' ((c.tc : Thread Cert.ReferenceGatesIdeal.nD Cert.ReferenceGatesIdeal.τ).loc Cert.ReferenceGatesIdeal.main_arg3) = m ((c.tc : Thread Cert.KernelGatesIdeal.nD Cert.KernelGatesIdeal.τ).loc Cert.KernelGatesIdeal.main_arg3)
      ∧ m' ((c.tc : Thread Cert.ReferenceGatesIdeal.nD Cert.ReferenceGatesIdeal.τ).loc Cert.ReferenceGatesIdeal.main_arg4) = m ((c.tc : Thread Cert.KernelGatesIdeal.nD Cert.KernelGatesIdeal.τ).loc Cert.KernelGatesIdeal.main_arg4)) →
    ∃ (v0 : (c : Dev Cert.KernelGatesIdeal.nD) → Buf (Elt Ideal) ((c.tc : Thread Cert.KernelGatesIdeal.nD Cert.KernelGatesIdeal.τ).loc Cert.KernelGatesIdeal.main_v0_0)) (v1 : (c : Dev Cert.KernelGatesIdeal.nD) → Buf (Elt Ideal) ((c.tc : Thread Cert.KernelGatesIdeal.nD Cert.KernelGatesIdeal.τ).loc Cert.KernelGatesIdeal.main_v0_1)) (v2 : (c : Dev Cert.KernelGatesIdeal.nD) → Buf (Elt Ideal) ((c.tc : Thread Cert.KernelGatesIdeal.nD Cert.KernelGatesIdeal.τ).loc Cert.KernelGatesIdeal.main_v0_2)) (v3 : (c : Dev Cert.KernelGatesIdeal.nD) → Buf (Elt Ideal) ((c.tc : Thread Cert.KernelGatesIdeal.nD Cert.KernelGatesIdeal.τ).loc Cert.KernelGatesIdeal.main_v0_3)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          r.2.mem ((c.tc : Thread Cert.KernelGatesIdeal.nD Cert.KernelGatesIdeal.τ).loc Cert.KernelGatesIdeal.main_v0_0) = v0 c
          ∧ r.2.mem ((c.tc : Thread Cert.KernelGatesIdeal.nD Cert.KernelGatesIdeal.τ).loc Cert.KernelGatesIdeal.main_v0_1) = v1 c
          ∧ r.2.mem ((c.tc : Thread Cert.KernelGatesIdeal.nD Cert.KernelGatesIdeal.τ).loc Cert.KernelGatesIdeal.main_v0_2) = v2 c
          ∧ r.2.mem ((c.tc : Thread Cert.KernelGatesIdeal.nD Cert.KernelGatesIdeal.τ).loc Cert.KernelGatesIdeal.main_v0_3) = v3 c
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
          ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2)
          ∧ r.2.mem ((c.tc : Thread Cert.KernelGatesIdeal.nD Cert.KernelGatesIdeal.τ).loc Cert.KernelGatesIdeal.main_arg3) = m ((c.tc : Thread Cert.KernelGatesIdeal.nD Cert.KernelGatesIdeal.τ).loc Cert.KernelGatesIdeal.main_arg3)
          ∧ r.2.mem ((c.tc : Thread Cert.KernelGatesIdeal.nD Cert.KernelGatesIdeal.τ).loc Cert.KernelGatesIdeal.main_arg4) = m ((c.tc : Thread Cert.KernelGatesIdeal.nD Cert.KernelGatesIdeal.τ).loc Cert.KernelGatesIdeal.main_arg4))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          r.2.mem ((c.tc : Thread Cert.ReferenceGatesIdeal.nD Cert.ReferenceGatesIdeal.τ).loc Cert.ReferenceGatesIdeal.main_v26) = v0 c
          ∧ r.2.mem ((c.tc : Thread Cert.ReferenceGatesIdeal.nD Cert.ReferenceGatesIdeal.τ).loc Cert.ReferenceGatesIdeal.main_v27) = v1 c
          ∧ r.2.mem ((c.tc : Thread Cert.ReferenceGatesIdeal.nD Cert.ReferenceGatesIdeal.τ).loc Cert.ReferenceGatesIdeal.main_v28) = v2 c
          ∧ r.2.mem ((c.tc : Thread Cert.ReferenceGatesIdeal.nD Cert.ReferenceGatesIdeal.τ).loc Cert.ReferenceGatesIdeal.main_v25) = v3 c
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1)
          ∧ r.2.mem ((c.tc : Thread Cert.ReferenceGatesIdeal.nD Cert.ReferenceGatesIdeal.τ).loc Cert.ReferenceGatesIdeal.main_arg2) = m' ((c.tc : Thread Cert.ReferenceGatesIdeal.nD Cert.ReferenceGatesIdeal.τ).loc Cert.ReferenceGatesIdeal.main_arg2)
          ∧ r.2.mem ((c.tc : Thread Cert.ReferenceGatesIdeal.nD Cert.ReferenceGatesIdeal.τ).loc Cert.ReferenceGatesIdeal.main_arg3) = m' ((c.tc : Thread Cert.ReferenceGatesIdeal.nD Cert.ReferenceGatesIdeal.τ).loc Cert.ReferenceGatesIdeal.main_arg3)
          ∧ r.2.mem ((c.tc : Thread Cert.ReferenceGatesIdeal.nD Cert.ReferenceGatesIdeal.τ).loc Cert.ReferenceGatesIdeal.main_arg4) = m' ((c.tc : Thread Cert.ReferenceGatesIdeal.nD Cert.ReferenceGatesIdeal.τ).loc Cert.ReferenceGatesIdeal.main_arg4))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)) →
    ∃ (v0 : (c : Dev Cert.KernelNormIdeal.nD) → Buf (Elt Ideal) ((c.tc : Thread Cert.KernelNormIdeal.nD Cert.KernelNormIdeal.τ).loc Cert.KernelNormIdeal.main_v0_0)) (v1 : (c : Dev Cert.KernelNormIdeal.nD) → Buf (Elt Ideal) ((c.tc : Thread Cert.KernelNormIdeal.nD Cert.KernelNormIdeal.τ).loc Cert.KernelNormIdeal.main_v0_1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v0_0) = v0 c
          ∧ r.2.mem ((c.tc : Thread Cert.KernelNormIdeal.nD Cert.KernelNormIdeal.τ).loc Cert.KernelNormIdeal.main_v0_1) = v1 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v34) = v0 c
          ∧ r.2.mem ((c.tc : Thread Cert.ReferenceNormIdeal.nD Cert.ReferenceNormIdeal.τ).loc Cert.ReferenceNormIdeal.main_v17) = v1 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3))

def preserves_KernelMidGrad_KernelMidGradIdeal : Prop :=
  True

def algebraic_KernelMidGradIdeal_ReferenceMidGradIdeal [hKernelMidGradIdeal : Cert.KernelMidGradIdeal.Facts] [hReferenceMidGradIdeal : Cert.ReferenceMidGradIdeal.Facts] : Prop :=
  ∀ (m : (ℓ : Loc Cert.KernelMidGradIdeal.nD Cert.KernelMidGradIdeal.τ Cert.KernelMidGradIdeal.sig) → Buf (Elt Ideal) ℓ) (g : Dev Cert.KernelMidGradIdeal.nD → PrngReg)
    (m' : (ℓ : Loc Cert.ReferenceMidGradIdeal.nD Cert.ReferenceMidGradIdeal.τ Cert.ReferenceMidGradIdeal.sig) → Buf (Elt Ideal) ℓ) (g' : Dev Cert.ReferenceMidGradIdeal.nD → PrngReg), Pre_KernelMidGradIdeal m →
    (∀ c : Dev Cert.KernelMidGradIdeal.nD,
      m' ((c.tc : Thread Cert.ReferenceMidGradIdeal.nD Cert.ReferenceMidGradIdeal.τ).loc Cert.ReferenceMidGradIdeal.main_arg0) = m ((c.tc : Thread Cert.KernelMidGradIdeal.nD Cert.KernelMidGradIdeal.τ).loc Cert.KernelMidGradIdeal.main_arg0)
      ∧ m' ((c.tc : Thread Cert.ReferenceMidGradIdeal.nD Cert.ReferenceMidGradIdeal.τ).loc Cert.ReferenceMidGradIdeal.main_arg1) = m ((c.tc : Thread Cert.KernelMidGradIdeal.nD Cert.KernelMidGradIdeal.τ).loc Cert.KernelMidGradIdeal.main_arg1)
      ∧ m' ((c.tc : Thread Cert.ReferenceMidGradIdeal.nD Cert.ReferenceMidGradIdeal.τ).loc Cert.ReferenceMidGradIdeal.main_arg2) = m ((c.tc : Thread Cert.KernelMidGradIdeal.nD Cert.KernelMidGradIdeal.τ).loc Cert.KernelMidGradIdeal.main_arg2)
      ∧ m' ((c.tc : Thread Cert.ReferenceMidGradIdeal.nD Cert.ReferenceMidGradIdeal.τ).loc Cert.ReferenceMidGradIdeal.main_arg3) = m ((c.tc : Thread Cert.KernelMidGradIdeal.nD Cert.KernelMidGradIdeal.τ).loc Cert.KernelMidGradIdeal.main_arg3)
      ∧ m' ((c.tc : Thread Cert.ReferenceMidGradIdeal.nD Cert.ReferenceMidGradIdeal.τ).loc Cert.ReferenceMidGradIdeal.main_arg4) = m ((c.tc : Thread Cert.KernelMidGradIdeal.nD Cert.KernelMidGradIdeal.τ).loc Cert.KernelMidGradIdeal.main_arg4)
      ∧ m' ((c.tc : Thread Cert.ReferenceMidGradIdeal.nD Cert.ReferenceMidGradIdeal.τ).loc Cert.ReferenceMidGradIdeal.main_arg5) = m ((c.tc : Thread Cert.KernelMidGradIdeal.nD Cert.KernelMidGradIdeal.τ).loc Cert.KernelMidGradIdeal.main_arg5)) →
    ∃ (v0 : (c : Dev Cert.KernelMidGradIdeal.nD) → Buf (Elt Ideal) ((c.tc : Thread Cert.KernelMidGradIdeal.nD Cert.KernelMidGradIdeal.τ).loc Cert.KernelMidGradIdeal.main_v13_0)) (v1 : (c : Dev Cert.KernelMidGradIdeal.nD) → Buf (Elt Ideal) ((c.tc : Thread Cert.KernelMidGradIdeal.nD Cert.KernelMidGradIdeal.τ).loc Cert.KernelMidGradIdeal.main_v13_1)) (v2 : (c : Dev Cert.KernelMidGradIdeal.nD) → Buf (Elt Ideal) ((c.tc : Thread Cert.KernelMidGradIdeal.nD Cert.KernelMidGradIdeal.τ).loc Cert.KernelMidGradIdeal.main_v13_2)) (v3 : (c : Dev Cert.KernelMidGradIdeal.nD) → Buf (Elt Ideal) ((c.tc : Thread Cert.KernelMidGradIdeal.nD Cert.KernelMidGradIdeal.τ).loc Cert.KernelMidGradIdeal.main_v13_3)),
      θ_run (Cert.KernelMidGradIdeal.defs (F := Ideal)) (onTc (τ := Cert.KernelMidGradIdeal.τ) (Cert.KernelMidGradIdeal.main (F := Ideal))) ⟨m, fun _ => 0, g⟩ (fun r => ∀ c : Dev Cert.KernelMidGradIdeal.nD,
          r.2.mem ((c.tc : Thread Cert.KernelMidGradIdeal.nD Cert.KernelMidGradIdeal.τ).loc Cert.KernelMidGradIdeal.main_v13_0) = v0 c
          ∧ r.2.mem ((c.tc : Thread Cert.KernelMidGradIdeal.nD Cert.KernelMidGradIdeal.τ).loc Cert.KernelMidGradIdeal.main_v13_1) = v1 c
          ∧ r.2.mem ((c.tc : Thread Cert.KernelMidGradIdeal.nD Cert.KernelMidGradIdeal.τ).loc Cert.KernelMidGradIdeal.main_v13_2) = v2 c
          ∧ r.2.mem ((c.tc : Thread Cert.KernelMidGradIdeal.nD Cert.KernelMidGradIdeal.τ).loc Cert.KernelMidGradIdeal.main_v13_3) = v3 c
          ∧ r.2.mem ((c.tc : Thread Cert.KernelMidGradIdeal.nD Cert.KernelMidGradIdeal.τ).loc Cert.KernelMidGradIdeal.main_arg0) = m ((c.tc : Thread Cert.KernelMidGradIdeal.nD Cert.KernelMidGradIdeal.τ).loc Cert.KernelMidGradIdeal.main_arg0)
          ∧ r.2.mem ((c.tc : Thread Cert.KernelMidGradIdeal.nD Cert.KernelMidGradIdeal.τ).loc Cert.KernelMidGradIdeal.main_arg1) = m ((c.tc : Thread Cert.KernelMidGradIdeal.nD Cert.KernelMidGradIdeal.τ).loc Cert.KernelMidGradIdeal.main_arg1)
          ∧ r.2.mem ((c.tc : Thread Cert.KernelMidGradIdeal.nD Cert.KernelMidGradIdeal.τ).loc Cert.KernelMidGradIdeal.main_arg2) = m ((c.tc : Thread Cert.KernelMidGradIdeal.nD Cert.KernelMidGradIdeal.τ).loc Cert.KernelMidGradIdeal.main_arg2)
          ∧ r.2.mem ((c.tc : Thread Cert.KernelMidGradIdeal.nD Cert.KernelMidGradIdeal.τ).loc Cert.KernelMidGradIdeal.main_arg3) = m ((c.tc : Thread Cert.KernelMidGradIdeal.nD Cert.KernelMidGradIdeal.τ).loc Cert.KernelMidGradIdeal.main_arg3)
          ∧ r.2.mem ((c.tc : Thread Cert.KernelMidGradIdeal.nD Cert.KernelMidGradIdeal.τ).loc Cert.KernelMidGradIdeal.main_arg4) = m ((c.tc : Thread Cert.KernelMidGradIdeal.nD Cert.KernelMidGradIdeal.τ).loc Cert.KernelMidGradIdeal.main_arg4)
          ∧ r.2.mem ((c.tc : Thread Cert.KernelMidGradIdeal.nD Cert.KernelMidGradIdeal.τ).loc Cert.KernelMidGradIdeal.main_arg5) = m ((c.tc : Thread Cert.KernelMidGradIdeal.nD Cert.KernelMidGradIdeal.τ).loc Cert.KernelMidGradIdeal.main_arg5))
      ∧ θ_run (Cert.ReferenceMidGradIdeal.defs (F := Ideal)) (onTc (τ := Cert.ReferenceMidGradIdeal.τ) (Cert.ReferenceMidGradIdeal.main (F := Ideal))) ⟨m', fun _ => 0, g'⟩ (fun r => ∀ c : Dev Cert.ReferenceMidGradIdeal.nD,
          r.2.mem ((c.tc : Thread Cert.ReferenceMidGradIdeal.nD Cert.ReferenceMidGradIdeal.τ).loc Cert.ReferenceMidGradIdeal.main_v50) = v0 c
          ∧ r.2.mem ((c.tc : Thread Cert.ReferenceMidGradIdeal.nD Cert.ReferenceMidGradIdeal.τ).loc Cert.ReferenceMidGradIdeal.main_v71) = v1 c
          ∧ r.2.mem ((c.tc : Thread Cert.ReferenceMidGradIdeal.nD Cert.ReferenceMidGradIdeal.τ).loc Cert.ReferenceMidGradIdeal.main_v54) = v2 c
          ∧ r.2.mem ((c.tc : Thread Cert.ReferenceMidGradIdeal.nD Cert.ReferenceMidGradIdeal.τ).loc Cert.ReferenceMidGradIdeal.main_v33) = v3 c
          ∧ r.2.mem ((c.tc : Thread Cert.ReferenceMidGradIdeal.nD Cert.ReferenceMidGradIdeal.τ).loc Cert.ReferenceMidGradIdeal.main_arg0) = m' ((c.tc : Thread Cert.ReferenceMidGradIdeal.nD Cert.ReferenceMidGradIdeal.τ).loc Cert.ReferenceMidGradIdeal.main_arg0)
          ∧ r.2.mem ((c.tc : Thread Cert.ReferenceMidGradIdeal.nD Cert.ReferenceMidGradIdeal.τ).loc Cert.ReferenceMidGradIdeal.main_arg1) = m' ((c.tc : Thread Cert.ReferenceMidGradIdeal.nD Cert.ReferenceMidGradIdeal.τ).loc Cert.ReferenceMidGradIdeal.main_arg1)
          ∧ r.2.mem ((c.tc : Thread Cert.ReferenceMidGradIdeal.nD Cert.ReferenceMidGradIdeal.τ).loc Cert.ReferenceMidGradIdeal.main_arg2) = m' ((c.tc : Thread Cert.ReferenceMidGradIdeal.nD Cert.ReferenceMidGradIdeal.τ).loc Cert.ReferenceMidGradIdeal.main_arg2)
          ∧ r.2.mem ((c.tc : Thread Cert.ReferenceMidGradIdeal.nD Cert.ReferenceMidGradIdeal.τ).loc Cert.ReferenceMidGradIdeal.main_arg3) = m' ((c.tc : Thread Cert.ReferenceMidGradIdeal.nD Cert.ReferenceMidGradIdeal.τ).loc Cert.ReferenceMidGradIdeal.main_arg3)
          ∧ r.2.mem ((c.tc : Thread Cert.ReferenceMidGradIdeal.nD Cert.ReferenceMidGradIdeal.τ).loc Cert.ReferenceMidGradIdeal.main_arg4) = m' ((c.tc : Thread Cert.ReferenceMidGradIdeal.nD Cert.ReferenceMidGradIdeal.τ).loc Cert.ReferenceMidGradIdeal.main_arg4)
          ∧ r.2.mem ((c.tc : Thread Cert.ReferenceMidGradIdeal.nD Cert.ReferenceMidGradIdeal.τ).loc Cert.ReferenceMidGradIdeal.main_arg5) = m' ((c.tc : Thread Cert.ReferenceMidGradIdeal.nD Cert.ReferenceMidGradIdeal.τ).loc Cert.ReferenceMidGradIdeal.main_arg5))

def preserves_KernelFfnGrad_KernelFfnGradIdeal : Prop :=
  True

def algebraic_KernelFfnGradIdeal_ReferenceFfnGradIdeal [hKernelFfnGradIdeal : Cert.KernelFfnGradIdeal.Facts] [hReferenceFfnGradIdeal : Cert.ReferenceFfnGradIdeal.Facts] : Prop :=
  ∀ (m : (ℓ : Loc Cert.KernelFfnGradIdeal.nD Cert.KernelFfnGradIdeal.τ Cert.KernelFfnGradIdeal.sig) → Buf (Elt Ideal) ℓ) (g : Dev Cert.KernelFfnGradIdeal.nD → PrngReg)
    (m' : (ℓ : Loc Cert.ReferenceFfnGradIdeal.nD Cert.ReferenceFfnGradIdeal.τ Cert.ReferenceFfnGradIdeal.sig) → Buf (Elt Ideal) ℓ) (g' : Dev Cert.ReferenceFfnGradIdeal.nD → PrngReg), Pre_KernelFfnGradIdeal m →
    (∀ c : Dev Cert.KernelFfnGradIdeal.nD,
      m' ((c.tc : Thread Cert.ReferenceFfnGradIdeal.nD Cert.ReferenceFfnGradIdeal.τ).loc Cert.ReferenceFfnGradIdeal.main_arg0) = m ((c.tc : Thread Cert.KernelFfnGradIdeal.nD Cert.KernelFfnGradIdeal.τ).loc Cert.KernelFfnGradIdeal.main_arg0)
      ∧ m' ((c.tc : Thread Cert.ReferenceFfnGradIdeal.nD Cert.ReferenceFfnGradIdeal.τ).loc Cert.ReferenceFfnGradIdeal.main_arg1) = m ((c.tc : Thread Cert.KernelFfnGradIdeal.nD Cert.KernelFfnGradIdeal.τ).loc Cert.KernelFfnGradIdeal.main_arg1)
      ∧ m' ((c.tc : Thread Cert.ReferenceFfnGradIdeal.nD Cert.ReferenceFfnGradIdeal.τ).loc Cert.ReferenceFfnGradIdeal.main_arg2) = m ((c.tc : Thread Cert.KernelFfnGradIdeal.nD Cert.KernelFfnGradIdeal.τ).loc Cert.KernelFfnGradIdeal.main_arg2)) →
    ∃ (v0 : (c : Dev Cert.KernelFfnGradIdeal.nD) → Buf (Elt Ideal) ((c.tc : Thread Cert.KernelFfnGradIdeal.nD Cert.KernelFfnGradIdeal.τ).loc Cert.KernelFfnGradIdeal.main_v0_0)) (v1 : (c : Dev Cert.KernelFfnGradIdeal.nD) → Buf (Elt Ideal) ((c.tc : Thread Cert.KernelFfnGradIdeal.nD Cert.KernelFfnGradIdeal.τ).loc Cert.KernelFfnGradIdeal.main_v0_1)),
      θ_run (Cert.KernelFfnGradIdeal.defs (F := Ideal)) (onTc (τ := Cert.KernelFfnGradIdeal.τ) (Cert.KernelFfnGradIdeal.main (F := Ideal))) ⟨m, fun _ => 0, g⟩ (fun r => ∀ c : Dev Cert.KernelFfnGradIdeal.nD,
          r.2.mem ((c.tc : Thread Cert.KernelFfnGradIdeal.nD Cert.KernelFfnGradIdeal.τ).loc Cert.KernelFfnGradIdeal.main_v0_0) = v0 c
          ∧ r.2.mem ((c.tc : Thread Cert.KernelFfnGradIdeal.nD Cert.KernelFfnGradIdeal.τ).loc Cert.KernelFfnGradIdeal.main_v0_1) = v1 c
          ∧ r.2.mem ((c.tc : Thread Cert.KernelFfnGradIdeal.nD Cert.KernelFfnGradIdeal.τ).loc Cert.KernelFfnGradIdeal.main_arg0) = m ((c.tc : Thread Cert.KernelFfnGradIdeal.nD Cert.KernelFfnGradIdeal.τ).loc Cert.KernelFfnGradIdeal.main_arg0)
          ∧ r.2.mem ((c.tc : Thread Cert.KernelFfnGradIdeal.nD Cert.KernelFfnGradIdeal.τ).loc Cert.KernelFfnGradIdeal.main_arg1) = m ((c.tc : Thread Cert.KernelFfnGradIdeal.nD Cert.KernelFfnGradIdeal.τ).loc Cert.KernelFfnGradIdeal.main_arg1)
          ∧ r.2.mem ((c.tc : Thread Cert.KernelFfnGradIdeal.nD Cert.KernelFfnGradIdeal.τ).loc Cert.KernelFfnGradIdeal.main_arg2) = m ((c.tc : Thread Cert.KernelFfnGradIdeal.nD Cert.KernelFfnGradIdeal.τ).loc Cert.KernelFfnGradIdeal.main_arg2))
      ∧ θ_run (Cert.ReferenceFfnGradIdeal.defs (F := Ideal)) (onTc (τ := Cert.ReferenceFfnGradIdeal.τ) (Cert.ReferenceFfnGradIdeal.main (F := Ideal))) ⟨m', fun _ => 0, g'⟩ (fun r => ∀ c : Dev Cert.ReferenceFfnGradIdeal.nD,
          r.2.mem ((c.tc : Thread Cert.ReferenceFfnGradIdeal.nD Cert.ReferenceFfnGradIdeal.τ).loc Cert.ReferenceFfnGradIdeal.main_v34) = v0 c
          ∧ r.2.mem ((c.tc : Thread Cert.ReferenceFfnGradIdeal.nD Cert.ReferenceFfnGradIdeal.τ).loc Cert.ReferenceFfnGradIdeal.main_v17) = v1 c
          ∧ r.2.mem ((c.tc : Thread Cert.ReferenceFfnGradIdeal.nD Cert.ReferenceFfnGradIdeal.τ).loc Cert.ReferenceFfnGradIdeal.main_arg0) = m' ((c.tc : Thread Cert.ReferenceFfnGradIdeal.nD Cert.ReferenceFfnGradIdeal.τ).loc Cert.ReferenceFfnGradIdeal.main_arg0)
          ∧ r.2.mem ((c.tc : Thread Cert.ReferenceFfnGradIdeal.nD Cert.ReferenceFfnGradIdeal.τ).loc Cert.ReferenceFfnGradIdeal.main_arg1) = m' ((c.tc : Thread Cert.ReferenceFfnGradIdeal.nD Cert.ReferenceFfnGradIdeal.τ).loc Cert.ReferenceFfnGradIdeal.main_arg1)
          ∧ r.2.mem ((c.tc : Thread Cert.ReferenceFfnGradIdeal.nD Cert.ReferenceFfnGradIdeal.τ).loc Cert.ReferenceFfnGradIdeal.main_arg2) = m' ((c.tc : Thread Cert.ReferenceFfnGradIdeal.nD Cert.ReferenceFfnGradIdeal.τ).loc Cert.ReferenceFfnGradIdeal.main_arg2))

def preserves_KernelPre_KernelPreIdeal : Prop :=
  True

def algebraic_KernelPreIdeal_ReferencePreIdeal [hKernelPreIdeal : Cert.KernelPreIdeal.Facts] [hReferencePreIdeal : Cert.ReferencePreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg)
    (m' : (ℓ : Loc Cert.ReferencePreIdeal.nD Cert.ReferencePreIdeal.τ Cert.ReferencePreIdeal.sig) → Buf (Elt Ideal) ℓ) (g' : Dev Cert.ReferencePreIdeal.nD → PrngReg), Pre_KernelPreIdeal m →
    (∀ c : Dev Cert.KernelPreIdeal.nD,
      m' ((c.tc : Thread Cert.ReferencePreIdeal.nD Cert.ReferencePreIdeal.τ).loc Cert.ReferencePreIdeal.main_arg0) = m ((c.tc : Thread Cert.KernelPreIdeal.nD Cert.KernelPreIdeal.τ).loc Cert.KernelPreIdeal.main_arg0)
      ∧ m' ((c.tc : Thread Cert.ReferencePreIdeal.nD Cert.ReferencePreIdeal.τ).loc Cert.ReferencePreIdeal.main_arg1) = m ((c.tc : Thread Cert.KernelPreIdeal.nD Cert.KernelPreIdeal.τ).loc Cert.KernelPreIdeal.main_arg1)) →
    ∃ (v0 : (c : Dev Cert.KernelPreIdeal.nD) → Buf (Elt Ideal) ((c.tc : Thread Cert.KernelPreIdeal.nD Cert.KernelPreIdeal.τ).loc Cert.KernelPreIdeal.main_v0)),
      θ_run (Cert.KernelPreIdeal.defs (F := Ideal)) (onTc (τ := Cert.KernelPreIdeal.τ) (Cert.KernelPreIdeal.main (F := Ideal))) ⟨m, fun _ => 0, g⟩ (fun r => ∀ c : Dev Cert.KernelPreIdeal.nD,
          r.2.mem ((c.tc : Thread Cert.KernelPreIdeal.nD Cert.KernelPreIdeal.τ).loc Cert.KernelPreIdeal.main_v0) = v0 c
          ∧ r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
          ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1))
      ∧ θ_run (Cert.ReferencePreIdeal.defs (F := Ideal)) (onTc (τ := Cert.ReferencePreIdeal.τ) (Cert.ReferencePreIdeal.main (F := Ideal))) ⟨m', fun _ => 0, g'⟩ (fun r => ∀ c : Dev Cert.ReferencePreIdeal.nD,
          r.2.mem ((c.tc : Thread Cert.ReferencePreIdeal.nD Cert.ReferencePreIdeal.τ).loc Cert.ReferencePreIdeal.main_v12) = v0 c
          ∧ r.2.mem ((c.tc : Thread Cert.ReferencePreIdeal.nD Cert.ReferencePreIdeal.τ).loc Cert.ReferencePreIdeal.main_arg0) = m' ((c.tc : Thread Cert.ReferencePreIdeal.nD Cert.ReferencePreIdeal.τ).loc Cert.ReferencePreIdeal.main_arg0)
          ∧ r.2.mem ((c.tc : Thread Cert.ReferencePreIdeal.nD Cert.ReferencePreIdeal.τ).loc Cert.ReferencePreIdeal.main_arg1) = m' ((c.tc : Thread Cert.ReferencePreIdeal.nD Cert.ReferencePreIdeal.τ).loc Cert.ReferencePreIdeal.main_arg1))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)) →
    ∃ (v0 : (c : Dev Cert.KernelMergeIdeal.nD) → Buf (Elt Ideal) ((c.tc : Thread Cert.KernelMergeIdeal.nD Cert.KernelMergeIdeal.τ).loc Cert.KernelMergeIdeal.main_v0)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v0) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v13) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)) →
    ∃ (v0 : (c : Dev Cert.KernelFfnIdeal.nD) → Buf (Elt Ideal) ((c.tc : Thread Cert.KernelFfnIdeal.nD Cert.KernelFfnIdeal.τ).loc Cert.KernelFfnIdeal.main_v0_0)) (v1 : (c : Dev Cert.KernelFfnIdeal.nD) → Buf (Elt Ideal) ((c.tc : Thread Cert.KernelFfnIdeal.nD Cert.KernelFfnIdeal.τ).loc Cert.KernelFfnIdeal.main_v0_1)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v0_0) = v0 c
          ∧ r.2.mem ((c.tc : Thread Cert.KernelFfnIdeal.nD Cert.KernelFfnIdeal.τ).loc Cert.KernelFfnIdeal.main_v0_1) = v1 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v12) = v0 c
          ∧ r.2.mem ((c.tc : Thread Cert.ReferenceFfnIdeal.nD Cert.ReferenceFfnIdeal.τ).loc Cert.ReferenceFfnIdeal.main_v13) = v1 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2))

def preserves_KernelMid_KernelMidIdeal : Prop :=
  True

def algebraic_KernelMidIdeal_ReferenceMidIdeal [hKernelMidIdeal : Cert.KernelMidIdeal.Facts] [hReferenceMidIdeal : Cert.ReferenceMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg)
    (m' : (ℓ : Loc Cert.ReferenceMidIdeal.nD Cert.ReferenceMidIdeal.τ Cert.ReferenceMidIdeal.sig) → Buf (Elt Ideal) ℓ) (g' : Dev Cert.ReferenceMidIdeal.nD → PrngReg), Pre_KernelMidIdeal m →
    (∀ c : Dev Cert.KernelMidIdeal.nD,
      m' ((c.tc : Thread Cert.ReferenceMidIdeal.nD Cert.ReferenceMidIdeal.τ).loc Cert.ReferenceMidIdeal.main_arg0) = m ((c.tc : Thread Cert.KernelMidIdeal.nD Cert.KernelMidIdeal.τ).loc Cert.KernelMidIdeal.main_arg0)
      ∧ m' ((c.tc : Thread Cert.ReferenceMidIdeal.nD Cert.ReferenceMidIdeal.τ).loc Cert.ReferenceMidIdeal.main_arg1) = m ((c.tc : Thread Cert.KernelMidIdeal.nD Cert.KernelMidIdeal.τ).loc Cert.KernelMidIdeal.main_arg1)
      ∧ m' ((c.tc : Thread Cert.ReferenceMidIdeal.nD Cert.ReferenceMidIdeal.τ).loc Cert.ReferenceMidIdeal.main_arg2) = m ((c.tc : Thread Cert.KernelMidIdeal.nD Cert.KernelMidIdeal.τ).loc Cert.KernelMidIdeal.main_arg2)
      ∧ m' ((c.tc : Thread Cert.ReferenceMidIdeal.nD Cert.ReferenceMidIdeal.τ).loc Cert.ReferenceMidIdeal.main_arg3) = m ((c.tc : Thread Cert.KernelMidIdeal.nD Cert.KernelMidIdeal.τ).loc Cert.KernelMidIdeal.main_arg3)) →
    ∃ (v0 : (c : Dev Cert.KernelMidIdeal.nD) → Buf (Elt Ideal) ((c.tc : Thread Cert.KernelMidIdeal.nD Cert.KernelMidIdeal.τ).loc Cert.KernelMidIdeal.main_v0_0)) (v1 : (c : Dev Cert.KernelMidIdeal.nD) → Buf (Elt Ideal) ((c.tc : Thread Cert.KernelMidIdeal.nD Cert.KernelMidIdeal.τ).loc Cert.KernelMidIdeal.main_v0_1)),
      θ_run (Cert.KernelMidIdeal.defs (F := Ideal)) (onTc (τ := Cert.KernelMidIdeal.τ) (Cert.KernelMidIdeal.main (F := Ideal))) ⟨m, fun _ => 0, g⟩ (fun r => ∀ c : Dev Cert.KernelMidIdeal.nD,
          r.2.mem ((c.tc : Thread Cert.KernelMidIdeal.nD Cert.KernelMidIdeal.τ).loc Cert.KernelMidIdeal.main_v0_0) = v0 c
          ∧ r.2.mem ((c.tc : Thread Cert.KernelMidIdeal.nD Cert.KernelMidIdeal.τ).loc Cert.KernelMidIdeal.main_v0_1) = v1 c
          ∧ r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
          ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
          ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
          ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3))
      ∧ θ_run (Cert.ReferenceMidIdeal.defs (F := Ideal)) (onTc (τ := Cert.ReferenceMidIdeal.τ) (Cert.ReferenceMidIdeal.main (F := Ideal))) ⟨m', fun _ => 0, g'⟩ (fun r => ∀ c : Dev Cert.ReferenceMidIdeal.nD,
          r.2.mem ((c.tc : Thread Cert.ReferenceMidIdeal.nD Cert.ReferenceMidIdeal.τ).loc Cert.ReferenceMidIdeal.main_v12) = v0 c
          ∧ r.2.mem ((c.tc : Thread Cert.ReferenceMidIdeal.nD Cert.ReferenceMidIdeal.τ).loc Cert.ReferenceMidIdeal.main_v25) = v1 c
          ∧ r.2.mem ((c.tc : Thread Cert.ReferenceMidIdeal.nD Cert.ReferenceMidIdeal.τ).loc Cert.ReferenceMidIdeal.main_arg0) = m' ((c.tc : Thread Cert.ReferenceMidIdeal.nD Cert.ReferenceMidIdeal.τ).loc Cert.ReferenceMidIdeal.main_arg0)
          ∧ r.2.mem ((c.tc : Thread Cert.ReferenceMidIdeal.nD Cert.ReferenceMidIdeal.τ).loc Cert.ReferenceMidIdeal.main_arg1) = m' ((c.tc : Thread Cert.ReferenceMidIdeal.nD Cert.ReferenceMidIdeal.τ).loc Cert.ReferenceMidIdeal.main_arg1)
          ∧ r.2.mem ((c.tc : Thread Cert.ReferenceMidIdeal.nD Cert.ReferenceMidIdeal.τ).loc Cert.ReferenceMidIdeal.main_arg2) = m' ((c.tc : Thread Cert.ReferenceMidIdeal.nD Cert.ReferenceMidIdeal.τ).loc Cert.ReferenceMidIdeal.main_arg2)
          ∧ r.2.mem ((c.tc : Thread Cert.ReferenceMidIdeal.nD Cert.ReferenceMidIdeal.τ).loc Cert.ReferenceMidIdeal.main_arg3) = m' ((c.tc : Thread Cert.ReferenceMidIdeal.nD Cert.ReferenceMidIdeal.τ).loc Cert.ReferenceMidIdeal.main_arg3))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)
      ∧ m' ((c.tc : Thread Cert.ReferenceLossIdeal.nD Cert.ReferenceLossIdeal.τ).loc Cert.ReferenceLossIdeal.main_arg4) = m ((c.tc : Thread Cert.KernelLossIdeal.nD Cert.KernelLossIdeal.τ).loc Cert.KernelLossIdeal.main_arg4)) →
    ∃ (v0 : (c : Dev Cert.KernelLossIdeal.nD) → Buf (Elt Ideal) ((c.tc : Thread Cert.KernelLossIdeal.nD Cert.KernelLossIdeal.τ).loc Cert.KernelLossIdeal.main_v1)) (v1 : (c : Dev Cert.KernelLossIdeal.nD) → Buf (Elt Ideal) ((c.tc : Thread Cert.KernelLossIdeal.nD Cert.KernelLossIdeal.τ).loc Cert.KernelLossIdeal.main_v0_0)) (v2 : (c : Dev Cert.KernelLossIdeal.nD) → Buf (Elt Ideal) ((c.tc : Thread Cert.KernelLossIdeal.nD Cert.KernelLossIdeal.τ).loc Cert.KernelLossIdeal.main_v0_1)) (v3 : (c : Dev Cert.KernelLossIdeal.nD) → Buf (Elt Ideal) ((c.tc : Thread Cert.KernelLossIdeal.nD Cert.KernelLossIdeal.τ).loc Cert.KernelLossIdeal.main_v0_2)) (v4 : (c : Dev Cert.KernelLossIdeal.nD) → Buf (Elt Ideal) ((c.tc : Thread Cert.KernelLossIdeal.nD Cert.KernelLossIdeal.τ).loc Cert.KernelLossIdeal.main_v0_3)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v1) = v0 c
          ∧ r.2.mem ((c.tc : Thread Cert.KernelLossIdeal.nD Cert.KernelLossIdeal.τ).loc Cert.KernelLossIdeal.main_v0_0) = v1 c
          ∧ r.2.mem ((c.tc : Thread Cert.KernelLossIdeal.nD Cert.KernelLossIdeal.τ).loc Cert.KernelLossIdeal.main_v0_1) = v2 c
          ∧ r.2.mem ((c.tc : Thread Cert.KernelLossIdeal.nD Cert.KernelLossIdeal.τ).loc Cert.KernelLossIdeal.main_v0_2) = v3 c
          ∧ r.2.mem ((c.tc : Thread Cert.KernelLossIdeal.nD Cert.KernelLossIdeal.τ).loc Cert.KernelLossIdeal.main_v0_3) = v4 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
          ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v34) = v0 c
          ∧ r.2.mem ((c.tc : Thread Cert.ReferenceLossIdeal.nD Cert.ReferenceLossIdeal.τ).loc Cert.ReferenceLossIdeal.main_v40) = v1 c
          ∧ r.2.mem ((c.tc : Thread Cert.ReferenceLossIdeal.nD Cert.ReferenceLossIdeal.τ).loc Cert.ReferenceLossIdeal.main_v63) = v2 c
          ∧ r.2.mem ((c.tc : Thread Cert.ReferenceLossIdeal.nD Cert.ReferenceLossIdeal.τ).loc Cert.ReferenceLossIdeal.main_v64) = v3 c
          ∧ r.2.mem ((c.tc : Thread Cert.ReferenceLossIdeal.nD Cert.ReferenceLossIdeal.τ).loc Cert.ReferenceLossIdeal.main_v43) = v4 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4) = m' ((c.tc : Thread Cert.ReferenceLossIdeal.nD Cert.ReferenceLossIdeal.τ).loc Cert.ReferenceLossIdeal.main_arg4))

def preserves_KernelScanNorm_KernelScanNormIdeal : Prop :=
  True

def algebraic_KernelScanNormIdeal_ReferenceScanNormIdeal [hKernelScanNormIdeal : Cert.KernelScanNormIdeal.Facts] [hReferenceScanNormIdeal : Cert.ReferenceScanNormIdeal.Facts] : Prop :=
  ∀ (m : (ℓ : Loc Cert.KernelScanNormIdeal.nD Cert.KernelScanNormIdeal.τ Cert.KernelScanNormIdeal.sig) → Buf (Elt Ideal) ℓ) (g : Dev Cert.KernelScanNormIdeal.nD → PrngReg)
    (m' : (ℓ : Loc Cert.ReferenceScanNormIdeal.nD Cert.ReferenceScanNormIdeal.τ Cert.ReferenceScanNormIdeal.sig) → Buf (Elt Ideal) ℓ) (g' : Dev Cert.ReferenceScanNormIdeal.nD → PrngReg), Pre_KernelScanNormIdeal m →
    (∀ c : Dev Cert.KernelScanNormIdeal.nD,
      m' ((c.tc : Thread Cert.ReferenceScanNormIdeal.nD Cert.ReferenceScanNormIdeal.τ).loc Cert.ReferenceScanNormIdeal.main_arg0) = m ((c.tc : Thread Cert.KernelScanNormIdeal.nD Cert.KernelScanNormIdeal.τ).loc Cert.KernelScanNormIdeal.main_arg0)
      ∧ m' ((c.tc : Thread Cert.ReferenceScanNormIdeal.nD Cert.ReferenceScanNormIdeal.τ).loc Cert.ReferenceScanNormIdeal.main_arg1) = m ((c.tc : Thread Cert.KernelScanNormIdeal.nD Cert.KernelScanNormIdeal.τ).loc Cert.KernelScanNormIdeal.main_arg1)
      ∧ m' ((c.tc : Thread Cert.ReferenceScanNormIdeal.nD Cert.ReferenceScanNormIdeal.τ).loc Cert.ReferenceScanNormIdeal.main_arg2) = m ((c.tc : Thread Cert.KernelScanNormIdeal.nD Cert.KernelScanNormIdeal.τ).loc Cert.KernelScanNormIdeal.main_arg2)
      ∧ m' ((c.tc : Thread Cert.ReferenceScanNormIdeal.nD Cert.ReferenceScanNormIdeal.τ).loc Cert.ReferenceScanNormIdeal.main_arg3) = m ((c.tc : Thread Cert.KernelScanNormIdeal.nD Cert.KernelScanNormIdeal.τ).loc Cert.KernelScanNormIdeal.main_arg3)
      ∧ m' ((c.tc : Thread Cert.ReferenceScanNormIdeal.nD Cert.ReferenceScanNormIdeal.τ).loc Cert.ReferenceScanNormIdeal.main_arg4) = m ((c.tc : Thread Cert.KernelScanNormIdeal.nD Cert.KernelScanNormIdeal.τ).loc Cert.KernelScanNormIdeal.main_arg4)) →
    ∃ (v0 : (c : Dev Cert.KernelScanNormIdeal.nD) → Buf (Elt Ideal) ((c.tc : Thread Cert.KernelScanNormIdeal.nD Cert.KernelScanNormIdeal.τ).loc Cert.KernelScanNormIdeal.main_v2)),
      θ_run (Cert.KernelScanNormIdeal.defs (F := Ideal)) (onTc (τ := Cert.KernelScanNormIdeal.τ) (Cert.KernelScanNormIdeal.main (F := Ideal))) ⟨m, fun _ => 0, g⟩ (fun r => ∀ c : Dev Cert.KernelScanNormIdeal.nD,
          r.2.mem ((c.tc : Thread Cert.KernelScanNormIdeal.nD Cert.KernelScanNormIdeal.τ).loc Cert.KernelScanNormIdeal.main_v2) = v0 c
          ∧ r.2.mem ((c.tc : Thread Cert.KernelScanNormIdeal.nD Cert.KernelScanNormIdeal.τ).loc Cert.KernelScanNormIdeal.main_arg0) = m ((c.tc : Thread Cert.KernelScanNormIdeal.nD Cert.KernelScanNormIdeal.τ).loc Cert.KernelScanNormIdeal.main_arg0)
          ∧ r.2.mem ((c.tc : Thread Cert.KernelScanNormIdeal.nD Cert.KernelScanNormIdeal.τ).loc Cert.KernelScanNormIdeal.main_arg1) = m ((c.tc : Thread Cert.KernelScanNormIdeal.nD Cert.KernelScanNormIdeal.τ).loc Cert.KernelScanNormIdeal.main_arg1)
          ∧ r.2.mem ((c.tc : Thread Cert.KernelScanNormIdeal.nD Cert.KernelScanNormIdeal.τ).loc Cert.KernelScanNormIdeal.main_arg2) = m ((c.tc : Thread Cert.KernelScanNormIdeal.nD Cert.KernelScanNormIdeal.τ).loc Cert.KernelScanNormIdeal.main_arg2)
          ∧ r.2.mem ((c.tc : Thread Cert.KernelScanNormIdeal.nD Cert.KernelScanNormIdeal.τ).loc Cert.KernelScanNormIdeal.main_arg3) = m ((c.tc : Thread Cert.KernelScanNormIdeal.nD Cert.KernelScanNormIdeal.τ).loc Cert.KernelScanNormIdeal.main_arg3)
          ∧ r.2.mem ((c.tc : Thread Cert.KernelScanNormIdeal.nD Cert.KernelScanNormIdeal.τ).loc Cert.KernelScanNormIdeal.main_arg4) = m ((c.tc : Thread Cert.KernelScanNormIdeal.nD Cert.KernelScanNormIdeal.τ).loc Cert.KernelScanNormIdeal.main_arg4))
      ∧ θ_run (Cert.ReferenceScanNormIdeal.defs (F := Ideal)) (onTc (τ := Cert.ReferenceScanNormIdeal.τ) (Cert.ReferenceScanNormIdeal.main (F := Ideal))) ⟨m', fun _ => 0, g'⟩ (fun r => ∀ c : Dev Cert.ReferenceScanNormIdeal.nD,
          r.2.mem ((c.tc : Thread Cert.ReferenceScanNormIdeal.nD Cert.ReferenceScanNormIdeal.τ).loc Cert.ReferenceScanNormIdeal.main_v29) = v0 c
          ∧ r.2.mem ((c.tc : Thread Cert.ReferenceScanNormIdeal.nD Cert.ReferenceScanNormIdeal.τ).loc Cert.ReferenceScanNormIdeal.main_arg0) = m' ((c.tc : Thread Cert.ReferenceScanNormIdeal.nD Cert.ReferenceScanNormIdeal.τ).loc Cert.ReferenceScanNormIdeal.main_arg0)
          ∧ r.2.mem ((c.tc : Thread Cert.ReferenceScanNormIdeal.nD Cert.ReferenceScanNormIdeal.τ).loc Cert.ReferenceScanNormIdeal.main_arg1) = m' ((c.tc : Thread Cert.ReferenceScanNormIdeal.nD Cert.ReferenceScanNormIdeal.τ).loc Cert.ReferenceScanNormIdeal.main_arg1)
          ∧ r.2.mem ((c.tc : Thread Cert.ReferenceScanNormIdeal.nD Cert.ReferenceScanNormIdeal.τ).loc Cert.ReferenceScanNormIdeal.main_arg2) = m' ((c.tc : Thread Cert.ReferenceScanNormIdeal.nD Cert.ReferenceScanNormIdeal.τ).loc Cert.ReferenceScanNormIdeal.main_arg2)
          ∧ r.2.mem ((c.tc : Thread Cert.ReferenceScanNormIdeal.nD Cert.ReferenceScanNormIdeal.τ).loc Cert.ReferenceScanNormIdeal.main_arg3) = m' ((c.tc : Thread Cert.ReferenceScanNormIdeal.nD Cert.ReferenceScanNormIdeal.τ).loc Cert.ReferenceScanNormIdeal.main_arg3)
          ∧ r.2.mem ((c.tc : Thread Cert.ReferenceScanNormIdeal.nD Cert.ReferenceScanNormIdeal.τ).loc Cert.ReferenceScanNormIdeal.main_arg4) = m' ((c.tc : Thread Cert.ReferenceScanNormIdeal.nD Cert.ReferenceScanNormIdeal.τ).loc Cert.ReferenceScanNormIdeal.main_arg4))

def preserves_KernelConvFwd_KernelConvFwdIdeal : Prop :=
  True

def algebraic_KernelConvFwdIdeal_ReferenceConvFwdIdeal [hKernelConvFwdIdeal : Cert.KernelConvFwdIdeal.Facts] [hReferenceConvFwdIdeal : Cert.ReferenceConvFwdIdeal.Facts] : Prop :=
  ∀ (m : (ℓ : Loc Cert.KernelConvFwdIdeal.nD Cert.KernelConvFwdIdeal.τ Cert.KernelConvFwdIdeal.sig) → Buf (Elt Ideal) ℓ) (g : Dev Cert.KernelConvFwdIdeal.nD → PrngReg)
    (m' : (ℓ : Loc Cert.ReferenceConvFwdIdeal.nD Cert.ReferenceConvFwdIdeal.τ Cert.ReferenceConvFwdIdeal.sig) → Buf (Elt Ideal) ℓ) (g' : Dev Cert.ReferenceConvFwdIdeal.nD → PrngReg), Pre_KernelConvFwdIdeal m →
    (∀ c : Dev Cert.KernelConvFwdIdeal.nD,
      m' ((c.tc : Thread Cert.ReferenceConvFwdIdeal.nD Cert.ReferenceConvFwdIdeal.τ).loc Cert.ReferenceConvFwdIdeal.main_arg0) = m ((c.tc : Thread Cert.KernelConvFwdIdeal.nD Cert.KernelConvFwdIdeal.τ).loc Cert.KernelConvFwdIdeal.main_arg0)
      ∧ m' ((c.tc : Thread Cert.ReferenceConvFwdIdeal.nD Cert.ReferenceConvFwdIdeal.τ).loc Cert.ReferenceConvFwdIdeal.main_arg1) = m ((c.tc : Thread Cert.KernelConvFwdIdeal.nD Cert.KernelConvFwdIdeal.τ).loc Cert.KernelConvFwdIdeal.main_arg1)
      ∧ m' ((c.tc : Thread Cert.ReferenceConvFwdIdeal.nD Cert.ReferenceConvFwdIdeal.τ).loc Cert.ReferenceConvFwdIdeal.main_arg2) = m ((c.tc : Thread Cert.KernelConvFwdIdeal.nD Cert.KernelConvFwdIdeal.τ).loc Cert.KernelConvFwdIdeal.main_arg2)) →
    ∃ (v0 : (c : Dev Cert.KernelConvFwdIdeal.nD) → Buf (Elt Ideal) ((c.tc : Thread Cert.KernelConvFwdIdeal.nD Cert.KernelConvFwdIdeal.τ).loc Cert.KernelConvFwdIdeal.main_v0)),
      θ_run (Cert.KernelConvFwdIdeal.defs (F := Ideal)) (onTc (τ := Cert.KernelConvFwdIdeal.τ) (Cert.KernelConvFwdIdeal.main (F := Ideal))) ⟨m, fun _ => 0, g⟩ (fun r => ∀ c : Dev Cert.KernelConvFwdIdeal.nD,
          r.2.mem ((c.tc : Thread Cert.KernelConvFwdIdeal.nD Cert.KernelConvFwdIdeal.τ).loc Cert.KernelConvFwdIdeal.main_v0) = v0 c
          ∧ r.2.mem ((c.tc : Thread Cert.KernelConvFwdIdeal.nD Cert.KernelConvFwdIdeal.τ).loc Cert.KernelConvFwdIdeal.main_arg0) = m ((c.tc : Thread Cert.KernelConvFwdIdeal.nD Cert.KernelConvFwdIdeal.τ).loc Cert.KernelConvFwdIdeal.main_arg0)
          ∧ r.2.mem ((c.tc : Thread Cert.KernelConvFwdIdeal.nD Cert.KernelConvFwdIdeal.τ).loc Cert.KernelConvFwdIdeal.main_arg1) = m ((c.tc : Thread Cert.KernelConvFwdIdeal.nD Cert.KernelConvFwdIdeal.τ).loc Cert.KernelConvFwdIdeal.main_arg1)
          ∧ r.2.mem ((c.tc : Thread Cert.KernelConvFwdIdeal.nD Cert.KernelConvFwdIdeal.τ).loc Cert.KernelConvFwdIdeal.main_arg2) = m ((c.tc : Thread Cert.KernelConvFwdIdeal.nD Cert.KernelConvFwdIdeal.τ).loc Cert.KernelConvFwdIdeal.main_arg2))
      ∧ θ_run (Cert.ReferenceConvFwdIdeal.defs (F := Ideal)) (onTc (τ := Cert.ReferenceConvFwdIdeal.τ) (Cert.ReferenceConvFwdIdeal.main (F := Ideal))) ⟨m', fun _ => 0, g'⟩ (fun r => ∀ c : Dev Cert.ReferenceConvFwdIdeal.nD,
          r.2.mem ((c.tc : Thread Cert.ReferenceConvFwdIdeal.nD Cert.ReferenceConvFwdIdeal.τ).loc Cert.ReferenceConvFwdIdeal.main_v36) = v0 c
          ∧ r.2.mem ((c.tc : Thread Cert.ReferenceConvFwdIdeal.nD Cert.ReferenceConvFwdIdeal.τ).loc Cert.ReferenceConvFwdIdeal.main_arg0) = m' ((c.tc : Thread Cert.ReferenceConvFwdIdeal.nD Cert.ReferenceConvFwdIdeal.τ).loc Cert.ReferenceConvFwdIdeal.main_arg0)
          ∧ r.2.mem ((c.tc : Thread Cert.ReferenceConvFwdIdeal.nD Cert.ReferenceConvFwdIdeal.τ).loc Cert.ReferenceConvFwdIdeal.main_arg1) = m' ((c.tc : Thread Cert.ReferenceConvFwdIdeal.nD Cert.ReferenceConvFwdIdeal.τ).loc Cert.ReferenceConvFwdIdeal.main_arg1)
          ∧ r.2.mem ((c.tc : Thread Cert.ReferenceConvFwdIdeal.nD Cert.ReferenceConvFwdIdeal.τ).loc Cert.ReferenceConvFwdIdeal.main_arg2) = m' ((c.tc : Thread Cert.ReferenceConvFwdIdeal.nD Cert.ReferenceConvFwdIdeal.τ).loc Cert.ReferenceConvFwdIdeal.main_arg2))

def preserves_KernelAdam_KernelAdamIdeal : Prop :=
  True

def algebraic_KernelAdamIdeal_ReferenceAdamIdeal [hKernelAdamIdeal : Cert.KernelAdamIdeal.Facts] [hReferenceAdamIdeal : Cert.ReferenceAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg)
    (m' : (ℓ : Loc Cert.ReferenceAdamIdeal.nD Cert.ReferenceAdamIdeal.τ Cert.ReferenceAdamIdeal.sig) → Buf (Elt Ideal) ℓ) (g' : Dev Cert.ReferenceAdamIdeal.nD → PrngReg), Pre_KernelAdamIdeal m →
    (∀ c : Dev Cert.KernelAdamIdeal.nD,
      m' ((c.tc : Thread Cert.ReferenceAdamIdeal.nD Cert.ReferenceAdamIdeal.τ).loc Cert.ReferenceAdamIdeal.main_arg0) = m ((c.tc : Thread Cert.KernelAdamIdeal.nD Cert.KernelAdamIdeal.τ).loc Cert.KernelAdamIdeal.main_arg0)
      ∧ m' ((c.tc : Thread Cert.ReferenceAdamIdeal.nD Cert.ReferenceAdamIdeal.τ).loc Cert.ReferenceAdamIdeal.main_arg1) = m ((c.tc : Thread Cert.KernelAdamIdeal.nD Cert.KernelAdamIdeal.τ).loc Cert.KernelAdamIdeal.main_arg1)
      ∧ m' ((c.tc : Thread Cert.ReferenceAdamIdeal.nD Cert.ReferenceAdamIdeal.τ).loc Cert.ReferenceAdamIdeal.main_arg2) = m ((c.tc : Thread Cert.KernelAdamIdeal.nD Cert.KernelAdamIdeal.τ).loc Cert.KernelAdamIdeal.main_arg2)
      ∧ m' ((c.tc : Thread Cert.ReferenceAdamIdeal.nD Cert.ReferenceAdamIdeal.τ).loc Cert.ReferenceAdamIdeal.main_arg3) = m ((c.tc : Thread Cert.KernelAdamIdeal.nD Cert.KernelAdamIdeal.τ).loc Cert.KernelAdamIdeal.main_arg3)) →
    ∃ (v0 : (c : Dev Cert.KernelAdamIdeal.nD) → Buf (Elt Ideal) ((c.tc : Thread Cert.KernelAdamIdeal.nD Cert.KernelAdamIdeal.τ).loc Cert.KernelAdamIdeal.main_v0_0)) (v1 : (c : Dev Cert.KernelAdamIdeal.nD) → Buf (Elt Ideal) ((c.tc : Thread Cert.KernelAdamIdeal.nD Cert.KernelAdamIdeal.τ).loc Cert.KernelAdamIdeal.main_v0_1)) (v2 : (c : Dev Cert.KernelAdamIdeal.nD) → Buf (Elt Ideal) ((c.tc : Thread Cert.KernelAdamIdeal.nD Cert.KernelAdamIdeal.τ).loc Cert.KernelAdamIdeal.main_v0_2)) (v3 : (c : Dev Cert.KernelAdamIdeal.nD) → Buf (Elt Ideal) ((c.tc : Thread Cert.KernelAdamIdeal.nD Cert.KernelAdamIdeal.τ).loc Cert.KernelAdamIdeal.main_v0_3)),
      θ_run (Cert.KernelAdamIdeal.defs (F := Ideal)) (onTc (τ := Cert.KernelAdamIdeal.τ) (Cert.KernelAdamIdeal.main (F := Ideal))) ⟨m, fun _ => 0, g⟩ (fun r => ∀ c : Dev Cert.KernelAdamIdeal.nD,
          r.2.mem ((c.tc : Thread Cert.KernelAdamIdeal.nD Cert.KernelAdamIdeal.τ).loc Cert.KernelAdamIdeal.main_v0_0) = v0 c
          ∧ r.2.mem ((c.tc : Thread Cert.KernelAdamIdeal.nD Cert.KernelAdamIdeal.τ).loc Cert.KernelAdamIdeal.main_v0_1) = v1 c
          ∧ r.2.mem ((c.tc : Thread Cert.KernelAdamIdeal.nD Cert.KernelAdamIdeal.τ).loc Cert.KernelAdamIdeal.main_v0_2) = v2 c
          ∧ r.2.mem ((c.tc : Thread Cert.KernelAdamIdeal.nD Cert.KernelAdamIdeal.τ).loc Cert.KernelAdamIdeal.main_v0_3) = v3 c
          ∧ r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
          ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
          ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
          ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ θ_run (Cert.ReferenceAdamIdeal.defs (F := Ideal)) (onTc (τ := Cert.ReferenceAdamIdeal.τ) (Cert.ReferenceAdamIdeal.main (F := Ideal))) ⟨m', fun _ => 0, g'⟩ (fun r => ∀ c : Dev Cert.ReferenceAdamIdeal.nD,
          r.2.mem ((c.tc : Thread Cert.ReferenceAdamIdeal.nD Cert.ReferenceAdamIdeal.τ).loc Cert.ReferenceAdamIdeal.main_v1) = v0 c
          ∧ r.2.mem ((c.tc : Thread Cert.ReferenceAdamIdeal.nD Cert.ReferenceAdamIdeal.τ).loc Cert.ReferenceAdamIdeal.main_v25) = v1 c
          ∧ r.2.mem ((c.tc : Thread Cert.ReferenceAdamIdeal.nD Cert.ReferenceAdamIdeal.τ).loc Cert.ReferenceAdamIdeal.main_v6) = v2 c
          ∧ r.2.mem ((c.tc : Thread Cert.ReferenceAdamIdeal.nD Cert.ReferenceAdamIdeal.τ).loc Cert.ReferenceAdamIdeal.main_v12) = v3 c
          ∧ r.2.mem ((c.tc : Thread Cert.ReferenceAdamIdeal.nD Cert.ReferenceAdamIdeal.τ).loc Cert.ReferenceAdamIdeal.main_arg0) = m' ((c.tc : Thread Cert.ReferenceAdamIdeal.nD Cert.ReferenceAdamIdeal.τ).loc Cert.ReferenceAdamIdeal.main_arg0)
          ∧ r.2.mem ((c.tc : Thread Cert.ReferenceAdamIdeal.nD Cert.ReferenceAdamIdeal.τ).loc Cert.ReferenceAdamIdeal.main_arg1) = m' ((c.tc : Thread Cert.ReferenceAdamIdeal.nD Cert.ReferenceAdamIdeal.τ).loc Cert.ReferenceAdamIdeal.main_arg1)
          ∧ r.2.mem ((c.tc : Thread Cert.ReferenceAdamIdeal.nD Cert.ReferenceAdamIdeal.τ).loc Cert.ReferenceAdamIdeal.main_arg2) = m' ((c.tc : Thread Cert.ReferenceAdamIdeal.nD Cert.ReferenceAdamIdeal.τ).loc Cert.ReferenceAdamIdeal.main_arg2)
          ∧ r.2.mem ((c.tc : Thread Cert.ReferenceAdamIdeal.nD Cert.ReferenceAdamIdeal.τ).loc Cert.ReferenceAdamIdeal.main_arg3) = m' ((c.tc : Thread Cert.ReferenceAdamIdeal.nD Cert.ReferenceAdamIdeal.τ).loc Cert.ReferenceAdamIdeal.main_arg3))

def preserves_KernelAdamSquare_KernelAdamSquareIdeal : Prop :=
  True

def algebraic_KernelAdamSquareIdeal_ReferenceAdamSquareIdeal [hKernelAdamSquareIdeal : Cert.KernelAdamSquareIdeal.Facts] [hReferenceAdamSquareIdeal : Cert.ReferenceAdamSquareIdeal.Facts] : Prop :=
  ∀ (m : (ℓ : Loc Cert.KernelAdamSquareIdeal.nD Cert.KernelAdamSquareIdeal.τ Cert.KernelAdamSquareIdeal.sig) → Buf (Elt Ideal) ℓ) (g : Dev Cert.KernelAdamSquareIdeal.nD → PrngReg)
    (m' : (ℓ : Loc Cert.ReferenceAdamSquareIdeal.nD Cert.ReferenceAdamSquareIdeal.τ Cert.ReferenceAdamSquareIdeal.sig) → Buf (Elt Ideal) ℓ) (g' : Dev Cert.ReferenceAdamSquareIdeal.nD → PrngReg), Pre_KernelAdamSquareIdeal m →
    (∀ c : Dev Cert.KernelAdamSquareIdeal.nD,
      m' ((c.tc : Thread Cert.ReferenceAdamSquareIdeal.nD Cert.ReferenceAdamSquareIdeal.τ).loc Cert.ReferenceAdamSquareIdeal.main_arg0) = m ((c.tc : Thread Cert.KernelAdamSquareIdeal.nD Cert.KernelAdamSquareIdeal.τ).loc Cert.KernelAdamSquareIdeal.main_arg0)
      ∧ m' ((c.tc : Thread Cert.ReferenceAdamSquareIdeal.nD Cert.ReferenceAdamSquareIdeal.τ).loc Cert.ReferenceAdamSquareIdeal.main_arg1) = m ((c.tc : Thread Cert.KernelAdamSquareIdeal.nD Cert.KernelAdamSquareIdeal.τ).loc Cert.KernelAdamSquareIdeal.main_arg1)
      ∧ m' ((c.tc : Thread Cert.ReferenceAdamSquareIdeal.nD Cert.ReferenceAdamSquareIdeal.τ).loc Cert.ReferenceAdamSquareIdeal.main_arg2) = m ((c.tc : Thread Cert.KernelAdamSquareIdeal.nD Cert.KernelAdamSquareIdeal.τ).loc Cert.KernelAdamSquareIdeal.main_arg2)
      ∧ m' ((c.tc : Thread Cert.ReferenceAdamSquareIdeal.nD Cert.ReferenceAdamSquareIdeal.τ).loc Cert.ReferenceAdamSquareIdeal.main_arg3) = m ((c.tc : Thread Cert.KernelAdamSquareIdeal.nD Cert.KernelAdamSquareIdeal.τ).loc Cert.KernelAdamSquareIdeal.main_arg3)) →
    ∃ (v0 : (c : Dev Cert.KernelAdamSquareIdeal.nD) → Buf (Elt Ideal) ((c.tc : Thread Cert.KernelAdamSquareIdeal.nD Cert.KernelAdamSquareIdeal.τ).loc Cert.KernelAdamSquareIdeal.main_v0_0)) (v1 : (c : Dev Cert.KernelAdamSquareIdeal.nD) → Buf (Elt Ideal) ((c.tc : Thread Cert.KernelAdamSquareIdeal.nD Cert.KernelAdamSquareIdeal.τ).loc Cert.KernelAdamSquareIdeal.main_v0_1)) (v2 : (c : Dev Cert.KernelAdamSquareIdeal.nD) → Buf (Elt Ideal) ((c.tc : Thread Cert.KernelAdamSquareIdeal.nD Cert.KernelAdamSquareIdeal.τ).loc Cert.KernelAdamSquareIdeal.main_v0_2)) (v3 : (c : Dev Cert.KernelAdamSquareIdeal.nD) → Buf (Elt Ideal) ((c.tc : Thread Cert.KernelAdamSquareIdeal.nD Cert.KernelAdamSquareIdeal.τ).loc Cert.KernelAdamSquareIdeal.main_v0_3)),
      θ_run (Cert.KernelAdamSquareIdeal.defs (F := Ideal)) (onTc (τ := Cert.KernelAdamSquareIdeal.τ) (Cert.KernelAdamSquareIdeal.main (F := Ideal))) ⟨m, fun _ => 0, g⟩ (fun r => ∀ c : Dev Cert.KernelAdamSquareIdeal.nD,
          r.2.mem ((c.tc : Thread Cert.KernelAdamSquareIdeal.nD Cert.KernelAdamSquareIdeal.τ).loc Cert.KernelAdamSquareIdeal.main_v0_0) = v0 c
          ∧ r.2.mem ((c.tc : Thread Cert.KernelAdamSquareIdeal.nD Cert.KernelAdamSquareIdeal.τ).loc Cert.KernelAdamSquareIdeal.main_v0_1) = v1 c
          ∧ r.2.mem ((c.tc : Thread Cert.KernelAdamSquareIdeal.nD Cert.KernelAdamSquareIdeal.τ).loc Cert.KernelAdamSquareIdeal.main_v0_2) = v2 c
          ∧ r.2.mem ((c.tc : Thread Cert.KernelAdamSquareIdeal.nD Cert.KernelAdamSquareIdeal.τ).loc Cert.KernelAdamSquareIdeal.main_v0_3) = v3 c
          ∧ r.2.mem ((c.tc : Thread Cert.KernelAdamSquareIdeal.nD Cert.KernelAdamSquareIdeal.τ).loc Cert.KernelAdamSquareIdeal.main_arg0) = m ((c.tc : Thread Cert.KernelAdamSquareIdeal.nD Cert.KernelAdamSquareIdeal.τ).loc Cert.KernelAdamSquareIdeal.main_arg0)
          ∧ r.2.mem ((c.tc : Thread Cert.KernelAdamSquareIdeal.nD Cert.KernelAdamSquareIdeal.τ).loc Cert.KernelAdamSquareIdeal.main_arg1) = m ((c.tc : Thread Cert.KernelAdamSquareIdeal.nD Cert.KernelAdamSquareIdeal.τ).loc Cert.KernelAdamSquareIdeal.main_arg1)
          ∧ r.2.mem ((c.tc : Thread Cert.KernelAdamSquareIdeal.nD Cert.KernelAdamSquareIdeal.τ).loc Cert.KernelAdamSquareIdeal.main_arg2) = m ((c.tc : Thread Cert.KernelAdamSquareIdeal.nD Cert.KernelAdamSquareIdeal.τ).loc Cert.KernelAdamSquareIdeal.main_arg2)
          ∧ r.2.mem ((c.tc : Thread Cert.KernelAdamSquareIdeal.nD Cert.KernelAdamSquareIdeal.τ).loc Cert.KernelAdamSquareIdeal.main_arg3) = m ((c.tc : Thread Cert.KernelAdamSquareIdeal.nD Cert.KernelAdamSquareIdeal.τ).loc Cert.KernelAdamSquareIdeal.main_arg3))
      ∧ θ_run (Cert.ReferenceAdamSquareIdeal.defs (F := Ideal)) (onTc (τ := Cert.ReferenceAdamSquareIdeal.τ) (Cert.ReferenceAdamSquareIdeal.main (F := Ideal))) ⟨m', fun _ => 0, g'⟩ (fun r => ∀ c : Dev Cert.ReferenceAdamSquareIdeal.nD,
          r.2.mem ((c.tc : Thread Cert.ReferenceAdamSquareIdeal.nD Cert.ReferenceAdamSquareIdeal.τ).loc Cert.ReferenceAdamSquareIdeal.main_v1) = v0 c
          ∧ r.2.mem ((c.tc : Thread Cert.ReferenceAdamSquareIdeal.nD Cert.ReferenceAdamSquareIdeal.τ).loc Cert.ReferenceAdamSquareIdeal.main_v25) = v1 c
          ∧ r.2.mem ((c.tc : Thread Cert.ReferenceAdamSquareIdeal.nD Cert.ReferenceAdamSquareIdeal.τ).loc Cert.ReferenceAdamSquareIdeal.main_v6) = v2 c
          ∧ r.2.mem ((c.tc : Thread Cert.ReferenceAdamSquareIdeal.nD Cert.ReferenceAdamSquareIdeal.τ).loc Cert.ReferenceAdamSquareIdeal.main_v12) = v3 c
          ∧ r.2.mem ((c.tc : Thread Cert.ReferenceAdamSquareIdeal.nD Cert.ReferenceAdamSquareIdeal.τ).loc Cert.ReferenceAdamSquareIdeal.main_arg0) = m' ((c.tc : Thread Cert.ReferenceAdamSquareIdeal.nD Cert.ReferenceAdamSquareIdeal.τ).loc Cert.ReferenceAdamSquareIdeal.main_arg0)
          ∧ r.2.mem ((c.tc : Thread Cert.ReferenceAdamSquareIdeal.nD Cert.ReferenceAdamSquareIdeal.τ).loc Cert.ReferenceAdamSquareIdeal.main_arg1) = m' ((c.tc : Thread Cert.ReferenceAdamSquareIdeal.nD Cert.ReferenceAdamSquareIdeal.τ).loc Cert.ReferenceAdamSquareIdeal.main_arg1)
          ∧ r.2.mem ((c.tc : Thread Cert.ReferenceAdamSquareIdeal.nD Cert.ReferenceAdamSquareIdeal.τ).loc Cert.ReferenceAdamSquareIdeal.main_arg2) = m' ((c.tc : Thread Cert.ReferenceAdamSquareIdeal.nD Cert.ReferenceAdamSquareIdeal.τ).loc Cert.ReferenceAdamSquareIdeal.main_arg2)
          ∧ r.2.mem ((c.tc : Thread Cert.ReferenceAdamSquareIdeal.nD Cert.ReferenceAdamSquareIdeal.τ).loc Cert.ReferenceAdamSquareIdeal.main_arg3) = m' ((c.tc : Thread Cert.ReferenceAdamSquareIdeal.nD Cert.ReferenceAdamSquareIdeal.τ).loc Cert.ReferenceAdamSquareIdeal.main_arg3))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)) →
    ∃ (v0 : (c : Dev Cert.KernelAdamInIdeal.nD) → Buf (Elt Ideal) ((c.tc : Thread Cert.KernelAdamInIdeal.nD Cert.KernelAdamInIdeal.τ).loc Cert.KernelAdamInIdeal.main_v0_0)) (v1 : (c : Dev Cert.KernelAdamInIdeal.nD) → Buf (Elt Ideal) ((c.tc : Thread Cert.KernelAdamInIdeal.nD Cert.KernelAdamInIdeal.τ).loc Cert.KernelAdamInIdeal.main_v0_1)) (v2 : (c : Dev Cert.KernelAdamInIdeal.nD) → Buf (Elt Ideal) ((c.tc : Thread Cert.KernelAdamInIdeal.nD Cert.KernelAdamInIdeal.τ).loc Cert.KernelAdamInIdeal.main_v0_2)) (v3 : (c : Dev Cert.KernelAdamInIdeal.nD) → Buf (Elt Ideal) ((c.tc : Thread Cert.KernelAdamInIdeal.nD Cert.KernelAdamInIdeal.τ).loc Cert.KernelAdamInIdeal.main_v0_3)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v0_0) = v0 c
          ∧ r.2.mem ((c.tc : Thread Cert.KernelAdamInIdeal.nD Cert.KernelAdamInIdeal.τ).loc Cert.KernelAdamInIdeal.main_v0_1) = v1 c
          ∧ r.2.mem ((c.tc : Thread Cert.KernelAdamInIdeal.nD Cert.KernelAdamInIdeal.τ).loc Cert.KernelAdamInIdeal.main_v0_2) = v2 c
          ∧ r.2.mem ((c.tc : Thread Cert.KernelAdamInIdeal.nD Cert.KernelAdamInIdeal.τ).loc Cert.KernelAdamInIdeal.main_v0_3) = v3 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v1) = v0 c
          ∧ r.2.mem ((c.tc : Thread Cert.ReferenceAdamInIdeal.nD Cert.ReferenceAdamInIdeal.τ).loc Cert.ReferenceAdamInIdeal.main_v25) = v1 c
          ∧ r.2.mem ((c.tc : Thread Cert.ReferenceAdamInIdeal.nD Cert.ReferenceAdamInIdeal.τ).loc Cert.ReferenceAdamInIdeal.main_v6) = v2 c
          ∧ r.2.mem ((c.tc : Thread Cert.ReferenceAdamInIdeal.nD Cert.ReferenceAdamInIdeal.τ).loc Cert.ReferenceAdamInIdeal.main_v12) = v3 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3))

def preserves_KernelAdamConv_KernelAdamConvIdeal : Prop :=
  True

def algebraic_KernelAdamConvIdeal_ReferenceAdamConvIdeal [hKernelAdamConvIdeal : Cert.KernelAdamConvIdeal.Facts] [hReferenceAdamConvIdeal : Cert.ReferenceAdamConvIdeal.Facts] : Prop :=
  ∀ (m : (ℓ : Loc Cert.KernelAdamConvIdeal.nD Cert.KernelAdamConvIdeal.τ Cert.KernelAdamConvIdeal.sig) → Buf (Elt Ideal) ℓ) (g : Dev Cert.KernelAdamConvIdeal.nD → PrngReg)
    (m' : (ℓ : Loc Cert.ReferenceAdamConvIdeal.nD Cert.ReferenceAdamConvIdeal.τ Cert.ReferenceAdamConvIdeal.sig) → Buf (Elt Ideal) ℓ) (g' : Dev Cert.ReferenceAdamConvIdeal.nD → PrngReg), Pre_KernelAdamConvIdeal m →
    (∀ c : Dev Cert.KernelAdamConvIdeal.nD,
      m' ((c.tc : Thread Cert.ReferenceAdamConvIdeal.nD Cert.ReferenceAdamConvIdeal.τ).loc Cert.ReferenceAdamConvIdeal.main_arg0) = m ((c.tc : Thread Cert.KernelAdamConvIdeal.nD Cert.KernelAdamConvIdeal.τ).loc Cert.KernelAdamConvIdeal.main_arg0)
      ∧ m' ((c.tc : Thread Cert.ReferenceAdamConvIdeal.nD Cert.ReferenceAdamConvIdeal.τ).loc Cert.ReferenceAdamConvIdeal.main_arg1) = m ((c.tc : Thread Cert.KernelAdamConvIdeal.nD Cert.KernelAdamConvIdeal.τ).loc Cert.KernelAdamConvIdeal.main_arg1)
      ∧ m' ((c.tc : Thread Cert.ReferenceAdamConvIdeal.nD Cert.ReferenceAdamConvIdeal.τ).loc Cert.ReferenceAdamConvIdeal.main_arg2) = m ((c.tc : Thread Cert.KernelAdamConvIdeal.nD Cert.KernelAdamConvIdeal.τ).loc Cert.KernelAdamConvIdeal.main_arg2)
      ∧ m' ((c.tc : Thread Cert.ReferenceAdamConvIdeal.nD Cert.ReferenceAdamConvIdeal.τ).loc Cert.ReferenceAdamConvIdeal.main_arg3) = m ((c.tc : Thread Cert.KernelAdamConvIdeal.nD Cert.KernelAdamConvIdeal.τ).loc Cert.KernelAdamConvIdeal.main_arg3)) →
    ∃ (v0 : (c : Dev Cert.KernelAdamConvIdeal.nD) → Buf (Elt Ideal) ((c.tc : Thread Cert.KernelAdamConvIdeal.nD Cert.KernelAdamConvIdeal.τ).loc Cert.KernelAdamConvIdeal.main_v0_0)) (v1 : (c : Dev Cert.KernelAdamConvIdeal.nD) → Buf (Elt Ideal) ((c.tc : Thread Cert.KernelAdamConvIdeal.nD Cert.KernelAdamConvIdeal.τ).loc Cert.KernelAdamConvIdeal.main_v0_1)) (v2 : (c : Dev Cert.KernelAdamConvIdeal.nD) → Buf (Elt Ideal) ((c.tc : Thread Cert.KernelAdamConvIdeal.nD Cert.KernelAdamConvIdeal.τ).loc Cert.KernelAdamConvIdeal.main_v0_2)) (v3 : (c : Dev Cert.KernelAdamConvIdeal.nD) → Buf (Elt Ideal) ((c.tc : Thread Cert.KernelAdamConvIdeal.nD Cert.KernelAdamConvIdeal.τ).loc Cert.KernelAdamConvIdeal.main_v0_3)),
      θ_run (Cert.KernelAdamConvIdeal.defs (F := Ideal)) (onTc (τ := Cert.KernelAdamConvIdeal.τ) (Cert.KernelAdamConvIdeal.main (F := Ideal))) ⟨m, fun _ => 0, g⟩ (fun r => ∀ c : Dev Cert.KernelAdamConvIdeal.nD,
          r.2.mem ((c.tc : Thread Cert.KernelAdamConvIdeal.nD Cert.KernelAdamConvIdeal.τ).loc Cert.KernelAdamConvIdeal.main_v0_0) = v0 c
          ∧ r.2.mem ((c.tc : Thread Cert.KernelAdamConvIdeal.nD Cert.KernelAdamConvIdeal.τ).loc Cert.KernelAdamConvIdeal.main_v0_1) = v1 c
          ∧ r.2.mem ((c.tc : Thread Cert.KernelAdamConvIdeal.nD Cert.KernelAdamConvIdeal.τ).loc Cert.KernelAdamConvIdeal.main_v0_2) = v2 c
          ∧ r.2.mem ((c.tc : Thread Cert.KernelAdamConvIdeal.nD Cert.KernelAdamConvIdeal.τ).loc Cert.KernelAdamConvIdeal.main_v0_3) = v3 c
          ∧ r.2.mem ((c.tc : Thread Cert.KernelAdamConvIdeal.nD Cert.KernelAdamConvIdeal.τ).loc Cert.KernelAdamConvIdeal.main_arg0) = m ((c.tc : Thread Cert.KernelAdamConvIdeal.nD Cert.KernelAdamConvIdeal.τ).loc Cert.KernelAdamConvIdeal.main_arg0)
          ∧ r.2.mem ((c.tc : Thread Cert.KernelAdamConvIdeal.nD Cert.KernelAdamConvIdeal.τ).loc Cert.KernelAdamConvIdeal.main_arg1) = m ((c.tc : Thread Cert.KernelAdamConvIdeal.nD Cert.KernelAdamConvIdeal.τ).loc Cert.KernelAdamConvIdeal.main_arg1)
          ∧ r.2.mem ((c.tc : Thread Cert.KernelAdamConvIdeal.nD Cert.KernelAdamConvIdeal.τ).loc Cert.KernelAdamConvIdeal.main_arg2) = m ((c.tc : Thread Cert.KernelAdamConvIdeal.nD Cert.KernelAdamConvIdeal.τ).loc Cert.KernelAdamConvIdeal.main_arg2)
          ∧ r.2.mem ((c.tc : Thread Cert.KernelAdamConvIdeal.nD Cert.KernelAdamConvIdeal.τ).loc Cert.KernelAdamConvIdeal.main_arg3) = m ((c.tc : Thread Cert.KernelAdamConvIdeal.nD Cert.KernelAdamConvIdeal.τ).loc Cert.KernelAdamConvIdeal.main_arg3))
      ∧ θ_run (Cert.ReferenceAdamConvIdeal.defs (F := Ideal)) (onTc (τ := Cert.ReferenceAdamConvIdeal.τ) (Cert.ReferenceAdamConvIdeal.main (F := Ideal))) ⟨m', fun _ => 0, g'⟩ (fun r => ∀ c : Dev Cert.ReferenceAdamConvIdeal.nD,
          r.2.mem ((c.tc : Thread Cert.ReferenceAdamConvIdeal.nD Cert.ReferenceAdamConvIdeal.τ).loc Cert.ReferenceAdamConvIdeal.main_v0) = v0 c
          ∧ r.2.mem ((c.tc : Thread Cert.ReferenceAdamConvIdeal.nD Cert.ReferenceAdamConvIdeal.τ).loc Cert.ReferenceAdamConvIdeal.main_v24) = v1 c
          ∧ r.2.mem ((c.tc : Thread Cert.ReferenceAdamConvIdeal.nD Cert.ReferenceAdamConvIdeal.τ).loc Cert.ReferenceAdamConvIdeal.main_v5) = v2 c
          ∧ r.2.mem ((c.tc : Thread Cert.ReferenceAdamConvIdeal.nD Cert.ReferenceAdamConvIdeal.τ).loc Cert.ReferenceAdamConvIdeal.main_v11) = v3 c
          ∧ r.2.mem ((c.tc : Thread Cert.ReferenceAdamConvIdeal.nD Cert.ReferenceAdamConvIdeal.τ).loc Cert.ReferenceAdamConvIdeal.main_arg0) = m' ((c.tc : Thread Cert.ReferenceAdamConvIdeal.nD Cert.ReferenceAdamConvIdeal.τ).loc Cert.ReferenceAdamConvIdeal.main_arg0)
          ∧ r.2.mem ((c.tc : Thread Cert.ReferenceAdamConvIdeal.nD Cert.ReferenceAdamConvIdeal.τ).loc Cert.ReferenceAdamConvIdeal.main_arg1) = m' ((c.tc : Thread Cert.ReferenceAdamConvIdeal.nD Cert.ReferenceAdamConvIdeal.τ).loc Cert.ReferenceAdamConvIdeal.main_arg1)
          ∧ r.2.mem ((c.tc : Thread Cert.ReferenceAdamConvIdeal.nD Cert.ReferenceAdamConvIdeal.τ).loc Cert.ReferenceAdamConvIdeal.main_arg2) = m' ((c.tc : Thread Cert.ReferenceAdamConvIdeal.nD Cert.ReferenceAdamConvIdeal.τ).loc Cert.ReferenceAdamConvIdeal.main_arg2)
          ∧ r.2.mem ((c.tc : Thread Cert.ReferenceAdamConvIdeal.nD Cert.ReferenceAdamConvIdeal.τ).loc Cert.ReferenceAdamConvIdeal.main_arg3) = m' ((c.tc : Thread Cert.ReferenceAdamConvIdeal.nD Cert.ReferenceAdamConvIdeal.τ).loc Cert.ReferenceAdamConvIdeal.main_arg3))

def preserves_KernelAdamSsd_KernelAdamSsdIdeal : Prop :=
  True

def algebraic_KernelAdamSsdIdeal_ReferenceAdamSsdIdeal [hKernelAdamSsdIdeal : Cert.KernelAdamSsdIdeal.Facts] [hReferenceAdamSsdIdeal : Cert.ReferenceAdamSsdIdeal.Facts] : Prop :=
  ∀ (m : (ℓ : Loc Cert.KernelAdamSsdIdeal.nD Cert.KernelAdamSsdIdeal.τ Cert.KernelAdamSsdIdeal.sig) → Buf (Elt Ideal) ℓ) (g : Dev Cert.KernelAdamSsdIdeal.nD → PrngReg)
    (m' : (ℓ : Loc Cert.ReferenceAdamSsdIdeal.nD Cert.ReferenceAdamSsdIdeal.τ Cert.ReferenceAdamSsdIdeal.sig) → Buf (Elt Ideal) ℓ) (g' : Dev Cert.ReferenceAdamSsdIdeal.nD → PrngReg), Pre_KernelAdamSsdIdeal m →
    (∀ c : Dev Cert.KernelAdamSsdIdeal.nD,
      m' ((c.tc : Thread Cert.ReferenceAdamSsdIdeal.nD Cert.ReferenceAdamSsdIdeal.τ).loc Cert.ReferenceAdamSsdIdeal.main_arg0) = m ((c.tc : Thread Cert.KernelAdamSsdIdeal.nD Cert.KernelAdamSsdIdeal.τ).loc Cert.KernelAdamSsdIdeal.main_arg0)
      ∧ m' ((c.tc : Thread Cert.ReferenceAdamSsdIdeal.nD Cert.ReferenceAdamSsdIdeal.τ).loc Cert.ReferenceAdamSsdIdeal.main_arg1) = m ((c.tc : Thread Cert.KernelAdamSsdIdeal.nD Cert.KernelAdamSsdIdeal.τ).loc Cert.KernelAdamSsdIdeal.main_arg1)
      ∧ m' ((c.tc : Thread Cert.ReferenceAdamSsdIdeal.nD Cert.ReferenceAdamSsdIdeal.τ).loc Cert.ReferenceAdamSsdIdeal.main_arg2) = m ((c.tc : Thread Cert.KernelAdamSsdIdeal.nD Cert.KernelAdamSsdIdeal.τ).loc Cert.KernelAdamSsdIdeal.main_arg2)
      ∧ m' ((c.tc : Thread Cert.ReferenceAdamSsdIdeal.nD Cert.ReferenceAdamSsdIdeal.τ).loc Cert.ReferenceAdamSsdIdeal.main_arg3) = m ((c.tc : Thread Cert.KernelAdamSsdIdeal.nD Cert.KernelAdamSsdIdeal.τ).loc Cert.KernelAdamSsdIdeal.main_arg3)) →
    ∃ (v0 : (c : Dev Cert.KernelAdamSsdIdeal.nD) → Buf (Elt Ideal) ((c.tc : Thread Cert.KernelAdamSsdIdeal.nD Cert.KernelAdamSsdIdeal.τ).loc Cert.KernelAdamSsdIdeal.main_v0_0)) (v1 : (c : Dev Cert.KernelAdamSsdIdeal.nD) → Buf (Elt Ideal) ((c.tc : Thread Cert.KernelAdamSsdIdeal.nD Cert.KernelAdamSsdIdeal.τ).loc Cert.KernelAdamSsdIdeal.main_v0_1)) (v2 : (c : Dev Cert.KernelAdamSsdIdeal.nD) → Buf (Elt Ideal) ((c.tc : Thread Cert.KernelAdamSsdIdeal.nD Cert.KernelAdamSsdIdeal.τ).loc Cert.KernelAdamSsdIdeal.main_v0_2)) (v3 : (c : Dev Cert.KernelAdamSsdIdeal.nD) → Buf (Elt Ideal) ((c.tc : Thread Cert.KernelAdamSsdIdeal.nD Cert.KernelAdamSsdIdeal.τ).loc Cert.KernelAdamSsdIdeal.main_v0_3)),
      θ_run (Cert.KernelAdamSsdIdeal.defs (F := Ideal)) (onTc (τ := Cert.KernelAdamSsdIdeal.τ) (Cert.KernelAdamSsdIdeal.main (F := Ideal))) ⟨m, fun _ => 0, g⟩ (fun r => ∀ c : Dev Cert.KernelAdamSsdIdeal.nD,
          r.2.mem ((c.tc : Thread Cert.KernelAdamSsdIdeal.nD Cert.KernelAdamSsdIdeal.τ).loc Cert.KernelAdamSsdIdeal.main_v0_0) = v0 c
          ∧ r.2.mem ((c.tc : Thread Cert.KernelAdamSsdIdeal.nD Cert.KernelAdamSsdIdeal.τ).loc Cert.KernelAdamSsdIdeal.main_v0_1) = v1 c
          ∧ r.2.mem ((c.tc : Thread Cert.KernelAdamSsdIdeal.nD Cert.KernelAdamSsdIdeal.τ).loc Cert.KernelAdamSsdIdeal.main_v0_2) = v2 c
          ∧ r.2.mem ((c.tc : Thread Cert.KernelAdamSsdIdeal.nD Cert.KernelAdamSsdIdeal.τ).loc Cert.KernelAdamSsdIdeal.main_v0_3) = v3 c
          ∧ r.2.mem ((c.tc : Thread Cert.KernelAdamSsdIdeal.nD Cert.KernelAdamSsdIdeal.τ).loc Cert.KernelAdamSsdIdeal.main_arg0) = m ((c.tc : Thread Cert.KernelAdamSsdIdeal.nD Cert.KernelAdamSsdIdeal.τ).loc Cert.KernelAdamSsdIdeal.main_arg0)
          ∧ r.2.mem ((c.tc : Thread Cert.KernelAdamSsdIdeal.nD Cert.KernelAdamSsdIdeal.τ).loc Cert.KernelAdamSsdIdeal.main_arg1) = m ((c.tc : Thread Cert.KernelAdamSsdIdeal.nD Cert.KernelAdamSsdIdeal.τ).loc Cert.KernelAdamSsdIdeal.main_arg1)
          ∧ r.2.mem ((c.tc : Thread Cert.KernelAdamSsdIdeal.nD Cert.KernelAdamSsdIdeal.τ).loc Cert.KernelAdamSsdIdeal.main_arg2) = m ((c.tc : Thread Cert.KernelAdamSsdIdeal.nD Cert.KernelAdamSsdIdeal.τ).loc Cert.KernelAdamSsdIdeal.main_arg2)
          ∧ r.2.mem ((c.tc : Thread Cert.KernelAdamSsdIdeal.nD Cert.KernelAdamSsdIdeal.τ).loc Cert.KernelAdamSsdIdeal.main_arg3) = m ((c.tc : Thread Cert.KernelAdamSsdIdeal.nD Cert.KernelAdamSsdIdeal.τ).loc Cert.KernelAdamSsdIdeal.main_arg3))
      ∧ θ_run (Cert.ReferenceAdamSsdIdeal.defs (F := Ideal)) (onTc (τ := Cert.ReferenceAdamSsdIdeal.τ) (Cert.ReferenceAdamSsdIdeal.main (F := Ideal))) ⟨m', fun _ => 0, g'⟩ (fun r => ∀ c : Dev Cert.ReferenceAdamSsdIdeal.nD,
          r.2.mem ((c.tc : Thread Cert.ReferenceAdamSsdIdeal.nD Cert.ReferenceAdamSsdIdeal.τ).loc Cert.ReferenceAdamSsdIdeal.main_v1) = v0 c
          ∧ r.2.mem ((c.tc : Thread Cert.ReferenceAdamSsdIdeal.nD Cert.ReferenceAdamSsdIdeal.τ).loc Cert.ReferenceAdamSsdIdeal.main_v25) = v1 c
          ∧ r.2.mem ((c.tc : Thread Cert.ReferenceAdamSsdIdeal.nD Cert.ReferenceAdamSsdIdeal.τ).loc Cert.ReferenceAdamSsdIdeal.main_v6) = v2 c
          ∧ r.2.mem ((c.tc : Thread Cert.ReferenceAdamSsdIdeal.nD Cert.ReferenceAdamSsdIdeal.τ).loc Cert.ReferenceAdamSsdIdeal.main_v12) = v3 c
          ∧ r.2.mem ((c.tc : Thread Cert.ReferenceAdamSsdIdeal.nD Cert.ReferenceAdamSsdIdeal.τ).loc Cert.ReferenceAdamSsdIdeal.main_arg0) = m' ((c.tc : Thread Cert.ReferenceAdamSsdIdeal.nD Cert.ReferenceAdamSsdIdeal.τ).loc Cert.ReferenceAdamSsdIdeal.main_arg0)
          ∧ r.2.mem ((c.tc : Thread Cert.ReferenceAdamSsdIdeal.nD Cert.ReferenceAdamSsdIdeal.τ).loc Cert.ReferenceAdamSsdIdeal.main_arg1) = m' ((c.tc : Thread Cert.ReferenceAdamSsdIdeal.nD Cert.ReferenceAdamSsdIdeal.τ).loc Cert.ReferenceAdamSsdIdeal.main_arg1)
          ∧ r.2.mem ((c.tc : Thread Cert.ReferenceAdamSsdIdeal.nD Cert.ReferenceAdamSsdIdeal.τ).loc Cert.ReferenceAdamSsdIdeal.main_arg2) = m' ((c.tc : Thread Cert.ReferenceAdamSsdIdeal.nD Cert.ReferenceAdamSsdIdeal.τ).loc Cert.ReferenceAdamSsdIdeal.main_arg2)
          ∧ r.2.mem ((c.tc : Thread Cert.ReferenceAdamSsdIdeal.nD Cert.ReferenceAdamSsdIdeal.τ).loc Cert.ReferenceAdamSsdIdeal.main_arg3) = m' ((c.tc : Thread Cert.ReferenceAdamSsdIdeal.nD Cert.ReferenceAdamSsdIdeal.τ).loc Cert.ReferenceAdamSsdIdeal.main_arg3))

def preserves_KernelAdamGate_KernelAdamGateIdeal : Prop :=
  True

def algebraic_KernelAdamGateIdeal_ReferenceAdamGateIdeal [hKernelAdamGateIdeal : Cert.KernelAdamGateIdeal.Facts] [hReferenceAdamGateIdeal : Cert.ReferenceAdamGateIdeal.Facts] : Prop :=
  ∀ (m : (ℓ : Loc Cert.KernelAdamGateIdeal.nD Cert.KernelAdamGateIdeal.τ Cert.KernelAdamGateIdeal.sig) → Buf (Elt Ideal) ℓ) (g : Dev Cert.KernelAdamGateIdeal.nD → PrngReg)
    (m' : (ℓ : Loc Cert.ReferenceAdamGateIdeal.nD Cert.ReferenceAdamGateIdeal.τ Cert.ReferenceAdamGateIdeal.sig) → Buf (Elt Ideal) ℓ) (g' : Dev Cert.ReferenceAdamGateIdeal.nD → PrngReg), Pre_KernelAdamGateIdeal m →
    (∀ c : Dev Cert.KernelAdamGateIdeal.nD,
      m' ((c.tc : Thread Cert.ReferenceAdamGateIdeal.nD Cert.ReferenceAdamGateIdeal.τ).loc Cert.ReferenceAdamGateIdeal.main_arg0) = m ((c.tc : Thread Cert.KernelAdamGateIdeal.nD Cert.KernelAdamGateIdeal.τ).loc Cert.KernelAdamGateIdeal.main_arg0)
      ∧ m' ((c.tc : Thread Cert.ReferenceAdamGateIdeal.nD Cert.ReferenceAdamGateIdeal.τ).loc Cert.ReferenceAdamGateIdeal.main_arg1) = m ((c.tc : Thread Cert.KernelAdamGateIdeal.nD Cert.KernelAdamGateIdeal.τ).loc Cert.KernelAdamGateIdeal.main_arg1)
      ∧ m' ((c.tc : Thread Cert.ReferenceAdamGateIdeal.nD Cert.ReferenceAdamGateIdeal.τ).loc Cert.ReferenceAdamGateIdeal.main_arg2) = m ((c.tc : Thread Cert.KernelAdamGateIdeal.nD Cert.KernelAdamGateIdeal.τ).loc Cert.KernelAdamGateIdeal.main_arg2)
      ∧ m' ((c.tc : Thread Cert.ReferenceAdamGateIdeal.nD Cert.ReferenceAdamGateIdeal.τ).loc Cert.ReferenceAdamGateIdeal.main_arg3) = m ((c.tc : Thread Cert.KernelAdamGateIdeal.nD Cert.KernelAdamGateIdeal.τ).loc Cert.KernelAdamGateIdeal.main_arg3)) →
    ∃ (v0 : (c : Dev Cert.KernelAdamGateIdeal.nD) → Buf (Elt Ideal) ((c.tc : Thread Cert.KernelAdamGateIdeal.nD Cert.KernelAdamGateIdeal.τ).loc Cert.KernelAdamGateIdeal.main_v0_0)) (v1 : (c : Dev Cert.KernelAdamGateIdeal.nD) → Buf (Elt Ideal) ((c.tc : Thread Cert.KernelAdamGateIdeal.nD Cert.KernelAdamGateIdeal.τ).loc Cert.KernelAdamGateIdeal.main_v0_1)) (v2 : (c : Dev Cert.KernelAdamGateIdeal.nD) → Buf (Elt Ideal) ((c.tc : Thread Cert.KernelAdamGateIdeal.nD Cert.KernelAdamGateIdeal.τ).loc Cert.KernelAdamGateIdeal.main_v0_2)) (v3 : (c : Dev Cert.KernelAdamGateIdeal.nD) → Buf (Elt Ideal) ((c.tc : Thread Cert.KernelAdamGateIdeal.nD Cert.KernelAdamGateIdeal.τ).loc Cert.KernelAdamGateIdeal.main_v0_3)),
      θ_run (Cert.KernelAdamGateIdeal.defs (F := Ideal)) (onTc (τ := Cert.KernelAdamGateIdeal.τ) (Cert.KernelAdamGateIdeal.main (F := Ideal))) ⟨m, fun _ => 0, g⟩ (fun r => ∀ c : Dev Cert.KernelAdamGateIdeal.nD,
          r.2.mem ((c.tc : Thread Cert.KernelAdamGateIdeal.nD Cert.KernelAdamGateIdeal.τ).loc Cert.KernelAdamGateIdeal.main_v0_0) = v0 c
          ∧ r.2.mem ((c.tc : Thread Cert.KernelAdamGateIdeal.nD Cert.KernelAdamGateIdeal.τ).loc Cert.KernelAdamGateIdeal.main_v0_1) = v1 c
          ∧ r.2.mem ((c.tc : Thread Cert.KernelAdamGateIdeal.nD Cert.KernelAdamGateIdeal.τ).loc Cert.KernelAdamGateIdeal.main_v0_2) = v2 c
          ∧ r.2.mem ((c.tc : Thread Cert.KernelAdamGateIdeal.nD Cert.KernelAdamGateIdeal.τ).loc Cert.KernelAdamGateIdeal.main_v0_3) = v3 c
          ∧ r.2.mem ((c.tc : Thread Cert.KernelAdamGateIdeal.nD Cert.KernelAdamGateIdeal.τ).loc Cert.KernelAdamGateIdeal.main_arg0) = m ((c.tc : Thread Cert.KernelAdamGateIdeal.nD Cert.KernelAdamGateIdeal.τ).loc Cert.KernelAdamGateIdeal.main_arg0)
          ∧ r.2.mem ((c.tc : Thread Cert.KernelAdamGateIdeal.nD Cert.KernelAdamGateIdeal.τ).loc Cert.KernelAdamGateIdeal.main_arg1) = m ((c.tc : Thread Cert.KernelAdamGateIdeal.nD Cert.KernelAdamGateIdeal.τ).loc Cert.KernelAdamGateIdeal.main_arg1)
          ∧ r.2.mem ((c.tc : Thread Cert.KernelAdamGateIdeal.nD Cert.KernelAdamGateIdeal.τ).loc Cert.KernelAdamGateIdeal.main_arg2) = m ((c.tc : Thread Cert.KernelAdamGateIdeal.nD Cert.KernelAdamGateIdeal.τ).loc Cert.KernelAdamGateIdeal.main_arg2)
          ∧ r.2.mem ((c.tc : Thread Cert.KernelAdamGateIdeal.nD Cert.KernelAdamGateIdeal.τ).loc Cert.KernelAdamGateIdeal.main_arg3) = m ((c.tc : Thread Cert.KernelAdamGateIdeal.nD Cert.KernelAdamGateIdeal.τ).loc Cert.KernelAdamGateIdeal.main_arg3))
      ∧ θ_run (Cert.ReferenceAdamGateIdeal.defs (F := Ideal)) (onTc (τ := Cert.ReferenceAdamGateIdeal.τ) (Cert.ReferenceAdamGateIdeal.main (F := Ideal))) ⟨m', fun _ => 0, g'⟩ (fun r => ∀ c : Dev Cert.ReferenceAdamGateIdeal.nD,
          r.2.mem ((c.tc : Thread Cert.ReferenceAdamGateIdeal.nD Cert.ReferenceAdamGateIdeal.τ).loc Cert.ReferenceAdamGateIdeal.main_v1) = v0 c
          ∧ r.2.mem ((c.tc : Thread Cert.ReferenceAdamGateIdeal.nD Cert.ReferenceAdamGateIdeal.τ).loc Cert.ReferenceAdamGateIdeal.main_v25) = v1 c
          ∧ r.2.mem ((c.tc : Thread Cert.ReferenceAdamGateIdeal.nD Cert.ReferenceAdamGateIdeal.τ).loc Cert.ReferenceAdamGateIdeal.main_v6) = v2 c
          ∧ r.2.mem ((c.tc : Thread Cert.ReferenceAdamGateIdeal.nD Cert.ReferenceAdamGateIdeal.τ).loc Cert.ReferenceAdamGateIdeal.main_v12) = v3 c
          ∧ r.2.mem ((c.tc : Thread Cert.ReferenceAdamGateIdeal.nD Cert.ReferenceAdamGateIdeal.τ).loc Cert.ReferenceAdamGateIdeal.main_arg0) = m' ((c.tc : Thread Cert.ReferenceAdamGateIdeal.nD Cert.ReferenceAdamGateIdeal.τ).loc Cert.ReferenceAdamGateIdeal.main_arg0)
          ∧ r.2.mem ((c.tc : Thread Cert.ReferenceAdamGateIdeal.nD Cert.ReferenceAdamGateIdeal.τ).loc Cert.ReferenceAdamGateIdeal.main_arg1) = m' ((c.tc : Thread Cert.ReferenceAdamGateIdeal.nD Cert.ReferenceAdamGateIdeal.τ).loc Cert.ReferenceAdamGateIdeal.main_arg1)
          ∧ r.2.mem ((c.tc : Thread Cert.ReferenceAdamGateIdeal.nD Cert.ReferenceAdamGateIdeal.τ).loc Cert.ReferenceAdamGateIdeal.main_arg2) = m' ((c.tc : Thread Cert.ReferenceAdamGateIdeal.nD Cert.ReferenceAdamGateIdeal.τ).loc Cert.ReferenceAdamGateIdeal.main_arg2)
          ∧ r.2.mem ((c.tc : Thread Cert.ReferenceAdamGateIdeal.nD Cert.ReferenceAdamGateIdeal.τ).loc Cert.ReferenceAdamGateIdeal.main_arg3) = m' ((c.tc : Thread Cert.ReferenceAdamGateIdeal.nD Cert.ReferenceAdamGateIdeal.τ).loc Cert.ReferenceAdamGateIdeal.main_arg3))

def preserves_KernelAdamFf2_KernelAdamFf2Ideal : Prop :=
  True

def algebraic_KernelAdamFf2Ideal_ReferenceAdamFf2Ideal [hKernelAdamFf2Ideal : Cert.KernelAdamFf2Ideal.Facts] [hReferenceAdamFf2Ideal : Cert.ReferenceAdamFf2Ideal.Facts] : Prop :=
  ∀ (m : (ℓ : Loc Cert.KernelAdamFf2Ideal.nD Cert.KernelAdamFf2Ideal.τ Cert.KernelAdamFf2Ideal.sig) → Buf (Elt Ideal) ℓ) (g : Dev Cert.KernelAdamFf2Ideal.nD → PrngReg)
    (m' : (ℓ : Loc Cert.ReferenceAdamFf2Ideal.nD Cert.ReferenceAdamFf2Ideal.τ Cert.ReferenceAdamFf2Ideal.sig) → Buf (Elt Ideal) ℓ) (g' : Dev Cert.ReferenceAdamFf2Ideal.nD → PrngReg), Pre_KernelAdamFf2Ideal m →
    (∀ c : Dev Cert.KernelAdamFf2Ideal.nD,
      m' ((c.tc : Thread Cert.ReferenceAdamFf2Ideal.nD Cert.ReferenceAdamFf2Ideal.τ).loc Cert.ReferenceAdamFf2Ideal.main_arg0) = m ((c.tc : Thread Cert.KernelAdamFf2Ideal.nD Cert.KernelAdamFf2Ideal.τ).loc Cert.KernelAdamFf2Ideal.main_arg0)
      ∧ m' ((c.tc : Thread Cert.ReferenceAdamFf2Ideal.nD Cert.ReferenceAdamFf2Ideal.τ).loc Cert.ReferenceAdamFf2Ideal.main_arg1) = m ((c.tc : Thread Cert.KernelAdamFf2Ideal.nD Cert.KernelAdamFf2Ideal.τ).loc Cert.KernelAdamFf2Ideal.main_arg1)
      ∧ m' ((c.tc : Thread Cert.ReferenceAdamFf2Ideal.nD Cert.ReferenceAdamFf2Ideal.τ).loc Cert.ReferenceAdamFf2Ideal.main_arg2) = m ((c.tc : Thread Cert.KernelAdamFf2Ideal.nD Cert.KernelAdamFf2Ideal.τ).loc Cert.KernelAdamFf2Ideal.main_arg2)
      ∧ m' ((c.tc : Thread Cert.ReferenceAdamFf2Ideal.nD Cert.ReferenceAdamFf2Ideal.τ).loc Cert.ReferenceAdamFf2Ideal.main_arg3) = m ((c.tc : Thread Cert.KernelAdamFf2Ideal.nD Cert.KernelAdamFf2Ideal.τ).loc Cert.KernelAdamFf2Ideal.main_arg3)) →
    ∃ (v0 : (c : Dev Cert.KernelAdamFf2Ideal.nD) → Buf (Elt Ideal) ((c.tc : Thread Cert.KernelAdamFf2Ideal.nD Cert.KernelAdamFf2Ideal.τ).loc Cert.KernelAdamFf2Ideal.main_v0_0)) (v1 : (c : Dev Cert.KernelAdamFf2Ideal.nD) → Buf (Elt Ideal) ((c.tc : Thread Cert.KernelAdamFf2Ideal.nD Cert.KernelAdamFf2Ideal.τ).loc Cert.KernelAdamFf2Ideal.main_v0_1)) (v2 : (c : Dev Cert.KernelAdamFf2Ideal.nD) → Buf (Elt Ideal) ((c.tc : Thread Cert.KernelAdamFf2Ideal.nD Cert.KernelAdamFf2Ideal.τ).loc Cert.KernelAdamFf2Ideal.main_v0_2)) (v3 : (c : Dev Cert.KernelAdamFf2Ideal.nD) → Buf (Elt Ideal) ((c.tc : Thread Cert.KernelAdamFf2Ideal.nD Cert.KernelAdamFf2Ideal.τ).loc Cert.KernelAdamFf2Ideal.main_v0_3)),
      θ_run (Cert.KernelAdamFf2Ideal.defs (F := Ideal)) (onTc (τ := Cert.KernelAdamFf2Ideal.τ) (Cert.KernelAdamFf2Ideal.main (F := Ideal))) ⟨m, fun _ => 0, g⟩ (fun r => ∀ c : Dev Cert.KernelAdamFf2Ideal.nD,
          r.2.mem ((c.tc : Thread Cert.KernelAdamFf2Ideal.nD Cert.KernelAdamFf2Ideal.τ).loc Cert.KernelAdamFf2Ideal.main_v0_0) = v0 c
          ∧ r.2.mem ((c.tc : Thread Cert.KernelAdamFf2Ideal.nD Cert.KernelAdamFf2Ideal.τ).loc Cert.KernelAdamFf2Ideal.main_v0_1) = v1 c
          ∧ r.2.mem ((c.tc : Thread Cert.KernelAdamFf2Ideal.nD Cert.KernelAdamFf2Ideal.τ).loc Cert.KernelAdamFf2Ideal.main_v0_2) = v2 c
          ∧ r.2.mem ((c.tc : Thread Cert.KernelAdamFf2Ideal.nD Cert.KernelAdamFf2Ideal.τ).loc Cert.KernelAdamFf2Ideal.main_v0_3) = v3 c
          ∧ r.2.mem ((c.tc : Thread Cert.KernelAdamFf2Ideal.nD Cert.KernelAdamFf2Ideal.τ).loc Cert.KernelAdamFf2Ideal.main_arg0) = m ((c.tc : Thread Cert.KernelAdamFf2Ideal.nD Cert.KernelAdamFf2Ideal.τ).loc Cert.KernelAdamFf2Ideal.main_arg0)
          ∧ r.2.mem ((c.tc : Thread Cert.KernelAdamFf2Ideal.nD Cert.KernelAdamFf2Ideal.τ).loc Cert.KernelAdamFf2Ideal.main_arg1) = m ((c.tc : Thread Cert.KernelAdamFf2Ideal.nD Cert.KernelAdamFf2Ideal.τ).loc Cert.KernelAdamFf2Ideal.main_arg1)
          ∧ r.2.mem ((c.tc : Thread Cert.KernelAdamFf2Ideal.nD Cert.KernelAdamFf2Ideal.τ).loc Cert.KernelAdamFf2Ideal.main_arg2) = m ((c.tc : Thread Cert.KernelAdamFf2Ideal.nD Cert.KernelAdamFf2Ideal.τ).loc Cert.KernelAdamFf2Ideal.main_arg2)
          ∧ r.2.mem ((c.tc : Thread Cert.KernelAdamFf2Ideal.nD Cert.KernelAdamFf2Ideal.τ).loc Cert.KernelAdamFf2Ideal.main_arg3) = m ((c.tc : Thread Cert.KernelAdamFf2Ideal.nD Cert.KernelAdamFf2Ideal.τ).loc Cert.KernelAdamFf2Ideal.main_arg3))
      ∧ θ_run (Cert.ReferenceAdamFf2Ideal.defs (F := Ideal)) (onTc (τ := Cert.ReferenceAdamFf2Ideal.τ) (Cert.ReferenceAdamFf2Ideal.main (F := Ideal))) ⟨m', fun _ => 0, g'⟩ (fun r => ∀ c : Dev Cert.ReferenceAdamFf2Ideal.nD,
          r.2.mem ((c.tc : Thread Cert.ReferenceAdamFf2Ideal.nD Cert.ReferenceAdamFf2Ideal.τ).loc Cert.ReferenceAdamFf2Ideal.main_v1) = v0 c
          ∧ r.2.mem ((c.tc : Thread Cert.ReferenceAdamFf2Ideal.nD Cert.ReferenceAdamFf2Ideal.τ).loc Cert.ReferenceAdamFf2Ideal.main_v25) = v1 c
          ∧ r.2.mem ((c.tc : Thread Cert.ReferenceAdamFf2Ideal.nD Cert.ReferenceAdamFf2Ideal.τ).loc Cert.ReferenceAdamFf2Ideal.main_v6) = v2 c
          ∧ r.2.mem ((c.tc : Thread Cert.ReferenceAdamFf2Ideal.nD Cert.ReferenceAdamFf2Ideal.τ).loc Cert.ReferenceAdamFf2Ideal.main_v12) = v3 c
          ∧ r.2.mem ((c.tc : Thread Cert.ReferenceAdamFf2Ideal.nD Cert.ReferenceAdamFf2Ideal.τ).loc Cert.ReferenceAdamFf2Ideal.main_arg0) = m' ((c.tc : Thread Cert.ReferenceAdamFf2Ideal.nD Cert.ReferenceAdamFf2Ideal.τ).loc Cert.ReferenceAdamFf2Ideal.main_arg0)
          ∧ r.2.mem ((c.tc : Thread Cert.ReferenceAdamFf2Ideal.nD Cert.ReferenceAdamFf2Ideal.τ).loc Cert.ReferenceAdamFf2Ideal.main_arg1) = m' ((c.tc : Thread Cert.ReferenceAdamFf2Ideal.nD Cert.ReferenceAdamFf2Ideal.τ).loc Cert.ReferenceAdamFf2Ideal.main_arg1)
          ∧ r.2.mem ((c.tc : Thread Cert.ReferenceAdamFf2Ideal.nD Cert.ReferenceAdamFf2Ideal.τ).loc Cert.ReferenceAdamFf2Ideal.main_arg2) = m' ((c.tc : Thread Cert.ReferenceAdamFf2Ideal.nD Cert.ReferenceAdamFf2Ideal.τ).loc Cert.ReferenceAdamFf2Ideal.main_arg2)
          ∧ r.2.mem ((c.tc : Thread Cert.ReferenceAdamFf2Ideal.nD Cert.ReferenceAdamFf2Ideal.τ).loc Cert.ReferenceAdamFf2Ideal.main_arg3) = m' ((c.tc : Thread Cert.ReferenceAdamFf2Ideal.nD Cert.ReferenceAdamFf2Ideal.τ).loc Cert.ReferenceAdamFf2Ideal.main_arg3))

def preserves_KernelAdamPle_KernelAdamPleIdeal : Prop :=
  True

def algebraic_KernelAdamPleIdeal_ReferenceAdamPleIdeal [hKernelAdamPleIdeal : Cert.KernelAdamPleIdeal.Facts] [hReferenceAdamPleIdeal : Cert.ReferenceAdamPleIdeal.Facts] : Prop :=
  ∀ (m : (ℓ : Loc Cert.KernelAdamPleIdeal.nD Cert.KernelAdamPleIdeal.τ Cert.KernelAdamPleIdeal.sig) → Buf (Elt Ideal) ℓ) (g : Dev Cert.KernelAdamPleIdeal.nD → PrngReg)
    (m' : (ℓ : Loc Cert.ReferenceAdamPleIdeal.nD Cert.ReferenceAdamPleIdeal.τ Cert.ReferenceAdamPleIdeal.sig) → Buf (Elt Ideal) ℓ) (g' : Dev Cert.ReferenceAdamPleIdeal.nD → PrngReg), Pre_KernelAdamPleIdeal m →
    (∀ c : Dev Cert.KernelAdamPleIdeal.nD,
      m' ((c.tc : Thread Cert.ReferenceAdamPleIdeal.nD Cert.ReferenceAdamPleIdeal.τ).loc Cert.ReferenceAdamPleIdeal.main_arg0) = m ((c.tc : Thread Cert.KernelAdamPleIdeal.nD Cert.KernelAdamPleIdeal.τ).loc Cert.KernelAdamPleIdeal.main_arg0)
      ∧ m' ((c.tc : Thread Cert.ReferenceAdamPleIdeal.nD Cert.ReferenceAdamPleIdeal.τ).loc Cert.ReferenceAdamPleIdeal.main_arg1) = m ((c.tc : Thread Cert.KernelAdamPleIdeal.nD Cert.KernelAdamPleIdeal.τ).loc Cert.KernelAdamPleIdeal.main_arg1)
      ∧ m' ((c.tc : Thread Cert.ReferenceAdamPleIdeal.nD Cert.ReferenceAdamPleIdeal.τ).loc Cert.ReferenceAdamPleIdeal.main_arg2) = m ((c.tc : Thread Cert.KernelAdamPleIdeal.nD Cert.KernelAdamPleIdeal.τ).loc Cert.KernelAdamPleIdeal.main_arg2)
      ∧ m' ((c.tc : Thread Cert.ReferenceAdamPleIdeal.nD Cert.ReferenceAdamPleIdeal.τ).loc Cert.ReferenceAdamPleIdeal.main_arg3) = m ((c.tc : Thread Cert.KernelAdamPleIdeal.nD Cert.KernelAdamPleIdeal.τ).loc Cert.KernelAdamPleIdeal.main_arg3)) →
    ∃ (v0 : (c : Dev Cert.KernelAdamPleIdeal.nD) → Buf (Elt Ideal) ((c.tc : Thread Cert.KernelAdamPleIdeal.nD Cert.KernelAdamPleIdeal.τ).loc Cert.KernelAdamPleIdeal.main_v0_0)) (v1 : (c : Dev Cert.KernelAdamPleIdeal.nD) → Buf (Elt Ideal) ((c.tc : Thread Cert.KernelAdamPleIdeal.nD Cert.KernelAdamPleIdeal.τ).loc Cert.KernelAdamPleIdeal.main_v0_1)) (v2 : (c : Dev Cert.KernelAdamPleIdeal.nD) → Buf (Elt Ideal) ((c.tc : Thread Cert.KernelAdamPleIdeal.nD Cert.KernelAdamPleIdeal.τ).loc Cert.KernelAdamPleIdeal.main_v0_2)) (v3 : (c : Dev Cert.KernelAdamPleIdeal.nD) → Buf (Elt Ideal) ((c.tc : Thread Cert.KernelAdamPleIdeal.nD Cert.KernelAdamPleIdeal.τ).loc Cert.KernelAdamPleIdeal.main_v0_3)),
      θ_run (Cert.KernelAdamPleIdeal.defs (F := Ideal)) (onTc (τ := Cert.KernelAdamPleIdeal.τ) (Cert.KernelAdamPleIdeal.main (F := Ideal))) ⟨m, fun _ => 0, g⟩ (fun r => ∀ c : Dev Cert.KernelAdamPleIdeal.nD,
          r.2.mem ((c.tc : Thread Cert.KernelAdamPleIdeal.nD Cert.KernelAdamPleIdeal.τ).loc Cert.KernelAdamPleIdeal.main_v0_0) = v0 c
          ∧ r.2.mem ((c.tc : Thread Cert.KernelAdamPleIdeal.nD Cert.KernelAdamPleIdeal.τ).loc Cert.KernelAdamPleIdeal.main_v0_1) = v1 c
          ∧ r.2.mem ((c.tc : Thread Cert.KernelAdamPleIdeal.nD Cert.KernelAdamPleIdeal.τ).loc Cert.KernelAdamPleIdeal.main_v0_2) = v2 c
          ∧ r.2.mem ((c.tc : Thread Cert.KernelAdamPleIdeal.nD Cert.KernelAdamPleIdeal.τ).loc Cert.KernelAdamPleIdeal.main_v0_3) = v3 c
          ∧ r.2.mem ((c.tc : Thread Cert.KernelAdamPleIdeal.nD Cert.KernelAdamPleIdeal.τ).loc Cert.KernelAdamPleIdeal.main_arg0) = m ((c.tc : Thread Cert.KernelAdamPleIdeal.nD Cert.KernelAdamPleIdeal.τ).loc Cert.KernelAdamPleIdeal.main_arg0)
          ∧ r.2.mem ((c.tc : Thread Cert.KernelAdamPleIdeal.nD Cert.KernelAdamPleIdeal.τ).loc Cert.KernelAdamPleIdeal.main_arg1) = m ((c.tc : Thread Cert.KernelAdamPleIdeal.nD Cert.KernelAdamPleIdeal.τ).loc Cert.KernelAdamPleIdeal.main_arg1)
          ∧ r.2.mem ((c.tc : Thread Cert.KernelAdamPleIdeal.nD Cert.KernelAdamPleIdeal.τ).loc Cert.KernelAdamPleIdeal.main_arg2) = m ((c.tc : Thread Cert.KernelAdamPleIdeal.nD Cert.KernelAdamPleIdeal.τ).loc Cert.KernelAdamPleIdeal.main_arg2)
          ∧ r.2.mem ((c.tc : Thread Cert.KernelAdamPleIdeal.nD Cert.KernelAdamPleIdeal.τ).loc Cert.KernelAdamPleIdeal.main_arg3) = m ((c.tc : Thread Cert.KernelAdamPleIdeal.nD Cert.KernelAdamPleIdeal.τ).loc Cert.KernelAdamPleIdeal.main_arg3))
      ∧ θ_run (Cert.ReferenceAdamPleIdeal.defs (F := Ideal)) (onTc (τ := Cert.ReferenceAdamPleIdeal.τ) (Cert.ReferenceAdamPleIdeal.main (F := Ideal))) ⟨m', fun _ => 0, g'⟩ (fun r => ∀ c : Dev Cert.ReferenceAdamPleIdeal.nD,
          r.2.mem ((c.tc : Thread Cert.ReferenceAdamPleIdeal.nD Cert.ReferenceAdamPleIdeal.τ).loc Cert.ReferenceAdamPleIdeal.main_v1) = v0 c
          ∧ r.2.mem ((c.tc : Thread Cert.ReferenceAdamPleIdeal.nD Cert.ReferenceAdamPleIdeal.τ).loc Cert.ReferenceAdamPleIdeal.main_v25) = v1 c
          ∧ r.2.mem ((c.tc : Thread Cert.ReferenceAdamPleIdeal.nD Cert.ReferenceAdamPleIdeal.τ).loc Cert.ReferenceAdamPleIdeal.main_v6) = v2 c
          ∧ r.2.mem ((c.tc : Thread Cert.ReferenceAdamPleIdeal.nD Cert.ReferenceAdamPleIdeal.τ).loc Cert.ReferenceAdamPleIdeal.main_v12) = v3 c
          ∧ r.2.mem ((c.tc : Thread Cert.ReferenceAdamPleIdeal.nD Cert.ReferenceAdamPleIdeal.τ).loc Cert.ReferenceAdamPleIdeal.main_arg0) = m' ((c.tc : Thread Cert.ReferenceAdamPleIdeal.nD Cert.ReferenceAdamPleIdeal.τ).loc Cert.ReferenceAdamPleIdeal.main_arg0)
          ∧ r.2.mem ((c.tc : Thread Cert.ReferenceAdamPleIdeal.nD Cert.ReferenceAdamPleIdeal.τ).loc Cert.ReferenceAdamPleIdeal.main_arg1) = m' ((c.tc : Thread Cert.ReferenceAdamPleIdeal.nD Cert.ReferenceAdamPleIdeal.τ).loc Cert.ReferenceAdamPleIdeal.main_arg1)
          ∧ r.2.mem ((c.tc : Thread Cert.ReferenceAdamPleIdeal.nD Cert.ReferenceAdamPleIdeal.τ).loc Cert.ReferenceAdamPleIdeal.main_arg2) = m' ((c.tc : Thread Cert.ReferenceAdamPleIdeal.nD Cert.ReferenceAdamPleIdeal.τ).loc Cert.ReferenceAdamPleIdeal.main_arg2)
          ∧ r.2.mem ((c.tc : Thread Cert.ReferenceAdamPleIdeal.nD Cert.ReferenceAdamPleIdeal.τ).loc Cert.ReferenceAdamPleIdeal.main_arg3) = m' ((c.tc : Thread Cert.ReferenceAdamPleIdeal.nD Cert.ReferenceAdamPleIdeal.τ).loc Cert.ReferenceAdamPleIdeal.main_arg3))

def preserves_KernelAdamSmall_KernelAdamSmallIdeal : Prop :=
  True

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v0_0)) (v1 : (c : Dev Cert.KernelAdamSmallIdeal.nD) → Buf (Elt Ideal) ((c.tc : Thread Cert.KernelAdamSmallIdeal.nD Cert.KernelAdamSmallIdeal.τ).loc Cert.KernelAdamSmallIdeal.main_v0_1)) (v2 : (c : Dev Cert.KernelAdamSmallIdeal.nD) → Buf (Elt Ideal) ((c.tc : Thread Cert.KernelAdamSmallIdeal.nD Cert.KernelAdamSmallIdeal.τ).loc Cert.KernelAdamSmallIdeal.main_v0_2)) (v3 : (c : Dev Cert.KernelAdamSmallIdeal.nD) → Buf (Elt Ideal) ((c.tc : Thread Cert.KernelAdamSmallIdeal.nD Cert.KernelAdamSmallIdeal.τ).loc Cert.KernelAdamSmallIdeal.main_v0_3)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v0_0) = v0 c
          ∧ r.2.mem ((c.tc : Thread Cert.KernelAdamSmallIdeal.nD Cert.KernelAdamSmallIdeal.τ).loc Cert.KernelAdamSmallIdeal.main_v0_1) = v1 c
          ∧ r.2.mem ((c.tc : Thread Cert.KernelAdamSmallIdeal.nD Cert.KernelAdamSmallIdeal.τ).loc Cert.KernelAdamSmallIdeal.main_v0_2) = v2 c
          ∧ r.2.mem ((c.tc : Thread Cert.KernelAdamSmallIdeal.nD Cert.KernelAdamSmallIdeal.τ).loc Cert.KernelAdamSmallIdeal.main_v0_3) = v3 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_v0) = v0 c
          ∧ r.2.mem ((c.tc : Thread Cert.ReferenceAdamSmallIdeal.nD Cert.ReferenceAdamSmallIdeal.τ).loc Cert.ReferenceAdamSmallIdeal.main_v24) = v1 c
          ∧ r.2.mem ((c.tc : Thread Cert.ReferenceAdamSmallIdeal.nD Cert.ReferenceAdamSmallIdeal.τ).loc Cert.ReferenceAdamSmallIdeal.main_v5) = v2 c
          ∧ r.2.mem ((c.tc : Thread Cert.ReferenceAdamSmallIdeal.nD Cert.ReferenceAdamSmallIdeal.τ).loc Cert.ReferenceAdamSmallIdeal.main_v11) = v3 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3))

def Claim : Prop :=
  ∃ (hKernel : Cert.Kernel.Facts) (hKernelIdeal : Cert.KernelIdeal.Facts) (hReferenceIdeal : Cert.ReferenceIdeal.Facts) (hKernelFf2X : Cert.KernelFf2X.Facts) (hKernelFf2XIdeal : Cert.KernelFf2XIdeal.Facts) (hReferenceFf2XIdeal : Cert.ReferenceFf2XIdeal.Facts) (hKernelFf2W : Cert.KernelFf2W.Facts) (hKernelFf2WIdeal : Cert.KernelFf2WIdeal.Facts) (hReferenceFf2WIdeal : Cert.ReferenceFf2WIdeal.Facts) (hKernelFf1X : Cert.KernelFf1X.Facts) (hKernelFf1XIdeal : Cert.KernelFf1XIdeal.Facts) (hReferenceFf1XIdeal : Cert.ReferenceFf1XIdeal.Facts) (hKernelFf1W : Cert.KernelFf1W.Facts) (hKernelFf1WIdeal : Cert.KernelFf1WIdeal.Facts) (hReferenceFf1WIdeal : Cert.ReferenceFf1WIdeal.Facts) (hKernelInW : Cert.KernelInW.Facts) (hKernelInWIdeal : Cert.KernelInWIdeal.Facts) (hReferenceInWIdeal : Cert.ReferenceInWIdeal.Facts) (hKernelInX : Cert.KernelInX.Facts) (hKernelInXIdeal : Cert.KernelInXIdeal.Facts) (hReferenceInXIdeal : Cert.ReferenceInXIdeal.Facts) (hKernelGateX : Cert.KernelGateX.Facts) (hKernelGateXIdeal : Cert.KernelGateXIdeal.Facts) (hReferenceGateXIdeal : Cert.ReferenceGateXIdeal.Facts) (hKernelGateW : Cert.KernelGateW.Facts) (hKernelGateWIdeal : Cert.KernelGateWIdeal.Facts) (hReferenceGateWIdeal : Cert.ReferenceGateWIdeal.Facts) (hKernelSsdX : Cert.KernelSsdX.Facts) (hKernelSsdXIdeal : Cert.KernelSsdXIdeal.Facts) (hReferenceSsdXIdeal : Cert.ReferenceSsdXIdeal.Facts) (hKernelSsdW : Cert.KernelSsdW.Facts) (hKernelSsdWIdeal : Cert.KernelSsdWIdeal.Facts) (hReferenceSsdWIdeal : Cert.ReferenceSsdWIdeal.Facts) (hKernelOutX : Cert.KernelOutX.Facts) (hKernelOutXIdeal : Cert.KernelOutXIdeal.Facts) (hReferenceOutXIdeal : Cert.ReferenceOutXIdeal.Facts) (hKernelOutW : Cert.KernelOutW.Facts) (hKernelOutWIdeal : Cert.KernelOutWIdeal.Facts) (hReferenceOutWIdeal : Cert.ReferenceOutWIdeal.Facts) (hKernelPleGateX : Cert.KernelPleGateX.Facts) (hKernelPleGateXIdeal : Cert.KernelPleGateXIdeal.Facts) (hReferencePleGateXIdeal : Cert.ReferencePleGateXIdeal.Facts) (hKernelPleW : Cert.KernelPleW.Facts) (hKernelPleWIdeal : Cert.KernelPleWIdeal.Facts) (hReferencePleWIdeal : Cert.ReferencePleWIdeal.Facts) (hKernelIn : Cert.KernelIn.Facts) (hKernelInIdeal : Cert.KernelInIdeal.Facts) (hReferenceInIdeal : Cert.ReferenceInIdeal.Facts) (hKernelGate : Cert.KernelGate.Facts) (hKernelGateIdeal : Cert.KernelGateIdeal.Facts) (hReferenceGateIdeal : Cert.ReferenceGateIdeal.Facts) (hKernelFf1 : Cert.KernelFf1.Facts) (hKernelFf1Ideal : Cert.KernelFf1Ideal.Facts) (hReferenceFf1Ideal : Cert.ReferenceFf1Ideal.Facts) (hKernelFf2 : Cert.KernelFf2.Facts) (hKernelFf2Ideal : Cert.KernelFf2Ideal.Facts) (hReferenceFf2Ideal : Cert.ReferenceFf2Ideal.Facts) (hKernelSsd : Cert.KernelSsd.Facts) (hKernelSsdIdeal : Cert.KernelSsdIdeal.Facts) (hReferenceSsdIdeal : Cert.ReferenceSsdIdeal.Facts) (hKernelOut : Cert.KernelOut.Facts) (hKernelOutIdeal : Cert.KernelOutIdeal.Facts) (hReferenceOutIdeal : Cert.ReferenceOutIdeal.Facts) (hKernelPle : Cert.KernelPle.Facts) (hKernelPleIdeal : Cert.KernelPleIdeal.Facts) (hReferencePleIdeal : Cert.ReferencePleIdeal.Facts) (hKernelGates : Cert.KernelGates.Facts) (hKernelGatesIdeal : Cert.KernelGatesIdeal.Facts) (hReferenceGatesIdeal : Cert.ReferenceGatesIdeal.Facts) (hKernelNorm : Cert.KernelNorm.Facts) (hKernelNormIdeal : Cert.KernelNormIdeal.Facts) (hReferenceNormIdeal : Cert.ReferenceNormIdeal.Facts) (hKernelMidGrad : Cert.KernelMidGrad.Facts) (hKernelMidGradIdeal : Cert.KernelMidGradIdeal.Facts) (hReferenceMidGradIdeal : Cert.ReferenceMidGradIdeal.Facts) (hKernelFfnGrad : Cert.KernelFfnGrad.Facts) (hKernelFfnGradIdeal : Cert.KernelFfnGradIdeal.Facts) (hReferenceFfnGradIdeal : Cert.ReferenceFfnGradIdeal.Facts) (hKernelPre : Cert.KernelPre.Facts) (hKernelPreIdeal : Cert.KernelPreIdeal.Facts) (hReferencePreIdeal : Cert.ReferencePreIdeal.Facts) (hKernelMerge : Cert.KernelMerge.Facts) (hKernelMergeIdeal : Cert.KernelMergeIdeal.Facts) (hReferenceMergeIdeal : Cert.ReferenceMergeIdeal.Facts) (hKernelFfn : Cert.KernelFfn.Facts) (hKernelFfnIdeal : Cert.KernelFfnIdeal.Facts) (hReferenceFfnIdeal : Cert.ReferenceFfnIdeal.Facts) (hKernelMid : Cert.KernelMid.Facts) (hKernelMidIdeal : Cert.KernelMidIdeal.Facts) (hReferenceMidIdeal : Cert.ReferenceMidIdeal.Facts) (hKernelLoss : Cert.KernelLoss.Facts) (hKernelLossIdeal : Cert.KernelLossIdeal.Facts) (hReferenceLossIdeal : Cert.ReferenceLossIdeal.Facts) (hKernelScanNorm : Cert.KernelScanNorm.Facts) (hKernelScanNormIdeal : Cert.KernelScanNormIdeal.Facts) (hReferenceScanNormIdeal : Cert.ReferenceScanNormIdeal.Facts) (hKernelConvFwd : Cert.KernelConvFwd.Facts) (hKernelConvFwdIdeal : Cert.KernelConvFwdIdeal.Facts) (hReferenceConvFwdIdeal : Cert.ReferenceConvFwdIdeal.Facts) (hKernelAdam : Cert.KernelAdam.Facts) (hKernelAdamIdeal : Cert.KernelAdamIdeal.Facts) (hReferenceAdamIdeal : Cert.ReferenceAdamIdeal.Facts) (hKernelAdamSquare : Cert.KernelAdamSquare.Facts) (hKernelAdamSquareIdeal : Cert.KernelAdamSquareIdeal.Facts) (hReferenceAdamSquareIdeal : Cert.ReferenceAdamSquareIdeal.Facts) (hKernelAdamIn : Cert.KernelAdamIn.Facts) (hKernelAdamInIdeal : Cert.KernelAdamInIdeal.Facts) (hReferenceAdamInIdeal : Cert.ReferenceAdamInIdeal.Facts) (hKernelAdamConv : Cert.KernelAdamConv.Facts) (hKernelAdamConvIdeal : Cert.KernelAdamConvIdeal.Facts) (hReferenceAdamConvIdeal : Cert.ReferenceAdamConvIdeal.Facts) (hKernelAdamSsd : Cert.KernelAdamSsd.Facts) (hKernelAdamSsdIdeal : Cert.KernelAdamSsdIdeal.Facts) (hReferenceAdamSsdIdeal : Cert.ReferenceAdamSsdIdeal.Facts) (hKernelAdamGate : Cert.KernelAdamGate.Facts) (hKernelAdamGateIdeal : Cert.KernelAdamGateIdeal.Facts) (hReferenceAdamGateIdeal : Cert.ReferenceAdamGateIdeal.Facts) (hKernelAdamFf2 : Cert.KernelAdamFf2.Facts) (hKernelAdamFf2Ideal : Cert.KernelAdamFf2Ideal.Facts) (hReferenceAdamFf2Ideal : Cert.ReferenceAdamFf2Ideal.Facts) (hKernelAdamPle : Cert.KernelAdamPle.Facts) (hKernelAdamPleIdeal : Cert.KernelAdamPleIdeal.Facts) (hReferenceAdamPleIdeal : Cert.ReferenceAdamPleIdeal.Facts) (hKernelAdamSmall : Cert.KernelAdamSmall.Facts) (hKernelAdamSmallIdeal : Cert.KernelAdamSmallIdeal.Facts) (hReferenceAdamSmallIdeal : Cert.ReferenceAdamSmallIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelFf2X (hKernelFf2X := hKernelFf2X)
    ∧ quiescent_KernelFf2XIdeal (hKernelFf2XIdeal := hKernelFf2XIdeal)
    ∧ quiescent_ReferenceFf2XIdeal (hReferenceFf2XIdeal := hReferenceFf2XIdeal)
    ∧ quiescent_KernelFf2W (hKernelFf2W := hKernelFf2W)
    ∧ quiescent_KernelFf2WIdeal (hKernelFf2WIdeal := hKernelFf2WIdeal)
    ∧ quiescent_ReferenceFf2WIdeal (hReferenceFf2WIdeal := hReferenceFf2WIdeal)
    ∧ quiescent_KernelFf1X (hKernelFf1X := hKernelFf1X)
    ∧ quiescent_KernelFf1XIdeal (hKernelFf1XIdeal := hKernelFf1XIdeal)
    ∧ quiescent_ReferenceFf1XIdeal (hReferenceFf1XIdeal := hReferenceFf1XIdeal)
    ∧ quiescent_KernelFf1W (hKernelFf1W := hKernelFf1W)
    ∧ quiescent_KernelFf1WIdeal (hKernelFf1WIdeal := hKernelFf1WIdeal)
    ∧ quiescent_ReferenceFf1WIdeal (hReferenceFf1WIdeal := hReferenceFf1WIdeal)
    ∧ quiescent_KernelInW (hKernelInW := hKernelInW)
    ∧ quiescent_KernelInWIdeal (hKernelInWIdeal := hKernelInWIdeal)
    ∧ quiescent_ReferenceInWIdeal (hReferenceInWIdeal := hReferenceInWIdeal)
    ∧ quiescent_KernelInX (hKernelInX := hKernelInX)
    ∧ quiescent_KernelInXIdeal (hKernelInXIdeal := hKernelInXIdeal)
    ∧ quiescent_ReferenceInXIdeal (hReferenceInXIdeal := hReferenceInXIdeal)
    ∧ quiescent_KernelGateX (hKernelGateX := hKernelGateX)
    ∧ quiescent_KernelGateXIdeal (hKernelGateXIdeal := hKernelGateXIdeal)
    ∧ quiescent_ReferenceGateXIdeal (hReferenceGateXIdeal := hReferenceGateXIdeal)
    ∧ quiescent_KernelGateW (hKernelGateW := hKernelGateW)
    ∧ quiescent_KernelGateWIdeal (hKernelGateWIdeal := hKernelGateWIdeal)
    ∧ quiescent_ReferenceGateWIdeal (hReferenceGateWIdeal := hReferenceGateWIdeal)
    ∧ quiescent_KernelSsdX (hKernelSsdX := hKernelSsdX)
    ∧ quiescent_KernelSsdXIdeal (hKernelSsdXIdeal := hKernelSsdXIdeal)
    ∧ quiescent_ReferenceSsdXIdeal (hReferenceSsdXIdeal := hReferenceSsdXIdeal)
    ∧ quiescent_KernelSsdW (hKernelSsdW := hKernelSsdW)
    ∧ quiescent_KernelSsdWIdeal (hKernelSsdWIdeal := hKernelSsdWIdeal)
    ∧ quiescent_ReferenceSsdWIdeal (hReferenceSsdWIdeal := hReferenceSsdWIdeal)
    ∧ quiescent_KernelOutX (hKernelOutX := hKernelOutX)
    ∧ quiescent_KernelOutXIdeal (hKernelOutXIdeal := hKernelOutXIdeal)
    ∧ quiescent_ReferenceOutXIdeal (hReferenceOutXIdeal := hReferenceOutXIdeal)
    ∧ quiescent_KernelOutW (hKernelOutW := hKernelOutW)
    ∧ quiescent_KernelOutWIdeal (hKernelOutWIdeal := hKernelOutWIdeal)
    ∧ quiescent_ReferenceOutWIdeal (hReferenceOutWIdeal := hReferenceOutWIdeal)
    ∧ quiescent_KernelPleGateX (hKernelPleGateX := hKernelPleGateX)
    ∧ quiescent_KernelPleGateXIdeal (hKernelPleGateXIdeal := hKernelPleGateXIdeal)
    ∧ quiescent_ReferencePleGateXIdeal (hReferencePleGateXIdeal := hReferencePleGateXIdeal)
    ∧ quiescent_KernelPleW (hKernelPleW := hKernelPleW)
    ∧ quiescent_KernelPleWIdeal (hKernelPleWIdeal := hKernelPleWIdeal)
    ∧ quiescent_ReferencePleWIdeal (hReferencePleWIdeal := hReferencePleWIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelFf1 (hKernelFf1 := hKernelFf1)
    ∧ quiescent_KernelFf1Ideal (hKernelFf1Ideal := hKernelFf1Ideal)
    ∧ quiescent_ReferenceFf1Ideal (hReferenceFf1Ideal := hReferenceFf1Ideal)
    ∧ quiescent_KernelFf2 (hKernelFf2 := hKernelFf2)
    ∧ quiescent_KernelFf2Ideal (hKernelFf2Ideal := hKernelFf2Ideal)
    ∧ quiescent_ReferenceFf2Ideal (hReferenceFf2Ideal := hReferenceFf2Ideal)
    ∧ quiescent_KernelSsd (hKernelSsd := hKernelSsd)
    ∧ quiescent_KernelSsdIdeal (hKernelSsdIdeal := hKernelSsdIdeal)
    ∧ quiescent_ReferenceSsdIdeal (hReferenceSsdIdeal := hReferenceSsdIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelPle (hKernelPle := hKernelPle)
    ∧ quiescent_KernelPleIdeal (hKernelPleIdeal := hKernelPleIdeal)
    ∧ quiescent_ReferencePleIdeal (hReferencePleIdeal := hReferencePleIdeal)
    ∧ quiescent_KernelGates (hKernelGates := hKernelGates)
    ∧ quiescent_KernelGatesIdeal (hKernelGatesIdeal := hKernelGatesIdeal)
    ∧ quiescent_ReferenceGatesIdeal (hReferenceGatesIdeal := hReferenceGatesIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelMidGrad (hKernelMidGrad := hKernelMidGrad)
    ∧ quiescent_KernelMidGradIdeal (hKernelMidGradIdeal := hKernelMidGradIdeal)
    ∧ quiescent_ReferenceMidGradIdeal (hReferenceMidGradIdeal := hReferenceMidGradIdeal)
    ∧ quiescent_KernelFfnGrad (hKernelFfnGrad := hKernelFfnGrad)
    ∧ quiescent_KernelFfnGradIdeal (hKernelFfnGradIdeal := hKernelFfnGradIdeal)
    ∧ quiescent_ReferenceFfnGradIdeal (hReferenceFfnGradIdeal := hReferenceFfnGradIdeal)
    ∧ quiescent_KernelPre (hKernelPre := hKernelPre)
    ∧ quiescent_KernelPreIdeal (hKernelPreIdeal := hKernelPreIdeal)
    ∧ quiescent_ReferencePreIdeal (hReferencePreIdeal := hReferencePreIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelMid (hKernelMid := hKernelMid)
    ∧ quiescent_KernelMidIdeal (hKernelMidIdeal := hKernelMidIdeal)
    ∧ quiescent_ReferenceMidIdeal (hReferenceMidIdeal := hReferenceMidIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelScanNorm (hKernelScanNorm := hKernelScanNorm)
    ∧ quiescent_KernelScanNormIdeal (hKernelScanNormIdeal := hKernelScanNormIdeal)
    ∧ quiescent_ReferenceScanNormIdeal (hReferenceScanNormIdeal := hReferenceScanNormIdeal)
    ∧ quiescent_KernelConvFwd (hKernelConvFwd := hKernelConvFwd)
    ∧ quiescent_KernelConvFwdIdeal (hKernelConvFwdIdeal := hKernelConvFwdIdeal)
    ∧ quiescent_ReferenceConvFwdIdeal (hReferenceConvFwdIdeal := hReferenceConvFwdIdeal)
    ∧ quiescent_KernelAdam (hKernelAdam := hKernelAdam)
    ∧ quiescent_KernelAdamIdeal (hKernelAdamIdeal := hKernelAdamIdeal)
    ∧ quiescent_ReferenceAdamIdeal (hReferenceAdamIdeal := hReferenceAdamIdeal)
    ∧ quiescent_KernelAdamSquare (hKernelAdamSquare := hKernelAdamSquare)
    ∧ quiescent_KernelAdamSquareIdeal (hKernelAdamSquareIdeal := hKernelAdamSquareIdeal)
    ∧ quiescent_ReferenceAdamSquareIdeal (hReferenceAdamSquareIdeal := hReferenceAdamSquareIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamConv (hKernelAdamConv := hKernelAdamConv)
    ∧ quiescent_KernelAdamConvIdeal (hKernelAdamConvIdeal := hKernelAdamConvIdeal)
    ∧ quiescent_ReferenceAdamConvIdeal (hReferenceAdamConvIdeal := hReferenceAdamConvIdeal)
    ∧ quiescent_KernelAdamSsd (hKernelAdamSsd := hKernelAdamSsd)
    ∧ quiescent_KernelAdamSsdIdeal (hKernelAdamSsdIdeal := hKernelAdamSsdIdeal)
    ∧ quiescent_ReferenceAdamSsdIdeal (hReferenceAdamSsdIdeal := hReferenceAdamSsdIdeal)
    ∧ quiescent_KernelAdamGate (hKernelAdamGate := hKernelAdamGate)
    ∧ quiescent_KernelAdamGateIdeal (hKernelAdamGateIdeal := hKernelAdamGateIdeal)
    ∧ quiescent_ReferenceAdamGateIdeal (hReferenceAdamGateIdeal := hReferenceAdamGateIdeal)
    ∧ quiescent_KernelAdamFf2 (hKernelAdamFf2 := hKernelAdamFf2)
    ∧ quiescent_KernelAdamFf2Ideal (hKernelAdamFf2Ideal := hKernelAdamFf2Ideal)
    ∧ quiescent_ReferenceAdamFf2Ideal (hReferenceAdamFf2Ideal := hReferenceAdamFf2Ideal)
    ∧ quiescent_KernelAdamPle (hKernelAdamPle := hKernelAdamPle)
    ∧ quiescent_KernelAdamPleIdeal (hKernelAdamPleIdeal := hKernelAdamPleIdeal)
    ∧ quiescent_ReferenceAdamPleIdeal (hReferenceAdamPleIdeal := hReferenceAdamPleIdeal)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelFf2X_KernelFf2XIdeal
    ∧ algebraic_KernelFf2XIdeal_ReferenceFf2XIdeal (hKernelFf2XIdeal := hKernelFf2XIdeal) (hReferenceFf2XIdeal := hReferenceFf2XIdeal)
    ∧ preserves_KernelFf2W_KernelFf2WIdeal
    ∧ algebraic_KernelFf2WIdeal_ReferenceFf2WIdeal (hKernelFf2WIdeal := hKernelFf2WIdeal) (hReferenceFf2WIdeal := hReferenceFf2WIdeal)
    ∧ preserves_KernelFf1X_KernelFf1XIdeal
    ∧ algebraic_KernelFf1XIdeal_ReferenceFf1XIdeal (hKernelFf1XIdeal := hKernelFf1XIdeal) (hReferenceFf1XIdeal := hReferenceFf1XIdeal)
    ∧ preserves_KernelFf1W_KernelFf1WIdeal
    ∧ algebraic_KernelFf1WIdeal_ReferenceFf1WIdeal (hKernelFf1WIdeal := hKernelFf1WIdeal) (hReferenceFf1WIdeal := hReferenceFf1WIdeal)
    ∧ preserves_KernelInW_KernelInWIdeal
    ∧ algebraic_KernelInWIdeal_ReferenceInWIdeal (hKernelInWIdeal := hKernelInWIdeal) (hReferenceInWIdeal := hReferenceInWIdeal)
    ∧ preserves_KernelInX_KernelInXIdeal
    ∧ algebraic_KernelInXIdeal_ReferenceInXIdeal (hKernelInXIdeal := hKernelInXIdeal) (hReferenceInXIdeal := hReferenceInXIdeal)
    ∧ preserves_KernelGateX_KernelGateXIdeal
    ∧ algebraic_KernelGateXIdeal_ReferenceGateXIdeal (hKernelGateXIdeal := hKernelGateXIdeal) (hReferenceGateXIdeal := hReferenceGateXIdeal)
    ∧ preserves_KernelGateW_KernelGateWIdeal
    ∧ algebraic_KernelGateWIdeal_ReferenceGateWIdeal (hKernelGateWIdeal := hKernelGateWIdeal) (hReferenceGateWIdeal := hReferenceGateWIdeal)
    ∧ preserves_KernelSsdX_KernelSsdXIdeal
    ∧ algebraic_KernelSsdXIdeal_ReferenceSsdXIdeal (hKernelSsdXIdeal := hKernelSsdXIdeal) (hReferenceSsdXIdeal := hReferenceSsdXIdeal)
    ∧ preserves_KernelSsdW_KernelSsdWIdeal
    ∧ algebraic_KernelSsdWIdeal_ReferenceSsdWIdeal (hKernelSsdWIdeal := hKernelSsdWIdeal) (hReferenceSsdWIdeal := hReferenceSsdWIdeal)
    ∧ preserves_KernelOutX_KernelOutXIdeal
    ∧ algebraic_KernelOutXIdeal_ReferenceOutXIdeal (hKernelOutXIdeal := hKernelOutXIdeal) (hReferenceOutXIdeal := hReferenceOutXIdeal)
    ∧ preserves_KernelOutW_KernelOutWIdeal
    ∧ algebraic_KernelOutWIdeal_ReferenceOutWIdeal (hKernelOutWIdeal := hKernelOutWIdeal) (hReferenceOutWIdeal := hReferenceOutWIdeal)
    ∧ preserves_KernelPleGateX_KernelPleGateXIdeal
    ∧ algebraic_KernelPleGateXIdeal_ReferencePleGateXIdeal (hKernelPleGateXIdeal := hKernelPleGateXIdeal) (hReferencePleGateXIdeal := hReferencePleGateXIdeal)
    ∧ preserves_KernelPleW_KernelPleWIdeal
    ∧ algebraic_KernelPleWIdeal_ReferencePleWIdeal (hKernelPleWIdeal := hKernelPleWIdeal) (hReferencePleWIdeal := hReferencePleWIdeal)
    ∧ preserves_KernelIn_KernelInIdeal
    ∧ algebraic_KernelInIdeal_ReferenceInIdeal (hKernelInIdeal := hKernelInIdeal) (hReferenceInIdeal := hReferenceInIdeal)
    ∧ preserves_KernelGate_KernelGateIdeal
    ∧ algebraic_KernelGateIdeal_ReferenceGateIdeal (hKernelGateIdeal := hKernelGateIdeal) (hReferenceGateIdeal := hReferenceGateIdeal)
    ∧ preserves_KernelFf1_KernelFf1Ideal
    ∧ algebraic_KernelFf1Ideal_ReferenceFf1Ideal (hKernelFf1Ideal := hKernelFf1Ideal) (hReferenceFf1Ideal := hReferenceFf1Ideal)
    ∧ preserves_KernelFf2_KernelFf2Ideal
    ∧ algebraic_KernelFf2Ideal_ReferenceFf2Ideal (hKernelFf2Ideal := hKernelFf2Ideal) (hReferenceFf2Ideal := hReferenceFf2Ideal)
    ∧ preserves_KernelSsd_KernelSsdIdeal
    ∧ algebraic_KernelSsdIdeal_ReferenceSsdIdeal (hKernelSsdIdeal := hKernelSsdIdeal) (hReferenceSsdIdeal := hReferenceSsdIdeal)
    ∧ preserves_KernelOut_KernelOutIdeal
    ∧ algebraic_KernelOutIdeal_ReferenceOutIdeal (hKernelOutIdeal := hKernelOutIdeal) (hReferenceOutIdeal := hReferenceOutIdeal)
    ∧ preserves_KernelPle_KernelPleIdeal
    ∧ algebraic_KernelPleIdeal_ReferencePleIdeal (hKernelPleIdeal := hKernelPleIdeal) (hReferencePleIdeal := hReferencePleIdeal)
    ∧ preserves_KernelGates_KernelGatesIdeal
    ∧ algebraic_KernelGatesIdeal_ReferenceGatesIdeal (hKernelGatesIdeal := hKernelGatesIdeal) (hReferenceGatesIdeal := hReferenceGatesIdeal)
    ∧ preserves_KernelNorm_KernelNormIdeal
    ∧ algebraic_KernelNormIdeal_ReferenceNormIdeal (hKernelNormIdeal := hKernelNormIdeal) (hReferenceNormIdeal := hReferenceNormIdeal)
    ∧ preserves_KernelMidGrad_KernelMidGradIdeal
    ∧ algebraic_KernelMidGradIdeal_ReferenceMidGradIdeal (hKernelMidGradIdeal := hKernelMidGradIdeal) (hReferenceMidGradIdeal := hReferenceMidGradIdeal)
    ∧ preserves_KernelFfnGrad_KernelFfnGradIdeal
    ∧ algebraic_KernelFfnGradIdeal_ReferenceFfnGradIdeal (hKernelFfnGradIdeal := hKernelFfnGradIdeal) (hReferenceFfnGradIdeal := hReferenceFfnGradIdeal)
    ∧ preserves_KernelPre_KernelPreIdeal
    ∧ algebraic_KernelPreIdeal_ReferencePreIdeal (hKernelPreIdeal := hKernelPreIdeal) (hReferencePreIdeal := hReferencePreIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelMid_KernelMidIdeal
    ∧ algebraic_KernelMidIdeal_ReferenceMidIdeal (hKernelMidIdeal := hKernelMidIdeal) (hReferenceMidIdeal := hReferenceMidIdeal)
    ∧ preserves_KernelLoss_KernelLossIdeal
    ∧ algebraic_KernelLossIdeal_ReferenceLossIdeal (hKernelLossIdeal := hKernelLossIdeal) (hReferenceLossIdeal := hReferenceLossIdeal)
    ∧ preserves_KernelScanNorm_KernelScanNormIdeal
    ∧ algebraic_KernelScanNormIdeal_ReferenceScanNormIdeal (hKernelScanNormIdeal := hKernelScanNormIdeal) (hReferenceScanNormIdeal := hReferenceScanNormIdeal)
    ∧ preserves_KernelConvFwd_KernelConvFwdIdeal
    ∧ algebraic_KernelConvFwdIdeal_ReferenceConvFwdIdeal (hKernelConvFwdIdeal := hKernelConvFwdIdeal) (hReferenceConvFwdIdeal := hReferenceConvFwdIdeal)
    ∧ preserves_KernelAdam_KernelAdamIdeal
    ∧ algebraic_KernelAdamIdeal_ReferenceAdamIdeal (hKernelAdamIdeal := hKernelAdamIdeal) (hReferenceAdamIdeal := hReferenceAdamIdeal)
    ∧ preserves_KernelAdamSquare_KernelAdamSquareIdeal
    ∧ algebraic_KernelAdamSquareIdeal_ReferenceAdamSquareIdeal (hKernelAdamSquareIdeal := hKernelAdamSquareIdeal) (hReferenceAdamSquareIdeal := hReferenceAdamSquareIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamConv_KernelAdamConvIdeal
    ∧ algebraic_KernelAdamConvIdeal_ReferenceAdamConvIdeal (hKernelAdamConvIdeal := hKernelAdamConvIdeal) (hReferenceAdamConvIdeal := hReferenceAdamConvIdeal)
    ∧ preserves_KernelAdamSsd_KernelAdamSsdIdeal
    ∧ algebraic_KernelAdamSsdIdeal_ReferenceAdamSsdIdeal (hKernelAdamSsdIdeal := hKernelAdamSsdIdeal) (hReferenceAdamSsdIdeal := hReferenceAdamSsdIdeal)
    ∧ preserves_KernelAdamGate_KernelAdamGateIdeal
    ∧ algebraic_KernelAdamGateIdeal_ReferenceAdamGateIdeal (hKernelAdamGateIdeal := hKernelAdamGateIdeal) (hReferenceAdamGateIdeal := hReferenceAdamGateIdeal)
    ∧ preserves_KernelAdamFf2_KernelAdamFf2Ideal
    ∧ algebraic_KernelAdamFf2Ideal_ReferenceAdamFf2Ideal (hKernelAdamFf2Ideal := hKernelAdamFf2Ideal) (hReferenceAdamFf2Ideal := hReferenceAdamFf2Ideal)
    ∧ preserves_KernelAdamPle_KernelAdamPleIdeal
    ∧ algebraic_KernelAdamPleIdeal_ReferenceAdamPleIdeal (hKernelAdamPleIdeal := hKernelAdamPleIdeal) (hReferenceAdamPleIdeal := hReferenceAdamPleIdeal)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
-- ==== Pre_finite.lean ====
abbrev S4096x9216 : Shape := ⟨2, ![4096, 9216]⟩
abbrev S4096x1024 : Shape := ⟨2, ![4096, 1024]⟩
abbrev S4096x3072 : Shape := ⟨2, ![4096, 3072]⟩
abbrev S_ : Shape := ⟨0, ![]⟩

class Facts : Prop where
  slices_S4096x9216_S4096x3072_0_6144 : S4096x9216.Slices ![0, 6144] S4096x3072
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x9216 .f32) (main_arg1 : FVec F S4096x1024 .f32) : IVec S_ 1 :=
  let main_v0 : FVec F S4096x3072 .f32 := (extractStridedSlice S4096x3072 ![0, 6144] · slices_S4096x9216_S4096x3072_0_6144) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_c : IVec S_ 1 := constantI S_ 1 1#1
  let main_v4 : IVec S_ 1 := (fun x v => Host.reduce IntOp.andi x v reducesTo_S4096x3072_S_d0_1 h_S_) main_v3 main_c
  let main_v5 : FVec F S4096x1024 .f32 := Host.absf main_arg1
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v4 main_v8
  main_v9
-- ==== Kernel.lean ====
abbrev S4096x9216 : Shape := ⟨2, ![4096, 9216]⟩
abbrev S4096x1024 : Shape := ⟨2, ![4096, 1024]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S4096x16 : Shape := ⟨2, ![4096, 16]⟩
abbrev S8x16 : Shape := ⟨2, ![8, 16]⟩
abbrev S256x128 : Shape := ⟨2, ![256, 128]⟩
abbrev S4096x128 : Shape := ⟨2, ![4096, 128]⟩
abbrev S512x128 : Shape := ⟨2, ![512, 128]⟩
abbrev S256 : Shape := ⟨1, ![256]⟩
abbrev S256x1 : Shape := ⟨2, ![256, 1]⟩
abbrev S512x1 : Shape := ⟨2, ![512, 1]⟩
abbrev S512x256 : Shape := ⟨2, ![512, 256]⟩
abbrev S256x256 : Shape := ⟨2, ![256, 256]⟩
abbrev S1x1 : Shape := ⟨2, ![1, 1]⟩
abbrev S1024x256 : Shape := ⟨2, ![1024, 256]⟩
abbrev S512 : Shape := ⟨1, ![512]⟩

abbrev nBuf : Space → Nat
  | .hbm => 52
  | .vmem => 16
  | .smem => 1
  | _ => 0

abbrev bufTy : (tb : Table) → Fin (tcTables nBuf tb) → BufTy
  | .hbm, ⟨0, _⟩ => ⟨S4096x9216, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x16x64, .f32⟩
  | .hbm, ⟨5, _⟩ => ⟨S16x4096x64, .f32⟩
  | .hbm, ⟨6, _⟩ => ⟨S4096x16x64, .f32⟩
  | .hbm, ⟨7, _⟩ => ⟨S16x4096x64, .f32⟩
  | .hbm, ⟨8, _⟩ => ⟨S16x4096x4096, .f32⟩
  | .hbm, ⟨9, _⟩ => ⟨S_, .f32⟩
  | .hbm, ⟨10, _⟩ => ⟨S16x4096x4096, .f32⟩
  | .hbm, ⟨11, _⟩ => ⟨S16x4096x4096, .f32⟩
  | .hbm, ⟨12, _⟩ => ⟨S4096, .i32⟩
  | .hbm, ⟨13, _⟩ => ⟨S1x4096, .i32⟩
  | .hbm, ⟨14, _⟩ => ⟨S4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S16x4096x4096, .f32⟩
  | .hbm, ⟨20, _⟩ => ⟨S16x4096x4096, .f32⟩
  | .hbm, ⟨21, _⟩ => ⟨S_, .f32⟩
  | .hbm, ⟨22, _⟩ => ⟨S16x4096x4096, .f32⟩
  | .hbm, ⟨23, _⟩ => ⟨S16x4096x4096, .f32⟩
  | .hbm, ⟨24, _⟩ => ⟨S16x4096x4096, .f32⟩
  | .hbm, ⟨25, _⟩ => ⟨S16x4096x4096, .f32⟩
  | .hbm, ⟨26, _⟩ => ⟨S16x4096x4096, .i1⟩
  | .hbm, ⟨27, _⟩ => ⟨S16x4096x4096, .f32⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S_, .f32⟩
  | .hbm, ⟨37, _⟩ => ⟨S_, .f32⟩
  | .hbm, ⟨38, _⟩ => ⟨S16x4096x4096, .i1⟩
  | .hbm, ⟨39, _⟩ => ⟨S16x4096x4096, .f32⟩
  | .hbm, ⟨40, _⟩ => ⟨S16x4096x4096, .f32⟩
  | .hbm, ⟨41, _⟩ => ⟨S_, .f32⟩
  | .hbm, ⟨42, _⟩ => ⟨S16x4096, .f32⟩
  | .hbm, ⟨43, _⟩ => ⟨S16x4096, .f32⟩
  | .hbm, ⟨44, _⟩ => ⟨S4096x16, .f32⟩
  | .hbm, ⟨45, _⟩ => ⟨S4096x16x64, .f32⟩
  | .hbm, ⟨46, _⟩ => ⟨S4096x1024, .f32⟩
  | .hbm, ⟨47, _⟩ => ⟨S_, .i32⟩
  | .hbm, ⟨48, _⟩ => ⟨S8x16, .i32⟩
  | .hbm, ⟨49, _⟩ => ⟨S4096x1024, .bf16⟩
  | .hbm, ⟨50, _⟩ => ⟨S4096x1024, .f32⟩
  | .hbm, ⟨51, _⟩ => ⟨S4096x1024, .f32⟩
  | .local _ .vmem, ⟨0, _⟩ => ⟨S256x128, .f32⟩
  | .local _ .vmem, ⟨1, _⟩ => ⟨S256x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .bf16⟩
  | .local _ .vmem, ⟨11, _⟩ => ⟨S256x128, .bf16⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .smem, ⟨0, _⟩ => ⟨S8x16, .i32⟩
  | _, _ => ⟨S4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c : Ref sig .tc := ⟨.hbm, 47, rfl⟩
abbrev main_v24 : Ref sig .tc := ⟨.hbm, 48, rfl⟩
abbrev main_v25_0 : Ref sig .tc := ⟨.hbm, 49, rfl⟩
abbrev main_v25_1 : Ref sig .tc := ⟨.hbm, 50, rfl⟩
abbrev main_v25_2 : Ref sig .tc := ⟨.hbm, 51, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 16], ![false, false]⟩

def k0_off1 (i : grid0.Coords) : Fin 2 → Nat :=
  let arg0 : BitVec 32 := BitVec.ofNat 32 (i 0).val
  let v65 : Index := Scalar.indexCast arg0
  let arg1 : BitVec 32 := BitVec.ofNat 32 (i 1).val
  let v66 : Index := Scalar.indexCast arg1
  ![v65.toNat, v66.toNat]
@[reducible] def k0_t1_loop (i : grid0.Coords) (v67 : BitVec 32) : Scf.Loop 32 :=
  let arg1 : BitVec 32 := BitVec.ofNat 32 (i 1).val
  let c1_i32_22 : BitVec 32 := 1#32
  let v72 : BitVec 32 := Scalar.addi arg1 c1_i32_22
  let c1_i32 : BitVec 32 := 1#32
  let v68 : BitVec 32 := Scalar.addi arg1 c1_i32
  let c1_i32_20 : BitVec 32 := 1#32
  let v69 : BitVec 32 := Scalar.maxsi c1_i32_20 v67
  let v70 : BitVec 32 := Scalar.minsi v68 v69
  let v73 : BitVec 32 := Scalar.subi v72 v70
  let v75 : BitVec 32 := Scalar.subi arg1 v73
  let c1_i32_24 : BitVec 32 := 1#32
  let v77 : BitVec 32 := Scalar.divsi v75 c1_i32_24
  let v78 : BitVec 32 := Scalar.muli v77 c1_i32_24
  let v79 : BitVec 32 := Scalar.addi v73 v78
  let c1_i32_25 : BitVec 32 := 1#32
  ⟨v73, v79, c1_i32_25⟩

def k0_mult1 (i : grid0.Coords) (v67 : BitVec 32) (k0_t1 : Fin (k0_t1_loop i v67).trips) : BitVec 32 :=
  let arg1 : BitVec 32 := BitVec.ofNat 32 (i 1).val
  let c1_i32_22 : BitVec 32 := 1#32
  let v72 : BitVec 32 := Scalar.addi arg1 c1_i32_22
  let c1_i32 : BitVec 32 := 1#32
  let v68 : BitVec 32 := Scalar.addi arg1 c1_i32
  let c1_i32_20 : BitVec 32 := 1#32
  let v69 : BitVec 32 := Scalar.maxsi c1_i32_20 v67
  let v70 : BitVec 32 := Scalar.minsi v68 v69
  let v73 : BitVec 32 := Scalar.subi v72 v70
  let c1_i32_25 : BitVec 32 := 1#32
  let arg11 : BitVec 32 := Scf.iv v73 c1_i32_25 k0_t1
  let c256_i32_55 : BitVec 32 := 256#32
  let v177 : BitVec 32 := Scalar.muli arg11 c256_i32_55
  v177
def k0_off2 (i : grid0.Coords) (v67 : BitVec 32) (k0_t1 : Fin (k0_t1_loop i v67).trips) : Fin 2 → Nat :=
  let arg1 : BitVec 32 := BitVec.ofNat 32 (i 1).val
  let c1_i32_22 : BitVec 32 := 1#32
  let v72 : BitVec 32 := Scalar.addi arg1 c1_i32_22
  let c1_i32 : BitVec 32 := 1#32
  let v68 : BitVec 32 := Scalar.addi arg1 c1_i32
  let c1_i32_20 : BitVec 32 := 1#32
  let v69 : BitVec 32 := Scalar.maxsi c1_i32_20 v67
  let v70 : BitVec 32 := Scalar.minsi v68 v69
  let v73 : BitVec 32 := Scalar.subi v72 v70
  let c1_i32_25 : BitVec 32 := 1#32
  let arg11 : BitVec 32 := Scf.iv v73 c1_i32_25 k0_t1
  let c256_i32_55 : BitVec 32 := 256#32
  let v177 : BitVec 32 := Scalar.muli arg11 c256_i32_55
  let v178 : BitVec 32 := v177
  let v180 : Index := Scalar.indexCast v178
  let c0_58 : Index := 0#32
  ![v180.toNat, 0]
@[reducible] def k0_t2_loop (i : grid0.Coords) (v67 : BitVec 32) : Scf.Loop 32 :=
  let arg1 : BitVec 32 := BitVec.ofNat 32 (i 1).val
  let c1_i32_22 : BitVec 32 := 1#32
  let v72 : BitVec 32 := Scalar.addi arg1 c1_i32_22
  let c1_i32 : BitVec 32 := 1#32
  let v68 : BitVec 32 := Scalar.addi arg1 c1_i32
  let c1_i32_20 : BitVec 32 := 1#32
  let v69 : BitVec 32 := Scalar.maxsi c1_i32_20 v67
  let v70 : BitVec 32 := Scalar.minsi v68 v69
  let v73 : BitVec 32 := Scalar.subi v72 v70
  let v75 : BitVec 32 := Scalar.subi arg1 v73
  let c1_i32_24 : BitVec 32 := 1#32
  let v77 : BitVec 32 := Scalar.divsi v75 c1_i32_24
  let v78 : BitVec 32 := Scalar.muli v77 c1_i32_24
  let v79 : BitVec 32 := Scalar.addi v73 v78
  let v76 : BitVec 32 := Scalar.addi v73 v75
  let c1_i32_26 : BitVec 32 := 1#32
  ⟨v79, v76, c1_i32_26⟩
def k0_mult2 (i : grid0.Coords) (v67 : BitVec 32) (k0_t2 : Fin (k0_t2_loop i v67).trips) : BitVec 32 :=
  let arg1 : BitVec 32 := BitVec.ofNat 32 (i 1).val
  let c1_i32_22 : BitVec 32 := 1#32
  let v72 : BitVec 32 := Scalar.addi arg1 c1_i32_22
  let c1_i32 : BitVec 32 := 1#32
  let v68 : BitVec 32 := Scalar.addi arg1 c1_i32
  let c1_i32_20 : BitVec 32 := 1#32
  let v69 : BitVec 32 := Scalar.maxsi c1_i32_20 v67
  let v70 : BitVec 32 := Scalar.minsi v68 v69
  let v73 : BitVec 32 := Scalar.subi v72 v70
  let v75 : BitVec 32 := Scalar.subi arg1 v73
  let c1_i32_24 : BitVec 32 := 1#32
  let v77 : BitVec 32 := Scalar.divsi v75 c1_i32_24
  let v78 : BitVec 32 := Scalar.muli v77 c1_i32_24
  let v79 : BitVec 32 := Scalar.addi v73 v78
  let c1_i32_26 : BitVec 32 := 1#32
  let arg11 : BitVec 32 := Scf.iv v79 c1_i32_26 k0_t2
  let c256_i32_55 : BitVec 32 := 256#32
  let v177 : BitVec 32 := Scalar.muli arg11 c256_i32_55
  v177
def k0_off3 (i : grid0.Coords) (v67 : BitVec 32) (k0_t2 : Fin (k0_t2_loop i v67).trips) : Fin 2 → Nat :=
  let arg1 : BitVec 32 := BitVec.ofNat 32 (i 1).val
  let c1_i32_22 : BitVec 32 := 1#32
  let v72 : BitVec 32 := Scalar.addi arg1 c1_i32_22
  let c1_i32 : BitVec 32 := 1#32
  let v68 : BitVec 32 := Scalar.addi arg1 c1_i32
  let c1_i32_20 : BitVec 32 := 1#32
  let v69 : BitVec 32 := Scalar.maxsi c1_i32_20 v67
  let v70 : BitVec 32 := Scalar.minsi v68 v69
  let v73 : BitVec 32 := Scalar.subi v72 v70
  let v75 : BitVec 32 := Scalar.subi arg1 v73
  let c1_i32_24 : BitVec 32 := 1#32
  let v77 : BitVec 32 := Scalar.divsi v75 c1_i32_24
  let v78 : BitVec 32 := Scalar.muli v77 c1_i32_24
  let v79 : BitVec 32 := Scalar.addi v73 v78
  let c1_i32_26 : BitVec 32 := 1#32
  let arg11 : BitVec 32 := Scf.iv v79 c1_i32_26 k0_t2
  let c256_i32_55 : BitVec 32 := 256#32
  let v177 : BitVec 32 := Scalar.muli arg11 c256_i32_55
  let v178 : BitVec 32 := v177
  let v180 : Index := Scalar.indexCast v178
  let c0_58 : Index := 0#32
  ![v180.toNat, 0]

def k0_chk1 (i : grid0.Coords) (v67 : BitVec 32) : Prop :=
  ((k0_t1_loop i v67).OK) ∧
  (∀ k0_t1 : Fin (k0_t1_loop i v67).trips, 256 ∣ (k0_mult1 i v67 k0_t1).toNat) ∧
  (∀ k0_t1 : Fin (k0_t1_loop i v67).trips, ∀ a, (k0_off2 i v67 k0_t1) a + S256x128.size a ≤ S4096x128.size a) ∧
  ((k0_t2_loop i v67).OK) ∧
  (∀ k0_t2 : Fin (k0_t2_loop i v67).trips, 256 ∣ (k0_mult2 i v67 k0_t2).toNat) ∧
  (∀ k0_t2 : Fin (k0_t2_loop i v67).trips, ∀ a, (k0_off3 i v67 k0_t2) a + S256x128.size a ≤ S4096x128.size a)
theorem k0_t1_ok : ∀ (i : grid0.Coords) (v67 : BitVec 32) (k0_hw1 : k0_chk1 i v67), (k0_t1_loop i v67).OK := fun i v67 k0_hw1 => k0_hw1.1
theorem k0_mult1_dvd : ∀ (i : grid0.Coords) (v67 : BitVec 32) (k0_hw1 : k0_chk1 i v67) (k0_t1 : Fin (k0_t1_loop i v67).trips), 256 ∣ (k0_mult1 i v67 k0_t1).toNat := fun i v67 k0_hw1 k0_t1 => k0_hw1.2.1 k0_t1
theorem k0_off2_inb : ∀ (i : grid0.Coords) (v67 : BitVec 32) (k0_hw1 : k0_chk1 i v67) (k0_t1 : Fin (k0_t1_loop i v67).trips), ∀ a, (k0_off2 i v67 k0_t1) a + S256x128.size a ≤ S4096x128.size a := fun i v67 k0_hw1 k0_t1 => k0_hw1.2.2.1 k0_t1
theorem k0_t2_ok : ∀ (i : grid0.Coords) (v67 : BitVec 32) (k0_hw1 : k0_chk1 i v67), (k0_t2_loop i v67).OK := fun i v67 k0_hw1 => k0_hw1.2.2.2.1
theorem k0_mult2_dvd : ∀ (i : grid0.Coords) (v67 : BitVec 32) (k0_hw1 : k0_chk1 i v67) (k0_t2 : Fin (k0_t2_loop i v67).trips), 256 ∣ (k0_mult2 i v67 k0_t2).toNat := fun i v67 k0_hw1 k0_t2 => k0_hw1.2.2.2.2.1 k0_t2
theorem k0_off3_inb : ∀ (i : grid0.Coords) (v67 : BitVec 32) (k0_hw1 : k0_chk1 i v67) (k0_t2 : Fin (k0_t2_loop i v67).trips), ∀ a, (k0_off3 i v67 k0_t2) a + S256x128.size a ≤ S4096x128.size a := fun i v67 k0_hw1 k0_t2 => k0_hw1.2.2.2.2.2 k0_t2

def k0_mult3 (i : grid0.Coords) : BitVec 32 :=
  let arg1 : BitVec 32 := BitVec.ofNat 32 (i 1).val
  let c256_i32_27 : BitVec 32 := 256#32
  let v82 : BitVec 32 := Scalar.muli arg1 c256_i32_27
  v82
def k0_off4 (i : grid0.Coords) : Fin 2 → Nat :=
  let arg1 : BitVec 32 := BitVec.ofNat 32 (i 1).val
  let c256_i32_27 : BitVec 32 := 256#32
  let v82 : BitVec 32 := Scalar.muli arg1 c256_i32_27
  let v83 : BitVec 32 := v82
  let v85 : Index := Scalar.indexCast v83
  let c0_30 : Index := 0#32
  ![v85.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S8x16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4096x9216 : Shape := ⟨2, ![4096, 9216]⟩
abbrev S4096x1024 : Shape := ⟨2, ![4096, 1024]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x64x4096 : Shape := ⟨3, ![16, 64, 4096]⟩

abbrev nBuf : Space → Nat
  | .hbm => 183
  | .vmem => 0
  | .smem => 0
  | _ => 0

abbrev hbmTy0_0 (i : Nat) : BufTy := match i % 128 with
  | 0 => ⟨S4096x9216, .f32⟩
  | 1 => ⟨S4096x1024, .f32⟩
  | 2 => ⟨S4096x1024, .f32⟩
  | 3 => ⟨S4096x1024, .f32⟩
  | 4 => ⟨S4096x1024, .f32⟩
  | 5 => ⟨S4096x16x64, .f32⟩
  | 6 => ⟨S16x4096x64, .f32⟩
  | 7 => ⟨S4096x16x64, .f32⟩
  | 8 => ⟨S16x4096x64, .f32⟩
  | 9 => ⟨S4096x16x64, .f32⟩
  | 10 => ⟨S16x4096x64, .f32⟩
  | 11 => ⟨S16x4096x4096, .f32⟩
  | 12 => ⟨S_, .f32⟩
  | 13 => ⟨S16x4096x4096, .f32⟩
  | 14 => ⟨S16x4096x4096, .f32⟩
  | 15 => ⟨S4096, .i32⟩
  | 16 => ⟨S1x4096, .i32⟩
  | 17 => ⟨S4096, .i32⟩
  | 18 => ⟨S4096x1, .i32⟩
  | 19 => ⟨S4096x4096, .i32⟩
  | 20 => ⟨S4096x4096, .i32⟩
  | 21 => ⟨S4096x4096, .i1⟩
  | 22 => ⟨S16x4096x4096, .f32⟩
  | 23 => ⟨S16x4096x4096, .f32⟩
  | 24 => ⟨S_, .f32⟩
  | 25 => ⟨S16x4096x4096, .f32⟩
  | 26 => ⟨S16x4096x4096, .f32⟩
  | 27 => ⟨S16x4096x4096, .f32⟩
  | 28 => ⟨S16x4096x4096, .f32⟩
  | 29 => ⟨S16x4096x4096, .i1⟩
  | 30 => ⟨S16x4096x4096, .f32⟩
  | 31 => ⟨S16x4096x4096, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S16x4096x4096, .f32⟩
  | 38 => ⟨S_, .f32⟩
  | 39 => ⟨S16x4096x4096, .f32⟩
  | 40 => ⟨S16x4096x4096, .i1⟩
  | 41 => ⟨S_, .f32⟩
  | 42 => ⟨S16x4096x4096, .f32⟩
  | 43 => ⟨S16x4096x4096, .f32⟩
  | 44 => ⟨S_, .f32⟩
  | 45 => ⟨S16x4096x4096, .f32⟩
  | 46 => ⟨S16x4096x4096, .i1⟩
  | 47 => ⟨S_, .f32⟩
  | 48 => ⟨S16x4096x4096, .f32⟩
  | 49 => ⟨S16x4096x4096, .f32⟩
  | 50 => ⟨S16x4096x4096, .f32⟩
  | 51 => ⟨S16x4096x4096, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S16x4096x4096, .f32⟩
  | 60 => ⟨S16x4096x4096, .i1⟩
  | 61 => ⟨S_, .f32⟩
  | 62 => ⟨S16x4096x4096, .f32⟩
  | 63 => ⟨S16x4096x4096, .f32⟩
  | 64 => ⟨S16x4096x4096, .f32⟩
  | 65 => ⟨S16x4096x4096, .f32⟩
  | 66 => ⟨S16x4096x4096, .f32⟩
  | 67 => ⟨S_, .f32⟩
  | 68 => ⟨S16x4096x4096, .f32⟩
  | 69 => ⟨S16x4096x4096, .f32⟩
  | 70 => ⟨S16x4096x4096, .f32⟩
  | 71 => ⟨S_, .f32⟩
  | 72 => ⟨S_, .f32⟩
  | 73 => ⟨S16x4096x4096, .i1⟩
  | 74 => ⟨S16x4096x4096, .f32⟩
  | 75 => ⟨S16x4096x4096, .f32⟩
  | 76 => ⟨S_, .f32⟩
  | 77 => ⟨S16x4096x4096, .f32⟩
  | 78 => ⟨S16x4096x4096, .f32⟩
  | 79 => ⟨S_, .f32⟩
  | 80 => ⟨S_, .f32⟩
  | 81 => ⟨S16x4096x4096, .f32⟩
  | 82 => ⟨S16x4096x4096, .f32⟩
  | 83 => ⟨S16x4096x4096, .f32⟩
  | 84 => ⟨S16x4096x4096, .f32⟩
  | 85 => ⟨S_, .f32⟩
  | 86 => ⟨S16x4096x4096, .f32⟩
  | 87 => ⟨S16x4096x4096, .f32⟩
  | 88 => ⟨S16x4096x4096, .f32⟩
  | 89 => ⟨S16x4096x4096, .f32⟩
  | 90 => ⟨S16x4096x4096, .i1⟩
  | 91 => ⟨S16x4096x4096, .f32⟩
  | 92 => ⟨S16x4096x4096, .f32⟩
  | 93 => ⟨S16x4096x4096, .f32⟩
  | 94 => ⟨S16x4096x4096, .f32⟩
  | 95 => ⟨S16x4096x4096, .f32⟩
  | 96 => ⟨S16x4096x4096, .f32⟩
  | 97 => ⟨S16x4096x4096, .f32⟩
  | 98 => ⟨S16x4096x4096, .f32⟩
  | 99 => ⟨S_, .f32⟩
  | 100 => ⟨S16x4096x4096, .f32⟩
  | 101 => ⟨S16x4096x4096, .i1⟩
  | 102 => ⟨S_, .f32⟩
  | 103 => ⟨S16x4096x4096, .f32⟩
  | 104 => ⟨S16x4096x4096, .f32⟩
  | 105 => ⟨S_, .f32⟩
  | 106 => ⟨S16x4096x4096, .f32⟩
  | 107 => ⟨S16x4096x4096, .i1⟩
  | 108 => ⟨S_, .f32⟩
  | 109 => ⟨S16x4096x4096, .f32⟩
  | 110 => ⟨S16x4096x4096, .f32⟩
  | 111 => ⟨S16x4096x4096, .f32⟩
  | 112 => ⟨S16x4096x4096, .f32⟩
  | 113 => ⟨S_, .f32⟩
  | 114 => ⟨S_, .f32⟩
  | 115 => ⟨S_, .i1⟩
  | 116 => ⟨S_, .f32⟩
  | 117 => ⟨S_, .f32⟩
  | 118 => ⟨S_, .f32⟩
  | 119 => ⟨S_, .f32⟩
  | 120 => ⟨S16x4096x4096, .f32⟩
  | 121 => ⟨S16x4096x4096, .i1⟩
  | 122 => ⟨S_, .f32⟩
  | 123 => ⟨S16x4096x4096, .f32⟩
  | 124 => ⟨S16x4096x4096, .f32⟩
  | 125 => ⟨S16x4096x4096, .f32⟩
  | 126 => ⟨S16x4096x4096, .f32⟩
  | 127 => ⟨S16x4096x4096, .f32⟩
  | _ => ⟨S4096x9216, .f32⟩

abbrev hbmTy0_1 (i : Nat) : BufTy := match i % 128 with
  | 0 => ⟨S_, .f32⟩
  | 1 => ⟨S16x4096x4096, .f32⟩
  | 2 => ⟨S16x4096x4096, .f32⟩
  | 3 => ⟨S16x4096x4096, .f32⟩
  | 4 => ⟨S16x4096x4096, .f32⟩
  | 5 => ⟨S16x4096x4096, .f32⟩
  | 6 => ⟨S_, .f32⟩
  | 7 => ⟨S_, .f32⟩
  | 8 => ⟨S16x4096x4096, .i1⟩
  | 9 => ⟨S16x4096x4096, .f32⟩
  | 10 => ⟨S16x4096x4096, .f32⟩
  | 11 => ⟨S_, .f32⟩
  | 12 => ⟨S16x4096x4096, .f32⟩
  | 13 => ⟨S16x4096x64, .f32⟩
  | 14 => ⟨S4096x16x64, .f32⟩
  | 15 => ⟨S4096x1024, .f32⟩
  | 16 => ⟨S4096x16x64, .f32⟩
  | 17 => ⟨S16x4096x64, .f32⟩
  | 18 => ⟨S16x64x4096, .f32⟩
  | 19 => ⟨S16x4096x64, .f32⟩
  | 20 => ⟨S16x4096x4096, .f32⟩
  | 21 => ⟨S_, .f32⟩
  | 22 => ⟨S16x4096x4096, .f32⟩
  | 23 => ⟨S16x4096x4096, .f32⟩
  | 24 => ⟨S16x4096x4096, .f32⟩
  | 25 => ⟨S16x4096x4096, .f32⟩
  | 26 => ⟨S16x4096x4096, .f32⟩
  | 27 => ⟨S16x4096x4096, .f32⟩
  | 28 => ⟨S16x4096x4096, .f32⟩
  | 29 => ⟨S16x4096x4096, .f32⟩
  | 30 => ⟨S_, .f32⟩
  | 31 => ⟨S_, .f32⟩
  | 32 => ⟨S16x4096x4096, .f32⟩
  | 33 => ⟨S16x4096x4096, .f32⟩
  | 34 => ⟨S16x4096x4096, .f32⟩
  | 35 => ⟨S_, .f32⟩
  | 36 => ⟨S16x4096x4096, .f32⟩
  | 37 => ⟨S16x4096x4096, .f32⟩
  | 38 => ⟨S16x4096x4096, .f32⟩
  | 39 => ⟨S16x4096x4096, .f32⟩
  | 40 => ⟨S16x4096x4096, .f32⟩
  | 41 => ⟨S16x4096x4096, .f32⟩
  | 42 => ⟨S16x4096x4096, .f32⟩
  | 43 => ⟨S_, .f32⟩
  | 44 => ⟨S16x4096x4096, .f32⟩
  | 45 => ⟨S16x4096x4096, .f32⟩
  | 46 => ⟨S16x4096x64, .f32⟩
  | 47 => ⟨S16x4096x64, .f32⟩
  | 48 => ⟨S4096x16x64, .f32⟩
  | 49 => ⟨S4096x1024, .f32⟩
  | 50 => ⟨S4096x16x64, .f32⟩
  | 51 => ⟨S4096x1024, .f32⟩
  | 52 => ⟨S4096x16x64, .f32⟩
  | 53 => ⟨S4096x1024, .f32⟩
  | 54 => ⟨S4096x1024, .bf16⟩
  | _ => ⟨S4096x9216, .f32⟩

abbrev hbmTy (i : Nat) : BufTy := match i / 128 with
  | 0 => hbmTy0_0 i
  | 1 => hbmTy0_1 i
  | _ => ⟨S4096x9216, .f32⟩

abbrev bufTy : (tb : Table) → Fin (tcTables nBuf tb) → BufTy
  | .hbm, ⟨i, _⟩ => hbmTy i
  | _, _ => ⟨S4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v20_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v20_2 : Ref sig .tc := ⟨.hbm, 69, rfl⟩
abbrev main_v20_0 : Ref sig .tc := ⟨.hbm, 70, rfl⟩
abbrev main_cst_0 : Ref sig .tc := ⟨.hbm, 71, rfl⟩
abbrev main_call1_v0 : Ref sig .tc := ⟨.hbm, 72, rfl⟩
abbrev main_v21_1 : Ref sig .tc := ⟨.hbm, 73, rfl⟩
abbrev main_call1_v2 : Ref sig .tc := ⟨.hbm, 74, rfl⟩
abbrev main_v21_0 : Ref sig .tc := ⟨.hbm, 75, rfl⟩
abbrev main_call1_cst : Ref sig .tc := ⟨.hbm, 76, rfl⟩
abbrev main_v21_2 : Ref sig .tc := ⟨.hbm, 77, rfl⟩
abbrev main_v22 : Ref sig .tc := ⟨.hbm, 78, rfl⟩
abbrev main_call3_call0_cst : Ref sig .tc := ⟨.hbm, 79, rfl⟩
abbrev main_call3_call0_v0 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_call5_v0 : Ref sig .tc := ⟨.hbm, 84, rfl⟩
abbrev main_call5_call0_cst : Ref sig .tc := ⟨.hbm, 85, rfl⟩
abbrev main_call5_call0_v0 : Ref sig .tc := ⟨.hbm, 86, rfl⟩
abbrev main_call5_call0_v1 : Ref sig .tc := ⟨.hbm, 87, rfl⟩
abbrev main_call5_call0_v2 : Ref sig .tc := ⟨.hbm, 88, rfl⟩
abbrev main_call5_call0_v3 : Ref sig .tc := ⟨.hbm, 89, rfl⟩
abbrev main_call5_call0_v4 : Ref sig .tc := ⟨.hbm, 90, rfl⟩
abbrev main_call5_call0_v5 : Ref sig .tc := ⟨.hbm, 91, rfl⟩
abbrev main_call5_call0_v6 : Ref sig .tc := ⟨.hbm, 92, rfl⟩
abbrev main_call5_call0_v7 : Ref sig .tc := ⟨.hbm, 93, rfl⟩
abbrev main_call5_call0_v8 : Ref sig .tc := ⟨.hbm, 94, rfl⟩
abbrev main_call5_call0_v9 : Ref sig .tc := ⟨.hbm, 95, rfl⟩
abbrev main_call5_call0_v10 : Ref sig .tc := ⟨.hbm, 96, rfl⟩
abbrev main_call5_call0_v11 : Ref sig .tc := ⟨.hbm, 97, rfl⟩
abbrev main_call5_v1_0 : Ref sig .tc := ⟨.hbm, 98, rfl⟩
abbrev main_call5_call0_cst_0 : Ref sig .tc := ⟨.hbm, 99, rfl⟩
abbrev main_call5_call0_v13 : Ref sig .tc := ⟨.hbm, 100, rfl⟩
abbrev main_call5_call0_v14 : Ref sig .tc := ⟨.hbm, 101, rfl⟩
abbrev main_call5_call0_cst_1 : Ref sig .tc := ⟨.hbm, 102, rfl⟩
abbrev main_call5_call0_v15 : Ref sig .tc := ⟨.hbm, 103, rfl⟩
abbrev main_call5_call0_v16 : Ref sig .tc := ⟨.hbm, 104, rfl⟩
abbrev main_call5_call0_cst_2 : Ref sig .tc := ⟨.hbm, 105, rfl⟩
abbrev main_call5_call0_v17 : Ref sig .tc := ⟨.hbm, 106, rfl⟩
abbrev main_call5_call0_v18 : Ref sig .tc := ⟨.hbm, 107, rfl⟩
abbrev main_call5_call0_cst_3 : Ref sig .tc := ⟨.hbm, 108, rfl⟩
abbrev main_call5_call0_v19 : Ref sig .tc := ⟨.hbm, 109, rfl⟩
abbrev main_call5_call0_v20 : Ref sig .tc := ⟨.hbm, 110, rfl⟩
abbrev main_call5_call0_v21 : Ref sig .tc := ⟨.hbm, 111, rfl⟩
abbrev main_v26_1 : Ref sig .tc := ⟨.hbm, 112, rfl⟩
abbrev main_call5_call0_cst_4 : Ref sig .tc := ⟨.hbm, 113, rfl⟩
abbrev main_call5_call0_cst_5 : Ref sig .tc := ⟨.hbm, 114, rfl⟩
abbrev main_call5_call0_v23 : Ref sig .tc := ⟨.hbm, 115, rfl⟩
abbrev main_call5_call0_cst_6 : Ref sig .tc := ⟨.hbm, 116, rfl⟩
abbrev main_call5_call0_cst_7 : Ref sig .tc := ⟨.hbm, 117, rfl⟩
abbrev main_call5_call0_v24 : Ref sig .tc := ⟨.hbm, 118, rfl⟩
abbrev main_call5_call0_cst_8 : Ref sig .tc := ⟨.hbm, 119, rfl⟩
abbrev main_call5_call0_v25 : Ref sig .tc := ⟨.hbm, 120, rfl⟩
abbrev main_call5_call0_v26 : Ref sig .tc := ⟨.hbm, 121, rfl⟩
abbrev main_call5_call0_cst_9 : Ref sig .tc := ⟨.hbm, 122, rfl⟩
abbrev main_call5_call0_v27 : Ref sig .tc := ⟨.hbm, 123, rfl⟩
abbrev main_call5_call0_v28 : Ref sig .tc := ⟨.hbm, 124, rfl⟩
abbrev main_call5_call0_v29 : Ref sig .tc := ⟨.hbm, 125, rfl⟩
abbrev main_call5_call0_v30 : Ref sig .tc := ⟨.hbm, 126, rfl⟩
abbrev main_call5_call0_v31 : Ref sig .tc := ⟨.hbm, 127, rfl⟩
abbrev main_call5_call0_cst_10 : Ref sig .tc := ⟨.hbm, 128, rfl⟩
abbrev main_call5_call0_v32 : Ref sig .tc := ⟨.hbm, 129, rfl⟩
abbrev main_v26_2 : Ref sig .tc := ⟨.hbm, 130, rfl⟩
abbrev main_v26_0 : Ref sig .tc := ⟨.hbm, 131, rfl⟩
abbrev main_v27 : Ref sig .tc := ⟨.hbm, 132, rfl⟩
abbrev main_v28 : Ref sig .tc := ⟨.hbm, 133, rfl⟩
abbrev main_cst_1 : Ref sig .tc := ⟨.hbm, 134, rfl⟩
abbrev main_call6_v0 : Ref sig .tc := ⟨.hbm, 135, rfl⟩
abbrev main_v29_1 : Ref sig .tc := ⟨.hbm, 136, rfl⟩
abbrev main_call6_v2 : Ref sig .tc := ⟨.hbm, 137, rfl⟩
abbrev main_v29_0 : Ref sig .tc := ⟨.hbm, 138, rfl⟩
abbrev main_call6_cst : Ref sig .tc := ⟨.hbm, 139, rfl⟩
abbrev main_v29_2 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_call7_cst : Ref sig .tc := ⟨.hbm, 149, rfl⟩
abbrev main_call7_v0 : Ref sig .tc := ⟨.hbm, 150, rfl⟩
abbrev main_v38 : Ref sig .tc := ⟨.hbm, 151, rfl⟩
abbrev main_v39 : Ref sig .tc := ⟨.hbm, 152, rfl⟩
abbrev main_call8_v0 : Ref sig .tc := ⟨.hbm, 153, rfl⟩
abbrev main_call8_v1 : Ref sig .tc := ⟨.hbm, 154, rfl⟩
abbrev main_v40 : Ref sig .tc := ⟨.hbm, 155, rfl⟩
abbrev main_v41 : Ref sig .tc := ⟨.hbm, 156, rfl⟩
abbrev main_v42 : Ref sig .tc := ⟨.hbm, 157, rfl⟩
abbrev main_call10_call0_cst : Ref sig .tc := ⟨.hbm, 158, rfl⟩
abbrev main_call10_call0_v0 : Ref sig .tc := ⟨.hbm, 159, rfl⟩
abbrev main_v43 : Ref sig .tc := ⟨.hbm, 160, rfl⟩
abbrev main_v44 : Ref sig .tc := ⟨.hbm, 161, rfl⟩
abbrev main_v45 : Ref sig .tc := ⟨.hbm, 162, rfl⟩
abbrev main_call12_cst : Ref sig .tc := ⟨.hbm, 163, rfl⟩
abbrev main_call12_v0 : Ref sig .tc := ⟨.hbm, 164, rfl⟩
abbrev main_v46 : Ref sig .tc := ⟨.hbm, 165, rfl⟩
abbrev main_call13_v0 : Ref sig .tc := ⟨.hbm, 166, rfl⟩
abbrev main_call13_v1 : Ref sig .tc := ⟨.hbm, 167, rfl⟩
abbrev main_v47 : Ref sig .tc := ⟨.hbm, 168, rfl⟩
abbrev main_v48 : Ref sig .tc := ⟨.hbm, 169, rfl⟩
abbrev main_v49 : Ref sig .tc := ⟨.hbm, 170, rfl⟩
abbrev main_cst_2 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩

abbrev nD : Nat := 1
abbrev τ : Topo := Topo.v7x

variable {F : FTy → Type} [FloatOps F]
-- ==== KernelFf2X.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceFf2XIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .bf16⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== KernelFf2W.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFf2WIdeal.lean ====
abbrev S4096x4096 : Shape := ⟨2, ![4096, 4096]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelFf1X.lean ====
abbrev S4096x1024 : Shape := ⟨2, ![4096, 1024]⟩
abbrev S1024x4096 : Shape := ⟨2, ![1024, 4096]⟩
abbrev S4096x4096 : Shape := ⟨2, ![4096, 4096]⟩
abbrev S1024x8x512 : Shape := ⟨3, ![1024, 8, 512]⟩
abbrev S8x1024x512 : Shape := ⟨3, ![8, 1024, 512]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .bf16⟩
  | .hbm, ⟨3, _⟩ => ⟨S1024x8x512, .bf16⟩
  | .hbm, ⟨4, _⟩ => ⟨S8x1024x512, .bf16⟩
  | .hbm, ⟨5, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFf1XIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .bf16⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelFf1W.lean ====
abbrev S4096x1024 : Shape := ⟨2, ![4096, 1024]⟩
abbrev S1024x4096 : Shape := ⟨2, ![1024, 4096]⟩
abbrev S4096x4096 : Shape := ⟨2, ![4096, 4096]⟩
abbrev S8x1024x512 : Shape := ⟨3, ![8, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .bf16⟩
  | .hbm, ⟨3, _⟩ => ⟨S8x1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x1024x512, .f32⟩
  | .local _ .vmem, ⟨5, _⟩ => ⟨S1x1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFf1WIdeal.lean ====
abbrev S4096x1024 : Shape := ⟨2, ![4096, 1024]⟩
abbrev S1024x4096 : Shape := ⟨2, ![1024, 4096]⟩
abbrev S4096x4096 : Shape := ⟨2, ![4096, 4096]⟩
abbrev S1024x512 : Shape := ⟨2, ![1024, 512]⟩
abbrev S1x1024x512 : Shape := ⟨3, ![1, 1024, 512]⟩
abbrev S8x1024x512 : Shape := ⟨3, ![8, 1024, 512]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .bf16⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S1x1024x512, .f32⟩
  | .hbm, ⟨18, _⟩ => ⟨S1x1024x512, .f32⟩
  | .hbm, ⟨19, _⟩ => ⟨S1x1024x512, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S1x1024x512, .f32⟩
  | .hbm, ⟨24, _⟩ => ⟨S1x1024x512, .f32⟩
  | .hbm, ⟨25, _⟩ => ⟨S8x1024x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== KernelInW.lean ====
abbrev S4096x1024 : Shape := ⟨2, ![4096, 1024]⟩
abbrev S1024x9216 : Shape := ⟨2, ![1024, 9216]⟩
abbrev S4096x9216 : Shape := ⟨2, ![4096, 9216]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x9216, .bf16⟩
  | .hbm, ⟨2, _⟩ => ⟨S4096x9216, .bf16⟩
  | .hbm, ⟨3, _⟩ => ⟨S1024x9216, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInWIdeal.lean ====
abbrev S4096x1024 : Shape := ⟨2, ![4096, 1024]⟩
abbrev S1024x9216 : Shape := ⟨2, ![1024, 9216]⟩
abbrev S4096x9216 : Shape := ⟨2, ![4096, 9216]⟩
abbrev S9216x1024 : Shape := ⟨2, ![9216, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x9216, .bf16⟩
  | .hbm, ⟨2, _⟩ => ⟨S4096x9216, .bf16⟩
  | .hbm, ⟨3, _⟩ => ⟨S1024x9216, .f32⟩
  | .hbm, ⟨4, _⟩ => ⟨S4096x1024, .f32⟩
  | .hbm, ⟨5, _⟩ => ⟨S4096x9216, .f32⟩
  | .hbm, ⟨6, _⟩ => ⟨S4096x9216, .f32⟩
  | .hbm, ⟨7, _⟩ => ⟨S9216x1024, .f32⟩
  | .hbm, ⟨8, _⟩ => ⟨S1024x9216, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelInX.lean ====
abbrev S4096x1024 : Shape := ⟨2, ![4096, 1024]⟩
abbrev S1024x9216 : Shape := ⟨2, ![1024, 9216]⟩
abbrev S4096x9216 : Shape := ⟨2, ![4096, 9216]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1024x9216, .bf16⟩
  | .hbm, ⟨2, _⟩ => ⟨S4096x9216, .bf16⟩
  | .hbm, ⟨3, _⟩ => ⟨S4096x1024, .f32⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 9], ![false, false, false]⟩

def k0_cond2 (i : grid0.Coords) : BitVec 1 :=
  let arg2 : BitVec 32 := BitVec.ofNat 32 (i 2).val
  let c8_i32 : BitVec 32 := 8#32
  let v11 : BitVec 1 := Scalar.cmpi .eq arg2 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceInXIdeal.lean ====
abbrev S4096x1024 : Shape := ⟨2, ![4096, 1024]⟩
abbrev S1024x9216 : Shape := ⟨2, ![1024, 9216]⟩
abbrev S4096x9216 : Shape := ⟨2, ![4096, 9216]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x9216, .bf16⟩
  | .hbm, ⟨2, _⟩ => ⟨S4096x9216, .bf16⟩
  | .hbm, ⟨3, _⟩ => ⟨S4096x1024, .f32⟩
  | .hbm, ⟨4, _⟩ => ⟨S4096x1024, .f32⟩
  | .hbm, ⟨5, _⟩ => ⟨S1024x9216, .f32⟩
  | .hbm, ⟨6, _⟩ => ⟨S4096x9216, .f32⟩
  | .hbm, ⟨7, _⟩ => ⟨S4096x9216, .f32⟩
  | .hbm, ⟨8, _⟩ => ⟨S4096x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelGateX.lean ====
abbrev S4096x1024 : Shape := ⟨2, ![4096, 1024]⟩
abbrev S1024x2048 : Shape := ⟨2, ![1024, 2048]⟩
abbrev S4096x2048 : Shape := ⟨2, ![4096, 2048]⟩
abbrev S1024x8x256 : Shape := ⟨3, ![1024, 8, 256]⟩
abbrev S8x1024x256 : Shape := ⟨3, ![8, 1024, 256]⟩
abbrev S1024x256 : Shape := ⟨2, ![1024, 256]⟩
abbrev S1x1024x256 : Shape := ⟨3, ![1, 1024, 256]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .hbm, ⟨3, _⟩ => ⟨S4096x1024, .f32⟩
  | .hbm, ⟨4, _⟩ => ⟨S1024x8x256, .bf16⟩
  | .hbm, ⟨5, _⟩ => ⟨S8x1024x256, .bf16⟩
  | .hbm, ⟨6, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceGateXIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .hbm, ⟨3, _⟩ => ⟨S4096x1024, .f32⟩
  | .hbm, ⟨4, _⟩ => ⟨S4096x1024, .f32⟩
  | .hbm, ⟨5, _⟩ => ⟨S1024x2048, .f32⟩
  | .hbm, ⟨6, _⟩ => ⟨S4096x2048, .f32⟩
  | .hbm, ⟨7, _⟩ => ⟨S4096x2048, .f32⟩
  | .hbm, ⟨8, _⟩ => ⟨S4096x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelGateW.lean ====
abbrev S4096x1024 : Shape := ⟨2, ![4096, 1024]⟩
abbrev S1024x2048 : Shape := ⟨2, ![1024, 2048]⟩
abbrev S4096x2048 : Shape := ⟨2, ![4096, 2048]⟩
abbrev S8x1024x256 : Shape := ⟨3, ![8, 1024, 256]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .hbm, ⟨3, _⟩ => ⟨S8x1024x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1x1024x256, .f32⟩
  | .local _ .vmem, ⟨5, _⟩ => ⟨S1x1024x256, .f32⟩
  | .local _ .vmem, ⟨6, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGateWIdeal.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩
abbrev S1024x256 : Shape := ⟨2, ![1024, 256]⟩
abbrev S1x1024x256 : Shape := ⟨3, ![1, 1024, 256]⟩
abbrev S8x1024x256 : Shape := ⟨3, ![8, 1024, 256]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S1x1024x256, .f32⟩
  | .hbm, ⟨18, _⟩ => ⟨S1x1024x256, .f32⟩
  | .hbm, ⟨19, _⟩ => ⟨S1x1024x256, .f32⟩
  | .hbm, ⟨20, _⟩ => ⟨S1x1024x256, .f32⟩
  | .hbm, ⟨21, _⟩ => ⟨S1x1024x256, .f32⟩
  | .hbm, ⟨22, _⟩ => ⟨S1x1024x256, .f32⟩
  | .hbm, ⟨23, _⟩ => ⟨S1x1024x256, .f32⟩
  | .hbm, ⟨24, _⟩ => ⟨S1x1024x256, .f32⟩
  | .hbm, ⟨25, _⟩ => ⟨S8x1024x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== KernelSsdX.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .hbm, ⟨3, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceSsdXIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelSsdW.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceSsdWIdeal.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelOutX.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutXIdeal.lean ====
abbrev S4096x1024 : Shape := ⟨2, ![4096, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelOutW.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceOutWIdeal.lean ====
abbrev S4096x1024 : Shape := ⟨2, ![4096, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelPleGateX.lean ====
abbrev S4096x1024 : Shape := ⟨2, ![4096, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferencePleGateXIdeal.lean ====
abbrev S4096x1024 : Shape := ⟨2, ![4096, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelPleW.lean ====
abbrev S4096x256 : Shape := ⟨2, ![4096, 256]⟩
abbrev S256x1024 : Shape := ⟨2, ![256, 1024]⟩
abbrev S4096x1024 : Shape := ⟨2, ![4096, 1024]⟩
abbrev S8x256x128 : Shape := ⟨3, ![8, 256, 128]⟩
abbrev S1024x256 : Shape := ⟨2, ![1024, 256]⟩
abbrev S1024x128 : Shape := ⟨2, ![1024, 128]⟩
abbrev S1x256x128 : Shape := ⟨3, ![1, 256, 128]⟩
abbrev S256x128 : Shape := ⟨2, ![256, 128]⟩

abbrev nBuf : Space → Nat
  | .hbm => 4
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .bf16⟩
  | .hbm, ⟨3, _⟩ => ⟨S8x256x128, .f32⟩
  | .local _ .vmem, ⟨0, _⟩ => ⟨S1024x256, .bf16⟩
  | .local _ .vmem, ⟨1, _⟩ => ⟨S1024x256, .bf16⟩
  | .local _ .vmem, ⟨2, _⟩ => ⟨S1024x128, .bf16⟩
  | .local _ .vmem, ⟨3, _⟩ => ⟨S1024x128, .bf16⟩
  | .local _ .vmem, ⟨4, _⟩ => ⟨S1x256x128, .f32⟩
  | .local _ .vmem, ⟨5, _⟩ => ⟨S1x256x128, .f32⟩
  | .local _ .vmem, ⟨6, _⟩ => ⟨S256x128, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferencePleWIdeal.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S256x128 : Shape := ⟨2, ![256, 128]⟩
abbrev S1x256x128 : Shape := ⟨3, ![1, 256, 128]⟩
abbrev S8x256x128 : Shape := ⟨3, ![8, 256, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .bf16⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S256x128, .f32⟩
  | .hbm, ⟨10, _⟩ => ⟨S256x128, .f32⟩
  | .hbm, ⟨11, _⟩ => ⟨S256x128, .f32⟩
  | .hbm, ⟨12, _⟩ => ⟨S256x128, .f32⟩
  | .hbm, ⟨13, _⟩ => ⟨S256x128, .f32⟩
  | .hbm, ⟨14, _⟩ => ⟨S256x128, .f32⟩
  | .hbm, ⟨15, _⟩ => ⟨S256x128, .f32⟩
  | .hbm, ⟨16, _⟩ => ⟨S256x128, .f32⟩
  | .hbm, ⟨17, _⟩ => ⟨S1x256x128, .f32⟩
  | .hbm, ⟨18, _⟩ => ⟨S1x256x128, .f32⟩
  | .hbm, ⟨19, _⟩ => ⟨S1x256x128, .f32⟩
  | .hbm, ⟨20, _⟩ => ⟨S1x256x128, .f32⟩
  | .hbm, ⟨21, _⟩ => ⟨S1x256x128, .f32⟩
  | .hbm, ⟨22, _⟩ => ⟨S1x256x128, .f32⟩
  | .hbm, ⟨23, _⟩ => ⟨S1x256x128, .f32⟩
  | .hbm, ⟨24, _⟩ => ⟨S1x256x128, .f32⟩
  | .hbm, ⟨25, _⟩ => ⟨S8x256x128, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== KernelIn.lean ====
abbrev S4096x1024 : Shape := ⟨2, ![4096, 1024]⟩
abbrev S1024x9216 : Shape := ⟨2, ![1024, 9216]⟩
abbrev S4096x9216 : Shape := ⟨2, ![4096, 9216]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x9216, .bf16⟩
  | .hbm, ⟨2, _⟩ => ⟨S4096x9216, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 9, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInIdeal.lean ====
abbrev S4096x1024 : Shape := ⟨2, ![4096, 1024]⟩
abbrev S1024x9216 : Shape := ⟨2, ![1024, 9216]⟩
abbrev S4096x9216 : Shape := ⟨2, ![4096, 9216]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x9216, .bf16⟩
  | .hbm, ⟨2, _⟩ => ⟨S4096x1024, .f32⟩
  | .hbm, ⟨3, _⟩ => ⟨S1024x9216, .f32⟩
  | .hbm, ⟨4, _⟩ => ⟨S4096x9216, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelGate.lean ====
abbrev S4096x1024 : Shape := ⟨2, ![4096, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S4096x2048 : Shape := ⟨2, ![4096, 2048]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S1024x8x256, .bf16⟩
  | .hbm, ⟨3, _⟩ => ⟨S8x1024x256, .bf16⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGateIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelFf1.lean ====
abbrev S4096x1024 : Shape := ⟨2, ![4096, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S4096x4096 : Shape := ⟨2, ![4096, 4096]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S1024x8x512, .bf16⟩
  | .hbm, ⟨3, _⟩ => ⟨S8x1024x512, .bf16⟩
  | .hbm, ⟨4, _⟩ => ⟨S4096x4096, .f32⟩
  | .hbm, ⟨5, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceFf1Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelFf2.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFf2Ideal.lean ====
abbrev S4096x4096 : Shape := ⟨2, ![4096, 4096]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelSsd.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceSsdIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelOut.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelPle.lean ====
abbrev S4096x256 : Shape := ⟨2, ![4096, 256]⟩
abbrev S256x1024 : Shape := ⟨2, ![256, 1024]⟩
abbrev S256x8x128 : Shape := ⟨3, ![256, 8, 128]⟩
abbrev S8x256x128 : Shape := ⟨3, ![8, 256, 128]⟩
abbrev S4096x1024 : Shape := ⟨2, ![4096, 1024]⟩
abbrev S1024x256 : Shape := ⟨2, ![1024, 256]⟩
abbrev S1x256x128 : Shape := ⟨3, ![1, 256, 128]⟩
abbrev S1024x128 : Shape := ⟨2, ![1024, 128]⟩
abbrev S256x128 : Shape := ⟨2, ![256, 128]⟩

abbrev nBuf : Space → Nat
  | .hbm => 5
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S256x8x128, .bf16⟩
  | .hbm, ⟨3, _⟩ => ⟨S8x256x128, .bf16⟩
  | .hbm, ⟨4, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S1x256x128, .bf16⟩
  | .local _ .vmem, ⟨3, _⟩ => ⟨S1x256x128, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferencePleIdeal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x256, .f32⟩
  | .hbm, ⟨3, _⟩ => ⟨S256x1024, .f32⟩
  | .hbm, ⟨4, _⟩ => ⟨S4096x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelGates.lean ====
abbrev S4096x1024 : Shape := ⟨2, ![4096, 1024]⟩
abbrev S4096x2048 : Shape := ⟨2, ![4096, 2048]⟩
abbrev S1x2048 : Shape := ⟨2, ![1, 2048]⟩
abbrev S512x1024 : Shape := ⟨2, ![512, 1024]⟩
abbrev S1x1024 : Shape := ⟨2, ![1, 1024]⟩
abbrev S512x2048 : Shape := ⟨2, ![512, 2048]⟩
abbrev S2048 : Shape := ⟨1, ![2048]⟩

abbrev nBuf : Space → Nat
  | .hbm => 9
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S1x2048, .f32⟩
  | .hbm, ⟨4, _⟩ => ⟨S4096x1024, .f32⟩
  | .hbm, ⟨5, _⟩ => ⟨S4096x1024, .bf16⟩
  | .hbm, ⟨6, _⟩ => ⟨S4096x1024, .bf16⟩
  | .hbm, ⟨7, _⟩ => ⟨S4096x2048, .bf16⟩
  | .hbm, ⟨8, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x2048, .bf16⟩
  | .local _ .vmem, ⟨17, _⟩ => ⟨S512x2048, .bf16⟩
  | .local _ .vmem, ⟨18, _⟩ => ⟨S1x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v46 : BitVec 1 := Scalar.cmpi .eq arg1 c0_i32
  let v47 : BitVec 32 := Scalar.extui v46
  let c0_i32_27 : BitVec 32 := 0#32
  let v48 : BitVec 1 := Scalar.cmpi .ne v47 c0_i32_27
  v48

def k0_cond2 (i : grid0.Coords) : BitVec 1 :=
  let arg1 : BitVec 32 := BitVec.ofNat 32 (i 1).val
  let c0_i32_28 : BitVec 32 := 0#32
  let v49 : BitVec 1 := Scalar.cmpi .sgt arg1 c0_i32_28
  let v50 : BitVec 32 := Scalar.extui v49
  let c0_i32_29 : BitVec 32 := 0#32
  let v51 : BitVec 1 := Scalar.cmpi .ne v50 c0_i32_29
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== ReferenceGatesIdeal.lean ====
abbrev S4096x1024 : Shape := ⟨2, ![4096, 1024]⟩
abbrev S4096x2048 : Shape := ⟨2, ![4096, 2048]⟩
abbrev S1x2048 : Shape := ⟨2, ![1, 2048]⟩
abbrev S_ : Shape := ⟨0, ![]⟩
abbrev S2048 : Shape := ⟨1, ![2048]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S1x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S4096x1024, .bf16⟩
  | .hbm, ⟨36, _⟩ => ⟨S4096x1024, .bf16⟩
  | .hbm, ⟨37, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== KernelNorm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v39 : BitVec 1 := Scalar.cmpi .eq arg1 c0_i32
  let v40 : BitVec 32 := Scalar.extui v39
  let c0_i32_16 : BitVec 32 := 0#32
  let v41 : BitVec 1 := Scalar.cmpi .ne v40 c0_i32_16
  v41

def k0_cond2 (i : grid0.Coords) : BitVec 1 :=
  let arg1 : BitVec 32 := BitVec.ofNat 32 (i 1).val
  let c0_i32_17 : BitVec 32 := 0#32
  let v42 : BitVec 1 := Scalar.cmpi .sgt arg1 c0_i32_17
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== ReferenceNormIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== KernelMidGrad.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 26
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S1x1024, .f32⟩
  | .hbm, ⟨25, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v77 : BitVec 1 := Scalar.cmpi .eq arg1 c0_i32
  let v78 : BitVec 32 := Scalar.extui v77
  let c0_i32_30 : BitVec 32 := 0#32
  let v79 : BitVec 1 := Scalar.cmpi .ne v78 c0_i32_30
  v79

def k0_cond2 (i : grid0.Coords) : BitVec 1 :=
  let arg1 : BitVec 32 := BitVec.ofNat 32 (i 1).val
  let c0_i32_31 : BitVec 32 := 0#32
  let v80 : BitVec 1 := Scalar.cmpi .sgt arg1 c0_i32_31
  let v81 : BitVec 32 := Scalar.extui v80
  let c0_i32_32 : BitVec 32 := 0#32
  let v82 : BitVec 1 := Scalar.cmpi .ne v81 c0_i32_32
  v82

def k0_cond3 (i : grid0.Coords) : BitVec 1 :=
  let arg1 : BitVec 32 := BitVec.ofNat 32 (i 1).val
  let c0_i32_33 : BitVec 32 := 0#32
  let v83 : BitVec 1 := Scalar.cmpi .eq arg1 c0_i32_33
  let v84 : BitVec 32 := Scalar.extui v83
  let c0_i32_34 : BitVec 32 := 0#32
  let v85 : BitVec 1 := Scalar.cmpi .ne v84 c0_i32_34
  v85

def k0_cond4 (i : grid0.Coords) : BitVec 1 :=
  let arg1 : BitVec 32 := BitVec.ofNat 32 (i 1).val
  let c0_i32_35 : BitVec 32 := 0#32
  let v86 : BitVec 1 := Scalar.cmpi .sgt arg1 c0_i32_35
  let v87 : BitVec 32 := Scalar.extui v86
  let c0_i32_36 : BitVec 32 := 0#32
  let v88 : BitVec 1 := Scalar.cmpi .ne v87 c0_i32_36
  v88

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== ReferenceMidGradIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x1024, .f32⟩
  | .hbm, ⟨81, _⟩ => ⟨S4096x1024, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== KernelFfnGrad.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .bf16⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v38 : BitVec 1 := Scalar.cmpi .eq arg1 c0_i32
  let v39 : BitVec 32 := Scalar.extui v38
  let c0_i32_14 : BitVec 32 := 0#32
  let v40 : BitVec 1 := Scalar.cmpi .ne v39 c0_i32_14
  v40

def k0_cond2 (i : grid0.Coords) : BitVec 1 :=
  let arg1 : BitVec 32 := BitVec.ofNat 32 (i 1).val
  let c0_i32_15 : BitVec 32 := 0#32
  let v41 : BitVec 1 := Scalar.cmpi .sgt arg1 c0_i32_15
  let v42 : BitVec 32 := Scalar.extui v41
  let c0_i32_16 : BitVec 32 := 0#32
  let v43 : BitVec 1 := Scalar.cmpi .ne v42 c0_i32_16
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== ReferenceFfnGradIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== KernelPre.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferencePreIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelMerge.lean ====
abbrev S4096x1024 : Shape := ⟨2, ![4096, 1024]⟩
abbrev S4096x2048 : Shape := ⟨2, ![4096, 2048]⟩
abbrev S1x2048 : Shape := ⟨2, ![1, 2048]⟩
abbrev S512x1024 : Shape := ⟨2, ![512, 1024]⟩
abbrev S1x1024 : Shape := ⟨2, ![1, 1024]⟩

abbrev nBuf : Space → Nat
  | .hbm => 5
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S1x2048, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceMergeIdeal.lean ====
abbrev S4096x1024 : Shape := ⟨2, ![4096, 1024]⟩
abbrev S4096x2048 : Shape := ⟨2, ![4096, 2048]⟩
abbrev S1x2048 : Shape := ⟨2, ![1, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KernelFfn.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceFfnIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KernelMid.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceMidIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== KernelLoss.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S_ : Shape := ⟨0, ![]⟩

abbrev nBuf : Space → Nat
  | .hbm => 12
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_cst : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v74 : BitVec 1 := Scalar.cmpi .eq arg1 c0_i32
  let v75 : BitVec 32 := Scalar.extui v74
  let c0_i32_32 : BitVec 32 := 0#32
  let v76 : BitVec 1 := Scalar.cmpi .ne v75 c0_i32_32
  v76

def k0_cond2 (i : grid0.Coords) : BitVec 1 :=
  let arg1 : BitVec 32 := BitVec.ofNat 32 (i 1).val
  let c0_i32_33 : BitVec 32 := 0#32
  let v77 : BitVec 1 := Scalar.cmpi .sgt arg1 c0_i32_33
  let v78 : BitVec 32 := Scalar.extui v77
  let c0_i32_34 : BitVec 32 := 0#32
  let v79 : BitVec 1 := Scalar.cmpi .ne v78 c0_i32_34
  v79

def k0_cond3 (i : grid0.Coords) : BitVec 1 :=
  let arg1 : BitVec 32 := BitVec.ofNat 32 (i 1).val
  let c0_i32_35 : BitVec 32 := 0#32
  let v80 : BitVec 1 := Scalar.cmpi .eq arg1 c0_i32_35
  let v81 : BitVec 32 := Scalar.extui v80
  let c0_i32_36 : BitVec 32 := 0#32
  let v82 : BitVec 1 := Scalar.cmpi .ne v81 c0_i32_36
  v82

def k0_cond4 (i : grid0.Coords) : BitVec 1 :=
  let arg1 : BitVec 32 := BitVec.ofNat 32 (i 1).val
  let c0_i32_37 : BitVec 32 := 0#32
  let v83 : BitVec 1 := Scalar.cmpi .sgt arg1 c0_i32_37
  let v84 : BitVec 32 := Scalar.extui v83
  let c0_i32_38 : BitVec 32 := 0#32
  let v85 : BitVec 1 := Scalar.cmpi .ne v84 c0_i32_38
  v85

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== ReferenceLossIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 89
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .bf16⟩
  | .hbm, ⟨88, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_cst_11 : Ref sig .tc := ⟨.hbm, 52, rfl⟩
abbrev main_cst_12 : Ref sig .tc := ⟨.hbm, 53, rfl⟩
abbrev main_v35 : Ref sig .tc := ⟨.hbm, 54, rfl⟩
abbrev main_v36 : Ref sig .tc := ⟨.hbm, 55, rfl⟩
abbrev main_cst_13 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_14 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_16 : Ref sig .tc := ⟨.hbm, 74, rfl⟩
abbrev main_v52 : Ref sig .tc := ⟨.hbm, 75, rfl⟩
abbrev main_v53 : Ref sig .tc := ⟨.hbm, 76, rfl⟩
abbrev main_cst_17 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]
-- ==== KernelScanNorm.lean ====
abbrev S4096x2048 : Shape := ⟨2, ![4096, 2048]⟩
abbrev S4096x4096 : Shape := ⟨2, ![4096, 4096]⟩
abbrev S4096x9216 : Shape := ⟨2, ![4096, 9216]⟩
abbrev S1x32 : Shape := ⟨2, ![1, 32]⟩
abbrev S1x2048 : Shape := ⟨2, ![1, 2048]⟩
abbrev S1x32x64 : Shape := ⟨3, ![1, 32, 64]⟩
abbrev S256x2048 : Shape := ⟨2, ![256, 2048]⟩
abbrev S256x256 : Shape := ⟨2, ![256, 256]⟩
abbrev S1x256 : Shape := ⟨2, ![1, 256]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096x9216, .f32⟩
  | .hbm, ⟨3, _⟩ => ⟨S1x32, .f32⟩
  | .hbm, ⟨4, _⟩ => ⟨S1x2048, .f32⟩
  | .hbm, ⟨5, _⟩ => ⟨S1x32x64, .f32⟩
  | .hbm, ⟨6, _⟩ => ⟨S1x2048, .f32⟩
  | .hbm, ⟨7, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .bf16⟩
  | .local _ .vmem, ⟨9, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceScanNormIdeal.lean ====
abbrev S4096x2048 : Shape := ⟨2, ![4096, 2048]⟩
abbrev S4096x4096 : Shape := ⟨2, ![4096, 4096]⟩
abbrev S4096x9216 : Shape := ⟨2, ![4096, 9216]⟩
abbrev S1x32 : Shape := ⟨2, ![1, 32]⟩
abbrev S1x2048 : Shape := ⟨2, ![1, 2048]⟩
abbrev S32 : Shape := ⟨1, ![32]⟩
abbrev S2048 : Shape := ⟨1, ![2048]⟩
abbrev S4096x32x64 : Shape := ⟨3, ![4096, 32, 64]⟩
abbrev S32x1 : Shape := ⟨2, ![32, 1]⟩
abbrev S1x32x1 : Shape := ⟨3, ![1, 32, 1]⟩
abbrev S_ : Shape := ⟨0, ![]⟩
abbrev S4096x8x256 : Shape := ⟨3, ![4096, 8, 256]⟩
abbrev S4096x8 : Shape := ⟨2, ![4096, 8]⟩
abbrev S4096x8x1 : Shape := ⟨3, ![4096, 8, 1]⟩

abbrev nBuf : Space → Nat
  | .hbm => 46
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096x9216, .f32⟩
  | .hbm, ⟨3, _⟩ => ⟨S1x32, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S32, .f32⟩
  | .hbm, ⟨8, _⟩ => ⟨S2048, .f32⟩
  | .hbm, ⟨9, _⟩ => ⟨S4096x32x64, .f32⟩
  | .hbm, ⟨10, _⟩ => ⟨S4096x32x64, .f32⟩
  | .hbm, ⟨11, _⟩ => ⟨S32x1, .f32⟩
  | .hbm, ⟨12, _⟩ => ⟨S1x32x1, .f32⟩
  | .hbm, ⟨13, _⟩ => ⟨S4096x32x64, .f32⟩
  | .hbm, ⟨14, _⟩ => ⟨S4096x32x64, .f32⟩
  | .hbm, ⟨15, _⟩ => ⟨S4096x32x64, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x8x256, .f32⟩
  | .hbm, ⟨28, _⟩ => ⟨S4096x8x256, .f32⟩
  | .hbm, ⟨29, _⟩ => ⟨S_, .f32⟩
  | .hbm, ⟨30, _⟩ => ⟨S4096x8, .f32⟩
  | .hbm, ⟨31, _⟩ => ⟨S4096x8x1, .f32⟩
  | .hbm, ⟨32, _⟩ => ⟨S_, .f32⟩
  | .hbm, ⟨33, _⟩ => ⟨S4096x8x1, .f32⟩
  | .hbm, ⟨34, _⟩ => ⟨S4096x8x1, .f32⟩
  | .hbm, ⟨35, _⟩ => ⟨S_, .f32⟩
  | .hbm, ⟨36, _⟩ => ⟨S4096x8x1, .f32⟩
  | .hbm, ⟨37, _⟩ => ⟨S4096x8x1, .f32⟩
  | .hbm, ⟨38, _⟩ => ⟨S4096x8x1, .f32⟩
  | .hbm, ⟨39, _⟩ => ⟨S4096x8x256, .f32⟩
  | .hbm, ⟨40, _⟩ => ⟨S4096x8x256, .f32⟩
  | .hbm, ⟨41, _⟩ => ⟨S4096x2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== KernelConvFwd.lean ====
abbrev S4096x9216 : Shape := ⟨2, ![4096, 9216]⟩
abbrev S4x4096 : Shape := ⟨2, ![4, 4096]⟩
abbrev S1x4096 : Shape := ⟨2, ![1, 4096]⟩
abbrev S4096x4096 : Shape := ⟨2, ![4096, 4096]⟩
abbrev S4096x128 : Shape := ⟨2, ![4096, 128]⟩
abbrev S4x128 : Shape := ⟨2, ![4, 128]⟩
abbrev S1x128 : Shape := ⟨2, ![1, 128]⟩

abbrev nBuf : Space → Nat
  | .hbm => 4
  | .vmem => 8
  | .smem => 0
  | _ => 0

abbrev bufTy : (tb : Table) → Fin (tcTables nBuf tb) → BufTy
  | .hbm, ⟨0, _⟩ => ⟨S4096x9216, .f32⟩
  | .hbm, ⟨1, _⟩ => ⟨S4x4096, .f32⟩
  | .hbm, ⟨2, _⟩ => ⟨S1x4096, .f32⟩
  | .hbm, ⟨3, _⟩ => ⟨S4096x4096, .f32⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | _, _ => ⟨S4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceConvFwdIdeal.lean ====
abbrev S4096x9216 : Shape := ⟨2, ![4096, 9216]⟩
abbrev S4x4096 : Shape := ⟨2, ![4, 4096]⟩
abbrev S1x4096 : Shape := ⟨2, ![1, 4096]⟩
abbrev S_ : Shape := ⟨0, ![]⟩
abbrev S3x4096 : Shape := ⟨2, ![3, 4096]⟩
abbrev S4096x4096 : Shape := ⟨2, ![4096, 4096]⟩
abbrev S4099x4096 : Shape := ⟨2, ![4099, 4096]⟩
abbrev S4096 : Shape := ⟨1, ![4096]⟩

abbrev nBuf : Space → Nat
  | .hbm => 50
  | .vmem => 0
  | .smem => 0
  | _ => 0

abbrev bufTy : (tb : Table) → Fin (tcTables nBuf tb) → BufTy
  | .hbm, ⟨0, _⟩ => ⟨S4096x9216, .f32⟩
  | .hbm, ⟨1, _⟩ => ⟨S4x4096, .f32⟩
  | .hbm, ⟨2, _⟩ => ⟨S1x4096, .f32⟩
  | .hbm, ⟨3, _⟩ => ⟨S_, .f32⟩
  | .hbm, ⟨4, _⟩ => ⟨S3x4096, .f32⟩
  | .hbm, ⟨5, _⟩ => ⟨S4096x4096, .f32⟩
  | .hbm, ⟨6, _⟩ => ⟨S4099x4096, .f32⟩
  | .hbm, ⟨7, _⟩ => ⟨S1x4096, .f32⟩
  | .hbm, ⟨8, _⟩ => ⟨S4096, .f32⟩
  | .hbm, ⟨9, _⟩ => ⟨S4096x4096, .f32⟩
  | .hbm, ⟨10, _⟩ => ⟨S1x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S1x4096, .f32⟩
  | .hbm, ⟨17, _⟩ => ⟨S4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S1x4096, .f32⟩
  | .hbm, ⟨24, _⟩ => ⟨S4096, .f32⟩
  | .hbm, ⟨25, _⟩ => ⟨S4096x4096, .f32⟩
  | .hbm, ⟨26, _⟩ => ⟨S1x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S1x4096, .f32⟩
  | .hbm, ⟨31, _⟩ => ⟨S4096, .f32⟩
  | .hbm, ⟨32, _⟩ => ⟨S4096x4096, .f32⟩
  | .hbm, ⟨33, _⟩ => ⟨S1x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096, .f32⟩
  | .hbm, ⟨38, _⟩ => ⟨S1x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S4096x4096, .f32⟩
  | _, _ => ⟨S4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== KernelAdam.lean ====
abbrev S4x1024x512 : Shape := ⟨3, ![4, 1024, 512]⟩
abbrev S1024x512 : Shape := ⟨2, ![1024, 512]⟩
abbrev S4x128x512 : Shape := ⟨3, ![4, 128, 512]⟩
abbrev S128x512 : Shape := ⟨2, ![128, 512]⟩
abbrev S1x128x512 : Shape := ⟨3, ![1, 128, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S4x128x512, .bf16⟩
  | .local _ .vmem, ⟨1, _⟩ => ⟨S4x128x512, .bf16⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | _, _ => ⟨S4x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdamIdeal.lean ====
abbrev S4x1024x512 : Shape := ⟨3, ![4, 1024, 512]⟩
abbrev S1024x512 : Shape := ⟨2, ![1024, 512]⟩
abbrev S4x128x512 : Shape := ⟨3, ![4, 128, 512]⟩
abbrev S128x512 : Shape := ⟨2, ![128, 512]⟩
abbrev S1x128x512 : Shape := ⟨3, ![1, 128, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S4x128x512, .bf16⟩
  | .local _ .vmem, ⟨1, _⟩ => ⟨S4x128x512, .bf16⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | _, _ => ⟨S4x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamIdeal.lean ====
abbrev S4x1024x512 : Shape := ⟨3, ![4, 1024, 512]⟩
abbrev S1024x512 : Shape := ⟨2, ![1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S4x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S4x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamSquare.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S4x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelAdamSquareIdeal.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S4x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamSquareIdeal.lean ====
abbrev S4x128x1024 : Shape := ⟨3, ![4, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S4x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamIn.lean ====
abbrev S4x1024x1280 : Shape := ⟨3, ![4, 1024, 1280]⟩
abbrev S1024x1280 : Shape := ⟨2, ![1024, 1280]⟩
abbrev S4x128x1280 : Shape := ⟨3, ![4, 128, 1280]⟩
abbrev S128x1280 : Shape := ⟨2, ![128, 1280]⟩
abbrev S1x128x1280 : Shape := ⟨3, ![1, 128, 1280]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x1280, .bf16⟩
  | .hbm, ⟨1, _⟩ => ⟨S1024x1280, .f32⟩
  | .hbm, ⟨2, _⟩ => ⟨S1024x1280, .f32⟩
  | .hbm, ⟨3, _⟩ => ⟨S1024x1280, .f32⟩
  | .hbm, ⟨4, _⟩ => ⟨S1024x1280, .f32⟩
  | .hbm, ⟨5, _⟩ => ⟨S1024x1280, .f32⟩
  | .hbm, ⟨6, _⟩ => ⟨S1024x1280, .f32⟩
  | .hbm, ⟨7, _⟩ => ⟨S1024x1280, .f32⟩
  | .local _ .vmem, ⟨0, _⟩ => ⟨S4x128x1280, .bf16⟩
  | .local _ .vmem, ⟨1, _⟩ => ⟨S4x128x1280, .bf16⟩
  | .local _ .vmem, ⟨2, _⟩ => ⟨S128x1280, .f32⟩
  | .local _ .vmem, ⟨3, _⟩ => ⟨S128x1280, .f32⟩
  | .local _ .vmem, ⟨4, _⟩ => ⟨S128x1280, .f32⟩
  | .local _ .vmem, ⟨5, _⟩ => ⟨S128x1280, .f32⟩
  | .local _ .vmem, ⟨6, _⟩ => ⟨S128x1280, .f32⟩
  | .local _ .vmem, ⟨7, _⟩ => ⟨S128x1280, .f32⟩
  | .local _ .vmem, ⟨8, _⟩ => ⟨S128x1280, .f32⟩
  | .local _ .vmem, ⟨9, _⟩ => ⟨S128x1280, .f32⟩
  | .local _ .vmem, ⟨10, _⟩ => ⟨S128x1280, .f32⟩
  | .local _ .vmem, ⟨11, _⟩ => ⟨S128x1280, .f32⟩
  | .local _ .vmem, ⟨12, _⟩ => ⟨S128x1280, .f32⟩
  | .local _ .vmem, ⟨13, _⟩ => ⟨S128x1280, .f32⟩
  | .local _ .vmem, ⟨14, _⟩ => ⟨S128x1280, .f32⟩
  | .local _ .vmem, ⟨15, _⟩ => ⟨S128x1280, .f32⟩
  | _, _ => ⟨S4x1024x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdamInIdeal.lean ====
abbrev S4x1024x1280 : Shape := ⟨3, ![4, 1024, 1280]⟩
abbrev S1024x1280 : Shape := ⟨2, ![1024, 1280]⟩
abbrev S4x128x1280 : Shape := ⟨3, ![4, 128, 1280]⟩
abbrev S128x1280 : Shape := ⟨2, ![128, 1280]⟩
abbrev S1x128x1280 : Shape := ⟨3, ![1, 128, 1280]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x1280, .bf16⟩
  | .hbm, ⟨1, _⟩ => ⟨S1024x1280, .f32⟩
  | .hbm, ⟨2, _⟩ => ⟨S1024x1280, .f32⟩
  | .hbm, ⟨3, _⟩ => ⟨S1024x1280, .f32⟩
  | .hbm, ⟨4, _⟩ => ⟨S1024x1280, .f32⟩
  | .hbm, ⟨5, _⟩ => ⟨S1024x1280, .f32⟩
  | .hbm, ⟨6, _⟩ => ⟨S1024x1280, .f32⟩
  | .hbm, ⟨7, _⟩ => ⟨S1024x1280, .f32⟩
  | .local _ .vmem, ⟨0, _⟩ => ⟨S4x128x1280, .bf16⟩
  | .local _ .vmem, ⟨1, _⟩ => ⟨S4x128x1280, .bf16⟩
  | .local _ .vmem, ⟨2, _⟩ => ⟨S128x1280, .f32⟩
  | .local _ .vmem, ⟨3, _⟩ => ⟨S128x1280, .f32⟩
  | .local _ .vmem, ⟨4, _⟩ => ⟨S128x1280, .f32⟩
  | .local _ .vmem, ⟨5, _⟩ => ⟨S128x1280, .f32⟩
  | .local _ .vmem, ⟨6, _⟩ => ⟨S128x1280, .f32⟩
  | .local _ .vmem, ⟨7, _⟩ => ⟨S128x1280, .f32⟩
  | .local _ .vmem, ⟨8, _⟩ => ⟨S128x1280, .f32⟩
  | .local _ .vmem, ⟨9, _⟩ => ⟨S128x1280, .f32⟩
  | .local _ .vmem, ⟨10, _⟩ => ⟨S128x1280, .f32⟩
  | .local _ .vmem, ⟨11, _⟩ => ⟨S128x1280, .f32⟩
  | .local _ .vmem, ⟨12, _⟩ => ⟨S128x1280, .f32⟩
  | .local _ .vmem, ⟨13, _⟩ => ⟨S128x1280, .f32⟩
  | .local _ .vmem, ⟨14, _⟩ => ⟨S128x1280, .f32⟩
  | .local _ .vmem, ⟨15, _⟩ => ⟨S128x1280, .f32⟩
  | _, _ => ⟨S4x1024x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamInIdeal.lean ====
abbrev S4x1024x1280 : Shape := ⟨3, ![4, 1024, 1280]⟩
abbrev S1024x1280 : Shape := ⟨2, ![1024, 1280]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1280, .bf16⟩
  | .hbm, ⟨1, _⟩ => ⟨S1024x1280, .f32⟩
  | .hbm, ⟨2, _⟩ => ⟨S1024x1280, .f32⟩
  | .hbm, ⟨3, _⟩ => ⟨S1024x1280, .f32⟩
  | .hbm, ⟨4, _⟩ => ⟨S4x1024x1280, .f32⟩
  | .hbm, ⟨5, _⟩ => ⟨S_, .f32⟩
  | .hbm, ⟨6, _⟩ => ⟨S1024x1280, .f32⟩
  | .hbm, ⟨7, _⟩ => ⟨S_, .f32⟩
  | .hbm, ⟨8, _⟩ => ⟨S1024x1280, .f32⟩
  | .hbm, ⟨9, _⟩ => ⟨S1024x1280, .f32⟩
  | .hbm, ⟨10, _⟩ => ⟨S_, .f32⟩
  | .hbm, ⟨11, _⟩ => ⟨S1024x1280, .f32⟩
  | .hbm, ⟨12, _⟩ => ⟨S1024x1280, .f32⟩
  | .hbm, ⟨13, _⟩ => ⟨S1024x1280, .f32⟩
  | .hbm, ⟨14, _⟩ => ⟨S_, .f32⟩
  | .hbm, ⟨15, _⟩ => ⟨S1024x1280, .f32⟩
  | .hbm, ⟨16, _⟩ => ⟨S1024x1280, .f32⟩
  | .hbm, ⟨17, _⟩ => ⟨S1024x1280, .f32⟩
  | .hbm, ⟨18, _⟩ => ⟨S_, .f32⟩
  | .hbm, ⟨19, _⟩ => ⟨S1024x1280, .f32⟩
  | .hbm, ⟨20, _⟩ => ⟨S1024x1280, .f32⟩
  | .hbm, ⟨21, _⟩ => ⟨S1024x1280, .f32⟩
  | .hbm, ⟨22, _⟩ => ⟨S_, .f32⟩
  | .hbm, ⟨23, _⟩ => ⟨S1024x1280, .f32⟩
  | .hbm, ⟨24, _⟩ => ⟨S1024x1280, .f32⟩
  | .hbm, ⟨25, _⟩ => ⟨S_, .f32⟩
  | .hbm, ⟨26, _⟩ => ⟨S1024x1280, .f32⟩
  | .hbm, ⟨27, _⟩ => ⟨S1024x1280, .f32⟩
  | .hbm, ⟨28, _⟩ => ⟨S1024x1280, .f32⟩
  | .hbm, ⟨29, _⟩ => ⟨S_, .f32⟩
  | .hbm, ⟨30, _⟩ => ⟨S1024x1280, .f32⟩
  | .hbm, ⟨31, _⟩ => ⟨S1024x1280, .f32⟩
  | .hbm, ⟨32, _⟩ => ⟨S1024x1280, .f32⟩
  | .hbm, ⟨33, _⟩ => ⟨S_, .f32⟩
  | .hbm, ⟨34, _⟩ => ⟨S1024x1280, .f32⟩
  | .hbm, ⟨35, _⟩ => ⟨S1024x1280, .f32⟩
  | .hbm, ⟨36, _⟩ => ⟨S1024x1280, .f32⟩
  | .hbm, ⟨37, _⟩ => ⟨S_, .f32⟩
  | .hbm, ⟨38, _⟩ => ⟨S1024x1280, .f32⟩
  | .hbm, ⟨39, _⟩ => ⟨S1024x1280, .f32⟩
  | _, _ => ⟨S4x1024x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamConv.lean ====
abbrev S8x4x512 : Shape := ⟨3, ![8, 4, 512]⟩
abbrev S4x512 : Shape := ⟨2, ![4, 512]⟩
abbrev S1x4x512 : Shape := ⟨3, ![1, 4, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .hbm, ⟨7, _⟩ => ⟨S4x512, .f32⟩
  | .local _ .vmem, ⟨0, _⟩ => ⟨S8x4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512, .f32⟩
  | _, _ => ⟨S8x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelAdamConvIdeal.lean ====
abbrev S8x4x512 : Shape := ⟨3, ![8, 4, 512]⟩
abbrev S4x512 : Shape := ⟨2, ![4, 512]⟩
abbrev S1x4x512 : Shape := ⟨3, ![1, 4, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .hbm, ⟨7, _⟩ => ⟨S4x512, .f32⟩
  | .local _ .vmem, ⟨0, _⟩ => ⟨S8x4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512, .f32⟩
  | _, _ => ⟨S8x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamConvIdeal.lean ====
abbrev S8x4x512 : Shape := ⟨3, ![8, 4, 512]⟩
abbrev S4x512 : Shape := ⟨2, ![4, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S_, .f32⟩
  | .hbm, ⟨7, _⟩ => ⟨S4x512, .f32⟩
  | .hbm, ⟨8, _⟩ => ⟨S4x512, .f32⟩
  | .hbm, ⟨9, _⟩ => ⟨S_, .f32⟩
  | .hbm, ⟨10, _⟩ => ⟨S4x512, .f32⟩
  | .hbm, ⟨11, _⟩ => ⟨S4x512, .f32⟩
  | .hbm, ⟨12, _⟩ => ⟨S4x512, .f32⟩
  | .hbm, ⟨13, _⟩ => ⟨S_, .f32⟩
  | .hbm, ⟨14, _⟩ => ⟨S4x512, .f32⟩
  | .hbm, ⟨15, _⟩ => ⟨S4x512, .f32⟩
  | .hbm, ⟨16, _⟩ => ⟨S4x512, .f32⟩
  | .hbm, ⟨17, _⟩ => ⟨S_, .f32⟩
  | .hbm, ⟨18, _⟩ => ⟨S4x512, .f32⟩
  | .hbm, ⟨19, _⟩ => ⟨S4x512, .f32⟩
  | .hbm, ⟨20, _⟩ => ⟨S4x512, .f32⟩
  | .hbm, ⟨21, _⟩ => ⟨S_, .f32⟩
  | .hbm, ⟨22, _⟩ => ⟨S4x512, .f32⟩
  | .hbm, ⟨23, _⟩ => ⟨S4x512, .f32⟩
  | .hbm, ⟨24, _⟩ => ⟨S_, .f32⟩
  | .hbm, ⟨25, _⟩ => ⟨S4x512, .f32⟩
  | .hbm, ⟨26, _⟩ => ⟨S4x512, .f32⟩
  | .hbm, ⟨27, _⟩ => ⟨S4x512, .f32⟩
  | .hbm, ⟨28, _⟩ => ⟨S_, .f32⟩
  | .hbm, ⟨29, _⟩ => ⟨S4x512, .f32⟩
  | .hbm, ⟨30, _⟩ => ⟨S4x512, .f32⟩
  | .hbm, ⟨31, _⟩ => ⟨S4x512, .f32⟩
  | .hbm, ⟨32, _⟩ => ⟨S_, .f32⟩
  | .hbm, ⟨33, _⟩ => ⟨S4x512, .f32⟩
  | .hbm, ⟨34, _⟩ => ⟨S4x512, .f32⟩
  | .hbm, ⟨35, _⟩ => ⟨S4x512, .f32⟩
  | .hbm, ⟨36, _⟩ => ⟨S_, .f32⟩
  | .hbm, ⟨37, _⟩ => ⟨S4x512, .f32⟩
  | .hbm, ⟨38, _⟩ => ⟨S4x512, .f32⟩
  | _, _ => ⟨S8x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAdamSsd.lean ====
abbrev S4x256x1024 : Shape := ⟨3, ![4, 256, 1024]⟩
abbrev S256x1024 : Shape := ⟨2, ![256, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdamSsdIdeal.lean ====
abbrev S4x256x1024 : Shape := ⟨3, ![4, 256, 1024]⟩
abbrev S256x1024 : Shape := ⟨2, ![256, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamSsdIdeal.lean ====
abbrev S4x256x1024 : Shape := ⟨3, ![4, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S4x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamGate.lean ====
abbrev S4x1024x256 : Shape := ⟨3, ![4, 1024, 256]⟩
abbrev S1024x256 : Shape := ⟨2, ![1024, 256]⟩
abbrev S4x128x256 : Shape := ⟨3, ![4, 128, 256]⟩
abbrev S128x256 : Shape := ⟨2, ![128, 256]⟩
abbrev S1x128x256 : Shape := ⟨3, ![1, 128, 256]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S4x128x256, .bf16⟩
  | .local _ .vmem, ⟨1, _⟩ => ⟨S4x128x256, .bf16⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdamGateIdeal.lean ====
abbrev S4x1024x256 : Shape := ⟨3, ![4, 1024, 256]⟩
abbrev S1024x256 : Shape := ⟨2, ![1024, 256]⟩
abbrev S4x128x256 : Shape := ⟨3, ![4, 128, 256]⟩
abbrev S128x256 : Shape := ⟨2, ![128, 256]⟩
abbrev S1x128x256 : Shape := ⟨3, ![1, 128, 256]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S4x128x256, .bf16⟩
  | .local _ .vmem, ⟨1, _⟩ => ⟨S4x128x256, .bf16⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamGateIdeal.lean ====
abbrev S4x1024x256 : Shape := ⟨3, ![4, 1024, 256]⟩
abbrev S1024x256 : Shape := ⟨2, ![1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S4x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S4x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamFf2.lean ====
abbrev S4x512x1024 : Shape := ⟨3, ![4, 512, 1024]⟩
abbrev S512x1024 : Shape := ⟨2, ![512, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdamFf2Ideal.lean ====
abbrev S4x512x1024 : Shape := ⟨3, ![4, 512, 1024]⟩
abbrev S512x1024 : Shape := ⟨2, ![512, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamFf2Ideal.lean ====
abbrev S4x512x1024 : Shape := ⟨3, ![4, 512, 1024]⟩
abbrev S512x1024 : Shape := ⟨2, ![512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S4x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamPle.lean ====
abbrev S4x256x128 : Shape := ⟨3, ![4, 256, 128]⟩
abbrev S256x128 : Shape := ⟨2, ![256, 128]⟩
abbrev S4x128x128 : Shape := ⟨3, ![4, 128, 128]⟩
abbrev S128x128 : Shape := ⟨2, ![128, 128]⟩
abbrev S1x128x128 : Shape := ⟨3, ![1, 128, 128]⟩

abbrev nBuf : Space → Nat
  | .hbm => 8
  | .vmem => 16
  | .smem => 0
  | _ => 0

abbrev bufTy : (tb : Table) → Fin (tcTables nBuf tb) → BufTy
  | .hbm, ⟨0, _⟩ => ⟨S4x256x128, .bf16⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .local _ .vmem, ⟨0, _⟩ => ⟨S4x128x128, .bf16⟩
  | .local _ .vmem, ⟨1, _⟩ => ⟨S4x128x128, .bf16⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S4x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdamPleIdeal.lean ====
abbrev S4x256x128 : Shape := ⟨3, ![4, 256, 128]⟩
abbrev S256x128 : Shape := ⟨2, ![256, 128]⟩
abbrev S4x128x128 : Shape := ⟨3, ![4, 128, 128]⟩
abbrev S128x128 : Shape := ⟨2, ![128, 128]⟩
abbrev S1x128x128 : Shape := ⟨3, ![1, 128, 128]⟩

abbrev nBuf : Space → Nat
  | .hbm => 8
  | .vmem => 16
  | .smem => 0
  | _ => 0

abbrev bufTy : (tb : Table) → Fin (tcTables nBuf tb) → BufTy
  | .hbm, ⟨0, _⟩ => ⟨S4x256x128, .bf16⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .local _ .vmem, ⟨0, _⟩ => ⟨S4x128x128, .bf16⟩
  | .local _ .vmem, ⟨1, _⟩ => ⟨S4x128x128, .bf16⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S4x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamPleIdeal.lean ====
abbrev S4x256x128 : Shape := ⟨3, ![4, 256, 128]⟩
abbrev S256x128 : Shape := ⟨2, ![256, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x256x128, .bf16⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S4x256x128, .f32⟩
  | .hbm, ⟨5, _⟩ => ⟨S_, .f32⟩
  | .hbm, ⟨6, _⟩ => ⟨S256x128, .f32⟩
  | .hbm, ⟨7, _⟩ => ⟨S_, .f32⟩
  | .hbm, ⟨8, _⟩ => ⟨S256x128, .f32⟩
  | .hbm, ⟨9, _⟩ => ⟨S256x128, .f32⟩
  | .hbm, ⟨10, _⟩ => ⟨S_, .f32⟩
  | .hbm, ⟨11, _⟩ => ⟨S256x128, .f32⟩
  | .hbm, ⟨12, _⟩ => ⟨S256x128, .f32⟩
  | .hbm, ⟨13, _⟩ => ⟨S256x128, .f32⟩
  | .hbm, ⟨14, _⟩ => ⟨S_, .f32⟩
  | .hbm, ⟨15, _⟩ => ⟨S256x128, .f32⟩
  | .hbm, ⟨16, _⟩ => ⟨S256x128, .f32⟩
  | .hbm, ⟨17, _⟩ => ⟨S256x128, .f32⟩
  | .hbm, ⟨18, _⟩ => ⟨S_, .f32⟩
  | .hbm, ⟨19, _⟩ => ⟨S256x128, .f32⟩
  | .hbm, ⟨20, _⟩ => ⟨S256x128, .f32⟩
  | .hbm, ⟨21, _⟩ => ⟨S256x128, .f32⟩
  | .hbm, ⟨22, _⟩ => ⟨S_, .f32⟩
  | .hbm, ⟨23, _⟩ => ⟨S256x128, .f32⟩
  | .hbm, ⟨24, _⟩ => ⟨S256x128, .f32⟩
  | .hbm, ⟨25, _⟩ => ⟨S_, .f32⟩
  | .hbm, ⟨26, _⟩ => ⟨S256x128, .f32⟩
  | .hbm, ⟨27, _⟩ => ⟨S256x128, .f32⟩
  | .hbm, ⟨28, _⟩ => ⟨S256x128, .f32⟩
  | .hbm, ⟨29, _⟩ => ⟨S_, .f32⟩
  | .hbm, ⟨30, _⟩ => ⟨S256x128, .f32⟩
  | .hbm, ⟨31, _⟩ => ⟨S256x128, .f32⟩
  | .hbm, ⟨32, _⟩ => ⟨S256x128, .f32⟩
  | .hbm, ⟨33, _⟩ => ⟨S_, .f32⟩
  | .hbm, ⟨34, _⟩ => ⟨S256x128, .f32⟩
  | .hbm, ⟨35, _⟩ => ⟨S256x128, .f32⟩
  | .hbm, ⟨36, _⟩ => ⟨S256x128, .f32⟩
  | .hbm, ⟨37, _⟩ => ⟨S_, .f32⟩
  | .hbm, ⟨38, _⟩ => ⟨S256x128, .f32⟩
  | .hbm, ⟨39, _⟩ => ⟨S256x128, .f32⟩
  | _, _ => ⟨S4x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamSmall.lean ====
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S16x1024, .f32⟩
  | .local _ .vmem, ⟨0, _⟩ => ⟨S8x16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamSmallIdeal.lean ====
abbrev S8x16x1024 : Shape := ⟨3, ![8, 16, 1024]⟩
abbrev S16x1024 : Shape := ⟨2, ![16, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S_, .f32⟩
  | .hbm, ⟨18, _⟩ => ⟨S16x1024, .f32⟩
  | .hbm, ⟨19, _⟩ => ⟨S16x1024, .f32⟩
  | .hbm, ⟨20, _⟩ => ⟨S16x1024, .f32⟩
  | .hbm, ⟨21, _⟩ => ⟨S_, .f32⟩
  | .hbm, ⟨22, _⟩ => ⟨S16x1024, .f32⟩
  | .hbm, ⟨23, _⟩ => ⟨S16x1024, .f32⟩
  | .hbm, ⟨24, _⟩ => ⟨S_, .f32⟩
  | .hbm, ⟨25, _⟩ => ⟨S16x1024, .f32⟩
  | .hbm, ⟨26, _⟩ => ⟨S16x1024, .f32⟩
  | .hbm, ⟨27, _⟩ => ⟨S16x1024, .f32⟩
  | .hbm, ⟨28, _⟩ => ⟨S_, .f32⟩
  | .hbm, ⟨29, _⟩ => ⟨S16x1024, .f32⟩
  | .hbm, ⟨30, _⟩ => ⟨S16x1024, .f32⟩
  | .hbm, ⟨31, _⟩ => ⟨S16x1024, .f32⟩
  | .hbm, ⟨32, _⟩ => ⟨S_, .f32⟩
  | .hbm, ⟨33, _⟩ => ⟨S16x1024, .f32⟩
  | .hbm, ⟨34, _⟩ => ⟨S16x1024, .f32⟩
  | .hbm, ⟨35, _⟩ => ⟨S16x1024, .f32⟩
  | .hbm, ⟨36, _⟩ => ⟨S_, .f32⟩
  | .hbm, ⟨37, _⟩ => ⟨S16x1024, .f32⟩
  | .hbm, ⟨38, _⟩ => ⟨S16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Words.lean ====
/- The integer words of the kernel at the table this program hands it: every entry of the block table is 16, so at query
   block `q` the loop makes `q` trips, trip `k` works on key rows `256 k … 256 k + 255`, and the last block is the
   diagonal one. -/
module

public import proofs.«01_k».proof.Proof.Gen.KernelIdeal.Skeleton
public import Idealize.ShloMosaic.Lib.Tactic

@[expose] public section

namespace Cert.KernelIdeal.Hand

open Cert.KernelIdeal Cert.KernelIdeal.Gen
open Idealize.ShloMosaic

/-- The body's assumption holds at every grid point when the word read is 16. -/
theorem chk16 (i : grid0.Coords) : k0_chk1 i 16#32 := by
  have key : ∀ (a : Fin 8) (b : Fin 16), k0_chk1 (Fin.cons a (Fin.cons b finZeroElim)) 16#32 := by decide +kernel
  have e : i = Fin.cons (i 0) (Fin.cons (i 1) finZeroElim) := by
    funext a; fin_cases a <;> rfl
  rw [e]; exact key _ _

/-- The loop makes as many trips as there are key blocks before the diagonal one. -/
theorem trips16 (i : grid0.Coords) : (k0_t1_loop i 16#32).trips = (i 1).val := by
  have key : ∀ b : Fin 16, ∀ a : Fin 8, (k0_t1_loop (Fin.cons a (Fin.cons b finZeroElim)) 16#32).trips = b.val := by decide +kernel
  have e : i = Fin.cons (i 0) (Fin.cons (i 1) finZeroElim) := by
    funext a; fin_cases a <;> rfl
  rw [e]; exact key _ _

/-- The offsets of trip `k`'s rows. -/
theorem off2_16 (i : grid0.Coords) (k : Fin (k0_t1_loop i 16#32).trips) : k0_off2 i 16#32 k = ![256 * k.val, 0] := by
  have key : ∀ b : Fin 16, ∀ a : Fin 8, ∀ k : Fin (k0_t1_loop (Fin.cons a (Fin.cons b finZeroElim)) 16#32).trips,
      k0_off2 (Fin.cons a (Fin.cons b finZeroElim)) 16#32 k = ![256 * k.val, 0] := by decide +kernel
  have e : i = Fin.cons (i 0) (Fin.cons (i 1) finZeroElim) := by
    funext a; fin_cases a <;> rfl
  revert k; rw [e]; exact key _ _

/-- The offsets of the diagonal block's rows. -/
theorem off4_eq (i : grid0.Coords) : k0_off4 i = ![256 * (i 1).val, 0] := by
  have key : ∀ b : Fin 16, ∀ a : Fin 8, k0_off4 (Fin.cons a (Fin.cons b finZeroElim)) = ![256 * b.val, 0] := by decide +kernel
  have e : i = Fin.cons (i 0) (Fin.cons (i 1) finZeroElim) := by
    funext a; fin_cases a <;> rfl
  rw [e]; exact key _ _

end Cert.KernelIdeal.Hand

end
-- ==== Proof.Body.lean ====
/- The kernel's body at one grid point, as a function of what its staging buffers hold: the state of its loop (the running
   sums carried along the key blocks, and the two gradient buffers it adds into), the block it leaves in `dq`, and the
   triple that says so. -/
module

public import proofs.«01_k».proof.Proof.Words
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Tactic
public import Idealize.ShloMosaic.Lib.VecWindow
public import Idealize.ShloMosaic.Lib.LoopRemainder

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body as a function -/

/-- A key-side buffer (all 4096 rows of a head pair), and a block of 256 rows. -/
abbrev Big (F : FTy → Type) [FloatOps F] := Vec F S4096x128 .f32
abbrev Blk (F : FTy → Type) [FloatOps F] := Vec F S256x128 .f32
/-- What the loop carries: the running sum of the softpluses, that of the weighted gradients, and the block of `dq` so far. -/
abbrev Acc (F : FTy → Type) [FloatOps F] := FVec F S512x1 .f32 × FVec F S512x1 .f32 × FVec F S512x128 .f32

/-- Rows `256 k … 256 k + 255` of a key-side buffer. -/
def blk (X : Big F) (k : ℕ) : Blk F :=
  fun y => X fun a => ⟨((![256 * k, 0] : Fin 2 → ℕ) a + (y a).val) % S4096x128.size a,
    Nat.mod_lt _ (by fin_cases a <;> decide)⟩

/-- A key-side buffer with rows `256 k … 256 k + 255` replaced. -/
def putBlk (X : Big F) (k : ℕ) (w : Blk F) : Big F := VecWindow.put X ![256 * k, 0] S256x128.size w

section Trip
variable (q d tt kb vb : Blk F)

/-- The totals of the rows' softpluses, one for each stacked row. -/
def tot (tt : Blk F) : FVec F S512x1 .f32 :=
  k0_pay25 (iota .tc S256x128 32 [1] iota_S256x128_d1_w32) (k0_pay22 tt) (k0_pay23 tt) k0_pay24

/-- A trip's weights times the gradient of the output against the values. -/
def tripG (q d tt kb vb : Blk F) (a : Acc F) : FVec F S512x256 .f32 :=
  k0_pay6 (k0_pay20 q) (k0_pay21 d) (tot tt) k0_pay27 a.1 kb vb

/-- What a trip carries on. -/
def tripAcc (q d tt kb vb : Blk F) (a : Acc F) : Acc F :=
  (k0_pay34 a.1 (k0_pay4 (k0_pay20 q) kb), k0_pay35 a.2.1 (tripG q d tt kb vb a),
    k0_pay36 a.2.1 a.2.2 (k0_pay2 kb) (k0_pay3 (k0_pay20 q) kb) (k0_pay4 (k0_pay20 q) kb) (tripG q d tt kb vb a)
      (k0_pay7 (k0_pay20 q) (k0_pay21 d) (tot tt) k0_pay27 a.1 kb vb)
      (k0_pay9 (k0_pay20 q) (k0_pay21 d) (tot tt) k0_pay27 a.1 kb vb))

/-- What a trip leaves in its rows of the gradient of the keys. -/
def tripK (q d tt kb vb : Blk F) (a : Acc F) (b : Blk F) : Blk F :=
  k0_pay32 (k0_pay20 q) a.2.1 (k0_pay3 (k0_pay20 q) kb) (k0_pay4 (k0_pay20 q) kb) (tripG q d tt kb vb a)
    (k0_pay7 (k0_pay20 q) (k0_pay21 d) (tot tt) k0_pay27 a.1 kb vb)
    (k0_pay9 (k0_pay20 q) (k0_pay21 d) (tot tt) k0_pay27 a.1 kb vb) b

/-- What a trip leaves in its rows of the gradient of the values. -/
def tripV (q d tt kb : Blk F) (a : Acc F) (b : Blk F) : Blk F :=
  k0_pay33 (k0_pay21 d) (k0_pay5 (k0_pay20 q) (tot tt) k0_pay27 a.1 kb) b

end Trip

/-- The loop's state before trip `k`: what it carries and the two buffers it adds into. -/
def stt (q d tt : Blk F) (K V X9 X10 : Big F) : ℕ → Acc F × Big F × Big F
  | 0 => ((k0_pay29, k0_pay29, k0_pay30), X9, X10)
  | k + 1 =>
    let s := stt q d tt K V X9 X10 k
    (tripAcc q d tt (blk K k) (blk V k) s.1,
      putBlk s.2.1 k (tripK q d tt (blk K k) (blk V k) s.1 (blk s.2.1 k)),
      putBlk s.2.2 k (tripV q d tt (blk K k) s.1 (blk s.2.2 k)))

section Diag
variable (i : grid0.Coords) (q d tt kb vb : Blk F) (a : Acc F)

/-- The diagonal block's mask, weights, and weighted gradients. -/
def dgM : IVec S512x256 1 :=
  k0_pay46 (BitVec.ofNat 32 (i 1).val) (k0_pay26 (BitVec.ofNat 32 (i 1).val)) (iota .tc S512x256 32 [1] iota_S512x256_d1_w32) 256#32
def dgA : FVec F S512x256 .f32 :=
  k0_pay47 (BitVec.ofNat 32 (i 1).val) (k0_pay20 q) (tot tt) (k0_pay26 (BitVec.ofNat 32 (i 1).val))
    (iota .tc S512x256 32 [1] iota_S512x256_d1_w32) k0_pay27 a.1 256#32 kb
def dgG : FVec F S512x256 .f32 :=
  k0_pay48 (BitVec.ofNat 32 (i 1).val) (k0_pay20 q) (k0_pay21 d) (tot tt) (k0_pay26 (BitVec.ofNat 32 (i 1).val))
    (iota .tc S512x256 32 [1] iota_S512x256_d1_w32) k0_pay27 a.1 256#32 kb vb

/-- What the diagonal block leaves in its rows of the two buffers, and the block of `dq`. -/
def dgK (b : Blk F) : Blk F :=
  k0_pay50 (k0_pay20 q) k0_pay28 a.2.1 (k0_pay44 (k0_pay20 q) kb) (k0_pay45 (k0_pay20 q) kb) (dgM i) (dgG i q d tt kb vb a) b
def dgV (b : Blk F) : Blk F := k0_pay51 (k0_pay21 d) (dgA i q tt kb a) b
def dgQ : Vec F S256x128 .bf16 :=
  k0_pay1 (k0_pay52 k0_pay28 a.2.1 a.2.2 (k0_pay43 kb) (k0_pay44 (k0_pay20 q) kb) (k0_pay45 (k0_pay20 q) kb) (dgM i) (dgG i q d tt kb vb a))

end Diag

/-- What the body leaves in its three outputs at grid point `i`, the key-side buffers holding `X9` and `X10` when its loop starts. -/
def outs (i : grid0.Coords) (q d tt : Blk F) (K V X9 X10 : Big F) : Vec F S256x128 .bf16 × Big F × Big F :=
  let s := stt q d tt K V X9 X10 (i 1).val
  let kb := blk K (i 1).val
  let vb := blk V (i 1).val
  (dgQ i q d tt kb vb s.1,
    putBlk s.2.1 (i 1).val (dgK i q d tt kb vb s.1 (blk s.2.1 (i 1).val)),
    putBlk s.2.2 (i 1).val (dgV i q d tt kb s.1 (blk s.2.2 (i 1).val)))

/-- What the key-side buffers hold when the loop starts: zero at the first query block, else what the point found. -/
def start (i : grid0.Coords) (Z X : Big F) : Big F := if (i 1).val = 0 then Z else X

/-! ## The rows a load reads and a store replaces -/

/-- A load of 256 rows reads those rows. -/
theorem readAt_blk (v : View sig .tc .vmem S4096x128 .f32) (f : v.ty.Contents (Elt F)) {off : Fin 2 → ℕ} {k : ℕ}
    (inb : ∀ a, off a + S256x128.size a ≤ S4096x128.size a) (h : off = ![256 * k, 0]) {X : Big F} (hX : v.read (Elt F) f = X) :
    v.readAt (Elt F) (Rect.unit (s := S4096x128) off S256x128.size inb).toLoadRect f = blk X k := by
  subst hX h
  funext y
  refine congrArg (v.read (Elt F) f) (funext fun a => Fin.ext ?_)
  show ![256 * k, 0] a + 1 * (y a).val = (![256 * k, 0] a + (y a).val) % S4096x128.size a
  have h1 := inb a
  have h2 : (y a).val < S256x128.size a := (y a).isLt
  rw [Nat.mod_eq_of_lt (by omega), Nat.one_mul]

/-- The same through a slice of the whole buffer. -/
theorem readAt_slice_blk (v : View sig .tc .vmem S4096x128 .f32) (f : v.ty.Contents (Elt F)) {off : Fin 2 → ℕ} {k : ℕ}
    (inb₀ : ∀ a, (![0, 0] : Fin 2 → ℕ) a + S4096x128.size a ≤ S4096x128.size a)
    (inb : ∀ a, off a + S256x128.size a ≤ S4096x128.size a)
    (h₀ : ∀ a, (Rect.unit (s := S4096x128) ![0, 0] S4096x128.size inb₀).stride a = 1)
    (h : off = ![256 * k, 0]) {X : Big F} (hX : v.read (Elt F) f = X) :
    v.readAt (Elt F) ((Rect.unit (s := S4096x128) ![0, 0] S4096x128.size inb₀).withinL
      (Rect.unit (s := (Rect.unit (s := S4096x128) ![0, 0] S4096x128.size inb₀).shape) off S256x128.size inb).toLoadRect h₀) f = blk X k := by
  refine Eq.trans ?_ (readAt_blk v f inb h hX)
  funext y
  refine congrArg (v.read (Elt F) f) ((Rect.idx_withinL (Rect.unit ![0, 0] S4096x128.size inb₀)
    (Rect.unit (s := (Rect.unit (s := S4096x128) ![0, 0] S4096x128.size inb₀).shape) off S256x128.size inb).toLoadRect h₀ y).trans (funext fun a => Fin.ext ?_))
  show (![0, 0] : Fin 2 → ℕ) a + 1 * (off a + 1 * (y a).val) = off a + 1 * (y a).val
  have : (![0, 0] : Fin 2 → ℕ) a = 0 := by fin_cases a <;> rfl
  omega

/-- A store of 256 rows replaces those rows. -/
theorem read_putBlk (v : View sig .tc .vmem S4096x128 .f32) (f : v.ty.Contents (Elt F)) {off : Fin 2 → ℕ} {k : ℕ}
    (inb : ∀ a, off a + S256x128.size a ≤ S4096x128.size a) (h : off = ![256 * k, 0]) (w : Blk F) {X : Big F} (hX : v.read (Elt F) f = X) :
    v.read (Elt F) (v.writes (Elt F) f [⟨Rect.unit (s := S4096x128) off S256x128.size inb, w⟩]) = putBlk X k w := by
  subst hX
  exact View.read_writes_cons_put v f inb w [] h

/-! ## The body's run -/

/-- Before trip `k` the loop holds the keys and the values as they were and its state's two buffers, and carries its state. -/
def inv (c : Dev nD) (arg4 arg5 arg9 arg10 : Memref sig .tc .vmem S4096x128 .f32) (q d tt : Blk F) (K V X9 X10 : Big F)
    (k : ℕ) (acc : Acc F) : sProp 𝕄 :=
  iprop(owns (c : Thread nD τ) arg4 fullShare K ∗ owns (c : Thread nD τ) arg5 fullShare V
    ∗ owns (c : Thread nD τ) arg9 fullShare (stt q d tt K V X9 X10 k).2.1
    ∗ owns (c : Thread nD τ) arg10 fullShare (stt q d tt K V X9 X10 k).2.2 ∗ ⌜acc = (stt q d tt K V X9 X10 k).1⌝)

theorem tripRun (c : Dev nD) (i : grid0.Coords) (arg2 : Memref sig .tc .smem S8x16 .i32) (harg2 : arg2.IsWhole)
    (arg3 : Memref sig .tc .vmem S256x128 .f32) (harg3 : arg3.IsWhole) (arg4 : Memref sig .tc .vmem S4096x128 .f32) (harg4 : arg4.IsWhole)
    (arg5 : Memref sig .tc .vmem S4096x128 .f32) (harg5 : arg5.IsWhole) (arg6 : Memref sig .tc .vmem S256x128 .f32) (harg6 : arg6.IsWhole)
    (arg7 : Memref sig .tc .vmem S256x128 .f32) (harg7 : arg7.IsWhole) (arg8 : Memref sig .tc .vmem S256x128 .bf16) (harg8 : arg8.IsWhole)
    (arg9 : Memref sig .tc .vmem S4096x128 .f32) (harg9 : arg9.IsWhole) (arg10 : Memref sig .tc .vmem S4096x128 .f32) (harg10 : arg10.IsWhole)
    (w : BitVec 32) (hw : w = 16#32) (hchk : k0_chk1 i w) (v73 : BitVec 32) (arg0 arg1 : BitVec 32) (q d tt : Blk F) (K V X9 X10 : Big F)
    (k : Fin (k0_t1_loop i w).trips) (acc : Acc F) :
    inv c arg4 arg5 arg9 arg10 q d tt K V X9 X10 k acc
      ⊢ wp frame (wpE (defs₀ (F := F)) Variants.none (c : Thread nD τ) none) Set.univ
          (k0_t1_body i arg2 harg2 arg3 harg3 arg4 harg4 arg5 harg5 arg6 harg6 arg7 harg7 arg8 harg8 arg9 harg9 arg10 harg10 arg0 arg1
            (iota .tc S256x128 32 [1] iota_S256x128_d1_w32) (k0_pay20 q) (k0_pay21 d) (k0_pay22 tt) (k0_pay23 tt) k0_pay24 w hchk v73 k acc)
          (inv c arg4 arg5 arg9 arg10 q d tt K V X9 X10 (k + 1)) := by
  subst hw
  unfold inv owns
  iintro ⟨⟨%f4, %h4, H4⟩, ⟨%f5, %h5, H5⟩, ⟨%f9, %h9, H9⟩, ⟨%f10, %h10, H10⟩, %hacc⟩
  subst hacc
  unfold k0_t1_body
  sl_exec
  sl_step
  have e4 := readAt_slice_blk arg4.view f4 inb_S4096x128_S4096x128_0_0 (k0_off2_inb i 16#32 hchk k) (fun _ => rfl) (off2_16 i k) h4
  have e5 := readAt_blk arg5.view f5 (k0_off2_inb i 16#32 hchk k) (off2_16 i k) h5
  have e9 := readAt_blk arg9.view f9 (k0_off2_inb i 16#32 hchk k) (off2_16 i k) h9
  have e10 := readAt_blk arg10.view f10 (k0_off2_inb i 16#32 hchk k) (off2_16 i k) h10
  isplitl [H4]
  · iexists f4; isplitr
    · ipureintro; exact h4
    · iexact H4
  isplitl [H5]
  · iexists f5; isplitr
    · ipureintro; exact h5
    · iexact H5
  isplitl [H9]
  · iexists _; isplitr; swap; · iexact H9
    ipureintro
    rw [read_putBlk arg9.view f9 (k0_off2_inb i 16#32 hchk k) (off2_16 i k) _ h9]
    sl_unfold_run_names
    simp only [stt, tripK, tripG, tot, e4, e5, e9]
  isplitl [H10]
  · iexists _; isplitr; swap; · iexact H10
    ipureintro
    rw [read_putBlk arg10.view f10 (k0_off2_inb i 16#32 hchk k) (off2_16 i k) _ h10]
    sl_unfold_run_names
    simp only [stt, tripV, tripG, tot, e4, e5, e10]
  ipureintro
  sl_unfold_run_names
  simp only [stt, tripAcc, tripG, tot, e4, e5]

end Cert.KernelIdeal.Hand
end
-- ==== Proof.BodyRun.lean ====
/- The run of the kernel's body at one grid point. -/
module

public import proofs.«01_k».proof.Proof.Body
public import Idealize.ShloMosaic.Lib.Tactic
public import Idealize.ShloMosaic.Lib.VecWindow
public import Idealize.ShloMosaic.Lib.LoopRemainder

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 800000 in
theorem kernelRun (c : Dev nD) (i : grid0.Coords) (arg2 : Memref sig .tc .smem S8x16 .i32) (harg2 : arg2.IsWhole)
    (arg3 : Memref sig .tc .vmem S256x128 .f32) (harg3 : arg3.IsWhole) (arg4 : Memref sig .tc .vmem S4096x128 .f32) (harg4 : arg4.IsWhole)
    (arg5 : Memref sig .tc .vmem S4096x128 .f32) (harg5 : arg5.IsWhole) (arg6 : Memref sig .tc .vmem S256x128 .f32) (harg6 : arg6.IsWhole)
    (arg7 : Memref sig .tc .vmem S256x128 .f32) (harg7 : arg7.IsWhole) (arg8 : Memref sig .tc .vmem S256x128 .bf16) (harg8 : arg8.IsWhole)
    (arg9 : Memref sig .tc .vmem S4096x128 .f32) (harg9 : arg9.IsWhole) (arg10 : Memref sig .tc .vmem S4096x128 .f32) (harg10 : arg10.IsWhole)
    (x2 : Vec F S8x16 .i32) (hx2 : x2 = fun _ => 16#32) (q : Blk F) (kk vv : Big F) (d tt : Blk F) (X9 X10 : Big F) (Q : PUnit → sProp 𝕄) :
    iprop(owns (c : Thread nD τ) arg2 fullShare x2 ∗ owns (c : Thread nD τ) arg3 fullShare q ∗ owns (c : Thread nD τ) arg4 fullShare kk
        ∗ owns (c : Thread nD τ) arg5 fullShare vv ∗ owns (c : Thread nD τ) arg6 fullShare d ∗ owns (c : Thread nD τ) arg7 fullShare tt
        ∗ (∃ y, owns (c : Thread nD τ) arg8 fullShare y) ∗ owns (c : Thread nD τ) arg9 fullShare X9 ∗ owns (c : Thread nD τ) arg10 fullShare X10
        ∗ (iprop(owns (c : Thread nD τ) arg2 fullShare x2 ∗ owns (c : Thread nD τ) arg3 fullShare q ∗ owns (c : Thread nD τ) arg4 fullShare kk
            ∗ owns (c : Thread nD τ) arg5 fullShare vv ∗ owns (c : Thread nD τ) arg6 fullShare d ∗ owns (c : Thread nD τ) arg7 fullShare tt
            ∗ owns (c : Thread nD τ) arg8 fullShare (outs i q d tt kk vv (start i k0_pay18 X9) (start i k0_pay19 X10)).1
            ∗ owns (c : Thread nD τ) arg9 fullShare (outs i q d tt kk vv (start i k0_pay18 X9) (start i k0_pay19 X10)).2.1
            ∗ owns (c : Thread nD τ) arg10 fullShare (outs i q d tt kk vv (start i k0_pay18 X9) (start i k0_pay19 X10)).2.2) -∗ Q ⟨⟩))
      ⊢ wp frame (wpE (defs₀ (F := F)) Variants.none (c : Thread nD τ) none) Set.univ
          (cc0_sb_bwd i arg2 harg2 arg3 harg3 arg4 harg4 arg5 harg5 arg6 harg6 arg7 harg7 arg8 harg8 arg9 harg9 arg10 harg10) Q := by
  subst hx2
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%y8, %f8, -, H8⟩, ⟨%f9, %h9, H9⟩, ⟨%f10, %h10, H10⟩, Hk⟩
  sl_unfold [cc0_sb_bwd]
  have hword : ∀ y, arg2.view.readAt (Elt F) (Rect.unit (s := S8x16) (k0_off1 i) S1x1.size (k0_off1_inb i)).toLoadRect f2 y = 16#32 :=
    fun y => congrFun h2 _
  have hchk : ∀ y, k0_chk1 i (arg2.view.readAt (Elt F) (Rect.unit (s := S8x16) (k0_off1 i) S1x1.size (k0_off1_inb i)).toLoadRect f2 y) :=
    fun y => by rw [hword y]; exact chk16 i
  have hz : Scalar.cmpi .ne (Scalar.extui (Scalar.cmpi .eq (BitVec.ofNat 32 (i 1).val) 0#32) : BitVec 32) 0#32 = 1#1 ↔ (i 1).val = 0 := by
    have key : ∀ b : Fin 16, Scalar.cmpi .ne (Scalar.extui (Scalar.cmpi .eq (BitVec.ofNat 32 b.val) 0#32) : BitVec 32) 0#32 = 1#1 ↔ b.val = 0 := by
      decide
    exact key (i 1)
  have htr : ∀ w, w = 16#32 → Scf.trips (k0_t1_loop i w).lb (k0_t1_loop i w).ub (k0_t1_loop i w).st = (i 1).val :=
    fun w h => by subst h; exact trips16 i
  have eq3 : arg3.view.readAt (Elt F) (Rect.unit (s := S256x128) ![0, 0] S256x128.size inb_S256x128_S256x128_0_0).toLoadRect f3 = q :=
    (View.readAt_full (Val := Elt F) arg3.view f3 _).trans h3
  have eq6 : arg6.view.readAt (Elt F) (Rect.unit (s := S256x128) ![0, 0] S256x128.size inb_S256x128_S256x128_0_0).toLoadRect f6 = d :=
    (View.readAt_full (Val := Elt F) arg6.view f6 _).trans h6
  have eq7 : arg7.view.readAt (Elt F) (Rect.unit (s := S256x128) ![0, 0] S256x128.size inb_S256x128_S256x128_0_0).toLoadRect f7 = tt :=
    (View.readAt_full (Val := Elt F) arg7.view f7 _).trans h7
  by_cases hc : Scalar.cmpi .ne (Scalar.extui (Scalar.cmpi .eq (BitVec.ofNat 32 (i 1).val) 0#32) : BitVec 32) 0#32 = 1#1
  all_goals
    sl_exec (disch := first | sl_exact hc | exact hchk _)
    sl_for (inv c arg4 arg5 arg9 arg10 q d tt kk vv (start i k0_pay18 X9) (start i k0_pay19 X10)) $$ [H4 H5 H9 H10]
    · sl_unfold_run_names
      intro k acc
      refine tripRun c i arg2 harg2 arg3 harg3 arg4 harg4 arg5 harg5 arg6 harg6 arg7 harg7 arg8 harg8 arg9 harg9 arg10 harg10
        _ ?_ _ _ _ _ q d tt kk vv _ _ k acc
      exact hword _
    · unfold inv owns
      sl_unfold_run_names
      isplitl [H4]
      · iexists f4; isplitr
        · ipureintro; exact h4
        · iexact H4
      isplitl [H5]
      · iexists f5; isplitr
        · ipureintro; exact h5
        · iexact H5
      isplitl [H9]
      · iexists _; isplitr; swap; · iexact H9
        ipureintro
        simp only [stt]
        first
        | rw [h9]; exact (if_neg fun h => hc (hz.mpr h)).symm
        | rw [View.read_writes_full (Val := Elt F)]; exact (if_pos (hz.mp hc)).symm
      isplitl [H10]
      · iexists _; isplitr; swap; · iexact H10
        ipureintro
        simp only [stt]
        first
        | rw [h10]; exact (if_neg fun h => hc (hz.mpr h)).symm
        | rw [View.read_writes_full (Val := Elt F)]; exact (if_pos (hz.mp hc)).symm
      ipureintro; rfl
    · iintro %acc HI
      unfold inv owns
      icases HI with ⟨⟨%g4, %e4, H4⟩, ⟨%g5, %e5, H5⟩, ⟨%g9, %e9, H9⟩, ⟨%g10, %e10, H10⟩, %hacc⟩
      sl_exec
      sl_step
      replace e9 := e9.trans (congrArg (fun n => (stt q d tt kk vv (start i k0_pay18 X9) (start i k0_pay19 X10) n).2.1) (htr _ (hword _)))
      replace e10 := e10.trans (congrArg (fun n => (stt q d tt kk vv (start i k0_pay18 X9) (start i k0_pay19 X10) n).2.2) (htr _ (hword _)))
      replace hacc := hacc.trans (congrArg (fun n => (stt q d tt kk vv (start i k0_pay18 X9) (start i k0_pay19 X10) n).1) (htr _ (hword _)))
      have b4 := readAt_slice_blk arg4.view g4 inb_S4096x128_S4096x128_0_0 (k0_off4_inb i) (fun _ => rfl) (off4_eq i) e4
      have b5 := readAt_blk arg5.view g5 (k0_off4_inb i) (off4_eq i) e5
      have b9 := readAt_blk arg9.view g9 (k0_off4_inb i) (off4_eq i) e9
      have b10 := readAt_blk arg10.view g10 (k0_off4_inb i) (off4_eq i) e10
      subst hacc
      iapply Hk
      isplitl [H2]
      · iexists f2; isplitr
        · ipureintro; exact h2
        · iexact H2
      isplitl [H3]
      · iexists f3; isplitr
        · ipureintro; exact h3
        · iexact H3
      isplitl [H4]
      · iexists g4; isplitr
        · ipureintro; exact e4
        · iexact H4
      isplitl [H5]
      · iexists g5; isplitr
        · ipureintro; exact e5
        · iexact H5
      isplitl [H6]
      · iexists f6; isplitr
        · ipureintro; exact h6
        · iexact H6
      isplitl [H7]
      · iexists f7; isplitr
        · ipureintro; exact h7
        · iexact H7
      isplitl [H8]
      · iexists _; isplitr; swap; · iexact H8
        ipureintro
        rw [View.read_writes_full (Val := Elt F)]
        sl_unfold_run_names
        simp only [outs, dgQ, dgG, dgM, tot, eq3, eq6, eq7, b4, b5]
      isplitl [H9]
      · iexists _; isplitr; swap; · iexact H9
        ipureintro
        rw [read_putBlk arg9.view g9 (k0_off4_inb i) (off4_eq i) _ e9]
        sl_unfold_run_names
        simp only [outs, dgK, dgG, dgM, tot, eq3, eq6, eq7, b4, b5, b9]
      · iexists _; isplitr; swap; · iexact H10
        ipureintro
        rw [read_putBlk arg10.view g10 (k0_off4_inb i) (off4_eq i) _ e10]
        sl_unfold_run_names
        simp only [outs, dgV, dgA, tot, eq3, eq6, eq7, b4, b10]

end Cert.KernelIdeal.Hand

end
-- ==== Proof.Launched.lean ====
/- The kernel program's run: what every grid point leaves in the three outputs' buffers, by recursion on the point, and the
   launch. Stated over any float values. -/
module

public import proofs.«01_k».proof.Proof.BodyRun
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The loop bounds the kernel is handed -/

theorem nblk_eq (c : Dev nD) : V m c main_v24 = (fun _ => 16#32 : Vec F S8x16 .i32) := by
  entry_read
  rfl

theorem iblk0_eq (c : Dev nD) (t : Fin cfg0.N) : (iblk m c 0 t : Vec F S8x16 .i32) = fun _ => 16#32 := by
  unfold iblk
  rw [show V m c (Pipeline.arrRef spec0 0) = _ from nblk_eq m c]
  rfl

/-! ## The outputs, point by point -/

/-- What the body leaves at point `t` in the three outputs' buffers, if it finds `X9` and `X10` in the two it adds into. -/
def outsAt (c : Dev nD) (t : Fin cfg0.N) (X9 X10 : Big F) : Vec F S256x128 .bf16 × Big F × Big F :=
  outs (grid0.coords t) (iblk m c 1 t) (iblk m c 4 t) (iblk m c 5 t) (iblk m c 2 t) (iblk m c 3 t)
    (start (grid0.coords t) k0_pay18 X9) (start (grid0.coords t) k0_pay19 X10)

/-- The two accumulated outputs before point `n`. -/
def accAt (c : Dev nD) : ℕ → Big F × Big F
  | 0 => (k0_pay18, k0_pay19)
  | n + 1 => if h : n < cfg0.N then (outsAt m c ⟨n, h⟩ (accAt c n).1 (accAt c n).2).2 else accAt c n

theorem accAt_succ (c : Dev nD) (t : Fin cfg0.N) :
    accAt m c (t.val + 1) = (outsAt m c t (accAt m c t.val).1 (accAt m c t.val).2).2 := by
  rw [accAt, dif_pos t.isLt]

/-- The proof data: inputs keep their blocks; the outputs are left as `outsAt` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t (accAt m c t.val).1 (accAt m c t.val).2).1
    | ⟨7, _⟩ => (accAt m c (t.val + 1)).1
    | ⟨8, _⟩ => (accAt m c (t.val + 1)).2
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) :
    (dats m 0 c).after 6 t = (outsAt m c t (accAt m c t.val).1 (accAt m c t.val).2).1 := by dsimp only [dats]
theorem after_7 (c : Dev nD) (t : Fin cfg0.N) : (dats m 0 c).after 7 t = (accAt m c (t.val + 1)).1 := by dsimp only [dats]
theorem after_8 (c : Dev nD) (t : Fin cfg0.N) : (dats m 0 c).after 8 t = (accAt m c (t.val + 1)).2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The grid's second coordinate counts the query blocks of one pair of heads. -/
theorem coord_1 : ∀ t : Fin cfg0.N, (grid0.coords t 1).val = t.val % 16 :=
  (by decide +kernel : ∀ t : Fin grid0.N, (grid0.coords t 1).val = t.val % 16)
/-- The first counts the pairs. -/
theorem coord_0 : ∀ t : Fin cfg0.N, (grid0.coords t 0).val = t.val / 16 :=
  (by decide +kernel : ∀ t : Fin grid0.N, (grid0.coords t 0).val = t.val / 16)

/-- Away from a pair's first point the two accumulated outputs are found as the point before left them. -/
theorem before_7 (c : Dev nD) (t : Fin cfg0.N) (h : t.val % 16 ≠ 0) (d) : (dats m 0 c).before 7 t d = (accAt m c t.val).1 := by
  have ht : t.val ≠ 0 := fun e => h (by rw [e])
  have hfl : (cfg0.win 7).flush ⟨t.val - 1, Nat.lt_of_le_of_lt (Nat.sub_le _ _) t.isLt⟩ = false := by
    rw [← Bool.not_eq_true]
    exact fun hf => h (by have := (flush0_7 _).mp hf; simp only at this; omega)
  rw [Dat.before_out_acc _ 7 rfl t ht hfl (fun _ => rfl) d]
  unfold Dat.kept
  rw [after_7]
  show (accAt m c (t.val - 1 + 1)).1 = _
  rw [Nat.sub_add_cancel (Nat.one_le_iff_ne_zero.mpr ht)]
theorem before_8 (c : Dev nD) (t : Fin cfg0.N) (h : t.val % 16 ≠ 0) (d) : (dats m 0 c).before 8 t d = (accAt m c t.val).2 := by
  have ht : t.val ≠ 0 := fun e => h (by rw [e])
  have hfl : (cfg0.win 8).flush ⟨t.val - 1, Nat.lt_of_le_of_lt (Nat.sub_le _ _) t.isLt⟩ = false := by
    rw [← Bool.not_eq_true]
    exact fun hf => h (by have := (flush0_8 _).mp hf; simp only at this; omega)
  rw [Dat.before_out_acc _ 8 rfl t ht hfl (fun _ => rfl) d]
  unfold Dat.kept
  rw [after_8]
  show (accAt m c (t.val - 1 + 1)).2 = _
  rw [Nat.sub_add_cancel (Nat.one_le_iff_ne_zero.mpr ht)]

/-- So what the body does is the same at every point as from the accumulated outputs: at a pair's first it starts afresh. -/
theorem start_7 (c : Dev nD) (t : Fin cfg0.N) (d) :
    start (grid0.coords t) k0_pay18 ((dats m 0 c).before 7 t d) = start (grid0.coords t) k0_pay18 (accAt m c t.val).1 := by
  unfold start
  split
  · rfl
  · next h => exact before_7 m c t (by rwa [coord_1] at h) d
theorem start_8 (c : Dev nD) (t : Fin cfg0.N) (d) :
    start (grid0.coords t) k0_pay19 ((dats m 0 c).before 8 t d) = start (grid0.coords t) k0_pay19 (accAt m c t.val).2 := by
  unfold start
  split
  · rfl
  · next h => exact before_8 m c t (by rwa [coord_1] at h) d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, accAt_succ]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  unfold outsAt
  rw [← start_7 m c t d7, ← start_8 m c t d8]
  iapply (kernelRun c (grid0.coords t) (st0_0 t) _ (st0_1 t) _ (st0_2 t) _ (st0_3 t) _ (st0_4 t) _ (st0_5 t) _ (st0_6 t) _ (st0_7 t) _ (st0_8 t) _
    (iblk m c 0 t) (iblk0_eq m c t) (iblk m c 1 t) (iblk m c 2 t) (iblk m c 3 t) (iblk m c 4 t) (iblk m c 5 t) _ _ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- Every execution ends, with the outputs' arrays as the points wrote them back, every other buffer as the call found it and
    every counter at zero. -/
theorem run_post :
    θ_run defs (onTc (τ := τ) (main (F := F))) (s₀ m ρ) (fun r => Pipeline.FramePost cfgs (dats m) 0 (V m) r ∧ r.2.sem = fun _ => 0) :=
  Pipeline.θ_run_frame_shared (Q' := _) cfgs (dats m) 0 launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The two arguments end as they were. -/
theorem args_of {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).1 3).trans (((dats m 0 c).arrAt_in 3 rfl _).trans ((A_eq m c 3).trans (V_main_arg0 m c))),
    ((h c).1 4).trans (((dats m 0 c).arrAt_in 4 rfl _).trans ((A_eq m c 4).trans (V_main_arg1 m c)))⟩

theorem run_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => args_of m h.1 c, h.2⟩) (run_post m ρ)

end Cert.KernelIdeal.Hand

end
-- ==== Proof.Rows.lean ====
/- The mathematics of the kernel on one row of one head, over the reals: the softplus of the scores, the weights, and
   the gradient of the scores. Then how the extended reals' operations act on real numbers. -/
module

public import Idealize.ShloMosaic.Lib.Pointwise
public import Idealize.ShloMosaic.Lib.IdealHost

@[expose] public section

set_option maxRecDepth 16384

noncomputable section

namespace Cert.Rows

open Idealize.ShloMosaic
open Finset (range)

/-! ## One row -/

/-- The softplus, as both programs compute it. -/
def spl (x : ℝ) : ℝ := max x 0 + Real.log (1 + Real.exp (0 - max x (-x)))

/-- A row's softpluses, at the keys before the query. -/
def rP (z : ℕ → ℝ) (t s : ℕ) : ℝ := if s < t then spl (z s) else 0
/-- A row's weights; `T` is the sum of its softpluses. -/
def rA (z : ℕ → ℝ) (T : ℝ) (t s : ℕ) : ℝ :=
  if s < t then Real.exp (z s - spl (z s) - (T - ∑ j ∈ range (s + 1), rP z t j)) else 0
/-- The weights times the gradient of the output against the values. -/
def rG (z g : ℕ → ℝ) (T : ℝ) (t s : ℕ) : ℝ := g s * rA z T t s
/-- The gradient of the scores. -/
def rD (z g : ℕ → ℝ) (T : ℝ) (t s : ℕ) : ℝ :=
  if s < t then
    (rG z g T t s * (1 - Real.exp (z s - spl (z s))) - Real.exp (z s - spl (z s)) * ∑ j ∈ range s, rG z g T t j) * (1 / 8)
  else 0

theorem rD_of_le (z g : ℕ → ℝ) (T : ℝ) {t s : ℕ} (h : t ≤ s) : rD z g T t s = 0 := if_neg (by omega)
theorem rA_of_le (z : ℕ → ℝ) (T : ℝ) {t s : ℕ} (h : t ≤ s) : rA z T t s = 0 := if_neg (by omega)

/-! ## The extended reals on real numbers -/

theorem coe_sum {ι : Type*} (S : Finset ι) (f : ι → ℝ) : ∑ i ∈ S, ((f i : ℝ) : EReal) = ((∑ i ∈ S, f i : ℝ) : EReal) := by
  classical
  induction S using Finset.induction_on with
  | empty => simp
  | insert a S h ih => rw [Finset.sum_insert h, Finset.sum_insert h, ih, EReal.coe_add]

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem coe_log {r : ℝ} (h : 0 < r) : Ideal.log ((r : ℝ) : EReal) = ((Real.log r : ℝ) : EReal) := by
  rw [Ideal.log_coe, if_neg (not_le.mpr h)]

theorem eighth : Ideal.ofBits .f32 0x3E000000#32 = (((1 : ℝ) / 8 : ℝ) : EReal) := by
  simp [Ideal.ofBits, Ideal.ieee]
  rw [← EReal.coe_mul]
  norm_num

theorem coe_spl (x : ℝ) :
    max (x : EReal) 0 + Ideal.log (1 + Ideal.exp (0 - FloatOps.absf (F := Ideal) (φ := .f32) ((x : EReal) : Ideal .f32))) = ((spl x : ℝ) : EReal) := by
  rw [Ideal.absf_def, ← EReal.coe_neg, ← EReal.coe_zero, coe_max, coe_max, ← EReal.coe_sub, Ideal.exp_coe, ← EReal.coe_one, ← EReal.coe_add,
    coe_log (by positivity), ← EReal.coe_add]
  rfl

theorem coe_spl_host (x : ℝ) :
    max (x : EReal) 0 + Ideal.log1p (Ideal.exp (-FloatOps.absf (F := Ideal) (φ := .f32) ((x : EReal) : Ideal .f32))) = ((spl x : ℝ) : EReal) := by
  rw [Ideal.absf_def, Ideal.log1p, ← EReal.coe_neg, ← EReal.coe_zero, coe_max, coe_max, ← EReal.coe_neg, Ideal.exp_coe,
    ← EReal.coe_one, ← EReal.coe_add, coe_log (by positivity), ← EReal.coe_add, spl, zero_sub]

theorem coe_ite (p : Prop) [Decidable p] (a b : ℝ) : (if p then (a : EReal) else (b : EReal)) = ((if p then a else b : ℝ) : EReal) := by
  split <;> rfl

/-! ## Arrays of real numbers -/

/-- The array's entries are the reals `f`. -/
def IsR {a b : ℕ} (x : (⟨2, ![a, b]⟩ : Shape).Idx → EReal) (f : ℕ → ℕ → ℝ) : Prop :=
  ∀ (i : Fin a) (j : Fin b), x (ix2 i j) = ((f i.val j.val : ℝ) : EReal)

theorem IsR.congr {a b : ℕ} {x : (⟨2, ![a, b]⟩ : Shape).Idx → EReal} {f g : ℕ → ℕ → ℝ} (h : IsR x f)
    (e : ∀ i j, i < a → j < b → f i j = g i j) : IsR x g :=
  fun i j => (h i j).trans (congrArg _ (e i.val j.val i.isLt j.isLt))

theorem sum_fin (n : ℕ) (f : ℕ → ℝ) : ∑ k : Fin n, ((f k.val : ℝ) : EReal) = ((∑ k ∈ range n, f k : ℝ) : EReal) := by
  rw [coe_sum, Finset.sum_range]

theorem sum_fin_mul (n : ℕ) (f g : ℕ → ℝ) :
    ∑ k : Fin n, ((f k.val : ℝ) : EReal) * ((g k.val : ℝ) : EReal) = ((∑ k ∈ range n, f k * g k : ℝ) : EReal) := by
  simp only [← EReal.coe_mul]
  exact sum_fin n fun k => f k * g k

/-- A sum against the entries of a triangle of ones is a sum up to the diagonal. -/
theorem sum_upto {n s : ℕ} (h : s < n) (f : ℕ → ℝ) : ∑ k ∈ range n, f k * (if k ≤ s then 1 else 0) = ∑ k ∈ range (s + 1), f k := by
  simp only [mul_ite, mul_one, mul_zero]
  rw [← Finset.sum_filter]
  refine Finset.sum_congr (Finset.ext fun k => ?_) fun _ _ => rfl
  simp only [Finset.mem_filter, Finset.mem_range]
  omega
theorem sum_before {n s : ℕ} (h : s < n) (f : ℕ → ℝ) : ∑ k ∈ range n, f k * (if k < s then 1 else 0) = ∑ k ∈ range s, f k := by
  simp only [mul_ite, mul_one, mul_zero]
  rw [← Finset.sum_filter]
  refine Finset.sum_congr (Finset.ext fun k => ?_) fun _ _ => rfl
  simp only [Finset.mem_filter, Finset.mem_range]
  omega

/-- A product of a number cut in two, the second part zero, with the triangles of ones. -/
theorem split_upto {n : ℕ} (s : Fin n) (f : ℕ → ℝ) :
    ∑ k : Fin n, (((f k.val : ℝ) : EReal) - ((f k.val : ℝ) : EReal)) * (((if k.val ≤ s.val then 1 else 0 : ℝ)) : EReal)
      + ∑ k : Fin n, ((f k.val : ℝ) : EReal) * (((if k.val ≤ s.val then 1 else 0 : ℝ)) : EReal)
      = ((∑ k ∈ range (s.val + 1), f k : ℝ) : EReal) := by
  simp only [← EReal.coe_sub, sub_self, EReal.coe_zero, zero_mul, Finset.sum_const_zero, zero_add]
  rw [sum_fin_mul n f (fun k => if k ≤ s.val then 1 else 0), sum_upto s.isLt]
theorem split_before {n : ℕ} (s : Fin n) (f : ℕ → ℝ) :
    ∑ k : Fin n, (((f k.val : ℝ) : EReal) - ((f k.val : ℝ) : EReal)) * (((if k.val < s.val then 1 else 0 : ℝ)) : EReal)
      + ∑ k : Fin n, ((f k.val : ℝ) : EReal) * (((if k.val < s.val then 1 else 0 : ℝ)) : EReal)
      = ((∑ k ∈ range s.val, f k : ℝ) : EReal) := by
  simp only [← EReal.coe_sub, sub_self, EReal.coe_zero, zero_mul, Finset.sum_const_zero, zero_add]
  rw [sum_fin_mul n f (fun k => if k < s.val then 1 else 0), sum_before s.isLt]

end Cert.Rows
-- ==== Proof.Pay.lean ====
/- The kernel's payloads on real numbers: each, given arrays of reals, gives the array of reals its formula says. -/
module

public import proofs.«01_k».proof.Proof.Rows
public import proofs.«01_k».proof.Proof.Body

@[expose] public section

set_option maxRecDepth 16384

noncomputable section

namespace Cert.KernelIdeal.Hand

open Cert.KernelIdeal Cert.KernelIdeal.Gen Cert.Rows
open Idealize.ShloMosaic Idealize.ShloMosaic.TcCoe
open Finset (range)

theorem pay27 : IsR (k0_pay27 (F := Ideal)) fun i j => if i ≤ j then 1 else 0 := by
  intro i j
  pointwise [k0_pay27]
  simp (disch := omega) only [hlo_ix]
  by_cases h : i.val ≤ j.val <;> simp [h, FloatOps.sitofp] <;> rfl

theorem pay28 : IsR (k0_pay28 (F := Ideal)) fun i j => if i < j then 1 else 0 := by
  intro i j
  pointwise [k0_pay28]
  simp (disch := omega) only [hlo_ix]
  by_cases h : i.val < j.val <;> simp [h, FloatOps.sitofp] <;> rfl

theorem stacked (r : Fin 512) (c : Fin 128) (f : ℕ → ℕ → ℝ) :
    (if r.val < 256 then if c.val < 64 then ((f r.val c.val : ℝ) : EReal) else 0
      else if 64 ≤ c.val then ((f (r.val - 256) c.val : ℝ) : EReal) else 0)
      = (((if c.val / 64 = r.val / 256 then f (r.val % 256) c.val else 0 : ℝ)) : EReal) := by
  have hr := r.isLt
  have hc := c.isLt
  by_cases h1 : r.val < 256
  · rw [if_pos h1]
    by_cases h2 : c.val < 64
    · rw [if_pos h2, if_pos (by omega), Nat.mod_eq_of_lt h1]
    · rw [if_neg h2, if_neg (by omega), EReal.coe_zero]
  · rw [if_neg h1]
    by_cases h2 : 64 ≤ c.val
    · rw [if_pos h2, if_pos (by omega), show r.val % 256 = r.val - 256 by omega]
    · rw [if_neg h2, if_neg (by omega), EReal.coe_zero]

theorem pay20 (q : Blk Ideal) {f : ℕ → ℕ → ℝ} (h : IsR q f) :
    IsR (k0_pay20 q) fun r c => if c / 64 = r / 256 then f (r % 256) c else 0 := by
  intro r c
  unfold IsR at h
  pointwise [k0_pay20, h]
  simp (disch := omega) only [hlo_ix, Scalar.select_ofBool]
  exact stacked r c f

theorem pay21 (q : Blk Ideal) {f : ℕ → ℕ → ℝ} (h : IsR q f) :
    IsR (k0_pay21 q) fun r c => if c / 64 = r / 256 then f (r % 256) c else 0 := by
  intro r c
  unfold IsR at h
  pointwise [k0_pay21, h]
  simp (disch := omega) only [hlo_ix, Scalar.select_ofBool]
  exact stacked r c f

theorem pick (n l : ℕ) (hl : l < n) (f : ℕ → ℝ) :
    ∑ k : Fin n, (if k.val = l then ((f k.val : ℝ) : EReal) else 0) = ((f l : ℝ) : EReal) := by
  rw [Finset.sum_eq_single ⟨l, hl⟩ (fun b _ hb => if_neg fun e => hb (Fin.ext e)) (fun h => absurd (Finset.mem_univ _) h)]
  exact if_pos rfl

theorem pay_tot (tt : Blk Ideal) {f : ℕ → ℕ → ℝ} (h : IsR tt f) :
    IsR (tot tt) fun r _ => f (r % 256) (64 * (r / 256)) := by
  intro r c
  unfold IsR at h
  pointwise [tot, k0_pay25, k0_pay24, k0_pay23, k0_pay22, h]
  simp (disch := omega) only [hlo_ix, Scalar.select_ofBool]
  have hr := r.isLt
  by_cases h1 : r.val < 256
  · rw [dif_pos h1, pick 128 0 (by omega) (f r.val), Nat.mod_eq_of_lt h1, Nat.div_eq_of_lt h1]
  · rw [dif_neg h1, pick 128 64 (by omega) (f (r.val - 256)), show r.val % 256 = r.val - 256 by omega,
      show r.val / 256 = 1 by omega]

theorem pay3 (x : FVec Ideal S512x128 .bf16) (kb : Blk Ideal) {f g : ℕ → ℕ → ℝ} (hx : IsR x f) (hk : IsR kb g) :
    IsR (k0_pay3 x kb) fun r s => (∑ c ∈ range 128, f r c * g s c) * (1 / 8) := by
  intro r s
  unfold IsR at hx hk
  pointwise [k0_pay3, k0_pay2, hx, hk, eighth]
  rw [sum_fin_mul 128 (f r.val) (g s.val), ← EReal.coe_mul]

theorem pay4 (x : FVec Ideal S512x128 .bf16) (kb : Blk Ideal) {z : ℕ → ℕ → ℝ} (h : IsR (k0_pay3 x kb) z) :
    IsR (k0_pay4 x kb) fun r s => spl (z r s) := by
  intro r s
  unfold IsR at h
  pointwise [k0_pay4, h]
  exact coe_spl _

theorem pay5 (x : FVec Ideal S512x128 .bf16) (tt u psp kb) {z : ℕ → ℕ → ℝ} {T P : ℕ → ℝ} (h : IsR (k0_pay3 x kb) z)
    (hT : IsR tt fun r _ => T r) (hP : IsR psp fun r _ => P r) (hu : IsR u fun i j => if i ≤ j then 1 else 0) :
    IsR (k0_pay5 x tt u psp kb) fun r s =>
      Real.exp (z r s - spl (z r s) - (T r - (P r + ∑ j ∈ range (s + 1), spl (z r j)))) := by
  intro r s
  have h4 := pay4 x kb h
  unfold IsR at h h4 hT hP hu
  pointwise [k0_pay5, h, h4, hT, hP, hu]
  rw [split_upto s fun k => spl (z r.val k)]
  simp only [← EReal.coe_add, ← EReal.coe_sub, Ideal.exp_coe]

theorem pay6 (x y : FVec Ideal S512x128 .bf16) (tt u psp kb vb) {d v A : ℕ → ℕ → ℝ}
    (hy : IsR y d) (hv : IsR vb v) (h5 : IsR (k0_pay5 x tt u psp kb) A) :
    IsR (k0_pay6 x y tt u psp kb vb) fun r s => (∑ c ∈ range 128, d r c * v s c) * A r s := by
  intro r s
  unfold IsR at hy hv h5
  pointwise [k0_pay6, hy, hv, h5]
  rw [sum_fin_mul 128 (d r.val) (v s.val), ← EReal.coe_mul]

theorem pay7 (x y : FVec Ideal S512x128 .bf16) (tt u psp kb vb) {G : ℕ → ℕ → ℝ} (h : IsR (k0_pay6 x y tt u psp kb vb) G) :
    IsR (k0_pay7 x y tt u psp kb vb) G := h
theorem pay9 (x y : FVec Ideal S512x128 .bf16) (tt u psp kb vb) {G : ℕ → ℕ → ℝ} (h : IsR (k0_pay6 x y tt u psp kb vb) G) :
    IsR (k0_pay9 x y tt u psp kb vb) fun r s => G r s - G r s := by
  intro r s
  unfold IsR at h
  pointwise [k0_pay9, k0_pay8, k0_pay7, h]
  rw [EReal.coe_sub]

theorem pay31 (pg zz sp gm g1 g2) {z S G : ℕ → ℕ → ℝ} {B : ℕ → ℝ} (hB : IsR pg fun r _ => B r) (hz : IsR zz z) (hs : IsR sp S)
    (hg : IsR gm G) (hg1 : IsR g1 G) (hg2 : IsR g2 fun r s => G r s - G r s) :
    IsR (k0_pay31 (F := Ideal) pg zz sp gm g1 g2) fun r s =>
      (G r s * (1 - Real.exp (z r s - S r s)) - Real.exp (z r s - S r s) * (B r + ∑ j ∈ range s, G r j)) * (1 / 8) := by
  intro r s
  have hu := pay28
  unfold IsR at hB hz hs hg hg1 hg2 hu
  pointwise [k0_pay31, hB, hz, hs, hg, hg1, hg2, hu, eighth]
  simp only [EReal.coe_sub]
  rw [split_before s fun k => G r.val k]
  simp only [← EReal.coe_one, ← EReal.coe_add, ← EReal.coe_sub, Ideal.exp_coe, ← EReal.coe_mul]

theorem pay32 (x : FVec Ideal S512x128 .bf16) (pg zz sp gm g1 g2 b) {D q X : ℕ → ℕ → ℝ}
    (h : IsR (k0_pay31 (F := Ideal) pg zz sp gm g1 g2) D) (hx : IsR x q) (hb : IsR b X) :
    IsR (k0_pay32 (F := Ideal) x pg zz sp gm g1 g2 b) fun s c => X s c + ∑ r ∈ range 512, D r s * q r c := by
  intro s c
  unfold IsR at h hx hb
  pointwise [k0_pay32, h, hx, hb]
  rw [sum_fin_mul 512 (fun r => D r s.val) (fun r => q r c.val), ← EReal.coe_add]

theorem pay33 (y : FVec Ideal S512x128 .bf16) (a b) {A d X : ℕ → ℕ → ℝ} (h : IsR a A) (hy : IsR y d) (hb : IsR b X) :
    IsR (k0_pay33 (F := Ideal) y a b) fun s c => X s c + ∑ r ∈ range 512, A r s * d r c := by
  intro s c
  unfold IsR at h hy hb
  pointwise [k0_pay33, h, hy, hb]
  rw [sum_fin_mul 512 (fun r => A r s.val) (fun r => d r c.val), ← EReal.coe_add]

theorem pay34 (p sp) {P : ℕ → ℝ} {S : ℕ → ℕ → ℝ} (hp : IsR p fun r _ => P r) (hs : IsR sp S) :
    IsR (k0_pay34 (F := Ideal) p sp) fun r _ => P r + ∑ j ∈ range 256, S r j := by
  intro r c
  unfold IsR at hp hs
  pointwise [k0_pay34, hp, hs]
  rw [sum_fin 256 (S r.val), ← EReal.coe_add]

theorem pay35 (p sp) {P : ℕ → ℝ} {S : ℕ → ℕ → ℝ} (hp : IsR p fun r _ => P r) (hs : IsR sp S) :
    IsR (k0_pay35 (F := Ideal) p sp) fun r _ => P r + ∑ j ∈ range 256, S r j := by
  intro r c
  unfold IsR at hp hs
  pointwise [k0_pay35, hp, hs]
  rw [sum_fin 256 (S r.val), ← EReal.coe_add]

theorem pay36 (pg dq kb zz sp gm g1 g2) {D K X : ℕ → ℕ → ℝ}
    (h : IsR (k0_pay31 (F := Ideal) pg zz sp gm g1 g2) D) (hk : IsR kb K) (hb : IsR dq X) :
    IsR (k0_pay36 (F := Ideal) pg dq kb zz sp gm g1 g2) fun r c => X r c + ∑ s ∈ range 256, D r s * K s c := by
  intro r c
  unfold IsR at h hk hb
  pointwise [k0_pay36, h, hk, hb]
  rw [sum_fin_mul 256 (fun s => D r.val s) (fun s => K s c.val), ← EReal.coe_add]

/-! ## The diagonal block -/

theorem muli_ofNat (a b : ℕ) : Scalar.muli (BitVec.ofNat 32 a) (BitVec.ofNat 32 b) = BitVec.ofNat 32 (a * b) :=
  (BitVec.ofNat_mul a b).symm

/-- The mask: column before row. -/
theorem pay_mask (i : grid0.Coords) (r : Fin 512) (s : Fin 256) :
    dgM i (ix2 r s) = BitVec.ofBool (decide (s.val < r.val % 256)) := by
  pointwise [dgM, k0_pay46, k0_pay26]
  have hi : (i 1).val < 16 := (i 1).isLt
  have hr := r.isLt
  generalize (i 1).val = n at hi
  rw [show (256#32 : BitVec 32) = BitVec.ofNat 32 256 from rfl, muli_ofNat]
  rw [show IntOp.cmpi CmpIPredicate.sge (BitVec.ofNat 32 r.val) (BitVec.ofNat 32 256) = _ from WordCmp.cmpi_sge_ofNat (by omega) (by omega),
    Scalar.select_ofBool]
  have e : (if decide (256 ≤ r.val) = true then IntOp.subi (BitVec.ofNat 32 r.val) (BitVec.ofNat 32 256) else BitVec.ofNat 32 r.val)
      = BitVec.ofNat 32 (r.val % 256) := by
    by_cases h : 256 ≤ r.val
    · rw [if_pos (by simpa using h), show r.val % 256 = r.val - 256 by omega]
      apply BitVec.eq_of_toNat_eq
      simp only [IntOp.subi, BitVec.toNat_sub, BitVec.toNat_ofNat]
      omega
    · rw [if_neg (by simpa using h), Nat.mod_eq_of_lt (by omega)]
  simp only [decide_eq_true_eq] at e
  first | rw [e] | (simp only [decide_eq_true_eq]; rw [e])
  rw [show IntOp.addi (BitVec.ofNat 32 (n * 256)) (BitVec.ofNat 32 s.val) = BitVec.ofNat 32 (n * 256 + s.val) from (BitVec.ofNat_add _ _).symm,
    show IntOp.addi (BitVec.ofNat 32 (n * 256)) (BitVec.ofNat 32 (r.val % 256)) = BitVec.ofNat 32 (n * 256 + r.val % 256) from (BitVec.ofNat_add _ _).symm,
    WordCmp.cmpi_slt_ofNat (by omega) (by omega)]
  simp only [Nat.add_lt_add_iff_left]

theorem dg_z (x : FVec Ideal S512x128 .bf16) (kb : Blk Ideal) {z : ℕ → ℕ → ℝ} (h : IsR (k0_pay3 x kb) z) :
    IsR (k0_pay44 x kb) z := h
theorem dg_sp (x : FVec Ideal S512x128 .bf16) (kb : Blk Ideal) {z : ℕ → ℕ → ℝ} (h : IsR (k0_pay4 x kb) z) :
    IsR (k0_pay45 x kb) z := h

theorem dg_a (i : grid0.Coords) (q tt kb : Blk Ideal) (a : Acc Ideal) {z : ℕ → ℕ → ℝ} {T P : ℕ → ℝ}
    (h : IsR (k0_pay3 (k0_pay20 q) kb) z) (hT : IsR (tot tt) fun r _ => T r) (hP : IsR a.1 fun r _ => P r) :
    IsR (dgA i q tt kb a) fun r s => if s < r % 256 then
      Real.exp (z r s - spl (z r s) - (T r - (P r + ∑ j ∈ range (s + 1), if j < r % 256 then spl (z r j) else 0))) else 0 := by
  intro r s
  have h3 := dg_z _ _ h
  have h4 := dg_sp _ _ (pay4 _ kb h)
  have hu := pay27
  have hm := pay_mask i
  unfold dgM at hm
  unfold IsR at h3 h4 hT hP hu
  pointwise [dgA, k0_pay47, h3, h4, hT, hP, hu, hm]
  simp only [← EReal.coe_zero, coe_ite]
  rw [split_upto s fun j => if j < r.val % 256 then spl (z r.val j) else 0]
  simp only [← EReal.coe_add, ← EReal.coe_sub, Ideal.exp_coe, coe_ite]

theorem dg_g (i : grid0.Coords) (q d tt kb vb : Blk Ideal) (a : Acc Ideal) {A y v : ℕ → ℕ → ℝ}
    (h : IsR (dgA i q tt kb a) A) (hd : IsR (k0_pay21 d) y) (hv : IsR vb v) :
    IsR (dgG i q d tt kb vb a) fun r s => (∑ c ∈ range 128, y r c * v s c) * A r s := by
  intro r s
  unfold dgA at h
  unfold IsR at h hd hv
  pointwise [dgG, k0_pay48, h, hd, hv]
  rw [sum_fin_mul 128 (y r.val) (v s.val), ← EReal.coe_mul]

theorem pay49 (i : grid0.Coords) (pg zz sp gm) {z S G : ℕ → ℕ → ℝ} {B : ℕ → ℝ} (hB : IsR pg fun r _ => B r) (hz : IsR zz z)
    (hs : IsR sp S) (hg : IsR gm G) :
    IsR (k0_pay49 (F := Ideal) k0_pay28 pg zz sp (dgM i) gm) fun r s => if s < r % 256 then
      (G r s * (1 - Real.exp (z r s - S r s)) - Real.exp (z r s - S r s) * (B r + ∑ j ∈ range s, G r j)) * (1 / 8) else 0 := by
  intro r s
  have hu := pay28
  have hm := pay_mask i
  unfold IsR at hB hz hs hg hu
  pointwise [k0_pay49, hB, hz, hs, hg, hu, hm, eighth]
  rw [split_before s fun k => G r.val k]
  simp only [← EReal.coe_zero, ← EReal.coe_one, ← EReal.coe_add, ← EReal.coe_sub, Ideal.exp_coe, ← EReal.coe_mul, coe_ite]

theorem pay50 (i : grid0.Coords) (x : FVec Ideal S512x128 .bf16) (pg zz sp gm b) {D q X : ℕ → ℕ → ℝ}
    (h : IsR (k0_pay49 (F := Ideal) k0_pay28 pg zz sp (dgM i) gm) D) (hx : IsR x q) (hb : IsR b X) :
    IsR (k0_pay50 (F := Ideal) x k0_pay28 pg zz sp (dgM i) gm b) fun s c => X s c + ∑ r ∈ range 512, D r s * q r c := by
  intro s c
  unfold IsR at h hx hb
  pointwise [k0_pay50, h, hx, hb]
  rw [sum_fin_mul 512 (fun r => D r s.val) (fun r => q r c.val), ← EReal.coe_add]

theorem pay51 (y : FVec Ideal S512x128 .bf16) (a b) {A d X : ℕ → ℕ → ℝ} (h : IsR a A) (hy : IsR y d) (hb : IsR b X) :
    IsR (k0_pay51 (F := Ideal) y a b) fun s c => X s c + ∑ r ∈ range 512, A r s * d r c := by
  intro s c
  unfold IsR at h hy hb
  pointwise [k0_pay51, h, hy, hb]
  rw [sum_fin_mul 512 (fun r => A r s.val) (fun r => d r c.val), ← EReal.coe_add]

/-- The block of `dq`: each lane's row from its head's half. -/
theorem pay52 (i : grid0.Coords) (pg dq kb zz sp gm) {D K X : ℕ → ℕ → ℝ}
    (h : IsR (k0_pay49 (F := Ideal) k0_pay28 pg zz sp (dgM i) gm) D) (hk : IsR kb K) (hb : IsR dq X) :
    IsR (k0_pay1 (k0_pay52 (F := Ideal) k0_pay28 pg dq (k0_pay43 kb) zz sp (dgM i) gm)) fun u c =>
      X (256 * (c / 64) + u) c + ∑ s ∈ range 256, D (256 * (c / 64) + u) s * K s c := by
  intro u c
  unfold IsR at h hk hb
  pointwise [k0_pay1, k0_pay52, k0_pay43, h, hk, hb]
  simp (disch := omega) only [hlo_ix, Scalar.select_ofBool]
  have hc := c.isLt
  by_cases h1 : c.val < 64
  · rw [if_pos h1, Nat.div_eq_of_lt h1, Nat.mul_zero, Nat.zero_add, sum_fin_mul 256 (fun s => D u.val s) (fun s => K s c.val),
      ← EReal.coe_add]
  · rw [if_neg h1, show c.val / 64 = 1 by omega, Nat.mul_one,
      sum_fin_mul 256 (fun s => D (256 + u.val) s) (fun s => K s c.val), ← EReal.coe_add]

end Cert.KernelIdeal.Hand
-- ==== Proof.Trip.lean ====
/- The kernel's loop on real numbers: what it carries and what it has added to the two gradients before each trip, in
   terms of the rows' weights and score gradients; then the whole body at one grid point. -/
module

public import proofs.«01_k».proof.Proof.Pay

@[expose] public section

set_option maxRecDepth 16384

noncomputable section

namespace Cert.KernelIdeal.Hand

open Cert.KernelIdeal Cert.KernelIdeal.Gen Cert.Rows
open Idealize.ShloMosaic Idealize.ShloMosaic.TcCoe
open Finset (range)

theorem isR_blk (X : Big Ideal) {f : ℕ → ℕ → ℝ} (h : IsR X f) {k : ℕ} (hk : k < 16) :
    IsR (blk X k) fun s c => f (256 * k + s) c := by
  intro s c
  have hs := s.isLt
  have hc := c.isLt
  refine Eq.trans (congrArg X ?_) (h ⟨256 * k + s.val, by omega⟩ c)
  funext a
  refine Fin.ext ?_
  fin_cases a
  · exact Nat.mod_eq_of_lt (by show 256 * k + s.val < 4096; omega)
  · show (0 + c.val) % 128 = c.val
    omega

theorem isR_put (X : Big Ideal) (w : Blk Ideal) {f g : ℕ → ℕ → ℝ} (h : IsR X f) (hw : IsR w g) {k : ℕ} (hk : k < 16) :
    IsR (putBlk X k w) fun s c => if 256 * k ≤ s ∧ s < 256 * (k + 1) then g (s - 256 * k) c else f s c := by
  intro s c
  have hc := c.isLt
  unfold putBlk VecWindow.put
  by_cases hin : 256 * k ≤ s.val ∧ s.val < 256 * (k + 1)
  · have hall : ∀ a, (![256 * k, 0] : Fin 2 → ℕ) a ≤ ((ix2 s c : S4096x128.Idx) a).val
        ∧ ((ix2 s c : S4096x128.Idx) a).val < (![256 * k, 0] : Fin 2 → ℕ) a + S256x128.size a := by
      intro a
      fin_cases a
      · exact ⟨hin.1, by show s.val < 256 * k + 256; omega⟩
      · exact ⟨Nat.zero_le _, by show c.val < 0 + 128; omega⟩
    rw [dif_pos hall]
    simp only [if_pos hin]
    refine Eq.trans (congrArg w ?_) (hw ⟨s.val - 256 * k, by omega⟩ c)
    funext a
    refine Fin.ext ?_
    fin_cases a
    · rfl
    · rfl
  · rw [dif_neg fun hall => hin ⟨(hall 0).1, by have : s.val < 256 * k + 256 := (hall 0).2; omega⟩]
    simp only [if_neg hin]
    exact h s c

/-! ## A pair of heads -/

/-- The scores of head `g` of the pair: the products over the head's half of the lanes, scaled. -/
def zz (Q K : ℕ → ℕ → ℝ) (g t s : ℕ) : ℝ := (∑ c ∈ range 128, (if c / 64 = g then Q t c else 0) * K s c) * (1 / 8)
/-- The gradient of the output against the values. -/
def gg (D V : ℕ → ℕ → ℝ) (g t s : ℕ) : ℝ := ∑ c ∈ range 128, (if c / 64 = g then D t c else 0) * V s c

section Pair
variable (Q D K V T : ℕ → ℕ → ℝ)
/-- The pair's weights, weighted gradients and score gradients. -/
def pP (g t s : ℕ) : ℝ := rP (zz Q K g t) t s
def pA (g t s : ℕ) : ℝ := rA (zz Q K g t) (T g t) t s
def pG (g t s : ℕ) : ℝ := rG (zz Q K g t) (gg D V g t) (T g t) t s
def pD (g t s : ℕ) : ℝ := rD (zz Q K g t) (gg D V g t) (T g t) t s
end Pair

/-- The hypotheses: a point's blocks hold reals. -/
structure PtR (i : ℕ) (q d tt : Blk Ideal) (K' V' : Big Ideal) (Q D K V T : ℕ → ℕ → ℝ) : Prop where
  hi : i < 16
  hq : IsR q fun u c => Q (256 * i + u) c
  hd : IsR d fun u c => D (256 * i + u) c
  ht : IsR tt fun u c => T (c / 64) (256 * i + u)
  hk : IsR K' K
  hv : IsR V' V

section Point
variable {i : ℕ} {q d tt : Blk Ideal} {K' V' : Big Ideal} {Q D K V T : ℕ → ℕ → ℝ} (H : PtR i q d tt K' V' Q D K V T)
include H

theorem PtR.qm : IsR (k0_pay20 q) fun r c => if c / 64 = r / 256 then Q (256 * i + r % 256) c else 0 := pay20 q H.hq
theorem PtR.dm : IsR (k0_pay21 d) fun r c => if c / 64 = r / 256 then D (256 * i + r % 256) c else 0 := pay21 d H.hd
theorem PtR.tot : IsR (tot tt) fun r _ => T (r / 256) (256 * i + r % 256) :=
  (pay_tot tt H.ht).congr fun r _ hr _ => by simp only [show 64 * (r / 256) / 64 = r / 256 by omega]
theorem PtR.z {k : ℕ} (hk : k < 16) :
    IsR (k0_pay3 (k0_pay20 q) (blk K' k)) fun r s => zz Q K (r / 256) (256 * i + r % 256) (256 * k + s) :=
  pay3 _ _ H.qm (isR_blk K' H.hk hk)

omit H in
theorem range_blk (k s : ℕ) (f : ℕ → ℝ) :
    ∑ j ∈ range (256 * k), f j + ∑ j ∈ range s, f (256 * k + j) = ∑ j ∈ range (256 * k + s), f j :=
  (Finset.sum_range_add f (256 * k) s).symm

/-! ## A trip -/

variable {a : Acc Ideal} {k : ℕ} (hk : k < 16)
  (h1 : IsR a.1 fun r _ => ∑ j ∈ range (256 * k), pP Q K (r / 256) (256 * i + r % 256) j)
  (h2 : IsR a.2.1 fun r _ => ∑ j ∈ range (256 * k), pG Q D K V T (r / 256) (256 * i + r % 256) j)
  (h3 : IsR a.2.2 fun r c => ∑ j ∈ range (256 * k), pD Q D K V T (r / 256) (256 * i + r % 256) j * K j c)
include hk

include h1 in
theorem PtR.trip_a (hki : k < i) : IsR (k0_pay5 (k0_pay20 q) (Hand.tot tt) k0_pay27 a.1 (blk K' k)) fun r s =>
    pA Q K T (r / 256) (256 * i + r % 256) (256 * k + s) := by
  have e := pay5 (k0_pay20 q) (Hand.tot tt) (k0_pay27 (F := Ideal)) a.1 (blk K' k) (H.z hk) H.tot h1 pay27
  refine e.congr fun r s hr hs => ?_
  unfold pA rA
  rw [if_pos (by omega)]
  congr 1
  rw [show 256 * k + s + 1 = 256 * k + (s + 1) by omega, ← range_blk]
  congr 3
  refine Finset.sum_congr rfl fun j hj => ?_
  rw [Finset.mem_range] at hj
  unfold rP
  rw [if_pos (by omega)]

include h1 in
theorem PtR.trip_g (hki : k < i) : IsR (tripG q d tt (blk K' k) (blk V' k) a) fun r s =>
    pG Q D K V T (r / 256) (256 * i + r % 256) (256 * k + s) :=
  pay6 (k0_pay20 q) (k0_pay21 d) (Hand.tot tt) (k0_pay27 (F := Ideal)) a.1 (blk K' k) (blk V' k) H.dm (isR_blk V' H.hv hk) (H.trip_a hk h1 hki)

include h1 h2 in
theorem PtR.trip_d (hki : k < i) : IsR (k0_pay31 a.2.1 (k0_pay3 (k0_pay20 q) (blk K' k)) (k0_pay4 (k0_pay20 q) (blk K' k))
      (tripG q d tt (blk K' k) (blk V' k) a) (k0_pay7 (k0_pay20 q) (k0_pay21 d) (Hand.tot tt) k0_pay27 a.1 (blk K' k) (blk V' k))
      (k0_pay9 (k0_pay20 q) (k0_pay21 d) (Hand.tot tt) k0_pay27 a.1 (blk K' k) (blk V' k))) fun r s =>
    pD Q D K V T (r / 256) (256 * i + r % 256) (256 * k + s) := by
  have hg := H.trip_g hk h1 hki
  refine (pay31 _ _ _ _ _ _ h2 (H.z hk) (pay4 _ _ (H.z hk)) hg (pay7 _ _ _ _ _ _ _ hg) (pay9 _ _ _ _ _ _ _ hg)).congr fun r s hr hs => ?_
  unfold pD rD
  rw [if_pos (by omega)]
  congr 3
  exact range_blk k s _

include h1 h2 h3 in
theorem PtR.trip_acc (hki : k < i) :
    IsR (tripAcc q d tt (blk K' k) (blk V' k) a).1 (fun r _ => ∑ j ∈ range (256 * (k + 1)), pP Q K (r / 256) (256 * i + r % 256) j)
    ∧ IsR (tripAcc q d tt (blk K' k) (blk V' k) a).2.1 (fun r _ => ∑ j ∈ range (256 * (k + 1)), pG Q D K V T (r / 256) (256 * i + r % 256) j)
    ∧ IsR (tripAcc q d tt (blk K' k) (blk V' k) a).2.2
        (fun r c => ∑ j ∈ range (256 * (k + 1)), pD Q D K V T (r / 256) (256 * i + r % 256) j * K j c) := by
  refine ⟨(pay34 _ _ h1 (pay4 _ _ (H.z hk))).congr fun r c hr hc => ?_, (pay35 _ _ h2 (H.trip_g hk h1 hki)).congr fun r c hr hc => ?_,
    (pay36 _ _ _ _ _ _ _ _ (H.trip_d hk h1 h2 hki) (isR_blk K' H.hk hk) h3).congr fun r c hr hc => ?_⟩
  · rw [show 256 * (k + 1) = 256 * k + 256 by omega, ← range_blk]
    congr 1
    refine Finset.sum_congr rfl fun j hj => ?_
    rw [Finset.mem_range] at hj
    unfold pP rP
    rw [if_pos (by omega)]
  · rw [show 256 * (k + 1) = 256 * k + 256 by omega, ← range_blk]
  · rw [show 256 * (k + 1) = 256 * k + 256 by omega, ← range_blk]

end Point

/-! ## A query block's share of the two gradients -/

/-- What query block `i` adds to a key-side gradient: the stacked rows' sums are, lane by lane, those of the lane's head. -/
theorem stack_sum (f : ℕ → ℕ → ℝ) (q : ℕ → ℝ) (i c : ℕ) (hc : c < 128) :
    ∑ r ∈ range 512, f (r / 256) (256 * i + r % 256) * (if c / 64 = r / 256 then q (256 * i + r % 256) else 0)
      = ∑ u ∈ range 256, f (c / 64) (256 * i + u) * q (256 * i + u) := by
  rw [show 512 = 256 + 256 from rfl, Finset.sum_range_add]
  by_cases h : c < 64
  · have e2 : ∑ r ∈ range 256, f ((256 + r) / 256) (256 * i + (256 + r) % 256)
        * (if c / 64 = (256 + r) / 256 then q (256 * i + (256 + r) % 256) else 0) = 0 :=
      Finset.sum_eq_zero fun r hr => by
        rw [Finset.mem_range] at hr
        rw [if_neg (by omega), mul_zero]
    rw [e2, add_zero]
    refine Finset.sum_congr rfl fun r hr => ?_
    rw [Finset.mem_range] at hr
    rw [if_pos (by omega), show r / 256 = c / 64 by omega, Nat.mod_eq_of_lt hr]
  · have e1 : ∑ r ∈ range 256, f (r / 256) (256 * i + r % 256) * (if c / 64 = r / 256 then q (256 * i + r % 256) else 0) = 0 :=
      Finset.sum_eq_zero fun r hr => by
        rw [Finset.mem_range] at hr
        rw [if_neg (by omega), mul_zero]
    rw [e1, zero_add]
    refine Finset.sum_congr rfl fun r hr => ?_
    rw [Finset.mem_range] at hr
    rw [if_pos (by omega), show (256 + r) / 256 = c / 64 by omega, show (256 + r) % 256 = r by omega]

section Point
variable {i : ℕ} {q d tt : Blk Ideal} {K' V' : Big Ideal} {Q D K V T : ℕ → ℕ → ℝ} (H : PtR i q d tt K' V' Q D K V T)
  {X9 X10 : Big Ideal} {x9 x10 : ℕ → ℕ → ℝ} (h9 : IsR X9 x9) (h10 : IsR X10 x10)
include H h9 h10

/-- The loop's state before trip `k`. -/
theorem PtR.stt : ∀ k, k ≤ i →
    (IsR (Hand.stt q d tt K' V' X9 X10 k).1.1 fun r _ => ∑ j ∈ range (256 * k), pP Q K (r / 256) (256 * i + r % 256) j)
    ∧ (IsR (Hand.stt q d tt K' V' X9 X10 k).1.2.1 fun r _ => ∑ j ∈ range (256 * k), pG Q D K V T (r / 256) (256 * i + r % 256) j)
    ∧ (IsR (Hand.stt q d tt K' V' X9 X10 k).1.2.2 fun r c =>
        ∑ j ∈ range (256 * k), pD Q D K V T (r / 256) (256 * i + r % 256) j * K j c)
    ∧ (IsR (Hand.stt q d tt K' V' X9 X10 k).2.1 fun s c => x9 s c + if s < 256 * k then
        ∑ u ∈ range 256, pD Q D K V T (c / 64) (256 * i + u) s * Q (256 * i + u) c else 0)
    ∧ (IsR (Hand.stt q d tt K' V' X9 X10 k).2.2 fun s c => x10 s c + if s < 256 * k then
        ∑ u ∈ range 256, pA Q K T (c / 64) (256 * i + u) s * D (256 * i + u) c else 0) := by
  intro k
  induction k with
  | zero =>
    intro _
    have hz : ∀ s c, (if s < 256 * 0 then (1 : ℝ) else 0) = 0 := fun s c => if_neg (by omega)
    refine ⟨fun r c => ?_, fun r c => ?_, fun r c => ?_, h9.congr fun s c _ _ => ?_, h10.congr fun s c _ _ => ?_⟩
    · pointwise [Hand.stt, k0_pay29]
      rfl
    · pointwise [Hand.stt, k0_pay29]
      rfl
    · pointwise [Hand.stt, k0_pay30]
      rfl
    · rw [if_neg (by omega), add_zero]
    · rw [if_neg (by omega), add_zero]
  | succ k ih =>
    intro hk1
    have hki : k < i := hk1
    have hi := H.hi
    have hk : k < 16 := by omega
    obtain ⟨h1, h2, h3, hK, hV⟩ := ih (by omega)
    obtain ⟨n1, n2, n3⟩ := H.trip_acc hk h1 h2 h3 hki
    refine ⟨n1, n2, n3, ?_, ?_⟩
    · refine (isR_put _ _ hK (pay32 _ _ _ _ _ _ _ _ (H.trip_d hk h1 h2 hki) H.qm (isR_blk _ hK hk)) hk).congr fun s c hs hc => ?_
      by_cases hin : 256 * k ≤ s ∧ s < 256 * (k + 1)
      · rw [if_pos hin, if_pos hin.2, if_neg (by omega), show 256 * k + (s - 256 * k) = s by omega, add_zero,
          stack_sum (fun g t => pD Q D K V T g t s) (fun t => Q t c) i c hc]
      · rw [if_neg hin]
        by_cases hl : s < 256 * k
        · rw [if_pos hl, if_pos (by omega)]
        · rw [if_neg hl, if_neg (by omega)]
    · refine (isR_put _ _ hV (pay33 _ _ _ (H.trip_a hk h1 hki) H.dm (isR_blk _ hV hk)) hk).congr fun s c hs hc => ?_
      by_cases hin : 256 * k ≤ s ∧ s < 256 * (k + 1)
      · rw [if_pos hin, if_pos hin.2, if_neg (by omega), show 256 * k + (s - 256 * k) = s by omega, add_zero,
          stack_sum (fun g t => pA Q K T g t s) (fun t => D t c) i c hc]
      · rw [if_neg hin]
        by_cases hl : s < 256 * k
        · rw [if_pos hl, if_pos (by omega)]
        · rw [if_neg hl, if_neg (by omega)]

end Point

/-! ## The diagonal block -/

section Diagonal
variable {p : grid0.Coords} {q d tt : Blk Ideal} {K' V' : Big Ideal} {Q D K V T : ℕ → ℕ → ℝ} (H : PtR (p 1).val q d tt K' V' Q D K V T)
  {a : Acc Ideal}
  (h1 : IsR a.1 fun r _ => ∑ j ∈ range (256 * (p 1).val), pP Q K (r / 256) (256 * (p 1).val + r % 256) j)
  (h2 : IsR a.2.1 fun r _ => ∑ j ∈ range (256 * (p 1).val), pG Q D K V T (r / 256) (256 * (p 1).val + r % 256) j)
  (h3 : IsR a.2.2 fun r c => ∑ j ∈ range (256 * (p 1).val), pD Q D K V T (r / 256) (256 * (p 1).val + r % 256) j * K j c)
include H h1

theorem PtR.dg_a : IsR (dgA p q tt (blk K' (p 1).val) a) fun r s =>
    pA Q K T (r / 256) (256 * (p 1).val + r % 256) (256 * (p 1).val + s) := by
  have e := Hand.dg_a p q tt (blk K' (p 1).val) a (H.z H.hi) H.tot h1
  refine e.congr fun r s hr hs => ?_
  unfold pA rA
  generalize (p 1).val = n
  by_cases h : s < r % 256
  · rw [if_pos h, if_pos (by omega), show 256 * n + s + 1 = 256 * n + (s + 1) by omega, ← range_blk]
    congr 4
    refine Finset.sum_congr rfl fun j hj => ?_
    unfold rP
    rw [Finset.mem_range] at hj
    rw [if_pos (by omega), if_pos (by omega)]
  · rw [if_neg h, if_neg (by omega)]

theorem PtR.dg_g : IsR (dgG p q d tt (blk K' (p 1).val) (blk V' (p 1).val) a) fun r s =>
    pG Q D K V T (r / 256) (256 * (p 1).val + r % 256) (256 * (p 1).val + s) :=
  Hand.dg_g p q d tt (blk K' (p 1).val) (blk V' (p 1).val) a (H.dg_a h1) H.dm (isR_blk V' H.hv H.hi)

include h2 in
theorem PtR.dg_d : IsR (k0_pay49 (F := Ideal) k0_pay28 a.2.1 (k0_pay44 (k0_pay20 q) (blk K' (p 1).val))
      (k0_pay45 (k0_pay20 q) (blk K' (p 1).val)) (dgM p) (dgG p q d tt (blk K' (p 1).val) (blk V' (p 1).val) a)) fun r s =>
    pD Q D K V T (r / 256) (256 * (p 1).val + r % 256) (256 * (p 1).val + s) := by
  have e := pay49 p a.2.1 (k0_pay44 (k0_pay20 q) (blk K' (p 1).val)) (k0_pay45 (k0_pay20 q) (blk K' (p 1).val)) _ h2
    (dg_z _ _ (H.z H.hi)) (dg_sp _ _ (pay4 _ _ (H.z H.hi))) (H.dg_g h1)
  refine e.congr fun r s hr hs => ?_
  unfold pD rD
  generalize (p 1).val = n
  by_cases h : s < r % 256
  · rw [if_pos h, if_pos (by omega)]
    congr 3
    exact range_blk n s _
  · rw [if_neg h, if_neg (by omega)]

include h2 h3 in
theorem PtR.dg_q : IsR (dgQ p q d tt (blk K' (p 1).val) (blk V' (p 1).val) a) fun u c =>
    ∑ s ∈ range (256 * ((p 1).val + 1)), pD Q D K V T (c / 64) (256 * (p 1).val + u) s * K s c := by
  have e := pay52 p a.2.1 a.2.2 (blk K' (p 1).val) (k0_pay44 (k0_pay20 q) (blk K' (p 1).val))
    (k0_pay45 (k0_pay20 q) (blk K' (p 1).val)) _ (H.dg_d h1 h2) (isR_blk K' H.hk H.hi) h3
  refine e.congr fun u c hu hc => ?_
  generalize (p 1).val = n
  rw [show (256 * (c / 64) + u) / 256 = c / 64 by omega, show (256 * (c / 64) + u) % 256 = u by omega,
    show 256 * (n + 1) = 256 * n + 256 by omega]
  exact range_blk n 256 _

end Diagonal

/-! ## The body -/

/-- Beyond the diagonal a query block adds nothing. -/
theorem pD_zero (Q D K V T : ℕ → ℕ → ℝ) (g : ℕ) {t s : ℕ} (h : t ≤ s) : pD Q D K V T g t s = 0 := rD_of_le _ _ _ h
theorem pA_zero (Q K T : ℕ → ℕ → ℝ) (g : ℕ) {t s : ℕ} (h : t ≤ s) : pA Q K T g t s = 0 := rA_of_le _ _ h

theorem PtR.outs {p : grid0.Coords} {q d tt : Blk Ideal} {K' V' : Big Ideal} {Q D K V T : ℕ → ℕ → ℝ}
    (H : PtR (p 1).val q d tt K' V' Q D K V T) {X9 X10 : Big Ideal} {x9 x10 : ℕ → ℕ → ℝ} (h9 : IsR X9 x9) (h10 : IsR X10 x10) :
    (IsR (Hand.outs p q d tt K' V' X9 X10).1 fun u c =>
      ∑ s ∈ range (256 * ((p 1).val + 1)), pD Q D K V T (c / 64) (256 * (p 1).val + u) s * K s c)
    ∧ (IsR (Hand.outs p q d tt K' V' X9 X10).2.1 fun s c =>
        x9 s c + ∑ u ∈ range 256, pD Q D K V T (c / 64) (256 * (p 1).val + u) s * Q (256 * (p 1).val + u) c)
    ∧ (IsR (Hand.outs p q d tt K' V' X9 X10).2.2 fun s c =>
        x10 s c + ∑ u ∈ range 256, pA Q K T (c / 64) (256 * (p 1).val + u) s * D (256 * (p 1).val + u) c) := by
  obtain ⟨h1, h2, h3, hK, hV⟩ := H.stt h9 h10 _ le_rfl
  refine ⟨H.dg_q h1 h2 h3, ?_, ?_⟩
  · have e := isR_put _ _ hK (pay50 p _ _ _ _ _ _ (H.dg_d h1 h2) H.qm (isR_blk _ hK H.hi)) H.hi
    refine e.congr fun s c hs hc => ?_
    generalize (p 1).val = n
    by_cases hin : 256 * n ≤ s ∧ s < 256 * (n + 1)
    · rw [if_pos hin, if_neg (by omega), show 256 * n + (s - 256 * n) = s by omega, add_zero,
        stack_sum (fun g t => pD Q D K V T g t s) (fun t => Q t c) n c hc]
    · rw [if_neg hin]
      by_cases hl : s < 256 * n
      · rw [if_pos hl]
      · rw [if_neg hl]
        congr 1
        refine (Finset.sum_eq_zero fun u hu => ?_).symm
        rw [Finset.mem_range] at hu
        rw [pD_zero Q D K V T (c / 64) (show 256 * n + u ≤ s by omega), zero_mul]
  · have e := isR_put _ _ hV (pay51 _ _ _ (H.dg_a h1) H.dm (isR_blk _ hV H.hi)) H.hi
    refine e.congr fun s c hs hc => ?_
    generalize (p 1).val = n
    by_cases hin : 256 * n ≤ s ∧ s < 256 * (n + 1)
    · rw [if_pos hin, if_neg (by omega), show 256 * n + (s - 256 * n) = s by omega, add_zero,
        stack_sum (fun g t => pA Q K T g t s) (fun t => D t c) n c hc]
    · rw [if_neg hin]
      by_cases hl : s < 256 * n
      · rw [if_pos hl]
      · rw [if_neg hl]
        congr 1
        refine (Finset.sum_eq_zero fun u hu => ?_).symm
        rw [Finset.mem_range] at hu
        rw [pA_zero Q K T (c / 64) (show 256 * n + u ≤ s by omega), zero_mul]

end Cert.KernelIdeal.Hand
-- ==== Proof.Input.lean ====
/- The two arguments as real numbers, and the row sums of softplus that the host computes before the launch. -/
module

public import proofs.«01_k».proof.Proof.Trip
public import proofs.«01_k».proof.Proof.Launched
public import Idealize.ShloMosaic.Lib.Pipeline.ValueKit
public import Idealize.ShloMosaic.Lib.StableHlo.ReadAt

@[expose] public section

set_option maxRecDepth 16384

noncomputable section

namespace Cert.Rows
open Finset (range)

/-- The scores of head `H`: the products of the query and key columns, scaled. -/
def zh (x : ℕ → ℕ → ℝ) (H t s : ℕ) : ℝ := (∑ e ∈ range 64, x t (6144 + (H * 64 + e)) * x s (7168 + (H * 64 + e))) * (1 / 8)
/-- Head `H`'s row sums of the softplus of the scores. -/
def Th (x : ℕ → ℕ → ℝ) (H t : ℕ) : ℝ := ∑ s ∈ range 4096, rP (zh x H t) t s

end Cert.Rows

namespace Cert.KernelIdeal.Hand

open Cert.KernelIdeal Cert.KernelIdeal.Gen Cert.Rows
open Idealize.ShloMosaic Idealize.ShloMosaic.TcCoe
open Finset (range)

variable (m : (ℓ : Loc nD τ sig) → Buf (Elt Ideal) ℓ)

/-- The arguments hold reals: the first in the columns the kernel reads. -/
structure ArgR (c : Dev nD) (x y : ℕ → ℕ → ℝ) : Prop where
  hx : ∀ (i : Fin 4096) (j : Fin 9216), 6144 ≤ j.val →
    (m (c, Proc.tc.devRef main_arg0) : FVec Ideal S4096x9216 .f32) (ix2 i j) = ((x i.val j.val : ℝ) : EReal)
  hy : IsR (m (c, Proc.tc.devRef main_arg1) : FVec Ideal S4096x1024 .f32) y

theorem V_total (c : Dev nD) {x y : ℕ → ℕ → ℝ} (h : ArgR m c x y) :
    IsR (V m c main_v23 : FVec Ideal S4096x1024 .f32) fun t j => Th x (j / 64) t := by
  intro r l
  unfold V
  after_reads_at
  have hl := l.isLt
  have hq : ∀ e : Fin 64, (m (c, Proc.tc.devRef main_arg0) : FVec Ideal S4096x9216 .f32) (ix2 r ⟨6144 + (l.val / 64 * 64 + e.val), by omega⟩)
      = ((x r.val (6144 + (l.val / 64 * 64 + e.val)) : ℝ) : EReal) :=
    fun e => h.hx r ⟨6144 + (l.val / 64 * 64 + e.val), by omega⟩ (Nat.le_add_right _ _)
  have hk : ∀ (s : Fin 4096) (e : Fin 64), (m (c, Proc.tc.devRef main_arg0) : FVec Ideal S4096x9216 .f32) (ix2 s ⟨7168 + (l.val / 64 * 64 + e.val), by omega⟩)
      = ((x s.val (7168 + (l.val / 64 * 64 + e.val)) : ℝ) : EReal) :=
    fun s e => h.hx s ⟨7168 + (l.val / 64 * 64 + e.val), by omega⟩ (by show 6144 ≤ 7168 + _; omega)
  have hz : ∀ s : Fin 4096, (∑ e : Fin 64, x r.val (6144 + (l.val / 64 * 64 + e.val)) * x s.val (7168 + (l.val / 64 * 64 + e.val))) * (1 / 8)
      = zh x (l.val / 64) r.val s.val := fun s => by rw [zh, Finset.sum_range]
  have he : id (constant S_ FTy.f32 0#32 : FVec Ideal S_ .f32) ix0 = ((0 : ℝ) : EReal) := by
    show Ideal.ofBits .f32 0#32 = _
    rw [EReal.coe_zero]; exact Ideal.ofBits_zero_f32
  simp only [hq, hk, eighth, ← EReal.coe_mul, coe_sum, hz, neg_neg, ne_eq, not_true_eq_false, if_false, coe_spl_host, he]
  simp (disch := omega) only [hlo_ix, Scalar.select_ofBool]
  simp only [← EReal.coe_neg, coe_ite, coe_sum]
  congr 1
  unfold Th
  rw [Finset.sum_range, ← Finset.sum_neg_distrib]
  refine Finset.sum_congr rfl fun s _ => ?_
  unfold rP
  split
  · rw [neg_neg]
  · rw [neg_zero]

end Cert.KernelIdeal.Hand
-- ==== Proof.Point.lean ====
/- The blocks at one grid point as real numbers, and what the two accumulated outputs hold after each point of a pair. -/
module

public import proofs.«01_k».proof.Proof.Input

@[expose] public section

set_option maxRecDepth 16384

noncomputable section

namespace Cert.Rows
open Finset (range)

/-- Head `H`'s gradient of the output against the values. -/
def gh (x y : ℕ → ℕ → ℝ) (H t s : ℕ) : ℝ := ∑ e ∈ range 64, y t (H * 64 + e) * x s (8192 + (H * 64 + e))
/-- Head `H`'s weights and score gradients. -/
def wA (x : ℕ → ℕ → ℝ) (H t s : ℕ) : ℝ := rA (zh x H t) (Th x H t) t s
def wD (x y : ℕ → ℕ → ℝ) (H t s : ℕ) : ℝ := rD (zh x H t) (gh x y H t) (Th x H t) t s

/-- The three results. -/
def resQ (x y : ℕ → ℕ → ℝ) (t j : ℕ) : ℝ := ∑ s ∈ range 4096, wD x y (j / 64) t s * x s (7168 + j)
def resK (x y : ℕ → ℕ → ℝ) (s j : ℕ) : ℝ := ∑ t ∈ range 4096, wD x y (j / 64) t s * x t (6144 + j)
def resV (x y : ℕ → ℕ → ℝ) (s j : ℕ) : ℝ := ∑ t ∈ range 4096, wA x (j / 64) t s * y t j

/-- A sum over the pair's lanes with the other head's cleared is a sum over the head's own. -/
theorem sum_head {g : ℕ} (hg : g < 2) (f k : ℕ → ℝ) :
    ∑ c ∈ range 128, (if c / 64 = g then f c else 0) * k c = ∑ e ∈ range 64, f (64 * g + e) * k (64 * g + e) := by
  have h1 : ∑ c ∈ range 64, (if c / 64 = g then f c else 0) * k c = if g = 0 then ∑ c ∈ range 64, f c * k c else 0 := by
    split
    · next h =>
      refine Finset.sum_congr rfl fun c hc => ?_
      rw [Finset.mem_range] at hc
      rw [if_pos (by omega)]
    · next h =>
      refine Finset.sum_eq_zero fun c hc => ?_
      rw [Finset.mem_range] at hc
      rw [if_neg (by omega), zero_mul]
  have h2 : ∑ c ∈ range 64, (if (64 + c) / 64 = g then f (64 + c) else 0) * k (64 + c)
      = if g = 1 then ∑ c ∈ range 64, f (64 + c) * k (64 + c) else 0 := by
    split
    · next h =>
      refine Finset.sum_congr rfl fun c hc => ?_
      rw [Finset.mem_range] at hc
      rw [if_pos (by omega)]
    · next h =>
      refine Finset.sum_eq_zero fun c hc => ?_
      rw [Finset.mem_range] at hc
      rw [if_neg (by omega), zero_mul]
  rw [show (128 : ℕ) = 64 + 64 from rfl, Finset.sum_range_add, h1, h2]
  rcases Nat.lt_succ_iff_lt_or_eq.mp hg with h | h
  · obtain rfl : g = 0 := by omega
    simp
  · subst h
    simp

end Cert.Rows

namespace Cert.KernelIdeal.Hand

open Cert.KernelIdeal Cert.KernelIdeal.Gen Cert.Rows
open Idealize.ShloMosaic Idealize.ShloMosaic.TcCoe
open Finset (range)

/-! ## A pair's lanes -/

def lQ (x : ℕ → ℕ → ℝ) (h t c : ℕ) : ℝ := x t (6144 + (128 * h + c))
def lK (x : ℕ → ℕ → ℝ) (h t c : ℕ) : ℝ := x t (7168 + (128 * h + c))
def lV (x : ℕ → ℕ → ℝ) (h t c : ℕ) : ℝ := x t (8192 + (128 * h + c))
def lD (y : ℕ → ℕ → ℝ) (h t c : ℕ) : ℝ := y t (128 * h + c)
def lT (x : ℕ → ℕ → ℝ) (h g t : ℕ) : ℝ := Th x (2 * h + g) t

theorem zz_eq (x : ℕ → ℕ → ℝ) (h : ℕ) {g : ℕ} (hg : g < 2) (t : ℕ) : zz (lQ x h) (lK x h) g t = zh x (2 * h + g) t := by
  funext s
  unfold zz zh
  rw [sum_head hg]
  congr 1
  refine Finset.sum_congr rfl fun e _ => ?_
  unfold lQ lK
  rw [show 128 * h + (64 * g + e) = (2 * h + g) * 64 + e by ring]
theorem gg_eq (x y : ℕ → ℕ → ℝ) (h : ℕ) {g : ℕ} (hg : g < 2) (t : ℕ) : gg (lD y h) (lV x h) g t = gh x y (2 * h + g) t := by
  funext s
  unfold gg gh
  rw [sum_head hg]
  refine Finset.sum_congr rfl fun e _ => ?_
  unfold lD lV
  rw [show 128 * h + (64 * g + e) = (2 * h + g) * 64 + e by ring]
theorem pA_eq (x : ℕ → ℕ → ℝ) (h : ℕ) {g : ℕ} (hg : g < 2) (t s : ℕ) :
    pA (lQ x h) (lK x h) (lT x h) g t s = wA x (2 * h + g) t s := by
  unfold pA wA lT
  rw [zz_eq x h hg]
theorem pD_eq (x y : ℕ → ℕ → ℝ) (h : ℕ) {g : ℕ} (hg : g < 2) (t s : ℕ) :
    pD (lQ x h) (lD y h) (lK x h) (lV x h) (lT x h) g t s = wD x y (2 * h + g) t s := by
  unfold pD wD lT
  rw [zz_eq x h hg, gg_eq x y h hg]

/-! ## The blocks at a point -/

variable (m : (ℓ : Loc nD τ sig) → Buf (Elt Ideal) ℓ)

theorem idx1 : ∀ t : Fin cfg0.N, win0_1.index t = ![t.val % 16, 48 + t.val / 16] := (by decide +kernel : ∀ t : Fin grid0.N, _)
theorem idx2 : ∀ t : Fin cfg0.N, win0_2.index t = ![0, 56 + t.val / 16] := (by decide +kernel : ∀ t : Fin grid0.N, _)
theorem idx3 : ∀ t : Fin cfg0.N, win0_3.index t = ![0, 64 + t.val / 16] := (by decide +kernel : ∀ t : Fin grid0.N, _)
theorem idx4 : ∀ t : Fin cfg0.N, win0_4.index t = ![t.val % 16, t.val / 16] := (by decide +kernel : ∀ t : Fin grid0.N, _)
theorem idx5 : ∀ t : Fin cfg0.N, win0_5.index t = ![t.val % 16, t.val / 16] := (by decide +kernel : ∀ t : Fin grid0.N, _)
theorem idx6 : ∀ t : Fin cfg0.N, win0_6.index t = ![t.val % 16, t.val / 16] := (by decide +kernel : ∀ t : Fin grid0.N, _)
theorem idx7 : ∀ t : Fin cfg0.N, win0_7.index t = ![0, t.val / 16] := (by decide +kernel : ∀ t : Fin grid0.N, _)
theorem idx8 : ∀ t : Fin cfg0.N, win0_8.index t = ![0, t.val / 16] := (by decide +kernel : ∀ t : Fin grid0.N, _)

theorem lt_N (t : Fin cfg0.N) : t.val < 128 := lt_of_lt_of_eq t.isLt N_0

section Blocks
variable {m} {c : Dev nD} {x y : ℕ → ℕ → ℝ} (h : ArgR m c x y) (t : Fin cfg0.N)
include h

theorem ArgR.q : IsR (iblk m c 1 t : FVec Ideal S256x128 .f32) fun u l => lQ x (t.val / 16) (256 * (t.val % 16) + u) l := by
  intro u l
  have ht := lt_N t
  refine Eq.trans ?_ (h.hx ⟨256 * (t.val % 16) + u.val, by omega⟩ ⟨6144 + (128 * (t.val / 16) + l.val), by omega⟩ (by show 6144 ≤ 6144 + _; omega))
  blk_ext [iblk, V, idx1 t]
theorem ArgR.k : IsR (iblk m c 2 t : FVec Ideal S4096x128 .f32) (lK x (t.val / 16)) := by
  intro u l
  have ht := lt_N t
  refine Eq.trans ?_ (h.hx ⟨u.val, by omega⟩ ⟨7168 + (128 * (t.val / 16) + l.val), by omega⟩ (by show 6144 ≤ 7168 + _; omega))
  blk_ext [iblk, V, idx2 t]
theorem ArgR.v : IsR (iblk m c 3 t : FVec Ideal S4096x128 .f32) (lV x (t.val / 16)) := by
  intro u l
  have ht := lt_N t
  refine Eq.trans ?_ (h.hx ⟨u.val, by omega⟩ ⟨8192 + (128 * (t.val / 16) + l.val), by omega⟩ (by show 6144 ≤ 8192 + _; omega))
  blk_ext [iblk, V, idx3 t]
theorem ArgR.d : IsR (iblk m c 4 t : FVec Ideal S256x128 .f32) fun u l => lD y (t.val / 16) (256 * (t.val % 16) + u) l := by
  intro u l
  have ht := lt_N t
  refine Eq.trans ?_ (h.hy ⟨256 * (t.val % 16) + u.val, by omega⟩ ⟨128 * (t.val / 16) + l.val, by omega⟩)
  blk_ext [iblk, V, idx4 t]
theorem ArgR.tt : IsR (iblk m c 5 t : FVec Ideal S256x128 .f32) fun u l => lT x (t.val / 16) (l / 64) (256 * (t.val % 16) + u) := by
  intro u l
  have ht := lt_N t
  refine Eq.trans ?_ ((V_total m c h ⟨256 * (t.val % 16) + u.val, by omega⟩ ⟨128 * (t.val / 16) + l.val, by omega⟩).trans ?_)
  · blk_ext [iblk, idx5 t]
  · unfold lT
    dsimp only
    rw [show (128 * (t.val / 16) + l.val) / 64 = 2 * (t.val / 16) + l.val / 64 by omega]

theorem ArgR.pt : PtR (grid0.coords t 1).val (iblk m c 1 t) (iblk m c 4 t) (iblk m c 5 t) (iblk m c 2 t) (iblk m c 3 t)
    (lQ x (t.val / 16)) (lD y (t.val / 16)) (lK x (t.val / 16)) (lV x (t.val / 16)) (lT x (t.val / 16)) := by
  rw [coord_1]
  exact ⟨Nat.mod_lt _ (by decide), h.q t, h.d t, h.tt t, h.k t, h.v t⟩

end Blocks

/-! ## The accumulated outputs -/

theorem zero18 : IsR (k0_pay18 (F := Ideal) : Big Ideal) fun _ _ => 0 := by
  intro i j
  rw [EReal.coe_zero]
  pointwise [k0_pay18]
theorem zero19 : IsR (k0_pay19 (F := Ideal) : Big Ideal) fun _ _ => 0 := by
  intro i j
  rw [EReal.coe_zero]
  pointwise [k0_pay19]

section Acc
variable {m} {c : Dev nD} {x y : ℕ → ℕ → ℝ} (h : ArgR m c x y)

/-- What the pair's accumulated outputs hold after its first `n` blocks of queries. -/
def upK (x y : ℕ → ℕ → ℝ) (p n s l : ℕ) : ℝ := ∑ t ∈ range (256 * n), wD x y (2 * p + l / 64) t s * lQ x p t l
def upV (x y : ℕ → ℕ → ℝ) (p n s l : ℕ) : ℝ := ∑ t ∈ range (256 * n), wA x (2 * p + l / 64) t s * lD y p t l

theorem start_pos {i : grid0.Coords} {Z X : Big Ideal} (e : (i 1).val = 0) : start i Z X = Z := if_pos e
theorem start_neg {i : grid0.Coords} {Z X : Big Ideal} (e : (i 1).val ≠ 0) : start i Z X = X := if_neg e

include h in
/-- One point, from what the points before it left. -/
theorem ArgR.step (t : Fin cfg0.N) {X9 X10 : Big Ideal}
    (h9 : t.val % 16 ≠ 0 → IsR X9 (upK x y (t.val / 16) (t.val % 16))) (h10 : t.val % 16 ≠ 0 → IsR X10 (upV x y (t.val / 16) (t.val % 16))) :
    IsR (outsAt m c t X9 X10).1 (fun u l => ∑ s ∈ range 4096,
        wD x y (2 * (t.val / 16) + l / 64) (256 * (t.val % 16) + u) s * lK x (t.val / 16) s l)
    ∧ IsR (outsAt m c t X9 X10).2.1 (upK x y (t.val / 16) (t.val % 16 + 1))
    ∧ IsR (outsAt m c t X9 X10).2.2 (upV x y (t.val / 16) (t.val % 16 + 1)) := by
  have s9 : IsR (start (grid0.coords t) k0_pay18 X9) (upK x y (t.val / 16) (t.val % 16)) := by
    by_cases e : t.val % 16 = 0
    · rw [start_pos (by rw [coord_1]; exact e), e]
      exact zero18.congr fun _ _ _ _ => rfl
    · rw [start_neg (by rw [coord_1]; exact e)]
      exact h9 e
  have s10 : IsR (start (grid0.coords t) k0_pay19 X10) (upV x y (t.val / 16) (t.val % 16)) := by
    by_cases e : t.val % 16 = 0
    · rw [start_pos (by rw [coord_1]; exact e), e]
      exact zero19.congr fun _ _ _ _ => rfl
    · rw [start_neg (by rw [coord_1]; exact e)]
      exact h10 e
  have ht := lt_N t
  obtain ⟨o1, o2, o3⟩ := (h.pt t).outs s9 s10
  simp only [coord_1] at o1 o2 o3
  refine ⟨o1.congr fun u l hu hl => ?_, o2.congr fun s l hs hl => ?_, o3.congr fun s l hs hl => ?_⟩
  · refine Eq.trans (Finset.sum_congr rfl fun s _ => by rw [pD_eq x y _ (by omega)])
      (Finset.sum_subset (Finset.range_subset_range.mpr (by omega)) fun s _ hs => ?_)
    rw [Finset.mem_range] at hs
    unfold wD
    rw [rD_of_le _ _ _ (by omega), zero_mul]
  · unfold upK
    rw [show 256 * (t.val % 16 + 1) = 256 * (t.val % 16) + 256 by omega, Finset.sum_range_add]
    congr 1
    exact Finset.sum_congr rfl fun u _ => by rw [pD_eq x y _ (by omega)]
  · unfold upV
    rw [show 256 * (t.val % 16 + 1) = 256 * (t.val % 16) + 256 by omega, Finset.sum_range_add]
    congr 1
    exact Finset.sum_congr rfl fun u _ => by rw [pA_eq x _ (by omega)]

include h in
theorem ArgR.acc : ∀ n, n % 16 ≠ 0 → n < 128 → IsR (accAt m c n).1 (upK x y (n / 16) (n % 16)) ∧ IsR (accAt m c n).2 (upV x y (n / 16) (n % 16)) := by
  intro n
  induction n with
  | zero => exact fun e _ => absurd rfl e
  | succ n ih =>
    intro e hn
    have hN : n < cfg0.N := lt_of_lt_of_eq (by omega : n < 128) N_0.symm
    have st := h.step ⟨n, hN⟩ (fun e' => (ih e' (by omega)).1) (fun e' => (ih e' (by omega)).2)
    rw [show accAt m c (n + 1) = _ from accAt_succ m c ⟨n, hN⟩, show (n + 1) / 16 = n / 16 by omega, show (n + 1) % 16 = n % 16 + 1 by omega]
    exact st.2

end Acc

end Cert.KernelIdeal.Hand
-- ==== Proof.Outputs.lean ====
/- The three results' arrays after the kernel's launch, as real numbers. -/
module

public import proofs.«01_k».proof.Proof.Point

@[expose] public section

set_option maxRecDepth 16384

noncomputable section

namespace Cert.KernelIdeal.Hand

open Cert.KernelIdeal Cert.KernelIdeal.Gen Cert.Rows
open Idealize.ShloMosaic Idealize.ShloMosaic.TcCoe
open Idealize.ShloMosaic.Pipeline (Dat)
open Finset (range)

theorem IsR.at {a b : ℕ} {X : (⟨2, ![a, b]⟩ : Shape).Idx → EReal} {f : ℕ → ℕ → ℝ} (h : IsR X f) (i : (⟨2, ![a, b]⟩ : Shape).Idx) :
    X i = ((f (i 0).val (i 1).val : ℝ) : EReal) := by
  conv_lhs => rw [eq_ix2 i]
  exact h (i 0) (i 1)

theorem upK_all (x y : ℕ → ℕ → ℝ) (p s l : ℕ) : upK x y p 16 s l = resK x y s (p * 128 + l) := by
  unfold upK resK lQ
  rw [show (p * 128 + l) / 64 = 2 * p + l / 64 by omega, Nat.mul_comm p 128]
theorem upV_all (x y : ℕ → ℕ → ℝ) (p s l : ℕ) : upV x y p 16 s l = resV x y s (p * 128 + l) := by
  unfold upV resV lD
  rw [show (p * 128 + l) / 64 = 2 * p + l / 64 by omega, Nat.mul_comm p 128]

variable {m : (ℓ : Loc nD τ sig) → Buf (Elt Ideal) ℓ} {c : Dev nD} {x y : ℕ → ℕ → ℝ} (h : ArgR m c x y)
include h

theorem ArgR.out6 (t : Fin cfg0.N) : IsR (outsAt m c t (accAt m c t.val).1 (accAt m c t.val).2).1 (fun u l => ∑ s ∈ range 4096,
    wD x y (2 * (t.val / 16) + l / 64) (256 * (t.val % 16) + u) s * lK x (t.val / 16) s l) :=
  (h.step t (fun e => (h.acc t.val e (lt_N t)).1) (fun e => (h.acc t.val e (lt_N t)).2)).1
theorem ArgR.out7 (t : Fin cfg0.N) : IsR (accAt m c (t.val + 1)).1 (upK x y (t.val / 16) (t.val % 16 + 1)) := by
  rw [accAt_succ]
  exact (h.step t (fun e => (h.acc t.val e (lt_N t)).1) (fun e => (h.acc t.val e (lt_N t)).2)).2.1
theorem ArgR.out8 (t : Fin cfg0.N) : IsR (accAt m c (t.val + 1)).2 (upV x y (t.val / 16) (t.val % 16 + 1)) := by
  rw [accAt_succ]
  exact (h.step t (fun e => (h.acc t.val e (lt_N t)).1) (fun e => (h.acc t.val e (lt_N t)).2)).2.2

theorem ArgR.final6 : (dats m 0 c).arrAt 6 (cfgs 0).N = (fun i => ((resQ x y (i 0).val (i 1).val : ℝ) : EReal) : FVec Ideal S4096x1024 .bf16) := by
  refine (dats m 0 c).arrAt_eq_of_covers 6 _ (by decide +kernel) fun t _ b => ?_
  have ht := lt_N t
  blk_simp [idx6 t]
  rw [after_6]
  refine (IsR.at (h.out6 t) b).trans (congrArg _ ?_)
  unfold resQ lK
  rw [show (t.val / 16 * 128 + (b 1).val) / 64 = 2 * (t.val / 16) + (b 1).val / 64 by omega, Nat.mul_comm (t.val / 16) 128, Nat.mul_comm (t.val % 16) 256]

theorem ArgR.final7 : (dats m 0 c).arrAt 7 (cfgs 0).N = (fun i => ((resK x y (i 0).val (i 1).val : ℝ) : EReal) : FVec Ideal S4096x1024 .f32) := by
  refine (dats m 0 c).arrAt_eq_of_covers 7 _ (by decide +kernel) fun t hf b => ?_
  have ht := lt_N t
  have hf := (flush0_7 t).mp hf
  blk_simp [idx7 t]
  rw [after_7]
  refine (IsR.at (h.out7 t) b).trans (congrArg _ ?_)
  rw [hf, upK_all]

theorem ArgR.final8 : (dats m 0 c).arrAt 8 (cfgs 0).N = (fun i => ((resV x y (i 0).val (i 1).val : ℝ) : EReal) : FVec Ideal S4096x1024 .f32) := by
  refine (dats m 0 c).arrAt_eq_of_covers 8 _ (by decide +kernel) fun t hf b => ?_
  have ht := lt_N t
  have hf := (flush0_8 t).mp hf
  blk_simp [idx8 t]
  rw [after_8]
  refine (IsR.at (h.out8 t) b).trans (congrArg _ ?_)
  rw [hf, upV_all]

end Cert.KernelIdeal.Hand
-- ==== Proof.Stages.lean ====
/- The reference's operations on arrays of real numbers, one group at a time: the scores, the log-sigmoids and their
   derivatives, and the running sums along a row from either end. -/
module

public import proofs.«01_k».proof.Proof.Rows
public import proofs.«01_k».proof.Proof.Gen.ReferenceIdeal.Run

@[expose] public section

set_option maxRecDepth 16384

noncomputable section

namespace Cert.Rows
open Idealize.ShloMosaic
open Finset (range)

/-- The array's entries are the reals `f`. -/
def IsR3 {a b c : ℕ} (x : (⟨3, ![a, b, c]⟩ : Shape).Idx → EReal) (f : ℕ → ℕ → ℕ → ℝ) : Prop :=
  ∀ (i : Fin a) (j : Fin b) (k : Fin c), x (ix3 i j k) = ((f i.val j.val k.val : ℝ) : EReal)

theorem IsR3.congr {a b c : ℕ} {x : (⟨3, ![a, b, c]⟩ : Shape).Idx → EReal} {f g : ℕ → ℕ → ℕ → ℝ} (h : IsR3 x f)
    (e : ∀ i j k, i < a → j < b → k < c → f i j k = g i j k) : IsR3 x g :=
  fun i j k => (h i j k).trans (congrArg _ (e i.val j.val k.val i.isLt j.isLt k.isLt))

/-! ## Running sums -/

/-- The host's window sum is a sum over the window. -/
theorem window_sum {s t : Shape} (window strides lo hi : Fin s.rank → ℕ) (h : s.ReduceWindows window strides lo hi t) (x : s.Idx → EReal) (j : t.Idx) :
    Ideal.hostReduceWindowAdd window strides lo hi h x 0 j
      = ∑ k : (⟨s.rank, window⟩ : Shape).Idx,
          if hin : ∀ a, lo a ≤ (j (a.cast h.1.symm)).val * strides a + (k a).val ∧ (j (a.cast h.1.symm)).val * strides a + (k a).val - lo a < s.size a
          then x (fun a => ⟨(j (a.cast h.1.symm)).val * strides a + (k a).val - lo a, (hin a).2⟩) else 0 := by
  rw [sum_idx_eq_foldl]
  unfold Ideal.hostReduceWindowAdd Host.reduceWindow
  dsimp only
  congr! 4
  split <;> rfl

/-- Along the last axis, in a window of its length. -/
theorem window_last {A B N lo hi : ℕ} (h : (⟨3, ![A, B, N]⟩ : Shape).ReduceWindows ![1, 1, N] ![1, 1, 1] ![0, 0, lo] ![0, 0, hi] ⟨3, ![A, B, N]⟩)
    {x : (⟨3, ![A, B, N]⟩ : Shape).Idx → EReal} {f : ℕ → ℕ → ℕ → ℝ} (hx : IsR3 x f) :
    IsR3 (Ideal.hostReduceWindowAdd ![1, 1, N] ![1, 1, 1] ![0, 0, lo] ![0, 0, hi] h x 0)
      fun i j k => ∑ c ∈ range N, if lo ≤ k + c ∧ k + c - lo < N then f i j (k + c - lo) else 0 := by
  intro i j k
  rw [window_sum]
  refine (Idealize.ShloMosaic.sum_idx3 (n0 := 1) (n1 := 1) (n2 := N) _).trans ?_
  dsimp only
  rw [Fin.sum_univ_one, Fin.sum_univ_one, Finset.sum_range, ← coe_sum]
  refine Finset.sum_congr rfl fun c _ => ?_
  by_cases hc : lo ≤ k.val + c.val ∧ k.val + c.val - lo < N
  · have hall : ∀ a : Fin 3, (![0, 0, lo] : Fin 3 → ℕ) a ≤ ((ix3 i j k : (⟨3, ![A, B, N]⟩ : Shape).Idx) a).val * (![1, 1, 1] : Fin 3 → ℕ) a + ((ix3 0 0 c : (⟨3, ![1, 1, N]⟩ : Shape).Idx) a).val
        ∧ ((ix3 i j k : (⟨3, ![A, B, N]⟩ : Shape).Idx) a).val * (![1, 1, 1] : Fin 3 → ℕ) a + ((ix3 0 0 c : (⟨3, ![1, 1, N]⟩ : Shape).Idx) a).val - (![0, 0, lo] : Fin 3 → ℕ) a < (![A, B, N] : Fin 3 → ℕ) a := by
      intro a
      fin_cases a
      · exact ⟨Nat.zero_le _, by show i.val * 1 + 0 - 0 < A; have := i.isLt; omega⟩
      · exact ⟨Nat.zero_le _, by show j.val * 1 + 0 - 0 < B; have := j.isLt; omega⟩
      · exact ⟨by show lo ≤ k.val * 1 + c.val; omega, by show k.val * 1 + c.val - lo < N; omega⟩
    rw [if_pos hc]
    refine (dif_pos hall).trans ((congrArg x ?_).trans (hx i j ⟨k.val + c.val - lo, hc.2⟩))
    funext a
    refine Fin.ext ?_
    fin_cases a
    · show i.val * 1 + 0 - 0 = i.val; omega
    · show j.val * 1 + 0 - 0 = j.val; omega
    · show k.val * 1 + c.val - lo = k.val + c.val - lo; omega
  · rw [if_neg hc, EReal.coe_zero]
    refine dif_neg fun hall => hc ?_
    have h2 := hall (2 : Fin 3)
    have h2' : lo ≤ k.val * 1 + c.val ∧ k.val * 1 + c.val - lo < N := h2
    rwa [Nat.mul_one] at h2'

theorem flip_last {A B N : ℕ} {x : (⟨3, ![A, B, N + 1]⟩ : Shape).Idx → EReal} {f : ℕ → ℕ → ℕ → ℝ} (hx : IsR3 x f) :
    IsR3 (Host.reverse (s := ⟨3, ![A, B, N + 1]⟩) [2] x) fun i j k => f i j (N - k) := by
  intro i j k
  refine (congrArg x ?_).trans ((hx i j ⟨N - k.val, by omega⟩))
  funext a
  refine Fin.ext ?_
  fin_cases a
  · rfl
  · rfl
  · show N + 1 - (k.val + 1) = N - k.val
    omega

/-- Flipped, summed from the front and flipped back: the sum from an entry to the end. -/
theorem sum_from {N s : ℕ} (hs : s ≤ N) (f : ℕ → ℝ) :
    ∑ c ∈ range (N + 1), (if N ≤ N - s + c ∧ N - s + c - N < N + 1 then f (N - (N - s + c - N)) else 0) = ∑ j ∈ range (N + 1), f j - ∑ j ∈ range s, f j := by
  rw [← Finset.sum_Ico_eq_sub _ (by omega), ← Finset.sum_filter]
  refine Finset.sum_nbij' (fun c => N + s - c) (fun j => N + s - j) ?_ ?_ ?_ ?_ ?_
  · intro c; simp only [Finset.mem_filter, Finset.mem_range, Finset.mem_Ico]; omega
  · intro c; simp only [Finset.mem_filter, Finset.mem_range, Finset.mem_Ico]; omega
  · intro c; simp only [Finset.mem_filter, Finset.mem_range]; omega
  · intro c; simp only [Finset.mem_Ico]; omega
  · intro c; simp only [Finset.mem_filter, Finset.mem_range]; intro h; congr 1; omega
/-- Flipped, summed to the end and flipped back: the sum up to an entry. -/
theorem sum_to {N s : ℕ} (hs : s ≤ N) (f : ℕ → ℝ) :
    ∑ c ∈ range (N + 1), (if 0 ≤ N - s + c ∧ N - s + c - 0 < N + 1 then f (N - (N - s + c - 0)) else 0) = ∑ j ∈ range (s + 1), f j := by
  rw [← Finset.sum_filter]
  refine Finset.sum_nbij' (fun c => s - c) (fun j => s - j) ?_ ?_ ?_ ?_ ?_
  · intro c; simp only [Finset.mem_filter, Finset.mem_range]; omega
  · intro c; simp only [Finset.mem_filter, Finset.mem_range]; omega
  · intro c; simp only [Finset.mem_filter, Finset.mem_range]; omega
  · intro c; simp only [Finset.mem_range]; omega
  · intro c; simp only [Finset.mem_filter, Finset.mem_range]; intro h; congr 1; omega

/-! ## The log-sigmoid -/

theorem spl_neg (x : ℝ) : spl (-x) = spl x - x := by
  unfold spl
  rw [neg_neg, max_comm (-x) x]
  rcases le_total x 0 with h | h
  · rw [max_eq_right h, max_eq_left (by linarith : (0 : ℝ) ≤ -x)]; ring
  · rw [max_eq_left h, max_eq_right (by linarith : -x ≤ 0)]; ring

/-- The two derivatives of the log-sigmoid add up to one. -/
theorem exp_spl (x : ℝ) : Real.exp (-x - spl (-x)) = 1 - Real.exp (x - spl x) := by
  rw [spl_neg]
  have e1 : Real.exp (spl x) = 1 + Real.exp x := by
    unfold spl
    rcases le_total x 0 with h | h
    · rw [max_eq_right h, max_eq_right (by linarith : x ≤ -x), zero_add, Real.exp_log (by positivity)]
      congr 2; ring
    · rw [max_eq_left h, max_eq_left (by linarith : -x ≤ x), Real.exp_add, Real.exp_log (by positivity), mul_add, ← Real.exp_add, mul_one]
      rw [show x + (0 - x) = 0 by ring, Real.exp_zero, add_comm]
  have e2 : Real.exp (x - spl x) = Real.exp x / (1 + Real.exp x) := by rw [Real.exp_sub, e1]
  have e3 : Real.exp (-x - (spl x - x)) = 1 / (1 + Real.exp x) := by
    rw [show -x - (spl x - x) = -spl x by ring, Real.exp_neg, e1, one_div]
  rw [e2, e3]
  have : (1 + Real.exp x) ≠ 0 := by positivity
  field_simp
  ring

end Cert.Rows
-- ==== Proof.Target.lean ====
/- The reference's three results as real numbers: the same sums as the kernel's. -/
module

public import proofs.«01_k».proof.Proof.Point
public import proofs.«01_k».proof.Proof.Stages

@[expose] public section

set_option maxRecDepth 16384

noncomputable section

namespace Cert.ReferenceIdeal.Hand

open Cert.ReferenceIdeal Cert.ReferenceIdeal.Gen Cert.ReferenceIdeal.Value Cert.Rows
open Idealize.ShloMosaic Idealize.ShloMosaic.TcCoe
open Finset (range)

abbrev A3 := FVec Ideal S16x4096x4096 .f32
abbrev H3 := FVec Ideal S16x4096x64 .f32

/-! ## The operations on arrays of reals -/

theorem heads_at (X : FVec Ideal S4096x1024 .f32) {f : ℕ → ℕ → ℝ} (h : IsR X f) :
    IsR3 (transpose S16x4096x64 [1, 0, 2] (shapeCast S4096x16x64 X shapeCasts_S4096x1024_S4096x16x64) transposes_S4096x16x64_S16x4096x64_1_0_2 : H3)
      fun i t e => f t (i * 64 + e) := by
  intro i t e
  unfold IsR at h
  pointwise []
  refine Eq.trans ?_ (h t ⟨i.val * 64 + e.val, by omega⟩)
  blk_ext
theorem slice_at {o : ℕ} (ho : 6144 ≤ o) (ho' : o + 1024 ≤ 9216) (X : FVec Ideal S4096x9216 .f32) {x : ℕ → ℕ → ℝ}
    (hx : ∀ (i : Fin 4096) (j : Fin 9216), 6144 ≤ j.val → X (ix2 i j) = ((x i.val j.val : ℝ) : EReal))
    (hs : S4096x9216.Slices ![0, o] S4096x1024) :
    IsR (extractStridedSlice S4096x1024 ![0, o] X hs : FVec Ideal S4096x1024 .f32) fun t j => x t (o + j) := by
  intro t j
  refine Eq.trans ?_ (hx t ⟨o + j.val, by omega⟩ (by show 6144 ≤ o + _; omega))
  refine congrArg X ?_
  funext a
  refine Fin.ext ?_
  fin_cases a
  · exact Nat.zero_add _
  · rfl
theorem scores_at (X Y : H3) {f g : ℕ → ℕ → ℕ → ℝ} (hX : IsR3 X f) (hY : IsR3 Y g) :
    IsR3 (Host.dotGeneral (φ₁ := .f32) (φ₂ := .f32) dot_S16x4096x64_S16x4096x64_S16x4096x4096_2_2_1_1_0_0 none X Y : A3) fun i t s => ∑ e ∈ range 64, f i t e * g i s e := by
  intro i t s
  unfold IsR3 at hX hY
  pointwise [hX, hY]
  exact sum_fin_mul 64 (fun e => f i t e) fun e => g i s e
theorem scale_at (Z : A3) {z : ℕ → ℕ → ℕ → ℝ} (hZ : IsR3 Z z) :
    IsR3 (mulf Z (broadcastInDim S16x4096x4096 ![] bcast_S_S16x4096x4096 (constant S_ .f32 0x3E000000#32)) : A3) fun i t s => z i t s * (1 / 8) := by
  intro i t s
  unfold IsR3 at hZ
  pointwise [hZ]
  rw [eighth, ← EReal.coe_mul]
theorem neg_at (Z : A3) {z : ℕ → ℕ → ℕ → ℝ} (hZ : IsR3 Z z) : IsR3 (Host.negf Z : A3) fun i t s => -z i t s := by
  intro i t s
  unfold IsR3 at hZ
  pointwise [hZ]
  exact (EReal.coe_neg _).symm
theorem mul_at (Z W : A3) {z w : ℕ → ℕ → ℕ → ℝ} (hZ : IsR3 Z z) (hW : IsR3 W w) : IsR3 (mulf Z W : A3) fun i t s => z i t s * w i t s := by
  intro i t s
  unfold IsR3 at hZ hW
  pointwise [hZ, hW]
  exact (EReal.coe_mul _ _).symm
theorem add_at (Z W : A3) {z w : ℕ → ℕ → ℕ → ℝ} (hZ : IsR3 Z z) (hW : IsR3 W w) : IsR3 (addf Z W : A3) fun i t s => z i t s + w i t s := by
  intro i t s
  unfold IsR3 at hZ hW
  pointwise [hZ, hW]
  exact (EReal.coe_add _ _).symm
theorem sub_at (Z W : A3) {z w : ℕ → ℕ → ℕ → ℝ} (hZ : IsR3 Z z) (hW : IsR3 W w) : IsR3 (subf Z W : A3) fun i t s => z i t s - w i t s := by
  intro i t s
  unfold IsR3 at hZ hW
  pointwise [hZ, hW]
  exact (EReal.coe_sub _ _).symm
theorem exp_at (Z : A3) {z : ℕ → ℕ → ℕ → ℝ} (hZ : IsR3 Z z) : IsR3 (Host.exp Z : A3) fun i t s => Real.exp (z i t s) := by
  intro i t s
  unfold IsR3 at hZ
  pointwise [hZ]
  exact Ideal.exp_coe _
/-- The softplus, with its branch for what is no number. -/
theorem softplus_at (Z : A3) {z : ℕ → ℕ → ℕ → ℝ} (hZ : IsR3 Z z) (C : FVec Ideal S_ .f32) (hC : C = constant S_ .f32 0x00000000#32) :
    IsR3 (select (cmpf .une (subf Z (broadcastInDim S16x4096x4096 ![] bcast_S_S16x4096x4096 C)) (subf Z (broadcastInDim S16x4096x4096 ![] bcast_S_S16x4096x4096 C)))
        (addf Z (broadcastInDim S16x4096x4096 ![] bcast_S_S16x4096x4096 C))
        (addf (maximumf Z (broadcastInDim S16x4096x4096 ![] bcast_S_S16x4096x4096 C))
          (Host.log1p (Host.exp (Host.negf (Host.absf (subf Z (broadcastInDim S16x4096x4096 ![] bcast_S_S16x4096x4096 C)))))) ) : A3)
      fun i t s => spl (z i t s) := by
  intro i t s
  subst hC
  unfold IsR3 at hZ
  pointwise [hZ]
  simp only [ne_eq, not_true_eq_false, if_false]
  exact coe_spl_host _
/-- The difference of two numbers, with its branches for infinities. -/
theorem safe_at (Z W : A3) {z w : ℕ → ℕ → ℕ → ℝ} (hZ : IsR3 Z z) (hW : IsR3 W w) :
    IsR3 (subf (select (cmpf .oeq Z (broadcastInDim S16x4096x4096 ![] bcast_S_S16x4096x4096 (constant S_ .f32 0x7F800000#32))) (broadcastInDim S16x4096x4096 ![] bcast_S_S16x4096x4096 (constant S_ .f32 0x00000000#32)) Z)
      (select (cmpf .oeq W (broadcastInDim S16x4096x4096 ![] bcast_S_S16x4096x4096 (constant S_ .f32 0x7F800000#32))) (broadcastInDim S16x4096x4096 ![] bcast_S_S16x4096x4096 (constant S_ .f32 0x00000000#32)) W) : A3)
      fun i t s => z i t s - w i t s := by
  intro i t s
  unfold IsR3 at hZ hW
  pointwise [hZ, hW]
  have top : Ideal.ofBits FTy.f32 0x7F800000#32 = (⊤ : EReal) := by simp [Ideal.ofBits, Ideal.ieee]
  rw [top, if_neg (EReal.coe_ne_top _), if_neg (EReal.coe_ne_top _)]
  exact (EReal.coe_sub _ _).symm
/-- An array kept before the diagonal, zero elsewhere. -/
theorem mask_at (V0 : Valuation τ sig (Elt Ideal)) (Z : A3) {z : ℕ → ℕ → ℕ → ℝ} (hZ : IsR3 Z z) (C : FVec Ideal S_ .f32) (hC : C ix0 = ((0 : ℝ) : EReal)) :
    IsR3 (select (broadcastInDim S16x4096x4096 ![1, 2] bcast_S4096x4096_S16x4096x4096_1_2 (res_main_v18 V0)) Z (broadcastInDim S16x4096x4096 ![] bcast_S_S16x4096x4096 C) : A3)
      fun i t s => if s < t then z i t s else 0 := by
  intro i t s
  unfold IsR3 at hZ
  pointwise [hZ, hC, res_main_v18]
  simp (disch := omega) only [hlo_ix, Scalar.select_ofBool]
  exact coe_ite _ _ _

/-- The sum from an entry to the row's end. -/
theorem from_at (Z : A3) {z : ℕ → ℕ → ℕ → ℝ} (hZ : IsR3 Z z) (I : FVec Ideal S_ .f32) (hI : I (Shape.Idx.first h_S_) = 0) :
    IsR3 (Host.reverse [2] (Host.reduceWindowAdd ![1, 1, 4096] ![1, 1, 1] ![0, 0, 4095] ![0, 0, 0] (Host.reverse [2] Z) I
      reduceWindows_S16x4096x4096_S16x4096x4096_w1s1p0_0_w1s1p0_0_w4096s1p4095_0 h_S_) : A3)
      fun i t s => ∑ j ∈ range 4096, z i t j - ∑ j ∈ range s, z i t j := by
  have e := flip_last (N := 4095) (window_last (A := 16) (B := 4096) (N := 4096) (lo := 4095) (hi := 0)
    reduceWindows_S16x4096x4096_S16x4096x4096_w1s1p0_0_w1s1p0_0_w4096s1p4095_0 (flip_last (N := 4095) hZ))
  unfold Host.reduceWindowAdd
  rw [hI]
  exact e.congr fun i t s _ _ hs => sum_from (N := 4095) (by omega) (z i t)
/-- The sum from the row's start to an entry. -/
theorem to_at (Z : A3) {z : ℕ → ℕ → ℕ → ℝ} (hZ : IsR3 Z z) (I : FVec Ideal S_ .f32) (hI : I (Shape.Idx.first h_S_) = 0) :
    IsR3 (Host.reverse [2] (Host.reduceWindowAdd ![1, 1, 4096] ![1, 1, 1] ![0, 0, 0] ![0, 0, 4095] (Host.reverse [2] Z) I
      reduceWindows_S16x4096x4096_S16x4096x4096_w1s1p0_0_w1s1p0_0_w4096s1p0_4095 h_S_) : A3)
      fun i t s => ∑ j ∈ range (s + 1), z i t j := by
  have e := flip_last (N := 4095) (window_last (A := 16) (B := 4096) (N := 4096) (lo := 0) (hi := 4095)
    reduceWindows_S16x4096x4096_S16x4096x4096_w1s1p0_0_w1s1p0_0_w4096s1p0_4095 (flip_last (N := 4095) hZ))
  unfold Host.reduceWindowAdd
  rw [hI]
  exact e.congr fun i t s _ _ hs => sum_to (N := 4095) (by omega) (z i t)

theorem zero_first : (broadcastInDim S_ ![] bcast_S_S_ (constant S_ .f32 0x00000000#32) : FVec Ideal S_ .f32) (Shape.Idx.first h_S_) = 0 :=
  Ideal.ofBits_zero_f32
theorem zero_id : (id (constant S_ .f32 0x00000000#32) : FVec Ideal S_ .f32) ix0 = ((0 : ℝ) : EReal) := by
  rw [EReal.coe_zero]; exact Ideal.ofBits_zero_f32
theorem zero_const : (constant S_ .f32 0x00000000#32 : FVec Ideal S_ .f32) ix0 = ((0 : ℝ) : EReal) := by
  rw [EReal.coe_zero]; exact Ideal.ofBits_zero_f32

/-! ## The reference's own arrays -/

/-- The arguments hold reals: the first in the columns that are read. -/
structure ArgR (V0 : Valuation τ sig (Elt Ideal)) (x y : ℕ → ℕ → ℝ) : Prop where
  hx : ∀ (i : Fin 4096) (j : Fin 9216), 6144 ≤ j.val →
    (V0 (Proc.devRef .tc main_arg0) : FVec Ideal S4096x9216 .f32) (ix2 i j) = ((x i.val j.val : ℝ) : EReal)
  hy : IsR (V0 (Proc.devRef .tc main_arg1) : FVec Ideal S4096x1024 .f32) y

variable {V0 : Valuation τ sig (Elt Ideal)} {x y : ℕ → ℕ → ℝ} (h : ArgR V0 x y)
include h

theorem ArgR.v4 : IsR3 (res_main_v4 V0 : H3) fun i t e => x t (6144 + (i * 64 + e)) :=
  heads_at _ (slice_at (o := 6144) (by decide) (by decide) _ h.hx slices_S4096x9216_S4096x1024_0_6144)
theorem ArgR.v6 : IsR3 (res_main_v6 V0 : H3) fun i t e => x t (7168 + (i * 64 + e)) :=
  heads_at _ (slice_at (o := 7168) (by decide) (by decide) _ h.hx slices_S4096x9216_S4096x1024_0_7168)
theorem ArgR.v8 : IsR3 (res_main_v8 V0 : H3) fun i t e => x t (8192 + (i * 64 + e)) :=
  heads_at _ (slice_at (o := 8192) (by decide) (by decide) _ h.hx slices_S4096x9216_S4096x1024_0_8192)
theorem ArgR.v34 : IsR3 (res_main_v34 V0 : H3) fun i t e => y t (i * 64 + e) := heads_at _ h.hy

theorem ArgR.v11 : IsR3 (res_main_v11 V0 : A3) fun i t s => zh x i t s := scale_at _ (scores_at _ _ h.v4 h.v6)
theorem ArgR.z0 : IsR3 (res_main_call0_v0 V0 : A3) fun i t s => zh x i t s :=
  (neg_at _ (neg_at _ h.v11)).congr fun i t s _ _ _ => neg_neg _
theorem ArgR.sp0 : IsR3 (res_main_call0_v1_0 V0 : A3) fun i t s => spl (zh x i t s) := softplus_at _ h.z0 _ rfl
theorem ArgR.z5 : IsR3 (res_main_call5_v0 V0 : A3) fun i t s => -zh x i t s := neg_at _ h.v11
theorem ArgR.sp5 : IsR3 (res_main_call5_v1_0 V0 : A3) fun i t s => spl (-zh x i t s) := softplus_at _ h.z5 _ rfl

theorem ArgR.v21 : IsR3 (res_main_v21_0 V0 : A3) fun i t s => -rP (zh x i t) t s :=
  (mask_at V0 _ (neg_at _ h.sp0) _ zero_id).congr fun i t s _ _ _ => by
    unfold rP
    split
    · rfl
    · exact neg_zero.symm

/-- The exponential of the log-weights, whether or not the key is before the query. -/
theorem ArgR.v28 : IsR3 (res_main_v28 V0 : A3) fun i t s =>
    Real.exp (-spl (-zh x i t s) + ((∑ j ∈ range 4096, -rP (zh x i t) t j - ∑ j ∈ range s, -rP (zh x i t) t j) - -rP (zh x i t) t s)) :=
  exp_at _ (add_at _ _ (neg_at _ h.sp5) (sub_at _ _ (from_at _ h.v21 _ zero_first) h.v21))

omit h in
theorem weight (x : ℕ → ℕ → ℝ) (i t s : ℕ) (hs : s < t) :
    Real.exp (-spl (-zh x i t s) + ((∑ j ∈ range 4096, -rP (zh x i t) t j - ∑ j ∈ range s, -rP (zh x i t) t j) - -rP (zh x i t) t s)) = wA x i t s := by
  unfold wA rA Th
  rw [if_pos hs, spl_neg, Finset.sum_range_succ _ s, Finset.sum_neg_distrib, Finset.sum_neg_distrib]
  congr 1
  ring

theorem ArgR.v29 : IsR3 (res_main_v29_0 V0 : A3) fun i t s => wA x i t s :=
  (mask_at V0 _ h.v28 _ zero_id).congr fun i t s _ _ _ => by
    split
    · next hs => exact weight x i t s hs
    · next hs => exact (rA_of_le _ _ (by omega)).symm

theorem ArgR.v39 : IsR3 (res_main_v39 V0 : A3) fun i t s => rG (zh x i t) (gh x y i t) (Th x i t) t s :=
  (mul_at _ _ (mask_at V0 _ (scores_at _ _ h.v34 h.v8) _ zero_const) h.v28).congr fun i t s _ _ _ => by
    unfold rG
    split
    · next hs => rw [weight x i t s hs]; rfl
    · next hs => rw [rA_of_le _ _ (by omega), mul_zero, zero_mul]

theorem ArgR.v51 : IsR3 (res_main_v51 V0 : A3) fun i t s => wD x y i t s :=
  (scale_at _ (add_at _ _ (neg_at _ (mul_at _ _ (neg_at _ h.v39) (exp_at _ (safe_at _ _ h.z5 h.sp5))))
    (neg_at _ (neg_at _ (mul_at _ _ (neg_at _ (mask_at V0 _ (add_at _ _ (neg_at _ h.v39) (to_at _ h.v39 _ zero_first)) _ zero_const))
      (exp_at _ (safe_at _ _ h.z0 h.sp0))))))).congr fun i t s _ _ _ => by
    unfold wD rD
    split
    · next hs =>
      rw [exp_spl, Finset.sum_range_succ _ s]
      ring
    · next hs =>
      unfold rG
      rw [rA_of_le _ _ (by omega : t ≤ s)]
      ring

/-! ## The three results -/

section Last
omit h

theorem merge_at (X : H3) {f : ℕ → ℕ → ℕ → ℝ} (hX : IsR3 X f) :
    IsR (shapeCast S4096x1024 (transpose S4096x16x64 [1, 0, 2] X transposes_S16x4096x64_S4096x16x64_1_0_2) shapeCasts_S4096x16x64_S4096x1024 : FVec Ideal S4096x1024 .f32)
      fun t j => f (j / 64) t (j % 64) := by
  intro t j
  unfold IsR3 at hX
  pointwise []
  refine Eq.trans ?_ (hX ⟨j.val / 64, by omega⟩ t ⟨j.val % 64, by omega⟩)
  blk_ext

/-- Against the rows of the second array. -/
theorem row_at (W : A3) (X : H3) {w f : ℕ → ℕ → ℕ → ℝ} (hW : IsR3 W w) (hX : IsR3 X f) :
    IsR3 (Host.dotGeneral (φ₁ := .f32) (φ₂ := .f32) dot_S16x4096x4096_S16x4096x64_S16x4096x64_2_1_1_2_0_0 none W X : H3) fun i t e => ∑ s ∈ range 4096, w i t s * f i s e := by
  intro i t e
  unfold IsR3 at hW hX
  pointwise [hW, hX]
  exact sum_fin_mul 4096 (fun s => w i t s) fun s => f i s e
/-- Against the columns. -/
theorem col_at (W : A3) (X : H3) {w f : ℕ → ℕ → ℕ → ℝ} (hW : IsR3 W w) (hX : IsR3 X f) :
    IsR3 (Host.dotGeneral (φ₁ := .f32) (φ₂ := .f32) dot_S16x4096x4096_S16x4096x64_S16x4096x64_1_1_2_2_0_0 none W X : H3) fun i s e => ∑ t ∈ range 4096, w i t s * f i t e := by
  intro i s e
  unfold IsR3 at hW hX
  pointwise [hW, hX]
  exact sum_fin_mul 4096 (fun t => w i t s) fun t => f i t e
theorem turned_at (W : A3) (X : H3) {w f : ℕ → ℕ → ℕ → ℝ} (hW : IsR3 W w) (hX : IsR3 X f) :
    IsR3 (transpose S16x4096x64 [0, 2, 1] (Host.dotGeneral (φ₁ := .f32) (φ₂ := .f32) dot_S16x4096x64_S16x4096x4096_S16x64x4096_1_1_2_2_0_0 none X W) transposes_S16x64x4096_S16x4096x64_0_2_1 : H3)
      fun i s e => ∑ t ∈ range 4096, w i t s * f i t e := by
  intro i s e
  unfold IsR3 at hW hX
  pointwise [hW, hX]
  refine (sum_fin_mul 4096 (fun t => f i t e) fun t => w i t s).trans (congrArg _ (Finset.sum_congr rfl fun t _ => mul_comm _ _))

end Last

theorem ArgR.out60 : IsR (truncf .bf16 (shapeCast S4096x1024 (transpose S4096x16x64 [1, 0, 2]
      (Host.dotGeneral (φ₁ := .f32) (φ₂ := .f32) dot_S16x4096x4096_S16x4096x64_S16x4096x64_2_1_1_2_0_0 none (res_main_v51 V0 : A3) (res_main_v6 V0 : H3)) transposes_S16x4096x64_S4096x16x64_1_0_2)
      shapeCasts_S4096x16x64_S4096x1024) bitsLt_bf16_f32 : FVec Ideal S4096x1024 .bf16) (resQ x y) :=
  (merge_at _ (row_at _ _ h.v51 h.v6)).congr fun t j _ _ => by
    unfold resQ
    rw [show j / 64 * 64 + j % 64 = j by omega]
theorem ArgR.out57 : IsR (shapeCast S4096x1024 (transpose S4096x16x64 [1, 0, 2]
      (Host.dotGeneral (φ₁ := .f32) (φ₂ := .f32) dot_S16x4096x4096_S16x4096x64_S16x4096x64_1_1_2_2_0_0 none (res_main_v51 V0 : A3) (res_main_v4 V0 : H3)) transposes_S16x4096x64_S4096x16x64_1_0_2)
      shapeCasts_S4096x16x64_S4096x1024 : FVec Ideal S4096x1024 .f32) (resK x y) :=
  (merge_at _ (col_at _ _ h.v51 h.v4)).congr fun s j _ _ => by
    unfold resK
    rw [show j / 64 * 64 + j % 64 = j by omega]
theorem ArgR.out55 : IsR (shapeCast S4096x1024 (transpose S4096x16x64 [1, 0, 2] (transpose S16x4096x64 [0, 2, 1]
      (Host.dotGeneral (φ₁ := .f32) (φ₂ := .f32) dot_S16x4096x64_S16x4096x4096_S16x64x4096_1_1_2_2_0_0 none (res_main_v34 V0 : H3) (res_main_v29_0 V0 : A3)) transposes_S16x64x4096_S16x4096x64_0_2_1)
      transposes_S16x4096x64_S4096x16x64_1_0_2) shapeCasts_S4096x16x64_S4096x1024 : FVec Ideal S4096x1024 .f32) (resV x y) :=
  (merge_at _ (turned_at _ _ h.v29 h.v34)).congr fun s j _ _ => by
    unfold resV
    rw [show j / 64 * 64 + j % 64 = j by omega]

end Cert.ReferenceIdeal.Hand
-- ==== Proof.Finite.lean ====
/- What the precondition says over the extended reals: the entries it names are real numbers. -/
module

public import proofs.«01_k».proof.Proof.Gen.Pre_finite
public import proofs.«01_k».proof.Proof.Outputs
public import proofs.«01_k».proof.Proof.Target
public import Idealize.ShloMosaic.Lib.ReduceAll

@[expose] public section

noncomputable section

namespace Cert.Pre_finite.Hand

open Cert.Pre_finite
open Idealize.ShloMosaic

/-- An absolute value below infinity is a real number's. -/
theorem real_of_abs_lt {a : EReal} (h : Ideal.cmp .olt (max a (-a)) (Ideal.ofBits .f32 0x7F800000#32) = 1#1) :
    a = ((a.toReal : ℝ) : EReal) := by
  have ht : Ideal.ofBits .f32 0x7F800000#32 = ⊤ := by simp [Ideal.ofBits, Ideal.ieee]
  rw [ht] at h
  induction a with
  | bot => simp [Ideal.cmp] at h
  | top => simp [Ideal.cmp] at h
  | coe r => rfl

theorem and_one {a b : BitVec 1} (h : a &&& b = 1#1) : a = 1#1 ∧ b = 1#1 := by
  revert a b; decide

instance : Subsingleton S_.Idx := ⟨fun a b => funext fun i => i.elim0⟩

variable [Facts] (X : FVec Ideal S4096x9216 .f32) (Y : FVec Ideal S4096x1024 .f32) (h : fn (F := Ideal) X Y = fun _ => 1#1)
include h

theorem real_y (j : S4096x1024.Idx) : Y j = (((Y j).toReal : ℝ) : EReal) := by
  have h0 := congrFun h ix0
  exact real_of_abs_lt (Host.reduce_andi_all _ _ _ _ _ (and_one h0).2 j)

theorem real_x (i : Fin 4096) (j : Fin 9216) (hj : 6144 ≤ j.val) : X (ix2 i j) = (((X (ix2 i j)).toReal : ℝ) : EReal) := by
  have h0 := congrFun h ix0
  have h1 := real_of_abs_lt (Host.reduce_andi_all _ _ _ _ _ (and_one h0).1 (ix2 i ⟨j.val - 6144, by have := j.isLt; omega⟩))
  have e : extractStridedSlice S4096x3072 ![0, 6144] X Facts.slices_S4096x9216_S4096x3072_0_6144
      (ix2 i ⟨j.val - 6144, by have := j.isLt; omega⟩) = X (ix2 i j) := by
    refine congrArg X ?_
    funext d
    refine Fin.ext ?_
    match d with
    | 0 => simp
    | 1 => simp; omega
  rw [← e]
  exact h1

end Cert.Pre_finite.Hand

namespace Cert.Rows
open Idealize.ShloMosaic

/-- The entries of a matrix as reals, at any two numbers. -/
def entries {a b : ℕ} (X : (Shape.mk 2 ![a, b]).Idx → EReal) (i j : ℕ) : ℝ :=
  if h : i < a ∧ j < b then (X (ix2 ⟨i, h.1⟩ ⟨j, h.2⟩)).toReal else 0

theorem entries_at {a b : ℕ} (X : (Shape.mk 2 ![a, b]).Idx → EReal) (i : Fin a) (j : Fin b) :
    entries X i.val j.val = (X (ix2 i j)).toReal := dif_pos ⟨i.isLt, j.isLt⟩

end Cert.Rows
-- ==== Proof.Values.lean ====
/- The value claim: from arguments whose entries are real numbers, kernel and reference leave the same three arrays. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Finite
public import Idealize.ShloMosaic.Adequacy

@[expose] public section

set_option maxRecDepth 16384

noncomputable section

namespace Cert.KernelIdeal.Hand

open Cert.KernelIdeal Cert.KernelIdeal.Gen Cert.Rows
open Idealize.ShloMosaic Idealize.ShloMosaic.TcCoe

/-- The three results at the end of the kernel's run. -/
theorem results_of {m : (ℓ : Loc nD τ sig) → Buf (Elt Ideal) ℓ} {r : PUnit × MemSt nD τ sig (Elt Ideal)}
    (h : Pipeline.FramePost cfgs (dats m) 0 (V m) r) (c : Dev nD) {x y : ℕ → ℕ → ℝ} (ha : ArgR m c x y) :
    r.2.mem ((c.tc : Thread nD τ).loc main_v25_0) = (fun i => ((resQ x y (i 0).val (i 1).val : ℝ) : EReal) : FVec Ideal S4096x1024 .bf16)
      ∧ r.2.mem ((c.tc : Thread nD τ).loc main_v25_1) = (fun i => ((resK x y (i 0).val (i 1).val : ℝ) : EReal) : FVec Ideal S4096x1024 .f32)
      ∧ r.2.mem ((c.tc : Thread nD τ).loc main_v25_2) = (fun i => ((resV x y (i 0).val (i 1).val : ℝ) : EReal) : FVec Ideal S4096x1024 .f32) :=
  ⟨((h c).1 6).trans ha.final6, ((h c).1 7).trans ha.final7, ((h c).1 8).trans ha.final8⟩

end Cert.KernelIdeal.Hand

namespace Cert.Proof

open Idealize.ShloMosaic Idealize.SL.Sem

/-- The first argument's entries on a device, as reals, -/
abbrev X (m : (ℓ : Loc KernelIdeal.nD KernelIdeal.τ KernelIdeal.sig) → Buf (Elt Ideal) ℓ) (c : Dev KernelIdeal.nD) : ℕ → ℕ → ℝ :=
  Rows.entries (m (c, Proc.tc.devRef KernelIdeal.main_arg0) : FVec Ideal KernelIdeal.S4096x9216 .f32)
/-- and the second's. -/
abbrev Y (m : (ℓ : Loc KernelIdeal.nD KernelIdeal.τ KernelIdeal.sig) → Buf (Elt Ideal) ℓ) (c : Dev KernelIdeal.nD) : ℕ → ℕ → ℝ :=
  Rows.entries (m (c, Proc.tc.devRef KernelIdeal.main_arg1) : FVec Ideal KernelIdeal.S4096x1024 .f32)

theorem args_real (m : (ℓ : Loc KernelIdeal.nD KernelIdeal.τ KernelIdeal.sig) → Buf (Elt Ideal) ℓ)
    (hp : Pre_KernelIdeal_finite (hPre_finite := Pre_finite.Gen.facts) m) (c : Dev KernelIdeal.nD) : KernelIdeal.Hand.ArgR m c (X m c) (Y m c) where
  hx i j hj := by
    exact (Pre_finite.Hand.real_x _ _ (hp c) i j hj).trans (congrArg _ (Rows.entries_at (m (c, Proc.tc.devRef KernelIdeal.main_arg0)) i j).symm)
  hy i j := by
    exact (Pre_finite.Hand.real_y _ _ (hp c) (ix2 i j)).trans (congrArg _ (Rows.entries_at (m (c, Proc.tc.devRef KernelIdeal.main_arg1)) i j).symm)

theorem same_values : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp he
  have hk := args_real m hp
  have hr : ∀ c, ReferenceIdeal.Hand.ArgR (StableHlo.launchContents m' c) (X m c) (Y m c) := fun c =>
    ⟨fun i j hj => (congrFun (he c).1 (ix2 i j)).trans ((hk c).hx i j hj), fun i j => (congrFun (he c).2 (ix2 i j)).trans ((hk c).hy i j)⟩
  refine ⟨fun c => (fun i => ((Rows.resQ (X m c) (Y m c) (i 0).val (i 1).val : ℝ) : EReal) : FVec Ideal KernelIdeal.S4096x1024 .bf16),
    fun c => (fun i => ((Rows.resK (X m c) (Y m c) (i 0).val (i 1).val : ℝ) : EReal) : FVec Ideal KernelIdeal.S4096x1024 .f32),
    fun c => (fun i => ((Rows.resV (X m c) (Y m c) (i 0).val (i 1).val : ℝ) : EReal) : FVec Ideal KernelIdeal.S4096x1024 .f32), ?_, ?_⟩
  · exact (θ_run KernelIdeal.defs _ _).mono (fun _ h c => have e := KernelIdeal.Hand.results_of h.1 c (hk c)
      ⟨e.1, e.2.1, e.2.2, KernelIdeal.Hand.args_of m h.1 c⟩) (KernelIdeal.Hand.run_post m g)
  · exact (θ_run ReferenceIdeal.defs _ _).mono (fun _ h c => ⟨(h c).1.trans (funext fun i => KernelIdeal.Hand.IsR.at (hr c).out60 i),
      (h c).2.1.trans (funext fun i => KernelIdeal.Hand.IsR.at (hr c).out57 i),
      (h c).2.2.1.trans (funext fun i => KernelIdeal.Hand.IsR.at (hr c).out55 i), (h c).2.2.2⟩) (ReferenceIdeal.Value.run (F := Ideal) m' g')

end Cert.Proof

end
-- ==== Proof.Blocked.lean ====
/- A sum over a long axis taken block by block, each block added to what the blocks before it left. In the extended
   reals addition is associative and commutative on every value, so nothing here asks the terms to be finite. -/
module

public import Idealize.ShloMosaic.Lib.Pointwise
public import Idealize.ShloMosaic.Lib.IdealHost

@[expose] public section

noncomputable section

namespace Cert.Blocked

open Idealize.ShloMosaic
open Finset (range)

theorem hz : (![0, 0] : Fin 2 → Nat) = fun _ => 0 := funext fun a => by fin_cases a <;> rfl
theorem hz3 : (![0, 0, 0] : Fin 3 → Nat) = fun _ => 0 := funext fun a => by fin_cases a <;> rfl
/-- Every index of a matrix is a pair of positions. -/
theorem ix2_eta {a b : ℕ} (i : (⟨2, ![a, b]⟩ : Shape).Idx) : i = ix2 (i 0) (i 1) := funext fun k => by fin_cases k <;> rfl
theorem ix3_eta {a b c : ℕ} (i : (⟨3, ![a, b, c]⟩ : Shape).Idx) : i = ix3 (i 0) (i 1) (i 2) := funext fun k => by fin_cases k <;> rfl
theorem ix3_eta1 {b c : ℕ} (i : (⟨3, ![1, b, c]⟩ : Shape).Idx) : i = ix3 0 (i 1) (i 2) :=
  (ix3_eta i).trans (congrArg (fun z => ix3 z (i 1) (i 2)) (Fin.ext (by have := (i 0).isLt; change _ < 1 at this; change (i 0).val = 0; omega)))
theorem ix2_eta1 {b : ℕ} (i : (⟨2, ![1, b]⟩ : Shape).Idx) : i = ix2 0 (i 1) :=
  (ix2_eta i).trans (congrArg (fun z => ix2 z (i 1)) (Fin.ext (by have := (i 0).isLt; change _ < 1 at this; change (i 0).val = 0; omega)))
theorem two : Ideal.ofBits .f32 0x40000000#32 = 2 := by
  simp [Ideal.ofBits, Ideal.ieee]
  rw [← EReal.coe_mul]
  norm_num
  rfl

/-- A matrix's entries by plain positions. -/
def at2 {a b : ℕ} {φ : FTy} (X : FVec Ideal ⟨2, ![a, b]⟩ φ) (i j : ℕ) : EReal :=
  if h : i < a ∧ j < b then X (ix2 ⟨i, h.1⟩ ⟨j, h.2⟩) else 0

theorem at2_ix {a b : ℕ} {φ : FTy} (X : FVec Ideal ⟨2, ![a, b]⟩ φ) (i : Fin a) (j : Fin b) : at2 X i.val j.val = X (ix2 i j) :=
  dif_pos ⟨i.isLt, j.isLt⟩
theorem at2_of {a b : ℕ} {φ : FTy} (X : FVec Ideal ⟨2, ![a, b]⟩ φ) {i j : ℕ} (hi : i < a) (hj : j < b) :
    at2 X i j = X (ix2 ⟨i, hi⟩ ⟨j, hj⟩) :=
  dif_pos ⟨hi, hj⟩

/-- An accumulator that every `p`-th point restarts at `g` holds, after point `n`, also the terms of its run's blocks so far. -/
theorem accumulated_on {N : ℕ} {ι : Type*} {p k : ℕ} (hp : 0 < p) (acc : (n : ℕ) → n < N → ι → EReal) (g : ℕ → ι → EReal) (f : ℕ → ι → ℕ → EReal)
    (first : ∀ n (h : n < N) i, n % p = 0 → acc n h i = g (n / p) i + ∑ e ∈ range k, f (n / p) i e)
    (next : ∀ n (h : n < N) i, n % p ≠ 0 →
      acc n h i = acc (n - 1) (Nat.lt_of_le_of_lt (Nat.sub_le _ _) h) i + ∑ e ∈ range k, f (n / p) i (k * (n % p) + e)) :
    ∀ n (h : n < N) i, acc n h i = g (n / p) i + ∑ e ∈ range (k * (n % p + 1)), f (n / p) i e := by
  intro n
  induction n with
  | zero => intro h i; rw [first 0 h i (Nat.zero_mod p), Nat.zero_mod, zero_add, mul_one]
  | succ n ih =>
    intro h i
    by_cases h0 : (n + 1) % p = 0
    · rw [first _ h i h0, h0, zero_add, mul_one]
    · have h1 : (n + 1) % p = n % p + 1 := by
        have e := Nat.mod_lt n hp
        rw [Nat.add_mod] at h0 ⊢
        rcases Nat.lt_or_ge 1 p with hq | hq
        · rw [Nat.mod_eq_of_lt hq] at h0 ⊢
          rcases Nat.lt_or_ge (n % p + 1) p with hr | hr
          · exact Nat.mod_eq_of_lt hr
          · exact absurd (by rw [show n % p + 1 = p by omega, Nat.mod_self]) h0
        · exact absurd (by rw [show p = 1 by omega, Nat.mod_one]) h0
      have h2 : (n + 1) / p = n / p := by
        have e1 := Nat.div_add_mod (n + 1) p
        have e2 := Nat.div_add_mod n p
        rw [h1] at e1
        exact Nat.eq_of_mul_eq_mul_left hp (by omega)
      rw [next _ h i h0, h2]
      simp only [Nat.add_sub_cancel]
      rw [ih, h1, Nat.mul_succ k (n % p + 1), Finset.sum_range_add, add_assoc]

/-- The same for an accumulator that is restarted at zero. -/
theorem accumulated {N : ℕ} {ι : Type*} {p k : ℕ} (hp : 0 < p) (acc : (n : ℕ) → n < N → ι → EReal) (f : ℕ → ι → ℕ → EReal)
    (first : ∀ n (h : n < N) i, n % p = 0 → acc n h i = ∑ e ∈ range k, f (n / p) i e)
    (next : ∀ n (h : n < N) i, n % p ≠ 0 →
      acc n h i = acc (n - 1) (Nat.lt_of_le_of_lt (Nat.sub_le _ _) h) i + ∑ e ∈ range k, f (n / p) i (k * (n % p) + e)) :
    ∀ n (h : n < N) i, acc n h i = ∑ e ∈ range (k * (n % p + 1)), f (n / p) i e := fun n h i =>
  (accumulated_on hp acc (fun _ _ => 0) f (fun n h i e => (first n h i e).trans (zero_add _).symm) next n h i).trans (zero_add _)

end Cert.Blocked

end
-- ==== Proof.Ff2X.lean ====
/- The gradient of the MLP's hidden layer before its squared relu: the value claim and the frames. -/
module

public import proofs.«01_k».proof.Defs
public import proofs.«01_k».proof.Proof.Blocked
public import proofs.«01_k».proof.Proof.Gen.KernelFf2X
public import proofs.«01_k».proof.Proof.Gen.KernelFf2XIdeal.Value
public import proofs.«01_k».proof.Proof.Gen.ReferenceFf2XIdeal.Run
public import Idealize.ShloMosaic.Lib.Pipeline.ValueKit
public import Idealize.ShloMosaic.Adequacy

@[expose] public section

set_option maxRecDepth 16384

noncomputable section

namespace Cert.KernelFf2XIdeal.Hand

open Cert.KernelFf2XIdeal Cert.KernelFf2XIdeal.Gen Cert.Blocked
open Idealize.ShloMosaic Idealize.ShloMosaic.TcCoe Idealize.SL.Sem
open Finset (range)

theorem out_A {F : FTy → Type} [FloatOps F] (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .bf16) (h6 : a6.IsWhole) (a7 : Memref sig .tc .vmem S1024x1024 .f32) (h7 : a7.IsWhole)
    (hc0 : cond0_0 i) (hc1 : cond0_1 i) (x0 x1 : Vec F S1024x1024 .bf16) (x2 : Vec F S1024x1024 .f32) :
    out0_A_3 c i a3 h3 a4 h4 a5 h5 a6 h6 a7 h7 hc0 hc1 x0 x1 x2 = k0_pay3 (k0_pay2 x0 x1 k0_pay1) x2 := by
  unfold out0_A_3
  rw [View.read_writes_eq_canon _ _ _ (cover0_A_3 c i a3 h3 a4 h4 a5 h5 a6 h6 a7 h7 hc0 hc1 x0 x1 x2)]
  unfold kernelRun0_A
  dsimp only
  sl_unfold_words
  rw [View.canon_unit_zero hz]
  simp only [View.readCov_cons_toLoadRect, View.readCov_unit_zero (S := S1024x1024) _ hz, View.readAt_eq_ld, h3.read_unread,
    h4.read_unread, h5.read_unread, View.ld_unit_zero (S := S1024x1024) hz]

theorem pay (x0 x1 : FVec Ideal S1024x1024 .bf16) (x2 : FVec Ideal S1024x1024 .f32) (u l : Fin 1024) :
    k0_pay3 (k0_pay2 x0 x1 k0_pay1) x2 (ix2 u l) = (∑ e : Fin 1024, x0 (ix2 u e) * x1 (ix2 l e)) * (2 * max (x2 (ix2 u l)) 0) := by
  pointwise [k0_pay3, k0_pay2, k0_pay1]
  rw [two]

theorem idx0 : ∀ t : Fin cfg0.N, win0_0.index t = ![t.val / 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, t.val % 4] := (by decide +kernel : ∀ t : Fin grid0.N, _)
theorem idx3 : ∀ t : Fin cfg0.N, win0_3.index t = ![t.val / 4, t.val % 4] := (by decide +kernel : ∀ t : Fin grid0.N, _)
theorem lt_N (t : Fin cfg0.N) : t.val < 16 := lt_of_lt_of_eq t.isLt N_0

variable (m : (ℓ : Loc nD τ sig) → Buf (Elt Ideal) ℓ) (c : Dev nD)

abbrev A : FVec Ideal S4096x4096 .f32 := m (c, Proc.tc.devRef main_arg0)
abbrev W : FVec Ideal S4096x1024 .bf16 := m (c, Proc.tc.devRef main_arg1)
abbrev D : FVec Ideal S4096x1024 .bf16 := m (c, Proc.tc.devRef main_arg2)

/-- The entries of the result. -/
def res (i j : ℕ) : EReal := (∑ e ∈ range 1024, at2 (D m c) i e * at2 (W m c) j e) * (2 * max (at2 (A m c) i j) 0)

theorem blk0 (t : Fin cfg0.N) (u e : Fin 1024) :
    (iblk m c 0 t : FVec Ideal S1024x1024 .bf16) (ix2 u e) = at2 (D m c) (1024 * (t.val / 4) + u.val) e.val := by
  have ht := lt_N t
  rw [at2_of _ (show 1024 * (t.val / 4) + u.val < 4096 by omega) e.isLt]
  blk_ext [iblk, V, idx0 t]
theorem blk1 (t : Fin cfg0.N) (l e : Fin 1024) :
    (iblk m c 1 t : FVec Ideal S1024x1024 .bf16) (ix2 l e) = at2 (W m c) (1024 * (t.val % 4) + l.val) e.val := by
  have ht := lt_N t
  rw [at2_of _ (show 1024 * (t.val % 4) + l.val < 4096 by omega) e.isLt]
  blk_ext [iblk, V, idx1 t]
theorem blk2 (t : Fin cfg0.N) (u l : Fin 1024) :
    (iblk m c 2 t : FVec Ideal S1024x1024 .f32) (ix2 u l) = at2 (A m c) (1024 * (t.val / 4) + u.val) (1024 * (t.val % 4) + l.val) := by
  have ht := lt_N t
  rw [at2_of _ (show 1024 * (t.val / 4) + u.val < 4096 by omega) (show 1024 * (t.val % 4) + l.val < 4096 by omega)]
  blk_ext [iblk, V, idx2 t]

theorem out_at (t : Fin cfg0.N) (u l : Fin 1024) :
    outsAt0 m c t (ix2 u l) = res m c (1024 * (t.val / 4) + u.val) (1024 * (t.val % 4) + l.val) := by
  unfold outsAt0 res
  rw [out_A, pay, blk2, Finset.sum_range]
  simp only [blk0, blk1]

theorem final : (dats m 0 c).arrAt 3 cfg0.N = (fun i => res m c (i 0).val (i 1).val : FVec Ideal S4096x4096 .bf16) := by
  refine (dats m 0 c).arrAt_eq_of_covers 3 _ (by decide +kernel) fun t hf b => ?_
  have ht := lt_N t
  blk_simp [idx3 t]
  rw [after0_3]
  refine Eq.trans (congrArg _ (ix2_eta b)) ((out_at m c t (b 0) (b 1)).trans ?_)
  congr 1 <;> omega

end Cert.KernelFf2XIdeal.Hand

namespace Cert.ReferenceFf2XIdeal.Hand

open Cert.ReferenceFf2XIdeal Cert.ReferenceFf2XIdeal.Gen Cert.Blocked
open Idealize.ShloMosaic Idealize.ShloMosaic.TcCoe Idealize.SL.Sem

/-- Where the argument isn't positive both sides are zero, whatever the product. -/
theorem gated (s a : EReal) : (if 0 < a then s * (2 * max a 0) else 0) = s * (2 * max a 0) := by
  split
  · rfl
  · next h => rw [max_eq_right (not_lt.mp h), mul_zero, mul_zero]

theorem value (X0 : FVec Ideal S4096x4096 .f32) (X1 X2 : FVec Ideal S4096x1024 .bf16) :
    truncf .bf16 (select (cmpf .ogt X0 (broadcastInDim S4096x4096 ![] bcast_S_S4096x4096 (constant S_ .f32 0x00000000#32)))
        (mulf (Host.dotGeneral (φ₁ := .f32) (φ₂ := .f32) dot_S4096x1024_S4096x1024_S4096x4096_1_1_0_0_n_n none (extf .f32 X2 bitsLt_bf16_f32) (extf .f32 X1 bitsLt_bf16_f32))
          (mulf (broadcastInDim S4096x4096 ![] bcast_S_S4096x4096 (constant S_ .f32 0x40000000#32))
            (maximumf X0 (broadcastInDim S4096x4096 ![] bcast_S_S4096x4096 (constant S_ .f32 0x00000000#32)))))
        (broadcastInDim S4096x4096 ![] bcast_S_S4096x4096 (constant S_ .f32 0x00000000#32))) bitsLt_bf16_f32
      = (fun i => (∑ e ∈ Finset.range 1024, at2 X2 (i 0).val e * at2 X1 (i 1).val e) * (2 * max (at2 X0 (i 0).val (i 1).val) 0) : FVec Ideal S4096x4096 .bf16) := by
  funext i
  obtain ⟨r, l, rfl⟩ : ∃ r l : Fin 4096, i = ix2 r l := ⟨i 0, i 1, ix2_eta i⟩
  show _ = (∑ e ∈ Finset.range 1024, at2 X2 r.val e * at2 X1 l.val e) * (2 * max (at2 X0 r.val l.val) 0)
  rw [Finset.sum_range]
  simp only [at2_ix]
  refine Eq.trans ?_ (gated _ _)
  rw [← two]
  pointwise

end Cert.ReferenceFf2XIdeal.Hand

namespace Cert.Proof

open Idealize.ShloMosaic Idealize.SL.Sem

theorem same_ff2_x : Cert.algebraic_KernelFf2XIdeal_ReferenceFf2XIdeal (hKernelFf2XIdeal := Cert.KernelFf2XIdeal.Gen.facts)
    (hReferenceFf2XIdeal := Cert.ReferenceFf2XIdeal.Gen.facts) := by
  intro m g m' g' _ he
  refine ⟨fun c => (fun i => KernelFf2XIdeal.Hand.res m c (i 0).val (i 1).val : FVec Ideal KernelFf2XIdeal.S4096x4096 .bf16), ?_, ?_⟩
  · exact (θ_run KernelFf2XIdeal.defs _ _).mono (fun _ h c => ⟨(h c).1.trans (KernelFf2XIdeal.Hand.final m c), (h c).2⟩)
      (KernelFf2XIdeal.Value.run_blocks (F := Ideal) m g)
  · refine (θ_run ReferenceFf2XIdeal.defs _ _).mono (fun _ h c => ⟨(h c).1.trans ((ReferenceFf2XIdeal.Hand.value _ _ _).trans ?_), (h c).2⟩)
      (ReferenceFf2XIdeal.Value.run (F := Ideal) m' g')
    rw [(he c).1, (he c).2.1, (he c).2.2]
    rfl

-- the two programs have one text; that they are equal is checked by computation
set_option smartUnfolding false in
set_option maxHeartbeats 0 in
theorem frame_ff2_x : Cert.quiescent_KernelFf2X (hKernelFf2X := Cert.KernelFf2X.Gen.facts) := fun m ρ _ =>
  (θ_run KernelFf2XIdeal.defs _ _).mono (fun _ h => h) (KernelFf2XIdeal.Gen.frame (F := Bits) m ρ)
theorem frame_ff2_x_ideal : Cert.quiescent_KernelFf2XIdeal (hKernelFf2XIdeal := Cert.KernelFf2XIdeal.Gen.facts) := fun m ρ _ =>
  KernelFf2XIdeal.Gen.frame (F := Ideal) m ρ
theorem frame_ff2_x_reference : Cert.quiescent_ReferenceFf2XIdeal (hReferenceFf2XIdeal := Cert.ReferenceFf2XIdeal.Gen.facts) := fun m ρ _ =>
  (θ_run ReferenceFf2XIdeal.defs _ _).mono (fun _ h => ⟨fun c => (h c).2, sem_eq_zero_of_no_sems (by decide) _⟩)
    (ReferenceFf2XIdeal.Value.run (F := Ideal) m ρ)

end Cert.Proof

end
-- ==== Proof.Ff1X.lean ====
/- The gradient of the first MLP weight's argument: what the kernel's accumulator holds, and the value claim. -/
module

public import proofs.«01_k».proof.Defs
public import proofs.«01_k».proof.Proof.Blocked
public import proofs.«01_k».proof.Proof.Gen.KernelFf1X
public import proofs.«01_k».proof.Proof.Gen.KernelFf1XIdeal.Value
public import proofs.«01_k».proof.Proof.Gen.ReferenceFf1XIdeal.Run
public import Idealize.ShloMosaic.Lib.Pipeline.ValueKit
public import Idealize.ShloMosaic.Lib.StableHlo.ReadAt
public import Idealize.ShloMosaic.Adequacy

@[expose] public section

set_option maxRecDepth 16384

noncomputable section

namespace Cert.KernelFf1XIdeal.Hand

open Cert.KernelFf1XIdeal Cert.KernelFf1XIdeal.Gen Cert.Blocked
open Idealize.ShloMosaic Idealize.ShloMosaic.TcCoe Idealize.SL.Sem
open Finset (range)

section Cases
variable {F : FTy → Type} [FloatOps F] (c : Dev nD) (i : grid0.Coords) (a3 : Memref sig .tc .vmem S1024x512 .bf16) (h3 : a3.IsWhole)
  (a4 : Memref sig .tc .vmem S1x1024x512 .bf16) (h4 : a4.IsWhole) (a5 : Memref sig .tc .vmem S1024x1024 .f32) (h5 : a5.IsWhole)
  (a6 : Memref sig .tc .vmem S1024x1024 .f32) (h6 : a6.IsWhole)
  (x0 : Vec F S1024x512 .bf16) (x1 : Vec F S1x1024x512 .bf16) (xs : Vec F S1024x1024 .f32)

theorem sout_A (hc0 : cond0_0 i) (hc1 : ¬cond0_1 i) : sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x512) hz, View.ld_unit_zero (S := S1x1024x512) hz3]
theorem sout_B (hc0 : ¬cond0_0 i) (hc1 : ¬cond0_1 i) : sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x512) hz, View.ld_unit_zero (S := S1x1024x512) hz3,
    View.ld_unit_zero (S := S1024x1024) hz]
theorem sout_C (hc0 : ¬cond0_0 i) (hc1 : cond0_1 i) : sout0_C_0 c i a3 h3 a4 h4 a5 h5 a6 h6 hc0 hc1 x0 x1 xs = k0_pay2 x0 x1 xs := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1024x512) hz, View.ld_unit_zero (S := S1x1024x512) hz3,
    View.ld_unit_zero (S := S1024x1024) hz]
theorem out_C (hc0 : ¬cond0_0 i) (hc1 : cond0_1 i) : out0_C_2 c i a3 h3 a4 h4 a5 h5 a6 h6 hc0 hc1 x0 x1 xs = k0_pay2 x0 x1 xs := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x512) hz, View.ld_unit_zero (S := S1x1024x512) hz3,
    View.ld_unit_zero (S := S1024x1024) hz]
end Cases

theorem pay1 (u l : Fin 1024) : (k0_pay1 (F := Ideal)) (ix2 u l) = 0 := by
  pointwise [k0_pay1]
theorem pay2 (x0 : FVec Ideal S1024x512 .bf16) (x1 : FVec Ideal S1x1024x512 .bf16) (xs : FVec Ideal S1024x1024 .f32) (u l : Fin 1024) :
    k0_pay2 x0 x1 xs (ix2 u l) = xs (ix2 u l) + ∑ e : Fin 512, x0 (ix2 u e) * x1 (ix3 0 l e) := by
  pointwise [k0_pay2]

theorem idx0 : ∀ t : Fin cfg0.N, win0_0.index t = ![t.val / 8, t.val % 8] := (by decide +kernel : ∀ t : Fin grid0.N, _)
theorem idx1 : ∀ t : Fin cfg0.N, win0_1.index t = ![t.val % 8, 0, 0] := (by decide +kernel : ∀ t : Fin grid0.N, _)
theorem idx2 : ∀ t : Fin cfg0.N, win0_2.index t = ![t.val / 8, 0] := (by decide +kernel : ∀ t : Fin grid0.N, _)
theorem lt_N (t : Fin cfg0.N) : t.val < 32 := lt_of_lt_of_eq t.isLt N_0

variable (m : (ℓ : Loc nD τ sig) → Buf (Elt Ideal) ℓ) (c : Dev nD)

abbrev D : FVec Ideal S4096x4096 .bf16 := m (c, Proc.tc.devRef main_arg2)
abbrev W : FVec Ideal S1024x4096 .bf16 := m (c, Proc.tc.devRef main_arg1)

/-- The entries of the result. -/
def res (i j : ℕ) : EReal := ∑ e ∈ range 4096, at2 (D m c) i e * at2 (W m c) j e

theorem slabs_at (s : Fin 8) (r : Fin 1024) (e : Fin 512) :
    (V m c main_v1 : FVec Ideal S8x1024x512 .bf16) (ix3 s r e) = at2 (W m c) r.val (512 * s.val + e.val) := by
  rw [at2_of _ r.isLt (show 512 * s.val + e.val < 4096 by omega)]
  unfold V
  after_reads_at
  exact congrArg (fun j => W m c (ix2 r j)) (Fin.ext (by dsimp only; omega))

theorem blk0 (t : Fin cfg0.N) (u : Fin 1024) (e : Fin 512) :
    (iblk m c 0 t : FVec Ideal S1024x512 .bf16) (ix2 u e) = at2 (D m c) (1024 * (t.val / 8) + u.val) (512 * (t.val % 8) + e.val) := by
  have ht := lt_N t
  rw [at2_of _ (show 1024 * (t.val / 8) + u.val < 4096 by omega) (show 512 * (t.val % 8) + e.val < 4096 by omega)]
  blk_ext [iblk, V, idx0 t]
theorem blk1 (t : Fin cfg0.N) (l : Fin 1024) (e : Fin 512) :
    (iblk m c 1 t : FVec Ideal S1x1024x512 .bf16) (ix3 0 l e) = at2 (W m c) l.val (512 * (t.val % 8) + e.val) := by
  have ht := lt_N t
  refine Eq.trans ?_ (slabs_at m c ⟨t.val % 8, by omega⟩ l e)
  blk_ext [iblk, V, idx1 t]

theorem dot_at (t : Fin cfg0.N) (xs : FVec Ideal S1024x1024 .f32) (u l : Fin 1024) :
    k0_pay2 (iblk m c 0 t) (iblk m c 1 t) xs (ix2 u l) = xs (ix2 u l)
      + ∑ e ∈ range 512, at2 (D m c) (1024 * (t.val / 8) + u.val) (512 * (t.val % 8) + e) * at2 (W m c) l.val (512 * (t.val % 8) + e) := by
  rw [pay2, Finset.sum_range]
  simp only [blk0, blk1]

theorem acc_at (n : ℕ) (h : n < cfg0.N) (i : Fin 1024 × Fin 1024) : (outsAt0 m c n h).2 (ix2 i.1 i.2)
    = ∑ e ∈ range (512 * (n % 8 + 1)), at2 (D m c) (1024 * (n / 8) + i.1.val) e * at2 (W m c) i.2.val e := by
  refine accumulated (by omega) (fun n h (i : Fin 1024 × Fin 1024) => (outsAt0 m c n h).2 (ix2 i.1 i.2))
    (fun q i e => at2 (D m c) (1024 * q + i.1.val) e * at2 (W m c) i.2.val e) ?_ ?_ n h i
  · intro n h i h0
    have e := congrArg Prod.snd (outsAt0_A m c ⟨n, h⟩ h0 (by show ¬n % 8 = 7; omega))
    dsimp only at e ⊢
    rw [e, sout_A, dot_at, pay1, zero_add]
    simp only [h0, mul_zero, zero_add]
  · intro n h i h0
    by_cases h1 : n % 8 = 7
    · have e := congrArg Prod.snd (outsAt0_C m c ⟨n, h⟩ h0 h1)
      dsimp only at e ⊢
      rw [e, sout_C, dot_at]
    · have e := congrArg Prod.snd (outsAt0_B m c ⟨n, h⟩ h0 h1)
      dsimp only at e ⊢
      rw [e, sout_B, dot_at]

theorem out_at (t : Fin cfg0.N) (h1 : t.val % 8 = 7) (u l : Fin 1024) :
    (outsAt0 m c t.val t.isLt).1 (ix2 u l) = res m c (1024 * (t.val / 8) + u.val) l.val := by
  have h0 : ¬t.val % 8 = 0 := by omega
  have e := acc_at m c t.val t.isLt (u, l)
  rw [outsAt0_C m c t h0 h1] at e ⊢
  dsimp only at e ⊢
  rw [sout_C] at e
  rw [out_C, e, h1]
  rfl

theorem final : (dats m 0 c).arrAt 2 cfg0.N = (fun i => res m c (i 0).val (i 1).val : FVec Ideal S4096x1024 .f32) := by
  refine (dats m 0 c).arrAt_eq_of_covers 2 _ (by decide +kernel) fun t hf b => ?_
  have ht := lt_N t
  have hf := (flush0_2 t).mp hf
  blk_simp [idx2 t]
  rw [after0_2]
  refine Eq.trans ?_ ((out_at m c t hf (b 0) (b 1)).trans ?_)
  · exact congrArg _ (ix2_eta b)
  · congr 1 <;> omega

end Cert.KernelFf1XIdeal.Hand

namespace Cert.ReferenceFf1XIdeal.Hand

open Cert.ReferenceFf1XIdeal Cert.ReferenceFf1XIdeal.Gen Cert.Blocked
open Idealize.ShloMosaic Idealize.ShloMosaic.TcCoe Idealize.SL.Sem

theorem value (X2 : FVec Ideal S4096x4096 .bf16) (X1 : FVec Ideal S1024x4096 .bf16) :
    Host.dotGeneral (φ₁ := .f32) (φ₂ := .f32) dot_S4096x4096_S1024x4096_S4096x1024_1_1_0_0_n_n none (extf .f32 X2 bitsLt_bf16_f32) (extf .f32 X1 bitsLt_bf16_f32)
      = (fun i => ∑ e ∈ Finset.range 4096, at2 X2 (i 0).val e * at2 X1 (i 1).val e : FVec Ideal S4096x1024 .f32) := by
  funext i
  obtain ⟨r, l, rfl⟩ : ∃ (r : Fin 4096) (l : Fin 1024), i = ix2 r l := ⟨i 0, i 1, ix2_eta i⟩
  show _ = ∑ e ∈ Finset.range 4096, at2 X2 r.val e * at2 X1 l.val e
  rw [Finset.sum_range]
  simp only [at2_ix]
  pointwise

end Cert.ReferenceFf1XIdeal.Hand

namespace Cert.Proof

open Idealize.ShloMosaic Idealize.SL.Sem

theorem same_ff1_x : Cert.algebraic_KernelFf1XIdeal_ReferenceFf1XIdeal (hKernelFf1XIdeal := Cert.KernelFf1XIdeal.Gen.facts)
    (hReferenceFf1XIdeal := Cert.ReferenceFf1XIdeal.Gen.facts) := by
  intro m g m' g' _ he
  refine ⟨fun c => (fun i => KernelFf1XIdeal.Hand.res m c (i 0).val (i 1).val : FVec Ideal KernelFf1XIdeal.S4096x1024 .f32), ?_, ?_⟩
  · exact (θ_run KernelFf1XIdeal.defs _ _).mono (fun _ h c => ⟨(h c).1.trans (KernelFf1XIdeal.Hand.final m c), (h c).2⟩)
      (KernelFf1XIdeal.Value.run_blocks (F := Ideal) m g)
  · refine (θ_run ReferenceFf1XIdeal.defs _ _).mono (fun _ h c => ⟨(h c).1.trans ((ReferenceFf1XIdeal.Hand.value _ _).trans ?_), (h c).2⟩)
      (ReferenceFf1XIdeal.Value.run (F := Ideal) m' g')
    obtain ⟨e0, e1, e2⟩ := he c
    rw [e1, e2]
    rfl

-- the two programs have one text; that they are equal is checked by computation
set_option smartUnfolding false in
set_option maxHeartbeats 0 in
theorem frame_ff1_x : Cert.quiescent_KernelFf1X (hKernelFf1X := Cert.KernelFf1X.Gen.facts) := fun m ρ _ =>
  (θ_run KernelFf1XIdeal.defs _ _).mono (fun _ h => h) (KernelFf1XIdeal.Gen.frame (F := Bits) m ρ)
theorem frame_ff1_x_ideal : Cert.quiescent_KernelFf1XIdeal (hKernelFf1XIdeal := Cert.KernelFf1XIdeal.Gen.facts) := fun m ρ _ =>
  KernelFf1XIdeal.Gen.frame (F := Ideal) m ρ
theorem frame_ff1_x_reference : Cert.quiescent_ReferenceFf1XIdeal (hReferenceFf1XIdeal := Cert.ReferenceFf1XIdeal.Gen.facts) := fun m ρ _ =>
  (θ_run ReferenceFf1XIdeal.defs _ _).mono (fun _ h => ⟨fun c => (h c).2, sem_eq_zero_of_no_sems (by decide) _⟩)
    (ReferenceFf1XIdeal.Value.run (F := Ideal) m ρ)

end Cert.Proof

end
-- ==== Proof.InW.lean ====
/- The gradient of the input projection's weight: what the kernel's accumulator holds, the value claim and the frames. -/
module

public import proofs.«01_k».proof.Defs
public import proofs.«01_k».proof.Proof.Blocked
public import proofs.«01_k».proof.Proof.Gen.KernelInW
public import proofs.«01_k».proof.Proof.Gen.KernelInWIdeal.Value
public import proofs.«01_k».proof.Proof.Gen.ReferenceInWIdeal.Run
public import Idealize.ShloMosaic.Lib.Pipeline.ValueKit
public import Idealize.ShloMosaic.Adequacy

@[expose] public section

set_option maxRecDepth 16384

noncomputable section

namespace Cert.KernelInWIdeal.Hand

open Cert.KernelInWIdeal Cert.KernelInWIdeal.Gen Cert.Blocked
open Idealize.ShloMosaic Idealize.ShloMosaic.TcCoe Idealize.SL.Sem
open Finset (range)

section Cases
variable {F : FTy → Type} [FloatOps F] (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole)
  (x0 x1 : Vec F S1024x1024 .bf16) (xs : Vec F S1024x1024 .f32)

theorem sout_A (hc0 : cond0_0 i) (hc1 : ¬cond0_1 i) : sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]
theorem sout_B (hc0 : ¬cond0_0 i) (hc1 : ¬cond0_1 i) : sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x1024) hz]
theorem sout_C (hc0 : ¬cond0_0 i) (hc1 : cond0_1 i) : sout0_C_0 c i a3 h3 a4 h4 a5 h5 a6 h6 hc0 hc1 x0 x1 xs = k0_pay2 x0 x1 xs := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1024x1024) hz]
theorem out_C (hc0 : ¬cond0_0 i) (hc1 : cond0_1 i) : out0_C_2 c i a3 h3 a4 h4 a5 h5 a6 h6 hc0 hc1 x0 x1 xs = k0_pay2 x0 x1 xs := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]
end Cases

theorem pay1 (u l : Fin 1024) : (k0_pay1 (F := Ideal)) (ix2 u l) = 0 := by
  pointwise [k0_pay1]
theorem pay2 (x0 x1 : FVec Ideal S1024x1024 .bf16) (xs : FVec Ideal S1024x1024 .f32) (u l : Fin 1024) :
    k0_pay2 x0 x1 xs (ix2 u l) = xs (ix2 u l) + ∑ e : Fin 1024, x0 (ix2 e u) * x1 (ix2 e l) := by
  pointwise [k0_pay2]

theorem idx0 : ∀ t : Fin cfg0.N, win0_0.index t = ![t.val % 4, 0] := (by decide +kernel : ∀ t : Fin grid0.N, _)
theorem idx1 : ∀ t : Fin cfg0.N, win0_1.index t = ![t.val % 4, t.val / 4] := (by decide +kernel : ∀ t : Fin grid0.N, _)
theorem idx2 : ∀ t : Fin cfg0.N, win0_2.index t = ![0, t.val / 4] := (by decide +kernel : ∀ t : Fin grid0.N, _)
theorem lt_N (t : Fin cfg0.N) : t.val < 36 := lt_of_lt_of_eq t.isLt N_0

variable (m : (ℓ : Loc nD τ sig) → Buf (Elt Ideal) ℓ) (c : Dev nD)

abbrev R : FVec Ideal S4096x1024 .bf16 := m (c, Proc.tc.devRef main_arg0)
abbrev D : FVec Ideal S4096x9216 .bf16 := m (c, Proc.tc.devRef main_arg2)

/-- The entries of the result. -/
def res (i j : ℕ) : EReal := ∑ e ∈ range 4096, at2 (R m c) e i * at2 (D m c) e j

theorem blk0 (t : Fin cfg0.N) (e u : Fin 1024) :
    (iblk m c 0 t : FVec Ideal S1024x1024 .bf16) (ix2 e u) = at2 (R m c) (1024 * (t.val % 4) + e.val) u.val := by
  have ht := lt_N t
  rw [at2_of _ (show 1024 * (t.val % 4) + e.val < 4096 by omega) u.isLt]
  blk_ext [iblk, V, idx0 t]
theorem blk1 (t : Fin cfg0.N) (e l : Fin 1024) :
    (iblk m c 1 t : FVec Ideal S1024x1024 .bf16) (ix2 e l) = at2 (D m c) (1024 * (t.val % 4) + e.val) (1024 * (t.val / 4) + l.val) := by
  have ht := lt_N t
  rw [at2_of _ (show 1024 * (t.val % 4) + e.val < 4096 by omega) (show 1024 * (t.val / 4) + l.val < 9216 by omega)]
  blk_ext [iblk, V, idx1 t]

theorem dot_at (t : Fin cfg0.N) (xs : FVec Ideal S1024x1024 .f32) (u l : Fin 1024) :
    k0_pay2 (iblk m c 0 t) (iblk m c 1 t) xs (ix2 u l) = xs (ix2 u l)
      + ∑ e ∈ range 1024, at2 (R m c) (1024 * (t.val % 4) + e) u.val * at2 (D m c) (1024 * (t.val % 4) + e) (1024 * (t.val / 4) + l.val) := by
  rw [pay2, Finset.sum_range]
  simp only [blk0, blk1]

theorem acc_at (n : ℕ) (h : n < cfg0.N) (i : Fin 1024 × Fin 1024) : (outsAt0 m c n h).2 (ix2 i.1 i.2)
    = ∑ e ∈ range (1024 * (n % 4 + 1)), at2 (R m c) e i.1.val * at2 (D m c) e (1024 * (n / 4) + i.2.val) := by
  refine accumulated (by omega) (fun n h (i : Fin 1024 × Fin 1024) => (outsAt0 m c n h).2 (ix2 i.1 i.2))
    (fun q i e => at2 (R m c) e i.1.val * at2 (D m c) e (1024 * q + i.2.val)) ?_ ?_ n h i
  · intro n h i h0
    have e := congrArg Prod.snd (outsAt0_A m c ⟨n, h⟩ h0 (by show ¬n % 4 = 3; omega))
    dsimp only at e ⊢
    rw [e, sout_A, dot_at, pay1, zero_add]
    simp only [h0, mul_zero, zero_add]
  · intro n h i h0
    by_cases h1 : n % 4 = 3
    · have e := congrArg Prod.snd (outsAt0_C m c ⟨n, h⟩ h0 h1)
      dsimp only at e ⊢
      rw [e, sout_C, dot_at]
    · have e := congrArg Prod.snd (outsAt0_B m c ⟨n, h⟩ h0 h1)
      dsimp only at e ⊢
      rw [e, sout_B, dot_at]

theorem out_at (t : Fin cfg0.N) (h1 : t.val % 4 = 3) (u l : Fin 1024) :
    (outsAt0 m c t.val t.isLt).1 (ix2 u l) = res m c u.val (1024 * (t.val / 4) + l.val) := by
  have e := acc_at m c t.val t.isLt (u, l)
  rw [outsAt0_C m c t (by omega) h1] at e ⊢
  dsimp only at e ⊢
  rw [sout_C] at e
  rw [out_C, e, h1]
  rfl

theorem final : (dats m 0 c).arrAt 2 cfg0.N = (fun i => res m c (i 0).val (i 1).val : FVec Ideal S1024x9216 .f32) := by
  refine (dats m 0 c).arrAt_eq_of_covers 2 _ (by decide +kernel) fun t hf b => ?_
  have ht := lt_N t
  have hf := (flush0_2 t).mp hf
  blk_simp [idx2 t]
  rw [after0_2]
  refine Eq.trans (congrArg _ (ix2_eta b)) ((out_at m c t hf (b 0) (b 1)).trans ?_)
  congr 1 <;> omega

end Cert.KernelInWIdeal.Hand

namespace Cert.ReferenceInWIdeal.Hand

open Cert.ReferenceInWIdeal Cert.ReferenceInWIdeal.Gen Cert.Blocked
open Idealize.ShloMosaic Idealize.ShloMosaic.TcCoe Idealize.SL.Sem

theorem value (X0 : FVec Ideal S4096x1024 .bf16) (X2 : FVec Ideal S4096x9216 .bf16) :
    transpose S1024x9216 [1, 0] (Host.dotGeneral (φ₁ := .f32) (φ₂ := .f32) dot_S4096x9216_S4096x1024_S9216x1024_0_0_1_1_n_n none
        (extf .f32 X2 bitsLt_bf16_f32) (extf .f32 X0 bitsLt_bf16_f32)) transposes_S9216x1024_S1024x9216_1_0
      = (fun i => ∑ e ∈ Finset.range 4096, at2 X0 e (i 0).val * at2 X2 e (i 1).val : FVec Ideal S1024x9216 .f32) := by
  funext i
  obtain ⟨r, l, rfl⟩ : ∃ (r : Fin 1024) (l : Fin 9216), i = ix2 r l := ⟨i 0, i 1, ix2_eta i⟩
  show _ = ∑ e ∈ Finset.range 4096, at2 X0 e r.val * at2 X2 e l.val
  rw [Finset.sum_range]
  simp only [at2_ix, mul_comm (X0 _)]
  pointwise

end Cert.ReferenceInWIdeal.Hand

namespace Cert.Proof

open Idealize.ShloMosaic Idealize.SL.Sem

theorem same_in_w : Cert.algebraic_KernelInWIdeal_ReferenceInWIdeal (hKernelInWIdeal := Cert.KernelInWIdeal.Gen.facts)
    (hReferenceInWIdeal := Cert.ReferenceInWIdeal.Gen.facts) := by
  intro m g m' g' _ he
  refine ⟨fun c => (fun i => KernelInWIdeal.Hand.res m c (i 0).val (i 1).val : FVec Ideal KernelInWIdeal.S1024x9216 .f32), ?_, ?_⟩
  · exact (θ_run KernelInWIdeal.defs _ _).mono (fun _ h c => ⟨(h c).1.trans (KernelInWIdeal.Hand.final m c), (h c).2⟩)
      (KernelInWIdeal.Value.run_blocks (F := Ideal) m g)
  · refine (θ_run ReferenceInWIdeal.defs _ _).mono (fun _ h c => ⟨(h c).1.trans ((ReferenceInWIdeal.Hand.value _ _).trans ?_), (h c).2⟩)
      (ReferenceInWIdeal.Value.run (F := Ideal) m' g')
    rw [(he c).1, (he c).2.2]
    rfl

-- the two programs have one text; that they are equal is checked by computation
set_option smartUnfolding false in
set_option maxHeartbeats 0 in
theorem frame_in_w : Cert.quiescent_KernelInW (hKernelInW := Cert.KernelInW.Gen.facts) := fun m ρ _ =>
  (θ_run KernelInWIdeal.defs _ _).mono (fun _ h => h) (KernelInWIdeal.Gen.frame (F := Bits) m ρ)
theorem frame_in_w_ideal : Cert.quiescent_KernelInWIdeal (hKernelInWIdeal := Cert.KernelInWIdeal.Gen.facts) := fun m ρ _ =>
  KernelInWIdeal.Gen.frame (F := Ideal) m ρ
theorem frame_in_w_reference : Cert.quiescent_ReferenceInWIdeal (hReferenceInWIdeal := Cert.ReferenceInWIdeal.Gen.facts) := fun m ρ _ =>
  (θ_run ReferenceInWIdeal.defs _ _).mono (fun _ h => ⟨fun c => (h c).2, sem_eq_zero_of_no_sems (by decide) _⟩)
    (ReferenceInWIdeal.Value.run (F := Ideal) m ρ)

end Cert.Proof

end
-- ==== Proof.Ff1W.lean ====
/- The gradient of the MLP's first weight, cut over the devices: what the kernel's accumulator holds, the value claim and the frames. -/
module

public import proofs.«01_k».proof.Defs
public import proofs.«01_k».proof.Proof.Blocked
public import proofs.«01_k».proof.Proof.Gen.KernelFf1W
public import proofs.«01_k».proof.Proof.Gen.KernelFf1WIdeal.Value
public import proofs.«01_k».proof.Proof.Gen.ReferenceFf1WIdeal.Run
public import Idealize.ShloMosaic.Lib.Pipeline.ValueKit
public import Idealize.ShloMosaic.Adequacy

@[expose] public section

set_option maxRecDepth 16384

noncomputable section

namespace Cert.KernelFf1WIdeal.Hand

open Cert.KernelFf1WIdeal Cert.KernelFf1WIdeal.Gen Cert.Blocked
open Idealize.ShloMosaic Idealize.ShloMosaic.TcCoe Idealize.SL.Sem
open Finset (range)

section Cases
variable {F : FTy → Type} [FloatOps F] (c : Dev nD) (i : grid0.Coords) (a3 : Memref sig .tc .vmem S1024x1024 .bf16) (h3 : a3.IsWhole)
  (a4 : Memref sig .tc .vmem S1024x512 .bf16) (h4 : a4.IsWhole) (a5 : Memref sig .tc .vmem S1x1024x512 .f32) (h5 : a5.IsWhole)
  (a6 : Memref sig .tc .vmem S1024x512 .f32) (h6 : a6.IsWhole)
  (x0 : Vec F S1024x1024 .bf16) (x1 : Vec F S1024x512 .bf16) (xs : Vec F S1024x512 .f32)

theorem sout_A (hc0 : cond0_0 i) (hc1 : ¬cond0_1 i) : sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x512) hz, View.readCov_unit_zero (S := S1024x512) _ hz]
  simp only [View.readAt_eq_ld, h3.read_unread, h4.read_unread, View.ld_unit_zero (S := S1024x1024) hz, View.ld_unit_zero (S := S1024x512) hz]
theorem sout_B (hc0 : ¬cond0_0 i) (hc1 : ¬cond0_1 i) : sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x1024) hz, View.ld_unit_zero (S := S1024x512) hz]
theorem sout_C (hc0 : ¬cond0_0 i) (hc1 : cond0_1 i) : sout0_C_0 c i a3 h3 a4 h4 a5 h5 a6 h6 hc0 hc1 x0 x1 xs = k0_pay2 x0 x1 xs := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1024x1024) hz, View.ld_unit_zero (S := S1024x512) hz]
theorem out_C (hc0 : ¬cond0_0 i) (hc1 : cond0_1 i) : out0_C_2 c i a3 h3 a4 h4 a5 h5 a6 h6 hc0 hc1 x0 x1 xs = k0_pay3 (k0_pay2 x0 x1 xs) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz3, View.readCov_unit_zero (S := S1024x512) _ hz]
  simp only [View.readAt_eq_ld, h3.read_unread, h4.read_unread, h6.read_unread, View.ld_unit_zero (S := S1024x1024) hz, View.ld_unit_zero (S := S1024x512) hz]
end Cases

theorem pay1 (u : Fin 1024) (l : Fin 512) : (k0_pay1 (F := Ideal)) (ix2 u l) = 0 := by
  pointwise [k0_pay1]
theorem pay2 (x0 : FVec Ideal S1024x1024 .bf16) (x1 : FVec Ideal S1024x512 .bf16) (xs : FVec Ideal S1024x512 .f32) (u : Fin 1024) (l : Fin 512) :
    k0_pay2 x0 x1 xs (ix2 u l) = xs (ix2 u l) + ∑ e : Fin 1024, x0 (ix2 e u) * x1 (ix2 e l) := by
  pointwise [k0_pay2]

theorem pay3 (x : FVec Ideal S1024x512 .f32) (u : Fin 1024) (l : Fin 512) : k0_pay3 x (ix3 0 u l) = x (ix2 u l) := by
  pointwise [k0_pay3]

theorem idx0 : ∀ t : Fin cfg0.N, win0_0.index t = ![t.val % 4, 0] := (by decide +kernel : ∀ t : Fin grid0.N, _)
theorem idx1 : ∀ t : Fin cfg0.N, win0_1.index t = ![t.val % 4, t.val / 4] := (by decide +kernel : ∀ t : Fin grid0.N, _)
theorem idx2 : ∀ t : Fin cfg0.N, win0_2.index t = ![t.val / 4, 0, 0] := (by decide +kernel : ∀ t : Fin grid0.N, _)
theorem lt_N (t : Fin cfg0.N) : t.val < 32 := lt_of_lt_of_eq t.isLt N_0

variable (m : (ℓ : Loc nD τ sig) → Buf (Elt Ideal) ℓ) (c : Dev nD)

abbrev R : FVec Ideal S4096x1024 .bf16 := m (c, Proc.tc.devRef main_arg0)
abbrev D : FVec Ideal S4096x4096 .bf16 := m (c, Proc.tc.devRef main_arg2)

/-- The entries of the result. -/
def res (i j : ℕ) : EReal := ∑ e ∈ range 4096, at2 (R m c) e i * at2 (D m c) e j

theorem blk0 (t : Fin cfg0.N) (e u : Fin 1024) :
    (iblk m c 0 t : FVec Ideal S1024x1024 .bf16) (ix2 e u) = at2 (R m c) (1024 * (t.val % 4) + e.val) u.val := by
  have ht := lt_N t
  rw [at2_of _ (show 1024 * (t.val % 4) + e.val < 4096 by omega) u.isLt]
  blk_ext [iblk, V, idx0 t]
theorem blk1 (t : Fin cfg0.N) (e : Fin 1024) (l : Fin 512) :
    (iblk m c 1 t : FVec Ideal S1024x512 .bf16) (ix2 e l) = at2 (D m c) (1024 * (t.val % 4) + e.val) (512 * (t.val / 4) + l.val) := by
  have ht := lt_N t
  rw [at2_of _ (show 1024 * (t.val % 4) + e.val < 4096 by omega) (show 512 * (t.val / 4) + l.val < 4096 by omega)]
  blk_ext [iblk, V, idx1 t]

theorem dot_at (t : Fin cfg0.N) (xs : FVec Ideal S1024x512 .f32) (u : Fin 1024) (l : Fin 512) :
    k0_pay2 (iblk m c 0 t) (iblk m c 1 t) xs (ix2 u l) = xs (ix2 u l)
      + ∑ e ∈ range 1024, at2 (R m c) (1024 * (t.val % 4) + e) u.val * at2 (D m c) (1024 * (t.val % 4) + e) (512 * (t.val / 4) + l.val) := by
  rw [pay2, Finset.sum_range]
  simp only [blk0, blk1]

theorem acc_at (n : ℕ) (h : n < cfg0.N) (i : Fin 1024 × Fin 512) : (outsAt0 m c n h).2 (ix2 i.1 i.2)
    = ∑ e ∈ range (1024 * (n % 4 + 1)), at2 (R m c) e i.1.val * at2 (D m c) e (512 * (n / 4) + i.2.val) := by
  refine accumulated (by omega) (fun n h (i : Fin 1024 × Fin 512) => (outsAt0 m c n h).2 (ix2 i.1 i.2))
    (fun q i e => at2 (R m c) e i.1.val * at2 (D m c) e (512 * q + i.2.val)) ?_ ?_ n h i
  · intro n h i h0
    have e := congrArg Prod.snd (outsAt0_A m c ⟨n, h⟩ h0 (by show ¬n % 4 = 3; omega))
    dsimp only at e ⊢
    rw [e, sout_A, dot_at, pay1, zero_add]
    simp only [h0, mul_zero, zero_add]
  · intro n h i h0
    by_cases h1 : n % 4 = 3
    · have e := congrArg Prod.snd (outsAt0_C m c ⟨n, h⟩ h0 h1)
      dsimp only at e ⊢
      rw [e, sout_C, dot_at]
    · have e := congrArg Prod.snd (outsAt0_B m c ⟨n, h⟩ h0 h1)
      dsimp only at e ⊢
      rw [e, sout_B, dot_at]

theorem out_at (t : Fin cfg0.N) (h1 : t.val % 4 = 3) (u : Fin 1024) (l : Fin 512) :
    (outsAt0 m c t.val t.isLt).1 (ix3 0 u l) = res m c u.val (512 * (t.val / 4) + l.val) := by
  have e := acc_at m c t.val t.isLt (u, l)
  rw [outsAt0_C m c t (by omega) h1] at e ⊢
  dsimp only at e ⊢
  rw [sout_C] at e
  rw [out_C, pay3, e, h1]
  rfl

theorem final : (dats m 0 c).arrAt 2 cfg0.N = (fun i => res m c (i 1).val (512 * (i 0).val + (i 2).val) : FVec Ideal S8x1024x512 .f32) := by
  refine (dats m 0 c).arrAt_eq_of_covers 2 _ (by decide +kernel) fun t hf b => ?_
  have ht := lt_N t
  have hf := (flush0_2 t).mp hf
  blk_simp [idx2 t]
  rw [after0_2]
  refine Eq.trans (congrArg _ (ix3_eta1 b)) ((out_at m c t hf (b 1) (b 2)).trans ?_)
  congr 1 <;> omega

end Cert.KernelFf1WIdeal.Hand

namespace Cert.ReferenceFf1WIdeal.Hand

open Cert.ReferenceFf1WIdeal Cert.ReferenceFf1WIdeal.Gen Cert.ReferenceFf1WIdeal.Value Cert.Blocked
open Idealize.ShloMosaic Idealize.ShloMosaic.TcCoe Idealize.SL.Sem

variable (m : (ℓ : Loc nD τ sig) → Buf (Elt Ideal) ℓ) (c : Dev nD)

abbrev X0 : FVec Ideal S4096x1024 .bf16 := m ((c.tc : Thread nD τ).loc main_arg0)
abbrev X2 : FVec Ideal S4096x4096 .bf16 := m ((c.tc : Thread nD τ).loc main_arg2)

theorem value : res_main_v22 m c = (fun i => ∑ e ∈ Finset.range 4096,
    at2 (X0 m c) e (i 1).val * at2 (X2 m c) e (512 * (i 0).val + (i 2).val) : FVec Ideal S8x1024x512 .f32) := by
  funext i
  obtain ⟨s, r, l, rfl⟩ : ∃ (s : Fin 8) (r : Fin 1024) (l : Fin 512), i = ix3 s r l := ⟨i 0, i 1, i 2, ix3_eta i⟩
  have hs := s.isLt
  have hl := l.isLt
  have e : ∑ e ∈ Finset.range 4096, at2 (X0 m c) e r.val * at2 (X2 m c) e (512 * s.val + l.val)
      = ∑ e : Fin 4096, X2 m c (ix2 e ⟨512 * s.val + l.val, by omega⟩) * X0 m c (ix2 e r) := by
    rw [Finset.sum_range]
    refine Finset.sum_congr rfl fun e _ => ?_
    rw [at2_ix, at2_of _ e.isLt (show 512 * s.val + l.val < 4096 by omega), mul_comm]
  refine Eq.trans ?_ e.symm
  unfold res_main_v22
  pointwise
  -- the slab the first position names
  repeat' split
  all_goals
    refine congrArg (fun f : Fin 4096 → EReal => Finset.sum Finset.univ f) (funext fun e => ?_)
    exact congrArg (fun j => X2 m c (ix2 e j) * X0 m c (ix2 e r)) (Fin.ext (by dsimp only; omega))

end Cert.ReferenceFf1WIdeal.Hand

namespace Cert.Proof

open Idealize.ShloMosaic Idealize.SL.Sem

theorem same_ff1_w : Cert.algebraic_KernelFf1WIdeal_ReferenceFf1WIdeal (hKernelFf1WIdeal := Cert.KernelFf1WIdeal.Gen.facts)
    (hReferenceFf1WIdeal := Cert.ReferenceFf1WIdeal.Gen.facts) := by
  intro m g m' g' _ he
  refine ⟨fun c => (fun i => KernelFf1WIdeal.Hand.res m c (i 1).val (512 * (i 0).val + (i 2).val) : FVec Ideal KernelFf1WIdeal.S8x1024x512 .f32), ?_, ?_⟩
  · exact (θ_run KernelFf1WIdeal.defs _ _).mono (fun _ h c => ⟨(h c).1.trans (KernelFf1WIdeal.Hand.final m c), (h c).2⟩)
      (KernelFf1WIdeal.Value.run_blocks (F := Ideal) m g)
  · refine (θ_run ReferenceFf1WIdeal.defs _ _).mono (fun _ h c => ⟨(h c).1.trans ((ReferenceFf1WIdeal.Hand.value m' c).trans ?_), (h c).2⟩)
      (ReferenceFf1WIdeal.Value.run (F := Ideal) m' g')
    unfold ReferenceFf1WIdeal.Hand.X0 ReferenceFf1WIdeal.Hand.X2
    rw [(he c).1, (he c).2.2]
    rfl

-- the two programs have one text; that they are equal is checked by computation
set_option smartUnfolding false in
set_option maxHeartbeats 0 in
theorem frame_ff1_w : Cert.quiescent_KernelFf1W (hKernelFf1W := Cert.KernelFf1W.Gen.facts) := fun m ρ _ =>
  (θ_run KernelFf1WIdeal.defs _ _).mono (fun _ h => h) (KernelFf1WIdeal.Gen.frame (F := Bits) m ρ)
theorem frame_ff1_w_ideal : Cert.quiescent_KernelFf1WIdeal (hKernelFf1WIdeal := Cert.KernelFf1WIdeal.Gen.facts) := fun m ρ _ =>
  KernelFf1WIdeal.Gen.frame (F := Ideal) m ρ
theorem frame_ff1_w_reference : Cert.quiescent_ReferenceFf1WIdeal (hReferenceFf1WIdeal := Cert.ReferenceFf1WIdeal.Gen.facts) := fun m ρ _ =>
  (θ_run ReferenceFf1WIdeal.defs _ _).mono (fun _ h => ⟨fun c => (h c).2, sem_eq_zero_of_no_sems (by decide) _⟩)
    (ReferenceFf1WIdeal.Value.run (F := Ideal) m ρ)

end Cert.Proof

end
-- ==== Proof.Ff2W.lean ====
/- The gradient of the MLP's second weight: what the kernel's accumulator holds, the value claim and the frames. -/
module

public import proofs.«01_k».proof.Defs
public import proofs.«01_k».proof.Proof.Blocked
public import proofs.«01_k».proof.Proof.Gen.KernelFf2W
public import proofs.«01_k».proof.Proof.Gen.KernelFf2WIdeal.Value
public import proofs.«01_k».proof.Proof.Gen.ReferenceFf2WIdeal.Run
public import Idealize.ShloMosaic.Lib.Pipeline.ValueKit
public import Idealize.ShloMosaic.Adequacy

@[expose] public section

set_option maxRecDepth 16384

noncomputable section

namespace Cert.KernelFf2WIdeal.Hand

open Cert.KernelFf2WIdeal Cert.KernelFf2WIdeal.Gen Cert.Blocked
open Idealize.ShloMosaic Idealize.ShloMosaic.TcCoe Idealize.SL.Sem
open Finset (range)

section Cases
variable {F : FTy → Type} [FloatOps F] (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole)
  (x0 x1 : Vec F S1024x1024 .bf16) (xs : Vec F S1024x1024 .f32)

theorem sout_A (hc0 : cond0_0 i) (hc1 : ¬cond0_1 i) : sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]
theorem sout_B (hc0 : ¬cond0_0 i) (hc1 : ¬cond0_1 i) : sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x1024) hz]
theorem sout_C (hc0 : ¬cond0_0 i) (hc1 : cond0_1 i) : sout0_C_0 c i a3 h3 a4 h4 a5 h5 a6 h6 hc0 hc1 x0 x1 xs = k0_pay2 x0 x1 xs := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1024x1024) hz]
theorem out_C (hc0 : ¬cond0_0 i) (hc1 : cond0_1 i) : out0_C_2 c i a3 h3 a4 h4 a5 h5 a6 h6 hc0 hc1 x0 x1 xs = k0_pay2 x0 x1 xs := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]
end Cases

theorem pay1 (u l : Fin 1024) : (k0_pay1 (F := Ideal)) (ix2 u l) = 0 := by
  pointwise [k0_pay1]
theorem pay2 (x0 x1 : FVec Ideal S1024x1024 .bf16) (xs : FVec Ideal S1024x1024 .f32) (u l : Fin 1024) :
    k0_pay2 x0 x1 xs (ix2 u l) = xs (ix2 u l) + ∑ e : Fin 1024, x0 (ix2 e u) * x1 (ix2 e l) := by
  pointwise [k0_pay2]

theorem idx0 : ∀ t : Fin cfg0.N, win0_0.index t = ![t.val % 4, t.val / 4] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, 0] := (by decide +kernel : ∀ t : Fin grid0.N, _)
theorem lt_N (t : Fin cfg0.N) : t.val < 16 := lt_of_lt_of_eq t.isLt N_0

variable (m : (ℓ : Loc nD τ sig) → Buf (Elt Ideal) ℓ) (c : Dev nD)

abbrev R : FVec Ideal S4096x4096 .bf16 := m (c, Proc.tc.devRef main_arg0)
abbrev D : FVec Ideal S4096x1024 .bf16 := m (c, Proc.tc.devRef main_arg2)

/-- The entries of the result. -/
def res (i j : ℕ) : EReal := ∑ e ∈ range 4096, at2 (R m c) e i * at2 (D m c) e j

theorem blk0 (t : Fin cfg0.N) (e u : Fin 1024) :
    (iblk m c 0 t : FVec Ideal S1024x1024 .bf16) (ix2 e u) = at2 (R m c) (1024 * (t.val % 4) + e.val) (1024 * (t.val / 4) + u.val) := by
  have ht := lt_N t
  rw [at2_of _ (show 1024 * (t.val % 4) + e.val < 4096 by omega) (show 1024 * (t.val / 4) + u.val < 4096 by omega)]
  blk_ext [iblk, V, idx0 t]
theorem blk1 (t : Fin cfg0.N) (e l : Fin 1024) :
    (iblk m c 1 t : FVec Ideal S1024x1024 .bf16) (ix2 e l) = at2 (D m c) (1024 * (t.val % 4) + e.val) l.val := by
  have ht := lt_N t
  rw [at2_of _ (show 1024 * (t.val % 4) + e.val < 4096 by omega) l.isLt]
  blk_ext [iblk, V, idx1 t]

theorem dot_at (t : Fin cfg0.N) (xs : FVec Ideal S1024x1024 .f32) (u l : Fin 1024) :
    k0_pay2 (iblk m c 0 t) (iblk m c 1 t) xs (ix2 u l) = xs (ix2 u l)
      + ∑ e ∈ range 1024, at2 (R m c) (1024 * (t.val % 4) + e) (1024 * (t.val / 4) + u.val) * at2 (D m c) (1024 * (t.val % 4) + e) l.val := by
  rw [pay2, Finset.sum_range]
  simp only [blk0, blk1]

theorem acc_at (n : ℕ) (h : n < cfg0.N) (i : Fin 1024 × Fin 1024) : (outsAt0 m c n h).2 (ix2 i.1 i.2)
    = ∑ e ∈ range (1024 * (n % 4 + 1)), at2 (R m c) e (1024 * (n / 4) + i.1.val) * at2 (D m c) e i.2.val := by
  refine accumulated (by omega) (fun n h (i : Fin 1024 × Fin 1024) => (outsAt0 m c n h).2 (ix2 i.1 i.2))
    (fun q i e => at2 (R m c) e (1024 * q + i.1.val) * at2 (D m c) e i.2.val) ?_ ?_ n h i
  · intro n h i h0
    have e := congrArg Prod.snd (outsAt0_A m c ⟨n, h⟩ h0 (by show ¬n % 4 = 3; omega))
    dsimp only at e ⊢
    rw [e, sout_A, dot_at, pay1, zero_add]
    simp only [h0, mul_zero, zero_add]
  · intro n h i h0
    by_cases h1 : n % 4 = 3
    · have e := congrArg Prod.snd (outsAt0_C m c ⟨n, h⟩ h0 h1)
      dsimp only at e ⊢
      rw [e, sout_C, dot_at]
    · have e := congrArg Prod.snd (outsAt0_B m c ⟨n, h⟩ h0 h1)
      dsimp only at e ⊢
      rw [e, sout_B, dot_at]

theorem out_at (t : Fin cfg0.N) (h1 : t.val % 4 = 3) (u l : Fin 1024) :
    (outsAt0 m c t.val t.isLt).1 (ix2 u l) = res m c (1024 * (t.val / 4) + u.val) l.val := by
  have e := acc_at m c t.val t.isLt (u, l)
  rw [outsAt0_C m c t (by omega) h1] at e ⊢
  dsimp only at e ⊢
  rw [sout_C] at e
  rw [out_C, e, h1]
  rfl

theorem final : (dats m 0 c).arrAt 2 cfg0.N = (fun i => res m c (i 0).val (i 1).val : FVec Ideal S4096x1024 .f32) := by
  refine (dats m 0 c).arrAt_eq_of_covers 2 _ (by decide +kernel) fun t hf b => ?_
  have ht := lt_N t
  have hf := (flush0_2 t).mp hf
  blk_simp [idx2 t]
  rw [after0_2]
  refine Eq.trans (congrArg _ (ix2_eta b)) ((out_at m c t hf (b 0) (b 1)).trans ?_)
  congr 1 <;> omega

end Cert.KernelFf2WIdeal.Hand

namespace Cert.ReferenceFf2WIdeal.Hand

open Cert.ReferenceFf2WIdeal Cert.ReferenceFf2WIdeal.Gen Cert.Blocked
open Idealize.ShloMosaic Idealize.ShloMosaic.TcCoe Idealize.SL.Sem

theorem value (X0 : FVec Ideal S4096x4096 .bf16) (X2 : FVec Ideal S4096x1024 .bf16) :
    transpose S4096x1024 [1, 0] (Host.dotGeneral (φ₁ := .f32) (φ₂ := .f32) dot_S4096x1024_S4096x4096_S1024x4096_0_0_1_1_n_n none
        (extf .f32 X2 bitsLt_bf16_f32) (extf .f32 X0 bitsLt_bf16_f32)) transposes_S1024x4096_S4096x1024_1_0
      = (fun i => ∑ e ∈ Finset.range 4096, at2 X0 e (i 0).val * at2 X2 e (i 1).val : FVec Ideal S4096x1024 .f32) := by
  funext i
  obtain ⟨r, l, rfl⟩ : ∃ (r : Fin 4096) (l : Fin 1024), i = ix2 r l := ⟨i 0, i 1, ix2_eta i⟩
  show _ = ∑ e ∈ Finset.range 4096, at2 X0 e r.val * at2 X2 e l.val
  rw [Finset.sum_range]
  simp only [at2_ix, mul_comm (X0 _)]
  pointwise

end Cert.ReferenceFf2WIdeal.Hand

namespace Cert.Proof

open Idealize.ShloMosaic Idealize.SL.Sem

theorem same_ff2_w : Cert.algebraic_KernelFf2WIdeal_ReferenceFf2WIdeal (hKernelFf2WIdeal := Cert.KernelFf2WIdeal.Gen.facts)
    (hReferenceFf2WIdeal := Cert.ReferenceFf2WIdeal.Gen.facts) := by
  intro m g m' g' _ he
  refine ⟨fun c => (fun i => KernelFf2WIdeal.Hand.res m c (i 0).val (i 1).val : FVec Ideal KernelFf2WIdeal.S4096x1024 .f32), ?_, ?_⟩
  · exact (θ_run KernelFf2WIdeal.defs _ _).mono (fun _ h c => ⟨(h c).1.trans (KernelFf2WIdeal.Hand.final m c), (h c).2⟩)
      (KernelFf2WIdeal.Value.run_blocks (F := Ideal) m g)
  · refine (θ_run ReferenceFf2WIdeal.defs _ _).mono (fun _ h c => ⟨(h c).1.trans ((ReferenceFf2WIdeal.Hand.value _ _).trans ?_), (h c).2⟩)
      (ReferenceFf2WIdeal.Value.run (F := Ideal) m' g')
    rw [(he c).1, (he c).2.2]
    rfl

-- the two programs have one text; that they are equal is checked by computation
set_option smartUnfolding false in
set_option maxHeartbeats 0 in
theorem frame_ff2_w : Cert.quiescent_KernelFf2W (hKernelFf2W := Cert.KernelFf2W.Gen.facts) := fun m ρ _ =>
  (θ_run KernelFf2WIdeal.defs _ _).mono (fun _ h => h) (KernelFf2WIdeal.Gen.frame (F := Bits) m ρ)
theorem frame_ff2_w_ideal : Cert.quiescent_KernelFf2WIdeal (hKernelFf2WIdeal := Cert.KernelFf2WIdeal.Gen.facts) := fun m ρ _ =>
  KernelFf2WIdeal.Gen.frame (F := Ideal) m ρ
theorem frame_ff2_w_reference : Cert.quiescent_ReferenceFf2WIdeal (hReferenceFf2WIdeal := Cert.ReferenceFf2WIdeal.Gen.facts) := fun m ρ _ =>
  (θ_run ReferenceFf2WIdeal.defs _ _).mono (fun _ h => ⟨fun c => (h c).2, sem_eq_zero_of_no_sems (by decide) _⟩)
    (ReferenceFf2WIdeal.Value.run (F := Ideal) m ρ)

end Cert.Proof

end
-- ==== Proof.In.lean ====
/- The input projection: the value claim and the frames. -/
module

public import proofs.«01_k».proof.Defs
public import proofs.«01_k».proof.Proof.Blocked
public import proofs.«01_k».proof.Proof.Gen.KernelIn
public import proofs.«01_k».proof.Proof.Gen.KernelInIdeal.Value
public import proofs.«01_k».proof.Proof.Gen.ReferenceInIdeal.Run
public import Idealize.ShloMosaic.Lib.Pipeline.ValueKit
public import Idealize.ShloMosaic.Adequacy

@[expose] public section

set_option maxRecDepth 16384

noncomputable section

namespace Cert.KernelInIdeal.Hand

open Cert.KernelInIdeal Cert.KernelInIdeal.Gen Cert.Blocked
open Idealize.ShloMosaic Idealize.ShloMosaic.TcCoe Idealize.SL.Sem
open Finset (range)

theorem out_A {F : FTy → Type} [FloatOps F] (c : Dev nD) (i : grid0.Coords) (a3 : Memref sig .tc .vmem S1024x1024 .bf16) (h3 : a3.IsWhole)
    (a4 : Memref sig .tc .vmem S1024x1024 .bf16) (h4 : a4.IsWhole)
    (a5 : Memref sig .tc .vmem S1024x1024 .f32) (h5 : a5.IsWhole)
    (a6 : Memref sig .tc .vmem S1024x1024 .f32) (h6 : a6.IsWhole)
    (hc0 : cond0_0 i) (hc1 : cond0_1 i) (x0 : Vec F S1024x1024 .bf16) (x1 : Vec F S1024x1024 .bf16) :
    out0_A_2 c i a3 h3 a4 h4 a5 h5 a6 h6 hc0 hc1 x0 x1 = k0_pay2 x0 x1 k0_pay1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz]
  simp only [View.readCov_cons_toLoadRect, View.readCov_unit_zero (S := S1024x1024) _ hz, View.readAt_eq_ld, h3.read_unread, h4.read_unread,
    View.ld_unit_zero (S := S1024x1024) hz]

theorem pay (x0 : FVec Ideal S1024x1024 .bf16) (x1 : FVec Ideal S1024x1024 .bf16) (u : Fin 1024) (l : Fin 1024) :
    k0_pay2 (F := Ideal) x0 x1 (k0_pay1 (F := Ideal)) (ix2 u l) = ∑ e : Fin 1024, x0 (ix2 u e) * x1 (ix2 e l) := by
  pointwise [k0_pay2, k0_pay1]

theorem idx0 : ∀ t : Fin cfg0.N, win0_0.index t = ![t.val / 9, 0] := (by decide +kernel : ∀ t : Fin grid0.N, _)
theorem idx1 : ∀ t : Fin cfg0.N, win0_1.index t = ![0, t.val % 9] := (by decide +kernel : ∀ t : Fin grid0.N, _)
theorem idx2 : ∀ t : Fin cfg0.N, win0_2.index t = ![t.val / 9, t.val % 9] := (by decide +kernel : ∀ t : Fin grid0.N, _)
theorem lt_N (t : Fin cfg0.N) : t.val < 36 := lt_of_lt_of_eq t.isLt N_0

variable (m : (ℓ : Loc nD τ sig) → Buf (Elt Ideal) ℓ) (c : Dev nD)

abbrev X : FVec Ideal S4096x1024 .bf16 := m (c, Proc.tc.devRef main_arg0)
abbrev W : FVec Ideal S1024x9216 .bf16 := m (c, Proc.tc.devRef main_arg1)

/-- The entries of the result. -/
def res (i j : ℕ) : EReal := ∑ e ∈ range 1024, at2 (X m c) i e * at2 (W m c) e j

theorem blk0 (t : Fin cfg0.N) (u : Fin 1024) (e : Fin 1024) :
    (iblk m c 0 t : FVec Ideal S1024x1024 .bf16) (ix2 u e) = at2 (X m c) (1024 * (t.val / 9) + u.val) e.val := by
  have ht := lt_N t
  rw [at2_of _ (show 1024 * (t.val / 9) + u.val < 4096 by omega) e.isLt]
  blk_ext [iblk, V, idx0 t]
theorem blk1 (t : Fin cfg0.N) (l : Fin 1024) (e : Fin 1024) :
    (iblk m c 1 t : FVec Ideal S1024x1024 .bf16) (ix2 e l) = at2 (W m c) e.val (1024 * (t.val % 9) + l.val) := by
  have ht := lt_N t
  rw [at2_of _ e.isLt (show 1024 * (t.val % 9) + l.val < 9216 by omega)]
  blk_ext [iblk, V, idx1 t]

theorem out_at (t : Fin cfg0.N) (u : Fin 1024) (l : Fin 1024) : outsAt0 m c t (ix2 u l) = res m c (1024 * (t.val / 9) + u.val) (1024 * (t.val % 9) + l.val) := by
  unfold outsAt0 res
  rw [out_A, pay, Finset.sum_range]
  simp only [blk0, blk1]

theorem final : (dats m 0 c).arrAt 2 cfg0.N = (fun i => res m c (i 0).val (i 1).val : FVec Ideal S4096x9216 .f32) := by
  refine (dats m 0 c).arrAt_eq_of_covers 2 _ (by decide +kernel) fun t hf b => ?_
  have ht := lt_N t
  blk_simp [idx2 t]
  rw [after0_2]
  refine Eq.trans (congrArg _ (ix2_eta b)) ((out_at m c t (b 0) (b 1)).trans ?_)
  congr 1 <;> omega

end Cert.KernelInIdeal.Hand

namespace Cert.ReferenceInIdeal.Hand

open Cert.ReferenceInIdeal Cert.ReferenceInIdeal.Gen Cert.Blocked
open Idealize.ShloMosaic Idealize.ShloMosaic.TcCoe Idealize.SL.Sem

theorem value (X : FVec Ideal S4096x1024 .bf16) (W : FVec Ideal S1024x9216 .bf16) :
    Host.dotGeneral (φ₁ := .f32) (φ₂ := .f32) dot_S4096x1024_S1024x9216_S4096x9216_1_0_0_1_n_n none (extf .f32 X bitsLt_bf16_f32) (extf .f32 W bitsLt_bf16_f32)
      = (fun i => ∑ e ∈ Finset.range 1024, at2 X (i 0).val e * at2 W e (i 1).val : FVec Ideal S4096x9216 .f32) := by
  funext i
  obtain ⟨r, l, rfl⟩ : ∃ (r : Fin 4096) (l : Fin 9216), i = ix2 r l := ⟨i 0, i 1, ix2_eta i⟩
  show _ = ∑ e ∈ Finset.range 1024, at2 X r.val e * at2 W e l.val
  rw [Finset.sum_range]
  simp only [at2_ix]
  pointwise

end Cert.ReferenceInIdeal.Hand

namespace Cert.Proof

open Idealize.ShloMosaic Idealize.SL.Sem

theorem same_in : Cert.algebraic_KernelInIdeal_ReferenceInIdeal (hKernelInIdeal := Cert.KernelInIdeal.Gen.facts)
    (hReferenceInIdeal := Cert.ReferenceInIdeal.Gen.facts) := by
  intro m g m' g' _ he
  refine ⟨fun c => (fun i => KernelInIdeal.Hand.res m c (i 0).val (i 1).val : FVec Ideal KernelInIdeal.S4096x9216 .f32), ?_, ?_⟩
  · exact (θ_run KernelInIdeal.defs _ _).mono (fun _ h c => ⟨(h c).1.trans (KernelInIdeal.Hand.final m c), (h c).2⟩)
      (KernelInIdeal.Value.run_blocks (F := Ideal) m g)
  · refine (θ_run ReferenceInIdeal.defs _ _).mono (fun _ h c => ⟨(h c).1.trans ((ReferenceInIdeal.Hand.value _ _).trans ?_), (h c).2⟩)
      (ReferenceInIdeal.Value.run (F := Ideal) m' g')
    rw [(he c).1, (he c).2]
    rfl

-- the two programs have one text; that they are equal is checked by computation
set_option smartUnfolding false in
set_option maxHeartbeats 0 in
theorem frame_in : Cert.quiescent_KernelIn (hKernelIn := Cert.KernelIn.Gen.facts) := fun m ρ _ =>
  (θ_run KernelInIdeal.defs _ _).mono (fun _ h => h) (KernelInIdeal.Gen.frame (F := Bits) m ρ)
theorem frame_in_ideal : Cert.quiescent_KernelInIdeal (hKernelInIdeal := Cert.KernelInIdeal.Gen.facts) := fun m ρ _ =>
  KernelInIdeal.Gen.frame (F := Ideal) m ρ
theorem frame_in_reference : Cert.quiescent_ReferenceInIdeal (hReferenceInIdeal := Cert.ReferenceInIdeal.Gen.facts) := fun m ρ _ =>
  (θ_run ReferenceInIdeal.defs _ _).mono (fun _ h => ⟨fun c => (h c).2, sem_eq_zero_of_no_sems (by decide) _⟩)
    (ReferenceInIdeal.Value.run (F := Ideal) m ρ)

end Cert.Proof

end
-- ==== Proof.Gate.lean ====
/- The gates' projection: the value claim and the frames. -/
module

public import proofs.«01_k».proof.Defs
public import proofs.«01_k».proof.Proof.Blocked
public import proofs.«01_k».proof.Proof.Gen.KernelGate
public import proofs.«01_k».proof.Proof.Gen.KernelGateIdeal.Value
public import proofs.«01_k».proof.Proof.Gen.ReferenceGateIdeal.Run
public import Idealize.ShloMosaic.Lib.StableHlo.ReadAt
public import Idealize.ShloMosaic.Lib.Pipeline.ValueKit
public import Idealize.ShloMosaic.Adequacy

@[expose] public section

set_option maxRecDepth 16384

noncomputable section

namespace Cert.KernelGateIdeal.Hand

open Cert.KernelGateIdeal Cert.KernelGateIdeal.Gen Cert.Blocked
open Idealize.ShloMosaic Idealize.ShloMosaic.TcCoe Idealize.SL.Sem
open Finset (range)

theorem out_A {F : FTy → Type} [FloatOps F] (c : Dev nD) (i : grid0.Coords) (a3 : Memref sig .tc .vmem S1024x1024 .bf16) (h3 : a3.IsWhole)
    (a4 : Memref sig .tc .vmem S1x1024x256 .bf16) (h4 : a4.IsWhole)
    (a5 : Memref sig .tc .vmem S1024x256 .f32) (h5 : a5.IsWhole)
    (a6 : Memref sig .tc .vmem S1024x256 .f32) (h6 : a6.IsWhole)
    (hc0 : cond0_0 i) (hc1 : cond0_1 i) (x0 : Vec F S1024x1024 .bf16) (x1 : Vec F S1x1024x256 .bf16) :
    out0_A_2 c i a3 h3 a4 h4 a5 h5 a6 h6 hc0 hc1 x0 x1 = k0_pay2 x0 x1 k0_pay1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz]
  simp only [View.readCov_cons_toLoadRect, View.readCov_unit_zero (S := S1024x256) _ hz, View.readAt_eq_ld, h3.read_unread, h4.read_unread,
    View.ld_unit_zero (S := S1024x1024) hz, View.ld_unit_zero (S := S1x1024x256) hz3]

theorem pay (x0 : FVec Ideal S1024x1024 .bf16) (x1 : FVec Ideal S1x1024x256 .bf16) (u : Fin 1024) (l : Fin 256) :
    k0_pay2 (F := Ideal) x0 x1 (k0_pay1 (F := Ideal)) (ix2 u l) = ∑ e : Fin 1024, x0 (ix2 u e) * x1 (ix3 0 e l) := by
  pointwise [k0_pay2, k0_pay1]

theorem idx0 : ∀ t : Fin cfg0.N, win0_0.index t = ![t.val / 8, 0] := (by decide +kernel : ∀ t : Fin grid0.N, _)
theorem idx1 : ∀ t : Fin cfg0.N, win0_1.index t = ![t.val % 8, 0, 0] := (by decide +kernel : ∀ t : Fin grid0.N, _)
theorem idx2 : ∀ t : Fin cfg0.N, win0_2.index t = ![t.val / 8, t.val % 8] := (by decide +kernel : ∀ t : Fin grid0.N, _)
theorem lt_N (t : Fin cfg0.N) : t.val < 32 := lt_of_lt_of_eq t.isLt N_0

variable (m : (ℓ : Loc nD τ sig) → Buf (Elt Ideal) ℓ) (c : Dev nD)

abbrev X : FVec Ideal S4096x1024 .bf16 := m (c, Proc.tc.devRef main_arg0)
abbrev W : FVec Ideal S1024x2048 .bf16 := m (c, Proc.tc.devRef main_arg1)

/-- The entries of the result. -/
def res (i j : ℕ) : EReal := ∑ e ∈ range 1024, at2 (X m c) i e * at2 (W m c) e j

theorem slabs_at (s : Fin 8) (e : Fin 1024) (l : Fin 256) :
    (V m c main_v1 : FVec Ideal S8x1024x256 .bf16) (ix3 s e l) = at2 (W m c) e.val (256 * s.val + l.val) := by
  rw [at2_of _ e.isLt (show 256 * s.val + l.val < 2048 by omega)]
  unfold V
  after_reads_at
  exact congrArg (fun j => W m c (ix2 e j)) (Fin.ext (by dsimp only; omega))

theorem blk0 (t : Fin cfg0.N) (u : Fin 1024) (e : Fin 1024) :
    (iblk m c 0 t : FVec Ideal S1024x1024 .bf16) (ix2 u e) = at2 (X m c) (1024 * (t.val / 8) + u.val) e.val := by
  have ht := lt_N t
  rw [at2_of _ (show 1024 * (t.val / 8) + u.val < 4096 by omega) e.isLt]
  blk_ext [iblk, V, idx0 t]
theorem blk1 (t : Fin cfg0.N) (l : Fin 256) (e : Fin 1024) :
    (iblk m c 1 t : FVec Ideal S1x1024x256 .bf16) (ix3 0 e l) = at2 (W m c) e.val (256 * (t.val % 8) + l.val) := by
  have ht := lt_N t
  refine Eq.trans ?_ (slabs_at m c ⟨t.val % 8, by omega⟩ e l)
  blk_ext [iblk, V, idx1 t]

theorem out_at (t : Fin cfg0.N) (u : Fin 1024) (l : Fin 256) : outsAt0 m c t (ix2 u l) = res m c (1024 * (t.val / 8) + u.val) (256 * (t.val % 8) + l.val) := by
  unfold outsAt0 res
  rw [out_A, pay, Finset.sum_range]
  simp only [blk0, blk1]

theorem final : (dats m 0 c).arrAt 2 cfg0.N = (fun i => res m c (i 0).val (i 1).val : FVec Ideal S4096x2048 .f32) := by
  refine (dats m 0 c).arrAt_eq_of_covers 2 _ (by decide +kernel) fun t hf b => ?_
  have ht := lt_N t
  blk_simp [idx2 t]
  rw [after0_2]
  refine Eq.trans (congrArg _ (ix2_eta b)) ((out_at m c t (b 0) (b 1)).trans ?_)
  congr 1 <;> omega

end Cert.KernelGateIdeal.Hand

namespace Cert.ReferenceGateIdeal.Hand

open Cert.ReferenceGateIdeal Cert.ReferenceGateIdeal.Gen Cert.Blocked
open Idealize.ShloMosaic Idealize.ShloMosaic.TcCoe Idealize.SL.Sem

theorem value (X : FVec Ideal S4096x1024 .bf16) (W : FVec Ideal S1024x2048 .bf16) :
    Host.dotGeneral (φ₁ := .f32) (φ₂ := .f32) dot_S4096x1024_S1024x2048_S4096x2048_1_0_0_1_n_n none (extf .f32 X bitsLt_bf16_f32) (extf .f32 W bitsLt_bf16_f32)
      = (fun i => ∑ e ∈ Finset.range 1024, at2 X (i 0).val e * at2 W e (i 1).val : FVec Ideal S4096x2048 .f32) := by
  funext i
  obtain ⟨r, l, rfl⟩ : ∃ (r : Fin 4096) (l : Fin 2048), i = ix2 r l := ⟨i 0, i 1, ix2_eta i⟩
  show _ = ∑ e ∈ Finset.range 1024, at2 X r.val e * at2 W e l.val
  rw [Finset.sum_range]
  simp only [at2_ix]
  pointwise

end Cert.ReferenceGateIdeal.Hand

namespace Cert.Proof

open Idealize.ShloMosaic Idealize.SL.Sem

theorem same_gate : Cert.algebraic_KernelGateIdeal_ReferenceGateIdeal (hKernelGateIdeal := Cert.KernelGateIdeal.Gen.facts)
    (hReferenceGateIdeal := Cert.ReferenceGateIdeal.Gen.facts) := by
  intro m g m' g' _ he
  refine ⟨fun c => (fun i => KernelGateIdeal.Hand.res m c (i 0).val (i 1).val : FVec Ideal KernelGateIdeal.S4096x2048 .f32), ?_, ?_⟩
  · exact (θ_run KernelGateIdeal.defs _ _).mono (fun _ h c => ⟨(h c).1.trans (KernelGateIdeal.Hand.final m c), (h c).2⟩)
      (KernelGateIdeal.Value.run_blocks (F := Ideal) m g)
  · refine (θ_run ReferenceGateIdeal.defs _ _).mono (fun _ h c => ⟨(h c).1.trans ((ReferenceGateIdeal.Hand.value _ _).trans ?_), (h c).2⟩)
      (ReferenceGateIdeal.Value.run (F := Ideal) m' g')
    rw [(he c).1, (he c).2]
    rfl

-- the two programs have one text; that they are equal is checked by computation
set_option smartUnfolding false in
set_option maxHeartbeats 0 in
theorem frame_gate : Cert.quiescent_KernelGate (hKernelGate := Cert.KernelGate.Gen.facts) := fun m ρ _ =>
  (θ_run KernelGateIdeal.defs _ _).mono (fun _ h => h) (KernelGateIdeal.Gen.frame (F := Bits) m ρ)
theorem frame_gate_ideal : Cert.quiescent_KernelGateIdeal (hKernelGateIdeal := Cert.KernelGateIdeal.Gen.facts) := fun m ρ _ =>
  KernelGateIdeal.Gen.frame (F := Ideal) m ρ
theorem frame_gate_reference : Cert.quiescent_ReferenceGateIdeal (hReferenceGateIdeal := Cert.ReferenceGateIdeal.Gen.facts) := fun m ρ _ =>
  (θ_run ReferenceGateIdeal.defs _ _).mono (fun _ h => ⟨fun c => (h c).2, sem_eq_zero_of_no_sems (by decide) _⟩)
    (ReferenceGateIdeal.Value.run (F := Ideal) m ρ)

end Cert.Proof

end
-- ==== Proof.Out.lean ====
/- The output projection: the value claim and the frames. -/
module

public import proofs.«01_k».proof.Defs
public import proofs.«01_k».proof.Proof.Blocked
public import proofs.«01_k».proof.Proof.Gen.KernelOut
public import proofs.«01_k».proof.Proof.Gen.KernelOutIdeal.Value
public import proofs.«01_k».proof.Proof.Gen.ReferenceOutIdeal.Run
public import Idealize.ShloMosaic.Lib.Pipeline.ValueKit
public import Idealize.ShloMosaic.Adequacy

@[expose] public section

set_option maxRecDepth 16384

noncomputable section

namespace Cert.KernelOutIdeal.Hand

open Cert.KernelOutIdeal Cert.KernelOutIdeal.Gen Cert.Blocked
open Idealize.ShloMosaic Idealize.ShloMosaic.TcCoe Idealize.SL.Sem
open Finset (range)

theorem out_A {F : FTy → Type} [FloatOps F] (c : Dev nD) (i : grid0.Coords) (a3 : Memref sig .tc .vmem S1024x1024 .bf16) (h3 : a3.IsWhole)
    (a4 : Memref sig .tc .vmem S1024x1024 .bf16) (h4 : a4.IsWhole)
    (a5 : Memref sig .tc .vmem S1024x1024 .f32) (h5 : a5.IsWhole)
    (a6 : Memref sig .tc .vmem S1024x1024 .f32) (h6 : a6.IsWhole)
    (hc0 : cond0_0 i) (hc1 : cond0_1 i) (x0 : Vec F S1024x1024 .bf16) (x1 : Vec F S1024x1024 .bf16) :
    out0_A_2 c i a3 h3 a4 h4 a5 h5 a6 h6 hc0 hc1 x0 x1 = k0_pay2 x0 x1 k0_pay1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz]
  simp only [View.readCov_cons_toLoadRect, View.readCov_unit_zero (S := S1024x1024) _ hz, View.readAt_eq_ld, h3.read_unread, h4.read_unread,
    View.ld_unit_zero (S := S1024x1024) hz]

theorem pay (x0 : FVec Ideal S1024x1024 .bf16) (x1 : FVec Ideal S1024x1024 .bf16) (u : Fin 1024) (l : Fin 1024) :
    k0_pay2 (F := Ideal) x0 x1 (k0_pay1 (F := Ideal)) (ix2 u l) = ∑ e : Fin 1024, x0 (ix2 u e) * x1 (ix2 e l) := by
  pointwise [k0_pay2, k0_pay1]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem lt_N (t : Fin cfg0.N) : t.val < 4 := lt_of_lt_of_eq t.isLt N_0

variable (m : (ℓ : Loc nD τ sig) → Buf (Elt Ideal) ℓ) (c : Dev nD)

abbrev X : FVec Ideal S4096x1024 .bf16 := m (c, Proc.tc.devRef main_arg0)
abbrev W : FVec Ideal S1024x1024 .bf16 := m (c, Proc.tc.devRef main_arg1)

/-- The entries of the result. -/
def res (i j : ℕ) : EReal := ∑ e ∈ range 1024, at2 (X m c) i e * at2 (W m c) e j

theorem blk0 (t : Fin cfg0.N) (u : Fin 1024) (e : Fin 1024) :
    (iblk m c 0 t : FVec Ideal S1024x1024 .bf16) (ix2 u e) = at2 (X m c) (1024 * t.val + u.val) e.val := by
  have ht := lt_N t
  rw [at2_of _ (show 1024 * t.val + u.val < 4096 by omega) e.isLt]
  blk_ext [iblk, V, idx0 t]
theorem blk1 (t : Fin cfg0.N) (l : Fin 1024) (e : Fin 1024) :
    (iblk m c 1 t : FVec Ideal S1024x1024 .bf16) (ix2 e l) = at2 (W m c) e.val (l.val) := by
  have ht := lt_N t
  rw [at2_of _ e.isLt l.isLt]
  blk_ext [iblk, V, idx1 t]

theorem out_at (t : Fin cfg0.N) (u : Fin 1024) (l : Fin 1024) : outsAt0 m c t (ix2 u l) = res m c (1024 * t.val + u.val) (l.val) := by
  unfold outsAt0 res
  rw [out_A, pay, Finset.sum_range]
  simp only [blk0, blk1]

theorem final : (dats m 0 c).arrAt 2 cfg0.N = (fun i => res m c (i 0).val (i 1).val : FVec Ideal S4096x1024 .f32) := by
  refine (dats m 0 c).arrAt_eq_of_covers 2 _ (by decide +kernel) fun t hf b => ?_
  have ht := lt_N t
  blk_simp [idx2 t]
  rw [after0_2]
  refine Eq.trans (congrArg _ (ix2_eta b)) ((out_at m c t (b 0) (b 1)).trans ?_)
  congr 1 <;> omega

end Cert.KernelOutIdeal.Hand

namespace Cert.ReferenceOutIdeal.Hand

open Cert.ReferenceOutIdeal Cert.ReferenceOutIdeal.Gen Cert.Blocked
open Idealize.ShloMosaic Idealize.ShloMosaic.TcCoe Idealize.SL.Sem

theorem value (X : FVec Ideal S4096x1024 .bf16) (W : FVec Ideal S1024x1024 .bf16) :
    Host.dotGeneral (φ₁ := .f32) (φ₂ := .f32) dot_S4096x1024_S1024x1024_S4096x1024_1_0_0_1_n_n none (extf .f32 X bitsLt_bf16_f32) (extf .f32 W bitsLt_bf16_f32)
      = (fun i => ∑ e ∈ Finset.range 1024, at2 X (i 0).val e * at2 W e (i 1).val : FVec Ideal S4096x1024 .f32) := by
  funext i
  obtain ⟨r, l, rfl⟩ : ∃ (r : Fin 4096) (l : Fin 1024), i = ix2 r l := ⟨i 0, i 1, ix2_eta i⟩
  show _ = ∑ e ∈ Finset.range 1024, at2 X r.val e * at2 W e l.val
  rw [Finset.sum_range]
  simp only [at2_ix]
  pointwise

end Cert.ReferenceOutIdeal.Hand

namespace Cert.Proof

open Idealize.ShloMosaic Idealize.SL.Sem

theorem same_out : Cert.algebraic_KernelOutIdeal_ReferenceOutIdeal (hKernelOutIdeal := Cert.KernelOutIdeal.Gen.facts)
    (hReferenceOutIdeal := Cert.ReferenceOutIdeal.Gen.facts) := by
  intro m g m' g' _ he
  refine ⟨fun c => (fun i => KernelOutIdeal.Hand.res m c (i 0).val (i 1).val : FVec Ideal KernelOutIdeal.S4096x1024 .f32), ?_, ?_⟩
  · exact (θ_run KernelOutIdeal.defs _ _).mono (fun _ h c => ⟨(h c).1.trans (KernelOutIdeal.Hand.final m c), (h c).2⟩)
      (KernelOutIdeal.Value.run_blocks (F := Ideal) m g)
  · refine (θ_run ReferenceOutIdeal.defs _ _).mono (fun _ h c => ⟨(h c).1.trans ((ReferenceOutIdeal.Hand.value _ _).trans ?_), (h c).2⟩)
      (ReferenceOutIdeal.Value.run (F := Ideal) m' g')
    rw [(he c).1, (he c).2]
    rfl

-- the two programs have one text; that they are equal is checked by computation
set_option smartUnfolding false in
set_option maxHeartbeats 0 in
theorem frame_out : Cert.quiescent_KernelOut (hKernelOut := Cert.KernelOut.Gen.facts) := fun m ρ _ =>
  (θ_run KernelOutIdeal.defs _ _).mono (fun _ h => h) (KernelOutIdeal.Gen.frame (F := Bits) m ρ)
theorem frame_out_ideal : Cert.quiescent_KernelOutIdeal (hKernelOutIdeal := Cert.KernelOutIdeal.Gen.facts) := fun m ρ _ =>
  KernelOutIdeal.Gen.frame (F := Ideal) m ρ
theorem frame_out_reference : Cert.quiescent_ReferenceOutIdeal (hReferenceOutIdeal := Cert.ReferenceOutIdeal.Gen.facts) := fun m ρ _ =>
  (θ_run ReferenceOutIdeal.defs _ _).mono (fun _ h => ⟨fun c => (h c).2, sem_eq_zero_of_no_sems (by decide) _⟩)
    (ReferenceOutIdeal.Value.run (F := Ideal) m ρ)

end Cert.Proof

end
-- ==== Proof.Gates.lean ====
/- The gradient through the gates: a gate by the hyperbolic tangent and by the exponential, the sum accumulated over the rows, the value
   claim and the frames. -/
module

public import proofs.«01_k».proof.Defs
public import proofs.«01_k».proof.Proof.Blocked
public import proofs.«01_k».proof.Proof.Gen.KernelGates
public import proofs.«01_k».proof.Proof.Gen.KernelGatesIdeal.Value
public import proofs.«01_k».proof.Proof.Gen.ReferenceGatesIdeal.Run
public import Idealize.ShloMosaic.Lib.Pipeline.ValueKit
public import Idealize.ShloMosaic.Adequacy

@[expose] public section

set_option maxRecDepth 16384

noncomputable section

namespace Cert.Gates

open Idealize.ShloMosaic

/-- A gate, as the quotient the reference computes. -/
def gate (z : EReal) : EReal := Ideal.div 1 (1 + Ideal.exp (-z))

theorem half : Ideal.ofBits .f32 0x3F000000#32 = ((1 / 2 : ℝ) : EReal) := by
  simp [Ideal.ofBits, Ideal.ieee]
  rw [← EReal.coe_mul]
  norm_num
/-- The gate the kernel computes is the same, on infinite arguments too. -/
theorem tanh_gate (z : EReal) : Ideal.ofBits .f32 0x3F000000#32 * Ideal.tanh (Ideal.ofBits .f32 0x3F000000#32 * z) + Ideal.ofBits .f32 0x3F000000#32 = gate z := by
  unfold gate
  rw [half]
  induction z using EReal.rec with
  | bot =>
    rw [EReal.coe_mul_bot_of_pos (by norm_num), Ideal.tanh_bot, EReal.neg_bot, Ideal.exp_top, EReal.add_top_of_ne_bot (by decide)]
    unfold Ideal.div
    rw [if_neg (by simp), EReal.inv_top, mul_zero, show (-1 : EReal) = ((-1 : ℝ) : EReal) from rfl, ← EReal.coe_mul, ← EReal.coe_add]
    norm_num
  | top =>
    rw [EReal.coe_mul_top_of_pos (by norm_num), Ideal.tanh_top, EReal.neg_top, Ideal.exp_bot, add_zero]
    unfold Ideal.div
    rw [if_neg (by simp), mul_one, ← EReal.coe_one, ← EReal.coe_add, ← EReal.coe_inv, ← EReal.coe_mul]
    norm_num
  | coe r =>
    have h : (1 + Real.exp (-r)) ≠ 0 := by positivity
    rw [← EReal.coe_mul, Ideal.tanh_coe, ← EReal.coe_mul, ← EReal.coe_add, ← EReal.coe_neg, Ideal.exp_coe, ← EReal.coe_one, ← EReal.coe_add]
    unfold Ideal.div
    rw [if_neg (by exact_mod_cast h), ← EReal.coe_inv, ← EReal.coe_mul, Real.tanh_eq_sinh_div_cosh, Real.sinh_eq, Real.cosh_eq]
    congr 1
    have e : Real.exp (-r) = Real.exp (-(1 / 2 * r)) * Real.exp (-(1 / 2 * r)) := by rw [← Real.exp_add]; congr 1; ring
    have e' : Real.exp (1 / 2 * r) * Real.exp (-(1 / 2 * r)) = 1 := by rw [← Real.exp_add]; simp
    have h1 := Real.exp_pos (1 / 2 * r)
    have h2 := Real.exp_pos (-(1 / 2 * r))
    rw [e]
    generalize Real.exp (1 / 2 * r) = p at *
    generalize Real.exp (-(1 / 2 * r)) = q at *
    have : p + q ≠ 0 := by positivity
    have : 1 + q * q ≠ 0 := by positivity
    field_simp
    linear_combination (2 * q) * e'

/-- An entry of the gradient before the gates: the gates of a row are `s`, the first half of them on `a1`, the others on `a2`. -/
def before (d a1 a2 : Fin 1024 → EReal) (s : Fin 2048 → EReal) (j : Fin 2048) : EReal :=
  (if h : j.val < 1024 then d ⟨j.val, h⟩ * a1 ⟨j.val, h⟩ else d ⟨j.val - 1024, by omega⟩ * a2 ⟨j.val - 1024, by omega⟩) * (s j * (1 - s j))

end Cert.Gates

namespace Cert.KernelGatesIdeal.Hand

open Cert.KernelGatesIdeal Cert.KernelGatesIdeal.Gen Cert.Blocked Cert.Gates
open Idealize.ShloMosaic Idealize.ShloMosaic.TcCoe Idealize.SL.Sem
open Finset (range)

section Cases
variable {F : FTy → Type} [FloatOps F] (c : Dev nD) (i : grid0.Coords) (a2 : Memref sig .tc .vmem S512x1024 .f32) (h2 : a2.IsWhole) (a3 : Memref sig .tc .vmem S512x1024 .f32) (h3 : a3.IsWhole)
  (a4 : Memref sig .tc .vmem S512x1024 .f32) (h4 : a4.IsWhole) (a5 : Memref sig .tc .vmem S512x1024 .f32) (h5 : a5.IsWhole)
  (a6 : Memref sig .tc .vmem S512x1024 .f32) (h6 : a6.IsWhole) (a7 : Memref sig .tc .vmem S1x1024 .f32) (h7 : a7.IsWhole)
  (a8 : Memref sig .tc .vmem S1x1024 .f32) (h8 : a8.IsWhole) (a9 : Memref sig .tc .vmem S512x1024 .bf16) (h9 : a9.IsWhole)
  (a10 : Memref sig .tc .vmem S512x1024 .bf16) (h10 : a10.IsWhole) (a11 : Memref sig .tc .vmem S512x2048 .bf16) (h11 : a11.IsWhole)
  (a12 : Memref sig .tc .vmem S1x2048 .f32) (h12 : a12.IsWhole)
  (x0 x1 x2 x3 x4 : Vec F S512x1024 .f32) (x5 x6 : Vec F S1x1024 .f32) (xo : Vec F S1x2048 .f32)

theorem first_A (hc0 : cond0_0 i) (hc1 : ¬cond0_1 i) : out0_A_7 c i a2 h2 a3 h3 a4 h4 a5 h5 a6 h6 a7 h7 a8 h8 a9 h9 a10 h10 a11 h11 a12 h12 hc0 hc1 x0 x1 x2 x3 x4 x5 x6 = k0_pay2 x0 (k0_pay6 x3 x5) := by
  unfold out0_A_7
  rw [View.read_writes_eq_canon _ _ _ (cover0_A_7 c i a2 h2 a3 h3 a4 h4 a5 h5 a6 h6 a7 h7 a8 h8 a9 h9 a10 h10 a11 h11 a12 h12 hc0 hc1 x0 x1 x2 x3 x4 x5 x6)]
  unfold kernelRun0_A
  dsimp only
  sl_unfold_words
  rw [View.canon_unit_zero hz]
  simp only [View.readAt_eq_ld, h2.read_unread, h3.read_unread, h4.read_unread, h5.read_unread, h6.read_unread, h7.read_unread, h8.read_unread, View.ld_unit_zero (S := S512x1024) hz, View.ld_unit_zero (S := S1x1024) hz, View.ld_unit_zero (S := S1x2048) hz]
theorem second_A (hc0 : cond0_0 i) (hc1 : ¬cond0_1 i) : out0_A_8 c i a2 h2 a3 h3 a4 h4 a5 h5 a6 h6 a7 h7 a8 h8 a9 h9 a10 h10 a11 h11 a12 h12 hc0 hc1 x0 x1 x2 x3 x4 x5 x6 = k0_pay3 x0 (k0_pay7 x4 x6) := by
  unfold out0_A_8
  rw [View.read_writes_eq_canon _ _ _ (cover0_A_8 c i a2 h2 a3 h3 a4 h4 a5 h5 a6 h6 a7 h7 a8 h8 a9 h9 a10 h10 a11 h11 a12 h12 hc0 hc1 x0 x1 x2 x3 x4 x5 x6)]
  unfold kernelRun0_A
  dsimp only
  sl_unfold_words
  rw [View.canon_unit_zero hz]
  simp only [View.readAt_eq_ld, h2.read_unread, h3.read_unread, h4.read_unread, h5.read_unread, h6.read_unread, h7.read_unread, h8.read_unread, View.ld_unit_zero (S := S512x1024) hz, View.ld_unit_zero (S := S1x1024) hz, View.ld_unit_zero (S := S1x2048) hz]
theorem rows_A (hc0 : cond0_0 i) (hc1 : ¬cond0_1 i) : out0_A_9 c i a2 h2 a3 h3 a4 h4 a5 h5 a6 h6 a7 h7 a8 h8 a9 h9 a10 h10 a11 h11 a12 h12 hc0 hc1 x0 x1 x2 x3 x4 x5 x6 = k0_pay4 (k0_pay8 x0 x1 x2 x3 x4 x5 x6) := by
  unfold out0_A_9
  rw [View.read_writes_eq_canon _ _ _ (cover0_A_9 c i a2 h2 a3 h3 a4 h4 a5 h5 a6 h6 a7 h7 a8 h8 a9 h9 a10 h10 a11 h11 a12 h12 hc0 hc1 x0 x1 x2 x3 x4 x5 x6)]
  unfold kernelRun0_A
  dsimp only
  sl_unfold_words
  rw [View.canon_unit_zero hz]
  simp only [View.readAt_eq_ld, h2.read_unread, h3.read_unread, h4.read_unread, h5.read_unread, h6.read_unread, h7.read_unread, h8.read_unread, View.ld_unit_zero (S := S512x1024) hz, View.ld_unit_zero (S := S1x1024) hz, View.ld_unit_zero (S := S1x2048) hz]
theorem sum_A (hc0 : cond0_0 i) (hc1 : ¬cond0_1 i) : out0_A_10 c i a2 h2 a3 h3 a4 h4 a5 h5 a6 h6 a7 h7 a8 h8 a9 h9 a10 h10 a11 h11 a12 h12 hc0 hc1 x0 x1 x2 x3 x4 x5 x6 = k0_pay1 (k0_pay8 x0 x1 x2 x3 x4 x5 x6) := by
  unfold out0_A_10
  rw [View.read_writes_eq_canon _ _ _ (cover0_A_10 c i a2 h2 a3 h3 a4 h4 a5 h5 a6 h6 a7 h7 a8 h8 a9 h9 a10 h10 a11 h11 a12 h12 hc0 hc1 x0 x1 x2 x3 x4 x5 x6)]
  unfold kernelRun0_A
  dsimp only
  sl_unfold_words
  rw [View.canon_unit_zero hz]
  simp only [View.readAt_eq_ld, h2.read_unread, h3.read_unread, h4.read_unread, h5.read_unread, h6.read_unread, h7.read_unread, h8.read_unread, View.ld_unit_zero (S := S512x1024) hz, View.ld_unit_zero (S := S1x1024) hz, View.ld_unit_zero (S := S1x2048) hz]
theorem first_B (hc0 : ¬cond0_0 i) (hc1 : cond0_1 i) : out0_B_7 c i a2 h2 a3 h3 a4 h4 a5 h5 a6 h6 a7 h7 a8 h8 a9 h9 a10 h10 a11 h11 a12 h12 hc0 hc1 x0 x1 x2 x3 x4 x5 x6 xo = k0_pay2 x0 (k0_pay6 x3 x5) := by
  unfold out0_B_7
  rw [View.read_writes_eq_canon _ _ _ (cover0_B_7 c i a2 h2 a3 h3 a4 h4 a5 h5 a6 h6 a7 h7 a8 h8 a9 h9 a10 h10 a11 h11 a12 h12 hc0 hc1 x0 x1 x2 x3 x4 x5 x6 xo)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h12.read_unread, View.ld_unit_zero (S := S512x1024) hz, View.ld_unit_zero (S := S1x1024) hz, View.ld_unit_zero (S := S1x2048) hz]
theorem second_B (hc0 : ¬cond0_0 i) (hc1 : cond0_1 i) : out0_B_8 c i a2 h2 a3 h3 a4 h4 a5 h5 a6 h6 a7 h7 a8 h8 a9 h9 a10 h10 a11 h11 a12 h12 hc0 hc1 x0 x1 x2 x3 x4 x5 x6 xo = k0_pay3 x0 (k0_pay7 x4 x6) := by
  unfold out0_B_8
  rw [View.read_writes_eq_canon _ _ _ (cover0_B_8 c i a2 h2 a3 h3 a4 h4 a5 h5 a6 h6 a7 h7 a8 h8 a9 h9 a10 h10 a11 h11 a12 h12 hc0 hc1 x0 x1 x2 x3 x4 x5 x6 xo)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h12.read_unread, View.ld_unit_zero (S := S512x1024) hz, View.ld_unit_zero (S := S1x1024) hz, View.ld_unit_zero (S := S1x2048) hz]
theorem rows_B (hc0 : ¬cond0_0 i) (hc1 : cond0_1 i) : out0_B_9 c i a2 h2 a3 h3 a4 h4 a5 h5 a6 h6 a7 h7 a8 h8 a9 h9 a10 h10 a11 h11 a12 h12 hc0 hc1 x0 x1 x2 x3 x4 x5 x6 xo = k0_pay4 (k0_pay8 x0 x1 x2 x3 x4 x5 x6) := by
  unfold out0_B_9
  rw [View.read_writes_eq_canon _ _ _ (cover0_B_9 c i a2 h2 a3 h3 a4 h4 a5 h5 a6 h6 a7 h7 a8 h8 a9 h9 a10 h10 a11 h11 a12 h12 hc0 hc1 x0 x1 x2 x3 x4 x5 x6 xo)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h12.read_unread, View.ld_unit_zero (S := S512x1024) hz, View.ld_unit_zero (S := S1x1024) hz, View.ld_unit_zero (S := S1x2048) hz]
theorem sum_B (hc0 : ¬cond0_0 i) (hc1 : cond0_1 i) : out0_B_10 c i a2 h2 a3 h3 a4 h4 a5 h5 a6 h6 a7 h7 a8 h8 a9 h9 a10 h10 a11 h11 a12 h12 hc0 hc1 x0 x1 x2 x3 x4 x5 x6 xo = k0_pay5 (k0_pay8 x0 x1 x2 x3 x4 x5 x6) xo := by
  unfold out0_B_10
  rw [View.read_writes_eq_canon _ _ _ (cover0_B_10 c i a2 h2 a3 h3 a4 h4 a5 h5 a6 h6 a7 h7 a8 h8 a9 h9 a10 h10 a11 h11 a12 h12 hc0 hc1 x0 x1 x2 x3 x4 x5 x6 xo)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h12.read_unread, View.ld_unit_zero (S := S512x1024) hz, View.ld_unit_zero (S := S1x1024) hz, View.ld_unit_zero (S := S1x2048) hz]
end Cases

section Block
variable (d a1 a2 p1 p2 : FVec Ideal S512x1024 .f32) (b1 b2 : FVec Ideal S1x1024 .f32) (u : Fin 512) (l : Fin 1024) (j : Fin 2048)
theorem pay6 : k0_pay6 (F := Ideal) p1 b1 (ix2 u l) = gate (p1 (ix2 u l) + b1 (ix2 0 l)) := by
  pointwise [k0_pay6]
  rw [tanh_gate]
theorem pay7 : k0_pay7 (F := Ideal) p1 b1 (ix2 u l) = gate (p1 (ix2 u l) + b1 (ix2 0 l)) := by
  pointwise [k0_pay7]
  rw [tanh_gate]
theorem pay8 : k0_pay8 (F := Ideal) d a1 a2 p1 p2 b1 b2 (ix2 u j) = before (fun l => d (ix2 u l)) (fun l => a1 (ix2 u l)) (fun l => a2 (ix2 u l))
    (fun j => if h : j.val < 1024 then gate (p1 (ix2 u ⟨j.val, h⟩) + b1 (ix2 0 ⟨j.val, h⟩))
      else gate (p2 (ix2 u ⟨j.val - 1024, by omega⟩) + b2 (ix2 0 ⟨j.val - 1024, by omega⟩))) j := by
  pointwise [k0_pay8]
  simp only [pay6, pay7]
  unfold before
  by_cases h : j.val < 1024
  · simp only [dif_pos h, mul_assoc]
  · simp only [dif_neg h, mul_assoc]
theorem pay1 (x : FVec Ideal S512x2048 .f32) : k0_pay1 (F := Ideal) x (ix2 0 j) = ∑ u : Fin 512, x (ix2 u j) := by
  pointwise [k0_pay1]
theorem pay5 (x : FVec Ideal S512x2048 .f32) (s : FVec Ideal S1x2048 .f32) : k0_pay5 (F := Ideal) x s (ix2 0 j) = s (ix2 0 j) + ∑ u : Fin 512, x (ix2 u j) := by
  pointwise [k0_pay5]
  rw [pay1]
theorem pay2 (x : FVec Ideal S512x1024 .f32) : k0_pay2 (F := Ideal) d x (ix2 u l) = d (ix2 u l) * x (ix2 u l) := by
  pointwise [k0_pay2]
theorem pay3 (x : FVec Ideal S512x1024 .f32) : k0_pay3 (F := Ideal) d x (ix2 u l) = d (ix2 u l) * x (ix2 u l) := by
  pointwise [k0_pay3]
theorem pay4 (x : FVec Ideal S512x2048 .f32) : k0_pay4 (F := Ideal) x (ix2 u j) = x (ix2 u j) := by
  pointwise [k0_pay4]
end Block

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 1] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 1] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![0, 0] := (by decide +kernel : ∀ t : Fin grid0.N, _)
theorem lt_N (t : Fin cfg0.N) : t.val < 8 := lt_of_lt_of_eq t.isLt N_0

variable (m : (ℓ : Loc nD τ sig) → Buf (Elt Ideal) ℓ) (c : Dev nD)

abbrev A1 : FVec Ideal S4096x1024 .f32 := m (c, Proc.tc.devRef main_arg0)
abbrev A2 : FVec Ideal S4096x1024 .f32 := m (c, Proc.tc.devRef main_arg1)
abbrev P : FVec Ideal S4096x2048 .f32 := m (c, Proc.tc.devRef main_arg2)
abbrev B : FVec Ideal S1x2048 .f32 := m (c, Proc.tc.devRef main_arg3)
abbrev D : FVec Ideal S4096x1024 .f32 := m (c, Proc.tc.devRef main_arg4)

def row (t : Fin cfg0.N) (u : Fin 512) : Fin 4096 := ⟨512 * t.val + u.val, by have := lt_N t; omega⟩

section Window
variable (t : Fin cfg0.N) (u : Fin 512) (l : Fin 1024)
theorem blk0 : (iblk m c 0 t : FVec Ideal S512x1024 .f32) (ix2 u l) = D m c (ix2 (row t u) l) := by
  unfold row
  blk_ext [iblk, V, idx0 t]
theorem blk1 : (iblk m c 1 t : FVec Ideal S512x1024 .f32) (ix2 u l) = A1 m c (ix2 (row t u) l) := by
  unfold row
  blk_ext [iblk, V, idx1 t]
theorem blk2 : (iblk m c 2 t : FVec Ideal S512x1024 .f32) (ix2 u l) = A2 m c (ix2 (row t u) l) := by
  unfold row
  blk_ext [iblk, V, idx2 t]
theorem blk3 : (iblk m c 3 t : FVec Ideal S512x1024 .f32) (ix2 u l) = P m c (ix2 (row t u) ⟨l.val, by omega⟩) := by
  unfold row
  blk_ext [iblk, V, idx3 t]
theorem blk4 : (iblk m c 4 t : FVec Ideal S512x1024 .f32) (ix2 u l) = P m c (ix2 (row t u) ⟨1024 + l.val, by omega⟩) := by
  unfold row
  blk_ext [iblk, V, idx4 t]
theorem blk5 : (iblk m c 5 t : FVec Ideal S1x1024 .f32) (ix2 0 l) = B m c (ix2 0 ⟨l.val, by omega⟩) := by
  blk_ext [iblk, V, idx5 t]
theorem blk6 : (iblk m c 6 t : FVec Ideal S1x1024 .f32) (ix2 0 l) = B m c (ix2 0 ⟨1024 + l.val, by omega⟩) := by
  blk_ext [iblk, V, idx6 t]
end Window

/-- The gate of row `r` and column `j`. -/
def s (r : Fin 4096) (j : Fin 2048) : EReal := gate (P m c (ix2 r j) + B m c (ix2 0 j))
/-- The results: the two gated gradients, and the gradient before the gates. -/
def left : FVec Ideal S4096x1024 .bf16 := fun i => s m c (i 0) ⟨(i 1).val, by have h : (i 1).val < 1024 := (i 1).isLt; omega⟩ * D m c i
def right : FVec Ideal S4096x1024 .bf16 := fun i => s m c (i 0) ⟨1024 + (i 1).val, by have h : (i 1).val < 1024 := (i 1).isLt; omega⟩ * D m c i
def total : FVec Ideal S4096x2048 .bf16 := fun i =>
  before (fun l => D m c (ix2 (i 0) l)) (fun l => A1 m c (ix2 (i 0) l)) (fun l => A2 m c (ix2 (i 0) l)) (s m c (i 0)) (i 1)

theorem left_pay (t : Fin cfg0.N) (u : Fin 512) (l : Fin 1024) :
    k0_pay2 (F := Ideal) (iblk m c 0 t) (k0_pay6 (F := Ideal) (iblk m c 3 t) (iblk m c 5 t)) (ix2 u l) = at2 (left m c) (512 * t.val + u.val) l.val := by
  rw [at2_of _ (show 512 * t.val + u.val < 4096 from (row t u).isLt) l.isLt, pay2, pay6]
  simp only [blk0, blk3, blk5]
  exact mul_comm _ _
theorem right_pay (t : Fin cfg0.N) (u : Fin 512) (l : Fin 1024) :
    k0_pay3 (F := Ideal) (iblk m c 0 t) (k0_pay7 (F := Ideal) (iblk m c 4 t) (iblk m c 6 t)) (ix2 u l) = at2 (right m c) (512 * t.val + u.val) l.val := by
  rw [at2_of _ (show 512 * t.val + u.val < 4096 from (row t u).isLt) l.isLt, pay3, pay7]
  simp only [blk0, blk4, blk6]
  exact mul_comm _ _
theorem gates_at (t : Fin cfg0.N) (u : Fin 512) (j : Fin 2048) : k0_pay8 (F := Ideal) (iblk m c 0 t) (iblk m c 1 t) (iblk m c 2 t) (iblk m c 3 t)
    (iblk m c 4 t) (iblk m c 5 t) (iblk m c 6 t) (ix2 u j) = at2 (total m c) (512 * t.val + u.val) j.val := by
  rw [at2_of _ (show 512 * t.val + u.val < 4096 from (row t u).isLt) j.isLt, pay8]
  simp only [blk0, blk1, blk2, blk3, blk4, blk5, blk6]
  refine congrArg (fun s => before _ _ _ s j) (funext fun j => ?_)
  split
  · rfl
  · rename_i h
    simp only [show 1024 + (j.val - 1024) = j.val by omega]
    rfl
theorem part_at (t : Fin cfg0.N) (j : Fin 2048) : k0_pay1 (F := Ideal) (k0_pay8 (F := Ideal) (iblk m c 0 t) (iblk m c 1 t) (iblk m c 2 t) (iblk m c 3 t)
    (iblk m c 4 t) (iblk m c 5 t) (iblk m c 6 t)) (ix2 0 j) = ∑ e ∈ range 512, at2 (total m c) (512 * t.val + e) j.val := by
  rw [pay1, Finset.sum_range]
  simp only [gates_at]

theorem left_at (t : Fin cfg0.N) (u : Fin 512) (l : Fin 1024) : (outsAt0 m c t.val t.isLt).1 (ix2 u l) = at2 (left m c) (512 * t.val + u.val) l.val := by
  have ht := lt_N t
  rcases Nat.eq_zero_or_pos t.val with h | h
  · rw [outsAt0_A m c t (by omega) (by omega)]
    dsimp only
    rw [first_A, left_pay]
  · rw [outsAt0_B m c t (by omega) (by omega)]
    dsimp only
    rw [first_B, left_pay]
theorem right_at (t : Fin cfg0.N) (u : Fin 512) (l : Fin 1024) : (outsAt0 m c t.val t.isLt).2.1 (ix2 u l) = at2 (right m c) (512 * t.val + u.val) l.val := by
  have ht := lt_N t
  rcases Nat.eq_zero_or_pos t.val with h | h
  · rw [outsAt0_A m c t (by omega) (by omega)]
    dsimp only
    rw [second_A, right_pay]
  · rw [outsAt0_B m c t (by omega) (by omega)]
    dsimp only
    rw [second_B, right_pay]
theorem rows_at (t : Fin cfg0.N) (u : Fin 512) (j : Fin 2048) : (outsAt0 m c t.val t.isLt).2.2.1 (ix2 u j) = at2 (total m c) (512 * t.val + u.val) j.val := by
  have ht := lt_N t
  rcases Nat.eq_zero_or_pos t.val with h | h
  · rw [outsAt0_A m c t (by omega) (by omega)]
    dsimp only
    rw [rows_A, pay4, gates_at]
  · rw [outsAt0_B m c t (by omega) (by omega)]
    dsimp only
    rw [rows_B, pay4, gates_at]

theorem sum_at (n : ℕ) (h : n < cfg0.N) (l : Fin 2048) : (outsAt0 m c n h).2.2.2 (ix2 0 l) = ∑ e ∈ range (512 * (n % 8 + 1)), at2 (total m c) e l.val := by
  refine accumulated (by omega) (fun n h (l : Fin 2048) => (outsAt0 m c n h).2.2.2 (ix2 0 l)) (fun _ l e => at2 (total m c) e l.val) ?_ ?_ n h l
  · intro n h l h0
    have hn : n < 8 := lt_N ⟨n, h⟩
    have e := congrArg (fun x => x.2.2.2) (outsAt0_A m c ⟨n, h⟩ h0 (by show ¬1 ≤ n; omega))
    dsimp only at e ⊢
    rw [e, sum_A, part_at]
    simp only [show n = 0 by omega, mul_zero, zero_add]
  · intro n h l h0
    have hn : n < 8 := lt_N ⟨n, h⟩
    have e := congrArg (fun x => x.2.2.2) (outsAt0_B m c ⟨n, h⟩ h0 (by show 1 ≤ n; omega))
    dsimp only at e ⊢
    rw [e, sum_B, pay5, ← pay1, part_at]
    simp only [show n % 8 = n by omega]

theorem final7 : (dats m 0 c).arrAt 7 cfg0.N = (fun i => at2 (left m c) (i 0).val (i 1).val : FVec Ideal S4096x1024 .bf16) := by
  refine (dats m 0 c).arrAt_eq_of_covers 7 _ (by decide +kernel) fun t hf b => ?_
  have ht := lt_N t
  blk_simp [idx7 t]
  rw [after0_7]
  refine Eq.trans (congrArg _ (Blocked.ix2_eta b)) ((left_at m c t (b 0) (b 1)).trans ?_)
  congr 1 <;> omega
theorem final8 : (dats m 0 c).arrAt 8 cfg0.N = (fun i => at2 (right m c) (i 0).val (i 1).val : FVec Ideal S4096x1024 .bf16) := by
  refine (dats m 0 c).arrAt_eq_of_covers 8 _ (by decide +kernel) fun t hf b => ?_
  have ht := lt_N t
  blk_simp [idx8 t]
  rw [after0_8]
  refine Eq.trans (congrArg _ (Blocked.ix2_eta b)) ((right_at m c t (b 0) (b 1)).trans ?_)
  congr 1 <;> omega
theorem final9 : (dats m 0 c).arrAt 9 cfg0.N = (fun i => at2 (total m c) (i 0).val (i 1).val : FVec Ideal S4096x2048 .bf16) := by
  refine (dats m 0 c).arrAt_eq_of_covers 9 _ (by decide +kernel) fun t hf b => ?_
  have ht := lt_N t
  blk_simp [idx9 t]
  rw [after0_9]
  refine Eq.trans (congrArg _ (Blocked.ix2_eta b)) ((rows_at m c t (b 0) (b 1)).trans ?_)
  congr 1 <;> omega
theorem final10 : (dats m 0 c).arrAt 10 cfg0.N = (fun i => ∑ e ∈ range 4096, at2 (total m c) e (i 1).val : FVec Ideal S1x2048 .f32) := by
  refine (dats m 0 c).arrAt_eq_of_covers 10 _ (by decide +kernel) fun t hf b => ?_
  have ht := lt_N t
  have hf := (flush0_10 t).mp hf
  blk_simp [idx10 t]
  rw [after0_10]
  refine Eq.trans (congrArg _ (ix2_eta1 b)) ((sum_at m c t.val t.isLt (b 1)).trans ?_)
  rw [hf]

end Cert.KernelGatesIdeal.Hand

namespace Cert.Proof

open Idealize.ShloMosaic Idealize.SL.Sem
open Cert.Blocked (at2 at2_ix)

theorem same_gates : Cert.algebraic_KernelGatesIdeal_ReferenceGatesIdeal (hKernelGatesIdeal := Cert.KernelGatesIdeal.Gen.facts)
    (hReferenceGatesIdeal := Cert.ReferenceGatesIdeal.Gen.facts) := by
  intro m g m' g' _ he
  refine ⟨fun c => (fun i => at2 (KernelGatesIdeal.Hand.left m c) (i 0).val (i 1).val : FVec Ideal KernelGatesIdeal.S4096x1024 .bf16),
    fun c => (fun i => at2 (KernelGatesIdeal.Hand.right m c) (i 0).val (i 1).val : FVec Ideal KernelGatesIdeal.S4096x1024 .bf16),
    fun c => (fun i => at2 (KernelGatesIdeal.Hand.total m c) (i 0).val (i 1).val : FVec Ideal KernelGatesIdeal.S4096x2048 .bf16),
    fun c => (fun i => ∑ e ∈ Finset.range 4096, at2 (KernelGatesIdeal.Hand.total m c) e (i 1).val : FVec Ideal KernelGatesIdeal.S1x2048 .f32), ?_, ?_⟩
  · exact (θ_run KernelGatesIdeal.defs _ _).mono (fun _ h c => ⟨(h c).1.trans (KernelGatesIdeal.Hand.final7 m c),
      (h c).2.1.trans (KernelGatesIdeal.Hand.final8 m c), (h c).2.2.1.trans (KernelGatesIdeal.Hand.final9 m c),
      (h c).2.2.2.1.trans (KernelGatesIdeal.Hand.final10 m c), (h c).2.2.2.2⟩)
      (KernelGatesIdeal.Value.run_blocks (F := Ideal) m g)
  · refine (θ_run ReferenceGatesIdeal.defs _ _).mono (fun _ h c => ⟨(h c).1.trans ?_, (h c).2.1.trans ?_, (h c).2.2.1.trans ?_,
      (h c).2.2.2.1.trans ?_, (h c).2.2.2.2⟩) (ReferenceGatesIdeal.Value.run (F := Ideal) m' g')
    all_goals
      obtain ⟨e0, e1, e2, e3, e4⟩ := he c
      funext i
    · obtain ⟨r, l, rfl⟩ : ∃ (r : Fin 4096) (l : Fin 1024), i = ix2 r l := ⟨i 0, i 1, Blocked.ix2_eta i⟩
      refine Eq.trans ?_ (at2_ix _ r l).symm
      pointwise
      simp only [e0, e1, e2, e3, e4]
      rfl
    · obtain ⟨r, l, rfl⟩ : ∃ (r : Fin 4096) (l : Fin 1024), i = ix2 r l := ⟨i 0, i 1, Blocked.ix2_eta i⟩
      refine Eq.trans ?_ (at2_ix _ r l).symm
      pointwise
      simp only [e0, e1, e2, e3, e4]
      rfl
    · obtain ⟨r, l, rfl⟩ : ∃ (r : Fin 4096) (l : Fin 2048), i = ix2 r l := ⟨i 0, i 1, Blocked.ix2_eta i⟩
      refine Eq.trans ?_ (at2_ix _ r l).symm
      pointwise
      simp only [e0, e1, e2, e3, e4]
      rfl
    · obtain ⟨l, rfl⟩ : ∃ (l : Fin 2048), i = ix2 0 l := ⟨i 1, Blocked.ix2_eta1 i⟩
      refine Eq.trans ?_ (Finset.sum_range fun e => at2 (KernelGatesIdeal.Hand.total m c) e l.val).symm
      simp only [at2_ix]
      pointwise
      simp only [e0, e1, e2, e3, e4]
      rfl

-- the two programs have one text; that they are equal is checked by computation
set_option smartUnfolding false in
set_option maxHeartbeats 0 in
theorem frame_gates : Cert.quiescent_KernelGates (hKernelGates := Cert.KernelGates.Gen.facts) := fun m ρ _ =>
  (θ_run KernelGatesIdeal.defs _ _).mono (fun _ h => h) (KernelGatesIdeal.Gen.frame (F := Bits) m ρ)
theorem frame_gates_ideal : Cert.quiescent_KernelGatesIdeal (hKernelGatesIdeal := Cert.KernelGatesIdeal.Gen.facts) := fun m ρ _ =>
  KernelGatesIdeal.Gen.frame (F := Ideal) m ρ
theorem frame_gates_reference : Cert.quiescent_ReferenceGatesIdeal (hReferenceGatesIdeal := Cert.ReferenceGatesIdeal.Gen.facts) := fun m ρ _ =>
  (θ_run ReferenceGatesIdeal.defs _ _).mono (fun _ h => ⟨fun c => (h c).2.2.2.2, sem_eq_zero_of_no_sems (by decide) _⟩)
    (ReferenceGatesIdeal.Value.run (F := Ideal) m ρ)

end Cert.Proof

end
-- ==== Proof.Norm.lean ====
/- The gradient through the block's first norm: a row of it, the sum accumulated over the rows, the value claim and the frames. -/
module

public import proofs.«01_k».proof.Defs
public import proofs.«01_k».proof.Proof.Blocked
public import proofs.«01_k».proof.Proof.Gen.KernelNorm
public import proofs.«01_k».proof.Proof.Gen.KernelNormIdeal.Value
public import proofs.«01_k».proof.Proof.Gen.ReferenceNormIdeal.Run
public import Idealize.ShloMosaic.Lib.Pipeline.ValueKit
public import Idealize.ShloMosaic.Adequacy

@[expose] public section

set_option maxRecDepth 16384

noncomputable section

namespace Cert.Norm

open Idealize.ShloMosaic

/-- A row's mean square and the small number. -/
def meanSq (x : Fin 1024 → EReal) : EReal := Ideal.div (∑ e, x e * x e) (Ideal.ofBits .f32 0x44800000#32) + Ideal.ofBits .f32 0x358637BD#32
/-- What the row is scaled by. -/
def scale (x : Fin 1024 → EReal) : EReal := Ideal.rsqrt (meanSq x)
/-- Half of the change through the mean square, before the row is multiplied in. -/
def through (x g d : Fin 1024 → EReal) : EReal :=
  Ideal.div ((∑ e, x e * (d e * g e)) * (Ideal.ofBits .f32 0xBF000000#32 * Ideal.div (scale x) (meanSq x))) (Ideal.ofBits .f32 0x44800000#32)
/-- An entry of the gradient with respect to the norm's argument. -/
def back (x g d : Fin 1024 → EReal) (l : Fin 1024) : EReal := d l * g l * scale x + x l * through x g d + through x g d * x l

end Cert.Norm

namespace Cert.KernelNormIdeal.Hand

open Cert.KernelNormIdeal Cert.KernelNormIdeal.Gen Cert.Blocked Cert.Norm
open Idealize.ShloMosaic Idealize.ShloMosaic.TcCoe Idealize.SL.Sem
open Finset (range)

section Cases
variable {F : FTy → Type} [FloatOps F] (c : Dev nD) (i : grid0.Coords) (a2 : Memref sig .tc .vmem S512x1024 .f32) (h2 : a2.IsWhole)
  (a3 : Memref sig .tc .vmem S512x1024 .f32) (h3 : a3.IsWhole) (a4 : Memref sig .tc .vmem S512x1024 .f32) (h4 : a4.IsWhole)
  (a5 : Memref sig .tc .vmem S1x1024 .f32) (h5 : a5.IsWhole) (a6 : Memref sig .tc .vmem S512x1024 .f32) (h6 : a6.IsWhole)
  (a7 : Memref sig .tc .vmem S1x1024 .f32) (h7 : a7.IsWhole)
  (x0 x1 x2 : Vec F S512x1024 .f32) (x3 xo : Vec F S1x1024 .f32)

theorem rows_A (hc0 : cond0_0 i) (hc1 : ¬cond0_1 i) : out0_A_4 c i a2 h2 a3 h3 a4 h4 a5 h5 a6 h6 a7 h7 hc0 hc1 x0 x1 x2 x3 = k0_pay5 x0 x1 x2 x3 := by
  unfold out0_A_4
  rw [View.read_writes_eq_canon _ _ _ (cover0_A_4 c i a2 h2 a3 h3 a4 h4 a5 h5 a6 h6 a7 h7 hc0 hc1 x0 x1 x2 x3)]
  unfold kernelRun0_A
  dsimp only
  sl_unfold_words
  rw [View.canon_unit_zero hz]
  simp only [View.readAt_eq_ld, h2.read_unread, h3.read_unread, h4.read_unread, h5.read_unread, View.ld_unit_zero (S := S512x1024) hz, View.ld_unit_zero (S := S1x1024) hz]
theorem rows_B (hc0 : ¬cond0_0 i) (hc1 : cond0_1 i) : out0_B_4 c i a2 h2 a3 h3 a4 h4 a5 h5 a6 h6 a7 h7 hc0 hc1 x0 x1 x2 x3 xo = k0_pay5 x0 x1 x2 x3 := by
  unfold out0_B_4
  rw [View.read_writes_eq_canon _ _ _ (cover0_B_4 c i a2 h2 a3 h3 a4 h4 a5 h5 a6 h6 a7 h7 hc0 hc1 x0 x1 x2 x3 xo)]
  unfold kernelRun0_B
  dsimp only
  sl_unfold_words
  rw [View.canon_unit_zero hz]
  simp only [View.readAt_eq_ld, h2.read_unread, h3.read_unread, h4.read_unread, h5.read_unread, View.ld_unit_zero (S := S512x1024) hz, View.ld_unit_zero (S := S1x1024) hz]
theorem sum_A (hc0 : cond0_0 i) (hc1 : ¬cond0_1 i) : out0_A_5 c i a2 h2 a3 h3 a4 h4 a5 h5 a6 h6 a7 h7 hc0 hc1 x0 x1 x2 x3 = k0_pay4 x1 x2 := by
  unfold out0_A_5
  rw [View.read_writes_eq_canon _ _ _ (cover0_A_5 c i a2 h2 a3 h3 a4 h4 a5 h5 a6 h6 a7 h7 hc0 hc1 x0 x1 x2 x3)]
  unfold kernelRun0_A
  dsimp only
  sl_unfold_words
  rw [View.canon_unit_zero hz]
  simp only [View.readAt_eq_ld, h3.read_unread, h4.read_unread, View.ld_unit_zero (S := S512x1024) hz]
theorem sum_B (hc0 : ¬cond0_0 i) (hc1 : cond0_1 i) : out0_B_5 c i a2 h2 a3 h3 a4 h4 a5 h5 a6 h6 a7 h7 hc0 hc1 x0 x1 x2 x3 xo = k0_pay1 (k0_pay4 x1 x2) xo := by
  unfold out0_B_5
  rw [View.read_writes_eq_canon _ _ _ (cover0_B_5 c i a2 h2 a3 h3 a4 h4 a5 h5 a6 h6 a7 h7 hc0 hc1 x0 x1 x2 x3 xo)]
  unfold kernelRun0_B
  dsimp only
  sl_unfold_words
  rw [View.canon_unit_zero hz]
  simp only [View.readAt_eq_ld, h3.read_unread, h4.read_unread, h7.read_unread, View.ld_unit_zero (S := S512x1024) hz, View.ld_unit_zero (S := S1x1024) hz]
end Cases

section Block
variable (x d e : FVec Ideal S512x1024 .f32) (g : FVec Ideal S1x1024 .f32) (u : Fin 512) (l : Fin 1024)

theorem pay2 : k0_pay2 (F := Ideal) x (ix2 u 0) = meanSq (fun l => x (ix2 u l)) := by
  pointwise [k0_pay2]
  rfl
theorem pay3 : k0_pay3 (F := Ideal) x (ix2 u 0) = scale (fun l => x (ix2 u l)) := by
  pointwise [k0_pay3]
  rw [pay2]
  rfl
theorem pay4 : k0_pay4 (F := Ideal) d x (ix2 0 l) = ∑ u : Fin 512, x (ix2 u l) * scale (fun l => x (ix2 u l)) * d (ix2 u l) := by
  pointwise [k0_pay4]
  simp only [pay3]
theorem pay1 (s a : FVec Ideal S1x1024 .f32) : k0_pay1 (F := Ideal) s a (ix2 0 l) = a (ix2 0 l) + s (ix2 0 l) := by
  pointwise [k0_pay1]
theorem pay5 : k0_pay5 (F := Ideal) e d x g (ix2 u l)
    = e (ix2 u l) + back (fun l => x (ix2 u l)) (fun l => g (ix2 0 l)) (fun l => d (ix2 u l)) l := by
  pointwise [k0_pay5]
  simp only [pay3, pay2, Fin.sum_univ_one]
  rfl
end Block

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem lt_N (t : Fin cfg0.N) : t.val < 8 := lt_of_lt_of_eq t.isLt N_0

variable (m : (ℓ : Loc nD τ sig) → Buf (Elt Ideal) ℓ) (c : Dev nD)

abbrev X : FVec Ideal S4096x1024 .f32 := m (c, Proc.tc.devRef main_arg0)
abbrev G : FVec Ideal S1x1024 .f32 := m (c, Proc.tc.devRef main_arg1)
abbrev D1 : FVec Ideal S4096x1024 .f32 := m (c, Proc.tc.devRef main_arg2)
abbrev D : FVec Ideal S4096x1024 .f32 := m (c, Proc.tc.devRef main_arg3)

def row (t : Fin cfg0.N) (u : Fin 512) : Fin 4096 := ⟨512 * t.val + u.val, by have := lt_N t; omega⟩

theorem blk0 (t : Fin cfg0.N) (u : Fin 512) (l : Fin 1024) : (iblk m c 0 t : FVec Ideal S512x1024 .f32) (ix2 u l) = D1 m c (ix2 (row t u) l) := by
  unfold row
  blk_ext [iblk, V, idx0 t]
theorem blk1 (t : Fin cfg0.N) (u : Fin 512) (l : Fin 1024) : (iblk m c 1 t : FVec Ideal S512x1024 .f32) (ix2 u l) = D m c (ix2 (row t u) l) := by
  unfold row
  blk_ext [iblk, V, idx1 t]
theorem blk2 (t : Fin cfg0.N) (u : Fin 512) (l : Fin 1024) : (iblk m c 2 t : FVec Ideal S512x1024 .f32) (ix2 u l) = X m c (ix2 (row t u) l) := by
  unfold row
  blk_ext [iblk, V, idx2 t]
theorem blk3 (t : Fin cfg0.N) (l : Fin 1024) : (iblk m c 3 t : FVec Ideal S1x1024 .f32) (ix2 0 l) = G m c (ix2 0 l) := by
  blk_ext [iblk, V, idx3 t]

/-- The gradient with respect to the block's input. -/
def total : FVec Ideal S4096x1024 .f32 := fun i =>
  D1 m c i + back (fun l => X m c (ix2 (i 0) l)) (fun l => G m c (ix2 0 l)) (fun l => D m c (ix2 (i 0) l)) (i 1)
/-- A row's part of the gradient of the norm's weight. -/
def part : FVec Ideal S4096x1024 .f32 := fun i => X m c i * scale (fun l => X m c (ix2 (i 0) l)) * D m c i

theorem total_at (t : Fin cfg0.N) (u : Fin 512) (l : Fin 1024) :
    k0_pay5 (F := Ideal) (iblk m c 0 t) (iblk m c 1 t) (iblk m c 2 t) (iblk m c 3 t) (ix2 u l) = at2 (total m c) (512 * t.val + u.val) l.val := by
  rw [at2_of _ (show 512 * t.val + u.val < 4096 from (row t u).isLt) l.isLt, pay5]
  simp only [blk0, blk1, blk2, blk3]
  rfl
theorem part_at (t : Fin cfg0.N) (l : Fin 1024) :
    k0_pay4 (F := Ideal) (iblk m c 1 t) (iblk m c 2 t) (ix2 0 l) = ∑ e ∈ range 512, at2 (part m c) (512 * t.val + e) l.val := by
  rw [pay4, Finset.sum_range]
  refine Finset.sum_congr rfl fun u _ => ?_
  rw [at2_of _ (show 512 * t.val + u.val < 4096 from (row t u).isLt) l.isLt]
  simp only [blk1, blk2]
  rfl

theorem rows_at (t : Fin cfg0.N) (u : Fin 512) (l : Fin 1024) : (outsAt0 m c t.val t.isLt).1 (ix2 u l) = at2 (total m c) (512 * t.val + u.val) l.val := by
  have ht := lt_N t
  rcases Nat.eq_zero_or_pos t.val with h | h
  · rw [outsAt0_A m c t (by omega) (by omega)]
    dsimp only
    rw [rows_A, total_at]
  · rw [outsAt0_B m c t (by omega) (by omega)]
    dsimp only
    rw [rows_B, total_at]

theorem sum_at (n : ℕ) (h : n < cfg0.N) (l : Fin 1024) : (outsAt0 m c n h).2 (ix2 0 l) = ∑ e ∈ range (512 * (n % 8 + 1)), at2 (part m c) e l.val := by
  refine accumulated (by omega) (fun n h (l : Fin 1024) => (outsAt0 m c n h).2 (ix2 0 l)) (fun _ l e => at2 (part m c) e l.val) ?_ ?_ n h l
  · intro n h l h0
    have hn : n < 8 := lt_N ⟨n, h⟩
    have e := congrArg Prod.snd (outsAt0_A m c ⟨n, h⟩ h0 (by show ¬1 ≤ n; omega))
    dsimp only at e ⊢
    rw [e, sum_A, part_at]
    simp only [show n = 0 by omega, mul_zero, zero_add]
  · intro n h l h0
    have hn : n < 8 := lt_N ⟨n, h⟩
    have e := congrArg Prod.snd (outsAt0_B m c ⟨n, h⟩ h0 (by show 1 ≤ n; omega))
    dsimp only at e ⊢
    rw [e, sum_B, pay1, part_at]
    simp only [show n % 8 = n by omega]

theorem final4 : (dats m 0 c).arrAt 4 cfg0.N = (fun i => at2 (total m c) (i 0).val (i 1).val : FVec Ideal S4096x1024 .f32) := by
  refine (dats m 0 c).arrAt_eq_of_covers 4 _ (by decide +kernel) fun t hf b => ?_
  have ht := lt_N t
  blk_simp [idx4 t]
  rw [after0_4]
  refine Eq.trans (congrArg _ (Blocked.ix2_eta b)) ((rows_at m c t (b 0) (b 1)).trans ?_)
  congr 1 <;> omega
theorem final5 : (dats m 0 c).arrAt 5 cfg0.N = (fun i => ∑ e ∈ range 4096, at2 (part m c) e (i 1).val : FVec Ideal S1x1024 .f32) := by
  refine (dats m 0 c).arrAt_eq_of_covers 5 _ (by decide +kernel) fun t hf b => ?_
  have ht := lt_N t
  have hf := (flush0_5 t).mp hf
  blk_simp [idx5 t]
  rw [after0_5]
  refine Eq.trans (congrArg _ (ix2_eta1 b)) ((sum_at m c t.val t.isLt (b 1)).trans ?_)
  rw [hf]

end Cert.KernelNormIdeal.Hand

namespace Cert.Proof

open Idealize.ShloMosaic Idealize.SL.Sem
open Cert.Blocked (at2 at2_ix)

theorem same_norm : Cert.algebraic_KernelNormIdeal_ReferenceNormIdeal (hKernelNormIdeal := Cert.KernelNormIdeal.Gen.facts)
    (hReferenceNormIdeal := Cert.ReferenceNormIdeal.Gen.facts) := by
  intro m g m' g' _ he
  refine ⟨fun c => (fun i => at2 (KernelNormIdeal.Hand.total m c) (i 0).val (i 1).val : FVec Ideal KernelNormIdeal.S4096x1024 .f32),
    fun c => (fun i => ∑ e ∈ Finset.range 4096, at2 (KernelNormIdeal.Hand.part m c) e (i 1).val : FVec Ideal KernelNormIdeal.S1x1024 .f32), ?_, ?_⟩
  · exact (θ_run KernelNormIdeal.defs _ _).mono (fun _ h c => ⟨(h c).1.trans (KernelNormIdeal.Hand.final4 m c),
      (h c).2.1.trans (KernelNormIdeal.Hand.final5 m c), (h c).2.2⟩)
      (KernelNormIdeal.Value.run_blocks (F := Ideal) m g)
  · refine (θ_run ReferenceNormIdeal.defs _ _).mono (fun _ h c => ⟨(h c).1.trans ?_, (h c).2.1.trans ?_, (h c).2.2⟩)
      (ReferenceNormIdeal.Value.run (F := Ideal) m' g')
    · obtain ⟨e0, e1, e2, e3⟩ := he c
      funext i
      obtain ⟨r, l, rfl⟩ : ∃ (r : Fin 4096) (l : Fin 1024), i = ix2 r l := ⟨i 0, i 1, Blocked.ix2_eta i⟩
      simp only [e0, e1, e2, e3]
      refine Eq.trans ?_ (at2_ix _ r l).symm
      pointwise
      simp only [Fin.sum_univ_one]
      rfl
    · obtain ⟨e0, e1, e2, e3⟩ := he c
      funext i
      obtain ⟨l, rfl⟩ : ∃ (l : Fin 1024), i = ix2 0 l := ⟨i 1, Blocked.ix2_eta1 i⟩
      simp only [e0, e1, e2, e3]
      refine Eq.trans ?_ (Finset.sum_range fun e => at2 (KernelNormIdeal.Hand.part m c) e l.val).symm
      simp only [at2_ix]
      pointwise
      rfl

-- the two programs have one text; that they are equal is checked by computation
set_option smartUnfolding false in
set_option maxHeartbeats 0 in
theorem frame_norm : Cert.quiescent_KernelNorm (hKernelNorm := Cert.KernelNorm.Gen.facts) := fun m ρ _ =>
  (θ_run KernelNormIdeal.defs _ _).mono (fun _ h => h) (KernelNormIdeal.Gen.frame (F := Bits) m ρ)
theorem frame_norm_ideal : Cert.quiescent_KernelNormIdeal (hKernelNormIdeal := Cert.KernelNormIdeal.Gen.facts) := fun m ρ _ =>
  KernelNormIdeal.Gen.frame (F := Ideal) m ρ
theorem frame_norm_reference : Cert.quiescent_ReferenceNormIdeal (hReferenceNormIdeal := Cert.ReferenceNormIdeal.Gen.facts) := fun m ρ _ =>
  (θ_run ReferenceNormIdeal.defs _ _).mono (fun _ h => ⟨fun c => (h c).2.2, sem_eq_zero_of_no_sems (by decide) _⟩)
    (ReferenceNormIdeal.Value.run (F := Ideal) m ρ)

end Cert.Proof

end
-- ==== Proof.Adam.lean ====
/- AdamW on one device's shard of a weight: the step of each entry, the value claim and the frames. -/
module

public import proofs.«01_k».proof.Defs
public import proofs.«01_k».proof.Proof.Blocked
public import proofs.«01_k».proof.Proof.Gen.KernelAdam
public import proofs.«01_k».proof.Proof.Gen.KernelAdamIdeal.Value
public import proofs.«01_k».proof.Proof.Gen.ReferenceAdamIdeal.Run
public import Idealize.ShloMosaic.Lib.Pipeline.ValueKit
public import Idealize.ShloMosaic.Adequacy

@[expose] public section

set_option maxRecDepth 16384

noncomputable section

namespace Cert.Adam

open Idealize.ShloMosaic Cert.Blocked

/-- The new first moment of an entry with gradient `g` and first moment `a`. -/
def newM (g a : EReal) : EReal := Ideal.ofBits .f32 0x3F666666#32 * a + Ideal.ofBits .f32 0x3DCCCCCD#32 * g
/-- The new second moment of an entry with gradient `g` and second moment `b`. -/
def newV (g b : EReal) : EReal := Ideal.ofBits .f32 0x3F7FBE77#32 * b + Ideal.ofBits .f32 0x3A83126F#32 * (g * g)
/-- What is added to a weight `w`. -/
def delta (g w a b : EReal) : EReal := Ideal.ofBits .f32 0xBA83126F#32
  * (Ideal.div (Ideal.div (newM g a) (Ideal.ofBits .f32 0x3F26BD02#32)) (Ideal.sqrt (Ideal.div (newV g b) (Ideal.ofBits .f32 0x3C231ACC#32)) + Ideal.ofBits .f32 0x322BCC77#32)
    + Ideal.ofBits .f32 0x3C23D70A#32 * w)

section Shard
variable {n R C : ℕ} {e : FTy} (x : FVec Ideal ⟨3, ![n, R, C]⟩ e) (w a b : FVec Ideal ⟨2, ![R, C]⟩ .f32)

/-- The gradient's entry: the parts' sum. -/
def total (i : Fin R) (j : Fin C) : EReal := ∑ k : Fin n, x (ix3 k i j)

/-- The results: the gradient, what is added to the weight, and the two moments. -/
def gradient : FVec Ideal ⟨2, ![R, C]⟩ .f32 := fun i => total x (i 0) (i 1)
def change : FVec Ideal ⟨2, ![R, C]⟩ .f32 := fun i => delta (total x (i 0) (i 1)) (w i) (a i) (b i)
def first : FVec Ideal ⟨2, ![R, C]⟩ .f32 := fun i => newM (total x (i 0) (i 1)) (a i)
def second : FVec Ideal ⟨2, ![R, C]⟩ .f32 := fun i => newV (total x (i 0) (i 1)) (b i)

/-- A result, read at the numbers of its row and column. -/
def placed (y : FVec Ideal ⟨2, ![R, C]⟩ .f32) : FVec Ideal ⟨2, ![R, C]⟩ .f32 := fun i => at2 y (i 0).val (i 1).val
theorem placed_eq (y : FVec Ideal ⟨2, ![R, C]⟩ .f32) : placed y = y := by
  funext i
  obtain ⟨r, l, rfl⟩ : ∃ (r : Fin R) (l : Fin C), i = ix2 r l := ⟨i 0, i 1, Blocked.ix2_eta i⟩
  exact at2_ix _ r l
end Shard

/-- The entry `(u, l)` of a block lies at `(r, l)` of the shard. -/
structure Lies {n R C T : ℕ} {e : FTy} (x : FVec Ideal ⟨3, ![n, R, C]⟩ e) (w a b : FVec Ideal ⟨2, ![R, C]⟩ .f32)
    (x0 : FVec Ideal ⟨3, ![n, T, C]⟩ e) (x1 x2 x3 : FVec Ideal ⟨2, ![T, C]⟩ .f32) (r : Fin R) (u : Fin T) (l : Fin C) : Prop where
  parts : ∀ k, x0 (ix3 k u l) = x (ix3 k r l)
  weight : x1 (ix2 u l) = w (ix2 r l)
  mean : x2 (ix2 u l) = a (ix2 r l)
  square : x3 (ix2 u l) = b (ix2 r l)

namespace Lies
variable {n R C T : ℕ} {e : FTy} {x : FVec Ideal ⟨3, ![n, R, C]⟩ e} {w a b : FVec Ideal ⟨2, ![R, C]⟩ .f32}
  {x0 : FVec Ideal ⟨3, ![n, T, C]⟩ e} {x1 x2 x3 : FVec Ideal ⟨2, ![T, C]⟩ .f32} {r : Fin R} {u : Fin T} {l : Fin C}
  (h : Lies x w a b x0 x1 x2 x3 r u l)
include h
theorem total_eq : total x0 u l = total x r l := Finset.sum_congr rfl fun k _ => h.parts k
theorem gradient_at : total x0 u l = at2 (gradient x) r.val l.val := by
  rw [at2_of _ r.isLt l.isLt, h.total_eq]; rfl
theorem change_at : delta (total x0 u l) (x1 (ix2 u l)) (x2 (ix2 u l)) (x3 (ix2 u l)) = at2 (change x w a b) r.val l.val := by
  rw [at2_of _ r.isLt l.isLt, h.total_eq, h.weight, h.mean, h.square]; rfl
theorem first_at : newM (total x0 u l) (x2 (ix2 u l)) = at2 (first x a) r.val l.val := by
  rw [at2_of _ r.isLt l.isLt, h.total_eq, h.mean]; rfl
theorem second_at : newV (total x0 u l) (x3 (ix2 u l)) = at2 (second x b) r.val l.val := by
  rw [at2_of _ r.isLt l.isLt, h.total_eq, h.square]; rfl
/-- A block's four stores are the results' entries there. -/
theorem placed_of {y4 y5 y6 y7 : EReal} (o : y4 = total x0 u l ∧ y5 = delta (total x0 u l) (x1 (ix2 u l)) (x2 (ix2 u l)) (x3 (ix2 u l))
      ∧ y6 = newM (total x0 u l) (x2 (ix2 u l)) ∧ y7 = newV (total x0 u l) (x3 (ix2 u l))) :
    y4 = at2 (gradient x) r.val l.val ∧ y5 = at2 (change x w a b) r.val l.val ∧ y6 = at2 (first x a) r.val l.val ∧ y7 = at2 (second x b) r.val l.val :=
  ⟨o.1.trans h.gradient_at, o.2.1.trans h.change_at, o.2.2.1.trans h.first_at, o.2.2.2.trans h.second_at⟩
end Lies

/-- The entry `(u, l)` of a block's four stores, as a step of the entry that is read there. -/
def Step {n T C : ℕ} {e : FTy} (y4 y5 y6 y7 : FVec Ideal ⟨2, ![T, C]⟩ .f32) (x0 : FVec Ideal ⟨3, ![n, T, C]⟩ e) (x1 x2 x3 : FVec Ideal ⟨2, ![T, C]⟩ .f32)
    (u : Fin T) (l : Fin C) : Prop := y4 (ix2 u l) = total x0 u l ∧ y5 (ix2 u l) = delta (total x0 u l) (x1 (ix2 u l)) (x2 (ix2 u l)) (x3 (ix2 u l))
  ∧ y6 (ix2 u l) = newM (total x0 u l) (x2 (ix2 u l)) ∧ y7 (ix2 u l) = newV (total x0 u l) (x3 (ix2 u l))

namespace Step
variable {n R C T : ℕ} {e : FTy} {y4 y5 y6 y7 : FVec Ideal ⟨2, ![T, C]⟩ .f32} {x0 : FVec Ideal ⟨3, ![n, T, C]⟩ e} {x1 x2 x3 : FVec Ideal ⟨2, ![T, C]⟩ .f32}
  {u : Fin T} {l : Fin C}
/-- It is enough that the stores are the step from a gradient `g` that is the parts' sum. -/
theorem of {g : EReal} (hg : g = total x0 u l) (h4 : y4 (ix2 u l) = g) (h5 : y5 (ix2 u l) = delta g (x1 (ix2 u l)) (x2 (ix2 u l)) (x3 (ix2 u l)))
    (h6 : y6 (ix2 u l) = newM g (x2 (ix2 u l))) (h7 : y7 (ix2 u l) = newV g (x3 (ix2 u l))) : Step y4 y5 y6 y7 x0 x1 x2 x3 u l := by
  subst hg; exact ⟨h4, h5, h6, h7⟩
/-- The stores of the block that starts at row `T * t`. -/
theorem stored {x : FVec Ideal ⟨3, ![n, R, C]⟩ e} {w a b : FVec Ideal ⟨2, ![R, C]⟩ .f32} {t : ℕ} {i : (⟨2, ![T, C]⟩ : Shape).Idx} {r : Fin R}
    (o : Step y4 y5 y6 y7 x0 x1 x2 x3 (i 0) (i 1)) (h : Lies x w a b x0 x1 x2 x3 r (i 0) (i 1)) (hr : r.val = T * t + (i 0).val) :
    y4 i = at2 (gradient x) (t * T + (i 0).val) (i 1).val ∧ y5 i = at2 (change x w a b) (t * T + (i 0).val) (i 1).val
    ∧ y6 i = at2 (first x a) (t * T + (i 0).val) (i 1).val ∧ y7 i = at2 (second x b) (t * T + (i 0).val) (i 1).val := by
  rw [Nat.mul_comm t T, ← hr, Blocked.ix2_eta i]
  exact h.placed_of o
end Step

end Cert.Adam

namespace Cert.KernelAdamIdeal.Hand

open Cert.KernelAdamIdeal Cert.KernelAdamIdeal.Gen Cert.Blocked Cert.Adam
open Idealize.ShloMosaic Idealize.ShloMosaic.TcCoe Idealize.SL.Sem

section Block
variable (x0 : FVec Ideal S4x128x512 .bf16) (x1 x2 x3 : FVec Ideal S128x512 .f32) (u : Fin 128) (l : Fin 512)

theorem grad : k0_pay2 (F := Ideal) (View.ld (Val := Elt Ideal) x0 r0_0) (View.ld (Val := Elt Ideal) x0 r0_1) (View.ld (Val := Elt Ideal) x0 r0_2)
    (View.ld (Val := Elt Ideal) x0 r0_3) (ix2 u l) = total x0 u l := by
  unfold total
  rw [Fin.sum_univ_four]
  pointwise [k0_pay2]

theorem out : Step (out0_4 (F := Ideal) x0 x1 x2 x3) (out0_5 (F := Ideal) x0 x1 x2 x3) (out0_6 (F := Ideal) x0 x1 x2 x3) (out0_7 (F := Ideal) x0 x1 x2 x3)
    x0 x1 x2 x3 u l := by
  refine Step.of (grad x0 u l) (by unfold out0_4; rw [View.canon_unit_zero hz]) ?_ ?_ ?_
  all_goals
    first | unfold out0_5 | unfold out0_6 | unfold out0_7
    rw [View.canon_unit_zero hz]
    simp only [View.ld_unit_zero (S := S128x512) hz]
    rfl
end Block

theorem index : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

abbrev X : FVec Ideal S4x1024x512 .bf16 := m (c, Proc.tc.devRef main_arg0)
abbrev W : FVec Ideal S1024x512 .f32 := m (c, Proc.tc.devRef main_arg1)
abbrev A : FVec Ideal S1024x512 .f32 := m (c, Proc.tc.devRef main_arg2)
abbrev B : FVec Ideal S1024x512 .f32 := m (c, Proc.tc.devRef main_arg3)

def row (t : Fin cfg0.N) (u : Fin 128) : Fin 1024 := ⟨128 * t.val + u.val, by have := lt_of_lt_of_eq t.isLt N_0; omega⟩

theorem lies (t : Fin cfg0.N) (u : Fin 128) (l : Fin 512) :
    Lies (X m c) (W m c) (A m c) (B m c) (iblk m c 0 t) (iblk m c 1 t) (iblk m c 2 t) (iblk m c 3 t) (row t u) u l := by
  obtain ⟨i0, i1, i2, i3, -⟩ := index t
  unfold row
  constructor
  on_goal 1 => intro k
  all_goals blk_ext [iblk, V, i0, i1, i2, i3]

theorem final : (dats m 0 c).arrAt 4 cfg0.N = placed (gradient (X m c)) ∧ (dats m 0 c).arrAt 5 cfg0.N = placed (change (X m c) (W m c) (A m c) (B m c))
    ∧ (dats m 0 c).arrAt 6 cfg0.N = placed (first (X m c) (A m c)) ∧ (dats m 0 c).arrAt 7 cfg0.N = placed (second (X m c) (B m c)) := by
  refine ⟨(dats m 0 c).arrAt_eq_of_covers 4 _ (by decide +kernel) fun t _ b => ?_, (dats m 0 c).arrAt_eq_of_covers 5 _ (by decide +kernel) fun t _ b => ?_,
    (dats m 0 c).arrAt_eq_of_covers 6 _ (by decide +kernel) fun t _ b => ?_, (dats m 0 c).arrAt_eq_of_covers 7 _ (by decide +kernel) fun t _ b => ?_⟩
  all_goals
    obtain ⟨-, -, -, -, i4, i5, i6, i7⟩ := index t
    have o := (out (iblk m c 0 t) (iblk m c 1 t) (iblk m c 2 t) (iblk m c 3 t) (b 0) (b 1)).stored (lies m c t (b 0) (b 1)) rfl
    unfold placed
    blk_simp [i4, i5, i6, i7]
  · rw [after0_4]; exact o.1
  · rw [after0_5]; exact o.2.1
  · rw [after0_6]; exact o.2.2.1
  · rw [after0_7]; exact o.2.2.2

end Cert.KernelAdamIdeal.Hand

namespace Cert.Proof

open Idealize.ShloMosaic Idealize.SL.Sem
open Cert.Adam (placed_eq)

theorem same_adam : Cert.algebraic_KernelAdamIdeal_ReferenceAdamIdeal (hKernelAdamIdeal := Cert.KernelAdamIdeal.Gen.facts)
    (hReferenceAdamIdeal := Cert.ReferenceAdamIdeal.Gen.facts) := by
  intro m g m' g' _ he
  refine ⟨fun c => _, fun c => _, fun c => _, fun c => _, (θ_run KernelAdamIdeal.defs _ _).mono (fun _ h c =>
    have f := KernelAdamIdeal.Hand.final m c
    ⟨(h c).1.trans f.1, (h c).2.1.trans f.2.1, (h c).2.2.1.trans f.2.2.1, (h c).2.2.2.1.trans f.2.2.2, (h c).2.2.2.2⟩)
    (KernelAdamIdeal.Value.run_blocks (F := Ideal) m g), ?_⟩
  refine (θ_run ReferenceAdamIdeal.defs _ _).mono (fun _ h c => ⟨(h c).1.trans ?_, (h c).2.1.trans ?_, (h c).2.2.1.trans ?_, (h c).2.2.2.1.trans ?_,
    (h c).2.2.2.2⟩) (ReferenceAdamIdeal.Value.run (F := Ideal) m' g')
  all_goals
    simp only [(he c).1, (he c).2.1, (he c).2.2.1, (he c).2.2.2, placed_eq]
    refine funext fun i => (congrArg _ (Blocked.ix2_eta i)).trans (Eq.trans ?_ (congrArg _ (Blocked.ix2_eta i).symm))
    pointwise
    rfl

-- the two programs have one text; that they are equal is checked by computation
set_option smartUnfolding false in
set_option maxHeartbeats 0 in
theorem frame_adam : Cert.quiescent_KernelAdam (hKernelAdam := Cert.KernelAdam.Gen.facts) := fun m ρ _ =>
  (θ_run KernelAdamIdeal.defs _ _).mono (fun _ h => h) (KernelAdamIdeal.Gen.frame (F := Bits) m ρ)
theorem frame_adam_ideal : Cert.quiescent_KernelAdamIdeal (hKernelAdamIdeal := Cert.KernelAdamIdeal.Gen.facts) := fun m ρ _ =>
  KernelAdamIdeal.Gen.frame (F := Ideal) m ρ
theorem frame_adam_reference : Cert.quiescent_ReferenceAdamIdeal (hReferenceAdamIdeal := Cert.ReferenceAdamIdeal.Gen.facts) := fun m ρ _ =>
  (θ_run ReferenceAdamIdeal.defs _ _).mono (fun _ h => ⟨fun c => (h c).2.2.2.2, sem_eq_zero_of_no_sems (by decide) _⟩)
    (ReferenceAdamIdeal.Value.run (F := Ideal) m ρ)

end Cert.Proof

end
-- ==== Proof.SsdX.lean ====
/- The gradient of the scan branch's projection with respect to its rows: the value claim and the frames. -/
module

public import proofs.«01_k».proof.Defs
public import proofs.«01_k».proof.Proof.Blocked
public import proofs.«01_k».proof.Proof.Gen.KernelSsdX
public import proofs.«01_k».proof.Proof.Gen.KernelSsdXIdeal.Value
public import proofs.«01_k».proof.Proof.Gen.ReferenceSsdXIdeal.Run
public import Idealize.ShloMosaic.Lib.Pipeline.ValueKit
public import Idealize.ShloMosaic.Adequacy

@[expose] public section

set_option maxRecDepth 16384

noncomputable section

namespace Cert.KernelSsdXIdeal.Hand

open Cert.KernelSsdXIdeal Cert.KernelSsdXIdeal.Gen Cert.Blocked
open Idealize.ShloMosaic Idealize.ShloMosaic.TcCoe Idealize.SL.Sem
open Finset (range)

theorem out_A {F : FTy → Type} [FloatOps F] (c : Dev nD) (i : grid0.Coords) (a3 : Memref sig .tc .vmem S1024x1024 .bf16) (h3 : a3.IsWhole)
    (a4 : Memref sig .tc .vmem S1024x1024 .bf16) (h4 : a4.IsWhole)
    (a5 : Memref sig .tc .vmem S1024x1024 .f32) (h5 : a5.IsWhole)
    (a6 : Memref sig .tc .vmem S1024x1024 .f32) (h6 : a6.IsWhole)
    (hc0 : cond0_0 i) (hc1 : cond0_1 i) (x0 : Vec F S1024x1024 .bf16) (x1 : Vec F S1024x1024 .bf16) :
    out0_A_2 c i a3 h3 a4 h4 a5 h5 a6 h6 hc0 hc1 x0 x1 = k0_pay2 x0 x1 k0_pay1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz]
  simp only [View.readCov_cons_toLoadRect, View.readCov_unit_zero (S := S1024x1024) _ hz, View.readAt_eq_ld, h3.read_unread, h4.read_unread,
    View.ld_unit_zero (S := S1024x1024) hz]

theorem pay (x0 : FVec Ideal S1024x1024 .bf16) (x1 : FVec Ideal S1024x1024 .bf16) (u : Fin 1024) (l : Fin 1024) :
    k0_pay2 (F := Ideal) x0 x1 (k0_pay1 (F := Ideal)) (ix2 u l) = ∑ e : Fin 1024, x0 (ix2 u e) * x1 (ix2 l e) := by
  pointwise [k0_pay2, k0_pay1]

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)
theorem lt_N (t : Fin cfg0.N) : t.val < 8 := lt_of_lt_of_eq t.isLt N_0

variable (m : (ℓ : Loc nD τ sig) → Buf (Elt Ideal) ℓ) (c : Dev nD)

abbrev X : FVec Ideal S4096x1024 .bf16 := m (c, Proc.tc.devRef main_arg2)
abbrev W : FVec Ideal S2048x1024 .bf16 := m (c, Proc.tc.devRef main_arg1)

/-- The entries of the result. -/
def res (i j : ℕ) : EReal := ∑ e ∈ range 1024, at2 (X m c) i e * at2 (W m c) j e

theorem blk0 (t : Fin cfg0.N) (u : Fin 1024) (e : Fin 1024) :
    (iblk m c 0 t : FVec Ideal S1024x1024 .bf16) (ix2 u e) = at2 (X m c) (1024 * (t.val / 2) + u.val) e.val := by
  have ht := lt_N t
  rw [at2_of _ (show 1024 * (t.val / 2) + u.val < 4096 by omega) e.isLt]
  blk_ext [iblk, V, idx0 t]
theorem blk1 (t : Fin cfg0.N) (l : Fin 1024) (e : Fin 1024) :
    (iblk m c 1 t : FVec Ideal S1024x1024 .bf16) (ix2 l e) = at2 (W m c) (1024 * (t.val % 2) + l.val) e.val := by
  have ht := lt_N t
  rw [at2_of _ (show 1024 * (t.val % 2) + l.val < 2048 by omega) e.isLt]
  blk_ext [iblk, V, idx1 t]

theorem out_at (t : Fin cfg0.N) (u : Fin 1024) (l : Fin 1024) : outsAt0 m c t (ix2 u l) = res m c (1024 * (t.val / 2) + u.val) (1024 * (t.val % 2) + l.val) := by
  unfold outsAt0 res
  rw [out_A, pay, Finset.sum_range]
  simp only [blk0, blk1]

theorem final : (dats m 0 c).arrAt 2 cfg0.N = (fun i => res m c (i 0).val (i 1).val : FVec Ideal S4096x2048 .f32) := by
  refine (dats m 0 c).arrAt_eq_of_covers 2 _ (by decide +kernel) fun t hf b => ?_
  have ht := lt_N t
  blk_simp [idx2 t]
  rw [after0_2]
  refine Eq.trans (congrArg _ (ix2_eta b)) ((out_at m c t (b 0) (b 1)).trans ?_)
  congr 1 <;> omega

end Cert.KernelSsdXIdeal.Hand

namespace Cert.ReferenceSsdXIdeal.Hand

open Cert.ReferenceSsdXIdeal Cert.ReferenceSsdXIdeal.Gen Cert.Blocked
open Idealize.ShloMosaic Idealize.ShloMosaic.TcCoe Idealize.SL.Sem

theorem value (X : FVec Ideal S4096x1024 .bf16) (W : FVec Ideal S2048x1024 .bf16) :
    Host.dotGeneral (φ₁ := .f32) (φ₂ := .f32) dot_S4096x1024_S2048x1024_S4096x2048_1_1_0_0_n_n none (extf .f32 X bitsLt_bf16_f32) (extf .f32 W bitsLt_bf16_f32)
      = (fun i => ∑ e ∈ Finset.range 1024, at2 X (i 0).val e * at2 W (i 1).val e : FVec Ideal S4096x2048 .f32) := by
  funext i
  obtain ⟨r, l, rfl⟩ : ∃ (r : Fin 4096) (l : Fin 2048), i = ix2 r l := ⟨i 0, i 1, ix2_eta i⟩
  show _ = ∑ e ∈ Finset.range 1024, at2 X r.val e * at2 W l.val e
  rw [Finset.sum_range]
  simp only [at2_ix]
  pointwise

end Cert.ReferenceSsdXIdeal.Hand

namespace Cert.Proof

open Idealize.ShloMosaic Idealize.SL.Sem

theorem same_ssd_x : Cert.algebraic_KernelSsdXIdeal_ReferenceSsdXIdeal (hKernelSsdXIdeal := Cert.KernelSsdXIdeal.Gen.facts)
    (hReferenceSsdXIdeal := Cert.ReferenceSsdXIdeal.Gen.facts) := by
  intro m g m' g' _ he
  refine ⟨fun c => (fun i => KernelSsdXIdeal.Hand.res m c (i 0).val (i 1).val : FVec Ideal KernelSsdXIdeal.S4096x2048 .f32), ?_, ?_⟩
  · exact (θ_run KernelSsdXIdeal.defs _ _).mono (fun _ h c => ⟨(h c).1.trans (KernelSsdXIdeal.Hand.final m c), (h c).2⟩)
      (KernelSsdXIdeal.Value.run_blocks (F := Ideal) m g)
  · refine (θ_run ReferenceSsdXIdeal.defs _ _).mono (fun _ h c => ⟨(h c).1.trans ((ReferenceSsdXIdeal.Hand.value _ _).trans ?_), (h c).2⟩)
      (ReferenceSsdXIdeal.Value.run (F := Ideal) m' g')
    rw [(he c).2.1, (he c).2.2]
    rfl

-- the two programs have one text; that they are equal is checked by computation
set_option smartUnfolding false in
set_option maxHeartbeats 0 in
theorem frame_ssd_x : Cert.quiescent_KernelSsdX (hKernelSsdX := Cert.KernelSsdX.Gen.facts) := fun m ρ _ =>
  (θ_run KernelSsdXIdeal.defs _ _).mono (fun _ h => h) (KernelSsdXIdeal.Gen.frame (F := Bits) m ρ)
theorem frame_ssd_x_ideal : Cert.quiescent_KernelSsdXIdeal (hKernelSsdXIdeal := Cert.KernelSsdXIdeal.Gen.facts) := fun m ρ _ =>
  KernelSsdXIdeal.Gen.frame (F := Ideal) m ρ
theorem frame_ssd_x_reference : Cert.quiescent_ReferenceSsdXIdeal (hReferenceSsdXIdeal := Cert.ReferenceSsdXIdeal.Gen.facts) := fun m ρ _ =>
  (θ_run ReferenceSsdXIdeal.defs _ _).mono (fun _ h => ⟨fun c => (h c).2, sem_eq_zero_of_no_sems (by decide) _⟩)
    (ReferenceSsdXIdeal.Value.run (F := Ideal) m ρ)

end Cert.Proof

end
-- ==== Proof.OutX.lean ====
/- The gradient of the output projection with respect to its rows: the value claim and the frames. -/
module

public import proofs.«01_k».proof.Defs
public import proofs.«01_k».proof.Proof.Blocked
public import proofs.«01_k».proof.Proof.Gen.KernelOutX
public import proofs.«01_k».proof.Proof.Gen.KernelOutXIdeal.Value
public import proofs.«01_k».proof.Proof.Gen.ReferenceOutXIdeal.Run
public import Idealize.ShloMosaic.Lib.Pipeline.ValueKit
public import Idealize.ShloMosaic.Adequacy

@[expose] public section

set_option maxRecDepth 16384

noncomputable section

namespace Cert.KernelOutXIdeal.Hand

open Cert.KernelOutXIdeal Cert.KernelOutXIdeal.Gen Cert.Blocked
open Idealize.ShloMosaic Idealize.ShloMosaic.TcCoe Idealize.SL.Sem
open Finset (range)

theorem out_A {F : FTy → Type} [FloatOps F] (c : Dev nD) (i : grid0.Coords) (a3 : Memref sig .tc .vmem S1024x1024 .bf16) (h3 : a3.IsWhole)
    (a4 : Memref sig .tc .vmem S1024x1024 .bf16) (h4 : a4.IsWhole)
    (a5 : Memref sig .tc .vmem S1024x1024 .f32) (h5 : a5.IsWhole)
    (a6 : Memref sig .tc .vmem S1024x1024 .f32) (h6 : a6.IsWhole)
    (hc0 : cond0_0 i) (hc1 : cond0_1 i) (x0 : Vec F S1024x1024 .bf16) (x1 : Vec F S1024x1024 .bf16) :
    out0_A_2 c i a3 h3 a4 h4 a5 h5 a6 h6 hc0 hc1 x0 x1 = k0_pay2 x0 x1 k0_pay1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz]
  simp only [View.readCov_cons_toLoadRect, View.readCov_unit_zero (S := S1024x1024) _ hz, View.readAt_eq_ld, h3.read_unread, h4.read_unread,
    View.ld_unit_zero (S := S1024x1024) hz]

theorem pay (x0 : FVec Ideal S1024x1024 .bf16) (x1 : FVec Ideal S1024x1024 .bf16) (u : Fin 1024) (l : Fin 1024) :
    k0_pay2 (F := Ideal) x0 x1 (k0_pay1 (F := Ideal)) (ix2 u l) = ∑ e : Fin 1024, x0 (ix2 u e) * x1 (ix2 l e) := by
  pointwise [k0_pay2, k0_pay1]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem lt_N (t : Fin cfg0.N) : t.val < 4 := lt_of_lt_of_eq t.isLt N_0

variable (m : (ℓ : Loc nD τ sig) → Buf (Elt Ideal) ℓ) (c : Dev nD)

abbrev X : FVec Ideal S4096x1024 .bf16 := m (c, Proc.tc.devRef main_arg2)
abbrev W : FVec Ideal S1024x1024 .bf16 := m (c, Proc.tc.devRef main_arg1)

/-- The entries of the result. -/
def res (i j : ℕ) : EReal := ∑ e ∈ range 1024, at2 (X m c) i e * at2 (W m c) j e

theorem blk0 (t : Fin cfg0.N) (u : Fin 1024) (e : Fin 1024) :
    (iblk m c 0 t : FVec Ideal S1024x1024 .bf16) (ix2 u e) = at2 (X m c) (1024 * t.val + u.val) e.val := by
  have ht := lt_N t
  rw [at2_of _ (show 1024 * t.val + u.val < 4096 by omega) e.isLt]
  blk_ext [iblk, V, idx0 t]
theorem blk1 (t : Fin cfg0.N) (l : Fin 1024) (e : Fin 1024) :
    (iblk m c 1 t : FVec Ideal S1024x1024 .bf16) (ix2 l e) = at2 (W m c) (l.val) e.val := by
  have ht := lt_N t
  rw [at2_of _ l.isLt e.isLt]
  blk_ext [iblk, V, idx1 t]

theorem out_at (t : Fin cfg0.N) (u : Fin 1024) (l : Fin 1024) : outsAt0 m c t (ix2 u l) = res m c (1024 * t.val + u.val) (l.val) := by
  unfold outsAt0 res
  rw [out_A, pay, Finset.sum_range]
  simp only [blk0, blk1]

theorem final : (dats m 0 c).arrAt 2 cfg0.N = (fun i => res m c (i 0).val (i 1).val : FVec Ideal S4096x1024 .f32) := by
  refine (dats m 0 c).arrAt_eq_of_covers 2 _ (by decide +kernel) fun t hf b => ?_
  have ht := lt_N t
  blk_simp [idx2 t]
  rw [after0_2]
  refine Eq.trans (congrArg _ (ix2_eta b)) ((out_at m c t (b 0) (b 1)).trans ?_)
  congr 1 <;> omega

end Cert.KernelOutXIdeal.Hand

namespace Cert.ReferenceOutXIdeal.Hand

open Cert.ReferenceOutXIdeal Cert.ReferenceOutXIdeal.Gen Cert.Blocked
open Idealize.ShloMosaic Idealize.ShloMosaic.TcCoe Idealize.SL.Sem

theorem value (X : FVec Ideal S4096x1024 .bf16) (W : FVec Ideal S1024x1024 .bf16) :
    Host.dotGeneral (φ₁ := .f32) (φ₂ := .f32) dot_S4096x1024_S1024x1024_S4096x1024_1_1_0_0_n_n none (extf .f32 X bitsLt_bf16_f32) (extf .f32 W bitsLt_bf16_f32)
      = (fun i => ∑ e ∈ Finset.range 1024, at2 X (i 0).val e * at2 W (i 1).val e : FVec Ideal S4096x1024 .f32) := by
  funext i
  obtain ⟨r, l, rfl⟩ : ∃ (r : Fin 4096) (l : Fin 1024), i = ix2 r l := ⟨i 0, i 1, ix2_eta i⟩
  show _ = ∑ e ∈ Finset.range 1024, at2 X r.val e * at2 W l.val e
  rw [Finset.sum_range]
  simp only [at2_ix]
  pointwise

end Cert.ReferenceOutXIdeal.Hand

namespace Cert.Proof

open Idealize.ShloMosaic Idealize.SL.Sem

theorem same_out_x : Cert.algebraic_KernelOutXIdeal_ReferenceOutXIdeal (hKernelOutXIdeal := Cert.KernelOutXIdeal.Gen.facts)
    (hReferenceOutXIdeal := Cert.ReferenceOutXIdeal.Gen.facts) := by
  intro m g m' g' _ he
  refine ⟨fun c => (fun i => KernelOutXIdeal.Hand.res m c (i 0).val (i 1).val : FVec Ideal KernelOutXIdeal.S4096x1024 .f32), ?_, ?_⟩
  · exact (θ_run KernelOutXIdeal.defs _ _).mono (fun _ h c => ⟨(h c).1.trans (KernelOutXIdeal.Hand.final m c), (h c).2⟩)
      (KernelOutXIdeal.Value.run_blocks (F := Ideal) m g)
  · refine (θ_run ReferenceOutXIdeal.defs _ _).mono (fun _ h c => ⟨(h c).1.trans ((ReferenceOutXIdeal.Hand.value _ _).trans ?_), (h c).2⟩)
      (ReferenceOutXIdeal.Value.run (F := Ideal) m' g')
    rw [(he c).2.1, (he c).2.2]
    rfl

-- the two programs have one text; that they are equal is checked by computation
set_option smartUnfolding false in
set_option maxHeartbeats 0 in
theorem frame_out_x : Cert.quiescent_KernelOutX (hKernelOutX := Cert.KernelOutX.Gen.facts) := fun m ρ _ =>
  (θ_run KernelOutXIdeal.defs _ _).mono (fun _ h => h) (KernelOutXIdeal.Gen.frame (F := Bits) m ρ)
theorem frame_out_x_ideal : Cert.quiescent_KernelOutXIdeal (hKernelOutXIdeal := Cert.KernelOutXIdeal.Gen.facts) := fun m ρ _ =>
  KernelOutXIdeal.Gen.frame (F := Ideal) m ρ
theorem frame_out_x_reference : Cert.quiescent_ReferenceOutXIdeal (hReferenceOutXIdeal := Cert.ReferenceOutXIdeal.Gen.facts) := fun m ρ _ =>
  (θ_run ReferenceOutXIdeal.defs _ _).mono (fun _ h => ⟨fun c => (h c).2, sem_eq_zero_of_no_sems (by decide) _⟩)
    (ReferenceOutXIdeal.Value.run (F := Ideal) m ρ)

end Cert.Proof

end
-- ==== Proof.PleGateX.lean ====
/- The gradient of the embedding's gate with respect to its rows, added to what there is: the value claim and the frames. -/
module

public import proofs.«01_k».proof.Defs
public import proofs.«01_k».proof.Proof.Blocked
public import proofs.«01_k».proof.Proof.Gen.KernelPleGateX
public import proofs.«01_k».proof.Proof.Gen.KernelPleGateXIdeal.Value
public import proofs.«01_k».proof.Proof.Gen.ReferencePleGateXIdeal.Run
public import Idealize.ShloMosaic.Lib.Pipeline.ValueKit
public import Idealize.ShloMosaic.Adequacy

@[expose] public section

set_option maxRecDepth 16384

noncomputable section

namespace Cert.KernelPleGateXIdeal.Hand

open Cert.KernelPleGateXIdeal Cert.KernelPleGateXIdeal.Gen Cert.Blocked
open Idealize.ShloMosaic Idealize.ShloMosaic.TcCoe Idealize.SL.Sem
open Finset (range)

theorem out_A {F : FTy → Type} [FloatOps F] (c : Dev nD) (i : grid0.Coords) (a3 : Memref sig .tc .vmem S1024x1024 .bf16) (h3 : a3.IsWhole)
    (a4 : Memref sig .tc .vmem S1024x1024 .bf16) (h4 : a4.IsWhole)
    (a5 : Memref sig .tc .vmem S1024x1024 .f32) (h5 : a5.IsWhole)
    (a6 : Memref sig .tc .vmem S1024x1024 .f32) (h6 : a6.IsWhole)
    (a7 : Memref sig .tc .vmem S1024x1024 .f32) (h7 : a7.IsWhole)
    (hc0 : cond0_0 i) (hc1 : cond0_1 i) (x0 : Vec F S1024x1024 .bf16) (x1 : Vec F S1024x1024 .bf16) (x2 : Vec F S1024x1024 .f32) :
    out0_A_3 c i a3 h3 a4 h4 a5 h5 a6 h6 a7 h7 hc0 hc1 x0 x1 x2 = k0_pay2 x0 x1 (k0_pay1 x2) := by
  unfold out0_A_3
  rw [View.read_writes_eq_canon _ _ _ (cover0_A_3 c i a3 h3 a4 h4 a5 h5 a6 h6 a7 h7 hc0 hc1 x0 x1 x2)]
  unfold kernelRun0_A
  dsimp only
  sl_unfold_words
  rw [View.canon_unit_zero hz]
  simp only [View.readCov_cons_toLoadRect, View.readCov_unit_zero (S := S1024x1024) _ hz, View.readAt_eq_ld, h3.read_unread, h4.read_unread, h5.read_unread,
    View.ld_unit_zero (S := S1024x1024) hz]

theorem pay (x0 : FVec Ideal S1024x1024 .bf16) (x1 : FVec Ideal S1024x1024 .bf16) (x2 : FVec Ideal S1024x1024 .f32) (u : Fin 1024) (l : Fin 1024) :
    k0_pay2 (F := Ideal) x0 x1 (k0_pay1 (F := Ideal) x2) (ix2 u l) = x2 (ix2 u l) + ∑ e : Fin 1024, x0 (ix2 u e) * x1 (ix2 l e) := by
  pointwise [k0_pay2, k0_pay1]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem lt_N (t : Fin cfg0.N) : t.val < 4 := lt_of_lt_of_eq t.isLt N_0

variable (m : (ℓ : Loc nD τ sig) → Buf (Elt Ideal) ℓ) (c : Dev nD)

abbrev X : FVec Ideal S4096x1024 .bf16 := m (c, Proc.tc.devRef main_arg2)
abbrev W : FVec Ideal S1024x1024 .bf16 := m (c, Proc.tc.devRef main_arg1)
abbrev B : FVec Ideal S4096x1024 .f32 := m (c, Proc.tc.devRef main_arg3)

/-- The entries of the result. -/
def res (i j : ℕ) : EReal := at2 (B m c) i j + ∑ e ∈ range 1024, at2 (X m c) i e * at2 (W m c) j e

theorem blk0 (t : Fin cfg0.N) (u : Fin 1024) (e : Fin 1024) :
    (iblk m c 0 t : FVec Ideal S1024x1024 .bf16) (ix2 u e) = at2 (X m c) (1024 * t.val + u.val) e.val := by
  have ht := lt_N t
  rw [at2_of _ (show 1024 * t.val + u.val < 4096 by omega) e.isLt]
  blk_ext [iblk, V, idx0 t]
theorem blk1 (t : Fin cfg0.N) (l : Fin 1024) (e : Fin 1024) :
    (iblk m c 1 t : FVec Ideal S1024x1024 .bf16) (ix2 l e) = at2 (W m c) (l.val) e.val := by
  have ht := lt_N t
  rw [at2_of _ l.isLt e.isLt]
  blk_ext [iblk, V, idx1 t]
theorem blk2 (t : Fin cfg0.N) (u : Fin 1024) (l : Fin 1024) :
    (iblk m c 2 t : FVec Ideal S1024x1024 .f32) (ix2 u l) = at2 (B m c) (1024 * t.val + u.val) (l.val) := by
  have ht := lt_N t
  rw [at2_of _ (show 1024 * t.val + u.val < 4096 by omega) l.isLt]
  blk_ext [iblk, V, idx2 t]

theorem out_at (t : Fin cfg0.N) (u : Fin 1024) (l : Fin 1024) : outsAt0 m c t (ix2 u l) = res m c (1024 * t.val + u.val) (l.val) := by
  unfold outsAt0 res
  rw [out_A, pay, blk2, Finset.sum_range]
  simp only [blk0, blk1]

theorem final : (dats m 0 c).arrAt 3 cfg0.N = (fun i => res m c (i 0).val (i 1).val : FVec Ideal S4096x1024 .f32) := by
  refine (dats m 0 c).arrAt_eq_of_covers 3 _ (by decide +kernel) fun t hf b => ?_
  have ht := lt_N t
  blk_simp [idx3 t]
  rw [after0_3]
  refine Eq.trans (congrArg _ (ix2_eta b)) ((out_at m c t (b 0) (b 1)).trans ?_)
  congr 1 <;> omega

end Cert.KernelPleGateXIdeal.Hand

namespace Cert.ReferencePleGateXIdeal.Hand

open Cert.ReferencePleGateXIdeal Cert.ReferencePleGateXIdeal.Gen Cert.Blocked
open Idealize.ShloMosaic Idealize.ShloMosaic.TcCoe Idealize.SL.Sem

theorem value (X : FVec Ideal S4096x1024 .bf16) (W : FVec Ideal S1024x1024 .bf16) (B : FVec Ideal S4096x1024 .f32) :
    addf B (Host.dotGeneral (φ₁ := .f32) (φ₂ := .f32) dot_S4096x1024_S1024x1024_S4096x1024_1_1_0_0_n_n none (extf .f32 X bitsLt_bf16_f32) (extf .f32 W bitsLt_bf16_f32))
      = (fun i => at2 B (i 0).val (i 1).val + ∑ e ∈ Finset.range 1024, at2 X (i 0).val e * at2 W (i 1).val e : FVec Ideal S4096x1024 .f32) := by
  funext i
  obtain ⟨r, l, rfl⟩ : ∃ (r : Fin 4096) (l : Fin 1024), i = ix2 r l := ⟨i 0, i 1, ix2_eta i⟩
  show _ = at2 B r.val l.val + ∑ e ∈ Finset.range 1024, at2 X r.val e * at2 W l.val e
  rw [Finset.sum_range]
  simp only [at2_ix]
  pointwise

end Cert.ReferencePleGateXIdeal.Hand

namespace Cert.Proof

open Idealize.ShloMosaic Idealize.SL.Sem

theorem same_ple_gate_x : Cert.algebraic_KernelPleGateXIdeal_ReferencePleGateXIdeal (hKernelPleGateXIdeal := Cert.KernelPleGateXIdeal.Gen.facts)
    (hReferencePleGateXIdeal := Cert.ReferencePleGateXIdeal.Gen.facts) := by
  intro m g m' g' _ he
  refine ⟨fun c => (fun i => KernelPleGateXIdeal.Hand.res m c (i 0).val (i 1).val : FVec Ideal KernelPleGateXIdeal.S4096x1024 .f32), ?_, ?_⟩
  · exact (θ_run KernelPleGateXIdeal.defs _ _).mono (fun _ h c => ⟨(h c).1.trans (KernelPleGateXIdeal.Hand.final m c), (h c).2⟩)
      (KernelPleGateXIdeal.Value.run_blocks (F := Ideal) m g)
  · refine (θ_run ReferencePleGateXIdeal.defs _ _).mono (fun _ h c => ⟨(h c).1.trans ((ReferencePleGateXIdeal.Hand.value _ _ _).trans ?_), (h c).2⟩)
      (ReferencePleGateXIdeal.Value.run (F := Ideal) m' g')
    rw [(he c).2.1, (he c).2.2.1, (he c).2.2.2]
    rfl

-- the two programs have one text; that they are equal is checked by computation
set_option smartUnfolding false in
set_option maxHeartbeats 0 in
theorem frame_ple_gate_x : Cert.quiescent_KernelPleGateX (hKernelPleGateX := Cert.KernelPleGateX.Gen.facts) := fun m ρ _ =>
  (θ_run KernelPleGateXIdeal.defs _ _).mono (fun _ h => h) (KernelPleGateXIdeal.Gen.frame (F := Bits) m ρ)
theorem frame_ple_gate_x_ideal : Cert.quiescent_KernelPleGateXIdeal (hKernelPleGateXIdeal := Cert.KernelPleGateXIdeal.Gen.facts) := fun m ρ _ =>
  KernelPleGateXIdeal.Gen.frame (F := Ideal) m ρ
theorem frame_ple_gate_x_reference : Cert.quiescent_ReferencePleGateXIdeal (hReferencePleGateXIdeal := Cert.ReferencePleGateXIdeal.Gen.facts) := fun m ρ _ =>
  (θ_run ReferencePleGateXIdeal.defs _ _).mono (fun _ h => ⟨fun c => (h c).2, sem_eq_zero_of_no_sems (by decide) _⟩)
    (ReferencePleGateXIdeal.Value.run (F := Ideal) m ρ)

end Cert.Proof

end
-- ==== Proof.SsdW.lean ====
/- The gradient of the weight of the scan branch's projection: what the kernel's accumulator holds, the value claim and the frames. -/
module

public import proofs.«01_k».proof.Defs
public import proofs.«01_k».proof.Proof.Blocked
public import proofs.«01_k».proof.Proof.Gen.KernelSsdW
public import proofs.«01_k».proof.Proof.Gen.KernelSsdWIdeal.Value
public import proofs.«01_k».proof.Proof.Gen.ReferenceSsdWIdeal.Run
public import Idealize.ShloMosaic.Lib.Pipeline.ValueKit
public import Idealize.ShloMosaic.Adequacy

@[expose] public section

set_option maxRecDepth 16384

noncomputable section

namespace Cert.KernelSsdWIdeal.Hand

open Cert.KernelSsdWIdeal Cert.KernelSsdWIdeal.Gen Cert.Blocked
open Idealize.ShloMosaic Idealize.ShloMosaic.TcCoe Idealize.SL.Sem
open Finset (range)

section Cases
variable {F : FTy → Type} [FloatOps F] (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole)
  (x0 x1 : Vec F S1024x1024 .bf16) (xs : Vec F S1024x1024 .f32)

theorem sout_A (hc0 : cond0_0 i) (hc1 : ¬cond0_1 i) : sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]
theorem sout_B (hc0 : ¬cond0_0 i) (hc1 : ¬cond0_1 i) : sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x1024) hz]
theorem sout_C (hc0 : ¬cond0_0 i) (hc1 : cond0_1 i) : sout0_C_0 c i a3 h3 a4 h4 a5 h5 a6 h6 hc0 hc1 x0 x1 xs = k0_pay2 x0 x1 xs := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1024x1024) hz]
theorem out_C (hc0 : ¬cond0_0 i) (hc1 : cond0_1 i) : out0_C_2 c i a3 h3 a4 h4 a5 h5 a6 h6 hc0 hc1 x0 x1 xs = k0_pay2 x0 x1 xs := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]
end Cases

theorem pay1 (u l : Fin 1024) : (k0_pay1 (F := Ideal)) (ix2 u l) = 0 := by
  pointwise [k0_pay1]
theorem pay2 (x0 x1 : FVec Ideal S1024x1024 .bf16) (xs : FVec Ideal S1024x1024 .f32) (u l : Fin 1024) :
    k0_pay2 x0 x1 xs (ix2 u l) = xs (ix2 u l) + ∑ e : Fin 1024, x0 (ix2 e u) * x1 (ix2 e l) := by
  pointwise [k0_pay2]

theorem idx0 : ∀ t : Fin cfg0.N, win0_0.index t = ![t.val % 4, t.val / 4] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, 0] := (by decide +kernel : ∀ t : Fin grid0.N, _)
theorem lt_N (t : Fin cfg0.N) : t.val < 8 := lt_of_lt_of_eq t.isLt N_0

variable (m : (ℓ : Loc nD τ sig) → Buf (Elt Ideal) ℓ) (c : Dev nD)

abbrev R : FVec Ideal S4096x2048 .bf16 := m (c, Proc.tc.devRef main_arg0)
abbrev D : FVec Ideal S4096x1024 .bf16 := m (c, Proc.tc.devRef main_arg2)

/-- The entries of the result. -/
def res (i j : ℕ) : EReal := ∑ e ∈ range 4096, at2 (R m c) e i * at2 (D m c) e j

theorem blk0 (t : Fin cfg0.N) (e u : Fin 1024) :
    (iblk m c 0 t : FVec Ideal S1024x1024 .bf16) (ix2 e u) = at2 (R m c) (1024 * (t.val % 4) + e.val) (1024 * (t.val / 4) + u.val) := by
  have ht := lt_N t
  rw [at2_of _ (show 1024 * (t.val % 4) + e.val < 4096 by omega) (show 1024 * (t.val / 4) + u.val < 2048 by omega)]
  blk_ext [iblk, V, idx0 t]
theorem blk1 (t : Fin cfg0.N) (e l : Fin 1024) :
    (iblk m c 1 t : FVec Ideal S1024x1024 .bf16) (ix2 e l) = at2 (D m c) (1024 * (t.val % 4) + e.val) l.val := by
  have ht := lt_N t
  rw [at2_of _ (show 1024 * (t.val % 4) + e.val < 4096 by omega) l.isLt]
  blk_ext [iblk, V, idx1 t]

theorem dot_at (t : Fin cfg0.N) (xs : FVec Ideal S1024x1024 .f32) (u l : Fin 1024) :
    k0_pay2 (iblk m c 0 t) (iblk m c 1 t) xs (ix2 u l) = xs (ix2 u l)
      + ∑ e ∈ range 1024, at2 (R m c) (1024 * (t.val % 4) + e) (1024 * (t.val / 4) + u.val) * at2 (D m c) (1024 * (t.val % 4) + e) l.val := by
  rw [pay2, Finset.sum_range]
  simp only [blk0, blk1]

theorem acc_at (n : ℕ) (h : n < cfg0.N) (i : Fin 1024 × Fin 1024) : (outsAt0 m c n h).2 (ix2 i.1 i.2)
    = ∑ e ∈ range (1024 * (n % 4 + 1)), at2 (R m c) e (1024 * (n / 4) + i.1.val) * at2 (D m c) e i.2.val := by
  refine accumulated (by omega) (fun n h (i : Fin 1024 × Fin 1024) => (outsAt0 m c n h).2 (ix2 i.1 i.2))
    (fun q i e => at2 (R m c) e (1024 * q + i.1.val) * at2 (D m c) e i.2.val) ?_ ?_ n h i
  · intro n h i h0
    have e := congrArg Prod.snd (outsAt0_A m c ⟨n, h⟩ h0 (by show ¬n % 4 = 3; omega))
    dsimp only at e ⊢
    rw [e, sout_A, dot_at, pay1, zero_add]
    simp only [h0, mul_zero, zero_add]
  · intro n h i h0
    by_cases h1 : n % 4 = 3
    · have e := congrArg Prod.snd (outsAt0_C m c ⟨n, h⟩ h0 h1)
      dsimp only at e ⊢
      rw [e, sout_C, dot_at]
    · have e := congrArg Prod.snd (outsAt0_B m c ⟨n, h⟩ h0 h1)
      dsimp only at e ⊢
      rw [e, sout_B, dot_at]

theorem out_at (t : Fin cfg0.N) (h1 : t.val % 4 = 3) (u l : Fin 1024) :
    (outsAt0 m c t.val t.isLt).1 (ix2 u l) = res m c (1024 * (t.val / 4) + u.val) l.val := by
  have e := acc_at m c t.val t.isLt (u, l)
  rw [outsAt0_C m c t (by omega) h1] at e ⊢
  dsimp only at e ⊢
  rw [sout_C] at e
  rw [out_C, e, h1]
  rfl

theorem final : (dats m 0 c).arrAt 2 cfg0.N = (fun i => res m c (i 0).val (i 1).val : FVec Ideal S2048x1024 .f32) := by
  refine (dats m 0 c).arrAt_eq_of_covers 2 _ (by decide +kernel) fun t hf b => ?_
  have ht := lt_N t
  have hf := (flush0_2 t).mp hf
  blk_simp [idx2 t]
  rw [after0_2]
  refine Eq.trans (congrArg _ (ix2_eta b)) ((out_at m c t hf (b 0) (b 1)).trans ?_)
  congr 1 <;> omega

end Cert.KernelSsdWIdeal.Hand

namespace Cert.ReferenceSsdWIdeal.Hand

open Cert.ReferenceSsdWIdeal Cert.ReferenceSsdWIdeal.Gen Cert.Blocked
open Idealize.ShloMosaic Idealize.ShloMosaic.TcCoe Idealize.SL.Sem

theorem value (X0 : FVec Ideal S4096x2048 .bf16) (X2 : FVec Ideal S4096x1024 .bf16) :
    transpose S2048x1024 [1, 0] (Host.dotGeneral (φ₁ := .f32) (φ₂ := .f32) dot_S4096x1024_S4096x2048_S1024x2048_0_0_1_1_n_n none
        (extf .f32 X2 bitsLt_bf16_f32) (extf .f32 X0 bitsLt_bf16_f32)) transposes_S1024x2048_S2048x1024_1_0
      = (fun i => ∑ e ∈ Finset.range 4096, at2 X0 e (i 0).val * at2 X2 e (i 1).val : FVec Ideal S2048x1024 .f32) := by
  funext i
  obtain ⟨r, l, rfl⟩ : ∃ (r : Fin 2048) (l : Fin 1024), i = ix2 r l := ⟨i 0, i 1, ix2_eta i⟩
  show _ = ∑ e ∈ Finset.range 4096, at2 X0 e r.val * at2 X2 e l.val
  rw [Finset.sum_range]
  simp only [at2_ix, mul_comm (X0 _)]
  pointwise

end Cert.ReferenceSsdWIdeal.Hand

namespace Cert.Proof

open Idealize.ShloMosaic Idealize.SL.Sem

theorem same_ssd_w : Cert.algebraic_KernelSsdWIdeal_ReferenceSsdWIdeal (hKernelSsdWIdeal := Cert.KernelSsdWIdeal.Gen.facts)
    (hReferenceSsdWIdeal := Cert.ReferenceSsdWIdeal.Gen.facts) := by
  intro m g m' g' _ he
  refine ⟨fun c => (fun i => KernelSsdWIdeal.Hand.res m c (i 0).val (i 1).val : FVec Ideal KernelSsdWIdeal.S2048x1024 .f32), ?_, ?_⟩
  · exact (θ_run KernelSsdWIdeal.defs _ _).mono (fun _ h c => ⟨(h c).1.trans (KernelSsdWIdeal.Hand.final m c), (h c).2⟩)
      (KernelSsdWIdeal.Value.run_blocks (F := Ideal) m g)
  · refine (θ_run ReferenceSsdWIdeal.defs _ _).mono (fun _ h c => ⟨(h c).1.trans ((ReferenceSsdWIdeal.Hand.value _ _).trans ?_), (h c).2⟩)
      (ReferenceSsdWIdeal.Value.run (F := Ideal) m' g')
    rw [(he c).1, (he c).2.2]
    rfl

-- the two programs have one text; that they are equal is checked by computation
set_option smartUnfolding false in
set_option maxHeartbeats 0 in
theorem frame_ssd_w : Cert.quiescent_KernelSsdW (hKernelSsdW := Cert.KernelSsdW.Gen.facts) := fun m ρ _ =>
  (θ_run KernelSsdWIdeal.defs _ _).mono (fun _ h => h) (KernelSsdWIdeal.Gen.frame (F := Bits) m ρ)
theorem frame_ssd_w_ideal : Cert.quiescent_KernelSsdWIdeal (hKernelSsdWIdeal := Cert.KernelSsdWIdeal.Gen.facts) := fun m ρ _ =>
  KernelSsdWIdeal.Gen.frame (F := Ideal) m ρ
theorem frame_ssd_w_reference : Cert.quiescent_ReferenceSsdWIdeal (hReferenceSsdWIdeal := Cert.ReferenceSsdWIdeal.Gen.facts) := fun m ρ _ =>
  (θ_run ReferenceSsdWIdeal.defs _ _).mono (fun _ h => ⟨fun c => (h c).2, sem_eq_zero_of_no_sems (by decide) _⟩)
    (ReferenceSsdWIdeal.Value.run (F := Ideal) m ρ)

end Cert.Proof

end
-- ==== Proof.OutW.lean ====
/- The gradient of the output projection's weight: what the kernel's accumulator holds, the value claim and the frames. -/
module

public import proofs.«01_k».proof.Defs
public import proofs.«01_k».proof.Proof.Blocked
public import proofs.«01_k».proof.Proof.Gen.KernelOutW
public import proofs.«01_k».proof.Proof.Gen.KernelOutWIdeal.Value
public import proofs.«01_k».proof.Proof.Gen.ReferenceOutWIdeal.Run
public import Idealize.ShloMosaic.Lib.Pipeline.ValueKit
public import Idealize.ShloMosaic.Adequacy

@[expose] public section

set_option maxRecDepth 16384

noncomputable section

namespace Cert.KernelOutWIdeal.Hand

open Cert.KernelOutWIdeal Cert.KernelOutWIdeal.Gen Cert.Blocked
open Idealize.ShloMosaic Idealize.ShloMosaic.TcCoe Idealize.SL.Sem
open Finset (range)

section Cases
variable {F : FTy → Type} [FloatOps F] (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole)
  (x0 x1 : Vec F S1024x1024 .bf16) (xs : Vec F S1024x1024 .f32)

theorem sout_A (hc0 : cond0_0 i) (hc1 : ¬cond0_1 i) : sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]
theorem sout_B (hc0 : ¬cond0_0 i) (hc1 : ¬cond0_1 i) : sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x1024) hz]
theorem sout_C (hc0 : ¬cond0_0 i) (hc1 : cond0_1 i) : sout0_C_0 c i a3 h3 a4 h4 a5 h5 a6 h6 hc0 hc1 x0 x1 xs = k0_pay2 x0 x1 xs := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1024x1024) hz]
theorem out_C (hc0 : ¬cond0_0 i) (hc1 : cond0_1 i) : out0_C_2 c i a3 h3 a4 h4 a5 h5 a6 h6 hc0 hc1 x0 x1 xs = k0_pay2 x0 x1 xs := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]
end Cases

theorem pay1 (u l : Fin 1024) : (k0_pay1 (F := Ideal)) (ix2 u l) = 0 := by
  pointwise [k0_pay1]
theorem pay2 (x0 x1 : FVec Ideal S1024x1024 .bf16) (xs : FVec Ideal S1024x1024 .f32) (u l : Fin 1024) :
    k0_pay2 x0 x1 xs (ix2 u l) = xs (ix2 u l) + ∑ e : Fin 1024, x0 (ix2 e u) * x1 (ix2 e l) := by
  pointwise [k0_pay2]

theorem idx0 : ∀ t : Fin cfg0.N, win0_0.index t = ![t.val % 4, t.val / 4] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, 0] := (by decide +kernel : ∀ t : Fin grid0.N, _)
theorem lt_N (t : Fin cfg0.N) : t.val < 4 := lt_of_lt_of_eq t.isLt N_0

variable (m : (ℓ : Loc nD τ sig) → Buf (Elt Ideal) ℓ) (c : Dev nD)

abbrev R : FVec Ideal S4096x1024 .bf16 := m (c, Proc.tc.devRef main_arg0)
abbrev D : FVec Ideal S4096x1024 .bf16 := m (c, Proc.tc.devRef main_arg2)

/-- The entries of the result. -/
def res (i j : ℕ) : EReal := ∑ e ∈ range 4096, at2 (R m c) e i * at2 (D m c) e j

theorem blk0 (t : Fin cfg0.N) (e u : Fin 1024) :
    (iblk m c 0 t : FVec Ideal S1024x1024 .bf16) (ix2 e u) = at2 (R m c) (1024 * (t.val % 4) + e.val) (1024 * (t.val / 4) + u.val) := by
  have ht := lt_N t
  rw [at2_of _ (show 1024 * (t.val % 4) + e.val < 4096 by omega) (show 1024 * (t.val / 4) + u.val < 1024 by omega)]
  blk_ext [iblk, V, idx0 t]
theorem blk1 (t : Fin cfg0.N) (e l : Fin 1024) :
    (iblk m c 1 t : FVec Ideal S1024x1024 .bf16) (ix2 e l) = at2 (D m c) (1024 * (t.val % 4) + e.val) l.val := by
  have ht := lt_N t
  rw [at2_of _ (show 1024 * (t.val % 4) + e.val < 4096 by omega) l.isLt]
  blk_ext [iblk, V, idx1 t]

theorem dot_at (t : Fin cfg0.N) (xs : FVec Ideal S1024x1024 .f32) (u l : Fin 1024) :
    k0_pay2 (iblk m c 0 t) (iblk m c 1 t) xs (ix2 u l) = xs (ix2 u l)
      + ∑ e ∈ range 1024, at2 (R m c) (1024 * (t.val % 4) + e) (1024 * (t.val / 4) + u.val) * at2 (D m c) (1024 * (t.val % 4) + e) l.val := by
  rw [pay2, Finset.sum_range]
  simp only [blk0, blk1]

theorem acc_at (n : ℕ) (h : n < cfg0.N) (i : Fin 1024 × Fin 1024) : (outsAt0 m c n h).2 (ix2 i.1 i.2)
    = ∑ e ∈ range (1024 * (n % 4 + 1)), at2 (R m c) e (1024 * (n / 4) + i.1.val) * at2 (D m c) e i.2.val := by
  refine accumulated (by omega) (fun n h (i : Fin 1024 × Fin 1024) => (outsAt0 m c n h).2 (ix2 i.1 i.2))
    (fun q i e => at2 (R m c) e (1024 * q + i.1.val) * at2 (D m c) e i.2.val) ?_ ?_ n h i
  · intro n h i h0
    have e := congrArg Prod.snd (outsAt0_A m c ⟨n, h⟩ h0 (by show ¬n % 4 = 3; omega))
    dsimp only at e ⊢
    rw [e, sout_A, dot_at, pay1, zero_add]
    simp only [h0, mul_zero, zero_add]
  · intro n h i h0
    by_cases h1 : n % 4 = 3
    · have e := congrArg Prod.snd (outsAt0_C m c ⟨n, h⟩ h0 h1)
      dsimp only at e ⊢
      rw [e, sout_C, dot_at]
    · have e := congrArg Prod.snd (outsAt0_B m c ⟨n, h⟩ h0 h1)
      dsimp only at e ⊢
      rw [e, sout_B, dot_at]

theorem out_at (t : Fin cfg0.N) (h1 : t.val % 4 = 3) (u l : Fin 1024) :
    (outsAt0 m c t.val t.isLt).1 (ix2 u l) = res m c (1024 * (t.val / 4) + u.val) l.val := by
  have e := acc_at m c t.val t.isLt (u, l)
  rw [outsAt0_C m c t (by omega) h1] at e ⊢
  dsimp only at e ⊢
  rw [sout_C] at e
  rw [out_C, e, h1]
  rfl

theorem final : (dats m 0 c).arrAt 2 cfg0.N = (fun i => res m c (i 0).val (i 1).val : FVec Ideal S1024x1024 .f32) := by
  refine (dats m 0 c).arrAt_eq_of_covers 2 _ (by decide +kernel) fun t hf b => ?_
  have ht := lt_N t
  have hf := (flush0_2 t).mp hf
  blk_simp [idx2 t]
  rw [after0_2]
  refine Eq.trans (congrArg _ (ix2_eta b)) ((out_at m c t hf (b 0) (b 1)).trans ?_)
  congr 1 <;> omega

end Cert.KernelOutWIdeal.Hand

namespace Cert.ReferenceOutWIdeal.Hand

open Cert.ReferenceOutWIdeal Cert.ReferenceOutWIdeal.Gen Cert.Blocked
open Idealize.ShloMosaic Idealize.ShloMosaic.TcCoe Idealize.SL.Sem

theorem value (X0 : FVec Ideal S4096x1024 .bf16) (X2 : FVec Ideal S4096x1024 .bf16) :
    transpose S1024x1024 [1, 0] (Host.dotGeneral (φ₁ := .f32) (φ₂ := .f32) dot_S4096x1024_S4096x1024_S1024x1024_0_0_1_1_n_n none
        (extf .f32 X2 bitsLt_bf16_f32) (extf .f32 X0 bitsLt_bf16_f32)) transposes_S1024x1024_S1024x1024_1_0
      = (fun i => ∑ e ∈ Finset.range 4096, at2 X0 e (i 0).val * at2 X2 e (i 1).val : FVec Ideal S1024x1024 .f32) := by
  funext i
  obtain ⟨r, l, rfl⟩ : ∃ (r : Fin 1024) (l : Fin 1024), i = ix2 r l := ⟨i 0, i 1, ix2_eta i⟩
  show _ = ∑ e ∈ Finset.range 4096, at2 X0 e r.val * at2 X2 e l.val
  rw [Finset.sum_range]
  simp only [at2_ix, mul_comm (X0 _)]
  pointwise

end Cert.ReferenceOutWIdeal.Hand

namespace Cert.Proof

open Idealize.ShloMosaic Idealize.SL.Sem

theorem same_out_w : Cert.algebraic_KernelOutWIdeal_ReferenceOutWIdeal (hKernelOutWIdeal := Cert.KernelOutWIdeal.Gen.facts)
    (hReferenceOutWIdeal := Cert.ReferenceOutWIdeal.Gen.facts) := by
  intro m g m' g' _ he
  refine ⟨fun c => (fun i => KernelOutWIdeal.Hand.res m c (i 0).val (i 1).val : FVec Ideal KernelOutWIdeal.S1024x1024 .f32), ?_, ?_⟩
  · exact (θ_run KernelOutWIdeal.defs _ _).mono (fun _ h c => ⟨(h c).1.trans (KernelOutWIdeal.Hand.final m c), (h c).2⟩)
      (KernelOutWIdeal.Value.run_blocks (F := Ideal) m g)
  · refine (θ_run ReferenceOutWIdeal.defs _ _).mono (fun _ h c => ⟨(h c).1.trans ((ReferenceOutWIdeal.Hand.value _ _).trans ?_), (h c).2⟩)
      (ReferenceOutWIdeal.Value.run (F := Ideal) m' g')
    rw [(he c).1, (he c).2.2]
    rfl

-- the two programs have one text; that they are equal is checked by computation
set_option smartUnfolding false in
set_option maxHeartbeats 0 in
theorem frame_out_w : Cert.quiescent_KernelOutW (hKernelOutW := Cert.KernelOutW.Gen.facts) := fun m ρ _ =>
  (θ_run KernelOutWIdeal.defs _ _).mono (fun _ h => h) (KernelOutWIdeal.Gen.frame (F := Bits) m ρ)
theorem frame_out_w_ideal : Cert.quiescent_KernelOutWIdeal (hKernelOutWIdeal := Cert.KernelOutWIdeal.Gen.facts) := fun m ρ _ =>
  KernelOutWIdeal.Gen.frame (F := Ideal) m ρ
theorem frame_out_w_reference : Cert.quiescent_ReferenceOutWIdeal (hReferenceOutWIdeal := Cert.ReferenceOutWIdeal.Gen.facts) := fun m ρ _ =>
  (θ_run ReferenceOutWIdeal.defs _ _).mono (fun _ h => ⟨fun c => (h c).2, sem_eq_zero_of_no_sems (by decide) _⟩)
    (ReferenceOutWIdeal.Value.run (F := Ideal) m ρ)

end Cert.Proof

end
-- ==== Proof.GateW.lean ====
/- The gradient of the weight of the gates' projection: what the kernel's accumulator holds, the value claim and the frames. -/
module

public import proofs.«01_k».proof.Defs
public import proofs.«01_k».proof.Proof.Blocked
public import proofs.«01_k».proof.Proof.Gen.KernelGateW
public import proofs.«01_k».proof.Proof.Gen.KernelGateWIdeal.Value
public import proofs.«01_k».proof.Proof.Gen.ReferenceGateWIdeal.Run
public import Idealize.ShloMosaic.Lib.Pipeline.ValueKit
public import Idealize.ShloMosaic.Adequacy

@[expose] public section

set_option maxRecDepth 16384

noncomputable section

namespace Cert.KernelGateWIdeal.Hand

open Cert.KernelGateWIdeal Cert.KernelGateWIdeal.Gen Cert.Blocked
open Idealize.ShloMosaic Idealize.ShloMosaic.TcCoe Idealize.SL.Sem
open Finset (range)

section Cases
variable {F : FTy → Type} [FloatOps F] (c : Dev nD) (i : grid0.Coords) (a3 : Memref sig .tc .vmem S1024x1024 .bf16) (h3 : a3.IsWhole)
  (a4 : Memref sig .tc .vmem S1024x256 .bf16) (h4 : a4.IsWhole) (a5 : Memref sig .tc .vmem S1x1024x256 .f32) (h5 : a5.IsWhole)
  (a6 : Memref sig .tc .vmem S1024x256 .f32) (h6 : a6.IsWhole)
  (x0 : Vec F S1024x1024 .bf16) (x1 : Vec F S1024x256 .bf16) (xs : Vec F S1024x256 .f32)

theorem sout_A (hc0 : cond0_0 i) (hc1 : ¬cond0_1 i) : sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x256) hz, View.readCov_unit_zero (S := S1024x256) _ hz]
  simp only [View.readAt_eq_ld, h3.read_unread, h4.read_unread, View.ld_unit_zero (S := S1024x1024) hz, View.ld_unit_zero (S := S1024x256) hz]
theorem sout_B (hc0 : ¬cond0_0 i) (hc1 : ¬cond0_1 i) : sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x1024) hz, View.ld_unit_zero (S := S1024x256) hz]
theorem sout_C (hc0 : ¬cond0_0 i) (hc1 : cond0_1 i) : sout0_C_0 c i a3 h3 a4 h4 a5 h5 a6 h6 hc0 hc1 x0 x1 xs = k0_pay2 x0 x1 xs := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1024x1024) hz, View.ld_unit_zero (S := S1024x256) hz]
theorem out_C (hc0 : ¬cond0_0 i) (hc1 : cond0_1 i) : out0_C_2 c i a3 h3 a4 h4 a5 h5 a6 h6 hc0 hc1 x0 x1 xs = k0_pay3 (k0_pay2 x0 x1 xs) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz3, View.readCov_unit_zero (S := S1024x256) _ hz]
  simp only [View.readAt_eq_ld, h3.read_unread, h4.read_unread, h6.read_unread, View.ld_unit_zero (S := S1024x1024) hz, View.ld_unit_zero (S := S1024x256) hz]
end Cases

theorem pay1 (u : Fin 1024) (l : Fin 256) : (k0_pay1 (F := Ideal)) (ix2 u l) = 0 := by
  pointwise [k0_pay1]
theorem pay2 (x0 : FVec Ideal S1024x1024 .bf16) (x1 : FVec Ideal S1024x256 .bf16) (xs : FVec Ideal S1024x256 .f32) (u : Fin 1024) (l : Fin 256) :
    k0_pay2 x0 x1 xs (ix2 u l) = xs (ix2 u l) + ∑ e : Fin 1024, x0 (ix2 e u) * x1 (ix2 e l) := by
  pointwise [k0_pay2]

theorem pay3 (x : FVec Ideal S1024x256 .f32) (u : Fin 1024) (l : Fin 256) : k0_pay3 x (ix3 0 u l) = x (ix2 u l) := by
  pointwise [k0_pay3]

theorem idx0 : ∀ t : Fin cfg0.N, win0_0.index t = ![t.val % 4, 0] := (by decide +kernel : ∀ t : Fin grid0.N, _)
theorem idx1 : ∀ t : Fin cfg0.N, win0_1.index t = ![t.val % 4, t.val / 4] := (by decide +kernel : ∀ t : Fin grid0.N, _)
theorem idx2 : ∀ t : Fin cfg0.N, win0_2.index t = ![t.val / 4, 0, 0] := (by decide +kernel : ∀ t : Fin grid0.N, _)
theorem lt_N (t : Fin cfg0.N) : t.val < 32 := lt_of_lt_of_eq t.isLt N_0

variable (m : (ℓ : Loc nD τ sig) → Buf (Elt Ideal) ℓ) (c : Dev nD)

abbrev R : FVec Ideal S4096x1024 .bf16 := m (c, Proc.tc.devRef main_arg0)
abbrev D : FVec Ideal S4096x2048 .bf16 := m (c, Proc.tc.devRef main_arg2)

/-- The entries of the result. -/
def res (i j : ℕ) : EReal := ∑ e ∈ range 4096, at2 (R m c) e i * at2 (D m c) e j

theorem blk0 (t : Fin cfg0.N) (e u : Fin 1024) :
    (iblk m c 0 t : FVec Ideal S1024x1024 .bf16) (ix2 e u) = at2 (R m c) (1024 * (t.val % 4) + e.val) u.val := by
  have ht := lt_N t
  rw [at2_of _ (show 1024 * (t.val % 4) + e.val < 4096 by omega) u.isLt]
  blk_ext [iblk, V, idx0 t]
theorem blk1 (t : Fin cfg0.N) (e : Fin 1024) (l : Fin 256) :
    (iblk m c 1 t : FVec Ideal S1024x256 .bf16) (ix2 e l) = at2 (D m c) (1024 * (t.val % 4) + e.val) (256 * (t.val / 4) + l.val) := by
  have ht := lt_N t
  rw [at2_of _ (show 1024 * (t.val % 4) + e.val < 4096 by omega) (show 256 * (t.val / 4) + l.val < 2048 by omega)]
  blk_ext [iblk, V, idx1 t]

theorem dot_at (t : Fin cfg0.N) (xs : FVec Ideal S1024x256 .f32) (u : Fin 1024) (l : Fin 256) :
    k0_pay2 (iblk m c 0 t) (iblk m c 1 t) xs (ix2 u l) = xs (ix2 u l)
      + ∑ e ∈ range 1024, at2 (R m c) (1024 * (t.val % 4) + e) u.val * at2 (D m c) (1024 * (t.val % 4) + e) (256 * (t.val / 4) + l.val) := by
  rw [pay2, Finset.sum_range]
  simp only [blk0, blk1]

theorem acc_at (n : ℕ) (h : n < cfg0.N) (i : Fin 1024 × Fin 256) : (outsAt0 m c n h).2 (ix2 i.1 i.2)
    = ∑ e ∈ range (1024 * (n % 4 + 1)), at2 (R m c) e i.1.val * at2 (D m c) e (256 * (n / 4) + i.2.val) := by
  refine accumulated (by omega) (fun n h (i : Fin 1024 × Fin 256) => (outsAt0 m c n h).2 (ix2 i.1 i.2))
    (fun q i e => at2 (R m c) e i.1.val * at2 (D m c) e (256 * q + i.2.val)) ?_ ?_ n h i
  · intro n h i h0
    have e := congrArg Prod.snd (outsAt0_A m c ⟨n, h⟩ h0 (by show ¬n % 4 = 3; omega))
    dsimp only at e ⊢
    rw [e, sout_A, dot_at, pay1, zero_add]
    simp only [h0, mul_zero, zero_add]
  · intro n h i h0
    by_cases h1 : n % 4 = 3
    · have e := congrArg Prod.snd (outsAt0_C m c ⟨n, h⟩ h0 h1)
      dsimp only at e ⊢
      rw [e, sout_C, dot_at]
    · have e := congrArg Prod.snd (outsAt0_B m c ⟨n, h⟩ h0 h1)
      dsimp only at e ⊢
      rw [e, sout_B, dot_at]

theorem out_at (t : Fin cfg0.N) (h1 : t.val % 4 = 3) (u : Fin 1024) (l : Fin 256) :
    (outsAt0 m c t.val t.isLt).1 (ix3 0 u l) = res m c u.val (256 * (t.val / 4) + l.val) := by
  have e := acc_at m c t.val t.isLt (u, l)
  rw [outsAt0_C m c t (by omega) h1] at e ⊢
  dsimp only at e ⊢
  rw [sout_C] at e
  rw [out_C, pay3, e, h1]
  rfl

theorem final : (dats m 0 c).arrAt 2 cfg0.N = (fun i => res m c (i 1).val (256 * (i 0).val + (i 2).val) : FVec Ideal S8x1024x256 .f32) := by
  refine (dats m 0 c).arrAt_eq_of_covers 2 _ (by decide +kernel) fun t hf b => ?_
  have ht := lt_N t
  have hf := (flush0_2 t).mp hf
  blk_simp [idx2 t]
  rw [after0_2]
  refine Eq.trans (congrArg _ (ix3_eta1 b)) ((out_at m c t hf (b 1) (b 2)).trans ?_)
  congr 1 <;> omega

end Cert.KernelGateWIdeal.Hand

namespace Cert.ReferenceGateWIdeal.Hand

open Cert.ReferenceGateWIdeal Cert.ReferenceGateWIdeal.Gen Cert.ReferenceGateWIdeal.Value Cert.Blocked
open Idealize.ShloMosaic Idealize.ShloMosaic.TcCoe Idealize.SL.Sem

variable (m : (ℓ : Loc nD τ sig) → Buf (Elt Ideal) ℓ) (c : Dev nD)

abbrev X0 : FVec Ideal S4096x1024 .bf16 := m ((c.tc : Thread nD τ).loc main_arg0)
abbrev X2 : FVec Ideal S4096x2048 .bf16 := m ((c.tc : Thread nD τ).loc main_arg2)

theorem value : res_main_v22 m c = (fun i => ∑ e ∈ Finset.range 4096,
    at2 (X0 m c) e (i 1).val * at2 (X2 m c) e (256 * (i 0).val + (i 2).val) : FVec Ideal S8x1024x256 .f32) := by
  funext i
  obtain ⟨s, r, l, rfl⟩ : ∃ (s : Fin 8) (r : Fin 1024) (l : Fin 256), i = ix3 s r l := ⟨i 0, i 1, i 2, ix3_eta i⟩
  have hs := s.isLt
  have hl := l.isLt
  have e : ∑ e ∈ Finset.range 4096, at2 (X0 m c) e r.val * at2 (X2 m c) e (256 * s.val + l.val)
      = ∑ e : Fin 4096, X2 m c (ix2 e ⟨256 * s.val + l.val, by omega⟩) * X0 m c (ix2 e r) := by
    rw [Finset.sum_range]
    refine Finset.sum_congr rfl fun e _ => ?_
    rw [at2_ix, at2_of _ e.isLt (show 256 * s.val + l.val < 2048 by omega), mul_comm]
  refine Eq.trans ?_ e.symm
  unfold res_main_v22
  pointwise
  -- the slab the first position names
  repeat' split
  all_goals
    refine congrArg (fun f : Fin 4096 → EReal => Finset.sum Finset.univ f) (funext fun e => ?_)
    exact congrArg (fun j => X2 m c (ix2 e j) * X0 m c (ix2 e r)) (Fin.ext (by dsimp only; omega))

end Cert.ReferenceGateWIdeal.Hand

namespace Cert.Proof

open Idealize.ShloMosaic Idealize.SL.Sem

theorem same_gate_w : Cert.algebraic_KernelGateWIdeal_ReferenceGateWIdeal (hKernelGateWIdeal := Cert.KernelGateWIdeal.Gen.facts)
    (hReferenceGateWIdeal := Cert.ReferenceGateWIdeal.Gen.facts) := by
  intro m g m' g' _ he
  refine ⟨fun c => (fun i => KernelGateWIdeal.Hand.res m c (i 1).val (256 * (i 0).val + (i 2).val) : FVec Ideal KernelGateWIdeal.S8x1024x256 .f32), ?_, ?_⟩
  · exact (θ_run KernelGateWIdeal.defs _ _).mono (fun _ h c => ⟨(h c).1.trans (KernelGateWIdeal.Hand.final m c), (h c).2⟩)
      (KernelGateWIdeal.Value.run_blocks (F := Ideal) m g)
  · refine (θ_run ReferenceGateWIdeal.defs _ _).mono (fun _ h c => ⟨(h c).1.trans ((ReferenceGateWIdeal.Hand.value m' c).trans ?_), (h c).2⟩)
      (ReferenceGateWIdeal.Value.run (F := Ideal) m' g')
    unfold ReferenceGateWIdeal.Hand.X0 ReferenceGateWIdeal.Hand.X2
    rw [(he c).1, (he c).2.2]
    rfl

-- the two programs have one text; that they are equal is checked by computation
set_option smartUnfolding false in
set_option maxHeartbeats 0 in
theorem frame_gate_w : Cert.quiescent_KernelGateW (hKernelGateW := Cert.KernelGateW.Gen.facts) := fun m ρ _ =>
  (θ_run KernelGateWIdeal.defs _ _).mono (fun _ h => h) (KernelGateWIdeal.Gen.frame (F := Bits) m ρ)
theorem frame_gate_w_ideal : Cert.quiescent_KernelGateWIdeal (hKernelGateWIdeal := Cert.KernelGateWIdeal.Gen.facts) := fun m ρ _ =>
  KernelGateWIdeal.Gen.frame (F := Ideal) m ρ
theorem frame_gate_w_reference : Cert.quiescent_ReferenceGateWIdeal (hReferenceGateWIdeal := Cert.ReferenceGateWIdeal.Gen.facts) := fun m ρ _ =>
  (θ_run ReferenceGateWIdeal.defs _ _).mono (fun _ h => ⟨fun c => (h c).2, sem_eq_zero_of_no_sems (by decide) _⟩)
    (ReferenceGateWIdeal.Value.run (F := Ideal) m ρ)

end Cert.Proof

end
-- ==== Proof.Ff2.lean ====
/- The MLP's second product: what the kernel's accumulator holds, the value claim and the frames. -/
module

public import proofs.«01_k».proof.Defs
public import proofs.«01_k».proof.Proof.Blocked
public import proofs.«01_k».proof.Proof.Gen.KernelFf2
public import proofs.«01_k».proof.Proof.Gen.KernelFf2Ideal.Value
public import proofs.«01_k».proof.Proof.Gen.ReferenceFf2Ideal.Run
public import Idealize.ShloMosaic.Lib.Pipeline.ValueKit
public import Idealize.ShloMosaic.Adequacy

@[expose] public section

set_option maxRecDepth 16384

noncomputable section

namespace Cert.KernelFf2Ideal.Hand

open Cert.KernelFf2Ideal Cert.KernelFf2Ideal.Gen Cert.Blocked
open Idealize.ShloMosaic Idealize.ShloMosaic.TcCoe Idealize.SL.Sem
open Finset (range)

section Cases
variable {F : FTy → Type} [FloatOps F] (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole)
  (x0 x1 : Vec F S1024x1024 .bf16) (xs : Vec F S1024x1024 .f32)

theorem sout_A (hc0 : cond0_0 i) (hc1 : ¬cond0_1 i) : sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]
theorem sout_B (hc0 : ¬cond0_0 i) (hc1 : ¬cond0_1 i) : sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x1024) hz]
theorem sout_C (hc0 : ¬cond0_0 i) (hc1 : cond0_1 i) : sout0_C_0 c i a3 h3 a4 h4 a5 h5 a6 h6 hc0 hc1 x0 x1 xs = k0_pay2 x0 x1 xs := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1024x1024) hz]
theorem out_C (hc0 : ¬cond0_0 i) (hc1 : cond0_1 i) : out0_C_2 c i a3 h3 a4 h4 a5 h5 a6 h6 hc0 hc1 x0 x1 xs = k0_pay2 x0 x1 xs := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]
end Cases

theorem pay1 (u l : Fin 1024) : (k0_pay1 (F := Ideal)) (ix2 u l) = 0 := by
  pointwise [k0_pay1]
theorem pay2 (x0 x1 : FVec Ideal S1024x1024 .bf16) (xs : FVec Ideal S1024x1024 .f32) (u l : Fin 1024) :
    k0_pay2 x0 x1 xs (ix2 u l) = xs (ix2 u l) + ∑ e : Fin 1024, x0 (ix2 u e) * x1 (ix2 e l) := by
  pointwise [k0_pay2]

theorem idx0 : ∀ t : Fin cfg0.N, win0_0.index t = ![t.val / 4, t.val % 4] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, 0] := (by decide +kernel : ∀ t : Fin grid0.N, _)
theorem lt_N (t : Fin cfg0.N) : t.val < 16 := lt_of_lt_of_eq t.isLt N_0

variable (m : (ℓ : Loc nD τ sig) → Buf (Elt Ideal) ℓ) (c : Dev nD)

abbrev X : FVec Ideal S4096x4096 .bf16 := m (c, Proc.tc.devRef main_arg0)
abbrev W : FVec Ideal S4096x1024 .bf16 := m (c, Proc.tc.devRef main_arg1)

/-- The entries of the result. -/
def res (i j : ℕ) : EReal := ∑ e ∈ range 4096, at2 (X m c) i e * at2 (W m c) e j

theorem blk0 (t : Fin cfg0.N) (u e : Fin 1024) :
    (iblk m c 0 t : FVec Ideal S1024x1024 .bf16) (ix2 u e) = at2 (X m c) (1024 * (t.val / 4) + u.val) (1024 * (t.val % 4) + e.val) := by
  have ht := lt_N t
  rw [at2_of _ (show 1024 * (t.val / 4) + u.val < 4096 by omega) (show 1024 * (t.val % 4) + e.val < 4096 by omega)]
  blk_ext [iblk, V, idx0 t]
theorem blk1 (t : Fin cfg0.N) (e l : Fin 1024) :
    (iblk m c 1 t : FVec Ideal S1024x1024 .bf16) (ix2 e l) = at2 (W m c) (1024 * (t.val % 4) + e.val) l.val := by
  have ht := lt_N t
  rw [at2_of _ (show 1024 * (t.val % 4) + e.val < 4096 by omega) l.isLt]
  blk_ext [iblk, V, idx1 t]

theorem dot_at (t : Fin cfg0.N) (xs : FVec Ideal S1024x1024 .f32) (u l : Fin 1024) :
    k0_pay2 (iblk m c 0 t) (iblk m c 1 t) xs (ix2 u l) = xs (ix2 u l)
      + ∑ e ∈ range 1024, at2 (X m c) (1024 * (t.val / 4) + u.val) (1024 * (t.val % 4) + e) * at2 (W m c) (1024 * (t.val % 4) + e) l.val := by
  rw [pay2, Finset.sum_range]
  simp only [blk0, blk1]

theorem acc_at (n : ℕ) (h : n < cfg0.N) (i : Fin 1024 × Fin 1024) : (outsAt0 m c n h).2 (ix2 i.1 i.2)
    = ∑ e ∈ range (1024 * (n % 4 + 1)), at2 (X m c) (1024 * (n / 4) + i.1.val) e * at2 (W m c) e i.2.val := by
  refine accumulated (by omega) (fun n h (i : Fin 1024 × Fin 1024) => (outsAt0 m c n h).2 (ix2 i.1 i.2))
    (fun q i e => at2 (X m c) (1024 * q + i.1.val) e * at2 (W m c) e i.2.val) ?_ ?_ n h i
  · intro n h i h0
    have e := congrArg Prod.snd (outsAt0_A m c ⟨n, h⟩ h0 (by show ¬n % 4 = 3; omega))
    dsimp only at e ⊢
    rw [e, sout_A, dot_at, pay1, zero_add]
    simp only [h0, mul_zero, zero_add]
  · intro n h i h0
    by_cases h1 : n % 4 = 3
    · have e := congrArg Prod.snd (outsAt0_C m c ⟨n, h⟩ h0 h1)
      dsimp only at e ⊢
      rw [e, sout_C, dot_at]
    · have e := congrArg Prod.snd (outsAt0_B m c ⟨n, h⟩ h0 h1)
      dsimp only at e ⊢
      rw [e, sout_B, dot_at]

theorem out_at (t : Fin cfg0.N) (h1 : t.val % 4 = 3) (u l : Fin 1024) :
    (outsAt0 m c t.val t.isLt).1 (ix2 u l) = res m c (1024 * (t.val / 4) + u.val) l.val := by
  have e := acc_at m c t.val t.isLt (u, l)
  rw [outsAt0_C m c t (by omega) h1] at e ⊢
  dsimp only at e ⊢
  rw [sout_C] at e
  rw [out_C, e, h1]
  rfl

theorem final : (dats m 0 c).arrAt 2 cfg0.N = (fun i => res m c (i 0).val (i 1).val : FVec Ideal S4096x1024 .f32) := by
  refine (dats m 0 c).arrAt_eq_of_covers 2 _ (by decide +kernel) fun t hf b => ?_
  have ht := lt_N t
  have hf := (flush0_2 t).mp hf
  blk_simp [idx2 t]
  rw [after0_2]
  refine Eq.trans (congrArg _ (ix2_eta b)) ((out_at m c t hf (b 0) (b 1)).trans ?_)
  congr 1 <;> omega

end Cert.KernelFf2Ideal.Hand

namespace Cert.ReferenceFf2Ideal.Hand

open Cert.ReferenceFf2Ideal Cert.ReferenceFf2Ideal.Gen Cert.Blocked
open Idealize.ShloMosaic Idealize.ShloMosaic.TcCoe Idealize.SL.Sem

theorem value (X : FVec Ideal S4096x4096 .bf16) (W : FVec Ideal S4096x1024 .bf16) :
    Host.dotGeneral (φ₁ := .f32) (φ₂ := .f32) dot_S4096x4096_S4096x1024_S4096x1024_1_0_0_1_n_n none (extf .f32 X bitsLt_bf16_f32) (extf .f32 W bitsLt_bf16_f32)
      = (fun i => ∑ e ∈ Finset.range 4096, at2 X (i 0).val e * at2 W e (i 1).val : FVec Ideal S4096x1024 .f32) := by
  funext i
  obtain ⟨r, l, rfl⟩ : ∃ (r : Fin 4096) (l : Fin 1024), i = ix2 r l := ⟨i 0, i 1, ix2_eta i⟩
  show _ = ∑ e ∈ Finset.range 4096, at2 X r.val e * at2 W e l.val
  rw [Finset.sum_range]
  simp only [at2_ix]
  pointwise

end Cert.ReferenceFf2Ideal.Hand

namespace Cert.Proof

open Idealize.ShloMosaic Idealize.SL.Sem

theorem same_ff2 : Cert.algebraic_KernelFf2Ideal_ReferenceFf2Ideal (hKernelFf2Ideal := Cert.KernelFf2Ideal.Gen.facts)
    (hReferenceFf2Ideal := Cert.ReferenceFf2Ideal.Gen.facts) := by
  intro m g m' g' _ he
  refine ⟨fun c => (fun i => KernelFf2Ideal.Hand.res m c (i 0).val (i 1).val : FVec Ideal KernelFf2Ideal.S4096x1024 .f32), ?_, ?_⟩
  · exact (θ_run KernelFf2Ideal.defs _ _).mono (fun _ h c => ⟨(h c).1.trans (KernelFf2Ideal.Hand.final m c), (h c).2⟩)
      (KernelFf2Ideal.Value.run_blocks (F := Ideal) m g)
  · refine (θ_run ReferenceFf2Ideal.defs _ _).mono (fun _ h c => ⟨(h c).1.trans ((ReferenceFf2Ideal.Hand.value _ _).trans ?_), (h c).2⟩)
      (ReferenceFf2Ideal.Value.run (F := Ideal) m' g')
    rw [(he c).1, (he c).2]
    rfl

-- the two programs have one text; that they are equal is checked by computation
set_option smartUnfolding false in
set_option maxHeartbeats 0 in
theorem frame_ff2 : Cert.quiescent_KernelFf2 (hKernelFf2 := Cert.KernelFf2.Gen.facts) := fun m ρ _ =>
  (θ_run KernelFf2Ideal.defs _ _).mono (fun _ h => h) (KernelFf2Ideal.Gen.frame (F := Bits) m ρ)
theorem frame_ff2_ideal : Cert.quiescent_KernelFf2Ideal (hKernelFf2Ideal := Cert.KernelFf2Ideal.Gen.facts) := fun m ρ _ =>
  KernelFf2Ideal.Gen.frame (F := Ideal) m ρ
theorem frame_ff2_reference : Cert.quiescent_ReferenceFf2Ideal (hReferenceFf2Ideal := Cert.ReferenceFf2Ideal.Gen.facts) := fun m ρ _ =>
  (θ_run ReferenceFf2Ideal.defs _ _).mono (fun _ h => ⟨fun c => (h c).2, sem_eq_zero_of_no_sems (by decide) _⟩)
    (ReferenceFf2Ideal.Value.run (F := Ideal) m ρ)

end Cert.Proof

end
-- ==== Proof.Ssd.lean ====
/- The scan branch's projection: what the kernel's accumulator holds, the value claim and the frames. -/
module

public import proofs.«01_k».proof.Defs
public import proofs.«01_k».proof.Proof.Blocked
public import proofs.«01_k».proof.Proof.Gen.KernelSsd
public import proofs.«01_k».proof.Proof.Gen.KernelSsdIdeal.Value
public import proofs.«01_k».proof.Proof.Gen.ReferenceSsdIdeal.Run
public import Idealize.ShloMosaic.Lib.Pipeline.ValueKit
public import Idealize.ShloMosaic.Adequacy

@[expose] public section

set_option maxRecDepth 16384

noncomputable section

namespace Cert.KernelSsdIdeal.Hand

open Cert.KernelSsdIdeal Cert.KernelSsdIdeal.Gen Cert.Blocked
open Idealize.ShloMosaic Idealize.ShloMosaic.TcCoe Idealize.SL.Sem
open Finset (range)

section Cases
variable {F : FTy → Type} [FloatOps F] (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole)
  (x0 x1 : Vec F S1024x1024 .bf16) (xs : Vec F S1024x1024 .f32)

theorem sout_A (hc0 : cond0_0 i) (hc1 : ¬cond0_1 i) : sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]
theorem sout_B (hc0 : ¬cond0_0 i) (hc1 : cond0_1 i) : sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1024x1024) hz]
theorem out_B (hc0 : ¬cond0_0 i) (hc1 : cond0_1 i) : out0_B_2 c i a3 h3 a4 h4 a5 h5 a6 h6 hc0 hc1 x0 x1 xs = k0_pay2 x0 x1 xs := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]
end Cases

theorem pay1 (u l : Fin 1024) : (k0_pay1 (F := Ideal)) (ix2 u l) = 0 := by
  pointwise [k0_pay1]
theorem pay2 (x0 x1 : FVec Ideal S1024x1024 .bf16) (xs : FVec Ideal S1024x1024 .f32) (u l : Fin 1024) :
    k0_pay2 x0 x1 xs (ix2 u l) = xs (ix2 u l) + ∑ e : Fin 1024, x0 (ix2 u e) * x1 (ix2 e l) := by
  pointwise [k0_pay2]

theorem idx0 : ∀ t : Fin cfg0.N, win0_0.index t = ![t.val / 2, t.val % 2] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, 0] := (by decide +kernel : ∀ t : Fin grid0.N, _)
theorem lt_N (t : Fin cfg0.N) : t.val < 8 := lt_of_lt_of_eq t.isLt N_0

variable (m : (ℓ : Loc nD τ sig) → Buf (Elt Ideal) ℓ) (c : Dev nD)

abbrev X : FVec Ideal S4096x2048 .bf16 := m (c, Proc.tc.devRef main_arg0)
abbrev W : FVec Ideal S2048x1024 .bf16 := m (c, Proc.tc.devRef main_arg1)

/-- The entries of the result. -/
def res (i j : ℕ) : EReal := ∑ e ∈ range 2048, at2 (X m c) i e * at2 (W m c) e j

theorem blk0 (t : Fin cfg0.N) (u e : Fin 1024) :
    (iblk m c 0 t : FVec Ideal S1024x1024 .bf16) (ix2 u e) = at2 (X m c) (1024 * (t.val / 2) + u.val) (1024 * (t.val % 2) + e.val) := by
  have ht := lt_N t
  rw [at2_of _ (show 1024 * (t.val / 2) + u.val < 4096 by omega) (show 1024 * (t.val % 2) + e.val < 2048 by omega)]
  blk_ext [iblk, V, idx0 t]
theorem blk1 (t : Fin cfg0.N) (e l : Fin 1024) :
    (iblk m c 1 t : FVec Ideal S1024x1024 .bf16) (ix2 e l) = at2 (W m c) (1024 * (t.val % 2) + e.val) l.val := by
  have ht := lt_N t
  rw [at2_of _ (show 1024 * (t.val % 2) + e.val < 2048 by omega) l.isLt]
  blk_ext [iblk, V, idx1 t]

theorem dot_at (t : Fin cfg0.N) (xs : FVec Ideal S1024x1024 .f32) (u l : Fin 1024) :
    k0_pay2 (iblk m c 0 t) (iblk m c 1 t) xs (ix2 u l) = xs (ix2 u l)
      + ∑ e ∈ range 1024, at2 (X m c) (1024 * (t.val / 2) + u.val) (1024 * (t.val % 2) + e) * at2 (W m c) (1024 * (t.val % 2) + e) l.val := by
  rw [pay2, Finset.sum_range]
  simp only [blk0, blk1]

theorem acc_at (n : ℕ) (h : n < cfg0.N) (i : Fin 1024 × Fin 1024) : (outsAt0 m c n h).2 (ix2 i.1 i.2)
    = ∑ e ∈ range (1024 * (n % 2 + 1)), at2 (X m c) (1024 * (n / 2) + i.1.val) e * at2 (W m c) e i.2.val := by
  refine accumulated (by omega) (fun n h (i : Fin 1024 × Fin 1024) => (outsAt0 m c n h).2 (ix2 i.1 i.2))
    (fun q i e => at2 (X m c) (1024 * q + i.1.val) e * at2 (W m c) e i.2.val) ?_ ?_ n h i
  · intro n h i h0
    have e := congrArg Prod.snd (outsAt0_A m c ⟨n, h⟩ h0 (by show ¬n % 2 = 1; omega))
    dsimp only at e ⊢
    rw [e, sout_A, dot_at, pay1, zero_add]
    simp only [h0, mul_zero, zero_add]
  · intro n h i h0
    have e := congrArg Prod.snd (outsAt0_B m c ⟨n, h⟩ h0 (by show n % 2 = 1; omega))
    dsimp only at e ⊢
    rw [e, sout_B, dot_at]

theorem out_at (t : Fin cfg0.N) (h1 : t.val % 2 = 1) (u l : Fin 1024) :
    (outsAt0 m c t.val t.isLt).1 (ix2 u l) = res m c (1024 * (t.val / 2) + u.val) l.val := by
  have e := acc_at m c t.val t.isLt (u, l)
  rw [outsAt0_B m c t (by omega) h1] at e ⊢
  dsimp only at e ⊢
  rw [sout_B] at e
  rw [out_B, e, h1]
  rfl

theorem final : (dats m 0 c).arrAt 2 cfg0.N = (fun i => res m c (i 0).val (i 1).val : FVec Ideal S4096x1024 .f32) := by
  refine (dats m 0 c).arrAt_eq_of_covers 2 _ (by decide +kernel) fun t hf b => ?_
  have ht := lt_N t
  have hf := (flush0_2 t).mp hf
  blk_simp [idx2 t]
  rw [after0_2]
  refine Eq.trans (congrArg _ (ix2_eta b)) ((out_at m c t hf (b 0) (b 1)).trans ?_)
  congr 1 <;> omega

end Cert.KernelSsdIdeal.Hand

namespace Cert.ReferenceSsdIdeal.Hand

open Cert.ReferenceSsdIdeal Cert.ReferenceSsdIdeal.Gen Cert.Blocked
open Idealize.ShloMosaic Idealize.ShloMosaic.TcCoe Idealize.SL.Sem

theorem value (X : FVec Ideal S4096x2048 .bf16) (W : FVec Ideal S2048x1024 .bf16) :
    Host.dotGeneral (φ₁ := .f32) (φ₂ := .f32) dot_S4096x2048_S2048x1024_S4096x1024_1_0_0_1_n_n none (extf .f32 X bitsLt_bf16_f32) (extf .f32 W bitsLt_bf16_f32)
      = (fun i => ∑ e ∈ Finset.range 2048, at2 X (i 0).val e * at2 W e (i 1).val : FVec Ideal S4096x1024 .f32) := by
  funext i
  obtain ⟨r, l, rfl⟩ : ∃ (r : Fin 4096) (l : Fin 1024), i = ix2 r l := ⟨i 0, i 1, ix2_eta i⟩
  show _ = ∑ e ∈ Finset.range 2048, at2 X r.val e * at2 W e l.val
  rw [Finset.sum_range]
  simp only [at2_ix]
  pointwise

end Cert.ReferenceSsdIdeal.Hand

namespace Cert.Proof

open Idealize.ShloMosaic Idealize.SL.Sem

theorem same_ssd : Cert.algebraic_KernelSsdIdeal_ReferenceSsdIdeal (hKernelSsdIdeal := Cert.KernelSsdIdeal.Gen.facts)
    (hReferenceSsdIdeal := Cert.ReferenceSsdIdeal.Gen.facts) := by
  intro m g m' g' _ he
  refine ⟨fun c => (fun i => KernelSsdIdeal.Hand.res m c (i 0).val (i 1).val : FVec Ideal KernelSsdIdeal.S4096x1024 .f32), ?_, ?_⟩
  · exact (θ_run KernelSsdIdeal.defs _ _).mono (fun _ h c => ⟨(h c).1.trans (KernelSsdIdeal.Hand.final m c), (h c).2⟩)
      (KernelSsdIdeal.Value.run_blocks (F := Ideal) m g)
  · refine (θ_run ReferenceSsdIdeal.defs _ _).mono (fun _ h c => ⟨(h c).1.trans ((ReferenceSsdIdeal.Hand.value _ _).trans ?_), (h c).2⟩)
      (ReferenceSsdIdeal.Value.run (F := Ideal) m' g')
    rw [(he c).1, (he c).2]
    rfl

-- the two programs have one text; that they are equal is checked by computation
set_option smartUnfolding false in
set_option maxHeartbeats 0 in
theorem frame_ssd : Cert.quiescent_KernelSsd (hKernelSsd := Cert.KernelSsd.Gen.facts) := fun m ρ _ =>
  (θ_run KernelSsdIdeal.defs _ _).mono (fun _ h => h) (KernelSsdIdeal.Gen.frame (F := Bits) m ρ)
theorem frame_ssd_ideal : Cert.quiescent_KernelSsdIdeal (hKernelSsdIdeal := Cert.KernelSsdIdeal.Gen.facts) := fun m ρ _ =>
  KernelSsdIdeal.Gen.frame (F := Ideal) m ρ
theorem frame_ssd_reference : Cert.quiescent_ReferenceSsdIdeal (hReferenceSsdIdeal := Cert.ReferenceSsdIdeal.Gen.facts) := fun m ρ _ =>
  (θ_run ReferenceSsdIdeal.defs _ _).mono (fun _ h => ⟨fun c => (h c).2, sem_eq_zero_of_no_sems (by decide) _⟩)
    (ReferenceSsdIdeal.Value.run (F := Ideal) m ρ)

end Cert.Proof

end
-- ==== Proof.InX.lean ====
/- The gradient of the input projection with respect to its rows, added to what there is: what the kernel's accumulator holds, and the value claim. -/
module

public import proofs.«01_k».proof.Defs
public import proofs.«01_k».proof.Proof.Blocked
public import proofs.«01_k».proof.Proof.Gen.KernelInX
public import proofs.«01_k».proof.Proof.Gen.KernelInXIdeal.Value
public import proofs.«01_k».proof.Proof.Gen.ReferenceInXIdeal.Run
public import Idealize.ShloMosaic.Lib.Pipeline.ValueKit
public import Idealize.ShloMosaic.Adequacy

@[expose] public section

set_option maxRecDepth 16384

noncomputable section

namespace Cert.KernelInXIdeal.Hand

open Cert.KernelInXIdeal Cert.KernelInXIdeal.Gen Cert.Blocked
open Idealize.ShloMosaic Idealize.ShloMosaic.TcCoe Idealize.SL.Sem
open Finset (range)

section Cases
variable {F : FTy → Type} [FloatOps F] (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x0 : Vec F S1024x1024 .bf16) (x1 : Vec F S1024x1024 .bf16) (x2 xs : Vec F S1024x1024 .f32)

theorem sout_A (hc0 : cond0_0 i) (hc1 : ¬cond0_1 i) : sout0_A_0 c i a3 h3 a4 h4 a5 h5 a6 h6 a7 h7 hc0 hc1 x0 x1 x2 = k0_pay2 x0 x1 (k0_pay1 x2) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, View.ld_unit_zero (S := S1024x1024) hz]
theorem sout_B (hc0 : ¬cond0_0 i) (hc1 : ¬cond0_1 i) : sout0_B_0 c i a3 h3 a4 h4 a5 h5 a6 h6 a7 h7 hc0 hc1 x0 x1 x2 xs = k0_pay2 x0 x1 xs := by
  unfold sout0_B_0
  rw [View.read_writes_eq_canon _ _ _ (scover0_B_0 c i a3 h3 a4 h4 a5 h5 a6 h6 a7 h7 hc0 hc1 x0 x1 x2 xs)]
  unfold kernelRun0_B
  dsimp only
  rw [View.canon_unit_zero hz]
  simp only [View.readAt_eq_ld, h3.read_unread, h4.read_unread, h7.read_unread, View.ld_unit_zero (S := S1024x1024) hz]
theorem sout_C (hc0 : ¬cond0_0 i) (hc1 : cond0_1 i) : sout0_C_0 c i a3 h3 a4 h4 a5 h5 a6 h6 a7 h7 hc0 hc1 x0 x1 x2 xs = k0_pay2 x0 x1 xs := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero hz]
  simp only [View.readAt_eq_ld, h3.read_unread, h4.read_unread, h7.read_unread, View.ld_unit_zero (S := S1024x1024) hz]
theorem out_C (hc0 : ¬cond0_0 i) (hc1 : cond0_1 i) : out0_C_3 c i a3 h3 a4 h4 a5 h5 a6 h6 a7 h7 hc0 hc1 x0 x1 x2 xs = k0_pay2 x0 x1 xs := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero hz, View.readCov_unit_zero (S := S1024x1024) _ hz]
  simp only [View.readAt_eq_ld, h3.read_unread, h4.read_unread, h7.read_unread, View.ld_unit_zero (S := S1024x1024) hz]
end Cases

theorem pay1 (x : FVec Ideal S1024x1024 .f32) (u l : Fin 1024) : k0_pay1 x (ix2 u l) = x (ix2 u l) := by
  pointwise [k0_pay1]
theorem pay2 (x0 : FVec Ideal S1024x1024 .bf16) (x1 : FVec Ideal S1024x1024 .bf16) (xs : FVec Ideal S1024x1024 .f32) (u l : Fin 1024) :
    k0_pay2 x0 x1 xs (ix2 u l) = xs (ix2 u l) + ∑ e : Fin 1024, x0 (ix2 u e) * x1 (ix2 l e) := by
  pointwise [k0_pay2]

theorem idx0 : ∀ t : Fin cfg0.N, win0_0.index t = ![t.val / 9, t.val % 9] := (by decide +kernel : ∀ t : Fin grid0.N, _)
theorem idx1 : ∀ t : Fin cfg0.N, win0_1.index t = ![0, t.val % 9] := (by decide +kernel : ∀ t : Fin grid0.N, _)
theorem idx2 : ∀ t : Fin cfg0.N, win0_2.index t = ![t.val / 9, 0] := (by decide +kernel : ∀ t : Fin grid0.N, _)
theorem idx3 : ∀ t : Fin cfg0.N, win0_3.index t = ![t.val / 9, 0] := (by decide +kernel : ∀ t : Fin grid0.N, _)
theorem lt_N (t : Fin cfg0.N) : t.val < 36 := lt_of_lt_of_eq t.isLt N_0

variable (m : (ℓ : Loc nD τ sig) → Buf (Elt Ideal) ℓ) (c : Dev nD)

abbrev D : FVec Ideal S4096x9216 .bf16 := m (c, Proc.tc.devRef main_arg2)
abbrev W : FVec Ideal S1024x9216 .bf16 := m (c, Proc.tc.devRef main_arg1)
abbrev B : FVec Ideal S4096x1024 .f32 := m (c, Proc.tc.devRef main_arg3)

/-- The entries of the result. -/
def res (i j : ℕ) : EReal := at2 (B m c) i j + ∑ e ∈ range 9216, at2 (D m c) i e * at2 (W m c) j e

theorem blk0 (t : Fin cfg0.N) (u : Fin 1024) (e : Fin 1024) :
    (iblk m c 0 t : FVec Ideal S1024x1024 .bf16) (ix2 u e) = at2 (D m c) (1024 * (t.val / 9) + u.val) (1024 * (t.val % 9) + e.val) := by
  have ht := lt_N t
  rw [at2_of _ (show 1024 * (t.val / 9) + u.val < 4096 by omega) (show 1024 * (t.val % 9) + e.val < 9216 by omega)]
  blk_ext [iblk, V, idx0 t]
theorem blk1 (t : Fin cfg0.N) (l : Fin 1024) (e : Fin 1024) :
    (iblk m c 1 t : FVec Ideal S1024x1024 .bf16) (ix2 l e) = at2 (W m c) l.val (1024 * (t.val % 9) + e.val) := by
  have ht := lt_N t
  rw [at2_of _ l.isLt (show 1024 * (t.val % 9) + e.val < 9216 by omega)]
  blk_ext [iblk, V, idx1 t]

theorem blk2 (t : Fin cfg0.N) (u l : Fin 1024) :
    (iblk m c 2 t : FVec Ideal S1024x1024 .f32) (ix2 u l) = at2 (B m c) (1024 * (t.val / 9) + u.val) l.val := by
  have ht := lt_N t
  rw [at2_of _ (show 1024 * (t.val / 9) + u.val < 4096 by omega) l.isLt]
  blk_ext [iblk, V, idx2 t]

theorem dot_at (t : Fin cfg0.N) (xs : FVec Ideal S1024x1024 .f32) (u l : Fin 1024) :
    k0_pay2 (iblk m c 0 t) (iblk m c 1 t) xs (ix2 u l) = xs (ix2 u l)
      + ∑ e ∈ range 1024, at2 (D m c) (1024 * (t.val / 9) + u.val) (1024 * (t.val % 9) + e) * at2 (W m c) l.val (1024 * (t.val % 9) + e) := by
  rw [pay2, Finset.sum_range]
  simp only [blk0, blk1]

theorem acc_at (n : ℕ) (h : n < cfg0.N) (i : Fin 1024 × Fin 1024) : (outsAt0 m c n h).2 (ix2 i.1 i.2)
    = at2 (B m c) (1024 * (n / 9) + i.1.val) i.2.val + ∑ e ∈ range (1024 * (n % 9 + 1)), at2 (D m c) (1024 * (n / 9) + i.1.val) e * at2 (W m c) i.2.val e := by
  refine accumulated_on (by omega) (fun n h (i : Fin 1024 × Fin 1024) => (outsAt0 m c n h).2 (ix2 i.1 i.2))
    (fun q i => at2 (B m c) (1024 * q + i.1.val) i.2.val)
    (fun q i e => at2 (D m c) (1024 * q + i.1.val) e * at2 (W m c) i.2.val e) ?_ ?_ n h i
  · intro n h i h0
    have e := congrArg Prod.snd (outsAt0_A m c ⟨n, h⟩ h0 (by show ¬n % 9 = 8; omega))
    dsimp only at e ⊢
    rw [e, sout_A, dot_at, pay1, blk2]
    simp only [h0, mul_zero, zero_add]
  · intro n h i h0
    by_cases h1 : n % 9 = 8
    · have e := congrArg Prod.snd (outsAt0_C m c ⟨n, h⟩ h0 h1)
      dsimp only at e ⊢
      rw [e, sout_C, dot_at]
    · have e := congrArg Prod.snd (outsAt0_B m c ⟨n, h⟩ h0 h1)
      dsimp only at e ⊢
      rw [e, sout_B, dot_at]

theorem out_at (t : Fin cfg0.N) (h1 : t.val % 9 = 8) (u l : Fin 1024) :
    (outsAt0 m c t.val t.isLt).1 (ix2 u l) = res m c (1024 * (t.val / 9) + u.val) l.val := by
  have h0 : ¬t.val % 9 = 0 := by omega
  have e := acc_at m c t.val t.isLt (u, l)
  rw [outsAt0_C m c t h0 h1] at e ⊢
  dsimp only at e ⊢
  rw [sout_C] at e
  rw [out_C, e, h1]
  rfl

theorem final : (dats m 0 c).arrAt 3 cfg0.N = (fun i => res m c (i 0).val (i 1).val : FVec Ideal S4096x1024 .f32) := by
  refine (dats m 0 c).arrAt_eq_of_covers 3 _ (by decide +kernel) fun t hf b => ?_
  have ht := lt_N t
  have hf := (flush0_3 t).mp hf
  blk_simp [idx3 t]
  rw [after0_3]
  refine Eq.trans (congrArg _ (ix2_eta b)) ((out_at m c t hf (b 0) (b 1)).trans ?_)
  congr 1 <;> omega

end Cert.KernelInXIdeal.Hand

namespace Cert.ReferenceInXIdeal.Hand

open Cert.ReferenceInXIdeal Cert.ReferenceInXIdeal.Gen Cert.Blocked
open Idealize.ShloMosaic Idealize.ShloMosaic.TcCoe Idealize.SL.Sem

theorem value (D : FVec Ideal S4096x9216 .bf16) (W : FVec Ideal S1024x9216 .bf16) (B : FVec Ideal S4096x1024 .f32) :
    addf B (Host.dotGeneral (φ₁ := .f32) (φ₂ := .f32) dot_S4096x9216_S1024x9216_S4096x1024_1_1_0_0_n_n none (extf .f32 D bitsLt_bf16_f32) (extf .f32 W bitsLt_bf16_f32))
      = (fun i => at2 B (i 0).val (i 1).val + ∑ e ∈ Finset.range 9216, at2 D (i 0).val e * at2 W (i 1).val e : FVec Ideal S4096x1024 .f32) := by
  funext i
  obtain ⟨r, l, rfl⟩ : ∃ (r : Fin 4096) (l : Fin 1024), i = ix2 r l := ⟨i 0, i 1, ix2_eta i⟩
  show _ = at2 B r.val l.val + ∑ e ∈ Finset.range 9216, at2 D r.val e * at2 W l.val e
  rw [Finset.sum_range]
  simp only [at2_ix]
  pointwise

end Cert.ReferenceInXIdeal.Hand

namespace Cert.Proof

open Idealize.ShloMosaic Idealize.SL.Sem

theorem same_in_x : Cert.algebraic_KernelInXIdeal_ReferenceInXIdeal (hKernelInXIdeal := Cert.KernelInXIdeal.Gen.facts)
    (hReferenceInXIdeal := Cert.ReferenceInXIdeal.Gen.facts) := by
  intro m g m' g' _ he
  refine ⟨fun c => (fun i => KernelInXIdeal.Hand.res m c (i 0).val (i 1).val : FVec Ideal KernelInXIdeal.S4096x1024 .f32), ?_, ?_⟩
  · exact (θ_run KernelInXIdeal.defs _ _).mono (fun _ h c => ⟨(h c).1.trans (KernelInXIdeal.Hand.final m c), (h c).2⟩)
      (KernelInXIdeal.Value.run_blocks (F := Ideal) m g)
  · refine (θ_run ReferenceInXIdeal.defs _ _).mono (fun _ h c => ⟨(h c).1.trans ((ReferenceInXIdeal.Hand.value _ _ _).trans ?_), (h c).2⟩)
      (ReferenceInXIdeal.Value.run (F := Ideal) m' g')
    obtain ⟨_, e1, e2, e3⟩ := he c
    rw [e1, e2, e3]
    rfl

-- the two programs have one text; that they are equal is checked by computation
set_option smartUnfolding false in
set_option maxHeartbeats 0 in
theorem frame_in_x : Cert.quiescent_KernelInX (hKernelInX := Cert.KernelInX.Gen.facts) := fun m ρ _ =>
  (θ_run KernelInXIdeal.defs _ _).mono (fun _ h => h) (KernelInXIdeal.Gen.frame (F := Bits) m ρ)
theorem frame_in_x_ideal : Cert.quiescent_KernelInXIdeal (hKernelInXIdeal := Cert.KernelInXIdeal.Gen.facts) := fun m ρ _ =>
  KernelInXIdeal.Gen.frame (F := Ideal) m ρ
theorem frame_in_x_reference : Cert.quiescent_ReferenceInXIdeal (hReferenceInXIdeal := Cert.ReferenceInXIdeal.Gen.facts) := fun m ρ _ =>
  (θ_run ReferenceInXIdeal.defs _ _).mono (fun _ h => ⟨fun c => (h c).2, sem_eq_zero_of_no_sems (by decide) _⟩)
    (ReferenceInXIdeal.Value.run (F := Ideal) m ρ)

end Cert.Proof

end
-- ==== Proof.GateX.lean ====
/- The gradient of the gates' projection with respect to its rows, added to what there is: what the kernel's accumulator holds, and the value claim. -/
module

public import proofs.«01_k».proof.Defs
public import proofs.«01_k».proof.Proof.Blocked
public import proofs.«01_k».proof.Proof.Gen.KernelGateX
public import proofs.«01_k».proof.Proof.Gen.KernelGateXIdeal.Value
public import proofs.«01_k».proof.Proof.Gen.ReferenceGateXIdeal.Run
public import Idealize.ShloMosaic.Lib.Pipeline.ValueKit
public import Idealize.ShloMosaic.Lib.StableHlo.ReadAt
public import Idealize.ShloMosaic.Adequacy

@[expose] public section

set_option maxRecDepth 16384

noncomputable section

namespace Cert.KernelGateXIdeal.Hand

open Cert.KernelGateXIdeal Cert.KernelGateXIdeal.Gen Cert.Blocked
open Idealize.ShloMosaic Idealize.ShloMosaic.TcCoe Idealize.SL.Sem
open Finset (range)

section Cases
variable {F : FTy → Type} [FloatOps F] (c : Dev nD) (i : grid0.Coords) (a3 : Memref sig .tc .vmem S1024x256 .bf16) (h3 : a3.IsWhole)
  (a4 : Memref sig .tc .vmem S1x1024x256 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x0 : Vec F S1024x256 .bf16) (x1 : Vec F S1x1024x256 .bf16) (x2 xs : Vec F S1024x1024 .f32)

theorem sout_A (hc0 : cond0_0 i) (hc1 : ¬cond0_1 i) : sout0_A_0 c i a3 h3 a4 h4 a5 h5 a6 h6 a7 h7 hc0 hc1 x0 x1 x2 = k0_pay2 x0 x1 (k0_pay1 x2) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, View.ld_unit_zero (S := S1024x256) hz, View.ld_unit_zero (S := S1x1024x256) hz3,
    View.ld_unit_zero (S := S1024x1024) hz]
theorem sout_B (hc0 : ¬cond0_0 i) (hc1 : ¬cond0_1 i) : sout0_B_0 c i a3 h3 a4 h4 a5 h5 a6 h6 a7 h7 hc0 hc1 x0 x1 x2 xs = k0_pay2 x0 x1 xs := by
  unfold sout0_B_0
  rw [View.read_writes_eq_canon _ _ _ (scover0_B_0 c i a3 h3 a4 h4 a5 h5 a6 h6 a7 h7 hc0 hc1 x0 x1 x2 xs)]
  unfold kernelRun0_B
  dsimp only
  rw [View.canon_unit_zero hz]
  simp only [View.readAt_eq_ld, h3.read_unread, h4.read_unread, h7.read_unread, View.ld_unit_zero (S := S1024x256) hz, View.ld_unit_zero (S := S1x1024x256) hz3,
    View.ld_unit_zero (S := S1024x1024) hz]
theorem sout_C (hc0 : ¬cond0_0 i) (hc1 : cond0_1 i) : sout0_C_0 c i a3 h3 a4 h4 a5 h5 a6 h6 a7 h7 hc0 hc1 x0 x1 x2 xs = k0_pay2 x0 x1 xs := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero hz]
  simp only [View.readAt_eq_ld, h3.read_unread, h4.read_unread, h7.read_unread, View.ld_unit_zero (S := S1024x256) hz, View.ld_unit_zero (S := S1x1024x256) hz3,
    View.ld_unit_zero (S := S1024x1024) hz]
theorem out_C (hc0 : ¬cond0_0 i) (hc1 : cond0_1 i) : out0_C_3 c i a3 h3 a4 h4 a5 h5 a6 h6 a7 h7 hc0 hc1 x0 x1 x2 xs = k0_pay2 x0 x1 xs := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero hz, View.readCov_unit_zero (S := S1024x1024) _ hz]
  simp only [View.readAt_eq_ld, h3.read_unread, h4.read_unread, h7.read_unread, View.ld_unit_zero (S := S1024x256) hz, View.ld_unit_zero (S := S1x1024x256) hz3,
    View.ld_unit_zero (S := S1024x1024) hz]
end Cases

theorem pay1 (x : FVec Ideal S1024x1024 .f32) (u l : Fin 1024) : k0_pay1 x (ix2 u l) = x (ix2 u l) := by
  pointwise [k0_pay1]
theorem pay2 (x0 : FVec Ideal S1024x256 .bf16) (x1 : FVec Ideal S1x1024x256 .bf16) (xs : FVec Ideal S1024x1024 .f32) (u l : Fin 1024) :
    k0_pay2 x0 x1 xs (ix2 u l) = xs (ix2 u l) + ∑ e : Fin 256, x0 (ix2 u e) * x1 (ix3 0 l e) := by
  pointwise [k0_pay2]

theorem idx0 : ∀ t : Fin cfg0.N, win0_0.index t = ![t.val / 8, t.val % 8] := (by decide +kernel : ∀ t : Fin grid0.N, _)
theorem idx1 : ∀ t : Fin cfg0.N, win0_1.index t = ![t.val % 8, 0, 0] := (by decide +kernel : ∀ t : Fin grid0.N, _)
theorem idx2 : ∀ t : Fin cfg0.N, win0_2.index t = ![t.val / 8, 0] := (by decide +kernel : ∀ t : Fin grid0.N, _)
theorem idx3 : ∀ t : Fin cfg0.N, win0_3.index t = ![t.val / 8, 0] := (by decide +kernel : ∀ t : Fin grid0.N, _)
theorem lt_N (t : Fin cfg0.N) : t.val < 32 := lt_of_lt_of_eq t.isLt N_0

variable (m : (ℓ : Loc nD τ sig) → Buf (Elt Ideal) ℓ) (c : Dev nD)

abbrev D : FVec Ideal S4096x2048 .bf16 := m (c, Proc.tc.devRef main_arg2)
abbrev W : FVec Ideal S1024x2048 .bf16 := m (c, Proc.tc.devRef main_arg1)
abbrev B : FVec Ideal S4096x1024 .f32 := m (c, Proc.tc.devRef main_arg3)

/-- The entries of the result. -/
def res (i j : ℕ) : EReal := at2 (B m c) i j + ∑ e ∈ range 2048, at2 (D m c) i e * at2 (W m c) j e

theorem slabs_at (s : Fin 8) (r : Fin 1024) (e : Fin 256) :
    (V m c main_v1 : FVec Ideal S8x1024x256 .bf16) (ix3 s r e) = at2 (W m c) r.val (256 * s.val + e.val) := by
  rw [at2_of _ r.isLt (show 256 * s.val + e.val < 2048 by omega)]
  unfold V
  after_reads_at
  exact congrArg (fun j => W m c (ix2 r j)) (Fin.ext (by dsimp only; omega))

theorem blk0 (t : Fin cfg0.N) (u : Fin 1024) (e : Fin 256) :
    (iblk m c 0 t : FVec Ideal S1024x256 .bf16) (ix2 u e) = at2 (D m c) (1024 * (t.val / 8) + u.val) (256 * (t.val % 8) + e.val) := by
  have ht := lt_N t
  rw [at2_of _ (show 1024 * (t.val / 8) + u.val < 4096 by omega) (show 256 * (t.val % 8) + e.val < 2048 by omega)]
  blk_ext [iblk, V, idx0 t]
theorem blk1 (t : Fin cfg0.N) (l : Fin 1024) (e : Fin 256) :
    (iblk m c 1 t : FVec Ideal S1x1024x256 .bf16) (ix3 0 l e) = at2 (W m c) l.val (256 * (t.val % 8) + e.val) := by
  have ht := lt_N t
  refine Eq.trans ?_ (slabs_at m c ⟨t.val % 8, by omega⟩ l e)
  blk_ext [iblk, V, idx1 t]

theorem blk2 (t : Fin cfg0.N) (u l : Fin 1024) :
    (iblk m c 2 t : FVec Ideal S1024x1024 .f32) (ix2 u l) = at2 (B m c) (1024 * (t.val / 8) + u.val) l.val := by
  have ht := lt_N t
  rw [at2_of _ (show 1024 * (t.val / 8) + u.val < 4096 by omega) l.isLt]
  blk_ext [iblk, V, idx2 t]

theorem dot_at (t : Fin cfg0.N) (xs : FVec Ideal S1024x1024 .f32) (u l : Fin 1024) :
    k0_pay2 (iblk m c 0 t) (iblk m c 1 t) xs (ix2 u l) = xs (ix2 u l)
      + ∑ e ∈ range 256, at2 (D m c) (1024 * (t.val / 8) + u.val) (256 * (t.val % 8) + e) * at2 (W m c) l.val (256 * (t.val % 8) + e) := by
  rw [pay2, Finset.sum_range]
  simp only [blk0, blk1]

theorem acc_at (n : ℕ) (h : n < cfg0.N) (i : Fin 1024 × Fin 1024) : (outsAt0 m c n h).2 (ix2 i.1 i.2)
    = at2 (B m c) (1024 * (n / 8) + i.1.val) i.2.val + ∑ e ∈ range (256 * (n % 8 + 1)), at2 (D m c) (1024 * (n / 8) + i.1.val) e * at2 (W m c) i.2.val e := by
  refine accumulated_on (by omega) (fun n h (i : Fin 1024 × Fin 1024) => (outsAt0 m c n h).2 (ix2 i.1 i.2))
    (fun q i => at2 (B m c) (1024 * q + i.1.val) i.2.val)
    (fun q i e => at2 (D m c) (1024 * q + i.1.val) e * at2 (W m c) i.2.val e) ?_ ?_ n h i
  · intro n h i h0
    have e := congrArg Prod.snd (outsAt0_A m c ⟨n, h⟩ h0 (by show ¬n % 8 = 7; omega))
    dsimp only at e ⊢
    rw [e, sout_A, dot_at, pay1, blk2]
    simp only [h0, mul_zero, zero_add]
  · intro n h i h0
    by_cases h1 : n % 8 = 7
    · have e := congrArg Prod.snd (outsAt0_C m c ⟨n, h⟩ h0 h1)
      dsimp only at e ⊢
      rw [e, sout_C, dot_at]
    · have e := congrArg Prod.snd (outsAt0_B m c ⟨n, h⟩ h0 h1)
      dsimp only at e ⊢
      rw [e, sout_B, dot_at]

theorem out_at (t : Fin cfg0.N) (h1 : t.val % 8 = 7) (u l : Fin 1024) :
    (outsAt0 m c t.val t.isLt).1 (ix2 u l) = res m c (1024 * (t.val / 8) + u.val) l.val := by
  have h0 : ¬t.val % 8 = 0 := by omega
  have e := acc_at m c t.val t.isLt (u, l)
  rw [outsAt0_C m c t h0 h1] at e ⊢
  dsimp only at e ⊢
  rw [sout_C] at e
  rw [out_C, e, h1]
  rfl

theorem final : (dats m 0 c).arrAt 3 cfg0.N = (fun i => res m c (i 0).val (i 1).val : FVec Ideal S4096x1024 .f32) := by
  refine (dats m 0 c).arrAt_eq_of_covers 3 _ (by decide +kernel) fun t hf b => ?_
  have ht := lt_N t
  have hf := (flush0_3 t).mp hf
  blk_simp [idx3 t]
  rw [after0_3]
  refine Eq.trans (congrArg _ (ix2_eta b)) ((out_at m c t hf (b 0) (b 1)).trans ?_)
  congr 1 <;> omega

end Cert.KernelGateXIdeal.Hand

namespace Cert.ReferenceGateXIdeal.Hand

open Cert.ReferenceGateXIdeal Cert.ReferenceGateXIdeal.Gen Cert.Blocked
open Idealize.ShloMosaic Idealize.ShloMosaic.TcCoe Idealize.SL.Sem

theorem value (D : FVec Ideal S4096x2048 .bf16) (W : FVec Ideal S1024x2048 .bf16) (B : FVec Ideal S4096x1024 .f32) :
    addf B (Host.dotGeneral (φ₁ := .f32) (φ₂ := .f32) dot_S4096x2048_S1024x2048_S4096x1024_1_1_0_0_n_n none (extf .f32 D bitsLt_bf16_f32) (extf .f32 W bitsLt_bf16_f32))
      = (fun i => at2 B (i 0).val (i 1).val + ∑ e ∈ Finset.range 2048, at2 D (i 0).val e * at2 W (i 1).val e : FVec Ideal S4096x1024 .f32) := by
  funext i
  obtain ⟨r, l, rfl⟩ : ∃ (r : Fin 4096) (l : Fin 1024), i = ix2 r l := ⟨i 0, i 1, ix2_eta i⟩
  show _ = at2 B r.val l.val + ∑ e ∈ Finset.range 2048, at2 D r.val e * at2 W l.val e
  rw [Finset.sum_range]
  simp only [at2_ix]
  pointwise

end Cert.ReferenceGateXIdeal.Hand

namespace Cert.Proof

open Idealize.ShloMosaic Idealize.SL.Sem

theorem same_gate_x : Cert.algebraic_KernelGateXIdeal_ReferenceGateXIdeal (hKernelGateXIdeal := Cert.KernelGateXIdeal.Gen.facts)
    (hReferenceGateXIdeal := Cert.ReferenceGateXIdeal.Gen.facts) := by
  intro m g m' g' _ he
  refine ⟨fun c => (fun i => KernelGateXIdeal.Hand.res m c (i 0).val (i 1).val : FVec Ideal KernelGateXIdeal.S4096x1024 .f32), ?_, ?_⟩
  · exact (θ_run KernelGateXIdeal.defs _ _).mono (fun _ h c => ⟨(h c).1.trans (KernelGateXIdeal.Hand.final m c), (h c).2⟩)
      (KernelGateXIdeal.Value.run_blocks (F := Ideal) m g)
  · refine (θ_run ReferenceGateXIdeal.defs _ _).mono (fun _ h c => ⟨(h c).1.trans ((ReferenceGateXIdeal.Hand.value _ _ _).trans ?_), (h c).2⟩)
      (ReferenceGateXIdeal.Value.run (F := Ideal) m' g')
    obtain ⟨_, e1, e2, e3⟩ := he c
    rw [e1, e2, e3]
    rfl

-- the two programs have one text; that they are equal is checked by computation
set_option smartUnfolding false in
set_option maxHeartbeats 0 in
theorem frame_gate_x : Cert.quiescent_KernelGateX (hKernelGateX := Cert.KernelGateX.Gen.facts) := fun m ρ _ =>
  (θ_run KernelGateXIdeal.defs _ _).mono (fun _ h => h) (KernelGateXIdeal.Gen.frame (F := Bits) m ρ)
theorem frame_gate_x_ideal : Cert.quiescent_KernelGateXIdeal (hKernelGateXIdeal := Cert.KernelGateXIdeal.Gen.facts) := fun m ρ _ =>
  KernelGateXIdeal.Gen.frame (F := Ideal) m ρ
theorem frame_gate_x_reference : Cert.quiescent_ReferenceGateXIdeal (hReferenceGateXIdeal := Cert.ReferenceGateXIdeal.Gen.facts) := fun m ρ _ =>
  (θ_run ReferenceGateXIdeal.defs _ _).mono (fun _ h => ⟨fun c => (h c).2, sem_eq_zero_of_no_sems (by decide) _⟩)
    (ReferenceGateXIdeal.Value.run (F := Ideal) m ρ)

end Cert.Proof

end
-- ==== Proof.Ff1.lean ====
/- The MLP's first product and its squared relu, the forward call's two results: the value claim and the frames. -/
module

public import proofs.«01_k».proof.Defs
public import proofs.«01_k».proof.Proof.Blocked
public import proofs.«01_k».proof.Proof.Gen.KernelFf1
public import proofs.«01_k».proof.Proof.Gen.KernelFf1Ideal.Value
public import proofs.«01_k».proof.Proof.Gen.ReferenceFf1Ideal.Run
public import Idealize.ShloMosaic.Lib.StableHlo.ReadAt
public import Idealize.ShloMosaic.Lib.Pipeline.ValueKit
public import Idealize.ShloMosaic.Adequacy

@[expose] public section

set_option maxRecDepth 16384

noncomputable section

namespace Cert.KernelFf1Ideal.Hand

open Cert.KernelFf1Ideal Cert.KernelFf1Ideal.Gen Cert.Blocked
open Idealize.ShloMosaic Idealize.ShloMosaic.TcCoe Idealize.SL.Sem
open Finset (range)

section Cases
variable {F : FTy → Type} [FloatOps F] (c : Dev nD) (i : grid0.Coords) (a3 : Memref sig .tc .vmem S1024x1024 .bf16) (h3 : a3.IsWhole)
  (a4 : Memref sig .tc .vmem S1x1024x512 .bf16) (h4 : a4.IsWhole) (a5 : Memref sig .tc .vmem S1024x512 .f32) (h5 : a5.IsWhole)
  (a6 : Memref sig .tc .vmem S1024x512 .bf16) (h6 : a6.IsWhole) (a7 : Memref sig .tc .vmem S1024x512 .f32) (h7 : a7.IsWhole)
  (hc0 : cond0_0 i) (hc1 : cond0_1 i) (x0 : Vec F S1024x1024 .bf16) (x1 : Vec F S1x1024x512 .bf16)

theorem out_A : out0_A_2 c i a3 h3 a4 h4 a5 h5 a6 h6 a7 h7 hc0 hc1 x0 x1 = k0_pay2 x0 x1 k0_pay1 := by
  unfold out0_A_2
  rw [View.read_writes_eq_canon _ _ _ (cover0_A_2 c i a3 h3 a4 h4 a5 h5 a6 h6 a7 h7 hc0 hc1 x0 x1)]
  unfold kernelRun0_A
  dsimp only
  sl_unfold_words
  rw [View.canon_unit_zero hz]
  simp only [View.readCov_cons_toLoadRect, View.readCov_unit_zero (S := S1024x512) _ hz, View.readAt_eq_ld, h3.read_unread, h4.read_unread,
    View.ld_unit_zero (S := S1024x1024) hz, View.ld_unit_zero (S := S1x1024x512) hz3]
theorem act_A : out0_A_3 c i a3 h3 a4 h4 a5 h5 a6 h6 a7 h7 hc0 hc1 x0 x1 = k0_pay3 (k0_pay2 x0 x1 k0_pay1) := by
  unfold out0_A_3
  rw [View.read_writes_eq_canon _ _ _ (cover0_A_3 c i a3 h3 a4 h4 a5 h5 a6 h6 a7 h7 hc0 hc1 x0 x1)]
  unfold kernelRun0_A
  dsimp only
  sl_unfold_words
  rw [View.canon_unit_zero hz]
  simp only [View.readCov_cons_toLoadRect, View.readCov_unit_zero (S := S1024x512) _ hz, View.readAt_eq_ld, h3.read_unread, h4.read_unread,
    View.ld_unit_zero (S := S1024x1024) hz, View.ld_unit_zero (S := S1x1024x512) hz3]
end Cases

theorem pay (x0 : FVec Ideal S1024x1024 .bf16) (x1 : FVec Ideal S1x1024x512 .bf16) (u : Fin 1024) (l : Fin 512) :
    k0_pay2 (F := Ideal) x0 x1 (k0_pay1 (F := Ideal)) (ix2 u l) = ∑ e : Fin 1024, x0 (ix2 u e) * x1 (ix3 0 e l) := by
  pointwise [k0_pay2, k0_pay1]
theorem pay3 (x : FVec Ideal S1024x512 .f32) (u : Fin 1024) (l : Fin 512) :
    k0_pay3 (F := Ideal) x (ix2 u l) = max (x (ix2 u l)) 0 * max (x (ix2 u l)) 0 := by
  pointwise [k0_pay3]

theorem idx0 : ∀ t : Fin cfg0.N, win0_0.index t = ![t.val / 8, 0] := (by decide +kernel : ∀ t : Fin grid0.N, _)
theorem idx1 : ∀ t : Fin cfg0.N, win0_1.index t = ![t.val % 8, 0, 0] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![t.val / 8, t.val % 8] := (by decide +kernel : ∀ t : Fin grid0.N, _)
theorem lt_N (t : Fin cfg0.N) : t.val < 32 := lt_of_lt_of_eq t.isLt N_0

variable (m : (ℓ : Loc nD τ sig) → Buf (Elt Ideal) ℓ) (c : Dev nD)

abbrev X : FVec Ideal S4096x1024 .bf16 := m (c, Proc.tc.devRef main_arg0)
abbrev W : FVec Ideal S1024x4096 .bf16 := m (c, Proc.tc.devRef main_arg1)

/-- The entries of the result. -/
def res (i j : ℕ) : EReal := ∑ e ∈ range 1024, at2 (X m c) i e * at2 (W m c) e j

/-- Their squared relu. -/
def act (i j : ℕ) : EReal := max (res m c i j) 0 * max (res m c i j) 0

theorem slabs_at (s : Fin 8) (e : Fin 1024) (l : Fin 512) :
    (V m c main_v1 : FVec Ideal S8x1024x512 .bf16) (ix3 s e l) = at2 (W m c) e.val (512 * s.val + l.val) := by
  rw [at2_of _ e.isLt (show 512 * s.val + l.val < 4096 by omega)]
  unfold V
  after_reads_at
  exact congrArg (fun j => W m c (ix2 e j)) (Fin.ext (by dsimp only; omega))

theorem blk0 (t : Fin cfg0.N) (u : Fin 1024) (e : Fin 1024) :
    (iblk m c 0 t : FVec Ideal S1024x1024 .bf16) (ix2 u e) = at2 (X m c) (1024 * (t.val / 8) + u.val) e.val := by
  have ht := lt_N t
  rw [at2_of _ (show 1024 * (t.val / 8) + u.val < 4096 by omega) e.isLt]
  blk_ext [iblk, V, idx0 t]
theorem blk1 (t : Fin cfg0.N) (l : Fin 512) (e : Fin 1024) :
    (iblk m c 1 t : FVec Ideal S1x1024x512 .bf16) (ix3 0 e l) = at2 (W m c) e.val (512 * (t.val % 8) + l.val) := by
  have ht := lt_N t
  refine Eq.trans ?_ (slabs_at m c ⟨t.val % 8, by omega⟩ e l)
  blk_ext [iblk, V, idx1 t]

theorem out_at (t : Fin cfg0.N) (u : Fin 1024) (l : Fin 512) : (outsAt0 m c t).1 (ix2 u l) = res m c (1024 * (t.val / 8) + u.val) (512 * (t.val % 8) + l.val) := by
  unfold outsAt0 res
  dsimp only
  rw [out_A, pay, Finset.sum_range]
  simp only [blk0, blk1]
theorem act_at (t : Fin cfg0.N) (u : Fin 1024) (l : Fin 512) : (outsAt0 m c t).2 (ix2 u l) = act m c (1024 * (t.val / 8) + u.val) (512 * (t.val % 8) + l.val) := by
  have e := out_at m c t u l
  unfold outsAt0 at e ⊢
  dsimp only at e ⊢
  rw [out_A] at e
  rw [act_A, pay3, e]
  rfl

theorem final : (dats m 0 c).arrAt 2 cfg0.N = (fun i => res m c (i 0).val (i 1).val : FVec Ideal S4096x4096 .f32) := by
  refine (dats m 0 c).arrAt_eq_of_covers 2 _ (by decide +kernel) fun t hf b => ?_
  have ht := lt_N t
  blk_simp [idx2 t]
  rw [after0_2]
  refine Eq.trans (congrArg _ (ix2_eta b)) ((out_at m c t (b 0) (b 1)).trans ?_)
  congr 1 <;> omega

theorem final_act : (dats m 0 c).arrAt 3 cfg0.N = (fun i => act m c (i 0).val (i 1).val : FVec Ideal S4096x4096 .bf16) := by
  refine (dats m 0 c).arrAt_eq_of_covers 3 _ (by decide +kernel) fun t hf b => ?_
  have ht := lt_N t
  blk_simp [idx3 t]
  rw [after0_3]
  refine Eq.trans (congrArg _ (ix2_eta b)) ((act_at m c t (b 0) (b 1)).trans ?_)
  congr 1 <;> omega

end Cert.KernelFf1Ideal.Hand

namespace Cert.ReferenceFf1Ideal.Hand

open Cert.ReferenceFf1Ideal Cert.ReferenceFf1Ideal.Gen Cert.Blocked
open Idealize.ShloMosaic Idealize.ShloMosaic.TcCoe Idealize.SL.Sem

theorem value (X : FVec Ideal S4096x1024 .bf16) (W : FVec Ideal S1024x4096 .bf16) :
    Host.dotGeneral (φ₁ := .f32) (φ₂ := .f32) dot_S4096x1024_S1024x4096_S4096x4096_1_0_0_1_n_n none (extf .f32 X bitsLt_bf16_f32) (extf .f32 W bitsLt_bf16_f32)
      = (fun i => ∑ e ∈ Finset.range 1024, at2 X (i 0).val e * at2 W e (i 1).val : FVec Ideal S4096x4096 .f32) := by
  funext i
  obtain ⟨r, l, rfl⟩ : ∃ (r : Fin 4096) (l : Fin 4096), i = ix2 r l := ⟨i 0, i 1, ix2_eta i⟩
  show _ = ∑ e ∈ Finset.range 1024, at2 X r.val e * at2 W e l.val
  rw [Finset.sum_range]
  simp only [at2_ix]
  pointwise

theorem value_act (X : FVec Ideal S4096x1024 .bf16) (W : FVec Ideal S1024x4096 .bf16) (a : FVec Ideal S4096x4096 .f32)
    (h : a = (fun i => ∑ e ∈ Finset.range 1024, at2 X (i 0).val e * at2 W e (i 1).val : FVec Ideal S4096x4096 .f32)) :
    truncf .bf16 (mulf (maximumf a (broadcastInDim S4096x4096 ![] bcast_S_S4096x4096 (constant S_ .f32 0x00000000#32)))
        (maximumf a (broadcastInDim S4096x4096 ![] bcast_S_S4096x4096 (constant S_ .f32 0x00000000#32)))) bitsLt_bf16_f32
      = (fun i => max (∑ e ∈ Finset.range 1024, at2 X (i 0).val e * at2 W e (i 1).val) 0
          * max (∑ e ∈ Finset.range 1024, at2 X (i 0).val e * at2 W e (i 1).val) 0 : FVec Ideal S4096x4096 .bf16) := by
  funext i
  obtain ⟨r, l, rfl⟩ : ∃ r l : Fin 4096, i = ix2 r l := ⟨i 0, i 1, ix2_eta i⟩
  have h := congrFun h (ix2 r l)
  dsimp only at h ⊢
  rw [← h]
  pointwise

end Cert.ReferenceFf1Ideal.Hand

namespace Cert.Proof

open Idealize.ShloMosaic Idealize.SL.Sem

theorem same_ff1 : Cert.algebraic_KernelFf1Ideal_ReferenceFf1Ideal (hKernelFf1Ideal := Cert.KernelFf1Ideal.Gen.facts)
    (hReferenceFf1Ideal := Cert.ReferenceFf1Ideal.Gen.facts) := by
  intro m g m' g' _ he
  refine ⟨fun c => (fun i => KernelFf1Ideal.Hand.res m c (i 0).val (i 1).val : FVec Ideal KernelFf1Ideal.S4096x4096 .f32),
    fun c => (fun i => KernelFf1Ideal.Hand.act m c (i 0).val (i 1).val : FVec Ideal KernelFf1Ideal.S4096x4096 .bf16), ?_, ?_⟩
  · exact (θ_run KernelFf1Ideal.defs _ _).mono
      (fun _ h c => ⟨(h c).1.trans (KernelFf1Ideal.Hand.final m c), (h c).2.1.trans (KernelFf1Ideal.Hand.final_act m c), (h c).2.2⟩)
      (KernelFf1Ideal.Value.run_blocks (F := Ideal) m g)
  · refine (θ_run ReferenceFf1Ideal.defs _ _).mono (fun _ h c => ⟨(h c).1.trans ((ReferenceFf1Ideal.Hand.value _ _).trans ?_),
      (h c).2.1.trans ((ReferenceFf1Ideal.Hand.value_act _ _ _ (ReferenceFf1Ideal.Hand.value _ _)).trans ?_), (h c).2.2⟩)
      (ReferenceFf1Ideal.Value.run (F := Ideal) m' g')
    all_goals
      rw [(he c).1, (he c).2]
      rfl

-- the two programs have one text; that they are equal is checked by computation
set_option smartUnfolding false in
set_option maxHeartbeats 0 in
theorem frame_ff1 : Cert.quiescent_KernelFf1 (hKernelFf1 := Cert.KernelFf1.Gen.facts) := fun m ρ _ =>
  (θ_run KernelFf1Ideal.defs _ _).mono (fun _ h => h) (KernelFf1Ideal.Gen.frame (F := Bits) m ρ)
theorem frame_ff1_ideal : Cert.quiescent_KernelFf1Ideal (hKernelFf1Ideal := Cert.KernelFf1Ideal.Gen.facts) := fun m ρ _ =>
  KernelFf1Ideal.Gen.frame (F := Ideal) m ρ
theorem frame_ff1_reference : Cert.quiescent_ReferenceFf1Ideal (hReferenceFf1Ideal := Cert.ReferenceFf1Ideal.Gen.facts) := fun m ρ _ =>
  (θ_run ReferenceFf1Ideal.defs _ _).mono (fun _ h => ⟨fun c => (h c).2.2, sem_eq_zero_of_no_sems (by decide) _⟩)
    (ReferenceFf1Ideal.Value.run (F := Ideal) m ρ)

end Cert.Proof

end
-- ==== Proof.Loss.lean ====
/- The loss and the gradients at it: a row of them, the sums accumulated over the rows, the host's sum of the loss, the value claim and the frames. -/
module

public import proofs.«01_k».proof.Defs
public import proofs.«01_k».proof.Proof.Blocked
public import proofs.«01_k».proof.Proof.Gates
public import proofs.«01_k».proof.Proof.Norm
public import proofs.«01_k».proof.Proof.Gen.KernelLoss
public import proofs.«01_k».proof.Proof.Gen.KernelLossIdeal.Frame
public import proofs.«01_k».proof.Proof.Gen.ReferenceLossIdeal.Run
public import Idealize.ShloMosaic.Lib.Pipeline.ValueKit
public import Idealize.ShloMosaic.Adequacy

@[expose] public section

set_option maxRecDepth 16384

noncomputable section

namespace Cert.Loss

open Idealize.ShloMosaic
open Cert.Gates (gate half)
open Cert.Norm

/-- The gated embedding of a row. -/
def emb (p b : Fin 1024 → EReal) (l : Fin 1024) : EReal := gate (p l) * b l
/-- The row's output less its target. -/
def err (h p b y g : Fin 1024 → EReal) (l : Fin 1024) : EReal := h l + emb p b l * scale (emb p b) * g l - y l
/-- The gradient at the output. -/
def top (h p b y g : Fin 1024 → EReal) (l : Fin 1024) : EReal := err h p b y g l * Ideal.ofBits .f32 0x3A800000#32
/-- The gradient at the gated embedding. -/
def mid (h p b y g : Fin 1024 → EReal) (l : Fin 1024) : EReal := back (emb p b) g (top h p b y g) l

/-- A nonnegative number goes into a sum. -/
theorem mul_sum {ι : Type*} (s : Finset ι) {c : EReal} (h : 0 ≤ c) (h' : c ≠ ⊤) (f : ι → EReal) : c * ∑ i ∈ s, f i = ∑ i ∈ s, c * f i := by
  classical
  induction s using Finset.induction_on with
  | empty => simp
  | insert a s ha ih => rw [Finset.sum_insert ha, Finset.sum_insert ha, EReal.left_distrib_of_nonneg_of_ne_top h h', ih]

theorem rows : Ideal.ofBits .f32 0x3A800000#32 = ((1 / 1024 : ℝ) : EReal) := by
  simp [Ideal.ofBits, Ideal.ieee]
  rw [← EReal.coe_mul]
  norm_num
theorem rows2 : Ideal.ofBits .f32 0x3A000000#32 = ((1 / 2048 : ℝ) : EReal) := by
  simp [Ideal.ofBits, Ideal.ieee]
  rw [← EReal.coe_mul]
  norm_num
theorem two : Ideal.ofBits .f32 0x40000000#32 = ((2 : ℝ) : EReal) := by
  simp [Ideal.ofBits, Ideal.ieee]
  rw [← EReal.coe_mul]
  norm_num
theorem one : Ideal.ofBits .f32 0x3F800000#32 = ((1 : ℝ) : EReal) := by
  simp [Ideal.ofBits, Ideal.ieee]
  rw [← EReal.coe_mul]
  norm_num
theorem lanes : Ideal.ofBits .f32 0x44800000#32 = ((1024 : ℝ) : EReal) := by
  simp [Ideal.ofBits, Ideal.ieee]
  rw [← EReal.coe_mul]
  norm_num
/-- Dividing by the row's length. -/
theorem div_lanes (x : EReal) : Ideal.div x (Ideal.ofBits .f32 0x44800000#32) = x * ((1 / 1024 : ℝ) : EReal) := by
  rw [lanes]
  unfold Ideal.div
  rw [if_neg (by norm_num), ← EReal.coe_inv]
  congr 2
  norm_num

/-- Half the sum of the rows' means is one sum. -/
theorem mean (e : Fin 4096 → Fin 1024 → EReal) : Ideal.ofBits .f32 0x3F000000#32 * ∑ r, Ideal.div (∑ l, e r l * e r l) (Ideal.ofBits .f32 0x44800000#32)
    = ∑ r, ∑ l, ((1 / 2048 : ℝ) : EReal) * (e r l * e r l) := by
  rw [half, mul_sum _ (by exact_mod_cast (by norm_num : (0 : ℝ) ≤ 1 / 2)) (EReal.coe_ne_top _)]
  refine Finset.sum_congr rfl fun r _ => ?_
  rw [div_lanes, mul_comm (∑ l, e r l * e r l), ← mul_assoc, ← EReal.coe_mul, show ((1 / 2 : ℝ) * (1 / 1024)) = 1 / 2048 by norm_num,
    mul_sum _ (by exact_mod_cast (by norm_num : (0 : ℝ) ≤ 1 / 2048)) (EReal.coe_ne_top _)]

/-- The loss's derivative at the output. -/
theorem slope_loss (x : EReal) : Ideal.div (Ideal.ofBits .f32 0x3F000000#32) (Ideal.ofBits .f32 0x44800000#32) * (Ideal.ofBits .f32 0x40000000#32 * x)
    = x * Ideal.ofBits .f32 0x3A800000#32 := by
  rw [div_lanes, half, two, rows, ← mul_assoc, ← EReal.coe_mul, ← EReal.coe_mul, mul_comm]
  congr 2
  norm_num

/-- The gate's derivative as the kernel computes it. -/
theorem slope (z : EReal) : Ideal.ofBits .f32 0x3F000000#32 * (Ideal.ofBits .f32 0x3F000000#32 *
      ((1 + Ideal.tanh (Ideal.ofBits .f32 0x3F000000#32 * z)) * (1 - Ideal.tanh (Ideal.ofBits .f32 0x3F000000#32 * z))))
    = gate z * (1 - gate z) := by
  rw [← Cert.Gates.tanh_gate, half]
  obtain ⟨r, hr⟩ : ∃ r : ℝ, Ideal.tanh (((1 / 2 : ℝ) : EReal) * z) = (r : EReal) := by
    generalize ((1 / 2 : ℝ) : EReal) * z = w
    induction w using EReal.rec with
    | bot => exact ⟨-1, Ideal.tanh_bot⟩
    | top => exact ⟨1, Ideal.tanh_top⟩
    | coe r => exact ⟨_, Ideal.tanh_coe r⟩
  rw [hr, ← EReal.coe_one]
  simp only [← EReal.coe_mul, ← EReal.coe_add, ← EReal.coe_sub]
  congr 1
  ring
end Cert.Loss

namespace Cert.KernelLossIdeal.Hand

open Cert.KernelLossIdeal Cert.KernelLossIdeal.Gen Cert.Blocked Cert.Loss
open Cert.Norm (meanSq scale through back)
open Cert.Gates (gate tanh_gate)
open Idealize.ShloMosaic Idealize.ShloMosaic.TcCoe Idealize.SL.Sem
open Finset (range)

section Cases
variable {F : FTy → Type} [FloatOps F]

/-- What a point leaves in its outputs: the three blocks of rows, and the point's parts of the two sums. -/
def left (x0 x1 x2 x3 : Vec F S512x1024 .f32) (x4 : Vec F S1x1024 .f32) : Vec F S512x1024 .bf16 :=
  k0_pay17 x2 x4 (k0_pay4 x1) (k0_pay6 x1 x2) (k0_pay8 x1 x2) (k0_pay9 x1 x2) (k0_pay12 x0 x1 x2 x3 x4)
def right (x0 x1 x2 x3 : Vec F S512x1024 .f32) (x4 : Vec F S1x1024 .f32) : Vec F S512x1024 .bf16 :=
  k0_pay18 x4 (k0_pay5 x1) (k0_pay6 x1 x2) (k0_pay8 x1 x2) (k0_pay9 x1 x2) (k0_pay12 x0 x1 x2 x3 x4)
def weight (x0 x1 x2 x3 : Vec F S512x1024 .f32) (x4 : Vec F S1x1024 .f32) : Vec F S1x1024 .f32 := k0_pay14 (k0_pay13 x0 x1 x2 x3 x4)
def loss (x0 x1 x2 x3 : Vec F S512x1024 .f32) (x4 : Vec F S1x1024 .f32) : Vec F S1x1024 .f32 := k0_pay16 (k0_pay11 x0 x1 x2 x3 x4)

variable (c : Dev nD) (i : grid0.Coords) (a2 : Memref sig .tc .vmem S512x1024 .f32) (h2 : a2.IsWhole)
  (a3 : Memref sig .tc .vmem S512x1024 .f32) (h3 : a3.IsWhole) (a4 : Memref sig .tc .vmem S512x1024 .f32) (h4 : a4.IsWhole)
  (a5 : Memref sig .tc .vmem S512x1024 .f32) (h5 : a5.IsWhole) (a6 : Memref sig .tc .vmem S1x1024 .f32) (h6 : a6.IsWhole)
  (a7 : Memref sig .tc .vmem S512x1024 .f32) (h7 : a7.IsWhole) (a8 : Memref sig .tc .vmem S512x1024 .bf16) (h8 : a8.IsWhole)
  (a9 : Memref sig .tc .vmem S512x1024 .bf16) (h9 : a9.IsWhole) (a10 : Memref sig .tc .vmem S1x1024 .f32) (h10 : a10.IsWhole)
  (a11 : Memref sig .tc .vmem S1x1024 .f32) (h11 : a11.IsWhole)
  (x0 x1 x2 x3 : Vec F S512x1024 .f32) (x4 xo8 xo9 : Vec F S1x1024 .f32)

theorem outs_A (hc0 : cond0_0 i) (hc1 : ¬cond0_1 i) (hc2 : cond0_2 i) (hc3 : ¬cond0_3 i) :
    out0_A_5 c i a2 h2 a3 h3 a4 h4 a5 h5 a6 h6 a7 h7 a8 h8 a9 h9 a10 h10 a11 h11 hc0 hc1 hc2 hc3 x0 x1 x2 x3 x4 = k0_pay12 x0 x1 x2 x3 x4
    ∧ out0_A_6 c i a2 h2 a3 h3 a4 h4 a5 h5 a6 h6 a7 h7 a8 h8 a9 h9 a10 h10 a11 h11 hc0 hc1 hc2 hc3 x0 x1 x2 x3 x4 = left x0 x1 x2 x3 x4
    ∧ out0_A_7 c i a2 h2 a3 h3 a4 h4 a5 h5 a6 h6 a7 h7 a8 h8 a9 h9 a10 h10 a11 h11 hc0 hc1 hc2 hc3 x0 x1 x2 x3 x4 = right x0 x1 x2 x3 x4
    ∧ out0_A_8 c i a2 h2 a3 h3 a4 h4 a5 h5 a6 h6 a7 h7 a8 h8 a9 h9 a10 h10 a11 h11 hc0 hc1 hc2 hc3 x0 x1 x2 x3 x4 = weight x0 x1 x2 x3 x4
    ∧ out0_A_9 c i a2 h2 a3 h3 a4 h4 a5 h5 a6 h6 a7 h7 a8 h8 a9 h9 a10 h10 a11 h11 hc0 hc1 hc2 hc3 x0 x1 x2 x3 x4 = loss x0 x1 x2 x3 x4 := by
  refine ⟨(View.read_writes_eq_canon _ _ _ (cover0_A_5 c i a2 h2 a3 h3 a4 h4 a5 h5 a6 h6 a7 h7 a8 h8 a9 h9 a10 h10 a11 h11 hc0 hc1 hc2 hc3 x0 x1 x2 x3 x4)).trans ?_,
    (View.read_writes_eq_canon _ _ _ (cover0_A_6 c i a2 h2 a3 h3 a4 h4 a5 h5 a6 h6 a7 h7 a8 h8 a9 h9 a10 h10 a11 h11 hc0 hc1 hc2 hc3 x0 x1 x2 x3 x4)).trans ?_,
    (View.read_writes_eq_canon _ _ _ (cover0_A_7 c i a2 h2 a3 h3 a4 h4 a5 h5 a6 h6 a7 h7 a8 h8 a9 h9 a10 h10 a11 h11 hc0 hc1 hc2 hc3 x0 x1 x2 x3 x4)).trans ?_,
    (View.read_writes_eq_canon _ _ _ (cover0_A_8 c i a2 h2 a3 h3 a4 h4 a5 h5 a6 h6 a7 h7 a8 h8 a9 h9 a10 h10 a11 h11 hc0 hc1 hc2 hc3 x0 x1 x2 x3 x4)).trans ?_,
    (View.read_writes_eq_canon _ _ _ (cover0_A_9 c i a2 h2 a3 h3 a4 h4 a5 h5 a6 h6 a7 h7 a8 h8 a9 h9 a10 h10 a11 h11 hc0 hc1 hc2 hc3 x0 x1 x2 x3 x4)).trans ?_⟩
  all_goals
    unfold kernelRun0_A
    dsimp only
    sl_unfold_words
    rw [View.canon_unit_zero hz]
    simp only [View.readAt_eq_ld, h2.read_unread, h3.read_unread, h4.read_unread, h5.read_unread, h6.read_unread, View.ld_unit_zero (S := S512x1024) hz, View.ld_unit_zero (S := S1x1024) hz, left, right, weight, loss]

theorem outs_B (hc0 : ¬cond0_0 i) (hc1 : cond0_1 i) (hc2 : ¬cond0_2 i) (hc3 : cond0_3 i) :
    out0_B_5 c i a2 h2 a3 h3 a4 h4 a5 h5 a6 h6 a7 h7 a8 h8 a9 h9 a10 h10 a11 h11 hc0 hc1 hc2 hc3 x0 x1 x2 x3 x4 xo8 xo9 = k0_pay12 x0 x1 x2 x3 x4
    ∧ out0_B_6 c i a2 h2 a3 h3 a4 h4 a5 h5 a6 h6 a7 h7 a8 h8 a9 h9 a10 h10 a11 h11 hc0 hc1 hc2 hc3 x0 x1 x2 x3 x4 xo8 xo9 = left x0 x1 x2 x3 x4
    ∧ out0_B_7 c i a2 h2 a3 h3 a4 h4 a5 h5 a6 h6 a7 h7 a8 h8 a9 h9 a10 h10 a11 h11 hc0 hc1 hc2 hc3 x0 x1 x2 x3 x4 xo8 xo9 = right x0 x1 x2 x3 x4
    ∧ out0_B_8 c i a2 h2 a3 h3 a4 h4 a5 h5 a6 h6 a7 h7 a8 h8 a9 h9 a10 h10 a11 h11 hc0 hc1 hc2 hc3 x0 x1 x2 x3 x4 xo8 xo9 = k0_pay1 (weight x0 x1 x2 x3 x4) xo8
    ∧ out0_B_9 c i a2 h2 a3 h3 a4 h4 a5 h5 a6 h6 a7 h7 a8 h8 a9 h9 a10 h10 a11 h11 hc0 hc1 hc2 hc3 x0 x1 x2 x3 x4 xo8 xo9 = k0_pay2 (loss x0 x1 x2 x3 x4) xo9 := by
  refine ⟨(View.read_writes_eq_canon _ _ _ (cover0_B_5 c i a2 h2 a3 h3 a4 h4 a5 h5 a6 h6 a7 h7 a8 h8 a9 h9 a10 h10 a11 h11 hc0 hc1 hc2 hc3 x0 x1 x2 x3 x4 xo8 xo9)).trans ?_,
    (View.read_writes_eq_canon _ _ _ (cover0_B_6 c i a2 h2 a3 h3 a4 h4 a5 h5 a6 h6 a7 h7 a8 h8 a9 h9 a10 h10 a11 h11 hc0 hc1 hc2 hc3 x0 x1 x2 x3 x4 xo8 xo9)).trans ?_,
    (View.read_writes_eq_canon _ _ _ (cover0_B_7 c i a2 h2 a3 h3 a4 h4 a5 h5 a6 h6 a7 h7 a8 h8 a9 h9 a10 h10 a11 h11 hc0 hc1 hc2 hc3 x0 x1 x2 x3 x4 xo8 xo9)).trans ?_,
    (View.read_writes_eq_canon _ _ _ (cover0_B_8 c i a2 h2 a3 h3 a4 h4 a5 h5 a6 h6 a7 h7 a8 h8 a9 h9 a10 h10 a11 h11 hc0 hc1 hc2 hc3 x0 x1 x2 x3 x4 xo8 xo9)).trans ?_,
    (View.read_writes_eq_canon _ _ _ (cover0_B_9 c i a2 h2 a3 h3 a4 h4 a5 h5 a6 h6 a7 h7 a8 h8 a9 h9 a10 h10 a11 h11 hc0 hc1 hc2 hc3 x0 x1 x2 x3 x4 xo8 xo9)).trans ?_⟩
  all_goals
    unfold kernelRun0_B
    dsimp only
    sl_unfold_words
    rw [View.canon_unit_zero hz]
    simp only [View.readAt_eq_ld, h2.read_unread, h3.read_unread, h4.read_unread, h5.read_unread, h6.read_unread, h10.read_unread, h11.read_unread, View.ld_unit_zero (S := S512x1024) hz, View.ld_unit_zero (S := S1x1024) hz, left, right, weight, loss]
end Cases

section Block
variable (h p b y : FVec Ideal S512x1024 .f32) (g : FVec Ideal S1x1024 .f32) (u : Fin 512) (l : Fin 1024)

theorem pay5 : k0_pay5 (F := Ideal) p (ix2 u l) = gate (p (ix2 u l)) := by
  pointwise [k0_pay5, k0_pay3]
  rw [tanh_gate]
theorem pay6 : k0_pay6 (F := Ideal) p b (ix2 u l) = emb (fun l => p (ix2 u l)) (fun l => b (ix2 u l)) l := by
  pointwise [k0_pay6]
  rw [pay5]
  rfl
theorem pay7 : k0_pay7 (F := Ideal) p b (ix2 u 0) = meanSq (emb (fun l => p (ix2 u l)) (fun l => b (ix2 u l))) := by
  pointwise [k0_pay7]
  simp only [pay6]
  rfl
theorem pay8 : k0_pay8 (F := Ideal) p b (ix2 u 0) = scale (emb (fun l => p (ix2 u l)) (fun l => b (ix2 u l))) := by
  pointwise [k0_pay8]
  rw [pay7]
  rfl
theorem pay11 : k0_pay11 (F := Ideal) h p b y g (ix2 u l)
    = err (fun l => h (ix2 u l)) (fun l => p (ix2 u l)) (fun l => b (ix2 u l)) (fun l => y (ix2 u l)) (fun l => g (ix2 0 l)) l := by
  pointwise [k0_pay11, k0_pay10]
  rw [pay6, pay8]
  rfl
theorem pay12 : k0_pay12 (F := Ideal) h p b y g (ix2 u l)
    = top (fun l => h (ix2 u l)) (fun l => p (ix2 u l)) (fun l => b (ix2 u l)) (fun l => y (ix2 u l)) (fun l => g (ix2 0 l)) l := by
  pointwise [k0_pay12]
  rw [pay11]
  rfl
theorem pay15 : k0_pay15 (F := Ideal) g (k0_pay6 p b) (k0_pay8 p b) (k0_pay9 p b) (k0_pay12 h p b y g) (ix2 u l)
    = mid (fun l => h (ix2 u l)) (fun l => p (ix2 u l)) (fun l => b (ix2 u l)) (fun l => y (ix2 u l)) (fun l => g (ix2 0 l)) l := by
  pointwise [k0_pay15, k0_pay9]
  simp only [pay6, pay7, pay8, pay12, Fin.sum_univ_one]
  rfl
theorem left_pay : left (F := Ideal) h p b y g (ix2 u l)
    = mid (fun l => h (ix2 u l)) (fun l => p (ix2 u l)) (fun l => b (ix2 u l)) (fun l => y (ix2 u l)) (fun l => g (ix2 0 l)) l * b (ix2 u l)
      * (gate (p (ix2 u l)) * (1 - gate (p (ix2 u l)))) := by
  unfold left
  pointwise [k0_pay17, k0_pay4, k0_pay3]
  rw [pay15, ← slope]
  ac_rfl
theorem right_pay : right (F := Ideal) h p b y g (ix2 u l)
    = gate (p (ix2 u l)) * mid (fun l => h (ix2 u l)) (fun l => p (ix2 u l)) (fun l => b (ix2 u l)) (fun l => y (ix2 u l)) (fun l => g (ix2 0 l)) l := by
  unfold right
  pointwise [k0_pay18]
  rw [pay15, pay5]
theorem weight_pay : weight (F := Ideal) h p b y g (ix2 0 l)
    = ∑ u : Fin 512, emb (fun l => p (ix2 u l)) (fun l => b (ix2 u l)) l * scale (emb (fun l => p (ix2 u l)) (fun l => b (ix2 u l)))
      * top (fun l => h (ix2 u l)) (fun l => p (ix2 u l)) (fun l => b (ix2 u l)) (fun l => y (ix2 u l)) (fun l => g (ix2 0 l)) l := by
  unfold weight
  pointwise [k0_pay14, k0_pay13, k0_pay10]
  simp only [pay6, pay8, pay12]
theorem loss_pay : loss (F := Ideal) h p b y g (ix2 0 l)
    = ∑ u : Fin 512, ((1 / 2048 : ℝ) : EReal) * (err (fun l => h (ix2 u l)) (fun l => p (ix2 u l)) (fun l => b (ix2 u l)) (fun l => y (ix2 u l)) (fun l => g (ix2 0 l)) l
      * err (fun l => h (ix2 u l)) (fun l => p (ix2 u l)) (fun l => b (ix2 u l)) (fun l => y (ix2 u l)) (fun l => g (ix2 0 l)) l) := by
  unfold loss
  pointwise [k0_pay16]
  simp only [pay11]
  rw [rows2, mul_sum _ (by exact_mod_cast (by norm_num : (0 : ℝ) ≤ 1 / 2048)) (EReal.coe_ne_top _)]
theorem pay1 (s a : FVec Ideal S1x1024 .f32) : k0_pay1 (F := Ideal) s a (ix2 0 l) = a (ix2 0 l) + s (ix2 0 l) := by
  pointwise [k0_pay1]
theorem pay2 (s a : FVec Ideal S1x1024 .f32) : k0_pay2 (F := Ideal) s a (ix2 0 l) = a (ix2 0 l) + s (ix2 0 l) := by
  pointwise [k0_pay2]
end Block

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem lt_N (t : Fin cfg0.N) : t.val < 8 := lt_of_lt_of_eq t.isLt N_0

variable (m : (ℓ : Loc nD τ sig) → Buf (Elt Ideal) ℓ) (c : Dev nD)

abbrev H : FVec Ideal S4096x1024 .f32 := m (c, Proc.tc.devRef main_arg0)
abbrev P : FVec Ideal S4096x1024 .f32 := m (c, Proc.tc.devRef main_arg1)
abbrev B : FVec Ideal S4096x1024 .f32 := m (c, Proc.tc.devRef main_arg2)
abbrev Y : FVec Ideal S4096x1024 .f32 := m (c, Proc.tc.devRef main_arg3)
abbrev G : FVec Ideal S1x1024 .f32 := m (c, Proc.tc.devRef main_arg4)

def row (t : Fin cfg0.N) (u : Fin 512) : Fin 4096 := ⟨512 * t.val + u.val, by have := lt_N t; omega⟩

theorem blk0 (t : Fin cfg0.N) (u : Fin 512) (l : Fin 1024) : (iblk m c 0 t : FVec Ideal S512x1024 .f32) (ix2 u l) = H m c (ix2 (row t u) l) := by
  unfold row
  blk_ext [iblk, V, idx0 t]
theorem blk1 (t : Fin cfg0.N) (u : Fin 512) (l : Fin 1024) : (iblk m c 1 t : FVec Ideal S512x1024 .f32) (ix2 u l) = P m c (ix2 (row t u) l) := by
  unfold row
  blk_ext [iblk, V, idx1 t]
theorem blk2 (t : Fin cfg0.N) (u : Fin 512) (l : Fin 1024) : (iblk m c 2 t : FVec Ideal S512x1024 .f32) (ix2 u l) = B m c (ix2 (row t u) l) := by
  unfold row
  blk_ext [iblk, V, idx2 t]
theorem blk3 (t : Fin cfg0.N) (u : Fin 512) (l : Fin 1024) : (iblk m c 3 t : FVec Ideal S512x1024 .f32) (ix2 u l) = Y m c (ix2 (row t u) l) := by
  unfold row
  blk_ext [iblk, V, idx3 t]
theorem blk4 (t : Fin cfg0.N) (l : Fin 1024) : (iblk m c 4 t : FVec Ideal S1x1024 .f32) (ix2 0 l) = G m c (ix2 0 l) := by
  blk_ext [iblk, V, idx4 t]

/-- A row's gated embedding, its error and the gradients of it. -/
def embR (r : Fin 4096) : Fin 1024 → EReal := emb (fun l => P m c (ix2 r l)) (fun l => B m c (ix2 r l))
def errR (r : Fin 4096) : Fin 1024 → EReal :=
  err (fun l => H m c (ix2 r l)) (fun l => P m c (ix2 r l)) (fun l => B m c (ix2 r l)) (fun l => Y m c (ix2 r l)) (fun l => G m c (ix2 0 l))
def topR (r : Fin 4096) : Fin 1024 → EReal :=
  top (fun l => H m c (ix2 r l)) (fun l => P m c (ix2 r l)) (fun l => B m c (ix2 r l)) (fun l => Y m c (ix2 r l)) (fun l => G m c (ix2 0 l))
def midR (r : Fin 4096) : Fin 1024 → EReal :=
  mid (fun l => H m c (ix2 r l)) (fun l => P m c (ix2 r l)) (fun l => B m c (ix2 r l)) (fun l => Y m c (ix2 r l)) (fun l => G m c (ix2 0 l))

/-- The gradients of the block's output, of the gate's argument and of the embedding; a row's parts of the weight's gradient and of the loss. -/
def total5 : FVec Ideal S4096x1024 .f32 := fun i => topR m c (i 0) (i 1)
def total6 : FVec Ideal S4096x1024 .bf16 := fun i => midR m c (i 0) (i 1) * B m c i * (gate (P m c i) * (1 - gate (P m c i)))
def total7 : FVec Ideal S4096x1024 .bf16 := fun i => gate (P m c i) * midR m c (i 0) (i 1)
def part8 : FVec Ideal S4096x1024 .f32 := fun i => embR m c (i 0) (i 1) * scale (embR m c (i 0)) * topR m c (i 0) (i 1)
def part9 : FVec Ideal S4096x1024 .f32 := fun i => ((1 / 2048 : ℝ) : EReal) * (errR m c (i 0) (i 1) * errR m c (i 0) (i 1))

theorem top_at (t : Fin cfg0.N) (u : Fin 512) (l : Fin 1024) : k0_pay12 (F := Ideal) (iblk m c 0 t) (iblk m c 1 t) (iblk m c 2 t) (iblk m c 3 t) (iblk m c 4 t) (ix2 u l)
    = at2 (total5 m c) (512 * t.val + u.val) l.val := by
  rw [at2_of _ (show 512 * t.val + u.val < 4096 from (row t u).isLt) l.isLt, pay12]
  simp only [blk0, blk1, blk2, blk3, blk4]
  rfl
theorem left_at (t : Fin cfg0.N) (u : Fin 512) (l : Fin 1024) : left (F := Ideal) (iblk m c 0 t) (iblk m c 1 t) (iblk m c 2 t) (iblk m c 3 t) (iblk m c 4 t) (ix2 u l)
    = at2 (total6 m c) (512 * t.val + u.val) l.val := by
  rw [at2_of _ (show 512 * t.val + u.val < 4096 from (row t u).isLt) l.isLt, left_pay]
  simp only [blk0, blk1, blk2, blk3, blk4]
  rfl
theorem right_at (t : Fin cfg0.N) (u : Fin 512) (l : Fin 1024) : right (F := Ideal) (iblk m c 0 t) (iblk m c 1 t) (iblk m c 2 t) (iblk m c 3 t) (iblk m c 4 t) (ix2 u l)
    = at2 (total7 m c) (512 * t.val + u.val) l.val := by
  rw [at2_of _ (show 512 * t.val + u.val < 4096 from (row t u).isLt) l.isLt, right_pay]
  simp only [blk0, blk1, blk2, blk3, blk4]
  rfl
theorem weight_at (t : Fin cfg0.N) (l : Fin 1024) : weight (F := Ideal) (iblk m c 0 t) (iblk m c 1 t) (iblk m c 2 t) (iblk m c 3 t) (iblk m c 4 t) (ix2 0 l)
    = ∑ e ∈ range 512, at2 (part8 m c) (512 * t.val + e) l.val := by
  rw [weight_pay, Finset.sum_range]
  refine Finset.sum_congr rfl fun u _ => ?_
  rw [at2_of _ (show 512 * t.val + u.val < 4096 from (row t u).isLt) l.isLt]
  simp only [blk0, blk1, blk2, blk3, blk4]
  rfl
theorem loss_at (t : Fin cfg0.N) (l : Fin 1024) : loss (F := Ideal) (iblk m c 0 t) (iblk m c 1 t) (iblk m c 2 t) (iblk m c 3 t) (iblk m c 4 t) (ix2 0 l)
    = ∑ e ∈ range 512, at2 (part9 m c) (512 * t.val + e) l.val := by
  rw [loss_pay, Finset.sum_range]
  refine Finset.sum_congr rfl fun u _ => ?_
  rw [at2_of _ (show 512 * t.val + u.val < 4096 from (row t u).isLt) l.isLt]
  simp only [blk0, blk1, blk2, blk3, blk4]
  rfl

theorem rows_at (t : Fin cfg0.N) (u : Fin 512) (l : Fin 1024) :
    (outsAt0 m c t.val t.isLt).1 (ix2 u l) = at2 (total5 m c) (512 * t.val + u.val) l.val
    ∧ (outsAt0 m c t.val t.isLt).2.1 (ix2 u l) = at2 (total6 m c) (512 * t.val + u.val) l.val
    ∧ (outsAt0 m c t.val t.isLt).2.2.1 (ix2 u l) = at2 (total7 m c) (512 * t.val + u.val) l.val := by
  have ht := lt_N t
  rcases Nat.eq_zero_or_pos t.val with h | h
  · rw [outsAt0_A m c t (by omega) (by omega) (by omega) (by omega)]
    dsimp only
    rw [(outs_A ..).1, (outs_A ..).2.1, (outs_A ..).2.2.1]
    exact ⟨top_at m c t u l, left_at m c t u l, right_at m c t u l⟩
  · rw [outsAt0_B m c t (by omega) (by omega) (by omega) (by omega)]
    dsimp only
    rw [(outs_B ..).1, (outs_B ..).2.1, (outs_B ..).2.2.1]
    exact ⟨top_at m c t u l, left_at m c t u l, right_at m c t u l⟩

theorem weight_sum (n : ℕ) (h : n < cfg0.N) (l : Fin 1024) : (outsAt0 m c n h).2.2.2.1 (ix2 0 l) = ∑ e ∈ range (512 * (n % 8 + 1)), at2 (part8 m c) e l.val := by
  refine accumulated (by omega) (fun n h (l : Fin 1024) => (outsAt0 m c n h).2.2.2.1 (ix2 0 l)) (fun _ l e => at2 (part8 m c) e l.val) ?_ ?_ n h l
  · intro n h l h0
    have hn : n < 8 := lt_N ⟨n, h⟩
    have e := congrArg (fun o => o.2.2.2.1) (outsAt0_A m c ⟨n, h⟩ h0 (by show ¬1 ≤ n; omega) h0 (by show ¬1 ≤ n; omega))
    dsimp only at e ⊢
    rw [e, (outs_A ..).2.2.2.1, weight_at]
    simp only [show n = 0 by omega, mul_zero, zero_add]
  · intro n h l h0
    have hn : n < 8 := lt_N ⟨n, h⟩
    have e := congrArg (fun o => o.2.2.2.1) (outsAt0_B m c ⟨n, h⟩ h0 (by show 1 ≤ n; omega) h0 (by show 1 ≤ n; omega))
    dsimp only at e ⊢
    rw [e, (outs_B ..).2.2.2.1, pay1, weight_at]
    simp only [show n % 8 = n by omega]

theorem loss_sum (n : ℕ) (h : n < cfg0.N) (l : Fin 1024) : (outsAt0 m c n h).2.2.2.2 (ix2 0 l) = ∑ e ∈ range (512 * (n % 8 + 1)), at2 (part9 m c) e l.val := by
  refine accumulated (by omega) (fun n h (l : Fin 1024) => (outsAt0 m c n h).2.2.2.2 (ix2 0 l)) (fun _ l e => at2 (part9 m c) e l.val) ?_ ?_ n h l
  · intro n h l h0
    have hn : n < 8 := lt_N ⟨n, h⟩
    have e := congrArg (fun o => o.2.2.2.2) (outsAt0_A m c ⟨n, h⟩ h0 (by show ¬1 ≤ n; omega) h0 (by show ¬1 ≤ n; omega))
    dsimp only at e ⊢
    rw [e, (outs_A ..).2.2.2.2, loss_at]
    simp only [show n = 0 by omega, mul_zero, zero_add]
  · intro n h l h0
    have hn : n < 8 := lt_N ⟨n, h⟩
    have e := congrArg (fun o => o.2.2.2.2) (outsAt0_B m c ⟨n, h⟩ h0 (by show 1 ≤ n; omega) h0 (by show 1 ≤ n; omega))
    dsimp only at e ⊢
    rw [e, (outs_B ..).2.2.2.2, pay2, loss_at]
    simp only [show n % 8 = n by omega]

theorem final5 : (dats m 0 c).arrAt 5 cfg0.N = (fun i => at2 (total5 m c) (i 0).val (i 1).val : FVec Ideal S4096x1024 .f32) := by
  refine (dats m 0 c).arrAt_eq_of_covers 5 _ (by decide +kernel) fun t hf b => ?_
  have ht := lt_N t
  blk_simp [idx5 t]
  rw [after0_5]
  refine Eq.trans (congrArg _ (Blocked.ix2_eta b)) ((rows_at m c t (b 0) (b 1)).1.trans ?_)
  congr 1 <;> omega
theorem final6 : (dats m 0 c).arrAt 6 cfg0.N = (fun i => at2 (total6 m c) (i 0).val (i 1).val : FVec Ideal S4096x1024 .bf16) := by
  refine (dats m 0 c).arrAt_eq_of_covers 6 _ (by decide +kernel) fun t hf b => ?_
  have ht := lt_N t
  blk_simp [idx6 t]
  rw [after0_6]
  refine Eq.trans (congrArg _ (Blocked.ix2_eta b)) ((rows_at m c t (b 0) (b 1)).2.1.trans ?_)
  congr 1 <;> omega
theorem final7 : (dats m 0 c).arrAt 7 cfg0.N = (fun i => at2 (total7 m c) (i 0).val (i 1).val : FVec Ideal S4096x1024 .bf16) := by
  refine (dats m 0 c).arrAt_eq_of_covers 7 _ (by decide +kernel) fun t hf b => ?_
  have ht := lt_N t
  blk_simp [idx7 t]
  rw [after0_7]
  refine Eq.trans (congrArg _ (Blocked.ix2_eta b)) ((rows_at m c t (b 0) (b 1)).2.2.trans ?_)
  congr 1 <;> omega
theorem final8 : (dats m 0 c).arrAt 8 cfg0.N = (fun i => ∑ e ∈ range 4096, at2 (part8 m c) e (i 1).val : FVec Ideal S1x1024 .f32) := by
  refine (dats m 0 c).arrAt_eq_of_covers 8 _ (by decide +kernel) fun t hf b => ?_
  have ht := lt_N t
  have hf := (flush0_8 t).mp hf
  blk_simp [idx8 t]
  rw [after0_8]
  refine Eq.trans (congrArg _ (ix2_eta1 b)) ((weight_sum m c t.val t.isLt (b 1)).trans ?_)
  rw [hf]
theorem final9 : (dats m 0 c).arrAt 9 cfg0.N = (fun i => ∑ e ∈ range 4096, at2 (part9 m c) e (i 1).val : FVec Ideal S1x1024 .f32) := by
  refine (dats m 0 c).arrAt_eq_of_covers 9 _ (by decide +kernel) fun t hf b => ?_
  have ht := lt_N t
  have hf := (flush0_9 t).mp hf
  blk_simp [idx9 t]
  rw [after0_9]
  refine Eq.trans (congrArg _ (ix2_eta1 b)) ((loss_sum m c t.val t.isLt (b 1)).trans ?_)
  rw [hf]

/-- The host's sum of the accumulated row. -/
theorem tail : Pipeline.afterTail₀ cfgs (dats m) 0 (V0 m) [hostOps1] c main_v1
    = (Host.reduceAdd (F := Ideal) (φ := .f32) ((dats m 0 c).arrAt 9 cfg0.N) (constant S_ .f32 0x00000000#32) reducesTo_S1x1024_S_d0_1 h_S_ : FVec Ideal S_ .f32) := by
  have e : Pipeline.withArrays (cfgs 0).spec c (V0 m c) (fun w => (dats m 0 c).arrAt w (cfgs 0).N) (Proc.devRef .tc main_v0_4) = (dats m 0 c).arrAt 9 cfg0.N :=
    Pipeline.withArrays_arr (cfgs 0).spec launch0.win.arr_inj c (V0 m c) (fun w => (dats m 0 c).arrAt w (cfgs 0).N) 9
  unfold Pipeline.afterTail₀
  rw [← e]
  generalize Pipeline.withArrays _ _ _ _ = W
  simp only [List.flatten_cons, List.flatten_nil, List.append_nil]
  after_results

/-- The loss. -/
theorem final : Pipeline.afterTail₀ cfgs (dats m) 0 (V0 m) [hostOps1] c main_v1
    = (fun _ => ∑ l : Fin 1024, ∑ e ∈ range 4096, at2 (part9 m c) e l.val : FVec Ideal S_ .f32) := by
  rw [tail, final9]
  funext j
  rw [Host.reduceAdd_apply, Ideal.hostReduceAdd_def]
  unfold Ideal.hostReduceAdd
  rw [Finset.filter_true_of_mem (fun i _ => funext fun a => a.elim0)]
  refine Eq.trans (b := (0 : EReal) + ∑ i : S1x1024.Idx, ∑ e ∈ range 4096, at2 (part9 m c) e (i 1).val) ?_ ?_
  · pointwise
    rfl
  rw [zero_add]
  refine (Fintype.sum_equiv ⟨fun l : Fin 1024 => (ix2 0 l : S1x1024.Idx), fun i => i 1, fun l => rfl, fun i => (ix2_eta1 i).symm⟩ _ _ fun l => rfl).symm

end Cert.KernelLossIdeal.Hand

namespace Cert.Proof

open Idealize.ShloMosaic Idealize.SL.Sem
open Cert.Blocked (at2 at2_ix)
open Cert.Loss

theorem same_loss : Cert.algebraic_KernelLossIdeal_ReferenceLossIdeal (hKernelLossIdeal := Cert.KernelLossIdeal.Gen.facts)
    (hReferenceLossIdeal := Cert.ReferenceLossIdeal.Gen.facts) := by
  intro m g m' g' _ he
  refine ⟨fun c => (fun _ => ∑ l : Fin 1024, ∑ e ∈ Finset.range 4096, at2 (KernelLossIdeal.Hand.part9 m c) e l.val : FVec Ideal KernelLossIdeal.S_ .f32),
    fun c => (fun i => at2 (KernelLossIdeal.Hand.total5 m c) (i 0).val (i 1).val : FVec Ideal KernelLossIdeal.S4096x1024 .f32),
    fun c => (fun i => at2 (KernelLossIdeal.Hand.total6 m c) (i 0).val (i 1).val : FVec Ideal KernelLossIdeal.S4096x1024 .bf16),
    fun c => (fun i => at2 (KernelLossIdeal.Hand.total7 m c) (i 0).val (i 1).val : FVec Ideal KernelLossIdeal.S4096x1024 .bf16),
    fun c => (fun i => ∑ e ∈ Finset.range 4096, at2 (KernelLossIdeal.Hand.part8 m c) e (i 1).val : FVec Ideal KernelLossIdeal.S1x1024 .f32), ?_, ?_⟩
  · exact (θ_run KernelLossIdeal.defs _ _).mono (fun _ h c => ⟨((h.2 c).2 _ (by decide)).trans (KernelLossIdeal.Hand.final m c),
      ((h.2 c).1 5).trans (KernelLossIdeal.Hand.final5 m c), ((h.2 c).1 6).trans (KernelLossIdeal.Hand.final6 m c),
      ((h.2 c).1 7).trans (KernelLossIdeal.Hand.final7 m c), ((h.2 c).1 8).trans (KernelLossIdeal.Hand.final8 m c), h.1 c⟩)
      (θ_run_and (KernelLossIdeal.Gen.unchanged (F := Ideal) m g) (KernelLossIdeal.Gen.run_main (F := Ideal) m g))
  · refine (θ_run ReferenceLossIdeal.defs _ _).mono (fun _ h c => ⟨(h c).1.trans ?_, (h c).2.1.trans ?_, (h c).2.2.1.trans ?_,
      (h c).2.2.2.1.trans ?_, (h c).2.2.2.2.1.trans ?_, (h c).2.2.2.2.2⟩) (ReferenceLossIdeal.Value.run (F := Ideal) m' g')
    all_goals
      obtain ⟨e0, e1, e2, e3, e4⟩ := he c
      funext i
    · simp only [e0, e1, e2, e3, e4]
      pointwise
      refine Eq.trans (b := Ideal.ofBits .f32 0x3F000000#32 * ∑ r : Fin 4096, Ideal.div (∑ l : Fin 1024, KernelLossIdeal.Hand.errR m c r l * KernelLossIdeal.Hand.errR m c r l)
        (Ideal.ofBits .f32 0x44800000#32)) rfl ?_
      rw [mean, Finset.sum_comm]
      refine Finset.sum_congr rfl fun l _ => Eq.trans ?_ (Finset.sum_range fun e => at2 (KernelLossIdeal.Hand.part9 m c) e l.val).symm
      simp only [at2_ix]
      rfl
    · obtain ⟨r, l, rfl⟩ : ∃ (r : Fin 4096) (l : Fin 1024), i = ix2 r l := ⟨i 0, i 1, Blocked.ix2_eta i⟩
      refine Eq.trans ?_ (at2_ix _ r l).symm
      pointwise
      simp only [e0, e1, e2, e3, e4, slope_loss]
      rfl
    · obtain ⟨r, l, rfl⟩ : ∃ (r : Fin 4096) (l : Fin 1024), i = ix2 r l := ⟨i 0, i 1, Blocked.ix2_eta i⟩
      refine Eq.trans ?_ (at2_ix _ r l).symm
      pointwise [ReferenceLossIdeal.Value.res_main_v63]
      simp only [e0, e1, e2, e3, e4, slope_loss, Fin.sum_univ_one]
      rfl
    · obtain ⟨r, l, rfl⟩ : ∃ (r : Fin 4096) (l : Fin 1024), i = ix2 r l := ⟨i 0, i 1, Blocked.ix2_eta i⟩
      refine Eq.trans ?_ (at2_ix _ r l).symm
      pointwise [ReferenceLossIdeal.Value.res_main_v64]
      simp only [e0, e1, e2, e3, e4, slope_loss, Fin.sum_univ_one]
      rfl
    · obtain ⟨l, rfl⟩ : ∃ (l : Fin 1024), i = ix2 0 l := ⟨i 1, Blocked.ix2_eta1 i⟩
      refine Eq.trans ?_ (Finset.sum_range fun e => at2 (KernelLossIdeal.Hand.part8 m c) e l.val).symm
      simp only [at2_ix]
      pointwise
      simp only [e0, e1, e2, e3, e4, slope_loss]
      rfl

-- the two programs have one text; that they are equal is checked by computation
set_option smartUnfolding false in
set_option maxHeartbeats 0 in
theorem frame_loss : Cert.quiescent_KernelLoss (hKernelLoss := Cert.KernelLoss.Gen.facts) := fun m ρ _ =>
  (θ_run KernelLossIdeal.defs _ _).mono (fun _ h => h) (KernelLossIdeal.Gen.frame (F := Bits) m ρ)
theorem frame_loss_ideal : Cert.quiescent_KernelLossIdeal (hKernelLossIdeal := Cert.KernelLossIdeal.Gen.facts) := fun m ρ _ =>
  KernelLossIdeal.Gen.frame (F := Ideal) m ρ
theorem frame_loss_reference : Cert.quiescent_ReferenceLossIdeal (hReferenceLossIdeal := Cert.ReferenceLossIdeal.Gen.facts) := fun m ρ _ =>
  (θ_run ReferenceLossIdeal.defs _ _).mono (fun _ h => ⟨fun c => (h c).2.2.2.2.2, sem_eq_zero_of_no_sems (by decide) _⟩)
    (ReferenceLossIdeal.Value.run (F := Ideal) m ρ)

end Cert.Proof

end
-- ==== Proof.AdamSquare.lean ====
/- AdamW on a device's 128 rows of a square weight, applied: w_sb_branch, w_out and w_ple_gate have this shape. -/
module

public import proofs.«01_k».proof.Proof.Adam
public import proofs.«01_k».proof.Proof.Gen.KernelAdamSquare
public import proofs.«01_k».proof.Proof.Gen.KernelAdamSquareIdeal.Value
public import proofs.«01_k».proof.Proof.Gen.ReferenceAdamSquareIdeal.Run

@[expose] public section

set_option maxRecDepth 16384

noncomputable section

namespace Cert.KernelAdamSquareIdeal.Hand

open Cert.KernelAdamSquareIdeal Cert.KernelAdamSquareIdeal.Gen Cert.Blocked Cert.Adam
open Idealize.ShloMosaic Idealize.ShloMosaic.TcCoe Idealize.SL.Sem

section Block
variable (x0 : FVec Ideal S4x128x1024 .bf16) (x1 x2 x3 : FVec Ideal S128x1024 .f32) (u : Fin 128) (l : Fin 1024)

theorem grad : k0_pay2 (F := Ideal) (View.ld (Val := Elt Ideal) x0 r0_0) (View.ld (Val := Elt Ideal) x0 r0_1) (View.ld (Val := Elt Ideal) x0 r0_2)
    (View.ld (Val := Elt Ideal) x0 r0_3) (ix2 u l) = total x0 u l := by
  unfold total
  rw [Fin.sum_univ_four]
  pointwise [k0_pay2]

theorem out : Step (out0_4 (F := Ideal) x0 x1 x2 x3) (out0_5 (F := Ideal) x0 x1 x2 x3) (out0_6 (F := Ideal) x0 x1 x2 x3) (out0_7 (F := Ideal) x0 x1 x2 x3)
    x0 x1 x2 x3 u l := by
  refine Step.of (grad x0 u l) (by unfold out0_4; rw [View.canon_unit_zero hz]) ?_ ?_ ?_
  all_goals
    first | unfold out0_5 | unfold out0_6 | unfold out0_7
    rw [View.canon_unit_zero hz]
    simp only [View.ld_unit_zero (S := S128x1024) hz]
    rfl
end Block

theorem index : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

variable (m : (ℓ : Loc nD τ sig) → Buf (Elt Ideal) ℓ) (c : Dev nD)

abbrev X : FVec Ideal S4x128x1024 .bf16 := m (c, Proc.tc.devRef main_arg0)
abbrev W : FVec Ideal S128x1024 .f32 := m (c, Proc.tc.devRef main_arg1)
abbrev A : FVec Ideal S128x1024 .f32 := m (c, Proc.tc.devRef main_arg2)
abbrev B : FVec Ideal S128x1024 .f32 := m (c, Proc.tc.devRef main_arg3)

/-- There is one block. -/
theorem lies (t : Fin cfg0.N) (u : Fin 128) (l : Fin 1024) :
    Lies (X m c) (W m c) (A m c) (B m c) (iblk m c 0 t) (iblk m c 1 t) (iblk m c 2 t) (iblk m c 3 t) u u l := by
  obtain ⟨i0, i1, i2, i3, -⟩ := index t
  constructor
  on_goal 1 => intro k
  all_goals blk_ext [iblk, V, i0, i1, i2, i3]

theorem final : (dats m 0 c).arrAt 4 cfg0.N = placed (gradient (X m c)) ∧ (dats m 0 c).arrAt 5 cfg0.N = placed (change (X m c) (W m c) (A m c) (B m c))
    ∧ (dats m 0 c).arrAt 6 cfg0.N = placed (first (X m c) (A m c)) ∧ (dats m 0 c).arrAt 7 cfg0.N = placed (second (X m c) (B m c)) := by
  refine ⟨(dats m 0 c).arrAt_eq_of_covers 4 _ (by decide +kernel) fun t _ b => ?_, (dats m 0 c).arrAt_eq_of_covers 5 _ (by decide +kernel) fun t _ b => ?_,
    (dats m 0 c).arrAt_eq_of_covers 6 _ (by decide +kernel) fun t _ b => ?_, (dats m 0 c).arrAt_eq_of_covers 7 _ (by decide +kernel) fun t _ b => ?_⟩
  all_goals
    obtain ⟨-, -, -, -, i4, i5, i6, i7⟩ := index t
    have o := (out (iblk m c 0 t) (iblk m c 1 t) (iblk m c 2 t) (iblk m c 3 t) (b 0) (b 1)).stored (lies m c t (b 0) (b 1)) (t := 0) (by omega)
    unfold placed
    rw [Nat.zero_mul, Nat.zero_add] at o
    blk_simp [i4, i5, i6, i7]
  · rw [after0_4]; exact o.1
  · rw [after0_5]; exact o.2.1
  · rw [after0_6]; exact o.2.2.1
  · rw [after0_7]; exact o.2.2.2

end Cert.KernelAdamSquareIdeal.Hand

namespace Cert.Proof

open Idealize.ShloMosaic Idealize.SL.Sem
open Cert.Adam (placed_eq)

theorem same_adam_square : Cert.algebraic_KernelAdamSquareIdeal_ReferenceAdamSquareIdeal (hKernelAdamSquareIdeal := Cert.KernelAdamSquareIdeal.Gen.facts)
    (hReferenceAdamSquareIdeal := Cert.ReferenceAdamSquareIdeal.Gen.facts) := by
  intro m g m' g' _ he
  refine ⟨fun c => _, fun c => _, fun c => _, fun c => _, (θ_run KernelAdamSquareIdeal.defs _ _).mono (fun _ h c =>
    have f := KernelAdamSquareIdeal.Hand.final m c
    ⟨(h c).1.trans f.1, (h c).2.1.trans f.2.1, (h c).2.2.1.trans f.2.2.1, (h c).2.2.2.1.trans f.2.2.2, (h c).2.2.2.2⟩)
    (KernelAdamSquareIdeal.Value.run_blocks (F := Ideal) m g), ?_⟩
  refine (θ_run ReferenceAdamSquareIdeal.defs _ _).mono (fun _ h c => ⟨(h c).1.trans ?_, (h c).2.1.trans ?_, (h c).2.2.1.trans ?_,
    (h c).2.2.2.1.trans ?_, (h c).2.2.2.2⟩) (ReferenceAdamSquareIdeal.Value.run (F := Ideal) m' g')
  all_goals
    simp only [(he c).1, (he c).2.1, (he c).2.2.1, (he c).2.2.2, placed_eq]
    refine funext fun i => (congrArg _ (Blocked.ix2_eta i)).trans (Eq.trans ?_ (congrArg _ (Blocked.ix2_eta i).symm))
    pointwise
    rfl

-- the two programs have one text; that they are equal is checked by computation
set_option smartUnfolding false in
set_option maxHeartbeats 0 in
theorem frame_adam_square : Cert.quiescent_KernelAdamSquare (hKernelAdamSquare := Cert.KernelAdamSquare.Gen.facts) := fun m ρ _ =>
  (θ_run KernelAdamSquareIdeal.defs _ _).mono (fun _ h => h) (KernelAdamSquareIdeal.Gen.frame (F := Bits) m ρ)
theorem frame_adam_square_ideal : Cert.quiescent_KernelAdamSquareIdeal (hKernelAdamSquareIdeal := Cert.KernelAdamSquareIdeal.Gen.facts) := fun m ρ _ =>
  KernelAdamSquareIdeal.Gen.frame (F := Ideal) m ρ
theorem frame_adam_square_reference : Cert.quiescent_ReferenceAdamSquareIdeal
    (hReferenceAdamSquareIdeal := Cert.ReferenceAdamSquareIdeal.Gen.facts) := fun m ρ _ =>
  (θ_run ReferenceAdamSquareIdeal.defs _ _).mono (fun _ h => ⟨fun c => (h c).2.2.2.2, sem_eq_zero_of_no_sems (by decide) _⟩)
    (ReferenceAdamSquareIdeal.Value.run (F := Ideal) m ρ)

end Cert.Proof

end
-- ==== Proof.AdamSmall.lean ====
/- AdamW on the small weights, packed into sixteen rows: eight parts in float32, summed by the kernel before anything else. -/
module

public import proofs.«01_k».proof.Proof.Adam
public import proofs.«01_k».proof.Proof.Gen.KernelAdamSmall
public import proofs.«01_k».proof.Proof.Gen.KernelAdamSmallIdeal.Value
public import proofs.«01_k».proof.Proof.Gen.ReferenceAdamSmallIdeal.Run

@[expose] public section

set_option maxRecDepth 16384

noncomputable section

namespace Cert.KernelAdamSmallIdeal.Hand

open Cert.KernelAdamSmallIdeal Cert.KernelAdamSmallIdeal.Gen Cert.Blocked Cert.Adam
open Idealize.ShloMosaic Idealize.ShloMosaic.TcCoe Idealize.SL.Sem

section Block
variable (x0 : FVec Ideal S8x16x1024 .f32) (x1 x2 x3 : FVec Ideal S16x1024 .f32) (u : Fin 16) (l : Fin 1024)

theorem grad : k0_pay5 (F := Ideal) x0 x1 x2 x3 (ix2 u l) = total x0 u l := by
  unfold total k0_pay5
  rw [Fin.sum_univ_eight]
  pointwise [k0_pay3]

theorem out : Step (out0_4 (F := Ideal) x0 x1 x2 x3) (out0_5 (F := Ideal) x0 x1 x2 x3) (out0_6 (F := Ideal) x0 x1 x2 x3) (out0_7 (F := Ideal) x0 x1 x2 x3)
    x0 x1 x2 x3 u l := by
  refine Step.of (grad x0 x1 x2 x3 u l) (by unfold out0_4; rw [View.canon_unit_zero hz]) ?_ ?_ ?_
  all_goals
    first | unfold out0_5 | unfold out0_6 | unfold out0_7
    try unfold k0_pay6
    rw [View.canon_unit_zero hz]
    simp only [View.ld_unit_zero (S := S16x1024) hz]
    rfl
end Block

theorem index : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

variable (m : (ℓ : Loc nD τ sig) → Buf (Elt Ideal) ℓ) (c : Dev nD)

abbrev X : FVec Ideal S8x16x1024 .f32 := m (c, Proc.tc.devRef main_arg0)
abbrev W : FVec Ideal S16x1024 .f32 := m (c, Proc.tc.devRef main_arg1)
abbrev A : FVec Ideal S16x1024 .f32 := m (c, Proc.tc.devRef main_arg2)
abbrev B : FVec Ideal S16x1024 .f32 := m (c, Proc.tc.devRef main_arg3)

/-- There is one block. -/
theorem lies (t : Fin cfg0.N) (u : Fin 16) (l : Fin 1024) :
    Lies (X m c) (W m c) (A m c) (B m c) (iblk m c 0 t) (iblk m c 1 t) (iblk m c 2 t) (iblk m c 3 t) u u l := by
  obtain ⟨i0, i1, i2, i3, -⟩ := index t
  constructor
  on_goal 1 => intro k
  all_goals blk_ext [iblk, V, i0, i1, i2, i3]

theorem final : (dats m 0 c).arrAt 4 cfg0.N = placed (gradient (X m c)) ∧ (dats m 0 c).arrAt 5 cfg0.N = placed (change (X m c) (W m c) (A m c) (B m c))
    ∧ (dats m 0 c).arrAt 6 cfg0.N = placed (first (X m c) (A m c)) ∧ (dats m 0 c).arrAt 7 cfg0.N = placed (second (X m c) (B m c)) := by
  refine ⟨(dats m 0 c).arrAt_eq_of_covers 4 _ (by decide +kernel) fun t _ b => ?_, (dats m 0 c).arrAt_eq_of_covers 5 _ (by decide +kernel) fun t _ b => ?_,
    (dats m 0 c).arrAt_eq_of_covers 6 _ (by decide +kernel) fun t _ b => ?_, (dats m 0 c).arrAt_eq_of_covers 7 _ (by decide +kernel) fun t _ b => ?_⟩
  all_goals
    obtain ⟨-, -, -, -, i4, i5, i6, i7⟩ := index t
    have o := (out (iblk m c 0 t) (iblk m c 1 t) (iblk m c 2 t) (iblk m c 3 t) (b 0) (b 1)).stored (lies m c t (b 0) (b 1)) (t := 0) (by omega)
    unfold placed
    rw [Nat.zero_mul, Nat.zero_add] at o
    blk_simp [i4, i5, i6, i7]
  · rw [after0_4]; exact o.1
  · rw [after0_5]; exact o.2.1
  · rw [after0_6]; exact o.2.2.1
  · rw [after0_7]; exact o.2.2.2

end Cert.KernelAdamSmallIdeal.Hand

namespace Cert.Proof

open Idealize.ShloMosaic Idealize.SL.Sem
open Cert.Adam (placed_eq)

theorem same_adam_small : Cert.algebraic_KernelAdamSmallIdeal_ReferenceAdamSmallIdeal (hKernelAdamSmallIdeal := Cert.KernelAdamSmallIdeal.Gen.facts)
    (hReferenceAdamSmallIdeal := Cert.ReferenceAdamSmallIdeal.Gen.facts) := by
  intro m g m' g' _ he
  refine ⟨fun c => _, fun c => _, fun c => _, fun c => _, (θ_run KernelAdamSmallIdeal.defs _ _).mono (fun _ h c =>
    have f := KernelAdamSmallIdeal.Hand.final m c
    ⟨(h c).1.trans f.1, (h c).2.1.trans f.2.1, (h c).2.2.1.trans f.2.2.1, (h c).2.2.2.1.trans f.2.2.2, (h c).2.2.2.2⟩)
    (KernelAdamSmallIdeal.Value.run_blocks (F := Ideal) m g), ?_⟩
  refine (θ_run ReferenceAdamSmallIdeal.defs _ _).mono (fun _ h c => ⟨(h c).1.trans ?_, (h c).2.1.trans ?_, (h c).2.2.1.trans ?_,
    (h c).2.2.2.1.trans ?_, (h c).2.2.2.2⟩) (ReferenceAdamSmallIdeal.Value.run (F := Ideal) m' g')
  all_goals
    simp only [(he c).1, (he c).2.1, (he c).2.2.1, (he c).2.2.2, placed_eq]
    refine funext fun i => (congrArg _ (Blocked.ix2_eta i)).trans (Eq.trans ?_ (congrArg _ (Blocked.ix2_eta i).symm))
    pointwise
    rfl

-- the two programs have one text; that they are equal is checked by computation
set_option smartUnfolding false in
set_option maxHeartbeats 0 in
theorem frame_adam_small : Cert.quiescent_KernelAdamSmall (hKernelAdamSmall := Cert.KernelAdamSmall.Gen.facts) := fun m ρ _ =>
  (θ_run KernelAdamSmallIdeal.defs _ _).mono (fun _ h => h) (KernelAdamSmallIdeal.Gen.frame (F := Bits) m ρ)
theorem frame_adam_small_ideal : Cert.quiescent_KernelAdamSmallIdeal (hKernelAdamSmallIdeal := Cert.KernelAdamSmallIdeal.Gen.facts) := fun m ρ _ =>
  KernelAdamSmallIdeal.Gen.frame (F := Ideal) m ρ
theorem frame_adam_small_reference : Cert.quiescent_ReferenceAdamSmallIdeal
    (hReferenceAdamSmallIdeal := Cert.ReferenceAdamSmallIdeal.Gen.facts) := fun m ρ _ =>
  (θ_run ReferenceAdamSmallIdeal.defs _ _).mono (fun _ h => ⟨fun c => (h c).2.2.2.2, sem_eq_zero_of_no_sems (by decide) _⟩)
    (ReferenceAdamSmallIdeal.Value.run (F := Ideal) m ρ)

end Cert.Proof

end
-- ==== Proof.PleW.lean ====
/- The gradient of the weight of the per-layer embedding's projection: what the kernel's accumulator holds, the value claim and the frames. -/
module

public import proofs.«01_k».proof.Defs
public import proofs.«01_k».proof.Proof.Blocked
public import proofs.«01_k».proof.Proof.Gen.KernelPleW
public import proofs.«01_k».proof.Proof.Gen.KernelPleWIdeal.Value
public import proofs.«01_k».proof.Proof.Gen.ReferencePleWIdeal.Run
public import Idealize.ShloMosaic.Lib.Pipeline.ValueKit
public import Idealize.ShloMosaic.Adequacy

@[expose] public section

set_option maxRecDepth 16384

noncomputable section

namespace Cert.KernelPleWIdeal.Hand

open Cert.KernelPleWIdeal Cert.KernelPleWIdeal.Gen Cert.Blocked
open Idealize.ShloMosaic Idealize.ShloMosaic.TcCoe Idealize.SL.Sem
open Finset (range)

section Cases
variable {F : FTy → Type} [FloatOps F] (c : Dev nD) (i : grid0.Coords) (a3 : Memref sig .tc .vmem S1024x256 .bf16) (h3 : a3.IsWhole)
  (a4 : Memref sig .tc .vmem S1024x128 .bf16) (h4 : a4.IsWhole) (a5 : Memref sig .tc .vmem S1x256x128 .f32) (h5 : a5.IsWhole)
  (a6 : Memref sig .tc .vmem S256x128 .f32) (h6 : a6.IsWhole)
  (x0 : Vec F S1024x256 .bf16) (x1 : Vec F S1024x128 .bf16) (xs : Vec F S256x128 .f32)

theorem sout_A (hc0 : cond0_0 i) (hc1 : ¬cond0_1 i) : sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S256x128) hz, View.readCov_unit_zero (S := S256x128) _ hz]
  simp only [View.readAt_eq_ld, h3.read_unread, h4.read_unread, View.ld_unit_zero (S := S1024x256) hz, View.ld_unit_zero (S := S1024x128) hz, View.ld_unit_zero (S := S256x128) hz]
theorem sout_B (hc0 : ¬cond0_0 i) (hc1 : ¬cond0_1 i) : sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x256) hz, View.ld_unit_zero (S := S1024x128) hz, View.ld_unit_zero (S := S256x128) hz]
theorem sout_C (hc0 : ¬cond0_0 i) (hc1 : cond0_1 i) : sout0_C_0 c i a3 h3 a4 h4 a5 h5 a6 h6 hc0 hc1 x0 x1 xs = k0_pay2 x0 x1 xs := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1024x256) hz, View.ld_unit_zero (S := S1024x128) hz, View.ld_unit_zero (S := S256x128) hz]
theorem out_C (hc0 : ¬cond0_0 i) (hc1 : cond0_1 i) : out0_C_2 c i a3 h3 a4 h4 a5 h5 a6 h6 hc0 hc1 x0 x1 xs = k0_pay3 (k0_pay2 x0 x1 xs) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz3, View.readCov_unit_zero (S := S256x128) _ hz]
  simp only [View.readAt_eq_ld, h3.read_unread, h4.read_unread, h6.read_unread, View.ld_unit_zero (S := S1024x256) hz, View.ld_unit_zero (S := S1024x128) hz, View.ld_unit_zero (S := S256x128) hz]
end Cases

theorem pay1 (u : Fin 256) (l : Fin 128) : (k0_pay1 (F := Ideal)) (ix2 u l) = 0 := by
  pointwise [k0_pay1]
theorem pay2 (x0 : FVec Ideal S1024x256 .bf16) (x1 : FVec Ideal S1024x128 .bf16) (xs : FVec Ideal S256x128 .f32) (u : Fin 256) (l : Fin 128) :
    k0_pay2 x0 x1 xs (ix2 u l) = xs (ix2 u l) + ∑ e : Fin 1024, x0 (ix2 e u) * x1 (ix2 e l) := by
  pointwise [k0_pay2]

theorem pay3 (x : FVec Ideal S256x128 .f32) (u : Fin 256) (l : Fin 128) : k0_pay3 x (ix3 0 u l) = x (ix2 u l) := by
  pointwise [k0_pay3]

theorem idx0 : ∀ t : Fin cfg0.N, win0_0.index t = ![t.val % 4, 0] := (by decide +kernel : ∀ t : Fin grid0.N, _)
theorem idx1 : ∀ t : Fin cfg0.N, win0_1.index t = ![t.val % 4, t.val / 4] := (by decide +kernel : ∀ t : Fin grid0.N, _)
theorem idx2 : ∀ t : Fin cfg0.N, win0_2.index t = ![t.val / 4, 0, 0] := (by decide +kernel : ∀ t : Fin grid0.N, _)
theorem lt_N (t : Fin cfg0.N) : t.val < 32 := lt_of_lt_of_eq t.isLt N_0

variable (m : (ℓ : Loc nD τ sig) → Buf (Elt Ideal) ℓ) (c : Dev nD)

abbrev R : FVec Ideal S4096x256 .bf16 := m (c, Proc.tc.devRef main_arg0)
abbrev D : FVec Ideal S4096x1024 .bf16 := m (c, Proc.tc.devRef main_arg2)

/-- The entries of the result. -/
def res (i j : ℕ) : EReal := ∑ e ∈ range 4096, at2 (R m c) e i * at2 (D m c) e j

theorem blk0 (t : Fin cfg0.N) (e : Fin 1024) (u : Fin 256) :
    (iblk m c 0 t : FVec Ideal S1024x256 .bf16) (ix2 e u) = at2 (R m c) (1024 * (t.val % 4) + e.val) u.val := by
  have ht := lt_N t
  rw [at2_of _ (show 1024 * (t.val % 4) + e.val < 4096 by omega) u.isLt]
  blk_ext [iblk, V, idx0 t]
theorem blk1 (t : Fin cfg0.N) (e : Fin 1024) (l : Fin 128) :
    (iblk m c 1 t : FVec Ideal S1024x128 .bf16) (ix2 e l) = at2 (D m c) (1024 * (t.val % 4) + e.val) (128 * (t.val / 4) + l.val) := by
  have ht := lt_N t
  rw [at2_of _ (show 1024 * (t.val % 4) + e.val < 4096 by omega) (show 128 * (t.val / 4) + l.val < 1024 by omega)]
  blk_ext [iblk, V, idx1 t]

theorem dot_at (t : Fin cfg0.N) (xs : FVec Ideal S256x128 .f32) (u : Fin 256) (l : Fin 128) :
    k0_pay2 (iblk m c 0 t) (iblk m c 1 t) xs (ix2 u l) = xs (ix2 u l)
      + ∑ e ∈ range 1024, at2 (R m c) (1024 * (t.val % 4) + e) u.val * at2 (D m c) (1024 * (t.val % 4) + e) (128 * (t.val / 4) + l.val) := by
  rw [pay2, Finset.sum_range]
  simp only [blk0, blk1]

theorem acc_at (n : ℕ) (h : n < cfg0.N) (i : Fin 256 × Fin 128) : (outsAt0 m c n h).2 (ix2 i.1 i.2)
    = ∑ e ∈ range (1024 * (n % 4 + 1)), at2 (R m c) e i.1.val * at2 (D m c) e (128 * (n / 4) + i.2.val) := by
  refine accumulated (by omega) (fun n h (i : Fin 256 × Fin 128) => (outsAt0 m c n h).2 (ix2 i.1 i.2))
    (fun q i e => at2 (R m c) e i.1.val * at2 (D m c) e (128 * q + i.2.val)) ?_ ?_ n h i
  · intro n h i h0
    have e := congrArg Prod.snd (outsAt0_A m c ⟨n, h⟩ h0 (by show ¬n % 4 = 3; omega))
    dsimp only at e ⊢
    rw [e, sout_A, dot_at, pay1, zero_add]
    simp only [h0, mul_zero, zero_add]
  · intro n h i h0
    by_cases h1 : n % 4 = 3
    · have e := congrArg Prod.snd (outsAt0_C m c ⟨n, h⟩ h0 h1)
      dsimp only at e ⊢
      rw [e, sout_C, dot_at]
    · have e := congrArg Prod.snd (outsAt0_B m c ⟨n, h⟩ h0 h1)
      dsimp only at e ⊢
      rw [e, sout_B, dot_at]

theorem out_at (t : Fin cfg0.N) (h1 : t.val % 4 = 3) (u : Fin 256) (l : Fin 128) :
    (outsAt0 m c t.val t.isLt).1 (ix3 0 u l) = res m c u.val (128 * (t.val / 4) + l.val) := by
  have e := acc_at m c t.val t.isLt (u, l)
  rw [outsAt0_C m c t (by omega) h1] at e ⊢
  dsimp only at e ⊢
  rw [sout_C] at e
  rw [out_C, pay3, e, h1]
  rfl

theorem final : (dats m 0 c).arrAt 2 cfg0.N = (fun i => res m c (i 1).val (128 * (i 0).val + (i 2).val) : FVec Ideal S8x256x128 .f32) := by
  refine (dats m 0 c).arrAt_eq_of_covers 2 _ (by decide +kernel) fun t hf b => ?_
  have ht := lt_N t
  have hf := (flush0_2 t).mp hf
  blk_simp [idx2 t]
  rw [after0_2]
  refine Eq.trans (congrArg _ (ix3_eta1 b)) ((out_at m c t hf (b 1) (b 2)).trans ?_)
  congr 1 <;> omega

end Cert.KernelPleWIdeal.Hand

namespace Cert.Proof

open Idealize.ShloMosaic Idealize.SL.Sem
open Cert.Blocked (at2_ix at2_of)

theorem same_ple_w : Cert.algebraic_KernelPleWIdeal_ReferencePleWIdeal (hKernelPleWIdeal := Cert.KernelPleWIdeal.Gen.facts)
    (hReferencePleWIdeal := Cert.ReferencePleWIdeal.Gen.facts) := by
  intro m g m' g' _ he
  refine ⟨fun c => (fun i => KernelPleWIdeal.Hand.res m c (i 1).val (128 * (i 0).val + (i 2).val) : FVec Ideal KernelPleWIdeal.S8x256x128 .f32), ?_, ?_⟩
  · exact (θ_run KernelPleWIdeal.defs _ _).mono (fun _ h c => ⟨(h c).1.trans (KernelPleWIdeal.Hand.final m c), (h c).2⟩)
      (KernelPleWIdeal.Value.run_blocks (F := Ideal) m g)
  · refine (θ_run ReferencePleWIdeal.defs _ _).mono (fun _ h c => ⟨(h c).1.trans ?_, (h c).2⟩) (ReferencePleWIdeal.Value.run (F := Ideal) m' g')
    rw [(he c).1, (he c).2.2]
    funext i
    obtain ⟨s, r, l, rfl⟩ : ∃ (s : Fin 8) (r : Fin 256) (l : Fin 128), i = ix3 s r l := ⟨i 0, i 1, i 2, Blocked.ix3_eta i⟩
    have hs := s.isLt
    have hl := l.isLt
    have e : KernelPleWIdeal.Hand.res m c r.val (128 * s.val + l.val)
        = ∑ e : Fin 4096, KernelPleWIdeal.Hand.D m c (ix2 e ⟨128 * s.val + l.val, by omega⟩) * KernelPleWIdeal.Hand.R m c (ix2 e r) := by
      unfold KernelPleWIdeal.Hand.res
      rw [Finset.sum_range]
      refine Finset.sum_congr rfl fun e _ => ?_
      rw [at2_ix, at2_of _ e.isLt (show 128 * s.val + l.val < 1024 by omega), mul_comm]
    refine Eq.trans ?_ e.symm
    pointwise
    -- the slab the first position names
    repeat' split
    all_goals
      refine congrArg (fun f : Fin 4096 → EReal => Finset.sum Finset.univ f) (funext fun e => ?_)
      exact congrArg (fun j => KernelPleWIdeal.Hand.D m c (ix2 e j) * KernelPleWIdeal.Hand.R m c (ix2 e r)) (Fin.ext (by dsimp only; omega))

-- the two programs have one text; that they are equal is checked by computation
set_option smartUnfolding false in
set_option maxHeartbeats 0 in
theorem frame_ple_w : Cert.quiescent_KernelPleW (hKernelPleW := Cert.KernelPleW.Gen.facts) := fun m ρ _ =>
  (θ_run KernelPleWIdeal.defs _ _).mono (fun _ h => h) (KernelPleWIdeal.Gen.frame (F := Bits) m ρ)
theorem frame_ple_w_ideal : Cert.quiescent_KernelPleWIdeal (hKernelPleWIdeal := Cert.KernelPleWIdeal.Gen.facts) := fun m ρ _ =>
  KernelPleWIdeal.Gen.frame (F := Ideal) m ρ
theorem frame_ple_w_reference : Cert.quiescent_ReferencePleWIdeal (hReferencePleWIdeal := Cert.ReferencePleWIdeal.Gen.facts) := fun m ρ _ =>
  (θ_run ReferencePleWIdeal.defs _ _).mono (fun _ h => ⟨fun c => (h c).2, sem_eq_zero_of_no_sems (by decide) _⟩)
    (ReferencePleWIdeal.Value.run (F := Ideal) m ρ)

end Cert.Proof

end
-- ==== Proof.Ple.lean ====
/- The per-layer embedding's projection: the value claim and the frames. -/
module

public import proofs.«01_k».proof.Defs
public import proofs.«01_k».proof.Proof.Blocked
public import proofs.«01_k».proof.Proof.Gen.KernelPle
public import proofs.«01_k».proof.Proof.Gen.KernelPleIdeal.Value
public import proofs.«01_k».proof.Proof.Gen.ReferencePleIdeal.Run
public import Idealize.ShloMosaic.Lib.StableHlo.ReadAt
public import Idealize.ShloMosaic.Lib.Pipeline.ValueKit
public import Idealize.ShloMosaic.Adequacy

@[expose] public section

set_option maxRecDepth 16384

noncomputable section

namespace Cert.KernelPleIdeal.Hand

open Cert.KernelPleIdeal Cert.KernelPleIdeal.Gen Cert.Blocked
open Idealize.ShloMosaic Idealize.ShloMosaic.TcCoe Idealize.SL.Sem
open Finset (range)

theorem out_A {F : FTy → Type} [FloatOps F] (c : Dev nD) (i : grid0.Coords) (a3 : Memref sig .tc .vmem S1024x256 .bf16) (h3 : a3.IsWhole)
    (a4 : Memref sig .tc .vmem S1x256x128 .bf16) (h4 : a4.IsWhole)
    (a5 : Memref sig .tc .vmem S1024x128 .f32) (h5 : a5.IsWhole)
    (a6 : Memref sig .tc .vmem S1024x128 .f32) (h6 : a6.IsWhole)
    (hc0 : cond0_0 i) (hc1 : cond0_1 i) (x0 : Vec F S1024x256 .bf16) (x1 : Vec F S1x256x128 .bf16) :
    out0_A_2 c i a3 h3 a4 h4 a5 h5 a6 h6 hc0 hc1 x0 x1 = k0_pay2 x0 x1 k0_pay1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz]
  simp only [View.readCov_cons_toLoadRect, View.readCov_unit_zero (S := S1024x128) _ hz, View.readAt_eq_ld, h3.read_unread, h4.read_unread,
    View.ld_unit_zero (S := S1024x256) hz, View.ld_unit_zero (S := S1x256x128) hz3]

theorem pay (x0 : FVec Ideal S1024x256 .bf16) (x1 : FVec Ideal S1x256x128 .bf16) (u : Fin 1024) (l : Fin 128) :
    k0_pay2 (F := Ideal) x0 x1 (k0_pay1 (F := Ideal)) (ix2 u l) = ∑ e : Fin 256, x0 (ix2 u e) * x1 (ix3 0 e l) := by
  pointwise [k0_pay2, k0_pay1]

theorem idx0 : ∀ t : Fin cfg0.N, win0_0.index t = ![t.val / 8, 0] := (by decide +kernel : ∀ t : Fin grid0.N, _)
theorem idx1 : ∀ t : Fin cfg0.N, win0_1.index t = ![t.val % 8, 0, 0] := (by decide +kernel : ∀ t : Fin grid0.N, _)
theorem idx2 : ∀ t : Fin cfg0.N, win0_2.index t = ![t.val / 8, t.val % 8] := (by decide +kernel : ∀ t : Fin grid0.N, _)
theorem lt_N (t : Fin cfg0.N) : t.val < 32 := lt_of_lt_of_eq t.isLt N_0

variable (m : (ℓ : Loc nD τ sig) → Buf (Elt Ideal) ℓ) (c : Dev nD)

abbrev X : FVec Ideal S4096x256 .bf16 := m (c, Proc.tc.devRef main_arg0)
abbrev W : FVec Ideal S256x1024 .bf16 := m (c, Proc.tc.devRef main_arg1)

/-- The entries of the result. -/
def res (i j : ℕ) : EReal := ∑ e ∈ range 256, at2 (X m c) i e * at2 (W m c) e j

theorem slabs_at (s : Fin 8) (e : Fin 256) (l : Fin 128) :
    (V m c main_v1 : FVec Ideal S8x256x128 .bf16) (ix3 s e l) = at2 (W m c) e.val (128 * s.val + l.val) := by
  rw [at2_of _ e.isLt (show 128 * s.val + l.val < 1024 by omega)]
  unfold V
  after_reads_at
  exact congrArg (fun j => W m c (ix2 e j)) (Fin.ext (by dsimp only; omega))

theorem blk0 (t : Fin cfg0.N) (u : Fin 1024) (e : Fin 256) :
    (iblk m c 0 t : FVec Ideal S1024x256 .bf16) (ix2 u e) = at2 (X m c) (1024 * (t.val / 8) + u.val) e.val := by
  have ht := lt_N t
  rw [at2_of _ (show 1024 * (t.val / 8) + u.val < 4096 by omega) e.isLt]
  blk_ext [iblk, V, idx0 t]
theorem blk1 (t : Fin cfg0.N) (l : Fin 128) (e : Fin 256) :
    (iblk m c 1 t : FVec Ideal S1x256x128 .bf16) (ix3 0 e l) = at2 (W m c) e.val (128 * (t.val % 8) + l.val) := by
  have ht := lt_N t
  refine Eq.trans ?_ (slabs_at m c ⟨t.val % 8, by omega⟩ e l)
  blk_ext [iblk, V, idx1 t]

theorem out_at (t : Fin cfg0.N) (u : Fin 1024) (l : Fin 128) : outsAt0 m c t (ix2 u l) = res m c (1024 * (t.val / 8) + u.val) (128 * (t.val % 8) + l.val) := by
  unfold outsAt0 res
  rw [out_A, pay, Finset.sum_range]
  simp only [blk0, blk1]

theorem final : (dats m 0 c).arrAt 2 cfg0.N = (fun i => res m c (i 0).val (i 1).val : FVec Ideal S4096x1024 .f32) := by
  refine (dats m 0 c).arrAt_eq_of_covers 2 _ (by decide +kernel) fun t hf b => ?_
  have ht := lt_N t
  blk_simp [idx2 t]
  rw [after0_2]
  refine Eq.trans (congrArg _ (ix2_eta b)) ((out_at m c t (b 0) (b 1)).trans ?_)
  congr 1 <;> omega

end Cert.KernelPleIdeal.Hand

namespace Cert.ReferencePleIdeal.Hand

open Cert.ReferencePleIdeal Cert.ReferencePleIdeal.Gen Cert.Blocked
open Idealize.ShloMosaic Idealize.ShloMosaic.TcCoe Idealize.SL.Sem

theorem value (X : FVec Ideal S4096x256 .bf16) (W : FVec Ideal S256x1024 .bf16) :
    Host.dotGeneral (φ₁ := .f32) (φ₂ := .f32) dot_S4096x256_S256x1024_S4096x1024_1_0_0_1_n_n none (extf .f32 X bitsLt_bf16_f32) (extf .f32 W bitsLt_bf16_f32)
      = (fun i => ∑ e ∈ Finset.range 256, at2 X (i 0).val e * at2 W e (i 1).val : FVec Ideal S4096x1024 .f32) := by
  funext i
  obtain ⟨r, l, rfl⟩ : ∃ (r : Fin 4096) (l : Fin 1024), i = ix2 r l := ⟨i 0, i 1, ix2_eta i⟩
  show _ = ∑ e ∈ Finset.range 256, at2 X r.val e * at2 W e l.val
  rw [Finset.sum_range]
  simp only [at2_ix]
  pointwise

end Cert.ReferencePleIdeal.Hand

namespace Cert.Proof

open Idealize.ShloMosaic Idealize.SL.Sem

theorem same_ple : Cert.algebraic_KernelPleIdeal_ReferencePleIdeal (hKernelPleIdeal := Cert.KernelPleIdeal.Gen.facts)
    (hReferencePleIdeal := Cert.ReferencePleIdeal.Gen.facts) := by
  intro m g m' g' _ he
  refine ⟨fun c => (fun i => KernelPleIdeal.Hand.res m c (i 0).val (i 1).val : FVec Ideal KernelPleIdeal.S4096x1024 .f32), ?_, ?_⟩
  · exact (θ_run KernelPleIdeal.defs _ _).mono (fun _ h c => ⟨(h c).1.trans (KernelPleIdeal.Hand.final m c), (h c).2⟩)
      (KernelPleIdeal.Value.run_blocks (F := Ideal) m g)
  · refine (θ_run ReferencePleIdeal.defs _ _).mono (fun _ h c => ⟨(h c).1.trans ((ReferencePleIdeal.Hand.value _ _).trans ?_), (h c).2⟩)
      (ReferencePleIdeal.Value.run (F := Ideal) m' g')
    rw [(he c).1, (he c).2]
    rfl

-- the two programs have one text; that they are equal is checked by computation
set_option smartUnfolding false in
set_option maxHeartbeats 0 in
theorem frame_ple : Cert.quiescent_KernelPle (hKernelPle := Cert.KernelPle.Gen.facts) := fun m ρ _ =>
  (θ_run KernelPleIdeal.defs _ _).mono (fun _ h => h) (KernelPleIdeal.Gen.frame (F := Bits) m ρ)
theorem frame_ple_ideal : Cert.quiescent_KernelPleIdeal (hKernelPleIdeal := Cert.KernelPleIdeal.Gen.facts) := fun m ρ _ =>
  KernelPleIdeal.Gen.frame (F := Ideal) m ρ
theorem frame_ple_reference : Cert.quiescent_ReferencePleIdeal (hReferencePleIdeal := Cert.ReferencePleIdeal.Gen.facts) := fun m ρ _ =>
  (θ_run ReferencePleIdeal.defs _ _).mono (fun _ h => ⟨fun c => (h c).2, sem_eq_zero_of_no_sems (by decide) _⟩)
    (ReferencePleIdeal.Value.run (F := Ideal) m ρ)

end Cert.Proof

end
-- ==== Proof.MidGrad.lean ====
/- The gradient through the norm after the mixer and the one before the MLP: a row of it, the sums accumulated over the rows, the value claim and the frames. -/
module

public import proofs.«01_k».proof.Defs
public import proofs.«01_k».proof.Proof.Blocked
public import proofs.«01_k».proof.Proof.Norm
public import proofs.«01_k».proof.Proof.Gen.KernelMidGrad
public import proofs.«01_k».proof.Proof.Gen.KernelMidGradIdeal.Value
public import proofs.«01_k».proof.Proof.Gen.ReferenceMidGradIdeal.Run
public import Idealize.ShloMosaic.Lib.StableHlo.ReadAt
public import Idealize.ShloMosaic.Lib.Pipeline.ValueKit
public import Idealize.ShloMosaic.Adequacy

@[expose] public section

set_option maxRecDepth 16384

noncomputable section

namespace Cert.KernelMidGradIdeal.Hand

open Cert.KernelMidGradIdeal Cert.KernelMidGradIdeal.Gen Cert.Blocked Cert.Norm
open Idealize.ShloMosaic Idealize.ShloMosaic.TcCoe Idealize.SL.Sem
open Finset (range)

section Cases
variable {F : FTy → Type} [FloatOps F]

/-- What a point leaves in its outputs: two blocks of rows, and its part of the first of the two sums. -/
def top (d e h : Vec F S512x1024 .f32) (k : Vec F S1x1024 .f32) : Vec F S512x1024 .f32 := k0_pay10 d (k0_pay3 h) (k0_pay8 e h k) (k0_pay9 e h k)
def left (d e h y : Vec F S512x1024 .f32) (g k : Vec F S1x1024 .f32) : Vec F S512x1024 .bf16 := k0_pay14 d (k0_pay3 h) y g (k0_pay8 e h k) (k0_pay9 e h k)
def post (d e h y : Vec F S512x1024 .f32) (k : Vec F S1x1024 .f32) : Vec F S1x1024 .f32 := k0_pay13 d (k0_pay3 h) y (k0_pay8 e h k) (k0_pay9 e h k)

variable (c : Dev nD) (i : grid0.Coords) (a2 : Memref sig .tc .vmem S512x1024 .f32) (h2 : a2.IsWhole)
  (a3 : Memref sig .tc .vmem S512x1024 .f32) (h3 : a3.IsWhole) (a4 : Memref sig .tc .vmem S512x1024 .f32) (h4 : a4.IsWhole)
  (a5 : Memref sig .tc .vmem S512x1024 .f32) (h5 : a5.IsWhole) (a6 : Memref sig .tc .vmem S1x1024 .f32) (h6 : a6.IsWhole)
  (a7 : Memref sig .tc .vmem S1x1024 .f32) (h7 : a7.IsWhole) (a8 : Memref sig .tc .vmem S512x1024 .f32) (h8 : a8.IsWhole)
  (a9 : Memref sig .tc .vmem S512x1024 .bf16) (h9 : a9.IsWhole) (a10 : Memref sig .tc .vmem S1x1024 .f32) (h10 : a10.IsWhole)
  (a11 : Memref sig .tc .vmem S1x1024 .f32) (h11 : a11.IsWhole)
  (x0 x1 x2 x3 : Vec F S512x1024 .f32) (x4 x5 xo8 xo9 : Vec F S1x1024 .f32)

theorem outs_A (hc0 : cond0_0 i) (hc1 : ¬cond0_1 i) (hc2 : cond0_2 i) (hc3 : ¬cond0_3 i) :
    out0_A_6 c i a2 h2 a3 h3 a4 h4 a5 h5 a6 h6 a7 h7 a8 h8 a9 h9 a10 h10 a11 h11 hc0 hc1 hc2 hc3 x0 x1 x2 x3 x4 x5 = top x0 x1 x2 x5
    ∧ out0_A_7 c i a2 h2 a3 h3 a4 h4 a5 h5 a6 h6 a7 h7 a8 h8 a9 h9 a10 h10 a11 h11 hc0 hc1 hc2 hc3 x0 x1 x2 x3 x4 x5 = left x0 x1 x2 x3 x4 x5
    ∧ out0_A_8 c i a2 h2 a3 h3 a4 h4 a5 h5 a6 h6 a7 h7 a8 h8 a9 h9 a10 h10 a11 h11 hc0 hc1 hc2 hc3 x0 x1 x2 x3 x4 x5 = post x0 x1 x2 x3 x5
    ∧ out0_A_9 c i a2 h2 a3 h3 a4 h4 a5 h5 a6 h6 a7 h7 a8 h8 a9 h9 a10 h10 a11 h11 hc0 hc1 hc2 hc3 x0 x1 x2 x3 x4 x5 = k0_pay6 x1 x2 := by
  refine ⟨(View.read_writes_eq_canon _ _ _ (cover0_A_6 c i a2 h2 a3 h3 a4 h4 a5 h5 a6 h6 a7 h7 a8 h8 a9 h9 a10 h10 a11 h11 hc0 hc1 hc2 hc3 x0 x1 x2 x3 x4 x5)).trans ?_,
    (View.read_writes_eq_canon _ _ _ (cover0_A_7 c i a2 h2 a3 h3 a4 h4 a5 h5 a6 h6 a7 h7 a8 h8 a9 h9 a10 h10 a11 h11 hc0 hc1 hc2 hc3 x0 x1 x2 x3 x4 x5)).trans ?_,
    (View.read_writes_eq_canon _ _ _ (cover0_A_8 c i a2 h2 a3 h3 a4 h4 a5 h5 a6 h6 a7 h7 a8 h8 a9 h9 a10 h10 a11 h11 hc0 hc1 hc2 hc3 x0 x1 x2 x3 x4 x5)).trans ?_,
    (View.read_writes_eq_canon _ _ _ (cover0_A_9 c i a2 h2 a3 h3 a4 h4 a5 h5 a6 h6 a7 h7 a8 h8 a9 h9 a10 h10 a11 h11 hc0 hc1 hc2 hc3 x0 x1 x2 x3 x4 x5)).trans ?_⟩
  all_goals
    unfold kernelRun0_A
    dsimp only
    sl_unfold_words
    rw [View.canon_unit_zero hz]
    simp only [View.readAt_eq_ld, h2.read_unread, h3.read_unread, h4.read_unread, h5.read_unread, h6.read_unread, h7.read_unread, View.ld_unit_zero (S := S512x1024) hz, View.ld_unit_zero (S := S1x1024) hz, top, left, post]
theorem outs_B (hc0 : ¬cond0_0 i) (hc1 : cond0_1 i) (hc2 : ¬cond0_2 i) (hc3 : cond0_3 i) :
    out0_B_6 c i a2 h2 a3 h3 a4 h4 a5 h5 a6 h6 a7 h7 a8 h8 a9 h9 a10 h10 a11 h11 hc0 hc1 hc2 hc3 x0 x1 x2 x3 x4 x5 xo8 xo9 = top x0 x1 x2 x5
    ∧ out0_B_7 c i a2 h2 a3 h3 a4 h4 a5 h5 a6 h6 a7 h7 a8 h8 a9 h9 a10 h10 a11 h11 hc0 hc1 hc2 hc3 x0 x1 x2 x3 x4 x5 xo8 xo9 = left x0 x1 x2 x3 x4 x5
    ∧ out0_B_8 c i a2 h2 a3 h3 a4 h4 a5 h5 a6 h6 a7 h7 a8 h8 a9 h9 a10 h10 a11 h11 hc0 hc1 hc2 hc3 x0 x1 x2 x3 x4 x5 xo8 xo9 = k0_pay1 (post x0 x1 x2 x3 x5) xo8
    ∧ out0_B_9 c i a2 h2 a3 h3 a4 h4 a5 h5 a6 h6 a7 h7 a8 h8 a9 h9 a10 h10 a11 h11 hc0 hc1 hc2 hc3 x0 x1 x2 x3 x4 x5 xo8 xo9 = k0_pay2 (k0_pay6 x1 x2) xo9 := by
  refine ⟨(View.read_writes_eq_canon _ _ _ (cover0_B_6 c i a2 h2 a3 h3 a4 h4 a5 h5 a6 h6 a7 h7 a8 h8 a9 h9 a10 h10 a11 h11 hc0 hc1 hc2 hc3 x0 x1 x2 x3 x4 x5 xo8 xo9)).trans ?_,
    (View.read_writes_eq_canon _ _ _ (cover0_B_7 c i a2 h2 a3 h3 a4 h4 a5 h5 a6 h6 a7 h7 a8 h8 a9 h9 a10 h10 a11 h11 hc0 hc1 hc2 hc3 x0 x1 x2 x3 x4 x5 xo8 xo9)).trans ?_,
    (View.read_writes_eq_canon _ _ _ (cover0_B_8 c i a2 h2 a3 h3 a4 h4 a5 h5 a6 h6 a7 h7 a8 h8 a9 h9 a10 h10 a11 h11 hc0 hc1 hc2 hc3 x0 x1 x2 x3 x4 x5 xo8 xo9)).trans ?_,
    (View.read_writes_eq_canon _ _ _ (cover0_B_9 c i a2 h2 a3 h3 a4 h4 a5 h5 a6 h6 a7 h7 a8 h8 a9 h9 a10 h10 a11 h11 hc0 hc1 hc2 hc3 x0 x1 x2 x3 x4 x5 xo8 xo9)).trans ?_⟩
  all_goals
    unfold kernelRun0_B
    dsimp only
    sl_unfold_words
    rw [View.canon_unit_zero hz]
    simp only [View.readAt_eq_ld, h2.read_unread, h3.read_unread, h4.read_unread, h5.read_unread, h6.read_unread, h7.read_unread, h10.read_unread, h11.read_unread, View.ld_unit_zero (S := S512x1024) hz, View.ld_unit_zero (S := S1x1024) hz, top, left, post]
end Cases

section Block
variable (d e h y : FVec Ideal S512x1024 .f32) (g k : FVec Ideal S1x1024 .f32) (u : Fin 512) (l : Fin 1024)

theorem pay1 (s a : FVec Ideal S1x1024 .f32) : k0_pay1 (F := Ideal) s a (ix2 0 l) = a (ix2 0 l) + s (ix2 0 l) := by
  pointwise [k0_pay1]
theorem pay2 (s a : FVec Ideal S1x1024 .f32) : k0_pay2 (F := Ideal) s a (ix2 0 l) = a (ix2 0 l) + s (ix2 0 l) := by
  pointwise [k0_pay2]
theorem pay3 : k0_pay3 (F := Ideal) h (ix2 u l) = h (ix2 u l) := by
  pointwise [k0_pay3]
theorem pay4 : k0_pay4 (F := Ideal) h (ix2 u 0) = meanSq (fun l => h (ix2 u l)) := by
  pointwise [k0_pay4]
  simp only [pay3]
  rfl
theorem pay5 : k0_pay5 (F := Ideal) h (ix2 u 0) = scale (fun l => h (ix2 u l)) := by
  pointwise [k0_pay5]
  rw [pay4]
  rfl
theorem pay6 : k0_pay6 (F := Ideal) e h (ix2 0 l) = ∑ u : Fin 512, h (ix2 u l) * scale (fun l => h (ix2 u l)) * e (ix2 u l) := by
  pointwise [k0_pay6]
  simp only [pay3, pay5]
theorem pay7 : k0_pay7 (F := Ideal) e k (ix2 u l) = e (ix2 u l) * k (ix2 0 l) := by
  pointwise [k0_pay7]
theorem pay8 : k0_pay8 (F := Ideal) e h k (ix2 u l) = through (fun l => h (ix2 u l)) (fun l => k (ix2 0 l)) (fun l => e (ix2 u l)) := by
  pointwise [k0_pay8]
  simp only [pay3, pay4, pay5, pay7, Fin.sum_univ_one]
  rfl
theorem pay9 : k0_pay9 (F := Ideal) e h k (ix2 u l) = e (ix2 u l) * k (ix2 0 l) * scale (fun l => h (ix2 u l))
    + h (ix2 u l) * through (fun l => h (ix2 u l)) (fun l => k (ix2 0 l)) (fun l => e (ix2 u l)) := by
  pointwise [k0_pay9]
  simp only [pay3, pay5, pay7, pay8]
theorem top_block : top (F := Ideal) d e h k (ix2 u l) = d (ix2 u l) + back (fun l => h (ix2 u l)) (fun l => k (ix2 0 l)) (fun l => e (ix2 u l)) l := by
  unfold top
  pointwise [k0_pay10]
  simp only [pay3, pay8, pay9]
  rfl
theorem pay11 : k0_pay11 (F := Ideal) y (ix2 u 0) = meanSq (fun l => y (ix2 u l)) := by
  pointwise [k0_pay11]
  rfl
theorem pay12 : k0_pay12 (F := Ideal) y (ix2 u 0) = scale (fun l => y (ix2 u l)) := by
  pointwise [k0_pay12]
  rw [pay11]
  rfl
theorem post_block : post (F := Ideal) d e h y k (ix2 0 l)
    = ∑ u : Fin 512, y (ix2 u l) * scale (fun l => y (ix2 u l)) * top (F := Ideal) d e h k (ix2 u l) := by
  unfold post
  pointwise [k0_pay13]
  simp only [pay12]
  rfl
theorem left_block : left (F := Ideal) d e h y g k (ix2 u l)
    = back (fun l => y (ix2 u l)) (fun l => g (ix2 0 l)) (fun l => top (F := Ideal) d e h k (ix2 u l)) l := by
  unfold left
  pointwise [k0_pay14]
  simp only [pay11, pay12, Fin.sum_univ_one]
  rfl
end Block

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem lt_N (t : Fin cfg0.N) : t.val < 8 := lt_of_lt_of_eq t.isLt N_0

variable (m : (ℓ : Loc nD τ sig) → Buf (Elt Ideal) ℓ) (c : Dev nD)

abbrev X : FVec Ideal S4096x1024 .f32 := m (c, Proc.tc.devRef main_arg0)
abbrev Y : FVec Ideal S4096x1024 .f32 := m (c, Proc.tc.devRef main_arg1)
abbrev G : FVec Ideal S1x1024 .f32 := m (c, Proc.tc.devRef main_arg2)
abbrev K : FVec Ideal S1x1024 .f32 := m (c, Proc.tc.devRef main_arg3)
abbrev D : FVec Ideal S4096x1024 .f32 := m (c, Proc.tc.devRef main_arg4)
abbrev E : FVec Ideal S4096x1024 .f32 := m (c, Proc.tc.devRef main_arg5)

/-- The rows between the two norms. -/
def H (r : Fin 4096) (l : Fin 1024) : EReal := X m c (ix2 r l) + Y m c (ix2 r l) * scale (fun l => Y m c (ix2 r l)) * G m c (ix2 0 l)
/-- The gradient with respect to them. -/
def T (r : Fin 4096) (l : Fin 1024) : EReal := D m c (ix2 r l) + back (H m c r) (fun l => K m c (ix2 0 l)) (fun l => E m c (ix2 r l)) l

theorem T_parts (r : Fin 4096) (l : Fin 1024) : T m c r l
    = D m c (ix2 r l) + E m c (ix2 r l) * K m c (ix2 0 l) * scale (H m c r)
      + H m c r l * through (H m c r) (fun l => K m c (ix2 0 l)) (fun l => E m c (ix2 r l))
      + through (H m c r) (fun l => K m c (ix2 0 l)) (fun l => E m c (ix2 r l)) * H m c r l := by
  simp only [T, back, add_assoc]

theorem between (r : Fin 4096) (l : Fin 1024) : (V m c main_v12 : FVec Ideal S4096x1024 .f32) (ix2 r l) = H m c r l := by
  unfold V
  after_reads_at
  rfl

def row (t : Fin cfg0.N) (u : Fin 512) : Fin 4096 := ⟨512 * t.val + u.val, by have := lt_N t; omega⟩

theorem blk0 (t : Fin cfg0.N) (u : Fin 512) (l : Fin 1024) : (iblk m c 0 t : FVec Ideal S512x1024 .f32) (ix2 u l) = D m c (ix2 (row t u) l) := by
  unfold row
  blk_ext [iblk, V, idx0 t]
theorem blk1 (t : Fin cfg0.N) (u : Fin 512) (l : Fin 1024) : (iblk m c 1 t : FVec Ideal S512x1024 .f32) (ix2 u l) = E m c (ix2 (row t u) l) := by
  unfold row
  blk_ext [iblk, V, idx1 t]
theorem blk2 (t : Fin cfg0.N) (u : Fin 512) (l : Fin 1024) : (iblk m c 2 t : FVec Ideal S512x1024 .f32) (ix2 u l) = H m c (row t u) l := by
  rw [← between]
  unfold row
  blk_ext [iblk, V, idx2 t]
theorem blk3 (t : Fin cfg0.N) (u : Fin 512) (l : Fin 1024) : (iblk m c 3 t : FVec Ideal S512x1024 .f32) (ix2 u l) = Y m c (ix2 (row t u) l) := by
  unfold row
  blk_ext [iblk, V, idx3 t]
theorem blk4 (t : Fin cfg0.N) (l : Fin 1024) : (iblk m c 4 t : FVec Ideal S1x1024 .f32) (ix2 0 l) = G m c (ix2 0 l) := by
  blk_ext [iblk, V, idx4 t]
theorem blk5 (t : Fin cfg0.N) (l : Fin 1024) : (iblk m c 5 t : FVec Ideal S1x1024 .f32) (ix2 0 l) = K m c (ix2 0 l) := by
  blk_ext [iblk, V, idx5 t]

/-- The gradients with respect to the block's input and to the mixer's result, and a row's parts of those of the two weights. -/
def total6 : FVec Ideal S4096x1024 .f32 := fun i => T m c (i 0) (i 1)
def total7 : FVec Ideal S4096x1024 .bf16 := fun i => back (fun l => Y m c (ix2 (i 0) l)) (fun l => G m c (ix2 0 l)) (T m c (i 0)) (i 1)
def part8 : FVec Ideal S4096x1024 .f32 := fun i => Y m c i * scale (fun l => Y m c (ix2 (i 0) l)) * T m c (i 0) (i 1)
def part9 : FVec Ideal S4096x1024 .f32 := fun i => H m c (i 0) (i 1) * scale (H m c (i 0)) * E m c i

theorem top_at (t : Fin cfg0.N) (u : Fin 512) (l : Fin 1024) :
    top (F := Ideal) (iblk m c 0 t) (iblk m c 1 t) (iblk m c 2 t) (iblk m c 5 t) (ix2 u l) = T m c (row t u) l := by
  rw [top_block]
  simp only [blk0, blk1, blk2, blk5]
  rfl
theorem left_at (t : Fin cfg0.N) (u : Fin 512) (l : Fin 1024) :
    left (F := Ideal) (iblk m c 0 t) (iblk m c 1 t) (iblk m c 2 t) (iblk m c 3 t) (iblk m c 4 t) (iblk m c 5 t) (ix2 u l)
      = at2 (total7 m c) (512 * t.val + u.val) l.val := by
  rw [at2_of _ (show 512 * t.val + u.val < 4096 from (row t u).isLt) l.isLt, left_block]
  simp only [top_at, blk3, blk4]
  rfl
theorem post_at (t : Fin cfg0.N) (l : Fin 1024) :
    post (F := Ideal) (iblk m c 0 t) (iblk m c 1 t) (iblk m c 2 t) (iblk m c 3 t) (iblk m c 5 t) (ix2 0 l)
      = ∑ e ∈ range 512, at2 (part8 m c) (512 * t.val + e) l.val := by
  rw [post_block, Finset.sum_range]
  refine Finset.sum_congr rfl fun u _ => ?_
  rw [at2_of _ (show 512 * t.val + u.val < 4096 from (row t u).isLt) l.isLt]
  simp only [top_at, blk3]
  rfl
theorem pre_at (t : Fin cfg0.N) (l : Fin 1024) :
    k0_pay6 (F := Ideal) (iblk m c 1 t) (iblk m c 2 t) (ix2 0 l) = ∑ e ∈ range 512, at2 (part9 m c) (512 * t.val + e) l.val := by
  rw [pay6, Finset.sum_range]
  refine Finset.sum_congr rfl fun u _ => ?_
  rw [at2_of _ (show 512 * t.val + u.val < 4096 from (row t u).isLt) l.isLt]
  simp only [blk1, blk2]
  rfl

theorem rows_at (t : Fin cfg0.N) (u : Fin 512) (l : Fin 1024) : (outsAt0 m c t.val t.isLt).1 (ix2 u l) = at2 (total6 m c) (512 * t.val + u.val) l.val
    ∧ (outsAt0 m c t.val t.isLt).2.1 (ix2 u l) = at2 (total7 m c) (512 * t.val + u.val) l.val := by
  have ht := lt_N t
  have e : T m c (row t u) l = at2 (total6 m c) (512 * t.val + u.val) l.val :=
    (at2_of (total6 m c) (show 512 * t.val + u.val < 4096 from (row t u).isLt) l.isLt).symm
  rcases Nat.eq_zero_or_pos t.val with h | h
  · rw [outsAt0_A m c t (by omega) (by omega) (by omega) (by omega)]
    dsimp only
    rw [(outs_A ..).1, (outs_A ..).2.1]
    exact ⟨(top_at m c t u l).trans e, left_at m c t u l⟩
  · rw [outsAt0_B m c t (by omega) (by omega) (by omega) (by omega)]
    dsimp only
    rw [(outs_B ..).1, (outs_B ..).2.1]
    exact ⟨(top_at m c t u l).trans e, left_at m c t u l⟩

theorem sums_at (n : ℕ) (h : n < cfg0.N) (l : Fin 1024) :
    (outsAt0 m c n h).2.2.1 (ix2 0 l) = ∑ e ∈ range (512 * (n % 8 + 1)), at2 (part8 m c) e l.val
    ∧ (outsAt0 m c n h).2.2.2 (ix2 0 l) = ∑ e ∈ range (512 * (n % 8 + 1)), at2 (part9 m c) e l.val := by
  refine ⟨accumulated (by omega) (fun n h (l : Fin 1024) => (outsAt0 m c n h).2.2.1 (ix2 0 l)) (fun _ l e => at2 (part8 m c) e l.val) ?_ ?_ n h l,
    accumulated (by omega) (fun n h (l : Fin 1024) => (outsAt0 m c n h).2.2.2 (ix2 0 l)) (fun _ l e => at2 (part9 m c) e l.val) ?_ ?_ n h l⟩
  all_goals
    intro n h l h0
    have hn : n < 8 := lt_N ⟨n, h⟩
  · rw [outsAt0_A m c ⟨n, h⟩ h0 (by show ¬1 ≤ n; omega) h0 (by show ¬1 ≤ n; omega)]
    dsimp only
    rw [(outs_A ..).2.2.1, post_at]
    simp only [show n = 0 by omega, mul_zero, zero_add]
  · rw [outsAt0_B m c ⟨n, h⟩ h0 (by show 1 ≤ n; omega) h0 (by show 1 ≤ n; omega)]
    dsimp only
    rw [(outs_B ..).2.2.1, pay1, post_at]
    simp only [show n % 8 = n by omega]
  · rw [outsAt0_A m c ⟨n, h⟩ h0 (by show ¬1 ≤ n; omega) h0 (by show ¬1 ≤ n; omega)]
    dsimp only
    rw [(outs_A ..).2.2.2, pre_at]
    simp only [show n = 0 by omega, mul_zero, zero_add]
  · rw [outsAt0_B m c ⟨n, h⟩ h0 (by show 1 ≤ n; omega) h0 (by show 1 ≤ n; omega)]
    dsimp only
    rw [(outs_B ..).2.2.2, pay2, pre_at]
    simp only [show n % 8 = n by omega]

theorem final6 : (dats m 0 c).arrAt 6 cfg0.N = (fun i => at2 (total6 m c) (i 0).val (i 1).val : FVec Ideal S4096x1024 .f32) := by
  refine (dats m 0 c).arrAt_eq_of_covers 6 _ (by decide +kernel) fun t hf b => ?_
  have ht := lt_N t
  blk_simp [idx6 t]
  rw [after0_6]
  refine Eq.trans (congrArg _ (ix2_eta b)) ((rows_at m c t (b 0) (b 1)).1.trans ?_)
  congr 1 <;> omega
theorem final7 : (dats m 0 c).arrAt 7 cfg0.N = (fun i => at2 (total7 m c) (i 0).val (i 1).val : FVec Ideal S4096x1024 .bf16) := by
  refine (dats m 0 c).arrAt_eq_of_covers 7 _ (by decide +kernel) fun t hf b => ?_
  have ht := lt_N t
  blk_simp [idx7 t]
  rw [after0_7]
  refine Eq.trans (congrArg _ (ix2_eta b)) ((rows_at m c t (b 0) (b 1)).2.trans ?_)
  congr 1 <;> omega
theorem final8 : (dats m 0 c).arrAt 8 cfg0.N = (fun i => ∑ e ∈ range 4096, at2 (part8 m c) e (i 1).val : FVec Ideal S1x1024 .f32) := by
  refine (dats m 0 c).arrAt_eq_of_covers 8 _ (by decide +kernel) fun t hf b => ?_
  have ht := lt_N t
  have hf := (flush0_8 t).mp hf
  blk_simp [idx8 t]
  rw [after0_8]
  refine Eq.trans (congrArg _ (ix2_eta1 b)) ((sums_at m c t.val t.isLt (b 1)).1.trans ?_)
  rw [hf]
theorem final9 : (dats m 0 c).arrAt 9 cfg0.N = (fun i => ∑ e ∈ range 4096, at2 (part9 m c) e (i 1).val : FVec Ideal S1x1024 .f32) := by
  refine (dats m 0 c).arrAt_eq_of_covers 9 _ (by decide +kernel) fun t hf b => ?_
  have ht := lt_N t
  have hf := (flush0_9 t).mp hf
  blk_simp [idx9 t]
  rw [after0_9]
  refine Eq.trans (congrArg _ (ix2_eta1 b)) ((sums_at m c t.val t.isLt (b 1)).2.trans ?_)
  rw [hf]

end Cert.KernelMidGradIdeal.Hand

namespace Cert.Proof

open Idealize.ShloMosaic Idealize.SL.Sem
open Cert.Blocked (at2 at2_ix)

theorem same_mid_grad : Cert.algebraic_KernelMidGradIdeal_ReferenceMidGradIdeal (hKernelMidGradIdeal := Cert.KernelMidGradIdeal.Gen.facts)
    (hReferenceMidGradIdeal := Cert.ReferenceMidGradIdeal.Gen.facts) := by
  intro m g m' g' _ he
  have between : ∀ c (r : Fin 4096) (l : Fin 1024), ReferenceMidGradIdeal.Value.res_main_v50 m' c (ix2 r l) = KernelMidGradIdeal.Hand.T m c r l := by
    intro c r l
    obtain ⟨e0, e1, e2, e3, e4, e5⟩ := he c
    rw [KernelMidGradIdeal.Hand.T_parts]
    unfold ReferenceMidGradIdeal.Value.res_main_v50
    simp only [e0, e1, e2, e3, e4, e5]
    pointwise
    simp only [Fin.sum_univ_one]
    rfl
  refine ⟨fun c => (fun i => at2 (KernelMidGradIdeal.Hand.total6 m c) (i 0).val (i 1).val : FVec Ideal KernelMidGradIdeal.S4096x1024 .f32),
    fun c => (fun i => at2 (KernelMidGradIdeal.Hand.total7 m c) (i 0).val (i 1).val : FVec Ideal KernelMidGradIdeal.S4096x1024 .bf16),
    fun c => (fun i => ∑ e ∈ Finset.range 4096, at2 (KernelMidGradIdeal.Hand.part8 m c) e (i 1).val : FVec Ideal KernelMidGradIdeal.S1x1024 .f32),
    fun c => (fun i => ∑ e ∈ Finset.range 4096, at2 (KernelMidGradIdeal.Hand.part9 m c) e (i 1).val : FVec Ideal KernelMidGradIdeal.S1x1024 .f32), ?_, ?_⟩
  · exact (θ_run KernelMidGradIdeal.defs _ _).mono (fun _ h c => ⟨(h c).1.trans (KernelMidGradIdeal.Hand.final6 m c),
      (h c).2.1.trans (KernelMidGradIdeal.Hand.final7 m c), (h c).2.2.1.trans (KernelMidGradIdeal.Hand.final8 m c),
      (h c).2.2.2.1.trans (KernelMidGradIdeal.Hand.final9 m c), (h c).2.2.2.2⟩)
      (KernelMidGradIdeal.Value.run_blocks (F := Ideal) m g)
  · refine (θ_run ReferenceMidGradIdeal.defs _ _).mono (fun _ h c => ⟨(h c).1.trans ?_, (h c).2.1.trans ?_, (h c).2.2.1.trans ?_, (h c).2.2.2.1.trans ?_, (h c).2.2.2.2⟩)
      (ReferenceMidGradIdeal.Value.run (F := Ideal) m' g')
    all_goals obtain ⟨e0, e1, e2, e3, e4, e5⟩ := he c; funext i
    · exact (congrArg _ (Blocked.ix2_eta i)).trans ((between c (i 0) (i 1)).trans (at2_ix (KernelMidGradIdeal.Hand.total6 m c) (i 0) (i 1)).symm)
    · obtain ⟨r, l, rfl⟩ : ∃ (r : Fin 4096) (l : Fin 1024), i = ix2 r l := ⟨i 0, i 1, Blocked.ix2_eta i⟩
      refine Eq.trans ?_ (at2_ix (KernelMidGradIdeal.Hand.total7 m c) r l).symm
      unfold ReferenceMidGradIdeal.Value.res_main_v71
      rw [← ReferenceMidGradIdeal.Value.res_main_v50.eq_1 (F := Ideal) m' c]
      simp only [e1, e2]
      pointwise
      simp only [Fin.sum_univ_one, between]
      rfl
    · obtain ⟨l, rfl⟩ : ∃ (l : Fin 1024), i = ix2 0 l := ⟨i 1, Blocked.ix2_eta1 i⟩
      refine Eq.trans ?_ (Finset.sum_range fun e => at2 (KernelMidGradIdeal.Hand.part8 m c) e l.val).symm
      simp only [at2_ix]
      unfold ReferenceMidGradIdeal.Value.res_main_v54
      rw [← ReferenceMidGradIdeal.Value.res_main_v50.eq_1 (F := Ideal) m' c]
      simp only [e1]
      pointwise
      simp only [between]
      rfl
    · obtain ⟨l, rfl⟩ : ∃ (l : Fin 1024), i = ix2 0 l := ⟨i 1, Blocked.ix2_eta1 i⟩
      simp only [e0, e1, e2, e3, e4, e5]
      refine Eq.trans ?_ (Finset.sum_range fun e => at2 (KernelMidGradIdeal.Hand.part9 m c) e l.val).symm
      simp only [at2_ix]
      pointwise
      rfl

-- the two programs have one text; that they are equal is checked by computation
set_option smartUnfolding false in
set_option maxHeartbeats 0 in
theorem frame_mid_grad : Cert.quiescent_KernelMidGrad (hKernelMidGrad := Cert.KernelMidGrad.Gen.facts) := fun m ρ _ =>
  (θ_run KernelMidGradIdeal.defs _ _).mono (fun _ h => h) (KernelMidGradIdeal.Gen.frame (F := Bits) m ρ)
theorem frame_mid_grad_ideal : Cert.quiescent_KernelMidGradIdeal (hKernelMidGradIdeal := Cert.KernelMidGradIdeal.Gen.facts) := fun m ρ _ =>
  KernelMidGradIdeal.Gen.frame (F := Ideal) m ρ
theorem frame_mid_grad_reference : Cert.quiescent_ReferenceMidGradIdeal (hReferenceMidGradIdeal := Cert.ReferenceMidGradIdeal.Gen.facts) := fun m ρ _ =>
  (θ_run ReferenceMidGradIdeal.defs _ _).mono (fun _ h => ⟨fun c => (h c).2.2.2.2, sem_eq_zero_of_no_sems (by decide) _⟩)
    (ReferenceMidGradIdeal.Value.run (F := Ideal) m ρ)

end Cert.Proof

end
-- ==== Proof.FfnGrad.lean ====
/- The gradient through the norm after the MLP: a row of it, the sum accumulated over the rows, the value claim and the frames. -/
module

public import proofs.«01_k».proof.Defs
public import proofs.«01_k».proof.Proof.Blocked
public import proofs.«01_k».proof.Proof.Norm
public import proofs.«01_k».proof.Proof.Gen.KernelFfnGrad
public import proofs.«01_k».proof.Proof.Gen.KernelFfnGradIdeal.Value
public import proofs.«01_k».proof.Proof.Gen.ReferenceFfnGradIdeal.Run
public import Idealize.ShloMosaic.Lib.Pipeline.ValueKit
public import Idealize.ShloMosaic.Adequacy

@[expose] public section

set_option maxRecDepth 16384

noncomputable section

namespace Cert.KernelFfnGradIdeal.Hand

open Cert.KernelFfnGradIdeal Cert.KernelFfnGradIdeal.Gen Cert.Blocked Cert.Norm
open Idealize.ShloMosaic Idealize.ShloMosaic.TcCoe Idealize.SL.Sem
open Finset (range)

section Cases
variable {F : FTy → Type} [FloatOps F] (c : Dev nD) (i : grid0.Coords) (a2 : Memref sig .tc .vmem S512x1024 .f32) (h2 : a2.IsWhole)
  (a3 : Memref sig .tc .vmem S512x1024 .f32) (h3 : a3.IsWhole) (a4 : Memref sig .tc .vmem S1x1024 .f32) (h4 : a4.IsWhole)
  (a5 : Memref sig .tc .vmem S512x1024 .bf16) (h5 : a5.IsWhole) (a6 : Memref sig .tc .vmem S1x1024 .f32) (h6 : a6.IsWhole)
  (x0 x1 : Vec F S512x1024 .f32) (x2 xo : Vec F S1x1024 .f32)

theorem outs_A (hc0 : cond0_0 i) (hc1 : ¬cond0_1 i) :
    out0_A_3 c i a2 h2 a3 h3 a4 h4 a5 h5 a6 h6 hc0 hc1 x0 x1 x2 = k0_pay5 x0 x1 x2 ∧ out0_A_4 c i a2 h2 a3 h3 a4 h4 a5 h5 a6 h6 hc0 hc1 x0 x1 x2 = k0_pay4 x0 x1 := by
  refine ⟨(View.read_writes_eq_canon _ _ _ (cover0_A_3 c i a2 h2 a3 h3 a4 h4 a5 h5 a6 h6 hc0 hc1 x0 x1 x2)).trans ?_,
    (View.read_writes_eq_canon _ _ _ (cover0_A_4 c i a2 h2 a3 h3 a4 h4 a5 h5 a6 h6 hc0 hc1 x0 x1 x2)).trans ?_⟩
  all_goals
    unfold kernelRun0_A
    dsimp only
    sl_unfold_words
    rw [View.canon_unit_zero hz]
    simp only [View.readAt_eq_ld, h2.read_unread, h3.read_unread, h4.read_unread, View.ld_unit_zero (S := S512x1024) hz, View.ld_unit_zero (S := S1x1024) hz]
theorem outs_B (hc0 : ¬cond0_0 i) (hc1 : cond0_1 i) :
    out0_B_3 c i a2 h2 a3 h3 a4 h4 a5 h5 a6 h6 hc0 hc1 x0 x1 x2 xo = k0_pay5 x0 x1 x2 ∧ out0_B_4 c i a2 h2 a3 h3 a4 h4 a5 h5 a6 h6 hc0 hc1 x0 x1 x2 xo = k0_pay1 (k0_pay4 x0 x1) xo := by
  refine ⟨(View.read_writes_eq_canon _ _ _ (cover0_B_3 c i a2 h2 a3 h3 a4 h4 a5 h5 a6 h6 hc0 hc1 x0 x1 x2 xo)).trans ?_,
    (View.read_writes_eq_canon _ _ _ (cover0_B_4 c i a2 h2 a3 h3 a4 h4 a5 h5 a6 h6 hc0 hc1 x0 x1 x2 xo)).trans ?_⟩
  all_goals
    unfold kernelRun0_B
    dsimp only
    sl_unfold_words
    rw [View.canon_unit_zero hz]
    simp only [View.readAt_eq_ld, h2.read_unread, h3.read_unread, h4.read_unread, h6.read_unread, View.ld_unit_zero (S := S512x1024) hz, View.ld_unit_zero (S := S1x1024) hz]
end Cases

section Block
variable (x d : FVec Ideal S512x1024 .f32) (g : FVec Ideal S1x1024 .f32) (u : Fin 512) (l : Fin 1024)

theorem pay2 : k0_pay2 (F := Ideal) x (ix2 u 0) = meanSq (fun l => x (ix2 u l)) := by
  pointwise [k0_pay2]
  rfl
theorem pay3 : k0_pay3 (F := Ideal) x (ix2 u 0) = scale (fun l => x (ix2 u l)) := by
  pointwise [k0_pay3]
  rw [pay2]
  rfl
theorem pay4 : k0_pay4 (F := Ideal) d x (ix2 0 l) = ∑ u : Fin 512, x (ix2 u l) * scale (fun l => x (ix2 u l)) * d (ix2 u l) := by
  pointwise [k0_pay4]
  simp only [pay3]
theorem pay1 (s a : FVec Ideal S1x1024 .f32) : k0_pay1 (F := Ideal) s a (ix2 0 l) = a (ix2 0 l) + s (ix2 0 l) := by
  pointwise [k0_pay1]
theorem pay5 : k0_pay5 (F := Ideal) d x g (ix2 u l) = back (fun l => x (ix2 u l)) (fun l => g (ix2 0 l)) (fun l => d (ix2 u l)) l := by
  pointwise [k0_pay5]
  simp only [pay3, pay2, Fin.sum_univ_one]
  rfl
end Block

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem lt_N (t : Fin cfg0.N) : t.val < 8 := lt_of_lt_of_eq t.isLt N_0

variable (m : (ℓ : Loc nD τ sig) → Buf (Elt Ideal) ℓ) (c : Dev nD)

abbrev X : FVec Ideal S4096x1024 .f32 := m (c, Proc.tc.devRef main_arg0)
abbrev G : FVec Ideal S1x1024 .f32 := m (c, Proc.tc.devRef main_arg1)
abbrev D : FVec Ideal S4096x1024 .f32 := m (c, Proc.tc.devRef main_arg2)

def row (t : Fin cfg0.N) (u : Fin 512) : Fin 4096 := ⟨512 * t.val + u.val, by have := lt_N t; omega⟩

theorem blk0 (t : Fin cfg0.N) (u : Fin 512) (l : Fin 1024) : (iblk m c 0 t : FVec Ideal S512x1024 .f32) (ix2 u l) = D m c (ix2 (row t u) l) := by
  unfold row
  blk_ext [iblk, V, idx0 t]
theorem blk1 (t : Fin cfg0.N) (u : Fin 512) (l : Fin 1024) : (iblk m c 1 t : FVec Ideal S512x1024 .f32) (ix2 u l) = X m c (ix2 (row t u) l) := by
  unfold row
  blk_ext [iblk, V, idx1 t]
theorem blk2 (t : Fin cfg0.N) (l : Fin 1024) : (iblk m c 2 t : FVec Ideal S1x1024 .f32) (ix2 0 l) = G m c (ix2 0 l) := by
  blk_ext [iblk, V, idx2 t]

/-- The gradient with respect to the MLP's result. -/
def total : FVec Ideal S4096x1024 .bf16 := fun i =>
  back (fun l => X m c (ix2 (i 0) l)) (fun l => G m c (ix2 0 l)) (fun l => D m c (ix2 (i 0) l)) (i 1)
/-- A row's part of the gradient of the norm's weight. -/
def part : FVec Ideal S4096x1024 .f32 := fun i => X m c i * scale (fun l => X m c (ix2 (i 0) l)) * D m c i

theorem total_at (t : Fin cfg0.N) (u : Fin 512) (l : Fin 1024) :
    k0_pay5 (F := Ideal) (iblk m c 0 t) (iblk m c 1 t) (iblk m c 2 t) (ix2 u l) = at2 (total m c) (512 * t.val + u.val) l.val := by
  rw [at2_of _ (show 512 * t.val + u.val < 4096 from (row t u).isLt) l.isLt, pay5]
  simp only [blk0, blk1, blk2]
  rfl
theorem part_at (t : Fin cfg0.N) (l : Fin 1024) :
    k0_pay4 (F := Ideal) (iblk m c 0 t) (iblk m c 1 t) (ix2 0 l) = ∑ e ∈ range 512, at2 (part m c) (512 * t.val + e) l.val := by
  rw [pay4, Finset.sum_range]
  refine Finset.sum_congr rfl fun u _ => ?_
  rw [at2_of _ (show 512 * t.val + u.val < 4096 from (row t u).isLt) l.isLt]
  simp only [blk0, blk1]
  rfl

theorem rows_at (t : Fin cfg0.N) (u : Fin 512) (l : Fin 1024) : (outsAt0 m c t.val t.isLt).1 (ix2 u l) = at2 (total m c) (512 * t.val + u.val) l.val := by
  have ht := lt_N t
  rcases Nat.eq_zero_or_pos t.val with h | h
  · rw [outsAt0_A m c t (by omega) (by omega)]
    dsimp only
    rw [(outs_A ..).1, total_at]
  · rw [outsAt0_B m c t (by omega) (by omega)]
    dsimp only
    rw [(outs_B ..).1, total_at]

theorem sum_at (n : ℕ) (h : n < cfg0.N) (l : Fin 1024) : (outsAt0 m c n h).2 (ix2 0 l) = ∑ e ∈ range (512 * (n % 8 + 1)), at2 (part m c) e l.val := by
  refine accumulated (by omega) (fun n h (l : Fin 1024) => (outsAt0 m c n h).2 (ix2 0 l)) (fun _ l e => at2 (part m c) e l.val) ?_ ?_ n h l
  · intro n h l h0
    have hn : n < 8 := lt_N ⟨n, h⟩
    have e := congrArg Prod.snd (outsAt0_A m c ⟨n, h⟩ h0 (by show ¬1 ≤ n; omega))
    dsimp only at e ⊢
    rw [e, (outs_A ..).2, part_at]
    simp only [show n = 0 by omega, mul_zero, zero_add]
  · intro n h l h0
    have hn : n < 8 := lt_N ⟨n, h⟩
    have e := congrArg Prod.snd (outsAt0_B m c ⟨n, h⟩ h0 (by show 1 ≤ n; omega))
    dsimp only at e ⊢
    rw [e, (outs_B ..).2, pay1, part_at]
    simp only [show n % 8 = n by omega]

theorem final3 : (dats m 0 c).arrAt 3 cfg0.N = (fun i => at2 (total m c) (i 0).val (i 1).val : FVec Ideal S4096x1024 .bf16) := by
  refine (dats m 0 c).arrAt_eq_of_covers 3 _ (by decide +kernel) fun t hf b => ?_
  have ht := lt_N t
  blk_simp [idx3 t]
  rw [after0_3]
  refine Eq.trans (congrArg _ (ix2_eta b)) ((rows_at m c t (b 0) (b 1)).trans ?_)
  congr 1 <;> omega
theorem final4 : (dats m 0 c).arrAt 4 cfg0.N = (fun i => ∑ e ∈ range 4096, at2 (part m c) e (i 1).val : FVec Ideal S1x1024 .f32) := by
  refine (dats m 0 c).arrAt_eq_of_covers 4 _ (by decide +kernel) fun t hf b => ?_
  have ht := lt_N t
  have hf := (flush0_4 t).mp hf
  blk_simp [idx4 t]
  rw [after0_4]
  refine Eq.trans (congrArg _ (ix2_eta1 b)) ((sum_at m c t.val t.isLt (b 1)).trans ?_)
  rw [hf]

end Cert.KernelFfnGradIdeal.Hand

namespace Cert.Proof

open Idealize.ShloMosaic Idealize.SL.Sem
open Cert.Blocked (at2 at2_ix)

theorem same_ffn_grad : Cert.algebraic_KernelFfnGradIdeal_ReferenceFfnGradIdeal (hKernelFfnGradIdeal := Cert.KernelFfnGradIdeal.Gen.facts)
    (hReferenceFfnGradIdeal := Cert.ReferenceFfnGradIdeal.Gen.facts) := by
  intro m g m' g' _ he
  refine ⟨fun c => (fun i => at2 (KernelFfnGradIdeal.Hand.total m c) (i 0).val (i 1).val : FVec Ideal KernelFfnGradIdeal.S4096x1024 .bf16),
    fun c => (fun i => ∑ e ∈ Finset.range 4096, at2 (KernelFfnGradIdeal.Hand.part m c) e (i 1).val : FVec Ideal KernelFfnGradIdeal.S1x1024 .f32), ?_, ?_⟩
  · exact (θ_run KernelFfnGradIdeal.defs _ _).mono (fun _ h c => ⟨(h c).1.trans (KernelFfnGradIdeal.Hand.final3 m c),
      (h c).2.1.trans (KernelFfnGradIdeal.Hand.final4 m c), (h c).2.2⟩)
      (KernelFfnGradIdeal.Value.run_blocks (F := Ideal) m g)
  · refine (θ_run ReferenceFfnGradIdeal.defs _ _).mono (fun _ h c => ⟨(h c).1.trans ?_, (h c).2.1.trans ?_, (h c).2.2⟩)
      (ReferenceFfnGradIdeal.Value.run (F := Ideal) m' g')
    all_goals obtain ⟨e0, e1, e2⟩ := he c; funext i
    · obtain ⟨r, l, rfl⟩ : ∃ (r : Fin 4096) (l : Fin 1024), i = ix2 r l := ⟨i 0, i 1, Blocked.ix2_eta i⟩
      simp only [e0, e1, e2]
      refine Eq.trans ?_ (at2_ix _ r l).symm
      pointwise
      simp only [Fin.sum_univ_one]
      rfl
    · obtain ⟨l, rfl⟩ : ∃ (l : Fin 1024), i = ix2 0 l := ⟨i 1, Blocked.ix2_eta1 i⟩
      simp only [e0, e1, e2]
      refine Eq.trans ?_ (Finset.sum_range fun e => at2 (KernelFfnGradIdeal.Hand.part m c) e l.val).symm
      simp only [at2_ix]
      pointwise
      rfl

-- the two programs have one text; that they are equal is checked by computation
set_option smartUnfolding false in
set_option maxHeartbeats 0 in
theorem frame_ffn_grad : Cert.quiescent_KernelFfnGrad (hKernelFfnGrad := Cert.KernelFfnGrad.Gen.facts) := fun m ρ _ =>
  (θ_run KernelFfnGradIdeal.defs _ _).mono (fun _ h => h) (KernelFfnGradIdeal.Gen.frame (F := Bits) m ρ)
theorem frame_ffn_grad_ideal : Cert.quiescent_KernelFfnGradIdeal (hKernelFfnGradIdeal := Cert.KernelFfnGradIdeal.Gen.facts) := fun m ρ _ =>
  KernelFfnGradIdeal.Gen.frame (F := Ideal) m ρ
theorem frame_ffn_grad_reference : Cert.quiescent_ReferenceFfnGradIdeal (hReferenceFfnGradIdeal := Cert.ReferenceFfnGradIdeal.Gen.facts) := fun m ρ _ =>
  (θ_run ReferenceFfnGradIdeal.defs _ _).mono (fun _ h => ⟨fun c => (h c).2.2, sem_eq_zero_of_no_sems (by decide) _⟩)
    (ReferenceFfnGradIdeal.Value.run (F := Ideal) m ρ)

end Cert.Proof

end
-- ==== Proof.Mid.lean ====
/- The forward call between the mixer and the MLP: a row of it, the value claim and the frames. -/
module

public import proofs.«01_k».proof.Defs
public import proofs.«01_k».proof.Proof.Blocked
public import proofs.«01_k».proof.Proof.Norm
public import proofs.«01_k».proof.Proof.Gen.KernelMid
public import proofs.«01_k».proof.Proof.Gen.KernelMidIdeal.Value
public import proofs.«01_k».proof.Proof.Gen.ReferenceMidIdeal.Run
public import Idealize.ShloMosaic.Lib.Pipeline.ValueKit
public import Idealize.ShloMosaic.Adequacy

@[expose] public section

set_option maxRecDepth 16384

noncomputable section

namespace Cert.KernelMidIdeal.Hand

open Cert.KernelMidIdeal Cert.KernelMidIdeal.Gen Cert.Blocked Cert.Norm
open Idealize.ShloMosaic Idealize.ShloMosaic.TcCoe Idealize.SL.Sem
open Finset (range)

section Block
variable (x y : FVec Ideal S512x1024 .f32) (g k : FVec Ideal S1x1024 .f32) (u : Fin 512) (l : Fin 1024)

theorem pay1 : k0_pay1 (F := Ideal) x y g (ix2 u l) = x (ix2 u l) + y (ix2 u l) * scale (fun l => y (ix2 u l)) * g (ix2 0 l) := by
  pointwise [k0_pay1]
  rfl
theorem pay2 : k0_pay2 (F := Ideal) x y g k (ix2 u l)
    = k0_pay1 (F := Ideal) x y g (ix2 u l) * scale (fun l => k0_pay1 (F := Ideal) x y g (ix2 u l)) * k (ix2 0 l) := by
  pointwise [k0_pay1, k0_pay2]
  rfl
theorem out : out0_4 (F := Ideal) x y g k = k0_pay1 (F := Ideal) x y g ∧ out0_5 (F := Ideal) x y g k = k0_pay2 (F := Ideal) x y g k := by
  unfold out0_4 out0_5
  constructor
  all_goals
    rw [View.canon_unit_zero hz]
    simp only [View.ld_unit_zero (S := S512x1024) hz, View.ld_unit_zero (S := S1x1024) hz]
end Block

theorem index : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] :=
  (by decide +kernel : ∀ t : Fin grid0.N, _)
theorem lt_N (t : Fin cfg0.N) : t.val < 8 := lt_of_lt_of_eq t.isLt N_0

variable (m : (ℓ : Loc nD τ sig) → Buf (Elt Ideal) ℓ) (c : Dev nD)

abbrev X : FVec Ideal S4096x1024 .f32 := m (c, Proc.tc.devRef main_arg0)
abbrev Y : FVec Ideal S4096x1024 .f32 := m (c, Proc.tc.devRef main_arg1)
abbrev G : FVec Ideal S1x1024 .f32 := m (c, Proc.tc.devRef main_arg2)
abbrev K : FVec Ideal S1x1024 .f32 := m (c, Proc.tc.devRef main_arg3)

/-- The rows between the two norms, and the rows the MLP gets. -/
def H (r : Fin 4096) (l : Fin 1024) : EReal := X m c (ix2 r l) + Y m c (ix2 r l) * scale (fun l => Y m c (ix2 r l)) * G m c (ix2 0 l)
def total4 : FVec Ideal S4096x1024 .f32 := fun i => H m c (i 0) (i 1)
def total5 : FVec Ideal S4096x1024 .bf16 := fun i => H m c (i 0) (i 1) * scale (H m c (i 0)) * K m c (ix2 0 (i 1))

def row (t : Fin cfg0.N) (u : Fin 512) : Fin 4096 := ⟨512 * t.val + u.val, by have := lt_N t; omega⟩

theorem blk (t : Fin cfg0.N) (u : Fin 512) (l : Fin 1024) : (iblk m c 0 t : FVec Ideal S512x1024 .f32) (ix2 u l) = X m c (ix2 (row t u) l)
    ∧ (iblk m c 1 t : FVec Ideal S512x1024 .f32) (ix2 u l) = Y m c (ix2 (row t u) l) := by
  obtain ⟨i0, i1, -⟩ := index t
  unfold row
  constructor
  · blk_ext [iblk, V, i0]
  · blk_ext [iblk, V, i1]
theorem weights (t : Fin cfg0.N) (l : Fin 1024) : (iblk m c 2 t : FVec Ideal S1x1024 .f32) (ix2 0 l) = G m c (ix2 0 l) ∧ (iblk m c 3 t : FVec Ideal S1x1024 .f32) (ix2 0 l) = K m c (ix2 0 l) := by
  obtain ⟨-, -, i2, i3, -⟩ := index t
  constructor
  · blk_ext [iblk, V, i2]
  · blk_ext [iblk, V, i3]

theorem between (t : Fin cfg0.N) (u : Fin 512) (l : Fin 1024) :
    k0_pay1 (F := Ideal) (iblk m c 0 t) (iblk m c 1 t) (iblk m c 2 t) (ix2 u l) = H m c (row t u) l := by
  rw [pay1]
  simp only [blk, weights]
  rfl

theorem rows_at (t : Fin cfg0.N) (u : Fin 512) (l : Fin 1024) :
    out0_4 (F := Ideal) (iblk m c 0 t) (iblk m c 1 t) (iblk m c 2 t) (iblk m c 3 t) (ix2 u l) = at2 (total4 m c) (512 * t.val + u.val) l.val
    ∧ out0_5 (F := Ideal) (iblk m c 0 t) (iblk m c 1 t) (iblk m c 2 t) (iblk m c 3 t) (ix2 u l) = at2 (total5 m c) (512 * t.val + u.val) l.val := by
  have h : 512 * t.val + u.val < 4096 := (row t u).isLt
  rw [(out ..).1, (out ..).2, at2_of _ h l.isLt, at2_of _ h l.isLt, pay2]
  simp only [between, weights]
  exact ⟨rfl, rfl⟩

theorem final : (dats m 0 c).arrAt 4 cfg0.N = (fun i => at2 (total4 m c) (i 0).val (i 1).val : FVec Ideal S4096x1024 .f32)
    ∧ (dats m 0 c).arrAt 5 cfg0.N = (fun i => at2 (total5 m c) (i 0).val (i 1).val : FVec Ideal S4096x1024 .bf16) := by
  refine ⟨(dats m 0 c).arrAt_eq_of_covers 4 _ (by decide +kernel) fun t _ b => ?_, (dats m 0 c).arrAt_eq_of_covers 5 _ (by decide +kernel) fun t _ b => ?_⟩
  all_goals
    have ht := lt_N t
    obtain ⟨-, -, -, -, i4, i5⟩ := index t
    blk_simp [i4, i5]
  · rw [after0_4]
    exact (congrArg _ (Blocked.ix2_eta b)).trans ((rows_at m c t (b 0) (b 1)).1.trans (by congr 1 <;> omega))
  · rw [after0_5]
    exact (congrArg _ (Blocked.ix2_eta b)).trans ((rows_at m c t (b 0) (b 1)).2.trans (by congr 1 <;> omega))

end Cert.KernelMidIdeal.Hand

namespace Cert.Proof

open Idealize.ShloMosaic Idealize.SL.Sem
open Cert.Blocked (at2 at2_ix)

theorem same_mid : Cert.algebraic_KernelMidIdeal_ReferenceMidIdeal (hKernelMidIdeal := Cert.KernelMidIdeal.Gen.facts)
    (hReferenceMidIdeal := Cert.ReferenceMidIdeal.Gen.facts) := by
  intro m g m' g' _ he
  refine ⟨fun c => _, fun c => _, (θ_run KernelMidIdeal.defs _ _).mono (fun _ h c =>
    have f := KernelMidIdeal.Hand.final m c
    ⟨(h c).1.trans f.1, (h c).2.1.trans f.2, (h c).2.2⟩)
    (KernelMidIdeal.Value.run_blocks (F := Ideal) m g), ?_⟩
  refine (θ_run ReferenceMidIdeal.defs _ _).mono (fun _ h c => ⟨(h c).1.trans ?_, (h c).2.1.trans ?_, (h c).2.2⟩)
    (ReferenceMidIdeal.Value.run (F := Ideal) m' g')
  · obtain ⟨e0, e1, e2, e3⟩ := he c
    funext i
    obtain ⟨r, l, rfl⟩ : ∃ (r : Fin 4096) (l : Fin 1024), i = ix2 r l := ⟨i 0, i 1, Blocked.ix2_eta i⟩
    refine Eq.trans ?_ (at2_ix (KernelMidIdeal.Hand.total4 m c) r l).symm
    simp only [e0, e1, e2, e3]
    pointwise
    rfl
  · obtain ⟨e0, e1, e2, e3⟩ := he c
    funext i
    obtain ⟨r, l, rfl⟩ : ∃ (r : Fin 4096) (l : Fin 1024), i = ix2 r l := ⟨i 0, i 1, Blocked.ix2_eta i⟩
    refine Eq.trans ?_ (at2_ix (KernelMidIdeal.Hand.total5 m c) r l).symm
    simp only [e0, e1, e2, e3]
    pointwise
    rfl

-- the two programs have one text; that they are equal is checked by computation
set_option smartUnfolding false in
set_option maxHeartbeats 0 in
theorem frame_mid : Cert.quiescent_KernelMid (hKernelMid := Cert.KernelMid.Gen.facts) := fun m ρ _ =>
  (θ_run KernelMidIdeal.defs _ _).mono (fun _ h => h) (KernelMidIdeal.Gen.frame (F := Bits) m ρ)
theorem frame_mid_ideal : Cert.quiescent_KernelMidIdeal (hKernelMidIdeal := Cert.KernelMidIdeal.Gen.facts) := fun m ρ _ =>
  KernelMidIdeal.Gen.frame (F := Ideal) m ρ
theorem frame_mid_reference : Cert.quiescent_ReferenceMidIdeal (hReferenceMidIdeal := Cert.ReferenceMidIdeal.Gen.facts) := fun m ρ _ =>
  (θ_run ReferenceMidIdeal.defs _ _).mono (fun _ h => ⟨fun c => (h c).2.2, sem_eq_zero_of_no_sems (by decide) _⟩)
    (ReferenceMidIdeal.Value.run (F := Ideal) m ρ)

end Cert.Proof

end
-- ==== Proof.Pre.lean ====
/- The forward pass of the first norm: a row of it, the value claim and the frames. -/
module

public import proofs.«01_k».proof.Defs
public import proofs.«01_k».proof.Proof.Blocked
public import proofs.«01_k».proof.Proof.Norm
public import proofs.«01_k».proof.Proof.Gen.KernelPre
public import proofs.«01_k».proof.Proof.Gen.KernelPreIdeal.Value
public import proofs.«01_k».proof.Proof.Gen.ReferencePreIdeal.Run
public import Idealize.ShloMosaic.Lib.Pipeline.ValueKit
public import Idealize.ShloMosaic.Adequacy

@[expose] public section

set_option maxRecDepth 16384

noncomputable section

namespace Cert.KernelPreIdeal.Hand

open Cert.KernelPreIdeal Cert.KernelPreIdeal.Gen Cert.Blocked Cert.Norm
open Idealize.ShloMosaic Idealize.ShloMosaic.TcCoe Idealize.SL.Sem
open Finset (range)

section Block
variable (x : FVec Ideal S512x1024 .f32) (g : FVec Ideal S1x1024 .f32) (u : Fin 512) (l : Fin 1024)

theorem out : out0_2 (F := Ideal) x g (ix2 u l) = x (ix2 u l) * scale (fun l => x (ix2 u l)) * g (ix2 0 l) := by
  unfold out0_2
  rw [View.canon_unit_zero hz]
  simp only [View.ld_unit_zero (S := S512x1024) hz, View.ld_unit_zero (S := S1x1024) hz]
  pointwise [k0_pay1]
  rfl
end Block

theorem index : ∀ t : Fin cfg0.N, win0_0.index t = ![t.val, 0] ∧ win0_1.index t = ![0, 0] ∧ win0_2.index t = ![t.val, 0] :=
  (by decide +kernel : ∀ t : Fin grid0.N, _)
theorem lt_N (t : Fin cfg0.N) : t.val < 8 := lt_of_lt_of_eq t.isLt N_0

variable (m : (ℓ : Loc nD τ sig) → Buf (Elt Ideal) ℓ) (c : Dev nD)

abbrev X : FVec Ideal S4096x1024 .f32 := m (c, Proc.tc.devRef main_arg0)
abbrev G : FVec Ideal S1x1024 .f32 := m (c, Proc.tc.devRef main_arg1)

/-- The normed rows. -/
def total : FVec Ideal S4096x1024 .bf16 := fun i => X m c i * scale (fun l => X m c (ix2 (i 0) l)) * G m c (ix2 0 (i 1))

def row (t : Fin cfg0.N) (u : Fin 512) : Fin 4096 := ⟨512 * t.val + u.val, by have := lt_N t; omega⟩

theorem blk0 (t : Fin cfg0.N) (u : Fin 512) (l : Fin 1024) : (iblk m c 0 t : FVec Ideal S512x1024 .f32) (ix2 u l) = X m c (ix2 (row t u) l) := by
  have i0 := (index t).1
  unfold row
  blk_ext [iblk, V, i0]
theorem blk1 (t : Fin cfg0.N) (l : Fin 1024) : (iblk m c 1 t : FVec Ideal S1x1024 .f32) (ix2 0 l) = G m c (ix2 0 l) := by
  have i1 := (index t).2.1
  blk_ext [iblk, V, i1]

theorem rows_at (t : Fin cfg0.N) (u : Fin 512) (l : Fin 1024) :
    out0_2 (F := Ideal) (iblk m c 0 t) (iblk m c 1 t) (ix2 u l) = at2 (total m c) (512 * t.val + u.val) l.val := by
  rw [at2_of _ (show 512 * t.val + u.val < 4096 from (row t u).isLt) l.isLt, out]
  simp only [blk0, blk1]
  rfl

theorem final : (dats m 0 c).arrAt 2 cfg0.N = (fun i => at2 (total m c) (i 0).val (i 1).val : FVec Ideal S4096x1024 .bf16) := by
  refine (dats m 0 c).arrAt_eq_of_covers 2 _ (by decide +kernel) fun t _ b => ?_
  have ht := lt_N t
  have i2 := (index t).2.2
  blk_simp [i2]
  rw [after0_2]
  exact (congrArg _ (Blocked.ix2_eta b)).trans ((rows_at m c t (b 0) (b 1)).trans (by congr 1 <;> omega))

end Cert.KernelPreIdeal.Hand

namespace Cert.Proof

open Idealize.ShloMosaic Idealize.SL.Sem
open Cert.Blocked (at2 at2_ix)

theorem same_pre : Cert.algebraic_KernelPreIdeal_ReferencePreIdeal (hKernelPreIdeal := Cert.KernelPreIdeal.Gen.facts)
    (hReferencePreIdeal := Cert.ReferencePreIdeal.Gen.facts) := by
  intro m g m' g' _ he
  refine ⟨fun c => _, (θ_run KernelPreIdeal.defs _ _).mono (fun _ h c => ⟨(h c).1.trans (KernelPreIdeal.Hand.final m c), (h c).2⟩)
    (KernelPreIdeal.Value.run_blocks (F := Ideal) m g), ?_⟩
  refine (θ_run ReferencePreIdeal.defs _ _).mono (fun _ h c => ⟨(h c).1.trans ?_, (h c).2⟩) (ReferencePreIdeal.Value.run (F := Ideal) m' g')
  obtain ⟨e0, e1⟩ := he c
  funext i
  obtain ⟨r, l, rfl⟩ : ∃ (r : Fin 4096) (l : Fin 1024), i = ix2 r l := ⟨i 0, i 1, Blocked.ix2_eta i⟩
  refine Eq.trans ?_ (at2_ix (KernelPreIdeal.Hand.total m c) r l).symm
  simp only [e0, e1]
  pointwise
  rfl

-- the two programs have one text; that they are equal is checked by computation
set_option smartUnfolding false in
set_option maxHeartbeats 0 in
theorem frame_pre : Cert.quiescent_KernelPre (hKernelPre := Cert.KernelPre.Gen.facts) := fun m ρ _ =>
  (θ_run KernelPreIdeal.defs _ _).mono (fun _ h => h) (KernelPreIdeal.Gen.frame (F := Bits) m ρ)
theorem frame_pre_ideal : Cert.quiescent_KernelPreIdeal (hKernelPreIdeal := Cert.KernelPreIdeal.Gen.facts) := fun m ρ _ =>
  KernelPreIdeal.Gen.frame (F := Ideal) m ρ
theorem frame_pre_reference : Cert.quiescent_ReferencePreIdeal (hReferencePreIdeal := Cert.ReferencePreIdeal.Gen.facts) := fun m ρ _ =>
  (θ_run ReferencePreIdeal.defs _ _).mono (fun _ h => ⟨fun c => (h c).2, sem_eq_zero_of_no_sems (by decide) _⟩)
    (ReferencePreIdeal.Value.run (F := Ideal) m ρ)

end Cert.Proof

end
-- ==== Proof.Merge.lean ====
/- The gated sum of the two branches: an entry of it, the value claim and the frames. -/
module

public import proofs.«01_k».proof.Defs
public import proofs.«01_k».proof.Proof.Blocked
public import proofs.«01_k».proof.Proof.Gates
public import proofs.«01_k».proof.Proof.Gen.KernelMerge
public import proofs.«01_k».proof.Proof.Gen.KernelMergeIdeal.Value
public import proofs.«01_k».proof.Proof.Gen.ReferenceMergeIdeal.Run
public import Idealize.ShloMosaic.Lib.Pipeline.ValueKit
public import Idealize.ShloMosaic.Adequacy

@[expose] public section

set_option maxRecDepth 16384

noncomputable section

namespace Cert.KernelMergeIdeal.Hand

open Cert.KernelMergeIdeal Cert.KernelMergeIdeal.Gen Cert.Blocked Cert.Gates
open Idealize.ShloMosaic Idealize.ShloMosaic.TcCoe Idealize.SL.Sem
open Finset (range)

section Block
variable (a1 a2 p1 p2 : FVec Ideal S512x1024 .f32) (b1 b2 : FVec Ideal S1x1024 .f32) (u : Fin 512) (l : Fin 1024)

theorem out : out0_6 (F := Ideal) a1 a2 p1 p2 b1 b2 (ix2 u l) = gate (p1 (ix2 u l) + b1 (ix2 0 l)) * a1 (ix2 u l) + gate (p2 (ix2 u l) + b2 (ix2 0 l)) * a2 (ix2 u l) := by
  unfold out0_6
  rw [View.canon_unit_zero hz]
  simp only [View.ld_unit_zero (S := S512x1024) hz, View.ld_unit_zero (S := S1x1024) hz]
  pointwise [k0_pay1]
  simp only [tanh_gate]
end Block

theorem index : ∀ t : Fin cfg0.N, win0_0.index t = ![t.val, 0] ∧ win0_1.index t = ![t.val, 0] ∧ win0_2.index t = ![t.val, 0] ∧ win0_3.index t = ![t.val, 1] ∧ win0_4.index t = ![0, 0] ∧ win0_5.index t = ![0, 1] ∧ win0_6.index t = ![t.val, 0] :=
  (by decide +kernel : ∀ t : Fin grid0.N, _)
theorem lt_N (t : Fin cfg0.N) : t.val < 8 := lt_of_lt_of_eq t.isLt N_0

variable (m : (ℓ : Loc nD τ sig) → Buf (Elt Ideal) ℓ) (c : Dev nD)

abbrev A1 : FVec Ideal S4096x1024 .f32 := m (c, Proc.tc.devRef main_arg0)
abbrev A2 : FVec Ideal S4096x1024 .f32 := m (c, Proc.tc.devRef main_arg1)
abbrev P : FVec Ideal S4096x2048 .f32 := m (c, Proc.tc.devRef main_arg2)
abbrev B : FVec Ideal S1x2048 .f32 := m (c, Proc.tc.devRef main_arg3)

/-- The gate of row `r` and column `j`, and the gated sum. -/
def s (r : Fin 4096) (j : Fin 2048) : EReal := gate (P m c (ix2 r j) + B m c (ix2 0 j))
def total : FVec Ideal S4096x1024 .bf16 := fun i =>
  s m c (i 0) ⟨(i 1).val, by have h : (i 1).val < 1024 := (i 1).isLt; omega⟩ * A1 m c i
    + s m c (i 0) ⟨1024 + (i 1).val, by have h : (i 1).val < 1024 := (i 1).isLt; omega⟩ * A2 m c i

def row (t : Fin cfg0.N) (u : Fin 512) : Fin 4096 := ⟨512 * t.val + u.val, by have := lt_N t; omega⟩

theorem branches (t : Fin cfg0.N) (u : Fin 512) (l : Fin 1024) : (iblk m c 0 t : FVec Ideal S512x1024 .f32) (ix2 u l) = A1 m c (ix2 (row t u) l)
    ∧ (iblk m c 1 t : FVec Ideal S512x1024 .f32) (ix2 u l) = A2 m c (ix2 (row t u) l) := by
  obtain ⟨i0, i1, -⟩ := index t
  unfold row
  constructor
  · blk_ext [iblk, V, i0]
  · blk_ext [iblk, V, i1]
theorem product (t : Fin cfg0.N) (u : Fin 512) (l : Fin 1024) :
    (iblk m c 2 t : FVec Ideal S512x1024 .f32) (ix2 u l) = P m c (ix2 (row t u) ⟨l.val, by omega⟩)
    ∧ (iblk m c 3 t : FVec Ideal S512x1024 .f32) (ix2 u l) = P m c (ix2 (row t u) ⟨1024 + l.val, by omega⟩) := by
  obtain ⟨-, -, i2, i3, -⟩ := index t
  unfold row
  constructor
  · blk_ext [iblk, V, i2]
  · blk_ext [iblk, V, i3]
theorem bias (t : Fin cfg0.N) (l : Fin 1024) : (iblk m c 4 t : FVec Ideal S1x1024 .f32) (ix2 0 l) = B m c (ix2 0 ⟨l.val, by omega⟩)
    ∧ (iblk m c 5 t : FVec Ideal S1x1024 .f32) (ix2 0 l) = B m c (ix2 0 ⟨1024 + l.val, by omega⟩) := by
  obtain ⟨-, -, -, -, i4, i5, -⟩ := index t
  constructor
  · blk_ext [iblk, V, i4]
  · blk_ext [iblk, V, i5]

theorem rows_at (t : Fin cfg0.N) (u : Fin 512) (l : Fin 1024) :
    out0_6 (F := Ideal) (iblk m c 0 t) (iblk m c 1 t) (iblk m c 2 t) (iblk m c 3 t) (iblk m c 4 t) (iblk m c 5 t) (ix2 u l)
      = at2 (total m c) (512 * t.val + u.val) l.val := by
  rw [at2_of _ (show 512 * t.val + u.val < 4096 from (row t u).isLt) l.isLt, out]
  simp only [branches, product, bias]
  rfl

theorem final : (dats m 0 c).arrAt 6 cfg0.N = (fun i => at2 (total m c) (i 0).val (i 1).val : FVec Ideal S4096x1024 .bf16) := by
  refine (dats m 0 c).arrAt_eq_of_covers 6 _ (by decide +kernel) fun t _ b => ?_
  have ht := lt_N t
  have i6 := (index t).2.2.2.2.2.2
  blk_simp [i6]
  rw [after0_6]
  exact (congrArg _ (Blocked.ix2_eta b)).trans ((rows_at m c t (b 0) (b 1)).trans (by congr 1 <;> omega))

end Cert.KernelMergeIdeal.Hand

namespace Cert.Proof

open Idealize.ShloMosaic Idealize.SL.Sem
open Cert.Blocked (at2 at2_ix)

theorem same_merge : Cert.algebraic_KernelMergeIdeal_ReferenceMergeIdeal (hKernelMergeIdeal := Cert.KernelMergeIdeal.Gen.facts)
    (hReferenceMergeIdeal := Cert.ReferenceMergeIdeal.Gen.facts) := by
  intro m g m' g' _ he
  refine ⟨fun c => _, (θ_run KernelMergeIdeal.defs _ _).mono (fun _ h c => ⟨(h c).1.trans (KernelMergeIdeal.Hand.final m c), (h c).2⟩)
    (KernelMergeIdeal.Value.run_blocks (F := Ideal) m g), ?_⟩
  refine (θ_run ReferenceMergeIdeal.defs _ _).mono (fun _ h c => ⟨(h c).1.trans ?_, (h c).2⟩) (ReferenceMergeIdeal.Value.run (F := Ideal) m' g')
  obtain ⟨e0, e1, e2, e3⟩ := he c
  funext i
  obtain ⟨r, l, rfl⟩ : ∃ (r : Fin 4096) (l : Fin 1024), i = ix2 r l := ⟨i 0, i 1, Blocked.ix2_eta i⟩
  refine Eq.trans ?_ (at2_ix (KernelMergeIdeal.Hand.total m c) r l).symm
  simp only [e0, e1, e2, e3]
  pointwise
  rfl

-- the two programs have one text; that they are equal is checked by computation
set_option smartUnfolding false in
set_option maxHeartbeats 0 in
theorem frame_merge : Cert.quiescent_KernelMerge (hKernelMerge := Cert.KernelMerge.Gen.facts) := fun m ρ _ =>
  (θ_run KernelMergeIdeal.defs _ _).mono (fun _ h => h) (KernelMergeIdeal.Gen.frame (F := Bits) m ρ)
theorem frame_merge_ideal : Cert.quiescent_KernelMergeIdeal (hKernelMergeIdeal := Cert.KernelMergeIdeal.Gen.facts) := fun m ρ _ =>
  KernelMergeIdeal.Gen.frame (F := Ideal) m ρ
theorem frame_merge_reference : Cert.quiescent_ReferenceMergeIdeal (hReferenceMergeIdeal := Cert.ReferenceMergeIdeal.Gen.facts) := fun m ρ _ =>
  (θ_run ReferenceMergeIdeal.defs _ _).mono (fun _ h => ⟨fun c => (h c).2, sem_eq_zero_of_no_sems (by decide) _⟩)
    (ReferenceMergeIdeal.Value.run (F := Ideal) m ρ)

end Cert.Proof

end
-- ==== Proof.Ffn.lean ====
/- The norm after the MLP, added to the rows before it: a row of it, the value claim and the frames. -/
module

public import proofs.«01_k».proof.Defs
public import proofs.«01_k».proof.Proof.Blocked
public import proofs.«01_k».proof.Proof.Norm
public import proofs.«01_k».proof.Proof.Gen.KernelFfn
public import proofs.«01_k».proof.Proof.Gen.KernelFfnIdeal.Value
public import proofs.«01_k».proof.Proof.Gen.ReferenceFfnIdeal.Run
public import Idealize.ShloMosaic.Lib.Pipeline.ValueKit
public import Idealize.ShloMosaic.Adequacy

@[expose] public section

set_option maxRecDepth 16384

noncomputable section

namespace Cert.KernelFfnIdeal.Hand

open Cert.KernelFfnIdeal Cert.KernelFfnIdeal.Gen Cert.Blocked Cert.Norm
open Idealize.ShloMosaic Idealize.ShloMosaic.TcCoe Idealize.SL.Sem
open Finset (range)

section Block
variable (x y : FVec Ideal S512x1024 .f32) (g : FVec Ideal S1x1024 .f32) (u : Fin 512) (l : Fin 1024)

theorem out : out0_3 (F := Ideal) x y g (ix2 u l) = x (ix2 u l) + y (ix2 u l) * scale (fun l => y (ix2 u l)) * g (ix2 0 l)
    ∧ out0_4 (F := Ideal) x y g (ix2 u l) = x (ix2 u l) + y (ix2 u l) * scale (fun l => y (ix2 u l)) * g (ix2 0 l) := by
  unfold out0_3 out0_4
  constructor
  all_goals
    rw [View.canon_unit_zero hz]
    simp only [View.ld_unit_zero (S := S512x1024) hz, View.ld_unit_zero (S := S1x1024) hz]
    pointwise [k0_pay1, k0_pay2]
    rfl
end Block

theorem index : ∀ t : Fin cfg0.N, win0_0.index t = ![t.val, 0] ∧ win0_1.index t = ![t.val, 0] ∧ win0_2.index t = ![0, 0] ∧ win0_3.index t = ![t.val, 0] ∧ win0_4.index t = ![t.val, 0] :=
  (by decide +kernel : ∀ t : Fin grid0.N, _)
theorem lt_N (t : Fin cfg0.N) : t.val < 8 := lt_of_lt_of_eq t.isLt N_0

variable (m : (ℓ : Loc nD τ sig) → Buf (Elt Ideal) ℓ) (c : Dev nD)

abbrev X : FVec Ideal S4096x1024 .f32 := m (c, Proc.tc.devRef main_arg0)
abbrev Y : FVec Ideal S4096x1024 .f32 := m (c, Proc.tc.devRef main_arg1)
abbrev G : FVec Ideal S1x1024 .f32 := m (c, Proc.tc.devRef main_arg2)

/-- The sum, which the call gives in both types. -/
def total : FVec Ideal S4096x1024 .f32 := fun i => X m c i + Y m c i * scale (fun l => Y m c (ix2 (i 0) l)) * G m c (ix2 0 (i 1))

def row (t : Fin cfg0.N) (u : Fin 512) : Fin 4096 := ⟨512 * t.val + u.val, by have := lt_N t; omega⟩

theorem blk (t : Fin cfg0.N) (u : Fin 512) (l : Fin 1024) : (iblk m c 0 t : FVec Ideal S512x1024 .f32) (ix2 u l) = X m c (ix2 (row t u) l)
    ∧ (iblk m c 1 t : FVec Ideal S512x1024 .f32) (ix2 u l) = Y m c (ix2 (row t u) l) := by
  obtain ⟨i0, i1, -⟩ := index t
  unfold row
  constructor
  · blk_ext [iblk, V, i0]
  · blk_ext [iblk, V, i1]
theorem weight (t : Fin cfg0.N) (l : Fin 1024) : (iblk m c 2 t : FVec Ideal S1x1024 .f32) (ix2 0 l) = G m c (ix2 0 l) := by
  obtain ⟨-, -, i2, -⟩ := index t
  blk_ext [iblk, V, i2]

theorem rows_at (t : Fin cfg0.N) (u : Fin 512) (l : Fin 1024) :
    out0_3 (F := Ideal) (iblk m c 0 t) (iblk m c 1 t) (iblk m c 2 t) (ix2 u l) = at2 (total m c) (512 * t.val + u.val) l.val
    ∧ out0_4 (F := Ideal) (iblk m c 0 t) (iblk m c 1 t) (iblk m c 2 t) (ix2 u l) = at2 (total m c) (512 * t.val + u.val) l.val := by
  have h : 512 * t.val + u.val < 4096 := (row t u).isLt
  rw [(out ..).1, (out ..).2, at2_of _ h l.isLt]
  simp only [blk, weight]
  exact ⟨rfl, rfl⟩

theorem final : (dats m 0 c).arrAt 3 cfg0.N = (fun i => at2 (total m c) (i 0).val (i 1).val : FVec Ideal S4096x1024 .f32)
    ∧ (dats m 0 c).arrAt 4 cfg0.N = (fun i => at2 (total m c) (i 0).val (i 1).val : FVec Ideal S4096x1024 .bf16) := by
  refine ⟨(dats m 0 c).arrAt_eq_of_covers 3 _ (by decide +kernel) fun t _ b => ?_, (dats m 0 c).arrAt_eq_of_covers 4 _ (by decide +kernel) fun t _ b => ?_⟩
  all_goals
    have ht := lt_N t
    obtain ⟨-, -, -, i3, i4⟩ := index t
    blk_simp [i3, i4]
  · rw [after0_3]
    exact (congrArg _ (Blocked.ix2_eta b)).trans ((rows_at m c t (b 0) (b 1)).1.trans (by congr 1 <;> omega))
  · rw [after0_4]
    exact (congrArg _ (Blocked.ix2_eta b)).trans ((rows_at m c t (b 0) (b 1)).2.trans (by congr 1 <;> omega))

end Cert.KernelFfnIdeal.Hand

namespace Cert.Proof

open Idealize.ShloMosaic Idealize.SL.Sem
open Cert.Blocked (at2 at2_ix)

theorem same_ffn : Cert.algebraic_KernelFfnIdeal_ReferenceFfnIdeal (hKernelFfnIdeal := Cert.KernelFfnIdeal.Gen.facts)
    (hReferenceFfnIdeal := Cert.ReferenceFfnIdeal.Gen.facts) := by
  intro m g m' g' _ he
  refine ⟨fun c => _, fun c => _, (θ_run KernelFfnIdeal.defs _ _).mono (fun _ h c =>
    have f := KernelFfnIdeal.Hand.final m c
    ⟨(h c).1.trans f.1, (h c).2.1.trans f.2, (h c).2.2⟩)
    (KernelFfnIdeal.Value.run_blocks (F := Ideal) m g), ?_⟩
  refine (θ_run ReferenceFfnIdeal.defs _ _).mono (fun _ h c => ⟨(h c).1.trans ?_, (h c).2.1.trans ?_, (h c).2.2⟩)
    (ReferenceFfnIdeal.Value.run (F := Ideal) m' g')
  all_goals
    obtain ⟨e0, e1, e2⟩ := he c
    funext i
    obtain ⟨r, l, rfl⟩ : ∃ (r : Fin 4096) (l : Fin 1024), i = ix2 r l := ⟨i 0, i 1, Blocked.ix2_eta i⟩
    refine Eq.trans ?_ (at2_ix (KernelFfnIdeal.Hand.total m c) r l).symm
    simp only [e0, e1, e2]
    pointwise
    rfl

-- the two programs have one text; that they are equal is checked by computation
set_option smartUnfolding false in
set_option maxHeartbeats 0 in
theorem frame_ffn : Cert.quiescent_KernelFfn (hKernelFfn := Cert.KernelFfn.Gen.facts) := fun m ρ _ =>
  (θ_run KernelFfnIdeal.defs _ _).mono (fun _ h => h) (KernelFfnIdeal.Gen.frame (F := Bits) m ρ)
theorem frame_ffn_ideal : Cert.quiescent_KernelFfnIdeal (hKernelFfnIdeal := Cert.KernelFfnIdeal.Gen.facts) := fun m ρ _ =>
  KernelFfnIdeal.Gen.frame (F := Ideal) m ρ
theorem frame_ffn_reference : Cert.quiescent_ReferenceFfnIdeal (hReferenceFfnIdeal := Cert.ReferenceFfnIdeal.Gen.facts) := fun m ρ _ =>
  (θ_run ReferenceFfnIdeal.defs _ _).mono (fun _ h => ⟨fun c => (h c).2.2, sem_eq_zero_of_no_sems (by decide) _⟩)
    (ReferenceFfnIdeal.Value.run (F := Ideal) m ρ)

end Cert.Proof

end
-- ==== Proof.AdamIn.lean ====
/- AdamW on w_in, applied: a device's columns, padded to 1280, in eight blocks of rows. -/
module

public import proofs.«01_k».proof.Proof.Adam
public import proofs.«01_k».proof.Proof.Gen.KernelAdamIn
public import proofs.«01_k».proof.Proof.Gen.KernelAdamInIdeal.Value
public import proofs.«01_k».proof.Proof.Gen.ReferenceAdamInIdeal.Run

@[expose] public section

set_option maxRecDepth 16384

noncomputable section

namespace Cert.KernelAdamInIdeal.Hand

open Cert.KernelAdamInIdeal Cert.KernelAdamInIdeal.Gen Cert.Blocked Cert.Adam
open Idealize.ShloMosaic Idealize.ShloMosaic.TcCoe Idealize.SL.Sem

section Block
variable (x0 : FVec Ideal S4x128x1280 .bf16) (x1 x2 x3 : FVec Ideal S128x1280 .f32) (u : Fin 128) (l : Fin 1280)

theorem grad : k0_pay2 (F := Ideal) (View.ld (Val := Elt Ideal) x0 r0_0) (View.ld (Val := Elt Ideal) x0 r0_1) (View.ld (Val := Elt Ideal) x0 r0_2)
    (View.ld (Val := Elt Ideal) x0 r0_3) (ix2 u l) = total x0 u l := by
  unfold total
  rw [Fin.sum_univ_four]
  pointwise [k0_pay2]

theorem out : Step (out0_4 (F := Ideal) x0 x1 x2 x3) (out0_5 (F := Ideal) x0 x1 x2 x3) (out0_6 (F := Ideal) x0 x1 x2 x3) (out0_7 (F := Ideal) x0 x1 x2 x3)
    x0 x1 x2 x3 u l := by
  refine Step.of (grad x0 u l) (by unfold out0_4; rw [View.canon_unit_zero hz]) ?_ ?_ ?_
  all_goals
    first | unfold out0_5 | unfold out0_6 | unfold out0_7
    rw [View.canon_unit_zero hz]
    simp only [View.ld_unit_zero (S := S128x1280) hz]
    rfl
end Block

theorem index : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

abbrev X : FVec Ideal S4x1024x1280 .bf16 := m (c, Proc.tc.devRef main_arg0)
abbrev W : FVec Ideal S1024x1280 .f32 := m (c, Proc.tc.devRef main_arg1)
abbrev A : FVec Ideal S1024x1280 .f32 := m (c, Proc.tc.devRef main_arg2)
abbrev B : FVec Ideal S1024x1280 .f32 := m (c, Proc.tc.devRef main_arg3)

def row (t : Fin cfg0.N) (u : Fin 128) : Fin 1024 := ⟨128 * t.val + u.val, by have := lt_of_lt_of_eq t.isLt N_0; omega⟩

theorem lies (t : Fin cfg0.N) (u : Fin 128) (l : Fin 1280) :
    Lies (X m c) (W m c) (A m c) (B m c) (iblk m c 0 t) (iblk m c 1 t) (iblk m c 2 t) (iblk m c 3 t) (row t u) u l := by
  obtain ⟨i0, i1, i2, i3, -⟩ := index t
  unfold row
  constructor
  on_goal 1 => intro k
  all_goals blk_ext [iblk, V, i0, i1, i2, i3]

theorem final : (dats m 0 c).arrAt 4 cfg0.N = placed (gradient (X m c)) ∧ (dats m 0 c).arrAt 5 cfg0.N = placed (change (X m c) (W m c) (A m c) (B m c))
    ∧ (dats m 0 c).arrAt 6 cfg0.N = placed (first (X m c) (A m c)) ∧ (dats m 0 c).arrAt 7 cfg0.N = placed (second (X m c) (B m c)) := by
  refine ⟨(dats m 0 c).arrAt_eq_of_covers 4 _ (by decide +kernel) fun t _ b => ?_, (dats m 0 c).arrAt_eq_of_covers 5 _ (by decide +kernel) fun t _ b => ?_,
    (dats m 0 c).arrAt_eq_of_covers 6 _ (by decide +kernel) fun t _ b => ?_, (dats m 0 c).arrAt_eq_of_covers 7 _ (by decide +kernel) fun t _ b => ?_⟩
  all_goals
    obtain ⟨-, -, -, -, i4, i5, i6, i7⟩ := index t
    have o := (out (iblk m c 0 t) (iblk m c 1 t) (iblk m c 2 t) (iblk m c 3 t) (b 0) (b 1)).stored (lies m c t (b 0) (b 1)) rfl
    unfold placed
    blk_simp [i4, i5, i6, i7]
  · rw [after0_4]; exact o.1
  · rw [after0_5]; exact o.2.1
  · rw [after0_6]; exact o.2.2.1
  · rw [after0_7]; exact o.2.2.2

end Cert.KernelAdamInIdeal.Hand

namespace Cert.Proof

open Idealize.ShloMosaic Idealize.SL.Sem
open Cert.Adam (placed_eq)

theorem same_adam_in : Cert.algebraic_KernelAdamInIdeal_ReferenceAdamInIdeal (hKernelAdamInIdeal := Cert.KernelAdamInIdeal.Gen.facts)
    (hReferenceAdamInIdeal := Cert.ReferenceAdamInIdeal.Gen.facts) := by
  intro m g m' g' _ he
  refine ⟨fun c => _, fun c => _, fun c => _, fun c => _, (θ_run KernelAdamInIdeal.defs _ _).mono (fun _ h c =>
    have f := KernelAdamInIdeal.Hand.final m c
    ⟨(h c).1.trans f.1, (h c).2.1.trans f.2.1, (h c).2.2.1.trans f.2.2.1, (h c).2.2.2.1.trans f.2.2.2, (h c).2.2.2.2⟩)
    (KernelAdamInIdeal.Value.run_blocks (F := Ideal) m g), ?_⟩
  refine (θ_run ReferenceAdamInIdeal.defs _ _).mono (fun _ h c => ⟨(h c).1.trans ?_, (h c).2.1.trans ?_, (h c).2.2.1.trans ?_,
    (h c).2.2.2.1.trans ?_, (h c).2.2.2.2⟩) (ReferenceAdamInIdeal.Value.run (F := Ideal) m' g')
  all_goals
    simp only [(he c).1, (he c).2.1, (he c).2.2.1, (he c).2.2.2, placed_eq]
    refine funext fun i => (congrArg _ (Blocked.ix2_eta i)).trans (Eq.trans ?_ (congrArg _ (Blocked.ix2_eta i).symm))
    pointwise
    rfl

-- the two programs have one text; that they are equal is checked by computation
set_option smartUnfolding false in
set_option maxHeartbeats 0 in
theorem frame_adam_in : Cert.quiescent_KernelAdamIn (hKernelAdamIn := Cert.KernelAdamIn.Gen.facts) := fun m ρ _ =>
  (θ_run KernelAdamInIdeal.defs _ _).mono (fun _ h => h) (KernelAdamInIdeal.Gen.frame (F := Bits) m ρ)
theorem frame_adam_in_ideal : Cert.quiescent_KernelAdamInIdeal (hKernelAdamInIdeal := Cert.KernelAdamInIdeal.Gen.facts) := fun m ρ _ =>
  KernelAdamInIdeal.Gen.frame (F := Ideal) m ρ
theorem frame_adam_in_reference : Cert.quiescent_ReferenceAdamInIdeal (hReferenceAdamInIdeal := Cert.ReferenceAdamInIdeal.Gen.facts) := fun m ρ _ =>
  (θ_run ReferenceAdamInIdeal.defs _ _).mono (fun _ h => ⟨fun c => (h c).2.2.2.2, sem_eq_zero_of_no_sems (by decide) _⟩)
    (ReferenceAdamInIdeal.Value.run (F := Ideal) m ρ)

end Cert.Proof

end
-- ==== Proof.AdamConv.lean ====
/- AdamW on conv_w, applied: eight parts in float32 of a device's 512 columns. -/
module

public import proofs.«01_k».proof.Proof.Adam
public import proofs.«01_k».proof.Proof.Gen.KernelAdamConv
public import proofs.«01_k».proof.Proof.Gen.KernelAdamConvIdeal.Value
public import proofs.«01_k».proof.Proof.Gen.ReferenceAdamConvIdeal.Run

@[expose] public section

set_option maxRecDepth 16384

noncomputable section

namespace Cert.KernelAdamConvIdeal.Hand

open Cert.KernelAdamConvIdeal Cert.KernelAdamConvIdeal.Gen Cert.Blocked Cert.Adam
open Idealize.ShloMosaic Idealize.ShloMosaic.TcCoe Idealize.SL.Sem

section Block
variable (x0 : FVec Ideal S8x4x512 .f32) (x1 x2 x3 : FVec Ideal S4x512 .f32) (u : Fin 4) (l : Fin 512)

theorem grad : k0_pay5 (F := Ideal) x0 x1 x2 x3 (ix2 u l) = total x0 u l := by
  unfold total k0_pay5
  rw [Fin.sum_univ_eight]
  pointwise [k0_pay3]

theorem out : Step (out0_4 (F := Ideal) x0 x1 x2 x3) (out0_5 (F := Ideal) x0 x1 x2 x3) (out0_6 (F := Ideal) x0 x1 x2 x3) (out0_7 (F := Ideal) x0 x1 x2 x3)
    x0 x1 x2 x3 u l := by
  refine Step.of (grad x0 x1 x2 x3 u l) (by unfold out0_4; rw [View.canon_unit_zero hz]) ?_ ?_ ?_
  all_goals
    first | unfold out0_5 | unfold out0_6 | unfold out0_7
    try unfold k0_pay6
    rw [View.canon_unit_zero hz]
    simp only [View.ld_unit_zero (S := S4x512) hz]
    rfl
end Block

theorem index : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

variable (m : (ℓ : Loc nD τ sig) → Buf (Elt Ideal) ℓ) (c : Dev nD)

abbrev X : FVec Ideal S8x4x512 .f32 := m (c, Proc.tc.devRef main_arg0)
abbrev W : FVec Ideal S4x512 .f32 := m (c, Proc.tc.devRef main_arg1)
abbrev A : FVec Ideal S4x512 .f32 := m (c, Proc.tc.devRef main_arg2)
abbrev B : FVec Ideal S4x512 .f32 := m (c, Proc.tc.devRef main_arg3)

/-- There is one block. -/
theorem lies (t : Fin cfg0.N) (u : Fin 4) (l : Fin 512) :
    Lies (X m c) (W m c) (A m c) (B m c) (iblk m c 0 t) (iblk m c 1 t) (iblk m c 2 t) (iblk m c 3 t) u u l := by
  obtain ⟨i0, i1, i2, i3, -⟩ := index t
  constructor
  on_goal 1 => intro k
  all_goals blk_ext [iblk, V, i0, i1, i2, i3]

theorem final : (dats m 0 c).arrAt 4 cfg0.N = placed (gradient (X m c)) ∧ (dats m 0 c).arrAt 5 cfg0.N = placed (change (X m c) (W m c) (A m c) (B m c))
    ∧ (dats m 0 c).arrAt 6 cfg0.N = placed (first (X m c) (A m c)) ∧ (dats m 0 c).arrAt 7 cfg0.N = placed (second (X m c) (B m c)) := by
  refine ⟨(dats m 0 c).arrAt_eq_of_covers 4 _ (by decide +kernel) fun t _ b => ?_, (dats m 0 c).arrAt_eq_of_covers 5 _ (by decide +kernel) fun t _ b => ?_,
    (dats m 0 c).arrAt_eq_of_covers 6 _ (by decide +kernel) fun t _ b => ?_, (dats m 0 c).arrAt_eq_of_covers 7 _ (by decide +kernel) fun t _ b => ?_⟩
  all_goals
    obtain ⟨-, -, -, -, i4, i5, i6, i7⟩ := index t
    have o := (out (iblk m c 0 t) (iblk m c 1 t) (iblk m c 2 t) (iblk m c 3 t) (b 0) (b 1)).stored (lies m c t (b 0) (b 1)) (t := 0) (by omega)
    unfold placed
    rw [Nat.zero_mul, Nat.zero_add] at o
    blk_simp [i4, i5, i6, i7]
  · rw [after0_4]; exact o.1
  · rw [after0_5]; exact o.2.1
  · rw [after0_6]; exact o.2.2.1
  · rw [after0_7]; exact o.2.2.2

end Cert.KernelAdamConvIdeal.Hand

namespace Cert.Proof

open Idealize.ShloMosaic Idealize.SL.Sem
open Cert.Adam (placed_eq)

theorem same_adam_conv : Cert.algebraic_KernelAdamConvIdeal_ReferenceAdamConvIdeal (hKernelAdamConvIdeal := Cert.KernelAdamConvIdeal.Gen.facts)
    (hReferenceAdamConvIdeal := Cert.ReferenceAdamConvIdeal.Gen.facts) := by
  intro m g m' g' _ he
  refine ⟨fun c => _, fun c => _, fun c => _, fun c => _, (θ_run KernelAdamConvIdeal.defs _ _).mono (fun _ h c =>
    have f := KernelAdamConvIdeal.Hand.final m c
    ⟨(h c).1.trans f.1, (h c).2.1.trans f.2.1, (h c).2.2.1.trans f.2.2.1, (h c).2.2.2.1.trans f.2.2.2, (h c).2.2.2.2⟩)
    (KernelAdamConvIdeal.Value.run_blocks (F := Ideal) m g), ?_⟩
  refine (θ_run ReferenceAdamConvIdeal.defs _ _).mono (fun _ h c => ⟨(h c).1.trans ?_, (h c).2.1.trans ?_, (h c).2.2.1.trans ?_,
    (h c).2.2.2.1.trans ?_, (h c).2.2.2.2⟩) (ReferenceAdamConvIdeal.Value.run (F := Ideal) m' g')
  all_goals
    simp only [(he c).1, (he c).2.1, (he c).2.2.1, (he c).2.2.2, placed_eq]
    refine funext fun i => (congrArg _ (Blocked.ix2_eta i)).trans (Eq.trans ?_ (congrArg _ (Blocked.ix2_eta i).symm))
    pointwise
    rfl

-- the two programs have one text; that they are equal is checked by computation
set_option smartUnfolding false in
set_option maxHeartbeats 0 in
theorem frame_adam_conv : Cert.quiescent_KernelAdamConv (hKernelAdamConv := Cert.KernelAdamConv.Gen.facts) := fun m ρ _ =>
  (θ_run KernelAdamConvIdeal.defs _ _).mono (fun _ h => h) (KernelAdamConvIdeal.Gen.frame (F := Bits) m ρ)
theorem frame_adam_conv_ideal : Cert.quiescent_KernelAdamConvIdeal (hKernelAdamConvIdeal := Cert.KernelAdamConvIdeal.Gen.facts) := fun m ρ _ =>
  KernelAdamConvIdeal.Gen.frame (F := Ideal) m ρ
theorem frame_adam_conv_reference : Cert.quiescent_ReferenceAdamConvIdeal (hReferenceAdamConvIdeal := Cert.ReferenceAdamConvIdeal.Gen.facts) := fun m ρ _ =>
  (θ_run ReferenceAdamConvIdeal.defs _ _).mono (fun _ h => ⟨fun c => (h c).2.2.2.2, sem_eq_zero_of_no_sems (by decide) _⟩)
    (ReferenceAdamConvIdeal.Value.run (F := Ideal) m ρ)

end Cert.Proof

end
-- ==== Proof.AdamSsd.lean ====
/- AdamW on w_ssd_branch, applied: a device's 256 rows in two blocks. -/
module

public import proofs.«01_k».proof.Proof.Adam
public import proofs.«01_k».proof.Proof.Gen.KernelAdamSsd
public import proofs.«01_k».proof.Proof.Gen.KernelAdamSsdIdeal.Value
public import proofs.«01_k».proof.Proof.Gen.ReferenceAdamSsdIdeal.Run

@[expose] public section

set_option maxRecDepth 16384

noncomputable section

namespace Cert.KernelAdamSsdIdeal.Hand

open Cert.KernelAdamSsdIdeal Cert.KernelAdamSsdIdeal.Gen Cert.Blocked Cert.Adam
open Idealize.ShloMosaic Idealize.ShloMosaic.TcCoe Idealize.SL.Sem

section Block
variable (x0 : FVec Ideal S4x128x1024 .bf16) (x1 x2 x3 : FVec Ideal S128x1024 .f32) (u : Fin 128) (l : Fin 1024)

theorem grad : k0_pay2 (F := Ideal) (View.ld (Val := Elt Ideal) x0 r0_0) (View.ld (Val := Elt Ideal) x0 r0_1) (View.ld (Val := Elt Ideal) x0 r0_2)
    (View.ld (Val := Elt Ideal) x0 r0_3) (ix2 u l) = total x0 u l := by
  unfold total
  rw [Fin.sum_univ_four]
  pointwise [k0_pay2]

theorem out : Step (out0_4 (F := Ideal) x0 x1 x2 x3) (out0_5 (F := Ideal) x0 x1 x2 x3) (out0_6 (F := Ideal) x0 x1 x2 x3) (out0_7 (F := Ideal) x0 x1 x2 x3)
    x0 x1 x2 x3 u l := by
  refine Step.of (grad x0 u l) (by unfold out0_4; rw [View.canon_unit_zero hz]) ?_ ?_ ?_
  all_goals
    first | unfold out0_5 | unfold out0_6 | unfold out0_7
    rw [View.canon_unit_zero hz]
    simp only [View.ld_unit_zero (S := S128x1024) hz]
    rfl
end Block

theorem index : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

abbrev X : FVec Ideal S4x256x1024 .bf16 := m (c, Proc.tc.devRef main_arg0)
abbrev W : FVec Ideal S256x1024 .f32 := m (c, Proc.tc.devRef main_arg1)
abbrev A : FVec Ideal S256x1024 .f32 := m (c, Proc.tc.devRef main_arg2)
abbrev B : FVec Ideal S256x1024 .f32 := m (c, Proc.tc.devRef main_arg3)

def row (t : Fin cfg0.N) (u : Fin 128) : Fin 256 := ⟨128 * t.val + u.val, by have := lt_of_lt_of_eq t.isLt N_0; omega⟩

theorem lies (t : Fin cfg0.N) (u : Fin 128) (l : Fin 1024) :
    Lies (X m c) (W m c) (A m c) (B m c) (iblk m c 0 t) (iblk m c 1 t) (iblk m c 2 t) (iblk m c 3 t) (row t u) u l := by
  obtain ⟨i0, i1, i2, i3, -⟩ := index t
  unfold row
  constructor
  on_goal 1 => intro k
  all_goals blk_ext [iblk, V, i0, i1, i2, i3]

theorem final : (dats m 0 c).arrAt 4 cfg0.N = placed (gradient (X m c)) ∧ (dats m 0 c).arrAt 5 cfg0.N = placed (change (X m c) (W m c) (A m c) (B m c))
    ∧ (dats m 0 c).arrAt 6 cfg0.N = placed (first (X m c) (A m c)) ∧ (dats m 0 c).arrAt 7 cfg0.N = placed (second (X m c) (B m c)) := by
  refine ⟨(dats m 0 c).arrAt_eq_of_covers 4 _ (by decide +kernel) fun t _ b => ?_, (dats m 0 c).arrAt_eq_of_covers 5 _ (by decide +kernel) fun t _ b => ?_,
    (dats m 0 c).arrAt_eq_of_covers 6 _ (by decide +kernel) fun t _ b => ?_, (dats m 0 c).arrAt_eq_of_covers 7 _ (by decide +kernel) fun t _ b => ?_⟩
  all_goals
    obtain ⟨-, -, -, -, i4, i5, i6, i7⟩ := index t
    have o := (out (iblk m c 0 t) (iblk m c 1 t) (iblk m c 2 t) (iblk m c 3 t) (b 0) (b 1)).stored (lies m c t (b 0) (b 1)) rfl
    unfold placed
    blk_simp [i4, i5, i6, i7]
  · rw [after0_4]; exact o.1
  · rw [after0_5]; exact o.2.1
  · rw [after0_6]; exact o.2.2.1
  · rw [after0_7]; exact o.2.2.2

end Cert.KernelAdamSsdIdeal.Hand

namespace Cert.Proof

open Idealize.ShloMosaic Idealize.SL.Sem
open Cert.Adam (placed_eq)

theorem same_adam_ssd : Cert.algebraic_KernelAdamSsdIdeal_ReferenceAdamSsdIdeal (hKernelAdamSsdIdeal := Cert.KernelAdamSsdIdeal.Gen.facts)
    (hReferenceAdamSsdIdeal := Cert.ReferenceAdamSsdIdeal.Gen.facts) := by
  intro m g m' g' _ he
  refine ⟨fun c => _, fun c => _, fun c => _, fun c => _, (θ_run KernelAdamSsdIdeal.defs _ _).mono (fun _ h c =>
    have f := KernelAdamSsdIdeal.Hand.final m c
    ⟨(h c).1.trans f.1, (h c).2.1.trans f.2.1, (h c).2.2.1.trans f.2.2.1, (h c).2.2.2.1.trans f.2.2.2, (h c).2.2.2.2⟩)
    (KernelAdamSsdIdeal.Value.run_blocks (F := Ideal) m g), ?_⟩
  refine (θ_run ReferenceAdamSsdIdeal.defs _ _).mono (fun _ h c => ⟨(h c).1.trans ?_, (h c).2.1.trans ?_, (h c).2.2.1.trans ?_,
    (h c).2.2.2.1.trans ?_, (h c).2.2.2.2⟩) (ReferenceAdamSsdIdeal.Value.run (F := Ideal) m' g')
  all_goals
    simp only [(he c).1, (he c).2.1, (he c).2.2.1, (he c).2.2.2, placed_eq]
    refine funext fun i => (congrArg _ (Blocked.ix2_eta i)).trans (Eq.trans ?_ (congrArg _ (Blocked.ix2_eta i).symm))
    pointwise
    rfl

-- the two programs have one text; that they are equal is checked by computation
set_option smartUnfolding false in
set_option maxHeartbeats 0 in
theorem frame_adam_ssd : Cert.quiescent_KernelAdamSsd (hKernelAdamSsd := Cert.KernelAdamSsd.Gen.facts) := fun m ρ _ =>
  (θ_run KernelAdamSsdIdeal.defs _ _).mono (fun _ h => h) (KernelAdamSsdIdeal.Gen.frame (F := Bits) m ρ)
theorem frame_adam_ssd_ideal : Cert.quiescent_KernelAdamSsdIdeal (hKernelAdamSsdIdeal := Cert.KernelAdamSsdIdeal.Gen.facts) := fun m ρ _ =>
  KernelAdamSsdIdeal.Gen.frame (F := Ideal) m ρ
theorem frame_adam_ssd_reference : Cert.quiescent_ReferenceAdamSsdIdeal (hReferenceAdamSsdIdeal := Cert.ReferenceAdamSsdIdeal.Gen.facts) := fun m ρ _ =>
  (θ_run ReferenceAdamSsdIdeal.defs _ _).mono (fun _ h => ⟨fun c => (h c).2.2.2.2, sem_eq_zero_of_no_sems (by decide) _⟩)
    (ReferenceAdamSsdIdeal.Value.run (F := Ideal) m ρ)

end Cert.Proof

end
-- ==== Proof.AdamGate.lean ====
/- AdamW on w_gate, applied: a device's 256 columns, in eight blocks of rows. -/
module

public import proofs.«01_k».proof.Proof.Adam
public import proofs.«01_k».proof.Proof.Gen.KernelAdamGate
public import proofs.«01_k».proof.Proof.Gen.KernelAdamGateIdeal.Value
public import proofs.«01_k».proof.Proof.Gen.ReferenceAdamGateIdeal.Run

@[expose] public section

set_option maxRecDepth 16384

noncomputable section

namespace Cert.KernelAdamGateIdeal.Hand

open Cert.KernelAdamGateIdeal Cert.KernelAdamGateIdeal.Gen Cert.Blocked Cert.Adam
open Idealize.ShloMosaic Idealize.ShloMosaic.TcCoe Idealize.SL.Sem

section Block
variable (x0 : FVec Ideal S4x128x256 .bf16) (x1 x2 x3 : FVec Ideal S128x256 .f32) (u : Fin 128) (l : Fin 256)

theorem grad : k0_pay2 (F := Ideal) (View.ld (Val := Elt Ideal) x0 r0_0) (View.ld (Val := Elt Ideal) x0 r0_1) (View.ld (Val := Elt Ideal) x0 r0_2)
    (View.ld (Val := Elt Ideal) x0 r0_3) (ix2 u l) = total x0 u l := by
  unfold total
  rw [Fin.sum_univ_four]
  pointwise [k0_pay2]

theorem out : Step (out0_4 (F := Ideal) x0 x1 x2 x3) (out0_5 (F := Ideal) x0 x1 x2 x3) (out0_6 (F := Ideal) x0 x1 x2 x3) (out0_7 (F := Ideal) x0 x1 x2 x3)
    x0 x1 x2 x3 u l := by
  refine Step.of (grad x0 u l) (by unfold out0_4; rw [View.canon_unit_zero hz]) ?_ ?_ ?_
  all_goals
    first | unfold out0_5 | unfold out0_6 | unfold out0_7
    rw [View.canon_unit_zero hz]
    simp only [View.ld_unit_zero (S := S128x256) hz]
    rfl
end Block

theorem index : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

abbrev X : FVec Ideal S4x1024x256 .bf16 := m (c, Proc.tc.devRef main_arg0)
abbrev W : FVec Ideal S1024x256 .f32 := m (c, Proc.tc.devRef main_arg1)
abbrev A : FVec Ideal S1024x256 .f32 := m (c, Proc.tc.devRef main_arg2)
abbrev B : FVec Ideal S1024x256 .f32 := m (c, Proc.tc.devRef main_arg3)

def row (t : Fin cfg0.N) (u : Fin 128) : Fin 1024 := ⟨128 * t.val + u.val, by have := lt_of_lt_of_eq t.isLt N_0; omega⟩

theorem lies (t : Fin cfg0.N) (u : Fin 128) (l : Fin 256) :
    Lies (X m c) (W m c) (A m c) (B m c) (iblk m c 0 t) (iblk m c 1 t) (iblk m c 2 t) (iblk m c 3 t) (row t u) u l := by
  obtain ⟨i0, i1, i2, i3, -⟩ := index t
  unfold row
  constructor
  on_goal 1 => intro k
  all_goals blk_ext [iblk, V, i0, i1, i2, i3]

theorem final : (dats m 0 c).arrAt 4 cfg0.N = placed (gradient (X m c)) ∧ (dats m 0 c).arrAt 5 cfg0.N = placed (change (X m c) (W m c) (A m c) (B m c))
    ∧ (dats m 0 c).arrAt 6 cfg0.N = placed (first (X m c) (A m c)) ∧ (dats m 0 c).arrAt 7 cfg0.N = placed (second (X m c) (B m c)) := by
  refine ⟨(dats m 0 c).arrAt_eq_of_covers 4 _ (by decide +kernel) fun t _ b => ?_, (dats m 0 c).arrAt_eq_of_covers 5 _ (by decide +kernel) fun t _ b => ?_,
    (dats m 0 c).arrAt_eq_of_covers 6 _ (by decide +kernel) fun t _ b => ?_, (dats m 0 c).arrAt_eq_of_covers 7 _ (by decide +kernel) fun t _ b => ?_⟩
  all_goals
    obtain ⟨-, -, -, -, i4, i5, i6, i7⟩ := index t
    have o := (out (iblk m c 0 t) (iblk m c 1 t) (iblk m c 2 t) (iblk m c 3 t) (b 0) (b 1)).stored (lies m c t (b 0) (b 1)) rfl
    unfold placed
    blk_simp [i4, i5, i6, i7]
  · rw [after0_4]; exact o.1
  · rw [after0_5]; exact o.2.1
  · rw [after0_6]; exact o.2.2.1
  · rw [after0_7]; exact o.2.2.2

end Cert.KernelAdamGateIdeal.Hand

namespace Cert.Proof

open Idealize.ShloMosaic Idealize.SL.Sem
open Cert.Adam (placed_eq)

theorem same_adam_gate : Cert.algebraic_KernelAdamGateIdeal_ReferenceAdamGateIdeal (hKernelAdamGateIdeal := Cert.KernelAdamGateIdeal.Gen.facts)
    (hReferenceAdamGateIdeal := Cert.ReferenceAdamGateIdeal.Gen.facts) := by
  intro m g m' g' _ he
  refine ⟨fun c => _, fun c => _, fun c => _, fun c => _, (θ_run KernelAdamGateIdeal.defs _ _).mono (fun _ h c =>
    have f := KernelAdamGateIdeal.Hand.final m c
    ⟨(h c).1.trans f.1, (h c).2.1.trans f.2.1, (h c).2.2.1.trans f.2.2.1, (h c).2.2.2.1.trans f.2.2.2, (h c).2.2.2.2⟩)
    (KernelAdamGateIdeal.Value.run_blocks (F := Ideal) m g), ?_⟩
  refine (θ_run ReferenceAdamGateIdeal.defs _ _).mono (fun _ h c => ⟨(h c).1.trans ?_, (h c).2.1.trans ?_, (h c).2.2.1.trans ?_,
    (h c).2.2.2.1.trans ?_, (h c).2.2.2.2⟩) (ReferenceAdamGateIdeal.Value.run (F := Ideal) m' g')
  all_goals
    simp only [(he c).1, (he c).2.1, (he c).2.2.1, (he c).2.2.2, placed_eq]
    refine funext fun i => (congrArg _ (Blocked.ix2_eta i)).trans (Eq.trans ?_ (congrArg _ (Blocked.ix2_eta i).symm))
    pointwise
    rfl

-- the two programs have one text; that they are equal is checked by computation
set_option smartUnfolding false in
set_option maxHeartbeats 0 in
theorem frame_adam_gate : Cert.quiescent_KernelAdamGate (hKernelAdamGate := Cert.KernelAdamGate.Gen.facts) := fun m ρ _ =>
  (θ_run KernelAdamGateIdeal.defs _ _).mono (fun _ h => h) (KernelAdamGateIdeal.Gen.frame (F := Bits) m ρ)
theorem frame_adam_gate_ideal : Cert.quiescent_KernelAdamGateIdeal (hKernelAdamGateIdeal := Cert.KernelAdamGateIdeal.Gen.facts) := fun m ρ _ =>
  KernelAdamGateIdeal.Gen.frame (F := Ideal) m ρ
theorem frame_adam_gate_reference : Cert.quiescent_ReferenceAdamGateIdeal (hReferenceAdamGateIdeal := Cert.ReferenceAdamGateIdeal.Gen.facts) := fun m ρ _ =>
  (θ_run ReferenceAdamGateIdeal.defs _ _).mono (fun _ h => ⟨fun c => (h c).2.2.2.2, sem_eq_zero_of_no_sems (by decide) _⟩)
    (ReferenceAdamGateIdeal.Value.run (F := Ideal) m ρ)

end Cert.Proof

end
-- ==== Proof.AdamFf2.lean ====
/- AdamW on w_ff2, applied: a device's 512 rows in four blocks. -/
module

public import proofs.«01_k».proof.Proof.Adam
public import proofs.«01_k».proof.Proof.Gen.KernelAdamFf2
public import proofs.«01_k».proof.Proof.Gen.KernelAdamFf2Ideal.Value
public import proofs.«01_k».proof.Proof.Gen.ReferenceAdamFf2Ideal.Run

@[expose] public section

set_option maxRecDepth 16384

noncomputable section

namespace Cert.KernelAdamFf2Ideal.Hand

open Cert.KernelAdamFf2Ideal Cert.KernelAdamFf2Ideal.Gen Cert.Blocked Cert.Adam
open Idealize.ShloMosaic Idealize.ShloMosaic.TcCoe Idealize.SL.Sem

section Block
variable (x0 : FVec Ideal S4x128x1024 .bf16) (x1 x2 x3 : FVec Ideal S128x1024 .f32) (u : Fin 128) (l : Fin 1024)

theorem grad : k0_pay2 (F := Ideal) (View.ld (Val := Elt Ideal) x0 r0_0) (View.ld (Val := Elt Ideal) x0 r0_1) (View.ld (Val := Elt Ideal) x0 r0_2)
    (View.ld (Val := Elt Ideal) x0 r0_3) (ix2 u l) = total x0 u l := by
  unfold total
  rw [Fin.sum_univ_four]
  pointwise [k0_pay2]

theorem out : Step (out0_4 (F := Ideal) x0 x1 x2 x3) (out0_5 (F := Ideal) x0 x1 x2 x3) (out0_6 (F := Ideal) x0 x1 x2 x3) (out0_7 (F := Ideal) x0 x1 x2 x3)
    x0 x1 x2 x3 u l := by
  refine Step.of (grad x0 u l) (by unfold out0_4; rw [View.canon_unit_zero hz]) ?_ ?_ ?_
  all_goals
    first | unfold out0_5 | unfold out0_6 | unfold out0_7
    rw [View.canon_unit_zero hz]
    simp only [View.ld_unit_zero (S := S128x1024) hz]
    rfl
end Block

theorem index : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

abbrev X : FVec Ideal S4x512x1024 .bf16 := m (c, Proc.tc.devRef main_arg0)
abbrev W : FVec Ideal S512x1024 .f32 := m (c, Proc.tc.devRef main_arg1)
abbrev A : FVec Ideal S512x1024 .f32 := m (c, Proc.tc.devRef main_arg2)
abbrev B : FVec Ideal S512x1024 .f32 := m (c, Proc.tc.devRef main_arg3)

def row (t : Fin cfg0.N) (u : Fin 128) : Fin 512 := ⟨128 * t.val + u.val, by have := lt_of_lt_of_eq t.isLt N_0; omega⟩

theorem lies (t : Fin cfg0.N) (u : Fin 128) (l : Fin 1024) :
    Lies (X m c) (W m c) (A m c) (B m c) (iblk m c 0 t) (iblk m c 1 t) (iblk m c 2 t) (iblk m c 3 t) (row t u) u l := by
  obtain ⟨i0, i1, i2, i3, -⟩ := index t
  unfold row
  constructor
  on_goal 1 => intro k
  all_goals blk_ext [iblk, V, i0, i1, i2, i3]

theorem final : (dats m 0 c).arrAt 4 cfg0.N = placed (gradient (X m c)) ∧ (dats m 0 c).arrAt 5 cfg0.N = placed (change (X m c) (W m c) (A m c) (B m c))
    ∧ (dats m 0 c).arrAt 6 cfg0.N = placed (first (X m c) (A m c)) ∧ (dats m 0 c).arrAt 7 cfg0.N = placed (second (X m c) (B m c)) := by
  refine ⟨(dats m 0 c).arrAt_eq_of_covers 4 _ (by decide +kernel) fun t _ b => ?_, (dats m 0 c).arrAt_eq_of_covers 5 _ (by decide +kernel) fun t _ b => ?_,
    (dats m 0 c).arrAt_eq_of_covers 6 _ (by decide +kernel) fun t _ b => ?_, (dats m 0 c).arrAt_eq_of_covers 7 _ (by decide +kernel) fun t _ b => ?_⟩
  all_goals
    obtain ⟨-, -, -, -, i4, i5, i6, i7⟩ := index t
    have o := (out (iblk m c 0 t) (iblk m c 1 t) (iblk m c 2 t) (iblk m c 3 t) (b 0) (b 1)).stored (lies m c t (b 0) (b 1)) rfl
    unfold placed
    blk_simp [i4, i5, i6, i7]
  · rw [after0_4]; exact o.1
  · rw [after0_5]; exact o.2.1
  · rw [after0_6]; exact o.2.2.1
  · rw [after0_7]; exact o.2.2.2

end Cert.KernelAdamFf2Ideal.Hand

namespace Cert.Proof

open Idealize.ShloMosaic Idealize.SL.Sem
open Cert.Adam (placed_eq)

theorem same_adam_ff2 : Cert.algebraic_KernelAdamFf2Ideal_ReferenceAdamFf2Ideal (hKernelAdamFf2Ideal := Cert.KernelAdamFf2Ideal.Gen.facts)
    (hReferenceAdamFf2Ideal := Cert.ReferenceAdamFf2Ideal.Gen.facts) := by
  intro m g m' g' _ he
  refine ⟨fun c => _, fun c => _, fun c => _, fun c => _, (θ_run KernelAdamFf2Ideal.defs _ _).mono (fun _ h c =>
    have f := KernelAdamFf2Ideal.Hand.final m c
    ⟨(h c).1.trans f.1, (h c).2.1.trans f.2.1, (h c).2.2.1.trans f.2.2.1, (h c).2.2.2.1.trans f.2.2.2, (h c).2.2.2.2⟩)
    (KernelAdamFf2Ideal.Value.run_blocks (F := Ideal) m g), ?_⟩
  refine (θ_run ReferenceAdamFf2Ideal.defs _ _).mono (fun _ h c => ⟨(h c).1.trans ?_, (h c).2.1.trans ?_, (h c).2.2.1.trans ?_,
    (h c).2.2.2.1.trans ?_, (h c).2.2.2.2⟩) (ReferenceAdamFf2Ideal.Value.run (F := Ideal) m' g')
  all_goals
    simp only [(he c).1, (he c).2.1, (he c).2.2.1, (he c).2.2.2, placed_eq]
    refine funext fun i => (congrArg _ (Blocked.ix2_eta i)).trans (Eq.trans ?_ (congrArg _ (Blocked.ix2_eta i).symm))
    pointwise
    rfl

-- the two programs have one text; that they are equal is checked by computation
set_option smartUnfolding false in
set_option maxHeartbeats 0 in
theorem frame_adam_ff2 : Cert.quiescent_KernelAdamFf2 (hKernelAdamFf2 := Cert.KernelAdamFf2.Gen.facts) := fun m ρ _ =>
  (θ_run KernelAdamFf2Ideal.defs _ _).mono (fun _ h => h) (KernelAdamFf2Ideal.Gen.frame (F := Bits) m ρ)
theorem frame_adam_ff2_ideal : Cert.quiescent_KernelAdamFf2Ideal (hKernelAdamFf2Ideal := Cert.KernelAdamFf2Ideal.Gen.facts) := fun m ρ _ =>
  KernelAdamFf2Ideal.Gen.frame (F := Ideal) m ρ
theorem frame_adam_ff2_reference : Cert.quiescent_ReferenceAdamFf2Ideal (hReferenceAdamFf2Ideal := Cert.ReferenceAdamFf2Ideal.Gen.facts) := fun m ρ _ =>
  (θ_run ReferenceAdamFf2Ideal.defs _ _).mono (fun _ h => ⟨fun c => (h c).2.2.2.2, sem_eq_zero_of_no_sems (by decide) _⟩)
    (ReferenceAdamFf2Ideal.Value.run (F := Ideal) m ρ)

end Cert.Proof

end
-- ==== Proof.AdamPle.lean ====
/- AdamW on w_ple, applied: a device's 128 columns, in two blocks of rows. -/
module

public import proofs.«01_k».proof.Proof.Adam
public import proofs.«01_k».proof.Proof.Gen.KernelAdamPle
public import proofs.«01_k».proof.Proof.Gen.KernelAdamPleIdeal.Value
public import proofs.«01_k».proof.Proof.Gen.ReferenceAdamPleIdeal.Run

@[expose] public section

set_option maxRecDepth 16384

noncomputable section

namespace Cert.KernelAdamPleIdeal.Hand

open Cert.KernelAdamPleIdeal Cert.KernelAdamPleIdeal.Gen Cert.Blocked Cert.Adam
open Idealize.ShloMosaic Idealize.ShloMosaic.TcCoe Idealize.SL.Sem

section Block
variable (x0 : FVec Ideal S4x128x128 .bf16) (x1 x2 x3 : FVec Ideal S128x128 .f32) (u : Fin 128) (l : Fin 128)

theorem grad : k0_pay2 (F := Ideal) (View.ld (Val := Elt Ideal) x0 r0_0) (View.ld (Val := Elt Ideal) x0 r0_1) (View.ld (Val := Elt Ideal) x0 r0_2)
    (View.ld (Val := Elt Ideal) x0 r0_3) (ix2 u l) = total x0 u l := by
  unfold total
  rw [Fin.sum_univ_four]
  pointwise [k0_pay2]

theorem out : Step (out0_4 (F := Ideal) x0 x1 x2 x3) (out0_5 (F := Ideal) x0 x1 x2 x3) (out0_6 (F := Ideal) x0 x1 x2 x3) (out0_7 (F := Ideal) x0 x1 x2 x3)
    x0 x1 x2 x3 u l := by
  refine Step.of (grad x0 u l) (by unfold out0_4; rw [View.canon_unit_zero hz]) ?_ ?_ ?_
  all_goals
    first | unfold out0_5 | unfold out0_6 | unfold out0_7
    rw [View.canon_unit_zero hz]
    simp only [View.ld_unit_zero (S := S128x128) hz]
    rfl
end Block

theorem index : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

abbrev X : FVec Ideal S4x256x128 .bf16 := m (c, Proc.tc.devRef main_arg0)
abbrev W : FVec Ideal S256x128 .f32 := m (c, Proc.tc.devRef main_arg1)
abbrev A : FVec Ideal S256x128 .f32 := m (c, Proc.tc.devRef main_arg2)
abbrev B : FVec Ideal S256x128 .f32 := m (c, Proc.tc.devRef main_arg3)

def row (t : Fin cfg0.N) (u : Fin 128) : Fin 256 := ⟨128 * t.val + u.val, by have := lt_of_lt_of_eq t.isLt N_0; omega⟩

theorem lies (t : Fin cfg0.N) (u : Fin 128) (l : Fin 128) :
    Lies (X m c) (W m c) (A m c) (B m c) (iblk m c 0 t) (iblk m c 1 t) (iblk m c 2 t) (iblk m c 3 t) (row t u) u l := by
  obtain ⟨i0, i1, i2, i3, -⟩ := index t
  unfold row
  constructor
  on_goal 1 => intro k
  all_goals blk_ext [iblk, V, i0, i1, i2, i3]

theorem final : (dats m 0 c).arrAt 4 cfg0.N = placed (gradient (X m c)) ∧ (dats m 0 c).arrAt 5 cfg0.N = placed (change (X m c) (W m c) (A m c) (B m c))
    ∧ (dats m 0 c).arrAt 6 cfg0.N = placed (first (X m c) (A m c)) ∧ (dats m 0 c).arrAt 7 cfg0.N = placed (second (X m c) (B m c)) := by
  refine ⟨(dats m 0 c).arrAt_eq_of_covers 4 _ (by decide +kernel) fun t _ b => ?_, (dats m 0 c).arrAt_eq_of_covers 5 _ (by decide +kernel) fun t _ b => ?_,
    (dats m 0 c).arrAt_eq_of_covers 6 _ (by decide +kernel) fun t _ b => ?_, (dats m 0 c).arrAt_eq_of_covers 7 _ (by decide +kernel) fun t _ b => ?_⟩
  all_goals
    obtain ⟨-, -, -, -, i4, i5, i6, i7⟩ := index t
    have o := (out (iblk m c 0 t) (iblk m c 1 t) (iblk m c 2 t) (iblk m c 3 t) (b 0) (b 1)).stored (lies m c t (b 0) (b 1)) rfl
    unfold placed
    blk_simp [i4, i5, i6, i7]
  · rw [after0_4]; exact o.1
  · rw [after0_5]; exact o.2.1
  · rw [after0_6]; exact o.2.2.1
  · rw [after0_7]; exact o.2.2.2

end Cert.KernelAdamPleIdeal.Hand

namespace Cert.Proof

open Idealize.ShloMosaic Idealize.SL.Sem
open Cert.Adam (placed_eq)

theorem same_adam_ple : Cert.algebraic_KernelAdamPleIdeal_ReferenceAdamPleIdeal (hKernelAdamPleIdeal := Cert.KernelAdamPleIdeal.Gen.facts)
    (hReferenceAdamPleIdeal := Cert.ReferenceAdamPleIdeal.Gen.facts) := by
  intro m g m' g' _ he
  refine ⟨fun c => _, fun c => _, fun c => _, fun c => _, (θ_run KernelAdamPleIdeal.defs _ _).mono (fun _ h c =>
    have f := KernelAdamPleIdeal.Hand.final m c
    ⟨(h c).1.trans f.1, (h c).2.1.trans f.2.1, (h c).2.2.1.trans f.2.2.1, (h c).2.2.2.1.trans f.2.2.2, (h c).2.2.2.2⟩)
    (KernelAdamPleIdeal.Value.run_blocks (F := Ideal) m g), ?_⟩
  refine (θ_run ReferenceAdamPleIdeal.defs _ _).mono (fun _ h c => ⟨(h c).1.trans ?_, (h c).2.1.trans ?_, (h c).2.2.1.trans ?_,
    (h c).2.2.2.1.trans ?_, (h c).2.2.2.2⟩) (ReferenceAdamPleIdeal.Value.run (F := Ideal) m' g')
  all_goals
    simp only [(he c).1, (he c).2.1, (he c).2.2.1, (he c).2.2.2, placed_eq]
    refine funext fun i => (congrArg _ (Blocked.ix2_eta i)).trans (Eq.trans ?_ (congrArg _ (Blocked.ix2_eta i).symm))
    pointwise
    rfl

-- the two programs have one text; that they are equal is checked by computation
set_option smartUnfolding false in
set_option maxHeartbeats 0 in
theorem frame_adam_ple : Cert.quiescent_KernelAdamPle (hKernelAdamPle := Cert.KernelAdamPle.Gen.facts) := fun m ρ _ =>
  (θ_run KernelAdamPleIdeal.defs _ _).mono (fun _ h => h) (KernelAdamPleIdeal.Gen.frame (F := Bits) m ρ)
theorem frame_adam_ple_ideal : Cert.quiescent_KernelAdamPleIdeal (hKernelAdamPleIdeal := Cert.KernelAdamPleIdeal.Gen.facts) := fun m ρ _ =>
  KernelAdamPleIdeal.Gen.frame (F := Ideal) m ρ
theorem frame_adam_ple_reference : Cert.quiescent_ReferenceAdamPleIdeal (hReferenceAdamPleIdeal := Cert.ReferenceAdamPleIdeal.Gen.facts) := fun m ρ _ =>
  (θ_run ReferenceAdamPleIdeal.defs _ _).mono (fun _ h => ⟨fun c => (h c).2.2.2.2, sem_eq_zero_of_no_sems (by decide) _⟩)
    (ReferenceAdamPleIdeal.Value.run (F := Ideal) m ρ)

end Cert.Proof

end
-- ==== Proof.ScanNorm.lean ====
/- The skip, the gate and the norm of each group after the scan: a row of it, the eight groups of columns in one block, the value claim and the frames. -/
module

public import proofs.«01_k».proof.Defs
public import proofs.«01_k».proof.Proof.Blocked
public import proofs.«01_k».proof.Proof.Gates
public import proofs.«01_k».proof.Proof.Gen.KernelScanNorm
public import proofs.«01_k».proof.Proof.Gen.KernelScanNormIdeal.Value
public import proofs.«01_k».proof.Proof.Gen.ReferenceScanNormIdeal.Run
public import Idealize.ShloMosaic.Lib.Pipeline.ValueKit
public import Idealize.ShloMosaic.Lib.StableHlo.ReadAt
public import Idealize.ShloMosaic.Adequacy

@[expose] public section

set_option maxRecDepth 16384

noncomputable section

namespace Cert.ScanNorm

open Idealize.ShloMosaic
open Cert.Gates (gate)

/-- The gated row: `y` from the scan, `x` skipped past it with the weights `d`, `z` gating. -/
def mixed (y x z d : Fin 2048 → EReal) (j : Fin 2048) : EReal := (y j + x j * d j) * (z j * gate (z j))
/-- The column `e` of the group that `j` is in. -/
def mate (j : Fin 2048) (e : Fin 256) : Fin 2048 := ⟨j.val / 256 * 256 + e.val, by omega⟩
/-- The norm of each group of a row. -/
def normed (f w : Fin 2048 → EReal) (j : Fin 2048) : EReal :=
  f j * Ideal.rsqrt (Ideal.div (∑ e, f (mate j e) * f (mate j e)) (Ideal.ofBits .f32 0x43800000#32) + Ideal.ofBits .f32 0x358637BD#32) * w j

end Cert.ScanNorm

namespace Cert.KernelScanNormIdeal.Hand

open Cert.KernelScanNormIdeal Cert.KernelScanNormIdeal.Gen Cert.Blocked Cert.ScanNorm
open Cert.Gates (gate tanh_gate)
open Idealize.ShloMosaic Idealize.ShloMosaic.TcCoe Idealize.SL.Sem
open Idealize.ShloMosaic.View (canon_eq_of_allAt allAt_cons_unit allAt_nil)

section Block
variable (x0 x1 x2 : FVec Ideal S256x2048 .f32) (x3 x4 : FVec Ideal S1x2048 .f32)

/-- The group of columns from `256 * k` on, at the block's entry `(u, j)`. -/
theorem tile (k : ℕ) {o : ℕ} (ho : o = 256 * k) (h : ∀ a, (![0, o] : Fin 2 → ℕ) a + S256x256.size a ≤ S256x2048.size a)
    (h' : ∀ a, (![0, o] : Fin 2 → ℕ) a + S1x256.size a ≤ S1x2048.size a) (u : Fin 256) (l : Fin 256) (j : Fin 2048) (hj : j.val = o + l.val) :
    k0_pay1 (F := Ideal) (View.ld (Val := Elt Ideal) x0 (Rect.unit (s := S256x2048) ![0, o] S256x256.size h))
      (View.ld (Val := Elt Ideal) x1 (Rect.unit (s := S256x2048) ![0, o] S256x256.size h))
      (View.ld (Val := Elt Ideal) x2 (Rect.unit (s := S256x2048) ![0, o] S256x256.size h))
      (View.ld (Val := Elt Ideal) x3 (Rect.unit (s := S1x2048) ![0, o] S1x256.size h'))
      (View.ld (Val := Elt Ideal) x4 (Rect.unit (s := S1x2048) ![0, o] S1x256.size h')) (ix2 u l)
    = normed (mixed (fun j => x0 (ix2 u j)) (fun j => x1 (ix2 u j)) (fun j => x2 (ix2 u j)) (fun j => x3 (ix2 0 j))) (fun j => x4 (ix2 0 j)) j := by
  pointwise [k0_pay1]
  simp only [tanh_gate]
  have hl (e : Fin 256) : (⟨o + e.val, by have := h 1; simp at this; omega⟩ : Fin 2048) = mate j e := Fin.ext (by unfold mate; dsimp only; omega)
  have hm : mate j l = j := Fin.ext (by unfold mate; dsimp only; omega)
  simp only [hl, hm]
  rfl

/-- The same of a piece of the block, whatever steps its value is stated in. -/
theorem tile_at (k : ℕ) {o : ℕ} (ho : o = 256 * k) (h : ∀ a, (![0, o] : Fin 2 → ℕ) a + S256x256.size a ≤ S256x2048.size a)
    (h' : ∀ a, (![0, o] : Fin 2 → ℕ) a + S1x256.size a ≤ S1x2048.size a) (u : Fin 256) (j : Fin 2048) (p : FVec Ideal S256x256 .bf16)
    (hp : p = k0_pay1 (F := Ideal) (View.ld (Val := Elt Ideal) x0 (Rect.unit (s := S256x2048) ![0, o] S256x256.size h))
      (View.ld (Val := Elt Ideal) x1 (Rect.unit (s := S256x2048) ![0, o] S256x256.size h))
      (View.ld (Val := Elt Ideal) x2 (Rect.unit (s := S256x2048) ![0, o] S256x256.size h))
      (View.ld (Val := Elt Ideal) x3 (Rect.unit (s := S1x2048) ![0, o] S1x256.size h'))
      (View.ld (Val := Elt Ideal) x4 (Rect.unit (s := S1x2048) ![0, o] S1x256.size h'))) :
    View.TileAt (Val := Elt Ideal) (S := S256x2048) (e := .bf16) (ix2 u j) ![0, o] S256x256.size p
      (normed (mixed (fun j => x0 (ix2 u j)) (fun j => x1 (ix2 u j)) (fun j => x2 (ix2 u j)) (fun j => x3 (ix2 0 j))) (fun j => x4 (ix2 0 j)) j) := by
  intro x hx
  have hu : x 0 = u := Fin.ext (by have := hx 0; simp at this; omega)
  have hj : j.val = o + (x 1).val := hx 1
  rw [hp, Blocked.ix2_eta x, hu]
  exact tile x0 x1 x2 x3 x4 k ho h h' u (x 1) j hj

/-- What the body leaves at `(u, j)`. -/
theorem out (c : Dev nD) (i : grid0.Coords) (a2 : Memref sig .tc .vmem S256x2048 .f32) (h2 : a2.IsWhole)
    (a3 : Memref sig .tc .vmem S256x2048 .f32) (h3 : a3.IsWhole) (a4 : Memref sig .tc .vmem S256x2048 .f32) (h4 : a4.IsWhole)
    (a5 : Memref sig .tc .vmem S1x2048 .f32) (h5 : a5.IsWhole) (a6 : Memref sig .tc .vmem S1x2048 .f32) (h6 : a6.IsWhole)
    (a7 : Memref sig .tc .vmem S256x2048 .bf16) (h7 : a7.IsWhole) (u : Fin 256) (j : Fin 2048) :
    out0_A_5 (F := Ideal) c i a2 h2 a3 h3 a4 h4 a5 h5 a6 h6 a7 h7 x0 x1 x2 x3 x4 (ix2 u j)
      = normed (mixed (fun j => x0 (ix2 u j)) (fun j => x1 (ix2 u j)) (fun j => x2 (ix2 u j)) (fun j => x3 (ix2 0 j))) (fun j => x4 (ix2 0 j)) j := by
  unfold out0_A_5
  have cov := cover0_A_5 (F := Ideal) c i a2 h2 a3 h3 a4 h4 a5 h5 a6 h6 a7 h7 x0 x1 x2 x3 x4
  rw [View.read_writes_eq_canon _ _ _ cov]
  refine canon_eq_of_allAt _ _ _ (cov _) ?_
  unfold kernelRun0_A
  dsimp only
  sl_unfold_words
  simp only [View.readAt_eq_ld, h2.read_unread, h3.read_unread, h4.read_unread, h5.read_unread, h6.read_unread]
  have piece {k o : ℕ} ho h h' p hp := tile_at x0 x1 x2 x3 x4 k (o := o) ho h h' u j p hp
  exact allAt_cons_unit _ _ _ _ _ (piece (k := 7) rfl inb_S256x2048_S256x256_0_1792 inb_S1x2048_S1x256_0_1792 _ rfl) <|
    allAt_cons_unit _ _ _ _ _ (piece (k := 6) rfl inb_S256x2048_S256x256_0_1536 inb_S1x2048_S1x256_0_1536 _ rfl) <|
    allAt_cons_unit _ _ _ _ _ (piece (k := 5) rfl inb_S256x2048_S256x256_0_1280 inb_S1x2048_S1x256_0_1280 _ rfl) <|
    allAt_cons_unit _ _ _ _ _ (piece (k := 4) rfl inb_S256x2048_S256x256_0_1024 inb_S1x2048_S1x256_0_1024 _ rfl) <|
    allAt_cons_unit _ _ _ _ _ (piece (k := 3) rfl inb_S256x2048_S256x256_0_768 inb_S1x2048_S1x256_0_768 _ rfl) <|
    allAt_cons_unit _ _ _ _ _ (piece (k := 2) rfl inb_S256x2048_S256x256_0_512 inb_S1x2048_S1x256_0_512 _ rfl) <|
    allAt_cons_unit _ _ _ _ _ (piece (k := 1) rfl inb_S256x2048_S256x256_0_256 inb_S1x2048_S1x256_0_256 _ rfl) <|
    allAt_cons_unit _ _ _ _ _ (piece (k := 0) rfl inb_S256x2048_S256x256_0_0 inb_S1x2048_S1x256_0_0 _ rfl) (allAt_nil _ _)
end Block

theorem index : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![t.val, 0] := (by decide +kernel : ∀ t : Fin grid0.N, _)
theorem lt_N (t : Fin cfg0.N) : t.val < 16 := lt_of_lt_of_eq t.isLt N_0

variable (m : (ℓ : Loc nD τ sig) → Buf (Elt Ideal) ℓ) (c : Dev nD)

abbrev Y : FVec Ideal S4096x2048 .f32 := m (c, Proc.tc.devRef main_arg0)
abbrev X : FVec Ideal S4096x4096 .f32 := m (c, Proc.tc.devRef main_arg1)
abbrev P : FVec Ideal S4096x9216 .f32 := m (c, Proc.tc.devRef main_arg2)
abbrev D : FVec Ideal S1x32 .f32 := m (c, Proc.tc.devRef main_arg3)
abbrev W : FVec Ideal S1x2048 .f32 := m (c, Proc.tc.devRef main_arg4)

/-- The result's row `r`. -/
def gated (r : Fin 4096) : Fin 2048 → EReal := mixed (fun j => Y m c (ix2 r j)) (fun j => X m c (ix2 r ⟨j.val, by omega⟩))
  (fun j => P m c (ix2 r ⟨j.val, by omega⟩)) (fun j => D m c (ix2 0 ⟨j.val / 64, by omega⟩))
def total : FVec Ideal S4096x2048 .bf16 := fun i => normed (gated m c (i 0)) (fun j => W m c (ix2 0 j)) (i 1)

def row (t : Fin cfg0.N) (u : Fin 256) : Fin 4096 := ⟨256 * t.val + u.val, by have := lt_N t; omega⟩

theorem scan (t : Fin cfg0.N) (u : Fin 256) (j : Fin 2048) : (iblk m c 0 t : FVec Ideal S256x2048 .f32) (ix2 u j) = Y m c (ix2 (row t u) j) := by
  unfold row
  blk_ext [iblk, V, (index t).1]
theorem skipped (t : Fin cfg0.N) (u : Fin 256) (j : Fin 2048) :
    (iblk m c 1 t : FVec Ideal S256x2048 .f32) (ix2 u j) = X m c (ix2 (row t u) ⟨j.val, by omega⟩) := by
  unfold row
  blk_ext [iblk, V, (index t).2.1]
theorem gating (t : Fin cfg0.N) (u : Fin 256) (j : Fin 2048) :
    (X0_2 m c t : FVec Ideal S256x2048 .f32) (ix2 u j) = P m c (ix2 (row t u) ⟨j.val, by omega⟩) := by
  unfold row X0_2 Pipeline.Window.fill
  rw [dif_pos (moved0_2 t _)]
  blk_ext [iblk, V, (index t).2.2.1]
theorem weights_at (j : Fin 2048) : (V m c main_v1 : FVec Ideal S1x2048 .f32) (ix2 0 j) = D m c (ix2 0 ⟨j.val / 64, by omega⟩) := by
  unfold V
  after_reads_at
theorem weights (t : Fin cfg0.N) (j : Fin 2048) : (iblk m c 3 t : FVec Ideal S1x2048 .f32) (ix2 0 j) = D m c (ix2 0 ⟨j.val / 64, by omega⟩) := by
  refine Eq.trans ?_ (weights_at m c j)
  blk_ext [iblk, (index t).2.2.2.1]
theorem gain (t : Fin cfg0.N) (j : Fin 2048) : (iblk m c 4 t : FVec Ideal S1x2048 .f32) (ix2 0 j) = W m c (ix2 0 j) := by
  blk_ext [iblk, V, (index t).2.2.2.2.1]

theorem rows_at (t : Fin cfg0.N) (u : Fin 256) (j : Fin 2048) : outsAt0 (F := Ideal) m c t (ix2 u j) = at2 (total m c) (256 * t.val + u.val) j.val := by
  rw [at2_of _ (show 256 * t.val + u.val < 4096 from (row t u).isLt) j.isLt]
  unfold outsAt0
  rw [out]
  simp only [scan, skipped, gating, weights, gain]
  rfl

theorem final : (dats m 0 c).arrAt 5 cfg0.N = (fun i => at2 (total m c) (i 0).val (i 1).val : FVec Ideal S4096x2048 .bf16) := by
  refine (dats m 0 c).arrAt_eq_of_covers 5 _ (by decide +kernel) fun t _ b => ?_
  have ht := lt_N t
  have i5 := (index t).2.2.2.2.2
  blk_simp [i5]
  rw [after0_5]
  exact (congrArg _ (Blocked.ix2_eta b)).trans ((rows_at m c t (b 0) (b 1)).trans (by congr 1 <;> omega))

end Cert.KernelScanNormIdeal.Hand

namespace Cert.Proof

open Idealize.ShloMosaic Idealize.SL.Sem
open Cert.Blocked (at2 at2_ix)

theorem same_scan_norm : Cert.algebraic_KernelScanNormIdeal_ReferenceScanNormIdeal (hKernelScanNormIdeal := Cert.KernelScanNormIdeal.Gen.facts)
    (hReferenceScanNormIdeal := Cert.ReferenceScanNormIdeal.Gen.facts) := by
  intro m g m' g' _ he
  refine ⟨fun c => _, (θ_run KernelScanNormIdeal.defs _ _).mono (fun _ h c => ⟨(h c).1.trans (KernelScanNormIdeal.Hand.final m c), (h c).2⟩)
    (KernelScanNormIdeal.Value.run_blocks (F := Ideal) m g), ?_⟩
  refine (θ_run ReferenceScanNormIdeal.defs _ _).mono (fun _ h c => ⟨(h c).1.trans ?_, (h c).2⟩) (ReferenceScanNormIdeal.Value.run (F := Ideal) m' g')
  obtain ⟨e0, e1, e2, e3, e4⟩ := he c
  funext i
  obtain ⟨r, l, rfl⟩ : ∃ (r : Fin 4096) (l : Fin 2048), i = ix2 r l := ⟨i 0, i 1, Blocked.ix2_eta i⟩
  refine Eq.trans ?_ (at2_ix (KernelScanNormIdeal.Hand.total m c) r l).symm
  simp only [e0, e1, e2, e3, e4]
  pointwise
  simp only [Nat.div_add_mod']
  rfl

-- the two programs have one text; that they are equal is checked by computation
set_option smartUnfolding false in
set_option maxHeartbeats 0 in
theorem frame_scan_norm : Cert.quiescent_KernelScanNorm (hKernelScanNorm := Cert.KernelScanNorm.Gen.facts) := fun m ρ _ =>
  (θ_run KernelScanNormIdeal.defs _ _).mono (fun _ h => h) (KernelScanNormIdeal.Gen.frame (F := Bits) m ρ)
theorem frame_scan_norm_ideal : Cert.quiescent_KernelScanNormIdeal (hKernelScanNormIdeal := Cert.KernelScanNormIdeal.Gen.facts) := fun m ρ _ =>
  KernelScanNormIdeal.Gen.frame (F := Ideal) m ρ
theorem frame_scan_norm_reference : Cert.quiescent_ReferenceScanNormIdeal (hReferenceScanNormIdeal := Cert.ReferenceScanNormIdeal.Gen.facts) := fun m ρ _ =>
  (θ_run ReferenceScanNormIdeal.defs _ _).mono (fun _ h => ⟨fun c => (h c).2, sem_eq_zero_of_no_sems (by decide) _⟩)
    (ReferenceScanNormIdeal.Value.run (F := Ideal) m ρ)

end Cert.Proof

end
-- ==== Proof.ConvFwd.lean ====
/- The causal convolution of each column and its silu: an entry of it, the value claim and the frames. -/
module

public import proofs.«01_k».proof.Defs
public import proofs.«01_k».proof.Proof.Blocked
public import proofs.«01_k».proof.Proof.Gates
public import proofs.«01_k».proof.Proof.Gen.KernelConvFwd
public import proofs.«01_k».proof.Proof.Gen.KernelConvFwdIdeal.Value
public import proofs.«01_k».proof.Proof.Gen.ReferenceConvFwdIdeal.Run
public import Idealize.ShloMosaic.Lib.Pipeline.ValueKit
public import Idealize.ShloMosaic.Adequacy

@[expose] public section

set_option maxRecDepth 16384

noncomputable section

namespace Cert.KernelConvFwdIdeal.Hand

open Cert.KernelConvFwdIdeal Cert.KernelConvFwdIdeal.Gen Cert.Blocked Cert.Gates
open Idealize.ShloMosaic Idealize.ShloMosaic.TcCoe Idealize.SL.Sem

/-- `s` rows before row `r`, zero before the first. -/
def back (u : Fin 4096 → EReal) (s : ℕ) (r : Fin 4096) : EReal := if s ≤ r.val then u ⟨r.val - s, by omega⟩ else 0
/-- The convolution of a column, with its bias, in the kernel's order. -/
def conv (u : Fin 4096 → EReal) (w : Fin 4 → EReal) (b : EReal) (r : Fin 4096) : EReal :=
  b + w 3 * u r + w 2 * back u 1 r + w 1 * back u 2 r + w 0 * back u 3 r

/-- One tap: the rotated column under its mask. -/
theorem tap (u : Fin 4096 → EReal) (w : EReal) {s : ℕ} (hs : s < 4096) (r : Fin 4096) :
    Scalar.select (IntOp.cmpi .sge (BitVec.ofNat 32 r.val) (BitVec.ofNat 32 s)) (w * u ⟨(r.val + 4096 - s) % 4096, by omega⟩) 0 = w * back u s r := by
  rw [WordCmp.cmpi_sge_ofNat (by omega) (by omega), Scalar.select_ofBool]
  unfold back
  simp only [decide_eq_true_eq]
  split_ifs with h
  · rw [show (⟨(r.val + 4096 - s) % 4096, by omega⟩ : Fin 4096) = ⟨r.val - s, by omega⟩ from Fin.ext (by dsimp only; omega)]
  · exact (mul_zero w).symm

theorem out (x : FVec Ideal S4096x128 .f32) (w : FVec Ideal S4x128 .f32) (b : FVec Ideal S1x128 .f32) (r : Fin 4096) (l : Fin 128) :
    out0_3 (F := Ideal) x w b (ix2 r l) = conv (fun r => x (ix2 r l)) (fun k => w (ix2 k l)) (b (ix2 0 l)) r
      * gate (conv (fun r => x (ix2 r l)) (fun k => w (ix2 k l)) (b (ix2 0 l)) r) := by
  unfold out0_3
  rw [View.canon_unit_zero hz]
  simp only [View.ld_unit_zero (S := S4096x128) hz, View.ld_unit_zero (S := S4x128) hz, View.ld_unit_zero (S := S1x128) hz]
  pointwise [k0_pay1, k0_pay2, k0_pay3]
  have tap {s : ℕ} (hs : s < 4096) w := tap (fun r => x (ix2 r l)) w hs r
  simp only [tap (s := 1) (by omega), tap (s := 2) (by omega), tap (s := 3) (by omega), tanh_gate]
  rfl

theorem index : ∀ t : Fin cfg0.N, win0_0.index t = ![0, 16 + t.val] ∧ win0_1.index t = ![0, t.val] ∧ win0_2.index t = ![0, t.val] ∧ win0_3.index t = ![0, t.val] :=
  (by decide +kernel : ∀ t : Fin grid0.N, _)
theorem lt_N (t : Fin cfg0.N) : t.val < 32 := lt_of_lt_of_eq t.isLt N_0

variable (m : (ℓ : Loc nD τ sig) → Buf (Elt Ideal) ℓ) (c : Dev nD)

abbrev P : FVec Ideal S4096x9216 .f32 := m (c, Proc.tc.devRef main_arg0)
abbrev W : FVec Ideal S4x4096 .f32 := m (c, Proc.tc.devRef main_arg1)
abbrev B : FVec Ideal S1x4096 .f32 := m (c, Proc.tc.devRef main_arg2)

/-- The column `j` before the silu. -/
def pre (j : Fin 4096) : Fin 4096 → EReal := conv (fun r => P m c (ix2 r ⟨2048 + j.val, by omega⟩)) (fun k => W m c (ix2 k j)) (B m c (ix2 0 j))
def total : FVec Ideal S4096x4096 .f32 := fun i => pre m c (i 1) (i 0) * gate (pre m c (i 1) (i 0))

def col (t : Fin cfg0.N) (l : Fin 128) : Fin 4096 := ⟨128 * t.val + l.val, by have := lt_N t; omega⟩

theorem columns (t : Fin cfg0.N) (r : Fin 4096) (l : Fin 128) :
    (iblk m c 0 t : FVec Ideal S4096x128 .f32) (ix2 r l) = P m c (ix2 r ⟨2048 + (col t l).val, by omega⟩) := by
  unfold col
  blk_ext [iblk, V, (index t).1]
theorem taps (t : Fin cfg0.N) (k : Fin 4) (l : Fin 128) : (iblk m c 1 t : FVec Ideal S4x128 .f32) (ix2 k l) = W m c (ix2 k (col t l)) := by
  unfold col
  blk_ext [iblk, V, (index t).2.1]
theorem bias (t : Fin cfg0.N) (l : Fin 128) : (iblk m c 2 t : FVec Ideal S1x128 .f32) (ix2 0 l) = B m c (ix2 0 (col t l)) := by
  unfold col
  blk_ext [iblk, V, (index t).2.2.1]

theorem columns_at (t : Fin cfg0.N) (r : Fin 4096) (l : Fin 128) :
    out0_3 (F := Ideal) (iblk m c 0 t) (iblk m c 1 t) (iblk m c 2 t) (ix2 r l) = at2 (total m c) r.val (128 * t.val + l.val) := by
  rw [at2_of _ r.isLt (show 128 * t.val + l.val < 4096 from (col t l).isLt), out]
  simp only [columns, taps, bias]
  rfl

theorem final : (dats m 0 c).arrAt 3 cfg0.N = (fun i => at2 (total m c) (i 0).val (i 1).val : FVec Ideal S4096x4096 .f32) := by
  refine (dats m 0 c).arrAt_eq_of_covers 3 _ (by decide +kernel) fun t _ b => ?_
  have ht := lt_N t
  have i3 := (index t).2.2.2
  blk_simp [i3]
  rw [after0_3]
  exact (congrArg _ (Blocked.ix2_eta b)).trans ((columns_at m c t (b 0) (b 1)).trans (by congr 1 <;> omega))

end Cert.KernelConvFwdIdeal.Hand

namespace Cert.ReferenceConvFwdIdeal.Hand

open Cert.ReferenceConvFwdIdeal Cert.ReferenceConvFwdIdeal.Gen Cert.Blocked Cert.Gates
open Cert.KernelConvFwdIdeal.Hand (back conv)
open Idealize.ShloMosaic Idealize.ShloMosaic.TcCoe Idealize.SL.Sem

variable (P : FVec Ideal S4096x9216 .f32) (W : FVec Ideal S4x4096 .f32) (B : FVec Ideal S1x4096 .f32)

/-- The columns with three rows of zeros before them, and the sum of the shifted products, with the bias. -/
def before : FVec Ideal S4099x4096 .f32 :=
  concatenate S4099x4096 0 [⟨S3x4096, (broadcastInDim S3x4096 ![] bcast_S_S3x4096 (constant S_ .f32 0x00000000#32))⟩, ⟨S4096x4096,
    (extractStridedSlice S4096x4096 ![0, 2048] P slices_S4096x9216_S4096x4096_0_2048)⟩] concatenates_S3x4096_S4096x4096_S4099x4096_d0
def lin : FVec Ideal S4096x4096 .f32 :=
  addf (addf (addf (addf (addf (broadcastInDim S4096x4096 ![] bcast_S_S4096x4096 (constant S_ .f32 0x00000000#32)) (mulf (broadcastInDim S4096x4096
    ![0, 1] bcast_S1x4096_S4096x4096_0_1 (broadcastInDim S1x4096 ![1] bcast_S4096_S1x4096_1 (shapeCast _ (extractStridedSlice S1x4096 ![0, 0] W
    slices_S4x4096_S1x4096_0_0) shapeCasts_S1x4096_S4096))) (extractStridedSlice S4096x4096 ![0, 0] (before P) slices_S4099x4096_S4096x4096_0_0)))
    (mulf (broadcastInDim S4096x4096 ![0, 1] bcast_S1x4096_S4096x4096_0_1 (broadcastInDim S1x4096 ![1] bcast_S4096_S1x4096_1 (shapeCast _
    (extractStridedSlice S1x4096 ![1, 0] W slices_S4x4096_S1x4096_1_0) shapeCasts_S1x4096_S4096))) (extractStridedSlice S4096x4096 ![1, 0] (before P)
    slices_S4099x4096_S4096x4096_1_0))) (mulf (broadcastInDim S4096x4096 ![0, 1] bcast_S1x4096_S4096x4096_0_1 (broadcastInDim S1x4096 ![1]
    bcast_S4096_S1x4096_1 (shapeCast _ (extractStridedSlice S1x4096 ![2, 0] W slices_S4x4096_S1x4096_2_0) shapeCasts_S1x4096_S4096)))
    (extractStridedSlice S4096x4096 ![2, 0] (before P) slices_S4099x4096_S4096x4096_2_0))) (mulf (broadcastInDim S4096x4096 ![0, 1]
    bcast_S1x4096_S4096x4096_0_1 (broadcastInDim S1x4096 ![1] bcast_S4096_S1x4096_1 (shapeCast _ (extractStridedSlice S1x4096 ![3, 0] W
    slices_S4x4096_S1x4096_3_0) shapeCasts_S1x4096_S4096))) (extractStridedSlice S4096x4096 ![3, 0] (before P) slices_S4099x4096_S4096x4096_3_0)))
    (broadcastInDim S4096x4096 ![0, 1] bcast_S1x4096_S4096x4096_0_1 (broadcastInDim S1x4096 ![1] bcast_S4096_S1x4096_1 (shapeCast _ B
    shapeCasts_S1x4096_S4096)))

theorem res (m : (ℓ : Loc nD τ sig) → Buf (Elt Ideal) ℓ) (c : Dev nD) :
    Value.res_main_v36 m c = mulf (lin (m (c, Proc.tc.devRef main_arg0)) (m (c, Proc.tc.devRef main_arg1)) (m (c, Proc.tc.devRef main_arg2)))
      (Host.divf (broadcastInDim S4096x4096 ![] bcast_S_S4096x4096 (constant S_ .f32 0x3F800000#32)) (addf (broadcastInDim S4096x4096 ![]
        bcast_S_S4096x4096 (constant S_ .f32 0x3F800000#32)) (Host.exp (Host.negf (lin (m (c, Proc.tc.devRef main_arg0)) (m (c, Proc.tc.devRef
        main_arg1)) (m (c, Proc.tc.devRef main_arg2))))))) := rfl

theorem before_at (r : Fin 4096) (j : Fin 4096) (k s : ℕ) (h : k + s = 3) :
    before P (ix2 ⟨k + r.val, by omega⟩ j) = back (fun r => P (ix2 r ⟨2048 + j.val, by omega⟩)) s r := by
  pointwise [before]
  unfold back
  by_cases hr : k + r.val < 3
  · rw [dif_pos hr, if_neg (by omega)]
  · rw [dif_neg hr]
    refine Eq.trans ?_ (if_pos (by omega)).symm
    exact congrArg (fun r => P (ix2 r _)) (Fin.ext (by dsimp only; omega))

theorem reversed (a b c d e : EReal) : a + b + c + d + e = e + d + c + b + a := by
  ac_rfl
theorem lin_at (r j : Fin 4096) : lin P W B (ix2 r j)
    = conv (fun r => P (ix2 r ⟨2048 + j.val, by omega⟩)) (fun k => W (ix2 k j)) (B (ix2 0 j)) r := by
  pointwise [lin]
  have h0 := before_at P r j 0 3 rfl
  simp only [zero_add] at h0
  rw [h0, before_at P r j 1 2 rfl, before_at P r j 2 1 rfl, before_at P r j 3 0 rfl]
  exact reversed _ _ _ _ _

end Cert.ReferenceConvFwdIdeal.Hand

namespace Cert.Proof

open Idealize.ShloMosaic Idealize.SL.Sem
open Cert.Blocked (at2 at2_ix)

theorem same_conv : Cert.algebraic_KernelConvFwdIdeal_ReferenceConvFwdIdeal (hKernelConvFwdIdeal := Cert.KernelConvFwdIdeal.Gen.facts)
    (hReferenceConvFwdIdeal := Cert.ReferenceConvFwdIdeal.Gen.facts) := by
  intro m g m' g' _ he
  refine ⟨fun c => _, (θ_run KernelConvFwdIdeal.defs _ _).mono (fun _ h c => ⟨(h c).1.trans (KernelConvFwdIdeal.Hand.final m c), (h c).2⟩)
    (KernelConvFwdIdeal.Value.run_blocks (F := Ideal) m g), ?_⟩
  refine (θ_run ReferenceConvFwdIdeal.defs _ _).mono (fun _ h c => ⟨(h c).1.trans ?_, (h c).2⟩) (ReferenceConvFwdIdeal.Value.run (F := Ideal) m' g')
  obtain ⟨e0, e1, e2⟩ := he c
  funext i
  obtain ⟨r, l, rfl⟩ : ∃ (r : Fin 4096) (l : Fin 4096), i = ix2 r l := ⟨i 0, i 1, Blocked.ix2_eta i⟩
  refine Eq.trans ?_ (at2_ix (KernelConvFwdIdeal.Hand.total m c) r l).symm
  rw [ReferenceConvFwdIdeal.Hand.res, e0, e1, e2]
  pointwise
  simp only [ReferenceConvFwdIdeal.Hand.lin_at]
  rfl

-- the two programs have one text; that they are equal is checked by computation
set_option smartUnfolding false in
set_option maxHeartbeats 0 in
theorem frame_conv : Cert.quiescent_KernelConvFwd (hKernelConvFwd := Cert.KernelConvFwd.Gen.facts) := fun m ρ _ =>
  (θ_run KernelConvFwdIdeal.defs _ _).mono (fun _ h => h) (KernelConvFwdIdeal.Gen.frame (F := Bits) m ρ)
theorem frame_conv_ideal : Cert.quiescent_KernelConvFwdIdeal (hKernelConvFwdIdeal := Cert.KernelConvFwdIdeal.Gen.facts) := fun m ρ _ =>
  KernelConvFwdIdeal.Gen.frame (F := Ideal) m ρ
theorem frame_conv_reference : Cert.quiescent_ReferenceConvFwdIdeal (hReferenceConvFwdIdeal := Cert.ReferenceConvFwdIdeal.Gen.facts) := fun m ρ _ =>
  (θ_run ReferenceConvFwdIdeal.defs _ _).mono (fun _ h => ⟨fun c => (h c).2, sem_eq_zero_of_no_sems (by decide) _⟩)
    (ReferenceConvFwdIdeal.Value.run (F := Ideal) m ρ)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Launched
public import proofs.«01_k».proof.Proof.Values
public import proofs.«01_k».proof.Proof.Ff2X
public import proofs.«01_k».proof.Proof.Ff1X
public import proofs.«01_k».proof.Proof.InW
public import proofs.«01_k».proof.Proof.Ff1W
public import proofs.«01_k».proof.Proof.Ff2W
public import proofs.«01_k».proof.Proof.In
public import proofs.«01_k».proof.Proof.Gate
public import proofs.«01_k».proof.Proof.Out
public import proofs.«01_k».proof.Proof.Gates
public import proofs.«01_k».proof.Proof.Norm
public import proofs.«01_k».proof.Proof.Adam
public import proofs.«01_k».proof.Proof.SsdX
public import proofs.«01_k».proof.Proof.OutX
public import proofs.«01_k».proof.Proof.PleGateX
public import proofs.«01_k».proof.Proof.SsdW
public import proofs.«01_k».proof.Proof.OutW
public import proofs.«01_k».proof.Proof.GateW
public import proofs.«01_k».proof.Proof.Ff2
public import proofs.«01_k».proof.Proof.Ssd
public import proofs.«01_k».proof.Proof.InX
public import proofs.«01_k».proof.Proof.GateX
public import proofs.«01_k».proof.Proof.Ff1
public import proofs.«01_k».proof.Proof.Loss
public import proofs.«01_k».proof.Proof.AdamSquare
public import proofs.«01_k».proof.Proof.AdamSmall
public import proofs.«01_k».proof.Proof.PleW
public import proofs.«01_k».proof.Proof.Ple
public import proofs.«01_k».proof.Proof.MidGrad
public import proofs.«01_k».proof.Proof.FfnGrad
public import proofs.«01_k».proof.Proof.Mid
public import proofs.«01_k».proof.Proof.Pre
public import proofs.«01_k».proof.Proof.Merge
public import proofs.«01_k».proof.Proof.Ffn
public import proofs.«01_k».proof.Proof.AdamIn
public import proofs.«01_k».proof.Proof.AdamConv
public import proofs.«01_k».proof.Proof.AdamSsd
public import proofs.«01_k».proof.Proof.AdamGate
public import proofs.«01_k».proof.Proof.AdamFf2
public import proofs.«01_k».proof.Proof.AdamPle
public import proofs.«01_k».proof.Proof.ScanNorm
public import proofs.«01_k».proof.Proof.ConvFwd
public import Idealize.ShloMosaic.Adequacy
public import Idealize.ShloMosaic.Init

@[expose] public section

noncomputable section

namespace Cert.Proof

open Idealize.ShloMosaic Idealize.SL.Sem

-- the two programs have one text; that they are equal is checked by computation
set_option smartUnfolding false in
set_option maxHeartbeats 0 in
theorem frame_kernel : Cert.quiescent_Kernel (hKernel := Cert.Kernel.Gen.facts) := fun m ρ _ =>
  (θ_run Cert.KernelIdeal.defs _ _).mono (fun _ h => h) (Cert.KernelIdeal.Hand.run_main (F := Bits) m ρ)

theorem frame_kernelIdeal : Cert.quiescent_KernelIdeal (hKernelIdeal := Cert.KernelIdeal.Gen.facts) := fun m ρ _ =>
  Cert.KernelIdeal.Hand.run_main (F := Ideal) m ρ

theorem frame_referenceIdeal : Cert.quiescent_ReferenceIdeal (hReferenceIdeal := Cert.ReferenceIdeal.Gen.facts) := fun m ρ _ =>
  (θ_run Cert.ReferenceIdeal.defs _ _).mono (fun _ h => ⟨fun c => (h c).2.2.2, Idealize.ShloMosaic.sem_eq_zero_of_no_sems (by decide) _⟩)
    (Cert.ReferenceIdeal.Value.run (F := Ideal) m ρ)

theorem claim : Cert.Claim :=
  ⟨Cert.Kernel.Gen.facts, Cert.KernelIdeal.Gen.facts, Cert.ReferenceIdeal.Gen.facts,
    Cert.KernelFf2X.Gen.facts, Cert.KernelFf2XIdeal.Gen.facts, Cert.ReferenceFf2XIdeal.Gen.facts,
    Cert.KernelFf2W.Gen.facts, Cert.KernelFf2WIdeal.Gen.facts, Cert.ReferenceFf2WIdeal.Gen.facts,
    Cert.KernelFf1X.Gen.facts, Cert.KernelFf1XIdeal.Gen.facts, Cert.ReferenceFf1XIdeal.Gen.facts,
    Cert.KernelFf1W.Gen.facts, Cert.KernelFf1WIdeal.Gen.facts, Cert.ReferenceFf1WIdeal.Gen.facts,
    Cert.KernelInW.Gen.facts, Cert.KernelInWIdeal.Gen.facts, Cert.ReferenceInWIdeal.Gen.facts,
    Cert.KernelInX.Gen.facts, Cert.KernelInXIdeal.Gen.facts, Cert.ReferenceInXIdeal.Gen.facts,
    Cert.KernelGateX.Gen.facts, Cert.KernelGateXIdeal.Gen.facts, Cert.ReferenceGateXIdeal.Gen.facts,
    Cert.KernelGateW.Gen.facts, Cert.KernelGateWIdeal.Gen.facts, Cert.ReferenceGateWIdeal.Gen.facts,
    Cert.KernelSsdX.Gen.facts, Cert.KernelSsdXIdeal.Gen.facts, Cert.ReferenceSsdXIdeal.Gen.facts,
    Cert.KernelSsdW.Gen.facts, Cert.KernelSsdWIdeal.Gen.facts, Cert.ReferenceSsdWIdeal.Gen.facts,
    Cert.KernelOutX.Gen.facts, Cert.KernelOutXIdeal.Gen.facts, Cert.ReferenceOutXIdeal.Gen.facts,
    Cert.KernelOutW.Gen.facts, Cert.KernelOutWIdeal.Gen.facts, Cert.ReferenceOutWIdeal.Gen.facts,
    Cert.KernelPleGateX.Gen.facts, Cert.KernelPleGateXIdeal.Gen.facts, Cert.ReferencePleGateXIdeal.Gen.facts,
    Cert.KernelPleW.Gen.facts, Cert.KernelPleWIdeal.Gen.facts, Cert.ReferencePleWIdeal.Gen.facts,
    Cert.KernelIn.Gen.facts, Cert.KernelInIdeal.Gen.facts, Cert.ReferenceInIdeal.Gen.facts,
    Cert.KernelGate.Gen.facts, Cert.KernelGateIdeal.Gen.facts, Cert.ReferenceGateIdeal.Gen.facts,
    Cert.KernelFf1.Gen.facts, Cert.KernelFf1Ideal.Gen.facts, Cert.ReferenceFf1Ideal.Gen.facts,
    Cert.KernelFf2.Gen.facts, Cert.KernelFf2Ideal.Gen.facts, Cert.ReferenceFf2Ideal.Gen.facts,
    Cert.KernelSsd.Gen.facts, Cert.KernelSsdIdeal.Gen.facts, Cert.ReferenceSsdIdeal.Gen.facts,
    Cert.KernelOut.Gen.facts, Cert.KernelOutIdeal.Gen.facts, Cert.ReferenceOutIdeal.Gen.facts,
    Cert.KernelPle.Gen.facts, Cert.KernelPleIdeal.Gen.facts, Cert.ReferencePleIdeal.Gen.facts,
    Cert.KernelGates.Gen.facts, Cert.KernelGatesIdeal.Gen.facts, Cert.ReferenceGatesIdeal.Gen.facts,
    Cert.KernelNorm.Gen.facts, Cert.KernelNormIdeal.Gen.facts, Cert.ReferenceNormIdeal.Gen.facts,
    Cert.KernelMidGrad.Gen.facts, Cert.KernelMidGradIdeal.Gen.facts, Cert.ReferenceMidGradIdeal.Gen.facts,
    Cert.KernelFfnGrad.Gen.facts, Cert.KernelFfnGradIdeal.Gen.facts, Cert.ReferenceFfnGradIdeal.Gen.facts,
    Cert.KernelPre.Gen.facts, Cert.KernelPreIdeal.Gen.facts, Cert.ReferencePreIdeal.Gen.facts,
    Cert.KernelMerge.Gen.facts, Cert.KernelMergeIdeal.Gen.facts, Cert.ReferenceMergeIdeal.Gen.facts,
    Cert.KernelFfn.Gen.facts, Cert.KernelFfnIdeal.Gen.facts, Cert.ReferenceFfnIdeal.Gen.facts,
    Cert.KernelMid.Gen.facts, Cert.KernelMidIdeal.Gen.facts, Cert.ReferenceMidIdeal.Gen.facts,
    Cert.KernelLoss.Gen.facts, Cert.KernelLossIdeal.Gen.facts, Cert.ReferenceLossIdeal.Gen.facts,
    Cert.KernelScanNorm.Gen.facts, Cert.KernelScanNormIdeal.Gen.facts, Cert.ReferenceScanNormIdeal.Gen.facts,
    Cert.KernelConvFwd.Gen.facts, Cert.KernelConvFwdIdeal.Gen.facts, Cert.ReferenceConvFwdIdeal.Gen.facts,
    Cert.KernelAdam.Gen.facts, Cert.KernelAdamIdeal.Gen.facts, Cert.ReferenceAdamIdeal.Gen.facts,
    Cert.KernelAdamSquare.Gen.facts, Cert.KernelAdamSquareIdeal.Gen.facts, Cert.ReferenceAdamSquareIdeal.Gen.facts,
    Cert.KernelAdamIn.Gen.facts, Cert.KernelAdamInIdeal.Gen.facts, Cert.ReferenceAdamInIdeal.Gen.facts,
    Cert.KernelAdamConv.Gen.facts, Cert.KernelAdamConvIdeal.Gen.facts, Cert.ReferenceAdamConvIdeal.Gen.facts,
    Cert.KernelAdamSsd.Gen.facts, Cert.KernelAdamSsdIdeal.Gen.facts, Cert.ReferenceAdamSsdIdeal.Gen.facts,
    Cert.KernelAdamGate.Gen.facts, Cert.KernelAdamGateIdeal.Gen.facts, Cert.ReferenceAdamGateIdeal.Gen.facts,
    Cert.KernelAdamFf2.Gen.facts, Cert.KernelAdamFf2Ideal.Gen.facts, Cert.ReferenceAdamFf2Ideal.Gen.facts,
    Cert.KernelAdamPle.Gen.facts, Cert.KernelAdamPleIdeal.Gen.facts, Cert.ReferenceAdamPleIdeal.Gen.facts,
    Cert.KernelAdamSmall.Gen.facts, Cert.KernelAdamSmallIdeal.Gen.facts, Cert.ReferenceAdamSmallIdeal.Gen.facts,
    Cert.Pre_finite.Gen.facts,
    frame_kernel, frame_kernelIdeal, fun m ρ _ => frame_kernelIdeal m ρ trivial, frame_referenceIdeal,
    fun m ρ _ => frame_referenceIdeal m ρ trivial,
    frame_ff2_x, frame_ff2_x_ideal, frame_ff2_x_reference,
    frame_ff2_w, frame_ff2_w_ideal, frame_ff2_w_reference,
    frame_ff1_x, frame_ff1_x_ideal, frame_ff1_x_reference,
    frame_ff1_w, frame_ff1_w_ideal, frame_ff1_w_reference,
    frame_in_w, frame_in_w_ideal, frame_in_w_reference,
    frame_in_x, frame_in_x_ideal, frame_in_x_reference,
    frame_gate_x, frame_gate_x_ideal, frame_gate_x_reference,
    frame_gate_w, frame_gate_w_ideal, frame_gate_w_reference,
    frame_ssd_x, frame_ssd_x_ideal, frame_ssd_x_reference,
    frame_ssd_w, frame_ssd_w_ideal, frame_ssd_w_reference,
    frame_out_x, frame_out_x_ideal, frame_out_x_reference,
    frame_out_w, frame_out_w_ideal, frame_out_w_reference,
    frame_ple_gate_x, frame_ple_gate_x_ideal, frame_ple_gate_x_reference,
    frame_ple_w, frame_ple_w_ideal, frame_ple_w_reference,
    frame_in, frame_in_ideal, frame_in_reference,
    frame_gate, frame_gate_ideal, frame_gate_reference,
    frame_ff1, frame_ff1_ideal, frame_ff1_reference,
    frame_ff2, frame_ff2_ideal, frame_ff2_reference,
    frame_ssd, frame_ssd_ideal, frame_ssd_reference,
    frame_out, frame_out_ideal, frame_out_reference,
    frame_ple, frame_ple_ideal, frame_ple_reference,
    frame_gates, frame_gates_ideal, frame_gates_reference,
    frame_norm, frame_norm_ideal, frame_norm_reference,
    frame_mid_grad, frame_mid_grad_ideal, frame_mid_grad_reference,
    frame_ffn_grad, frame_ffn_grad_ideal, frame_ffn_grad_reference,
    frame_pre, frame_pre_ideal, frame_pre_reference,
    frame_merge, frame_merge_ideal, frame_merge_reference,
    frame_ffn, frame_ffn_ideal, frame_ffn_reference,
    frame_mid, frame_mid_ideal, frame_mid_reference,
    frame_loss, frame_loss_ideal, frame_loss_reference,
    frame_scan_norm, frame_scan_norm_ideal, frame_scan_norm_reference,
    frame_conv, frame_conv_ideal, frame_conv_reference,
    frame_adam, frame_adam_ideal, frame_adam_reference,
    frame_adam_square, frame_adam_square_ideal, frame_adam_square_reference,
    frame_adam_in, frame_adam_in_ideal, frame_adam_in_reference,
    frame_adam_conv, frame_adam_conv_ideal, frame_adam_conv_reference,
    frame_adam_ssd, frame_adam_ssd_ideal, frame_adam_ssd_reference,
    frame_adam_gate, frame_adam_gate_ideal, frame_adam_gate_reference,
    frame_adam_ff2, frame_adam_ff2_ideal, frame_adam_ff2_reference,
    frame_adam_ple, frame_adam_ple_ideal, frame_adam_ple_reference,
    frame_adam_small, frame_adam_small_ideal, frame_adam_small_reference,
    trivial, same_values,
    trivial, same_ff2_x, trivial, same_ff2_w, trivial, same_ff1_x, trivial, same_ff1_w, trivial, same_in_w, trivial,
    same_in_x, trivial, same_gate_x, trivial, same_gate_w, trivial, same_ssd_x, trivial, same_ssd_w, trivial,
    same_out_x, trivial, same_out_w, trivial, same_ple_gate_x, trivial, same_ple_w, trivial, same_in, trivial,
    same_gate, trivial, same_ff1, trivial, same_ff2, trivial, same_ssd, trivial, same_out, trivial, same_ple, trivial,
    same_gates, trivial, same_norm, trivial, same_mid_grad, trivial, same_ffn_grad, trivial, same_pre, trivial,
    same_merge, trivial, same_ffn, trivial, same_mid, trivial, same_loss, trivial, same_scan_norm, trivial, same_conv,
    trivial, same_adam, trivial, same_adam_square, trivial, same_adam_in, trivial, same_adam_conv, trivial,
    same_adam_ssd, trivial, same_adam_gate, trivial, same_adam_ff2, trivial, same_adam_ple, trivial, same_adam_small⟩

end Cert.Proof

end
